-- ==== Defs.lean ====
def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_LossFwd (m : (ℓ : Loc Cert.LossFwd.nD Cert.LossFwd.τ Cert.LossFwd.sig) → Buf (Elt Bits) ℓ) : Prop :=
  True

def Pre_LossFwdIdeal (m : (ℓ : Loc Cert.LossFwdIdeal.nD Cert.LossFwdIdeal.τ Cert.LossFwdIdeal.sig) → Buf (Elt Ideal) ℓ) : Prop :=
  True

def Pre_LossFwdRefIdeal (m : (ℓ : Loc Cert.LossFwdRefIdeal.nD Cert.LossFwdRefIdeal.τ Cert.LossFwdRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_finite [hPre_finite : Cert.Pre_finite.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5)) (m ((c.tc : Thread Cert.OutBwdIdeal.nD Cert.OutBwdIdeal.τ).loc Cert.OutBwdIdeal.main_arg6))) = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_finite [hPre_finite : Cert.Pre_finite.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4)) (m ((c.tc : Thread Cert.OutBwdRefIdeal.nD Cert.OutBwdRefIdeal.τ).loc Cert.OutBwdRefIdeal.main_arg5)) (m ((c.tc : Thread Cert.OutBwdRefIdeal.nD Cert.OutBwdRefIdeal.τ).loc Cert.OutBwdRefIdeal.main_arg6))) = (fun _ => 1#1)

def Pre_LruBwd (m : (ℓ : Loc Cert.LruBwd.nD Cert.LruBwd.τ Cert.LruBwd.sig) → Buf (Elt Bits) ℓ) : Prop :=
  True

def Pre_LruBwdIdeal (m : (ℓ : Loc Cert.LruBwdIdeal.nD Cert.LruBwdIdeal.τ Cert.LruBwdIdeal.sig) → Buf (Elt Ideal) ℓ) : Prop :=
  True

def Pre_PoolMm (m : (ℓ : Loc Cert.PoolMm.nD Cert.PoolMm.τ Cert.PoolMm.sig) → Buf (Elt Bits) ℓ) : Prop :=
  True

def Pre_PoolMmIdeal (m : (ℓ : Loc Cert.PoolMmIdeal.nD Cert.PoolMmIdeal.τ Cert.PoolMmIdeal.sig) → Buf (Elt Ideal) ℓ) : Prop :=
  True

def Pre_PoolMmRefIdeal (m : (ℓ : Loc Cert.PoolMmRefIdeal.nD Cert.PoolMmRefIdeal.τ Cert.PoolMmRefIdeal.sig) → Buf (Elt Ideal) ℓ) : Prop :=
  True

def Pre_InXCtx (m : (ℓ : Loc Cert.InXCtx.nD Cert.InXCtx.τ Cert.InXCtx.sig) → Buf (Elt Bits) ℓ) : Prop :=
  True

def Pre_InXCtxIdeal (m : (ℓ : Loc Cert.InXCtxIdeal.nD Cert.InXCtxIdeal.τ Cert.InXCtxIdeal.sig) → Buf (Elt Ideal) ℓ) : Prop :=
  True

def Pre_InXCtxRefIdeal (m : (ℓ : Loc Cert.InXCtxRefIdeal.nD Cert.InXCtxRefIdeal.τ Cert.InXCtxRefIdeal.sig) → Buf (Elt Ideal) ℓ) : Prop :=
  True

def Pre_InWCtx (m : (ℓ : Loc Cert.InWCtx.nD Cert.InWCtx.τ Cert.InWCtx.sig) → Buf (Elt Bits) ℓ) : Prop :=
  True

def Pre_InWCtxIdeal (m : (ℓ : Loc Cert.InWCtxIdeal.nD Cert.InWCtxIdeal.τ Cert.InWCtxIdeal.sig) → Buf (Elt Ideal) ℓ) : Prop :=
  True

def Pre_InWCtxRefIdeal (m : (ℓ : Loc Cert.InWCtxRefIdeal.nD Cert.InWCtxRefIdeal.τ Cert.InWCtxRefIdeal.sig) → Buf (Elt Ideal) ℓ) : Prop :=
  True

def Pre_CctxFin (m : (ℓ : Loc Cert.CctxFin.nD Cert.CctxFin.τ Cert.CctxFin.sig) → Buf (Elt Bits) ℓ) : Prop :=
  True

def Pre_CctxFinIdeal (m : (ℓ : Loc Cert.CctxFinIdeal.nD Cert.CctxFinIdeal.τ Cert.CctxFinIdeal.sig) → Buf (Elt Ideal) ℓ) : Prop :=
  True

def Pre_CctxFinIdeal_finite_ctx [hPre_finite_ctx : Cert.Pre_finite_ctx.Facts] (m : (ℓ : Loc Cert.CctxFinIdeal.nD Cert.CctxFinIdeal.τ Cert.CctxFinIdeal.sig) → Buf (Elt Ideal) ℓ) : Prop :=
  ∀ c : Dev Cert.CctxFinIdeal.nD,
    (Cert.Pre_finite_ctx.fn (F := Ideal) (m ((c.tc : Thread Cert.CctxFinIdeal.nD Cert.CctxFinIdeal.τ).loc Cert.CctxFinIdeal.main_arg0)) (m ((c.tc : Thread Cert.CctxFinIdeal.nD Cert.CctxFinIdeal.τ).loc Cert.CctxFinIdeal.main_arg1)) (m ((c.tc : Thread Cert.CctxFinIdeal.nD Cert.CctxFinIdeal.τ).loc Cert.CctxFinIdeal.main_arg2))) = (fun _ => 1#1)

def Pre_CctxFinRefIdeal (m : (ℓ : Loc Cert.CctxFinRefIdeal.nD Cert.CctxFinRefIdeal.τ Cert.CctxFinRefIdeal.sig) → Buf (Elt Ideal) ℓ) : Prop :=
  True

def Pre_CctxFinRefIdeal_finite_ctx [hPre_finite_ctx : Cert.Pre_finite_ctx.Facts] (m : (ℓ : Loc Cert.CctxFinRefIdeal.nD Cert.CctxFinRefIdeal.τ Cert.CctxFinRefIdeal.sig) → Buf (Elt Ideal) ℓ) : Prop :=
  ∀ c : Dev Cert.CctxFinRefIdeal.nD,
    (Cert.Pre_finite_ctx.fn (F := Ideal) (m ((c.tc : Thread Cert.CctxFinRefIdeal.nD Cert.CctxFinRefIdeal.τ).loc Cert.CctxFinRefIdeal.main_arg0)) (m ((c.tc : Thread Cert.CctxFinRefIdeal.nD Cert.CctxFinRefIdeal.τ).loc Cert.CctxFinRefIdeal.main_arg1)) (m ((c.tc : Thread Cert.CctxFinRefIdeal.nD Cert.CctxFinRefIdeal.τ).loc Cert.CctxFinRefIdeal.main_arg2))) = (fun _ => 1#1)

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_ModW (m : (ℓ : Loc Cert.ModW.nD Cert.ModW.τ Cert.ModW.sig) → Buf (Elt Bits) ℓ) : Prop :=
  True

def Pre_ModWIdeal (m : (ℓ : Loc Cert.ModWIdeal.nD Cert.ModWIdeal.τ Cert.ModWIdeal.sig) → Buf (Elt Ideal) ℓ) : Prop :=
  True

def Pre_ModWRefIdeal (m : (ℓ : Loc Cert.ModWRefIdeal.nD Cert.ModWRefIdeal.τ Cert.ModWRefIdeal.sig) → Buf (Elt Ideal) ℓ) : Prop :=
  True

def Pre_CctxPart (m : (ℓ : Loc Cert.CctxPart.nD Cert.CctxPart.τ Cert.CctxPart.sig) → Buf (Elt Bits) ℓ) : Prop :=
  True

def Pre_CctxPartIdeal (m : (ℓ : Loc Cert.CctxPartIdeal.nD Cert.CctxPartIdeal.τ Cert.CctxPartIdeal.sig) → Buf (Elt Ideal) ℓ) : Prop :=
  True

def Pre_CctxPartRefIdeal (m : (ℓ : Loc Cert.CctxPartRefIdeal.nD Cert.CctxPartRefIdeal.τ Cert.CctxPartRefIdeal.sig) → Buf (Elt Ideal) ℓ) : Prop :=
  True

def Pre_ModF (m : (ℓ : Loc Cert.ModF.nD Cert.ModF.τ Cert.ModF.sig) → Buf (Elt Bits) ℓ) : Prop :=
  True

def Pre_ModFIdeal (m : (ℓ : Loc Cert.ModFIdeal.nD Cert.ModFIdeal.τ Cert.ModFIdeal.sig) → Buf (Elt Ideal) ℓ) : Prop :=
  True

def Pre_ModFRefIdeal (m : (ℓ : Loc Cert.ModFRefIdeal.nD Cert.ModFRefIdeal.τ Cert.ModFRefIdeal.sig) → Buf (Elt Ideal) ℓ) : Prop :=
  True

def Pre_MRep (m : (ℓ : Loc Cert.MRep.nD Cert.MRep.τ Cert.MRep.sig) → Buf (Elt Bits) ℓ) : Prop :=
  True

def Pre_MRepIdeal (m : (ℓ : Loc Cert.MRepIdeal.nD Cert.MRepIdeal.τ Cert.MRepIdeal.sig) → Buf (Elt Ideal) ℓ) : Prop :=
  True

def Pre_MRepRefIdeal (m : (ℓ : Loc Cert.MRepRefIdeal.nD Cert.MRepRefIdeal.τ Cert.MRepRefIdeal.sig) → Buf (Elt Ideal) ℓ) : Prop :=
  True

def Pre_InW1 (m : (ℓ : Loc Cert.InW1.nD Cert.InW1.τ Cert.InW1.sig) → Buf (Elt Bits) ℓ) : Prop :=
  True

def Pre_InW1Ideal (m : (ℓ : Loc Cert.InW1Ideal.nD Cert.InW1Ideal.τ Cert.InW1Ideal.sig) → Buf (Elt Ideal) ℓ) : Prop :=
  True

def Pre_InW1RefIdeal (m : (ℓ : Loc Cert.InW1RefIdeal.nD Cert.InW1RefIdeal.τ Cert.InW1RefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFRefIdeal (m : (ℓ : Loc Cert.PoolFRefIdeal.nD Cert.PoolFRefIdeal.τ Cert.PoolFRefIdeal.sig) → Buf (Elt Ideal) ℓ) : Prop :=
  True

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4)
      ∧ r.2.mem ((c.tc : Thread Cert.InX.nD Cert.InX.τ).loc Cert.InX.main_arg5) = m ((c.tc : Thread Cert.InX.nD Cert.InX.τ).loc Cert.InX.main_arg5)
      ∧ r.2.mem ((c.tc : Thread Cert.InX.nD Cert.InX.τ).loc Cert.InX.main_arg6) = m ((c.tc : Thread Cert.InX.nD Cert.InX.τ).loc Cert.InX.main_arg6))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
      ∧ r.2.mem ((c.tc : Thread Cert.InXIdeal.nD Cert.InXIdeal.τ).loc Cert.InXIdeal.main_arg6) = m ((c.tc : Thread Cert.InXIdeal.nD Cert.InXIdeal.τ).loc Cert.InXIdeal.main_arg6))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5)
      ∧ r.2.mem ((c.tc : Thread Cert.InXRefIdeal.nD Cert.InXRefIdeal.τ).loc Cert.InXRefIdeal.main_arg6) = m ((c.tc : Thread Cert.InXRefIdeal.nD Cert.InXRefIdeal.τ).loc Cert.InXRefIdeal.main_arg6))
      ∧ r.2.sem = fun _ => 0)

def quiescent_LossFwd [hLossFwd : Cert.LossFwd.Facts] : Prop :=
  ∀ (m : (ℓ : Loc Cert.LossFwd.nD Cert.LossFwd.τ Cert.LossFwd.sig) → Buf (Elt Bits) ℓ) (g : Dev Cert.LossFwd.nD → PrngReg), Pre_LossFwd m →
    θ_run (Cert.LossFwd.defs (F := Bits)) (onTc (τ := Cert.LossFwd.τ) (Cert.LossFwd.main (F := Bits))) ⟨m, fun _ => 0, g⟩ (fun r => (∀ c : Dev Cert.LossFwd.nD,
      r.2.mem ((c.tc : Thread Cert.LossFwd.nD Cert.LossFwd.τ).loc Cert.LossFwd.main_arg0) = m ((c.tc : Thread Cert.LossFwd.nD Cert.LossFwd.τ).loc Cert.LossFwd.main_arg0)
      ∧ r.2.mem ((c.tc : Thread Cert.LossFwd.nD Cert.LossFwd.τ).loc Cert.LossFwd.main_arg1) = m ((c.tc : Thread Cert.LossFwd.nD Cert.LossFwd.τ).loc Cert.LossFwd.main_arg1)
      ∧ r.2.mem ((c.tc : Thread Cert.LossFwd.nD Cert.LossFwd.τ).loc Cert.LossFwd.main_arg2) = m ((c.tc : Thread Cert.LossFwd.nD Cert.LossFwd.τ).loc Cert.LossFwd.main_arg2)
      ∧ r.2.mem ((c.tc : Thread Cert.LossFwd.nD Cert.LossFwd.τ).loc Cert.LossFwd.main_arg3) = m ((c.tc : Thread Cert.LossFwd.nD Cert.LossFwd.τ).loc Cert.LossFwd.main_arg3)
      ∧ r.2.mem ((c.tc : Thread Cert.LossFwd.nD Cert.LossFwd.τ).loc Cert.LossFwd.main_arg4) = m ((c.tc : Thread Cert.LossFwd.nD Cert.LossFwd.τ).loc Cert.LossFwd.main_arg4)
      ∧ r.2.mem ((c.tc : Thread Cert.LossFwd.nD Cert.LossFwd.τ).loc Cert.LossFwd.main_arg5) = m ((c.tc : Thread Cert.LossFwd.nD Cert.LossFwd.τ).loc Cert.LossFwd.main_arg5)
      ∧ r.2.mem ((c.tc : Thread Cert.LossFwd.nD Cert.LossFwd.τ).loc Cert.LossFwd.main_arg6) = m ((c.tc : Thread Cert.LossFwd.nD Cert.LossFwd.τ).loc Cert.LossFwd.main_arg6)
      ∧ r.2.mem ((c.tc : Thread Cert.LossFwd.nD Cert.LossFwd.τ).loc Cert.LossFwd.main_arg7) = m ((c.tc : Thread Cert.LossFwd.nD Cert.LossFwd.τ).loc Cert.LossFwd.main_arg7))
      ∧ r.2.sem = fun _ => 0)

def quiescent_LossFwdIdeal [hLossFwdIdeal : Cert.LossFwdIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg), Pre_LossFwdIdeal m →
    θ_run (Cert.LossFwdIdeal.defs (F := Ideal)) (onTc (τ := Cert.LossFwdIdeal.τ) (Cert.LossFwdIdeal.main (F := Ideal))) ⟨m, fun _ => 0, g⟩ (fun r => (∀ c : Dev Cert.LossFwdIdeal.nD,
      r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
      ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
      ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2)
      ∧ r.2.mem ((c.tc : Thread Cert.LossFwdIdeal.nD Cert.LossFwdIdeal.τ).loc Cert.LossFwdIdeal.main_arg3) = m ((c.tc : Thread Cert.LossFwdIdeal.nD Cert.LossFwdIdeal.τ).loc Cert.LossFwdIdeal.main_arg3)
      ∧ r.2.mem ((c.tc : Thread Cert.LossFwdIdeal.nD Cert.LossFwdIdeal.τ).loc Cert.LossFwdIdeal.main_arg4) = m ((c.tc : Thread Cert.LossFwdIdeal.nD Cert.LossFwdIdeal.τ).loc Cert.LossFwdIdeal.main_arg4)
      ∧ r.2.mem ((c.tc : Thread Cert.LossFwdIdeal.nD Cert.LossFwdIdeal.τ).loc Cert.LossFwdIdeal.main_arg5) = m ((c.tc : Thread Cert.LossFwdIdeal.nD Cert.LossFwdIdeal.τ).loc Cert.LossFwdIdeal.main_arg5)
      ∧ r.2.mem ((c.tc : Thread Cert.LossFwdIdeal.nD Cert.LossFwdIdeal.τ).loc Cert.LossFwdIdeal.main_arg6) = m ((c.tc : Thread Cert.LossFwdIdeal.nD Cert.LossFwdIdeal.τ).loc Cert.LossFwdIdeal.main_arg6)
      ∧ r.2.mem ((c.tc : Thread Cert.LossFwdIdeal.nD Cert.LossFwdIdeal.τ).loc Cert.LossFwdIdeal.main_arg7) = m ((c.tc : Thread Cert.LossFwdIdeal.nD Cert.LossFwdIdeal.τ).loc Cert.LossFwdIdeal.main_arg7))
      ∧ r.2.sem = fun _ => 0)

def quiescent_LossFwdRefIdeal [hLossFwdRefIdeal : Cert.LossFwdRefIdeal.Facts] : Prop :=
  ∀ (m : (ℓ : Loc Cert.LossFwdRefIdeal.nD Cert.LossFwdRefIdeal.τ Cert.LossFwdRefIdeal.sig) → Buf (Elt Ideal) ℓ) (g : Dev Cert.LossFwdRefIdeal.nD → PrngReg), Pre_LossFwdRefIdeal m →
    θ_run (Cert.LossFwdRefIdeal.defs (F := Ideal)) (onTc (τ := Cert.LossFwdRefIdeal.τ) (Cert.LossFwdRefIdeal.main (F := Ideal))) ⟨m, fun _ => 0, g⟩ (fun r => (∀ c : Dev Cert.LossFwdRefIdeal.nD,
      r.2.mem ((c.tc : Thread Cert.LossFwdRefIdeal.nD Cert.LossFwdRefIdeal.τ).loc Cert.LossFwdRefIdeal.main_arg0) = m ((c.tc : Thread Cert.LossFwdRefIdeal.nD Cert.LossFwdRefIdeal.τ).loc Cert.LossFwdRefIdeal.main_arg0)
      ∧ r.2.mem ((c.tc : Thread Cert.LossFwdRefIdeal.nD Cert.LossFwdRefIdeal.τ).loc Cert.LossFwdRefIdeal.main_arg1) = m ((c.tc : Thread Cert.LossFwdRefIdeal.nD Cert.LossFwdRefIdeal.τ).loc Cert.LossFwdRefIdeal.main_arg1)
      ∧ r.2.mem ((c.tc : Thread Cert.LossFwdRefIdeal.nD Cert.LossFwdRefIdeal.τ).loc Cert.LossFwdRefIdeal.main_arg2) = m ((c.tc : Thread Cert.LossFwdRefIdeal.nD Cert.LossFwdRefIdeal.τ).loc Cert.LossFwdRefIdeal.main_arg2)
      ∧ r.2.mem ((c.tc : Thread Cert.LossFwdRefIdeal.nD Cert.LossFwdRefIdeal.τ).loc Cert.LossFwdRefIdeal.main_arg3) = m ((c.tc : Thread Cert.LossFwdRefIdeal.nD Cert.LossFwdRefIdeal.τ).loc Cert.LossFwdRefIdeal.main_arg3)
      ∧ r.2.mem ((c.tc : Thread Cert.LossFwdRefIdeal.nD Cert.LossFwdRefIdeal.τ).loc Cert.LossFwdRefIdeal.main_arg4) = m ((c.tc : Thread Cert.LossFwdRefIdeal.nD Cert.LossFwdRefIdeal.τ).loc Cert.LossFwdRefIdeal.main_arg4)
      ∧ r.2.mem ((c.tc : Thread Cert.LossFwdRefIdeal.nD Cert.LossFwdRefIdeal.τ).loc Cert.LossFwdRefIdeal.main_arg5) = m ((c.tc : Thread Cert.LossFwdRefIdeal.nD Cert.LossFwdRefIdeal.τ).loc Cert.LossFwdRefIdeal.main_arg5)
      ∧ r.2.mem ((c.tc : Thread Cert.LossFwdRefIdeal.nD Cert.LossFwdRefIdeal.τ).loc Cert.LossFwdRefIdeal.main_arg6) = m ((c.tc : Thread Cert.LossFwdRefIdeal.nD Cert.LossFwdRefIdeal.τ).loc Cert.LossFwdRefIdeal.main_arg6)
      ∧ r.2.mem ((c.tc : Thread Cert.LossFwdRefIdeal.nD Cert.LossFwdRefIdeal.τ).loc Cert.LossFwdRefIdeal.main_arg7) = m ((c.tc : Thread Cert.LossFwdRefIdeal.nD Cert.LossFwdRefIdeal.τ).loc Cert.LossFwdRefIdeal.main_arg7))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5)
      ∧ r.2.mem ((c.tc : Thread Cert.OutBwd.nD Cert.OutBwd.τ).loc Cert.OutBwd.main_arg6) = m ((c.tc : Thread Cert.OutBwd.nD Cert.OutBwd.τ).loc Cert.OutBwd.main_arg6))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdIdeal_pre_finite [hOutBwdIdeal : Cert.OutBwdIdeal.Facts] [hPre_finite : Cert.Pre_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_finite m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
      ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_OutBwdRefIdeal_pre_finite [hOutBwdRefIdeal : Cert.OutBwdRefIdeal.Facts] [hPre_finite : Cert.Pre_finite.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_finite m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5)
      ∧ r.2.mem ((c.tc : Thread Cert.OutBwdRefIdeal.nD Cert.OutBwdRefIdeal.τ).loc Cert.OutBwdRefIdeal.main_arg6) = m ((c.tc : Thread Cert.OutBwdRefIdeal.nD Cert.OutBwdRefIdeal.τ).loc Cert.OutBwdRefIdeal.main_arg6))
      ∧ r.2.sem = fun _ => 0)

def quiescent_LruBwd [hLruBwd : Cert.LruBwd.Facts] : Prop :=
  ∀ (m : (ℓ : Loc Cert.LruBwd.nD Cert.LruBwd.τ Cert.LruBwd.sig) → Buf (Elt Bits) ℓ) (g : Dev Cert.LruBwd.nD → PrngReg), Pre_LruBwd m →
    θ_run (Cert.LruBwd.defs (F := Bits)) (onTc (τ := Cert.LruBwd.τ) (Cert.LruBwd.main (F := Bits))) ⟨m, fun _ => 0, g⟩ (fun r => (∀ c : Dev Cert.LruBwd.nD,
      r.2.mem ((c.tc : Thread Cert.LruBwd.nD Cert.LruBwd.τ).loc Cert.LruBwd.main_arg0) = m ((c.tc : Thread Cert.LruBwd.nD Cert.LruBwd.τ).loc Cert.LruBwd.main_arg0)
      ∧ r.2.mem ((c.tc : Thread Cert.LruBwd.nD Cert.LruBwd.τ).loc Cert.LruBwd.main_arg1) = m ((c.tc : Thread Cert.LruBwd.nD Cert.LruBwd.τ).loc Cert.LruBwd.main_arg1)
      ∧ r.2.mem ((c.tc : Thread Cert.LruBwd.nD Cert.LruBwd.τ).loc Cert.LruBwd.main_arg2) = m ((c.tc : Thread Cert.LruBwd.nD Cert.LruBwd.τ).loc Cert.LruBwd.main_arg2)
      ∧ r.2.mem ((c.tc : Thread Cert.LruBwd.nD Cert.LruBwd.τ).loc Cert.LruBwd.main_arg3) = m ((c.tc : Thread Cert.LruBwd.nD Cert.LruBwd.τ).loc Cert.LruBwd.main_arg3)
      ∧ r.2.mem ((c.tc : Thread Cert.LruBwd.nD Cert.LruBwd.τ).loc Cert.LruBwd.main_arg4) = m ((c.tc : Thread Cert.LruBwd.nD Cert.LruBwd.τ).loc Cert.LruBwd.main_arg4)
      ∧ r.2.mem ((c.tc : Thread Cert.LruBwd.nD Cert.LruBwd.τ).loc Cert.LruBwd.main_arg5) = m ((c.tc : Thread Cert.LruBwd.nD Cert.LruBwd.τ).loc Cert.LruBwd.main_arg5)
      ∧ r.2.mem ((c.tc : Thread Cert.LruBwd.nD Cert.LruBwd.τ).loc Cert.LruBwd.main_arg6) = m ((c.tc : Thread Cert.LruBwd.nD Cert.LruBwd.τ).loc Cert.LruBwd.main_arg6)
      ∧ r.2.mem ((c.tc : Thread Cert.LruBwd.nD Cert.LruBwd.τ).loc Cert.LruBwd.main_arg7) = m ((c.tc : Thread Cert.LruBwd.nD Cert.LruBwd.τ).loc Cert.LruBwd.main_arg7)
      ∧ r.2.mem ((c.tc : Thread Cert.LruBwd.nD Cert.LruBwd.τ).loc Cert.LruBwd.main_arg8) = m ((c.tc : Thread Cert.LruBwd.nD Cert.LruBwd.τ).loc Cert.LruBwd.main_arg8)
      ∧ r.2.mem ((c.tc : Thread Cert.LruBwd.nD Cert.LruBwd.τ).loc Cert.LruBwd.main_arg9) = m ((c.tc : Thread Cert.LruBwd.nD Cert.LruBwd.τ).loc Cert.LruBwd.main_arg9))
      ∧ r.2.sem = fun _ => 0)

def quiescent_LruBwdIdeal [hLruBwdIdeal : Cert.LruBwdIdeal.Facts] : Prop :=
  ∀ (m : (ℓ : Loc Cert.LruBwdIdeal.nD Cert.LruBwdIdeal.τ Cert.LruBwdIdeal.sig) → Buf (Elt Ideal) ℓ) (g : Dev Cert.LruBwdIdeal.nD → PrngReg), Pre_LruBwdIdeal m →
    θ_run (Cert.LruBwdIdeal.defs (F := Ideal)) (onTc (τ := Cert.LruBwdIdeal.τ) (Cert.LruBwdIdeal.main (F := Ideal))) ⟨m, fun _ => 0, g⟩ (fun r => (∀ c : Dev Cert.LruBwdIdeal.nD,
      r.2.mem ((c.tc : Thread Cert.LruBwdIdeal.nD Cert.LruBwdIdeal.τ).loc Cert.LruBwdIdeal.main_arg0) = m ((c.tc : Thread Cert.LruBwdIdeal.nD Cert.LruBwdIdeal.τ).loc Cert.LruBwdIdeal.main_arg0)
      ∧ r.2.mem ((c.tc : Thread Cert.LruBwdIdeal.nD Cert.LruBwdIdeal.τ).loc Cert.LruBwdIdeal.main_arg1) = m ((c.tc : Thread Cert.LruBwdIdeal.nD Cert.LruBwdIdeal.τ).loc Cert.LruBwdIdeal.main_arg1)
      ∧ r.2.mem ((c.tc : Thread Cert.LruBwdIdeal.nD Cert.LruBwdIdeal.τ).loc Cert.LruBwdIdeal.main_arg2) = m ((c.tc : Thread Cert.LruBwdIdeal.nD Cert.LruBwdIdeal.τ).loc Cert.LruBwdIdeal.main_arg2)
      ∧ r.2.mem ((c.tc : Thread Cert.LruBwdIdeal.nD Cert.LruBwdIdeal.τ).loc Cert.LruBwdIdeal.main_arg3) = m ((c.tc : Thread Cert.LruBwdIdeal.nD Cert.LruBwdIdeal.τ).loc Cert.LruBwdIdeal.main_arg3)
      ∧ r.2.mem ((c.tc : Thread Cert.LruBwdIdeal.nD Cert.LruBwdIdeal.τ).loc Cert.LruBwdIdeal.main_arg4) = m ((c.tc : Thread Cert.LruBwdIdeal.nD Cert.LruBwdIdeal.τ).loc Cert.LruBwdIdeal.main_arg4)
      ∧ r.2.mem ((c.tc : Thread Cert.LruBwdIdeal.nD Cert.LruBwdIdeal.τ).loc Cert.LruBwdIdeal.main_arg5) = m ((c.tc : Thread Cert.LruBwdIdeal.nD Cert.LruBwdIdeal.τ).loc Cert.LruBwdIdeal.main_arg5)
      ∧ r.2.mem ((c.tc : Thread Cert.LruBwdIdeal.nD Cert.LruBwdIdeal.τ).loc Cert.LruBwdIdeal.main_arg6) = m ((c.tc : Thread Cert.LruBwdIdeal.nD Cert.LruBwdIdeal.τ).loc Cert.LruBwdIdeal.main_arg6)
      ∧ r.2.mem ((c.tc : Thread Cert.LruBwdIdeal.nD Cert.LruBwdIdeal.τ).loc Cert.LruBwdIdeal.main_arg7) = m ((c.tc : Thread Cert.LruBwdIdeal.nD Cert.LruBwdIdeal.τ).loc Cert.LruBwdIdeal.main_arg7)
      ∧ r.2.mem ((c.tc : Thread Cert.LruBwdIdeal.nD Cert.LruBwdIdeal.τ).loc Cert.LruBwdIdeal.main_arg8) = m ((c.tc : Thread Cert.LruBwdIdeal.nD Cert.LruBwdIdeal.τ).loc Cert.LruBwdIdeal.main_arg8)
      ∧ r.2.mem ((c.tc : Thread Cert.LruBwdIdeal.nD Cert.LruBwdIdeal.τ).loc Cert.LruBwdIdeal.main_arg9) = m ((c.tc : Thread Cert.LruBwdIdeal.nD Cert.LruBwdIdeal.τ).loc Cert.LruBwdIdeal.main_arg9))
      ∧ r.2.sem = fun _ => 0)

def quiescent_PoolMm [hPoolMm : Cert.PoolMm.Facts] : Prop :=
  ∀ (m : (ℓ : Loc Cert.PoolMm.nD Cert.PoolMm.τ Cert.PoolMm.sig) → Buf (Elt Bits) ℓ) (g : Dev Cert.PoolMm.nD → PrngReg), Pre_PoolMm m →
    θ_run (Cert.PoolMm.defs (F := Bits)) (onTc (τ := Cert.PoolMm.τ) (Cert.PoolMm.main (F := Bits))) ⟨m, fun _ => 0, g⟩ (fun r => (∀ c : Dev Cert.PoolMm.nD,
      r.2.mem ((c.tc : Thread Cert.PoolMm.nD Cert.PoolMm.τ).loc Cert.PoolMm.main_arg0) = m ((c.tc : Thread Cert.PoolMm.nD Cert.PoolMm.τ).loc Cert.PoolMm.main_arg0)
      ∧ r.2.mem ((c.tc : Thread Cert.PoolMm.nD Cert.PoolMm.τ).loc Cert.PoolMm.main_arg1) = m ((c.tc : Thread Cert.PoolMm.nD Cert.PoolMm.τ).loc Cert.PoolMm.main_arg1)
      ∧ r.2.mem ((c.tc : Thread Cert.PoolMm.nD Cert.PoolMm.τ).loc Cert.PoolMm.main_arg2) = m ((c.tc : Thread Cert.PoolMm.nD Cert.PoolMm.τ).loc Cert.PoolMm.main_arg2)
      ∧ r.2.mem ((c.tc : Thread Cert.PoolMm.nD Cert.PoolMm.τ).loc Cert.PoolMm.main_arg3) = m ((c.tc : Thread Cert.PoolMm.nD Cert.PoolMm.τ).loc Cert.PoolMm.main_arg3)
      ∧ r.2.mem ((c.tc : Thread Cert.PoolMm.nD Cert.PoolMm.τ).loc Cert.PoolMm.main_arg4) = m ((c.tc : Thread Cert.PoolMm.nD Cert.PoolMm.τ).loc Cert.PoolMm.main_arg4))
      ∧ r.2.sem = fun _ => 0)

def quiescent_PoolMmIdeal [hPoolMmIdeal : Cert.PoolMmIdeal.Facts] : Prop :=
  ∀ (m : (ℓ : Loc Cert.PoolMmIdeal.nD Cert.PoolMmIdeal.τ Cert.PoolMmIdeal.sig) → Buf (Elt Ideal) ℓ) (g : Dev Cert.PoolMmIdeal.nD → PrngReg), Pre_PoolMmIdeal m →
    θ_run (Cert.PoolMmIdeal.defs (F := Ideal)) (onTc (τ := Cert.PoolMmIdeal.τ) (Cert.PoolMmIdeal.main (F := Ideal))) ⟨m, fun _ => 0, g⟩ (fun r => (∀ c : Dev Cert.PoolMmIdeal.nD,
      r.2.mem ((c.tc : Thread Cert.PoolMmIdeal.nD Cert.PoolMmIdeal.τ).loc Cert.PoolMmIdeal.main_arg0) = m ((c.tc : Thread Cert.PoolMmIdeal.nD Cert.PoolMmIdeal.τ).loc Cert.PoolMmIdeal.main_arg0)
      ∧ r.2.mem ((c.tc : Thread Cert.PoolMmIdeal.nD Cert.PoolMmIdeal.τ).loc Cert.PoolMmIdeal.main_arg1) = m ((c.tc : Thread Cert.PoolMmIdeal.nD Cert.PoolMmIdeal.τ).loc Cert.PoolMmIdeal.main_arg1)
      ∧ r.2.mem ((c.tc : Thread Cert.PoolMmIdeal.nD Cert.PoolMmIdeal.τ).loc Cert.PoolMmIdeal.main_arg2) = m ((c.tc : Thread Cert.PoolMmIdeal.nD Cert.PoolMmIdeal.τ).loc Cert.PoolMmIdeal.main_arg2)
      ∧ r.2.mem ((c.tc : Thread Cert.PoolMmIdeal.nD Cert.PoolMmIdeal.τ).loc Cert.PoolMmIdeal.main_arg3) = m ((c.tc : Thread Cert.PoolMmIdeal.nD Cert.PoolMmIdeal.τ).loc Cert.PoolMmIdeal.main_arg3)
      ∧ r.2.mem ((c.tc : Thread Cert.PoolMmIdeal.nD Cert.PoolMmIdeal.τ).loc Cert.PoolMmIdeal.main_arg4) = m ((c.tc : Thread Cert.PoolMmIdeal.nD Cert.PoolMmIdeal.τ).loc Cert.PoolMmIdeal.main_arg4))
      ∧ r.2.sem = fun _ => 0)

def quiescent_PoolMmRefIdeal [hPoolMmRefIdeal : Cert.PoolMmRefIdeal.Facts] : Prop :=
  ∀ (m : (ℓ : Loc Cert.PoolMmRefIdeal.nD Cert.PoolMmRefIdeal.τ Cert.PoolMmRefIdeal.sig) → Buf (Elt Ideal) ℓ) (g : Dev Cert.PoolMmRefIdeal.nD → PrngReg), Pre_PoolMmRefIdeal m →
    θ_run (Cert.PoolMmRefIdeal.defs (F := Ideal)) (onTc (τ := Cert.PoolMmRefIdeal.τ) (Cert.PoolMmRefIdeal.main (F := Ideal))) ⟨m, fun _ => 0, g⟩ (fun r => (∀ c : Dev Cert.PoolMmRefIdeal.nD,
      r.2.mem ((c.tc : Thread Cert.PoolMmRefIdeal.nD Cert.PoolMmRefIdeal.τ).loc Cert.PoolMmRefIdeal.main_arg0) = m ((c.tc : Thread Cert.PoolMmRefIdeal.nD Cert.PoolMmRefIdeal.τ).loc Cert.PoolMmRefIdeal.main_arg0)
      ∧ r.2.mem ((c.tc : Thread Cert.PoolMmRefIdeal.nD Cert.PoolMmRefIdeal.τ).loc Cert.PoolMmRefIdeal.main_arg1) = m ((c.tc : Thread Cert.PoolMmRefIdeal.nD Cert.PoolMmRefIdeal.τ).loc Cert.PoolMmRefIdeal.main_arg1)
      ∧ r.2.mem ((c.tc : Thread Cert.PoolMmRefIdeal.nD Cert.PoolMmRefIdeal.τ).loc Cert.PoolMmRefIdeal.main_arg2) = m ((c.tc : Thread Cert.PoolMmRefIdeal.nD Cert.PoolMmRefIdeal.τ).loc Cert.PoolMmRefIdeal.main_arg2)
      ∧ r.2.mem ((c.tc : Thread Cert.PoolMmRefIdeal.nD Cert.PoolMmRefIdeal.τ).loc Cert.PoolMmRefIdeal.main_arg3) = m ((c.tc : Thread Cert.PoolMmRefIdeal.nD Cert.PoolMmRefIdeal.τ).loc Cert.PoolMmRefIdeal.main_arg3)
      ∧ r.2.mem ((c.tc : Thread Cert.PoolMmRefIdeal.nD Cert.PoolMmRefIdeal.τ).loc Cert.PoolMmRefIdeal.main_arg4) = m ((c.tc : Thread Cert.PoolMmRefIdeal.nD Cert.PoolMmRefIdeal.τ).loc Cert.PoolMmRefIdeal.main_arg4))
      ∧ r.2.sem = fun _ => 0)

def quiescent_InXCtx [hInXCtx : Cert.InXCtx.Facts] : Prop :=
  ∀ (m : (ℓ : Loc Cert.InXCtx.nD Cert.InXCtx.τ Cert.InXCtx.sig) → Buf (Elt Bits) ℓ) (g : Dev Cert.InXCtx.nD → PrngReg), Pre_InXCtx m →
    θ_run (Cert.InXCtx.defs (F := Bits)) (onTc (τ := Cert.InXCtx.τ) (Cert.InXCtx.main (F := Bits))) ⟨m, fun _ => 0, g⟩ (fun r => (∀ c : Dev Cert.InXCtx.nD,
      r.2.mem ((c.tc : Thread Cert.InXCtx.nD Cert.InXCtx.τ).loc Cert.InXCtx.main_arg0) = m ((c.tc : Thread Cert.InXCtx.nD Cert.InXCtx.τ).loc Cert.InXCtx.main_arg0)
      ∧ r.2.mem ((c.tc : Thread Cert.InXCtx.nD Cert.InXCtx.τ).loc Cert.InXCtx.main_arg1) = m ((c.tc : Thread Cert.InXCtx.nD Cert.InXCtx.τ).loc Cert.InXCtx.main_arg1)
      ∧ r.2.mem ((c.tc : Thread Cert.InXCtx.nD Cert.InXCtx.τ).loc Cert.InXCtx.main_arg2) = m ((c.tc : Thread Cert.InXCtx.nD Cert.InXCtx.τ).loc Cert.InXCtx.main_arg2)
      ∧ r.2.mem ((c.tc : Thread Cert.InXCtx.nD Cert.InXCtx.τ).loc Cert.InXCtx.main_arg3) = m ((c.tc : Thread Cert.InXCtx.nD Cert.InXCtx.τ).loc Cert.InXCtx.main_arg3)
      ∧ r.2.mem ((c.tc : Thread Cert.InXCtx.nD Cert.InXCtx.τ).loc Cert.InXCtx.main_arg4) = m ((c.tc : Thread Cert.InXCtx.nD Cert.InXCtx.τ).loc Cert.InXCtx.main_arg4))
      ∧ r.2.sem = fun _ => 0)

def quiescent_InXCtxIdeal [hInXCtxIdeal : Cert.InXCtxIdeal.Facts] : Prop :=
  ∀ (m : (ℓ : Loc Cert.InXCtxIdeal.nD Cert.InXCtxIdeal.τ Cert.InXCtxIdeal.sig) → Buf (Elt Ideal) ℓ) (g : Dev Cert.InXCtxIdeal.nD → PrngReg), Pre_InXCtxIdeal m →
    θ_run (Cert.InXCtxIdeal.defs (F := Ideal)) (onTc (τ := Cert.InXCtxIdeal.τ) (Cert.InXCtxIdeal.main (F := Ideal))) ⟨m, fun _ => 0, g⟩ (fun r => (∀ c : Dev Cert.InXCtxIdeal.nD,
      r.2.mem ((c.tc : Thread Cert.InXCtxIdeal.nD Cert.InXCtxIdeal.τ).loc Cert.InXCtxIdeal.main_arg0) = m ((c.tc : Thread Cert.InXCtxIdeal.nD Cert.InXCtxIdeal.τ).loc Cert.InXCtxIdeal.main_arg0)
      ∧ r.2.mem ((c.tc : Thread Cert.InXCtxIdeal.nD Cert.InXCtxIdeal.τ).loc Cert.InXCtxIdeal.main_arg1) = m ((c.tc : Thread Cert.InXCtxIdeal.nD Cert.InXCtxIdeal.τ).loc Cert.InXCtxIdeal.main_arg1)
      ∧ r.2.mem ((c.tc : Thread Cert.InXCtxIdeal.nD Cert.InXCtxIdeal.τ).loc Cert.InXCtxIdeal.main_arg2) = m ((c.tc : Thread Cert.InXCtxIdeal.nD Cert.InXCtxIdeal.τ).loc Cert.InXCtxIdeal.main_arg2)
      ∧ r.2.mem ((c.tc : Thread Cert.InXCtxIdeal.nD Cert.InXCtxIdeal.τ).loc Cert.InXCtxIdeal.main_arg3) = m ((c.tc : Thread Cert.InXCtxIdeal.nD Cert.InXCtxIdeal.τ).loc Cert.InXCtxIdeal.main_arg3)
      ∧ r.2.mem ((c.tc : Thread Cert.InXCtxIdeal.nD Cert.InXCtxIdeal.τ).loc Cert.InXCtxIdeal.main_arg4) = m ((c.tc : Thread Cert.InXCtxIdeal.nD Cert.InXCtxIdeal.τ).loc Cert.InXCtxIdeal.main_arg4))
      ∧ r.2.sem = fun _ => 0)

def quiescent_InXCtxRefIdeal [hInXCtxRefIdeal : Cert.InXCtxRefIdeal.Facts] : Prop :=
  ∀ (m : (ℓ : Loc Cert.InXCtxRefIdeal.nD Cert.InXCtxRefIdeal.τ Cert.InXCtxRefIdeal.sig) → Buf (Elt Ideal) ℓ) (g : Dev Cert.InXCtxRefIdeal.nD → PrngReg), Pre_InXCtxRefIdeal m →
    θ_run (Cert.InXCtxRefIdeal.defs (F := Ideal)) (onTc (τ := Cert.InXCtxRefIdeal.τ) (Cert.InXCtxRefIdeal.main (F := Ideal))) ⟨m, fun _ => 0, g⟩ (fun r => (∀ c : Dev Cert.InXCtxRefIdeal.nD,
      r.2.mem ((c.tc : Thread Cert.InXCtxRefIdeal.nD Cert.InXCtxRefIdeal.τ).loc Cert.InXCtxRefIdeal.main_arg0) = m ((c.tc : Thread Cert.InXCtxRefIdeal.nD Cert.InXCtxRefIdeal.τ).loc Cert.InXCtxRefIdeal.main_arg0)
      ∧ r.2.mem ((c.tc : Thread Cert.InXCtxRefIdeal.nD Cert.InXCtxRefIdeal.τ).loc Cert.InXCtxRefIdeal.main_arg1) = m ((c.tc : Thread Cert.InXCtxRefIdeal.nD Cert.InXCtxRefIdeal.τ).loc Cert.InXCtxRefIdeal.main_arg1)
      ∧ r.2.mem ((c.tc : Thread Cert.InXCtxRefIdeal.nD Cert.InXCtxRefIdeal.τ).loc Cert.InXCtxRefIdeal.main_arg2) = m ((c.tc : Thread Cert.InXCtxRefIdeal.nD Cert.InXCtxRefIdeal.τ).loc Cert.InXCtxRefIdeal.main_arg2)
      ∧ r.2.mem ((c.tc : Thread Cert.InXCtxRefIdeal.nD Cert.InXCtxRefIdeal.τ).loc Cert.InXCtxRefIdeal.main_arg3) = m ((c.tc : Thread Cert.InXCtxRefIdeal.nD Cert.InXCtxRefIdeal.τ).loc Cert.InXCtxRefIdeal.main_arg3)
      ∧ r.2.mem ((c.tc : Thread Cert.InXCtxRefIdeal.nD Cert.InXCtxRefIdeal.τ).loc Cert.InXCtxRefIdeal.main_arg4) = m ((c.tc : Thread Cert.InXCtxRefIdeal.nD Cert.InXCtxRefIdeal.τ).loc Cert.InXCtxRefIdeal.main_arg4))
      ∧ r.2.sem = fun _ => 0)

def quiescent_InWCtx [hInWCtx : Cert.InWCtx.Facts] : Prop :=
  ∀ (m : (ℓ : Loc Cert.InWCtx.nD Cert.InWCtx.τ Cert.InWCtx.sig) → Buf (Elt Bits) ℓ) (g : Dev Cert.InWCtx.nD → PrngReg), Pre_InWCtx m →
    θ_run (Cert.InWCtx.defs (F := Bits)) (onTc (τ := Cert.InWCtx.τ) (Cert.InWCtx.main (F := Bits))) ⟨m, fun _ => 0, g⟩ (fun r => (∀ c : Dev Cert.InWCtx.nD,
      r.2.mem ((c.tc : Thread Cert.InWCtx.nD Cert.InWCtx.τ).loc Cert.InWCtx.main_arg0) = m ((c.tc : Thread Cert.InWCtx.nD Cert.InWCtx.τ).loc Cert.InWCtx.main_arg0)
      ∧ r.2.mem ((c.tc : Thread Cert.InWCtx.nD Cert.InWCtx.τ).loc Cert.InWCtx.main_arg1) = m ((c.tc : Thread Cert.InWCtx.nD Cert.InWCtx.τ).loc Cert.InWCtx.main_arg1)
      ∧ r.2.mem ((c.tc : Thread Cert.InWCtx.nD Cert.InWCtx.τ).loc Cert.InWCtx.main_arg2) = m ((c.tc : Thread Cert.InWCtx.nD Cert.InWCtx.τ).loc Cert.InWCtx.main_arg2)
      ∧ r.2.mem ((c.tc : Thread Cert.InWCtx.nD Cert.InWCtx.τ).loc Cert.InWCtx.main_arg3) = m ((c.tc : Thread Cert.InWCtx.nD Cert.InWCtx.τ).loc Cert.InWCtx.main_arg3))
      ∧ r.2.sem = fun _ => 0)

def quiescent_InWCtxIdeal [hInWCtxIdeal : Cert.InWCtxIdeal.Facts] : Prop :=
  ∀ (m : (ℓ : Loc Cert.InWCtxIdeal.nD Cert.InWCtxIdeal.τ Cert.InWCtxIdeal.sig) → Buf (Elt Ideal) ℓ) (g : Dev Cert.InWCtxIdeal.nD → PrngReg), Pre_InWCtxIdeal m →
    θ_run (Cert.InWCtxIdeal.defs (F := Ideal)) (onTc (τ := Cert.InWCtxIdeal.τ) (Cert.InWCtxIdeal.main (F := Ideal))) ⟨m, fun _ => 0, g⟩ (fun r => (∀ c : Dev Cert.InWCtxIdeal.nD,
      r.2.mem ((c.tc : Thread Cert.InWCtxIdeal.nD Cert.InWCtxIdeal.τ).loc Cert.InWCtxIdeal.main_arg0) = m ((c.tc : Thread Cert.InWCtxIdeal.nD Cert.InWCtxIdeal.τ).loc Cert.InWCtxIdeal.main_arg0)
      ∧ r.2.mem ((c.tc : Thread Cert.InWCtxIdeal.nD Cert.InWCtxIdeal.τ).loc Cert.InWCtxIdeal.main_arg1) = m ((c.tc : Thread Cert.InWCtxIdeal.nD Cert.InWCtxIdeal.τ).loc Cert.InWCtxIdeal.main_arg1)
      ∧ r.2.mem ((c.tc : Thread Cert.InWCtxIdeal.nD Cert.InWCtxIdeal.τ).loc Cert.InWCtxIdeal.main_arg2) = m ((c.tc : Thread Cert.InWCtxIdeal.nD Cert.InWCtxIdeal.τ).loc Cert.InWCtxIdeal.main_arg2)
      ∧ r.2.mem ((c.tc : Thread Cert.InWCtxIdeal.nD Cert.InWCtxIdeal.τ).loc Cert.InWCtxIdeal.main_arg3) = m ((c.tc : Thread Cert.InWCtxIdeal.nD Cert.InWCtxIdeal.τ).loc Cert.InWCtxIdeal.main_arg3))
      ∧ r.2.sem = fun _ => 0)

def quiescent_InWCtxRefIdeal [hInWCtxRefIdeal : Cert.InWCtxRefIdeal.Facts] : Prop :=
  ∀ (m : (ℓ : Loc Cert.InWCtxRefIdeal.nD Cert.InWCtxRefIdeal.τ Cert.InWCtxRefIdeal.sig) → Buf (Elt Ideal) ℓ) (g : Dev Cert.InWCtxRefIdeal.nD → PrngReg), Pre_InWCtxRefIdeal m →
    θ_run (Cert.InWCtxRefIdeal.defs (F := Ideal)) (onTc (τ := Cert.InWCtxRefIdeal.τ) (Cert.InWCtxRefIdeal.main (F := Ideal))) ⟨m, fun _ => 0, g⟩ (fun r => (∀ c : Dev Cert.InWCtxRefIdeal.nD,
      r.2.mem ((c.tc : Thread Cert.InWCtxRefIdeal.nD Cert.InWCtxRefIdeal.τ).loc Cert.InWCtxRefIdeal.main_arg0) = m ((c.tc : Thread Cert.InWCtxRefIdeal.nD Cert.InWCtxRefIdeal.τ).loc Cert.InWCtxRefIdeal.main_arg0)
      ∧ r.2.mem ((c.tc : Thread Cert.InWCtxRefIdeal.nD Cert.InWCtxRefIdeal.τ).loc Cert.InWCtxRefIdeal.main_arg1) = m ((c.tc : Thread Cert.InWCtxRefIdeal.nD Cert.InWCtxRefIdeal.τ).loc Cert.InWCtxRefIdeal.main_arg1)
      ∧ r.2.mem ((c.tc : Thread Cert.InWCtxRefIdeal.nD Cert.InWCtxRefIdeal.τ).loc Cert.InWCtxRefIdeal.main_arg2) = m ((c.tc : Thread Cert.InWCtxRefIdeal.nD Cert.InWCtxRefIdeal.τ).loc Cert.InWCtxRefIdeal.main_arg2)
      ∧ r.2.mem ((c.tc : Thread Cert.InWCtxRefIdeal.nD Cert.InWCtxRefIdeal.τ).loc Cert.InWCtxRefIdeal.main_arg3) = m ((c.tc : Thread Cert.InWCtxRefIdeal.nD Cert.InWCtxRefIdeal.τ).loc Cert.InWCtxRefIdeal.main_arg3))
      ∧ r.2.sem = fun _ => 0)

def quiescent_CctxFin [hCctxFin : Cert.CctxFin.Facts] : Prop :=
  ∀ (m : (ℓ : Loc Cert.CctxFin.nD Cert.CctxFin.τ Cert.CctxFin.sig) → Buf (Elt Bits) ℓ) (g : Dev Cert.CctxFin.nD → PrngReg), Pre_CctxFin m →
    θ_run (Cert.CctxFin.defs (F := Bits)) (onTc (τ := Cert.CctxFin.τ) (Cert.CctxFin.main (F := Bits))) ⟨m, fun _ => 0, g⟩ (fun r => (∀ c : Dev Cert.CctxFin.nD,
      r.2.mem ((c.tc : Thread Cert.CctxFin.nD Cert.CctxFin.τ).loc Cert.CctxFin.main_arg0) = m ((c.tc : Thread Cert.CctxFin.nD Cert.CctxFin.τ).loc Cert.CctxFin.main_arg0)
      ∧ r.2.mem ((c.tc : Thread Cert.CctxFin.nD Cert.CctxFin.τ).loc Cert.CctxFin.main_arg1) = m ((c.tc : Thread Cert.CctxFin.nD Cert.CctxFin.τ).loc Cert.CctxFin.main_arg1)
      ∧ r.2.mem ((c.tc : Thread Cert.CctxFin.nD Cert.CctxFin.τ).loc Cert.CctxFin.main_arg2) = m ((c.tc : Thread Cert.CctxFin.nD Cert.CctxFin.τ).loc Cert.CctxFin.main_arg2))
      ∧ r.2.sem = fun _ => 0)

def quiescent_CctxFinIdeal [hCctxFinIdeal : Cert.CctxFinIdeal.Facts] : Prop :=
  ∀ (m : (ℓ : Loc Cert.CctxFinIdeal.nD Cert.CctxFinIdeal.τ Cert.CctxFinIdeal.sig) → Buf (Elt Ideal) ℓ) (g : Dev Cert.CctxFinIdeal.nD → PrngReg), Pre_CctxFinIdeal m →
    θ_run (Cert.CctxFinIdeal.defs (F := Ideal)) (onTc (τ := Cert.CctxFinIdeal.τ) (Cert.CctxFinIdeal.main (F := Ideal))) ⟨m, fun _ => 0, g⟩ (fun r => (∀ c : Dev Cert.CctxFinIdeal.nD,
      r.2.mem ((c.tc : Thread Cert.CctxFinIdeal.nD Cert.CctxFinIdeal.τ).loc Cert.CctxFinIdeal.main_arg0) = m ((c.tc : Thread Cert.CctxFinIdeal.nD Cert.CctxFinIdeal.τ).loc Cert.CctxFinIdeal.main_arg0)
      ∧ r.2.mem ((c.tc : Thread Cert.CctxFinIdeal.nD Cert.CctxFinIdeal.τ).loc Cert.CctxFinIdeal.main_arg1) = m ((c.tc : Thread Cert.CctxFinIdeal.nD Cert.CctxFinIdeal.τ).loc Cert.CctxFinIdeal.main_arg1)
      ∧ r.2.mem ((c.tc : Thread Cert.CctxFinIdeal.nD Cert.CctxFinIdeal.τ).loc Cert.CctxFinIdeal.main_arg2) = m ((c.tc : Thread Cert.CctxFinIdeal.nD Cert.CctxFinIdeal.τ).loc Cert.CctxFinIdeal.main_arg2))
      ∧ r.2.sem = fun _ => 0)

def quiescent_CctxFinIdeal_pre_finite_ctx [hCctxFinIdeal : Cert.CctxFinIdeal.Facts] [hPre_finite_ctx : Cert.Pre_finite_ctx.Facts] : Prop :=
  ∀ (m : (ℓ : Loc Cert.CctxFinIdeal.nD Cert.CctxFinIdeal.τ Cert.CctxFinIdeal.sig) → Buf (Elt Ideal) ℓ) (g : Dev Cert.CctxFinIdeal.nD → PrngReg), Pre_CctxFinIdeal_finite_ctx m →
    θ_run (Cert.CctxFinIdeal.defs (F := Ideal)) (onTc (τ := Cert.CctxFinIdeal.τ) (Cert.CctxFinIdeal.main (F := Ideal))) ⟨m, fun _ => 0, g⟩ (fun r => (∀ c : Dev Cert.CctxFinIdeal.nD,
      r.2.mem ((c.tc : Thread Cert.CctxFinIdeal.nD Cert.CctxFinIdeal.τ).loc Cert.CctxFinIdeal.main_arg0) = m ((c.tc : Thread Cert.CctxFinIdeal.nD Cert.CctxFinIdeal.τ).loc Cert.CctxFinIdeal.main_arg0)
      ∧ r.2.mem ((c.tc : Thread Cert.CctxFinIdeal.nD Cert.CctxFinIdeal.τ).loc Cert.CctxFinIdeal.main_arg1) = m ((c.tc : Thread Cert.CctxFinIdeal.nD Cert.CctxFinIdeal.τ).loc Cert.CctxFinIdeal.main_arg1)
      ∧ r.2.mem ((c.tc : Thread Cert.CctxFinIdeal.nD Cert.CctxFinIdeal.τ).loc Cert.CctxFinIdeal.main_arg2) = m ((c.tc : Thread Cert.CctxFinIdeal.nD Cert.CctxFinIdeal.τ).loc Cert.CctxFinIdeal.main_arg2))
      ∧ r.2.sem = fun _ => 0)

def quiescent_CctxFinRefIdeal [hCctxFinRefIdeal : Cert.CctxFinRefIdeal.Facts] : Prop :=
  ∀ (m : (ℓ : Loc Cert.CctxFinRefIdeal.nD Cert.CctxFinRefIdeal.τ Cert.CctxFinRefIdeal.sig) → Buf (Elt Ideal) ℓ) (g : Dev Cert.CctxFinRefIdeal.nD → PrngReg), Pre_CctxFinRefIdeal m →
    θ_run (Cert.CctxFinRefIdeal.defs (F := Ideal)) (onTc (τ := Cert.CctxFinRefIdeal.τ) (Cert.CctxFinRefIdeal.main (F := Ideal))) ⟨m, fun _ => 0, g⟩ (fun r => (∀ c : Dev Cert.CctxFinRefIdeal.nD,
      r.2.mem ((c.tc : Thread Cert.CctxFinRefIdeal.nD Cert.CctxFinRefIdeal.τ).loc Cert.CctxFinRefIdeal.main_arg0) = m ((c.tc : Thread Cert.CctxFinRefIdeal.nD Cert.CctxFinRefIdeal.τ).loc Cert.CctxFinRefIdeal.main_arg0)
      ∧ r.2.mem ((c.tc : Thread Cert.CctxFinRefIdeal.nD Cert.CctxFinRefIdeal.τ).loc Cert.CctxFinRefIdeal.main_arg1) = m ((c.tc : Thread Cert.CctxFinRefIdeal.nD Cert.CctxFinRefIdeal.τ).loc Cert.CctxFinRefIdeal.main_arg1)
      ∧ r.2.mem ((c.tc : Thread Cert.CctxFinRefIdeal.nD Cert.CctxFinRefIdeal.τ).loc Cert.CctxFinRefIdeal.main_arg2) = m ((c.tc : Thread Cert.CctxFinRefIdeal.nD Cert.CctxFinRefIdeal.τ).loc Cert.CctxFinRefIdeal.main_arg2))
      ∧ r.2.sem = fun _ => 0)

def quiescent_CctxFinRefIdeal_pre_finite_ctx [hCctxFinRefIdeal : Cert.CctxFinRefIdeal.Facts] [hPre_finite_ctx : Cert.Pre_finite_ctx.Facts] : Prop :=
  ∀ (m : (ℓ : Loc Cert.CctxFinRefIdeal.nD Cert.CctxFinRefIdeal.τ Cert.CctxFinRefIdeal.sig) → Buf (Elt Ideal) ℓ) (g : Dev Cert.CctxFinRefIdeal.nD → PrngReg), Pre_CctxFinRefIdeal_finite_ctx m →
    θ_run (Cert.CctxFinRefIdeal.defs (F := Ideal)) (onTc (τ := Cert.CctxFinRefIdeal.τ) (Cert.CctxFinRefIdeal.main (F := Ideal))) ⟨m, fun _ => 0, g⟩ (fun r => (∀ c : Dev Cert.CctxFinRefIdeal.nD,
      r.2.mem ((c.tc : Thread Cert.CctxFinRefIdeal.nD Cert.CctxFinRefIdeal.τ).loc Cert.CctxFinRefIdeal.main_arg0) = m ((c.tc : Thread Cert.CctxFinRefIdeal.nD Cert.CctxFinRefIdeal.τ).loc Cert.CctxFinRefIdeal.main_arg0)
      ∧ r.2.mem ((c.tc : Thread Cert.CctxFinRefIdeal.nD Cert.CctxFinRefIdeal.τ).loc Cert.CctxFinRefIdeal.main_arg1) = m ((c.tc : Thread Cert.CctxFinRefIdeal.nD Cert.CctxFinRefIdeal.τ).loc Cert.CctxFinRefIdeal.main_arg1)
      ∧ r.2.mem ((c.tc : Thread Cert.CctxFinRefIdeal.nD Cert.CctxFinRefIdeal.τ).loc Cert.CctxFinRefIdeal.main_arg2) = m ((c.tc : Thread Cert.CctxFinRefIdeal.nD Cert.CctxFinRefIdeal.τ).loc Cert.CctxFinRefIdeal.main_arg2))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2)
      ∧ r.2.mem ((c.tc : Thread Cert.OutW.nD Cert.OutW.τ).loc Cert.OutW.main_arg3) = m ((c.tc : Thread Cert.OutW.nD Cert.OutW.τ).loc Cert.OutW.main_arg3))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2)
      ∧ r.2.mem ((c.tc : Thread Cert.OutWIdeal.nD Cert.OutWIdeal.τ).loc Cert.OutWIdeal.main_arg3) = m ((c.tc : Thread Cert.OutWIdeal.nD Cert.OutWIdeal.τ).loc Cert.OutWIdeal.main_arg3))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2)
      ∧ r.2.mem ((c.tc : Thread Cert.OutWRefIdeal.nD Cert.OutWRefIdeal.τ).loc Cert.OutWRefIdeal.main_arg3) = m ((c.tc : Thread Cert.OutWRefIdeal.nD Cert.OutWRefIdeal.τ).loc Cert.OutWRefIdeal.main_arg3))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2)
      ∧ r.2.mem ((c.tc : Thread Cert.InW.nD Cert.InW.τ).loc Cert.InW.main_arg3) = m ((c.tc : Thread Cert.InW.nD Cert.InW.τ).loc Cert.InW.main_arg3)
      ∧ r.2.mem ((c.tc : Thread Cert.InW.nD Cert.InW.τ).loc Cert.InW.main_arg4) = m ((c.tc : Thread Cert.InW.nD Cert.InW.τ).loc Cert.InW.main_arg4)
      ∧ r.2.mem ((c.tc : Thread Cert.InW.nD Cert.InW.τ).loc Cert.InW.main_arg5) = m ((c.tc : Thread Cert.InW.nD Cert.InW.τ).loc Cert.InW.main_arg5)
      ∧ r.2.mem ((c.tc : Thread Cert.InW.nD Cert.InW.τ).loc Cert.InW.main_arg6) = m ((c.tc : Thread Cert.InW.nD Cert.InW.τ).loc Cert.InW.main_arg6))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
      ∧ r.2.mem ((c.tc : Thread Cert.InWIdeal.nD Cert.InWIdeal.τ).loc Cert.InWIdeal.main_arg3) = m ((c.tc : Thread Cert.InWIdeal.nD Cert.InWIdeal.τ).loc Cert.InWIdeal.main_arg3)
      ∧ r.2.mem ((c.tc : Thread Cert.InWIdeal.nD Cert.InWIdeal.τ).loc Cert.InWIdeal.main_arg4) = m ((c.tc : Thread Cert.InWIdeal.nD Cert.InWIdeal.τ).loc Cert.InWIdeal.main_arg4)
      ∧ r.2.mem ((c.tc : Thread Cert.InWIdeal.nD Cert.InWIdeal.τ).loc Cert.InWIdeal.main_arg5) = m ((c.tc : Thread Cert.InWIdeal.nD Cert.InWIdeal.τ).loc Cert.InWIdeal.main_arg5)
      ∧ r.2.mem ((c.tc : Thread Cert.InWIdeal.nD Cert.InWIdeal.τ).loc Cert.InWIdeal.main_arg6) = m ((c.tc : Thread Cert.InWIdeal.nD Cert.InWIdeal.τ).loc Cert.InWIdeal.main_arg6))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2)
      ∧ r.2.mem ((c.tc : Thread Cert.InWRefIdeal.nD Cert.InWRefIdeal.τ).loc Cert.InWRefIdeal.main_arg3) = m ((c.tc : Thread Cert.InWRefIdeal.nD Cert.InWRefIdeal.τ).loc Cert.InWRefIdeal.main_arg3)
      ∧ r.2.mem ((c.tc : Thread Cert.InWRefIdeal.nD Cert.InWRefIdeal.τ).loc Cert.InWRefIdeal.main_arg4) = m ((c.tc : Thread Cert.InWRefIdeal.nD Cert.InWRefIdeal.τ).loc Cert.InWRefIdeal.main_arg4)
      ∧ r.2.mem ((c.tc : Thread Cert.InWRefIdeal.nD Cert.InWRefIdeal.τ).loc Cert.InWRefIdeal.main_arg5) = m ((c.tc : Thread Cert.InWRefIdeal.nD Cert.InWRefIdeal.τ).loc Cert.InWRefIdeal.main_arg5)
      ∧ r.2.mem ((c.tc : Thread Cert.InWRefIdeal.nD Cert.InWRefIdeal.τ).loc Cert.InWRefIdeal.main_arg6) = m ((c.tc : Thread Cert.InWRefIdeal.nD Cert.InWRefIdeal.τ).loc Cert.InWRefIdeal.main_arg6))
      ∧ r.2.sem = fun _ => 0)

def quiescent_ModW [hModW : Cert.ModW.Facts] : Prop :=
  ∀ (m : (ℓ : Loc Cert.ModW.nD Cert.ModW.τ Cert.ModW.sig) → Buf (Elt Bits) ℓ) (g : Dev Cert.ModW.nD → PrngReg), Pre_ModW m →
    θ_run (Cert.ModW.defs (F := Bits)) (onTc (τ := Cert.ModW.τ) (Cert.ModW.main (F := Bits))) ⟨m, fun _ => 0, g⟩ (fun r => (∀ c : Dev Cert.ModW.nD,
      r.2.mem ((c.tc : Thread Cert.ModW.nD Cert.ModW.τ).loc Cert.ModW.main_arg0) = m ((c.tc : Thread Cert.ModW.nD Cert.ModW.τ).loc Cert.ModW.main_arg0)
      ∧ r.2.mem ((c.tc : Thread Cert.ModW.nD Cert.ModW.τ).loc Cert.ModW.main_arg1) = m ((c.tc : Thread Cert.ModW.nD Cert.ModW.τ).loc Cert.ModW.main_arg1)
      ∧ r.2.mem ((c.tc : Thread Cert.ModW.nD Cert.ModW.τ).loc Cert.ModW.main_arg2) = m ((c.tc : Thread Cert.ModW.nD Cert.ModW.τ).loc Cert.ModW.main_arg2)
      ∧ r.2.mem ((c.tc : Thread Cert.ModW.nD Cert.ModW.τ).loc Cert.ModW.main_arg3) = m ((c.tc : Thread Cert.ModW.nD Cert.ModW.τ).loc Cert.ModW.main_arg3)
      ∧ r.2.mem ((c.tc : Thread Cert.ModW.nD Cert.ModW.τ).loc Cert.ModW.main_arg4) = m ((c.tc : Thread Cert.ModW.nD Cert.ModW.τ).loc Cert.ModW.main_arg4))
      ∧ r.2.sem = fun _ => 0)

def quiescent_ModWIdeal [hModWIdeal : Cert.ModWIdeal.Facts] : Prop :=
  ∀ (m : (ℓ : Loc Cert.ModWIdeal.nD Cert.ModWIdeal.τ Cert.ModWIdeal.sig) → Buf (Elt Ideal) ℓ) (g : Dev Cert.ModWIdeal.nD → PrngReg), Pre_ModWIdeal m →
    θ_run (Cert.ModWIdeal.defs (F := Ideal)) (onTc (τ := Cert.ModWIdeal.τ) (Cert.ModWIdeal.main (F := Ideal))) ⟨m, fun _ => 0, g⟩ (fun r => (∀ c : Dev Cert.ModWIdeal.nD,
      r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
      ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1)
      ∧ r.2.mem ((c.tc : Thread Cert.ModWIdeal.nD Cert.ModWIdeal.τ).loc Cert.ModWIdeal.main_arg2) = m ((c.tc : Thread Cert.ModWIdeal.nD Cert.ModWIdeal.τ).loc Cert.ModWIdeal.main_arg2)
      ∧ r.2.mem ((c.tc : Thread Cert.ModWIdeal.nD Cert.ModWIdeal.τ).loc Cert.ModWIdeal.main_arg3) = m ((c.tc : Thread Cert.ModWIdeal.nD Cert.ModWIdeal.τ).loc Cert.ModWIdeal.main_arg3)
      ∧ r.2.mem ((c.tc : Thread Cert.ModWIdeal.nD Cert.ModWIdeal.τ).loc Cert.ModWIdeal.main_arg4) = m ((c.tc : Thread Cert.ModWIdeal.nD Cert.ModWIdeal.τ).loc Cert.ModWIdeal.main_arg4))
      ∧ r.2.sem = fun _ => 0)

def quiescent_ModWRefIdeal [hModWRefIdeal : Cert.ModWRefIdeal.Facts] : Prop :=
  ∀ (m : (ℓ : Loc Cert.ModWRefIdeal.nD Cert.ModWRefIdeal.τ Cert.ModWRefIdeal.sig) → Buf (Elt Ideal) ℓ) (g : Dev Cert.ModWRefIdeal.nD → PrngReg), Pre_ModWRefIdeal m →
    θ_run (Cert.ModWRefIdeal.defs (F := Ideal)) (onTc (τ := Cert.ModWRefIdeal.τ) (Cert.ModWRefIdeal.main (F := Ideal))) ⟨m, fun _ => 0, g⟩ (fun r => (∀ c : Dev Cert.ModWRefIdeal.nD,
      r.2.mem ((c.tc : Thread Cert.ModWRefIdeal.nD Cert.ModWRefIdeal.τ).loc Cert.ModWRefIdeal.main_arg0) = m ((c.tc : Thread Cert.ModWRefIdeal.nD Cert.ModWRefIdeal.τ).loc Cert.ModWRefIdeal.main_arg0)
      ∧ r.2.mem ((c.tc : Thread Cert.ModWRefIdeal.nD Cert.ModWRefIdeal.τ).loc Cert.ModWRefIdeal.main_arg1) = m ((c.tc : Thread Cert.ModWRefIdeal.nD Cert.ModWRefIdeal.τ).loc Cert.ModWRefIdeal.main_arg1)
      ∧ r.2.mem ((c.tc : Thread Cert.ModWRefIdeal.nD Cert.ModWRefIdeal.τ).loc Cert.ModWRefIdeal.main_arg2) = m ((c.tc : Thread Cert.ModWRefIdeal.nD Cert.ModWRefIdeal.τ).loc Cert.ModWRefIdeal.main_arg2)
      ∧ r.2.mem ((c.tc : Thread Cert.ModWRefIdeal.nD Cert.ModWRefIdeal.τ).loc Cert.ModWRefIdeal.main_arg3) = m ((c.tc : Thread Cert.ModWRefIdeal.nD Cert.ModWRefIdeal.τ).loc Cert.ModWRefIdeal.main_arg3)
      ∧ r.2.mem ((c.tc : Thread Cert.ModWRefIdeal.nD Cert.ModWRefIdeal.τ).loc Cert.ModWRefIdeal.main_arg4) = m ((c.tc : Thread Cert.ModWRefIdeal.nD Cert.ModWRefIdeal.τ).loc Cert.ModWRefIdeal.main_arg4))
      ∧ r.2.sem = fun _ => 0)

def quiescent_CctxPart [hCctxPart : Cert.CctxPart.Facts] : Prop :=
  ∀ (m : (ℓ : Loc Cert.CctxPart.nD Cert.CctxPart.τ Cert.CctxPart.sig) → Buf (Elt Bits) ℓ) (g : Dev Cert.CctxPart.nD → PrngReg), Pre_CctxPart m →
    θ_run (Cert.CctxPart.defs (F := Bits)) (onTc (τ := Cert.CctxPart.τ) (Cert.CctxPart.main (F := Bits))) ⟨m, fun _ => 0, g⟩ (fun r => (∀ c : Dev Cert.CctxPart.nD,
      r.2.mem ((c.tc : Thread Cert.CctxPart.nD Cert.CctxPart.τ).loc Cert.CctxPart.main_arg0) = m ((c.tc : Thread Cert.CctxPart.nD Cert.CctxPart.τ).loc Cert.CctxPart.main_arg0)
      ∧ r.2.mem ((c.tc : Thread Cert.CctxPart.nD Cert.CctxPart.τ).loc Cert.CctxPart.main_arg1) = m ((c.tc : Thread Cert.CctxPart.nD Cert.CctxPart.τ).loc Cert.CctxPart.main_arg1))
      ∧ r.2.sem = fun _ => 0)

def quiescent_CctxPartIdeal [hCctxPartIdeal : Cert.CctxPartIdeal.Facts] : Prop :=
  ∀ (m : (ℓ : Loc Cert.CctxPartIdeal.nD Cert.CctxPartIdeal.τ Cert.CctxPartIdeal.sig) → Buf (Elt Ideal) ℓ) (g : Dev Cert.CctxPartIdeal.nD → PrngReg), Pre_CctxPartIdeal m →
    θ_run (Cert.CctxPartIdeal.defs (F := Ideal)) (onTc (τ := Cert.CctxPartIdeal.τ) (Cert.CctxPartIdeal.main (F := Ideal))) ⟨m, fun _ => 0, g⟩ (fun r => (∀ c : Dev Cert.CctxPartIdeal.nD,
      r.2.mem ((c.tc : Thread Cert.CctxPartIdeal.nD Cert.CctxPartIdeal.τ).loc Cert.CctxPartIdeal.main_arg0) = m ((c.tc : Thread Cert.CctxPartIdeal.nD Cert.CctxPartIdeal.τ).loc Cert.CctxPartIdeal.main_arg0)
      ∧ r.2.mem ((c.tc : Thread Cert.CctxPartIdeal.nD Cert.CctxPartIdeal.τ).loc Cert.CctxPartIdeal.main_arg1) = m ((c.tc : Thread Cert.CctxPartIdeal.nD Cert.CctxPartIdeal.τ).loc Cert.CctxPartIdeal.main_arg1))
      ∧ r.2.sem = fun _ => 0)

def quiescent_CctxPartRefIdeal [hCctxPartRefIdeal : Cert.CctxPartRefIdeal.Facts] : Prop :=
  ∀ (m : (ℓ : Loc Cert.CctxPartRefIdeal.nD Cert.CctxPartRefIdeal.τ Cert.CctxPartRefIdeal.sig) → Buf (Elt Ideal) ℓ) (g : Dev Cert.CctxPartRefIdeal.nD → PrngReg), Pre_CctxPartRefIdeal m →
    θ_run (Cert.CctxPartRefIdeal.defs (F := Ideal)) (onTc (τ := Cert.CctxPartRefIdeal.τ) (Cert.CctxPartRefIdeal.main (F := Ideal))) ⟨m, fun _ => 0, g⟩ (fun r => (∀ c : Dev Cert.CctxPartRefIdeal.nD,
      r.2.mem ((c.tc : Thread Cert.CctxPartRefIdeal.nD Cert.CctxPartRefIdeal.τ).loc Cert.CctxPartRefIdeal.main_arg0) = m ((c.tc : Thread Cert.CctxPartRefIdeal.nD Cert.CctxPartRefIdeal.τ).loc Cert.CctxPartRefIdeal.main_arg0)
      ∧ r.2.mem ((c.tc : Thread Cert.CctxPartRefIdeal.nD Cert.CctxPartRefIdeal.τ).loc Cert.CctxPartRefIdeal.main_arg1) = m ((c.tc : Thread Cert.CctxPartRefIdeal.nD Cert.CctxPartRefIdeal.τ).loc Cert.CctxPartRefIdeal.main_arg1))
      ∧ r.2.sem = fun _ => 0)

def quiescent_ModF [hModF : Cert.ModF.Facts] : Prop :=
  ∀ (m : (ℓ : Loc Cert.ModF.nD Cert.ModF.τ Cert.ModF.sig) → Buf (Elt Bits) ℓ) (g : Dev Cert.ModF.nD → PrngReg), Pre_ModF m →
    θ_run (Cert.ModF.defs (F := Bits)) (onTc (τ := Cert.ModF.τ) (Cert.ModF.main (F := Bits))) ⟨m, fun _ => 0, g⟩ (fun r => (∀ c : Dev Cert.ModF.nD,
      r.2.mem ((c.tc : Thread Cert.ModF.nD Cert.ModF.τ).loc Cert.ModF.main_arg0) = m ((c.tc : Thread Cert.ModF.nD Cert.ModF.τ).loc Cert.ModF.main_arg0)
      ∧ r.2.mem ((c.tc : Thread Cert.ModF.nD Cert.ModF.τ).loc Cert.ModF.main_arg1) = m ((c.tc : Thread Cert.ModF.nD Cert.ModF.τ).loc Cert.ModF.main_arg1)
      ∧ r.2.mem ((c.tc : Thread Cert.ModF.nD Cert.ModF.τ).loc Cert.ModF.main_arg2) = m ((c.tc : Thread Cert.ModF.nD Cert.ModF.τ).loc Cert.ModF.main_arg2)
      ∧ r.2.mem ((c.tc : Thread Cert.ModF.nD Cert.ModF.τ).loc Cert.ModF.main_arg3) = m ((c.tc : Thread Cert.ModF.nD Cert.ModF.τ).loc Cert.ModF.main_arg3))
      ∧ r.2.sem = fun _ => 0)

def quiescent_ModFIdeal [hModFIdeal : Cert.ModFIdeal.Facts] : Prop :=
  ∀ (m : (ℓ : Loc Cert.ModFIdeal.nD Cert.ModFIdeal.τ Cert.ModFIdeal.sig) → Buf (Elt Ideal) ℓ) (g : Dev Cert.ModFIdeal.nD → PrngReg), Pre_ModFIdeal m →
    θ_run (Cert.ModFIdeal.defs (F := Ideal)) (onTc (τ := Cert.ModFIdeal.τ) (Cert.ModFIdeal.main (F := Ideal))) ⟨m, fun _ => 0, g⟩ (fun r => (∀ c : Dev Cert.ModFIdeal.nD,
      r.2.mem ((c.tc : Thread Cert.ModFIdeal.nD Cert.ModFIdeal.τ).loc Cert.ModFIdeal.main_arg0) = m ((c.tc : Thread Cert.ModFIdeal.nD Cert.ModFIdeal.τ).loc Cert.ModFIdeal.main_arg0)
      ∧ r.2.mem ((c.tc : Thread Cert.ModFIdeal.nD Cert.ModFIdeal.τ).loc Cert.ModFIdeal.main_arg1) = m ((c.tc : Thread Cert.ModFIdeal.nD Cert.ModFIdeal.τ).loc Cert.ModFIdeal.main_arg1)
      ∧ r.2.mem ((c.tc : Thread Cert.ModFIdeal.nD Cert.ModFIdeal.τ).loc Cert.ModFIdeal.main_arg2) = m ((c.tc : Thread Cert.ModFIdeal.nD Cert.ModFIdeal.τ).loc Cert.ModFIdeal.main_arg2)
      ∧ r.2.mem ((c.tc : Thread Cert.ModFIdeal.nD Cert.ModFIdeal.τ).loc Cert.ModFIdeal.main_arg3) = m ((c.tc : Thread Cert.ModFIdeal.nD Cert.ModFIdeal.τ).loc Cert.ModFIdeal.main_arg3))
      ∧ r.2.sem = fun _ => 0)

def quiescent_ModFRefIdeal [hModFRefIdeal : Cert.ModFRefIdeal.Facts] : Prop :=
  ∀ (m : (ℓ : Loc Cert.ModFRefIdeal.nD Cert.ModFRefIdeal.τ Cert.ModFRefIdeal.sig) → Buf (Elt Ideal) ℓ) (g : Dev Cert.ModFRefIdeal.nD → PrngReg), Pre_ModFRefIdeal m →
    θ_run (Cert.ModFRefIdeal.defs (F := Ideal)) (onTc (τ := Cert.ModFRefIdeal.τ) (Cert.ModFRefIdeal.main (F := Ideal))) ⟨m, fun _ => 0, g⟩ (fun r => (∀ c : Dev Cert.ModFRefIdeal.nD,
      r.2.mem ((c.tc : Thread Cert.ModFRefIdeal.nD Cert.ModFRefIdeal.τ).loc Cert.ModFRefIdeal.main_arg0) = m ((c.tc : Thread Cert.ModFRefIdeal.nD Cert.ModFRefIdeal.τ).loc Cert.ModFRefIdeal.main_arg0)
      ∧ r.2.mem ((c.tc : Thread Cert.ModFRefIdeal.nD Cert.ModFRefIdeal.τ).loc Cert.ModFRefIdeal.main_arg1) = m ((c.tc : Thread Cert.ModFRefIdeal.nD Cert.ModFRefIdeal.τ).loc Cert.ModFRefIdeal.main_arg1)
      ∧ r.2.mem ((c.tc : Thread Cert.ModFRefIdeal.nD Cert.ModFRefIdeal.τ).loc Cert.ModFRefIdeal.main_arg2) = m ((c.tc : Thread Cert.ModFRefIdeal.nD Cert.ModFRefIdeal.τ).loc Cert.ModFRefIdeal.main_arg2)
      ∧ r.2.mem ((c.tc : Thread Cert.ModFRefIdeal.nD Cert.ModFRefIdeal.τ).loc Cert.ModFRefIdeal.main_arg3) = m ((c.tc : Thread Cert.ModFRefIdeal.nD Cert.ModFRefIdeal.τ).loc Cert.ModFRefIdeal.main_arg3))
      ∧ r.2.sem = fun _ => 0)

def quiescent_MRep [hMRep : Cert.MRep.Facts] : Prop :=
  ∀ (m : (ℓ : Loc Cert.MRep.nD Cert.MRep.τ Cert.MRep.sig) → Buf (Elt Bits) ℓ) (g : Dev Cert.MRep.nD → PrngReg), Pre_MRep m →
    θ_run (Cert.MRep.defs (F := Bits)) (onTc (τ := Cert.MRep.τ) (Cert.MRep.main (F := Bits))) ⟨m, fun _ => 0, g⟩ (fun r => (∀ c : Dev Cert.MRep.nD,
      r.2.mem ((c.tc : Thread Cert.MRep.nD Cert.MRep.τ).loc Cert.MRep.main_arg0) = m ((c.tc : Thread Cert.MRep.nD Cert.MRep.τ).loc Cert.MRep.main_arg0)
      ∧ r.2.mem ((c.tc : Thread Cert.MRep.nD Cert.MRep.τ).loc Cert.MRep.main_arg1) = m ((c.tc : Thread Cert.MRep.nD Cert.MRep.τ).loc Cert.MRep.main_arg1)
      ∧ r.2.mem ((c.tc : Thread Cert.MRep.nD Cert.MRep.τ).loc Cert.MRep.main_arg2) = m ((c.tc : Thread Cert.MRep.nD Cert.MRep.τ).loc Cert.MRep.main_arg2)
      ∧ r.2.mem ((c.tc : Thread Cert.MRep.nD Cert.MRep.τ).loc Cert.MRep.main_arg3) = m ((c.tc : Thread Cert.MRep.nD Cert.MRep.τ).loc Cert.MRep.main_arg3)
      ∧ r.2.mem ((c.tc : Thread Cert.MRep.nD Cert.MRep.τ).loc Cert.MRep.main_arg4) = m ((c.tc : Thread Cert.MRep.nD Cert.MRep.τ).loc Cert.MRep.main_arg4)
      ∧ r.2.mem ((c.tc : Thread Cert.MRep.nD Cert.MRep.τ).loc Cert.MRep.main_arg5) = m ((c.tc : Thread Cert.MRep.nD Cert.MRep.τ).loc Cert.MRep.main_arg5)
      ∧ r.2.mem ((c.tc : Thread Cert.MRep.nD Cert.MRep.τ).loc Cert.MRep.main_arg6) = m ((c.tc : Thread Cert.MRep.nD Cert.MRep.τ).loc Cert.MRep.main_arg6)
      ∧ r.2.mem ((c.tc : Thread Cert.MRep.nD Cert.MRep.τ).loc Cert.MRep.main_arg7) = m ((c.tc : Thread Cert.MRep.nD Cert.MRep.τ).loc Cert.MRep.main_arg7)
      ∧ r.2.mem ((c.tc : Thread Cert.MRep.nD Cert.MRep.τ).loc Cert.MRep.main_arg8) = m ((c.tc : Thread Cert.MRep.nD Cert.MRep.τ).loc Cert.MRep.main_arg8)
      ∧ r.2.mem ((c.tc : Thread Cert.MRep.nD Cert.MRep.τ).loc Cert.MRep.main_arg9) = m ((c.tc : Thread Cert.MRep.nD Cert.MRep.τ).loc Cert.MRep.main_arg9)
      ∧ r.2.mem ((c.tc : Thread Cert.MRep.nD Cert.MRep.τ).loc Cert.MRep.main_arg10) = m ((c.tc : Thread Cert.MRep.nD Cert.MRep.τ).loc Cert.MRep.main_arg10)
      ∧ r.2.mem ((c.tc : Thread Cert.MRep.nD Cert.MRep.τ).loc Cert.MRep.main_arg11) = m ((c.tc : Thread Cert.MRep.nD Cert.MRep.τ).loc Cert.MRep.main_arg11))
      ∧ r.2.sem = fun _ => 0)

def quiescent_MRepIdeal [hMRepIdeal : Cert.MRepIdeal.Facts] : Prop :=
  ∀ (m : (ℓ : Loc Cert.MRepIdeal.nD Cert.MRepIdeal.τ Cert.MRepIdeal.sig) → Buf (Elt Ideal) ℓ) (g : Dev Cert.MRepIdeal.nD → PrngReg), Pre_MRepIdeal m →
    θ_run (Cert.MRepIdeal.defs (F := Ideal)) (onTc (τ := Cert.MRepIdeal.τ) (Cert.MRepIdeal.main (F := Ideal))) ⟨m, fun _ => 0, g⟩ (fun r => (∀ c : Dev Cert.MRepIdeal.nD,
      r.2.mem ((c.tc : Thread Cert.MRepIdeal.nD Cert.MRepIdeal.τ).loc Cert.MRepIdeal.main_arg0) = m ((c.tc : Thread Cert.MRepIdeal.nD Cert.MRepIdeal.τ).loc Cert.MRepIdeal.main_arg0)
      ∧ r.2.mem ((c.tc : Thread Cert.MRepIdeal.nD Cert.MRepIdeal.τ).loc Cert.MRepIdeal.main_arg1) = m ((c.tc : Thread Cert.MRepIdeal.nD Cert.MRepIdeal.τ).loc Cert.MRepIdeal.main_arg1)
      ∧ r.2.mem ((c.tc : Thread Cert.MRepIdeal.nD Cert.MRepIdeal.τ).loc Cert.MRepIdeal.main_arg2) = m ((c.tc : Thread Cert.MRepIdeal.nD Cert.MRepIdeal.τ).loc Cert.MRepIdeal.main_arg2)
      ∧ r.2.mem ((c.tc : Thread Cert.MRepIdeal.nD Cert.MRepIdeal.τ).loc Cert.MRepIdeal.main_arg3) = m ((c.tc : Thread Cert.MRepIdeal.nD Cert.MRepIdeal.τ).loc Cert.MRepIdeal.main_arg3)
      ∧ r.2.mem ((c.tc : Thread Cert.MRepIdeal.nD Cert.MRepIdeal.τ).loc Cert.MRepIdeal.main_arg4) = m ((c.tc : Thread Cert.MRepIdeal.nD Cert.MRepIdeal.τ).loc Cert.MRepIdeal.main_arg4)
      ∧ r.2.mem ((c.tc : Thread Cert.MRepIdeal.nD Cert.MRepIdeal.τ).loc Cert.MRepIdeal.main_arg5) = m ((c.tc : Thread Cert.MRepIdeal.nD Cert.MRepIdeal.τ).loc Cert.MRepIdeal.main_arg5)
      ∧ r.2.mem ((c.tc : Thread Cert.MRepIdeal.nD Cert.MRepIdeal.τ).loc Cert.MRepIdeal.main_arg6) = m ((c.tc : Thread Cert.MRepIdeal.nD Cert.MRepIdeal.τ).loc Cert.MRepIdeal.main_arg6)
      ∧ r.2.mem ((c.tc : Thread Cert.MRepIdeal.nD Cert.MRepIdeal.τ).loc Cert.MRepIdeal.main_arg7) = m ((c.tc : Thread Cert.MRepIdeal.nD Cert.MRepIdeal.τ).loc Cert.MRepIdeal.main_arg7)
      ∧ r.2.mem ((c.tc : Thread Cert.MRepIdeal.nD Cert.MRepIdeal.τ).loc Cert.MRepIdeal.main_arg8) = m ((c.tc : Thread Cert.MRepIdeal.nD Cert.MRepIdeal.τ).loc Cert.MRepIdeal.main_arg8)
      ∧ r.2.mem ((c.tc : Thread Cert.MRepIdeal.nD Cert.MRepIdeal.τ).loc Cert.MRepIdeal.main_arg9) = m ((c.tc : Thread Cert.MRepIdeal.nD Cert.MRepIdeal.τ).loc Cert.MRepIdeal.main_arg9)
      ∧ r.2.mem ((c.tc : Thread Cert.MRepIdeal.nD Cert.MRepIdeal.τ).loc Cert.MRepIdeal.main_arg10) = m ((c.tc : Thread Cert.MRepIdeal.nD Cert.MRepIdeal.τ).loc Cert.MRepIdeal.main_arg10)
      ∧ r.2.mem ((c.tc : Thread Cert.MRepIdeal.nD Cert.MRepIdeal.τ).loc Cert.MRepIdeal.main_arg11) = m ((c.tc : Thread Cert.MRepIdeal.nD Cert.MRepIdeal.τ).loc Cert.MRepIdeal.main_arg11))
      ∧ r.2.sem = fun _ => 0)

def quiescent_MRepRefIdeal [hMRepRefIdeal : Cert.MRepRefIdeal.Facts] : Prop :=
  ∀ (m : (ℓ : Loc Cert.MRepRefIdeal.nD Cert.MRepRefIdeal.τ Cert.MRepRefIdeal.sig) → Buf (Elt Ideal) ℓ) (g : Dev Cert.MRepRefIdeal.nD → PrngReg), Pre_MRepRefIdeal m →
    θ_run (Cert.MRepRefIdeal.defs (F := Ideal)) (onTc (τ := Cert.MRepRefIdeal.τ) (Cert.MRepRefIdeal.main (F := Ideal))) ⟨m, fun _ => 0, g⟩ (fun r => (∀ c : Dev Cert.MRepRefIdeal.nD,
      r.2.mem ((c.tc : Thread Cert.MRepRefIdeal.nD Cert.MRepRefIdeal.τ).loc Cert.MRepRefIdeal.main_arg0) = m ((c.tc : Thread Cert.MRepRefIdeal.nD Cert.MRepRefIdeal.τ).loc Cert.MRepRefIdeal.main_arg0)
      ∧ r.2.mem ((c.tc : Thread Cert.MRepRefIdeal.nD Cert.MRepRefIdeal.τ).loc Cert.MRepRefIdeal.main_arg1) = m ((c.tc : Thread Cert.MRepRefIdeal.nD Cert.MRepRefIdeal.τ).loc Cert.MRepRefIdeal.main_arg1)
      ∧ r.2.mem ((c.tc : Thread Cert.MRepRefIdeal.nD Cert.MRepRefIdeal.τ).loc Cert.MRepRefIdeal.main_arg2) = m ((c.tc : Thread Cert.MRepRefIdeal.nD Cert.MRepRefIdeal.τ).loc Cert.MRepRefIdeal.main_arg2)
      ∧ r.2.mem ((c.tc : Thread Cert.MRepRefIdeal.nD Cert.MRepRefIdeal.τ).loc Cert.MRepRefIdeal.main_arg3) = m ((c.tc : Thread Cert.MRepRefIdeal.nD Cert.MRepRefIdeal.τ).loc Cert.MRepRefIdeal.main_arg3)
      ∧ r.2.mem ((c.tc : Thread Cert.MRepRefIdeal.nD Cert.MRepRefIdeal.τ).loc Cert.MRepRefIdeal.main_arg4) = m ((c.tc : Thread Cert.MRepRefIdeal.nD Cert.MRepRefIdeal.τ).loc Cert.MRepRefIdeal.main_arg4)
      ∧ r.2.mem ((c.tc : Thread Cert.MRepRefIdeal.nD Cert.MRepRefIdeal.τ).loc Cert.MRepRefIdeal.main_arg5) = m ((c.tc : Thread Cert.MRepRefIdeal.nD Cert.MRepRefIdeal.τ).loc Cert.MRepRefIdeal.main_arg5)
      ∧ r.2.mem ((c.tc : Thread Cert.MRepRefIdeal.nD Cert.MRepRefIdeal.τ).loc Cert.MRepRefIdeal.main_arg6) = m ((c.tc : Thread Cert.MRepRefIdeal.nD Cert.MRepRefIdeal.τ).loc Cert.MRepRefIdeal.main_arg6)
      ∧ r.2.mem ((c.tc : Thread Cert.MRepRefIdeal.nD Cert.MRepRefIdeal.τ).loc Cert.MRepRefIdeal.main_arg7) = m ((c.tc : Thread Cert.MRepRefIdeal.nD Cert.MRepRefIdeal.τ).loc Cert.MRepRefIdeal.main_arg7)
      ∧ r.2.mem ((c.tc : Thread Cert.MRepRefIdeal.nD Cert.MRepRefIdeal.τ).loc Cert.MRepRefIdeal.main_arg8) = m ((c.tc : Thread Cert.MRepRefIdeal.nD Cert.MRepRefIdeal.τ).loc Cert.MRepRefIdeal.main_arg8)
      ∧ r.2.mem ((c.tc : Thread Cert.MRepRefIdeal.nD Cert.MRepRefIdeal.τ).loc Cert.MRepRefIdeal.main_arg9) = m ((c.tc : Thread Cert.MRepRefIdeal.nD Cert.MRepRefIdeal.τ).loc Cert.MRepRefIdeal.main_arg9)
      ∧ r.2.mem ((c.tc : Thread Cert.MRepRefIdeal.nD Cert.MRepRefIdeal.τ).loc Cert.MRepRefIdeal.main_arg10) = m ((c.tc : Thread Cert.MRepRefIdeal.nD Cert.MRepRefIdeal.τ).loc Cert.MRepRefIdeal.main_arg10)
      ∧ r.2.mem ((c.tc : Thread Cert.MRepRefIdeal.nD Cert.MRepRefIdeal.τ).loc Cert.MRepRefIdeal.main_arg11) = m ((c.tc : Thread Cert.MRepRefIdeal.nD Cert.MRepRefIdeal.τ).loc Cert.MRepRefIdeal.main_arg11))
      ∧ r.2.sem = fun _ => 0)

def quiescent_InW1 [hInW1 : Cert.InW1.Facts] : Prop :=
  ∀ (m : (ℓ : Loc Cert.InW1.nD Cert.InW1.τ Cert.InW1.sig) → Buf (Elt Bits) ℓ) (g : Dev Cert.InW1.nD → PrngReg), Pre_InW1 m →
    θ_run (Cert.InW1.defs (F := Bits)) (onTc (τ := Cert.InW1.τ) (Cert.InW1.main (F := Bits))) ⟨m, fun _ => 0, g⟩ (fun r => (∀ c : Dev Cert.InW1.nD,
      r.2.mem ((c.tc : Thread Cert.InW1.nD Cert.InW1.τ).loc Cert.InW1.main_arg0) = m ((c.tc : Thread Cert.InW1.nD Cert.InW1.τ).loc Cert.InW1.main_arg0)
      ∧ r.2.mem ((c.tc : Thread Cert.InW1.nD Cert.InW1.τ).loc Cert.InW1.main_arg1) = m ((c.tc : Thread Cert.InW1.nD Cert.InW1.τ).loc Cert.InW1.main_arg1)
      ∧ r.2.mem ((c.tc : Thread Cert.InW1.nD Cert.InW1.τ).loc Cert.InW1.main_arg2) = m ((c.tc : Thread Cert.InW1.nD Cert.InW1.τ).loc Cert.InW1.main_arg2)
      ∧ r.2.mem ((c.tc : Thread Cert.InW1.nD Cert.InW1.τ).loc Cert.InW1.main_arg3) = m ((c.tc : Thread Cert.InW1.nD Cert.InW1.τ).loc Cert.InW1.main_arg3)
      ∧ r.2.mem ((c.tc : Thread Cert.InW1.nD Cert.InW1.τ).loc Cert.InW1.main_arg4) = m ((c.tc : Thread Cert.InW1.nD Cert.InW1.τ).loc Cert.InW1.main_arg4)
      ∧ r.2.mem ((c.tc : Thread Cert.InW1.nD Cert.InW1.τ).loc Cert.InW1.main_arg5) = m ((c.tc : Thread Cert.InW1.nD Cert.InW1.τ).loc Cert.InW1.main_arg5))
      ∧ r.2.sem = fun _ => 0)

def quiescent_InW1Ideal [hInW1Ideal : Cert.InW1Ideal.Facts] : Prop :=
  ∀ (m : (ℓ : Loc Cert.InW1Ideal.nD Cert.InW1Ideal.τ Cert.InW1Ideal.sig) → Buf (Elt Ideal) ℓ) (g : Dev Cert.InW1Ideal.nD → PrngReg), Pre_InW1Ideal m →
    θ_run (Cert.InW1Ideal.defs (F := Ideal)) (onTc (τ := Cert.InW1Ideal.τ) (Cert.InW1Ideal.main (F := Ideal))) ⟨m, fun _ => 0, g⟩ (fun r => (∀ c : Dev Cert.InW1Ideal.nD,
      r.2.mem ((c.tc : Thread Cert.InW1Ideal.nD Cert.InW1Ideal.τ).loc Cert.InW1Ideal.main_arg0) = m ((c.tc : Thread Cert.InW1Ideal.nD Cert.InW1Ideal.τ).loc Cert.InW1Ideal.main_arg0)
      ∧ r.2.mem ((c.tc : Thread Cert.InW1Ideal.nD Cert.InW1Ideal.τ).loc Cert.InW1Ideal.main_arg1) = m ((c.tc : Thread Cert.InW1Ideal.nD Cert.InW1Ideal.τ).loc Cert.InW1Ideal.main_arg1)
      ∧ r.2.mem ((c.tc : Thread Cert.InW1Ideal.nD Cert.InW1Ideal.τ).loc Cert.InW1Ideal.main_arg2) = m ((c.tc : Thread Cert.InW1Ideal.nD Cert.InW1Ideal.τ).loc Cert.InW1Ideal.main_arg2)
      ∧ r.2.mem ((c.tc : Thread Cert.InW1Ideal.nD Cert.InW1Ideal.τ).loc Cert.InW1Ideal.main_arg3) = m ((c.tc : Thread Cert.InW1Ideal.nD Cert.InW1Ideal.τ).loc Cert.InW1Ideal.main_arg3)
      ∧ r.2.mem ((c.tc : Thread Cert.InW1Ideal.nD Cert.InW1Ideal.τ).loc Cert.InW1Ideal.main_arg4) = m ((c.tc : Thread Cert.InW1Ideal.nD Cert.InW1Ideal.τ).loc Cert.InW1Ideal.main_arg4)
      ∧ r.2.mem ((c.tc : Thread Cert.InW1Ideal.nD Cert.InW1Ideal.τ).loc Cert.InW1Ideal.main_arg5) = m ((c.tc : Thread Cert.InW1Ideal.nD Cert.InW1Ideal.τ).loc Cert.InW1Ideal.main_arg5))
      ∧ r.2.sem = fun _ => 0)

def quiescent_InW1RefIdeal [hInW1RefIdeal : Cert.InW1RefIdeal.Facts] : Prop :=
  ∀ (m : (ℓ : Loc Cert.InW1RefIdeal.nD Cert.InW1RefIdeal.τ Cert.InW1RefIdeal.sig) → Buf (Elt Ideal) ℓ) (g : Dev Cert.InW1RefIdeal.nD → PrngReg), Pre_InW1RefIdeal m →
    θ_run (Cert.InW1RefIdeal.defs (F := Ideal)) (onTc (τ := Cert.InW1RefIdeal.τ) (Cert.InW1RefIdeal.main (F := Ideal))) ⟨m, fun _ => 0, g⟩ (fun r => (∀ c : Dev Cert.InW1RefIdeal.nD,
      r.2.mem ((c.tc : Thread Cert.InW1RefIdeal.nD Cert.InW1RefIdeal.τ).loc Cert.InW1RefIdeal.main_arg0) = m ((c.tc : Thread Cert.InW1RefIdeal.nD Cert.InW1RefIdeal.τ).loc Cert.InW1RefIdeal.main_arg0)
      ∧ r.2.mem ((c.tc : Thread Cert.InW1RefIdeal.nD Cert.InW1RefIdeal.τ).loc Cert.InW1RefIdeal.main_arg1) = m ((c.tc : Thread Cert.InW1RefIdeal.nD Cert.InW1RefIdeal.τ).loc Cert.InW1RefIdeal.main_arg1)
      ∧ r.2.mem ((c.tc : Thread Cert.InW1RefIdeal.nD Cert.InW1RefIdeal.τ).loc Cert.InW1RefIdeal.main_arg2) = m ((c.tc : Thread Cert.InW1RefIdeal.nD Cert.InW1RefIdeal.τ).loc Cert.InW1RefIdeal.main_arg2)
      ∧ r.2.mem ((c.tc : Thread Cert.InW1RefIdeal.nD Cert.InW1RefIdeal.τ).loc Cert.InW1RefIdeal.main_arg3) = m ((c.tc : Thread Cert.InW1RefIdeal.nD Cert.InW1RefIdeal.τ).loc Cert.InW1RefIdeal.main_arg3)
      ∧ r.2.mem ((c.tc : Thread Cert.InW1RefIdeal.nD Cert.InW1RefIdeal.τ).loc Cert.InW1RefIdeal.main_arg4) = m ((c.tc : Thread Cert.InW1RefIdeal.nD Cert.InW1RefIdeal.τ).loc Cert.InW1RefIdeal.main_arg4)
      ∧ r.2.mem ((c.tc : Thread Cert.InW1RefIdeal.nD Cert.InW1RefIdeal.τ).loc Cert.InW1RefIdeal.main_arg5) = m ((c.tc : Thread Cert.InW1RefIdeal.nD Cert.InW1RefIdeal.τ).loc Cert.InW1RefIdeal.main_arg5))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2)
      ∧ r.2.mem ((c.tc : Thread Cert.InF.nD Cert.InF.τ).loc Cert.InF.main_arg3) = m ((c.tc : Thread Cert.InF.nD Cert.InF.τ).loc Cert.InF.main_arg3))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2)
      ∧ r.2.mem ((c.tc : Thread Cert.InFIdeal.nD Cert.InFIdeal.τ).loc Cert.InFIdeal.main_arg3) = m ((c.tc : Thread Cert.InFIdeal.nD Cert.InFIdeal.τ).loc Cert.InFIdeal.main_arg3))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2)
      ∧ r.2.mem ((c.tc : Thread Cert.InFRefIdeal.nD Cert.InFRefIdeal.τ).loc Cert.InFRefIdeal.main_arg3) = m ((c.tc : Thread Cert.InFRefIdeal.nD Cert.InFRefIdeal.τ).loc Cert.InFRefIdeal.main_arg3))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0)
      ∧ r.2.mem ((c.tc : Thread Cert.PoolF.nD Cert.PoolF.τ).loc Cert.PoolF.main_arg1) = m ((c.tc : Thread Cert.PoolF.nD Cert.PoolF.τ).loc Cert.PoolF.main_arg1)
      ∧ r.2.mem ((c.tc : Thread Cert.PoolF.nD Cert.PoolF.τ).loc Cert.PoolF.main_arg2) = m ((c.tc : Thread Cert.PoolF.nD Cert.PoolF.τ).loc Cert.PoolF.main_arg2))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
      ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
      ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0)
      ∧ r.2.mem ((c.tc : Thread Cert.PoolFRefIdeal.nD Cert.PoolFRefIdeal.τ).loc Cert.PoolFRefIdeal.main_arg1) = m ((c.tc : Thread Cert.PoolFRefIdeal.nD Cert.PoolFRefIdeal.τ).loc Cert.PoolFRefIdeal.main_arg1)
      ∧ r.2.mem ((c.tc : Thread Cert.PoolFRefIdeal.nD Cert.PoolFRefIdeal.τ).loc Cert.PoolFRefIdeal.main_arg2) = m ((c.tc : Thread Cert.PoolFRefIdeal.nD Cert.PoolFRefIdeal.τ).loc Cert.PoolFRefIdeal.main_arg2))
      ∧ r.2.sem = fun _ => 0)

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)
      ∧ m' ((c.tc : Thread Cert.InXRefIdeal.nD Cert.InXRefIdeal.τ).loc Cert.InXRefIdeal.main_arg5) = m ((c.tc : Thread Cert.InXIdeal.nD Cert.InXIdeal.τ).loc Cert.InXIdeal.main_arg5)
      ∧ m' ((c.tc : Thread Cert.InXRefIdeal.nD Cert.InXRefIdeal.τ).loc Cert.InXRefIdeal.main_arg6) = m ((c.tc : Thread Cert.InXIdeal.nD Cert.InXIdeal.τ).loc Cert.InXIdeal.main_arg6)) →
    ∃ (v0 : (c : Dev Cert.InXIdeal.nD) → Buf (Elt Ideal) ((c.tc : Thread Cert.InXIdeal.nD Cert.InXIdeal.τ).loc Cert.InXIdeal.main_v7_0)) (v1 : (c : Dev Cert.InXIdeal.nD) → Buf (Elt Ideal) ((c.tc : Thread Cert.InXIdeal.nD Cert.InXIdeal.τ).loc Cert.InXIdeal.main_v7_1)) (v2 : (c : Dev Cert.InXIdeal.nD) → Buf (Elt Ideal) ((c.tc : Thread Cert.InXIdeal.nD Cert.InXIdeal.τ).loc Cert.InXIdeal.main_v7_2)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v7_0) = v0 c
          ∧ r.2.mem ((c.tc : Thread Cert.InXIdeal.nD Cert.InXIdeal.τ).loc Cert.InXIdeal.main_v7_1) = v1 c
          ∧ r.2.mem ((c.tc : Thread Cert.InXIdeal.nD Cert.InXIdeal.τ).loc Cert.InXIdeal.main_v7_2) = v2 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
          ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
          ∧ r.2.mem ((c.tc : Thread Cert.InXIdeal.nD Cert.InXIdeal.τ).loc Cert.InXIdeal.main_arg6) = m ((c.tc : Thread Cert.InXIdeal.nD Cert.InXIdeal.τ).loc Cert.InXIdeal.main_arg6))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v18) = v0 c
          ∧ r.2.mem ((c.tc : Thread Cert.InXRefIdeal.nD Cert.InXRefIdeal.τ).loc Cert.InXRefIdeal.main_v15) = v1 c
          ∧ r.2.mem ((c.tc : Thread Cert.InXRefIdeal.nD Cert.InXRefIdeal.τ).loc Cert.InXRefIdeal.main_v12) = v2 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4)
          ∧ r.2.mem ((c.tc : Thread Cert.InXRefIdeal.nD Cert.InXRefIdeal.τ).loc Cert.InXRefIdeal.main_arg5) = m' ((c.tc : Thread Cert.InXRefIdeal.nD Cert.InXRefIdeal.τ).loc Cert.InXRefIdeal.main_arg5)
          ∧ r.2.mem ((c.tc : Thread Cert.InXRefIdeal.nD Cert.InXRefIdeal.τ).loc Cert.InXRefIdeal.main_arg6) = m' ((c.tc : Thread Cert.InXRefIdeal.nD Cert.InXRefIdeal.τ).loc Cert.InXRefIdeal.main_arg6))

def preserves_LossFwd_LossFwdIdeal : Prop :=
  True

def algebraic_LossFwdIdeal_LossFwdRefIdeal [hLossFwdIdeal : Cert.LossFwdIdeal.Facts] [hLossFwdRefIdeal : Cert.LossFwdRefIdeal.Facts] : Prop :=
  ∀ (m : (ℓ : Loc Cert.LossFwdIdeal.nD Cert.LossFwdIdeal.τ Cert.LossFwdIdeal.sig) → Buf (Elt Ideal) ℓ) (g : Dev Cert.LossFwdIdeal.nD → PrngReg)
    (m' : (ℓ : Loc Cert.LossFwdRefIdeal.nD Cert.LossFwdRefIdeal.τ Cert.LossFwdRefIdeal.sig) → Buf (Elt Ideal) ℓ) (g' : Dev Cert.LossFwdRefIdeal.nD → PrngReg), Pre_LossFwdIdeal m →
    (∀ c : Dev Cert.LossFwdIdeal.nD,
      m' ((c.tc : Thread Cert.LossFwdRefIdeal.nD Cert.LossFwdRefIdeal.τ).loc Cert.LossFwdRefIdeal.main_arg0) = m ((c.tc : Thread Cert.LossFwdIdeal.nD Cert.LossFwdIdeal.τ).loc Cert.LossFwdIdeal.main_arg0)
      ∧ m' ((c.tc : Thread Cert.LossFwdRefIdeal.nD Cert.LossFwdRefIdeal.τ).loc Cert.LossFwdRefIdeal.main_arg1) = m ((c.tc : Thread Cert.LossFwdIdeal.nD Cert.LossFwdIdeal.τ).loc Cert.LossFwdIdeal.main_arg1)
      ∧ m' ((c.tc : Thread Cert.LossFwdRefIdeal.nD Cert.LossFwdRefIdeal.τ).loc Cert.LossFwdRefIdeal.main_arg2) = m ((c.tc : Thread Cert.LossFwdIdeal.nD Cert.LossFwdIdeal.τ).loc Cert.LossFwdIdeal.main_arg2)
      ∧ m' ((c.tc : Thread Cert.LossFwdRefIdeal.nD Cert.LossFwdRefIdeal.τ).loc Cert.LossFwdRefIdeal.main_arg3) = m ((c.tc : Thread Cert.LossFwdIdeal.nD Cert.LossFwdIdeal.τ).loc Cert.LossFwdIdeal.main_arg3)
      ∧ m' ((c.tc : Thread Cert.LossFwdRefIdeal.nD Cert.LossFwdRefIdeal.τ).loc Cert.LossFwdRefIdeal.main_arg4) = m ((c.tc : Thread Cert.LossFwdIdeal.nD Cert.LossFwdIdeal.τ).loc Cert.LossFwdIdeal.main_arg4)
      ∧ m' ((c.tc : Thread Cert.LossFwdRefIdeal.nD Cert.LossFwdRefIdeal.τ).loc Cert.LossFwdRefIdeal.main_arg5) = m ((c.tc : Thread Cert.LossFwdIdeal.nD Cert.LossFwdIdeal.τ).loc Cert.LossFwdIdeal.main_arg5)
      ∧ m' ((c.tc : Thread Cert.LossFwdRefIdeal.nD Cert.LossFwdRefIdeal.τ).loc Cert.LossFwdRefIdeal.main_arg6) = m ((c.tc : Thread Cert.LossFwdIdeal.nD Cert.LossFwdIdeal.τ).loc Cert.LossFwdIdeal.main_arg6)
      ∧ m' ((c.tc : Thread Cert.LossFwdRefIdeal.nD Cert.LossFwdRefIdeal.τ).loc Cert.LossFwdRefIdeal.main_arg7) = m ((c.tc : Thread Cert.LossFwdIdeal.nD Cert.LossFwdIdeal.τ).loc Cert.LossFwdIdeal.main_arg7)) →
    ∃ (v0 : (c : Dev Cert.LossFwdIdeal.nD) → Buf (Elt Ideal) ((c.tc : Thread Cert.LossFwdIdeal.nD Cert.LossFwdIdeal.τ).loc Cert.LossFwdIdeal.main_v9_0)) (v1 : (c : Dev Cert.LossFwdIdeal.nD) → Buf (Elt Ideal) ((c.tc : Thread Cert.LossFwdIdeal.nD Cert.LossFwdIdeal.τ).loc Cert.LossFwdIdeal.main_v9_1)) (v2 : (c : Dev Cert.LossFwdIdeal.nD) → Buf (Elt Ideal) ((c.tc : Thread Cert.LossFwdIdeal.nD Cert.LossFwdIdeal.τ).loc Cert.LossFwdIdeal.main_v9_2)),
      θ_run (Cert.LossFwdIdeal.defs (F := Ideal)) (onTc (τ := Cert.LossFwdIdeal.τ) (Cert.LossFwdIdeal.main (F := Ideal))) ⟨m, fun _ => 0, g⟩ (fun r => ∀ c : Dev Cert.LossFwdIdeal.nD,
          r.2.mem ((c.tc : Thread Cert.LossFwdIdeal.nD Cert.LossFwdIdeal.τ).loc Cert.LossFwdIdeal.main_v9_0) = v0 c
          ∧ r.2.mem ((c.tc : Thread Cert.LossFwdIdeal.nD Cert.LossFwdIdeal.τ).loc Cert.LossFwdIdeal.main_v9_1) = v1 c
          ∧ r.2.mem ((c.tc : Thread Cert.LossFwdIdeal.nD Cert.LossFwdIdeal.τ).loc Cert.LossFwdIdeal.main_v9_2) = v2 c
          ∧ r.2.mem ((c.tc : Thread Cert.LossFwdIdeal.nD Cert.LossFwdIdeal.τ).loc Cert.LossFwdIdeal.main_arg0) = m ((c.tc : Thread Cert.LossFwdIdeal.nD Cert.LossFwdIdeal.τ).loc Cert.LossFwdIdeal.main_arg0)
          ∧ r.2.mem ((c.tc : Thread Cert.LossFwdIdeal.nD Cert.LossFwdIdeal.τ).loc Cert.LossFwdIdeal.main_arg1) = m ((c.tc : Thread Cert.LossFwdIdeal.nD Cert.LossFwdIdeal.τ).loc Cert.LossFwdIdeal.main_arg1)
          ∧ r.2.mem ((c.tc : Thread Cert.LossFwdIdeal.nD Cert.LossFwdIdeal.τ).loc Cert.LossFwdIdeal.main_arg2) = m ((c.tc : Thread Cert.LossFwdIdeal.nD Cert.LossFwdIdeal.τ).loc Cert.LossFwdIdeal.main_arg2)
          ∧ r.2.mem ((c.tc : Thread Cert.LossFwdIdeal.nD Cert.LossFwdIdeal.τ).loc Cert.LossFwdIdeal.main_arg3) = m ((c.tc : Thread Cert.LossFwdIdeal.nD Cert.LossFwdIdeal.τ).loc Cert.LossFwdIdeal.main_arg3)
          ∧ r.2.mem ((c.tc : Thread Cert.LossFwdIdeal.nD Cert.LossFwdIdeal.τ).loc Cert.LossFwdIdeal.main_arg4) = m ((c.tc : Thread Cert.LossFwdIdeal.nD Cert.LossFwdIdeal.τ).loc Cert.LossFwdIdeal.main_arg4)
          ∧ r.2.mem ((c.tc : Thread Cert.LossFwdIdeal.nD Cert.LossFwdIdeal.τ).loc Cert.LossFwdIdeal.main_arg5) = m ((c.tc : Thread Cert.LossFwdIdeal.nD Cert.LossFwdIdeal.τ).loc Cert.LossFwdIdeal.main_arg5)
          ∧ r.2.mem ((c.tc : Thread Cert.LossFwdIdeal.nD Cert.LossFwdIdeal.τ).loc Cert.LossFwdIdeal.main_arg6) = m ((c.tc : Thread Cert.LossFwdIdeal.nD Cert.LossFwdIdeal.τ).loc Cert.LossFwdIdeal.main_arg6)
          ∧ r.2.mem ((c.tc : Thread Cert.LossFwdIdeal.nD Cert.LossFwdIdeal.τ).loc Cert.LossFwdIdeal.main_arg7) = m ((c.tc : Thread Cert.LossFwdIdeal.nD Cert.LossFwdIdeal.τ).loc Cert.LossFwdIdeal.main_arg7))
      ∧ θ_run (Cert.LossFwdRefIdeal.defs (F := Ideal)) (onTc (τ := Cert.LossFwdRefIdeal.τ) (Cert.LossFwdRefIdeal.main (F := Ideal))) ⟨m', fun _ => 0, g'⟩ (fun r => ∀ c : Dev Cert.LossFwdRefIdeal.nD,
          r.2.mem ((c.tc : Thread Cert.LossFwdRefIdeal.nD Cert.LossFwdRefIdeal.τ).loc Cert.LossFwdRefIdeal.main_v2) = v0 c
          ∧ r.2.mem ((c.tc : Thread Cert.LossFwdRefIdeal.nD Cert.LossFwdRefIdeal.τ).loc Cert.LossFwdRefIdeal.main_v46) = v1 c
          ∧ r.2.mem ((c.tc : Thread Cert.LossFwdRefIdeal.nD Cert.LossFwdRefIdeal.τ).loc Cert.LossFwdRefIdeal.main_v51) = v2 c
          ∧ r.2.mem ((c.tc : Thread Cert.LossFwdRefIdeal.nD Cert.LossFwdRefIdeal.τ).loc Cert.LossFwdRefIdeal.main_arg0) = m' ((c.tc : Thread Cert.LossFwdRefIdeal.nD Cert.LossFwdRefIdeal.τ).loc Cert.LossFwdRefIdeal.main_arg0)
          ∧ r.2.mem ((c.tc : Thread Cert.LossFwdRefIdeal.nD Cert.LossFwdRefIdeal.τ).loc Cert.LossFwdRefIdeal.main_arg1) = m' ((c.tc : Thread Cert.LossFwdRefIdeal.nD Cert.LossFwdRefIdeal.τ).loc Cert.LossFwdRefIdeal.main_arg1)
          ∧ r.2.mem ((c.tc : Thread Cert.LossFwdRefIdeal.nD Cert.LossFwdRefIdeal.τ).loc Cert.LossFwdRefIdeal.main_arg2) = m' ((c.tc : Thread Cert.LossFwdRefIdeal.nD Cert.LossFwdRefIdeal.τ).loc Cert.LossFwdRefIdeal.main_arg2)
          ∧ r.2.mem ((c.tc : Thread Cert.LossFwdRefIdeal.nD Cert.LossFwdRefIdeal.τ).loc Cert.LossFwdRefIdeal.main_arg3) = m' ((c.tc : Thread Cert.LossFwdRefIdeal.nD Cert.LossFwdRefIdeal.τ).loc Cert.LossFwdRefIdeal.main_arg3)
          ∧ r.2.mem ((c.tc : Thread Cert.LossFwdRefIdeal.nD Cert.LossFwdRefIdeal.τ).loc Cert.LossFwdRefIdeal.main_arg4) = m' ((c.tc : Thread Cert.LossFwdRefIdeal.nD Cert.LossFwdRefIdeal.τ).loc Cert.LossFwdRefIdeal.main_arg4)
          ∧ r.2.mem ((c.tc : Thread Cert.LossFwdRefIdeal.nD Cert.LossFwdRefIdeal.τ).loc Cert.LossFwdRefIdeal.main_arg5) = m' ((c.tc : Thread Cert.LossFwdRefIdeal.nD Cert.LossFwdRefIdeal.τ).loc Cert.LossFwdRefIdeal.main_arg5)
          ∧ r.2.mem ((c.tc : Thread Cert.LossFwdRefIdeal.nD Cert.LossFwdRefIdeal.τ).loc Cert.LossFwdRefIdeal.main_arg6) = m' ((c.tc : Thread Cert.LossFwdRefIdeal.nD Cert.LossFwdRefIdeal.τ).loc Cert.LossFwdRefIdeal.main_arg6)
          ∧ r.2.mem ((c.tc : Thread Cert.LossFwdRefIdeal.nD Cert.LossFwdRefIdeal.τ).loc Cert.LossFwdRefIdeal.main_arg7) = m' ((c.tc : Thread Cert.LossFwdRefIdeal.nD Cert.LossFwdRefIdeal.τ).loc Cert.LossFwdRefIdeal.main_arg7))

def preserves_OutBwd_OutBwdIdeal : Prop :=
  True

def algebraic_OutBwdIdeal_OutBwdRefIdeal_pre_finite [hOutBwdIdeal : Cert.OutBwdIdeal.Facts] [hOutBwdRefIdeal : Cert.OutBwdRefIdeal.Facts] [hPre_finite : Cert.Pre_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_finite m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)
      ∧ m' ((c.tc : Thread Cert.OutBwdRefIdeal.nD Cert.OutBwdRefIdeal.τ).loc Cert.OutBwdRefIdeal.main_arg6) = m ((c.tc : Thread Cert.OutBwdIdeal.nD Cert.OutBwdIdeal.τ).loc Cert.OutBwdIdeal.main_arg6)) →
    ∃ (v0 : (c : Dev Cert.OutBwdIdeal.nD) → Buf (Elt Ideal) ((c.tc : Thread Cert.OutBwdIdeal.nD Cert.OutBwdIdeal.τ).loc Cert.OutBwdIdeal.main_v11_0)) (v1 : (c : Dev Cert.OutBwdIdeal.nD) → Buf (Elt Ideal) ((c.tc : Thread Cert.OutBwdIdeal.nD Cert.OutBwdIdeal.τ).loc Cert.OutBwdIdeal.main_v11_1)) (v2 : (c : Dev Cert.OutBwdIdeal.nD) → Buf (Elt Ideal) ((c.tc : Thread Cert.OutBwdIdeal.nD Cert.OutBwdIdeal.τ).loc Cert.OutBwdIdeal.main_v11_2)) (v3 : (c : Dev Cert.OutBwdIdeal.nD) → Buf (Elt Ideal) ((c.tc : Thread Cert.OutBwdIdeal.nD Cert.OutBwdIdeal.τ).loc Cert.OutBwdIdeal.main_v11_3)) (v4 : (c : Dev Cert.OutBwdIdeal.nD) → Buf (Elt Ideal) ((c.tc : Thread Cert.OutBwdIdeal.nD Cert.OutBwdIdeal.τ).loc Cert.OutBwdIdeal.main_v11_4)) (v5 : (c : Dev Cert.OutBwdIdeal.nD) → Buf (Elt Ideal) ((c.tc : Thread Cert.OutBwdIdeal.nD Cert.OutBwdIdeal.τ).loc Cert.OutBwdIdeal.main_v11_5)) (v6 : (c : Dev Cert.OutBwdIdeal.nD) → Buf (Elt Ideal) ((c.tc : Thread Cert.OutBwdIdeal.nD Cert.OutBwdIdeal.τ).loc Cert.OutBwdIdeal.main_v11_6)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v11_0) = v0 c
          ∧ r.2.mem ((c.tc : Thread Cert.OutBwdIdeal.nD Cert.OutBwdIdeal.τ).loc Cert.OutBwdIdeal.main_v11_1) = v1 c
          ∧ r.2.mem ((c.tc : Thread Cert.OutBwdIdeal.nD Cert.OutBwdIdeal.τ).loc Cert.OutBwdIdeal.main_v11_2) = v2 c
          ∧ r.2.mem ((c.tc : Thread Cert.OutBwdIdeal.nD Cert.OutBwdIdeal.τ).loc Cert.OutBwdIdeal.main_v11_3) = v3 c
          ∧ r.2.mem ((c.tc : Thread Cert.OutBwdIdeal.nD Cert.OutBwdIdeal.τ).loc Cert.OutBwdIdeal.main_v11_4) = v4 c
          ∧ r.2.mem ((c.tc : Thread Cert.OutBwdIdeal.nD Cert.OutBwdIdeal.τ).loc Cert.OutBwdIdeal.main_v11_5) = v5 c
          ∧ r.2.mem ((c.tc : Thread Cert.OutBwdIdeal.nD Cert.OutBwdIdeal.τ).loc Cert.OutBwdIdeal.main_v11_6) = v6 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5)
          ∧ r.2.mem ((c.tc : Thread Cert.OutBwdIdeal.nD Cert.OutBwdIdeal.τ).loc Cert.OutBwdIdeal.main_arg6) = m ((c.tc : Thread Cert.OutBwdIdeal.nD Cert.OutBwdIdeal.τ).loc Cert.OutBwdIdeal.main_arg6))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v84) = v0 c
          ∧ r.2.mem ((c.tc : Thread Cert.OutBwdRefIdeal.nD Cert.OutBwdRefIdeal.τ).loc Cert.OutBwdRefIdeal.main_v85) = v1 c
          ∧ r.2.mem ((c.tc : Thread Cert.OutBwdRefIdeal.nD Cert.OutBwdRefIdeal.τ).loc Cert.OutBwdRefIdeal.main_v78) = v2 c
          ∧ r.2.mem ((c.tc : Thread Cert.OutBwdRefIdeal.nD Cert.OutBwdRefIdeal.τ).loc Cert.OutBwdRefIdeal.main_v86) = v3 c
          ∧ r.2.mem ((c.tc : Thread Cert.OutBwdRefIdeal.nD Cert.OutBwdRefIdeal.τ).loc Cert.OutBwdRefIdeal.main_v87) = v4 c
          ∧ r.2.mem ((c.tc : Thread Cert.OutBwdRefIdeal.nD Cert.OutBwdRefIdeal.τ).loc Cert.OutBwdRefIdeal.main_v88) = v5 c
          ∧ r.2.mem ((c.tc : Thread Cert.OutBwdRefIdeal.nD Cert.OutBwdRefIdeal.τ).loc Cert.OutBwdRefIdeal.main_v76) = v6 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5)
          ∧ r.2.mem ((c.tc : Thread Cert.OutBwdRefIdeal.nD Cert.OutBwdRefIdeal.τ).loc Cert.OutBwdRefIdeal.main_arg6) = m' ((c.tc : Thread Cert.OutBwdRefIdeal.nD Cert.OutBwdRefIdeal.τ).loc Cert.OutBwdRefIdeal.main_arg6))

def preserves_LruBwd_LruBwdIdeal : Prop :=
  True

def preserves_PoolMm_PoolMmIdeal : Prop :=
  True

def algebraic_PoolMmIdeal_PoolMmRefIdeal [hPoolMmIdeal : Cert.PoolMmIdeal.Facts] [hPoolMmRefIdeal : Cert.PoolMmRefIdeal.Facts] : Prop :=
  ∀ (m : (ℓ : Loc Cert.PoolMmIdeal.nD Cert.PoolMmIdeal.τ Cert.PoolMmIdeal.sig) → Buf (Elt Ideal) ℓ) (g : Dev Cert.PoolMmIdeal.nD → PrngReg)
    (m' : (ℓ : Loc Cert.PoolMmRefIdeal.nD Cert.PoolMmRefIdeal.τ Cert.PoolMmRefIdeal.sig) → Buf (Elt Ideal) ℓ) (g' : Dev Cert.PoolMmRefIdeal.nD → PrngReg), Pre_PoolMmIdeal m →
    (∀ c : Dev Cert.PoolMmIdeal.nD,
      m' ((c.tc : Thread Cert.PoolMmRefIdeal.nD Cert.PoolMmRefIdeal.τ).loc Cert.PoolMmRefIdeal.main_arg0) = m ((c.tc : Thread Cert.PoolMmIdeal.nD Cert.PoolMmIdeal.τ).loc Cert.PoolMmIdeal.main_arg0)
      ∧ m' ((c.tc : Thread Cert.PoolMmRefIdeal.nD Cert.PoolMmRefIdeal.τ).loc Cert.PoolMmRefIdeal.main_arg1) = m ((c.tc : Thread Cert.PoolMmIdeal.nD Cert.PoolMmIdeal.τ).loc Cert.PoolMmIdeal.main_arg1)
      ∧ m' ((c.tc : Thread Cert.PoolMmRefIdeal.nD Cert.PoolMmRefIdeal.τ).loc Cert.PoolMmRefIdeal.main_arg2) = m ((c.tc : Thread Cert.PoolMmIdeal.nD Cert.PoolMmIdeal.τ).loc Cert.PoolMmIdeal.main_arg2)
      ∧ m' ((c.tc : Thread Cert.PoolMmRefIdeal.nD Cert.PoolMmRefIdeal.τ).loc Cert.PoolMmRefIdeal.main_arg3) = m ((c.tc : Thread Cert.PoolMmIdeal.nD Cert.PoolMmIdeal.τ).loc Cert.PoolMmIdeal.main_arg3)
      ∧ m' ((c.tc : Thread Cert.PoolMmRefIdeal.nD Cert.PoolMmRefIdeal.τ).loc Cert.PoolMmRefIdeal.main_arg4) = m ((c.tc : Thread Cert.PoolMmIdeal.nD Cert.PoolMmIdeal.τ).loc Cert.PoolMmIdeal.main_arg4)) →
    ∃ (v0 : (c : Dev Cert.PoolMmIdeal.nD) → Buf (Elt Ideal) ((c.tc : Thread Cert.PoolMmIdeal.nD Cert.PoolMmIdeal.τ).loc Cert.PoolMmIdeal.main_v9_0)) (v1 : (c : Dev Cert.PoolMmIdeal.nD) → Buf (Elt Ideal) ((c.tc : Thread Cert.PoolMmIdeal.nD Cert.PoolMmIdeal.τ).loc Cert.PoolMmIdeal.main_v9_1)) (v2 : (c : Dev Cert.PoolMmIdeal.nD) → Buf (Elt Ideal) ((c.tc : Thread Cert.PoolMmIdeal.nD Cert.PoolMmIdeal.τ).loc Cert.PoolMmIdeal.main_v9_2)),
      θ_run (Cert.PoolMmIdeal.defs (F := Ideal)) (onTc (τ := Cert.PoolMmIdeal.τ) (Cert.PoolMmIdeal.main (F := Ideal))) ⟨m, fun _ => 0, g⟩ (fun r => ∀ c : Dev Cert.PoolMmIdeal.nD,
          r.2.mem ((c.tc : Thread Cert.PoolMmIdeal.nD Cert.PoolMmIdeal.τ).loc Cert.PoolMmIdeal.main_v9_0) = v0 c
          ∧ r.2.mem ((c.tc : Thread Cert.PoolMmIdeal.nD Cert.PoolMmIdeal.τ).loc Cert.PoolMmIdeal.main_v9_1) = v1 c
          ∧ r.2.mem ((c.tc : Thread Cert.PoolMmIdeal.nD Cert.PoolMmIdeal.τ).loc Cert.PoolMmIdeal.main_v9_2) = v2 c
          ∧ r.2.mem ((c.tc : Thread Cert.PoolMmIdeal.nD Cert.PoolMmIdeal.τ).loc Cert.PoolMmIdeal.main_arg0) = m ((c.tc : Thread Cert.PoolMmIdeal.nD Cert.PoolMmIdeal.τ).loc Cert.PoolMmIdeal.main_arg0)
          ∧ r.2.mem ((c.tc : Thread Cert.PoolMmIdeal.nD Cert.PoolMmIdeal.τ).loc Cert.PoolMmIdeal.main_arg1) = m ((c.tc : Thread Cert.PoolMmIdeal.nD Cert.PoolMmIdeal.τ).loc Cert.PoolMmIdeal.main_arg1)
          ∧ r.2.mem ((c.tc : Thread Cert.PoolMmIdeal.nD Cert.PoolMmIdeal.τ).loc Cert.PoolMmIdeal.main_arg2) = m ((c.tc : Thread Cert.PoolMmIdeal.nD Cert.PoolMmIdeal.τ).loc Cert.PoolMmIdeal.main_arg2)
          ∧ r.2.mem ((c.tc : Thread Cert.PoolMmIdeal.nD Cert.PoolMmIdeal.τ).loc Cert.PoolMmIdeal.main_arg3) = m ((c.tc : Thread Cert.PoolMmIdeal.nD Cert.PoolMmIdeal.τ).loc Cert.PoolMmIdeal.main_arg3)
          ∧ r.2.mem ((c.tc : Thread Cert.PoolMmIdeal.nD Cert.PoolMmIdeal.τ).loc Cert.PoolMmIdeal.main_arg4) = m ((c.tc : Thread Cert.PoolMmIdeal.nD Cert.PoolMmIdeal.τ).loc Cert.PoolMmIdeal.main_arg4))
      ∧ θ_run (Cert.PoolMmRefIdeal.defs (F := Ideal)) (onTc (τ := Cert.PoolMmRefIdeal.τ) (Cert.PoolMmRefIdeal.main (F := Ideal))) ⟨m', fun _ => 0, g'⟩ (fun r => ∀ c : Dev Cert.PoolMmRefIdeal.nD,
          r.2.mem ((c.tc : Thread Cert.PoolMmRefIdeal.nD Cert.PoolMmRefIdeal.τ).loc Cert.PoolMmRefIdeal.main_v59) = v0 c
          ∧ r.2.mem ((c.tc : Thread Cert.PoolMmRefIdeal.nD Cert.PoolMmRefIdeal.τ).loc Cert.PoolMmRefIdeal.main_v63) = v1 c
          ∧ r.2.mem ((c.tc : Thread Cert.PoolMmRefIdeal.nD Cert.PoolMmRefIdeal.τ).loc Cert.PoolMmRefIdeal.main_v21) = v2 c
          ∧ r.2.mem ((c.tc : Thread Cert.PoolMmRefIdeal.nD Cert.PoolMmRefIdeal.τ).loc Cert.PoolMmRefIdeal.main_arg0) = m' ((c.tc : Thread Cert.PoolMmRefIdeal.nD Cert.PoolMmRefIdeal.τ).loc Cert.PoolMmRefIdeal.main_arg0)
          ∧ r.2.mem ((c.tc : Thread Cert.PoolMmRefIdeal.nD Cert.PoolMmRefIdeal.τ).loc Cert.PoolMmRefIdeal.main_arg1) = m' ((c.tc : Thread Cert.PoolMmRefIdeal.nD Cert.PoolMmRefIdeal.τ).loc Cert.PoolMmRefIdeal.main_arg1)
          ∧ r.2.mem ((c.tc : Thread Cert.PoolMmRefIdeal.nD Cert.PoolMmRefIdeal.τ).loc Cert.PoolMmRefIdeal.main_arg2) = m' ((c.tc : Thread Cert.PoolMmRefIdeal.nD Cert.PoolMmRefIdeal.τ).loc Cert.PoolMmRefIdeal.main_arg2)
          ∧ r.2.mem ((c.tc : Thread Cert.PoolMmRefIdeal.nD Cert.PoolMmRefIdeal.τ).loc Cert.PoolMmRefIdeal.main_arg3) = m' ((c.tc : Thread Cert.PoolMmRefIdeal.nD Cert.PoolMmRefIdeal.τ).loc Cert.PoolMmRefIdeal.main_arg3)
          ∧ r.2.mem ((c.tc : Thread Cert.PoolMmRefIdeal.nD Cert.PoolMmRefIdeal.τ).loc Cert.PoolMmRefIdeal.main_arg4) = m' ((c.tc : Thread Cert.PoolMmRefIdeal.nD Cert.PoolMmRefIdeal.τ).loc Cert.PoolMmRefIdeal.main_arg4))

def preserves_InXCtx_InXCtxIdeal : Prop :=
  True

def algebraic_InXCtxIdeal_InXCtxRefIdeal [hInXCtxIdeal : Cert.InXCtxIdeal.Facts] [hInXCtxRefIdeal : Cert.InXCtxRefIdeal.Facts] : Prop :=
  ∀ (m : (ℓ : Loc Cert.InXCtxIdeal.nD Cert.InXCtxIdeal.τ Cert.InXCtxIdeal.sig) → Buf (Elt Ideal) ℓ) (g : Dev Cert.InXCtxIdeal.nD → PrngReg)
    (m' : (ℓ : Loc Cert.InXCtxRefIdeal.nD Cert.InXCtxRefIdeal.τ Cert.InXCtxRefIdeal.sig) → Buf (Elt Ideal) ℓ) (g' : Dev Cert.InXCtxRefIdeal.nD → PrngReg), Pre_InXCtxIdeal m →
    (∀ c : Dev Cert.InXCtxIdeal.nD,
      m' ((c.tc : Thread Cert.InXCtxRefIdeal.nD Cert.InXCtxRefIdeal.τ).loc Cert.InXCtxRefIdeal.main_arg0) = m ((c.tc : Thread Cert.InXCtxIdeal.nD Cert.InXCtxIdeal.τ).loc Cert.InXCtxIdeal.main_arg0)
      ∧ m' ((c.tc : Thread Cert.InXCtxRefIdeal.nD Cert.InXCtxRefIdeal.τ).loc Cert.InXCtxRefIdeal.main_arg1) = m ((c.tc : Thread Cert.InXCtxIdeal.nD Cert.InXCtxIdeal.τ).loc Cert.InXCtxIdeal.main_arg1)
      ∧ m' ((c.tc : Thread Cert.InXCtxRefIdeal.nD Cert.InXCtxRefIdeal.τ).loc Cert.InXCtxRefIdeal.main_arg2) = m ((c.tc : Thread Cert.InXCtxIdeal.nD Cert.InXCtxIdeal.τ).loc Cert.InXCtxIdeal.main_arg2)
      ∧ m' ((c.tc : Thread Cert.InXCtxRefIdeal.nD Cert.InXCtxRefIdeal.τ).loc Cert.InXCtxRefIdeal.main_arg3) = m ((c.tc : Thread Cert.InXCtxIdeal.nD Cert.InXCtxIdeal.τ).loc Cert.InXCtxIdeal.main_arg3)
      ∧ m' ((c.tc : Thread Cert.InXCtxRefIdeal.nD Cert.InXCtxRefIdeal.τ).loc Cert.InXCtxRefIdeal.main_arg4) = m ((c.tc : Thread Cert.InXCtxIdeal.nD Cert.InXCtxIdeal.τ).loc Cert.InXCtxIdeal.main_arg4)) →
    ∃ (v0 : (c : Dev Cert.InXCtxIdeal.nD) → Buf (Elt Ideal) ((c.tc : Thread Cert.InXCtxIdeal.nD Cert.InXCtxIdeal.τ).loc Cert.InXCtxIdeal.main_v7_0)) (v1 : (c : Dev Cert.InXCtxIdeal.nD) → Buf (Elt Ideal) ((c.tc : Thread Cert.InXCtxIdeal.nD Cert.InXCtxIdeal.τ).loc Cert.InXCtxIdeal.main_v7_1)),
      θ_run (Cert.InXCtxIdeal.defs (F := Ideal)) (onTc (τ := Cert.InXCtxIdeal.τ) (Cert.InXCtxIdeal.main (F := Ideal))) ⟨m, fun _ => 0, g⟩ (fun r => ∀ c : Dev Cert.InXCtxIdeal.nD,
          r.2.mem ((c.tc : Thread Cert.InXCtxIdeal.nD Cert.InXCtxIdeal.τ).loc Cert.InXCtxIdeal.main_v7_0) = v0 c
          ∧ r.2.mem ((c.tc : Thread Cert.InXCtxIdeal.nD Cert.InXCtxIdeal.τ).loc Cert.InXCtxIdeal.main_v7_1) = v1 c
          ∧ r.2.mem ((c.tc : Thread Cert.InXCtxIdeal.nD Cert.InXCtxIdeal.τ).loc Cert.InXCtxIdeal.main_arg0) = m ((c.tc : Thread Cert.InXCtxIdeal.nD Cert.InXCtxIdeal.τ).loc Cert.InXCtxIdeal.main_arg0)
          ∧ r.2.mem ((c.tc : Thread Cert.InXCtxIdeal.nD Cert.InXCtxIdeal.τ).loc Cert.InXCtxIdeal.main_arg1) = m ((c.tc : Thread Cert.InXCtxIdeal.nD Cert.InXCtxIdeal.τ).loc Cert.InXCtxIdeal.main_arg1)
          ∧ r.2.mem ((c.tc : Thread Cert.InXCtxIdeal.nD Cert.InXCtxIdeal.τ).loc Cert.InXCtxIdeal.main_arg2) = m ((c.tc : Thread Cert.InXCtxIdeal.nD Cert.InXCtxIdeal.τ).loc Cert.InXCtxIdeal.main_arg2)
          ∧ r.2.mem ((c.tc : Thread Cert.InXCtxIdeal.nD Cert.InXCtxIdeal.τ).loc Cert.InXCtxIdeal.main_arg3) = m ((c.tc : Thread Cert.InXCtxIdeal.nD Cert.InXCtxIdeal.τ).loc Cert.InXCtxIdeal.main_arg3)
          ∧ r.2.mem ((c.tc : Thread Cert.InXCtxIdeal.nD Cert.InXCtxIdeal.τ).loc Cert.InXCtxIdeal.main_arg4) = m ((c.tc : Thread Cert.InXCtxIdeal.nD Cert.InXCtxIdeal.τ).loc Cert.InXCtxIdeal.main_arg4))
      ∧ θ_run (Cert.InXCtxRefIdeal.defs (F := Ideal)) (onTc (τ := Cert.InXCtxRefIdeal.τ) (Cert.InXCtxRefIdeal.main (F := Ideal))) ⟨m', fun _ => 0, g'⟩ (fun r => ∀ c : Dev Cert.InXCtxRefIdeal.nD,
          r.2.mem ((c.tc : Thread Cert.InXCtxRefIdeal.nD Cert.InXCtxRefIdeal.τ).loc Cert.InXCtxRefIdeal.main_v13) = v0 c
          ∧ r.2.mem ((c.tc : Thread Cert.InXCtxRefIdeal.nD Cert.InXCtxRefIdeal.τ).loc Cert.InXCtxRefIdeal.main_v10) = v1 c
          ∧ r.2.mem ((c.tc : Thread Cert.InXCtxRefIdeal.nD Cert.InXCtxRefIdeal.τ).loc Cert.InXCtxRefIdeal.main_arg0) = m' ((c.tc : Thread Cert.InXCtxRefIdeal.nD Cert.InXCtxRefIdeal.τ).loc Cert.InXCtxRefIdeal.main_arg0)
          ∧ r.2.mem ((c.tc : Thread Cert.InXCtxRefIdeal.nD Cert.InXCtxRefIdeal.τ).loc Cert.InXCtxRefIdeal.main_arg1) = m' ((c.tc : Thread Cert.InXCtxRefIdeal.nD Cert.InXCtxRefIdeal.τ).loc Cert.InXCtxRefIdeal.main_arg1)
          ∧ r.2.mem ((c.tc : Thread Cert.InXCtxRefIdeal.nD Cert.InXCtxRefIdeal.τ).loc Cert.InXCtxRefIdeal.main_arg2) = m' ((c.tc : Thread Cert.InXCtxRefIdeal.nD Cert.InXCtxRefIdeal.τ).loc Cert.InXCtxRefIdeal.main_arg2)
          ∧ r.2.mem ((c.tc : Thread Cert.InXCtxRefIdeal.nD Cert.InXCtxRefIdeal.τ).loc Cert.InXCtxRefIdeal.main_arg3) = m' ((c.tc : Thread Cert.InXCtxRefIdeal.nD Cert.InXCtxRefIdeal.τ).loc Cert.InXCtxRefIdeal.main_arg3)
          ∧ r.2.mem ((c.tc : Thread Cert.InXCtxRefIdeal.nD Cert.InXCtxRefIdeal.τ).loc Cert.InXCtxRefIdeal.main_arg4) = m' ((c.tc : Thread Cert.InXCtxRefIdeal.nD Cert.InXCtxRefIdeal.τ).loc Cert.InXCtxRefIdeal.main_arg4))

def preserves_InWCtx_InWCtxIdeal : Prop :=
  True

def algebraic_InWCtxIdeal_InWCtxRefIdeal [hInWCtxIdeal : Cert.InWCtxIdeal.Facts] [hInWCtxRefIdeal : Cert.InWCtxRefIdeal.Facts] : Prop :=
  ∀ (m : (ℓ : Loc Cert.InWCtxIdeal.nD Cert.InWCtxIdeal.τ Cert.InWCtxIdeal.sig) → Buf (Elt Ideal) ℓ) (g : Dev Cert.InWCtxIdeal.nD → PrngReg)
    (m' : (ℓ : Loc Cert.InWCtxRefIdeal.nD Cert.InWCtxRefIdeal.τ Cert.InWCtxRefIdeal.sig) → Buf (Elt Ideal) ℓ) (g' : Dev Cert.InWCtxRefIdeal.nD → PrngReg), Pre_InWCtxIdeal m →
    (∀ c : Dev Cert.InWCtxIdeal.nD,
      m' ((c.tc : Thread Cert.InWCtxRefIdeal.nD Cert.InWCtxRefIdeal.τ).loc Cert.InWCtxRefIdeal.main_arg0) = m ((c.tc : Thread Cert.InWCtxIdeal.nD Cert.InWCtxIdeal.τ).loc Cert.InWCtxIdeal.main_arg0)
      ∧ m' ((c.tc : Thread Cert.InWCtxRefIdeal.nD Cert.InWCtxRefIdeal.τ).loc Cert.InWCtxRefIdeal.main_arg1) = m ((c.tc : Thread Cert.InWCtxIdeal.nD Cert.InWCtxIdeal.τ).loc Cert.InWCtxIdeal.main_arg1)
      ∧ m' ((c.tc : Thread Cert.InWCtxRefIdeal.nD Cert.InWCtxRefIdeal.τ).loc Cert.InWCtxRefIdeal.main_arg2) = m ((c.tc : Thread Cert.InWCtxIdeal.nD Cert.InWCtxIdeal.τ).loc Cert.InWCtxIdeal.main_arg2)
      ∧ m' ((c.tc : Thread Cert.InWCtxRefIdeal.nD Cert.InWCtxRefIdeal.τ).loc Cert.InWCtxRefIdeal.main_arg3) = m ((c.tc : Thread Cert.InWCtxIdeal.nD Cert.InWCtxIdeal.τ).loc Cert.InWCtxIdeal.main_arg3)) →
    ∃ (v0 : (c : Dev Cert.InWCtxIdeal.nD) → Buf (Elt Ideal) ((c.tc : Thread Cert.InWCtxIdeal.nD Cert.InWCtxIdeal.τ).loc Cert.InWCtxIdeal.main_v4)),
      θ_run (Cert.InWCtxIdeal.defs (F := Ideal)) (onTc (τ := Cert.InWCtxIdeal.τ) (Cert.InWCtxIdeal.main (F := Ideal))) ⟨m, fun _ => 0, g⟩ (fun r => ∀ c : Dev Cert.InWCtxIdeal.nD,
          r.2.mem ((c.tc : Thread Cert.InWCtxIdeal.nD Cert.InWCtxIdeal.τ).loc Cert.InWCtxIdeal.main_v4) = v0 c
          ∧ r.2.mem ((c.tc : Thread Cert.InWCtxIdeal.nD Cert.InWCtxIdeal.τ).loc Cert.InWCtxIdeal.main_arg0) = m ((c.tc : Thread Cert.InWCtxIdeal.nD Cert.InWCtxIdeal.τ).loc Cert.InWCtxIdeal.main_arg0)
          ∧ r.2.mem ((c.tc : Thread Cert.InWCtxIdeal.nD Cert.InWCtxIdeal.τ).loc Cert.InWCtxIdeal.main_arg1) = m ((c.tc : Thread Cert.InWCtxIdeal.nD Cert.InWCtxIdeal.τ).loc Cert.InWCtxIdeal.main_arg1)
          ∧ r.2.mem ((c.tc : Thread Cert.InWCtxIdeal.nD Cert.InWCtxIdeal.τ).loc Cert.InWCtxIdeal.main_arg2) = m ((c.tc : Thread Cert.InWCtxIdeal.nD Cert.InWCtxIdeal.τ).loc Cert.InWCtxIdeal.main_arg2)
          ∧ r.2.mem ((c.tc : Thread Cert.InWCtxIdeal.nD Cert.InWCtxIdeal.τ).loc Cert.InWCtxIdeal.main_arg3) = m ((c.tc : Thread Cert.InWCtxIdeal.nD Cert.InWCtxIdeal.τ).loc Cert.InWCtxIdeal.main_arg3))
      ∧ θ_run (Cert.InWCtxRefIdeal.defs (F := Ideal)) (onTc (τ := Cert.InWCtxRefIdeal.τ) (Cert.InWCtxRefIdeal.main (F := Ideal))) ⟨m', fun _ => 0, g'⟩ (fun r => ∀ c : Dev Cert.InWCtxRefIdeal.nD,
          r.2.mem ((c.tc : Thread Cert.InWCtxRefIdeal.nD Cert.InWCtxRefIdeal.τ).loc Cert.InWCtxRefIdeal.main_v13) = v0 c
          ∧ r.2.mem ((c.tc : Thread Cert.InWCtxRefIdeal.nD Cert.InWCtxRefIdeal.τ).loc Cert.InWCtxRefIdeal.main_arg0) = m' ((c.tc : Thread Cert.InWCtxRefIdeal.nD Cert.InWCtxRefIdeal.τ).loc Cert.InWCtxRefIdeal.main_arg0)
          ∧ r.2.mem ((c.tc : Thread Cert.InWCtxRefIdeal.nD Cert.InWCtxRefIdeal.τ).loc Cert.InWCtxRefIdeal.main_arg1) = m' ((c.tc : Thread Cert.InWCtxRefIdeal.nD Cert.InWCtxRefIdeal.τ).loc Cert.InWCtxRefIdeal.main_arg1)
          ∧ r.2.mem ((c.tc : Thread Cert.InWCtxRefIdeal.nD Cert.InWCtxRefIdeal.τ).loc Cert.InWCtxRefIdeal.main_arg2) = m' ((c.tc : Thread Cert.InWCtxRefIdeal.nD Cert.InWCtxRefIdeal.τ).loc Cert.InWCtxRefIdeal.main_arg2)
          ∧ r.2.mem ((c.tc : Thread Cert.InWCtxRefIdeal.nD Cert.InWCtxRefIdeal.τ).loc Cert.InWCtxRefIdeal.main_arg3) = m' ((c.tc : Thread Cert.InWCtxRefIdeal.nD Cert.InWCtxRefIdeal.τ).loc Cert.InWCtxRefIdeal.main_arg3))

def preserves_CctxFin_CctxFinIdeal : Prop :=
  True

def algebraic_CctxFinIdeal_CctxFinRefIdeal_pre_finite_ctx [hCctxFinIdeal : Cert.CctxFinIdeal.Facts] [hCctxFinRefIdeal : Cert.CctxFinRefIdeal.Facts] [hPre_finite_ctx : Cert.Pre_finite_ctx.Facts] : Prop :=
  ∀ (m : (ℓ : Loc Cert.CctxFinIdeal.nD Cert.CctxFinIdeal.τ Cert.CctxFinIdeal.sig) → Buf (Elt Ideal) ℓ) (g : Dev Cert.CctxFinIdeal.nD → PrngReg)
    (m' : (ℓ : Loc Cert.CctxFinRefIdeal.nD Cert.CctxFinRefIdeal.τ Cert.CctxFinRefIdeal.sig) → Buf (Elt Ideal) ℓ) (g' : Dev Cert.CctxFinRefIdeal.nD → PrngReg), Pre_CctxFinIdeal_finite_ctx m →
    (∀ c : Dev Cert.CctxFinIdeal.nD,
      m' ((c.tc : Thread Cert.CctxFinRefIdeal.nD Cert.CctxFinRefIdeal.τ).loc Cert.CctxFinRefIdeal.main_arg0) = m ((c.tc : Thread Cert.CctxFinIdeal.nD Cert.CctxFinIdeal.τ).loc Cert.CctxFinIdeal.main_arg0)
      ∧ m' ((c.tc : Thread Cert.CctxFinRefIdeal.nD Cert.CctxFinRefIdeal.τ).loc Cert.CctxFinRefIdeal.main_arg1) = m ((c.tc : Thread Cert.CctxFinIdeal.nD Cert.CctxFinIdeal.τ).loc Cert.CctxFinIdeal.main_arg1)
      ∧ m' ((c.tc : Thread Cert.CctxFinRefIdeal.nD Cert.CctxFinRefIdeal.τ).loc Cert.CctxFinRefIdeal.main_arg2) = m ((c.tc : Thread Cert.CctxFinIdeal.nD Cert.CctxFinIdeal.τ).loc Cert.CctxFinIdeal.main_arg2)) →
    ∃ (v0 : (c : Dev Cert.CctxFinIdeal.nD) → Buf (Elt Ideal) ((c.tc : Thread Cert.CctxFinIdeal.nD Cert.CctxFinIdeal.τ).loc Cert.CctxFinIdeal.main_v10)),
      θ_run (Cert.CctxFinIdeal.defs (F := Ideal)) (onTc (τ := Cert.CctxFinIdeal.τ) (Cert.CctxFinIdeal.main (F := Ideal))) ⟨m, fun _ => 0, g⟩ (fun r => ∀ c : Dev Cert.CctxFinIdeal.nD,
          r.2.mem ((c.tc : Thread Cert.CctxFinIdeal.nD Cert.CctxFinIdeal.τ).loc Cert.CctxFinIdeal.main_v10) = v0 c
          ∧ r.2.mem ((c.tc : Thread Cert.CctxFinIdeal.nD Cert.CctxFinIdeal.τ).loc Cert.CctxFinIdeal.main_arg0) = m ((c.tc : Thread Cert.CctxFinIdeal.nD Cert.CctxFinIdeal.τ).loc Cert.CctxFinIdeal.main_arg0)
          ∧ r.2.mem ((c.tc : Thread Cert.CctxFinIdeal.nD Cert.CctxFinIdeal.τ).loc Cert.CctxFinIdeal.main_arg1) = m ((c.tc : Thread Cert.CctxFinIdeal.nD Cert.CctxFinIdeal.τ).loc Cert.CctxFinIdeal.main_arg1)
          ∧ r.2.mem ((c.tc : Thread Cert.CctxFinIdeal.nD Cert.CctxFinIdeal.τ).loc Cert.CctxFinIdeal.main_arg2) = m ((c.tc : Thread Cert.CctxFinIdeal.nD Cert.CctxFinIdeal.τ).loc Cert.CctxFinIdeal.main_arg2))
      ∧ θ_run (Cert.CctxFinRefIdeal.defs (F := Ideal)) (onTc (τ := Cert.CctxFinRefIdeal.τ) (Cert.CctxFinRefIdeal.main (F := Ideal))) ⟨m', fun _ => 0, g'⟩ (fun r => ∀ c : Dev Cert.CctxFinRefIdeal.nD,
          r.2.mem ((c.tc : Thread Cert.CctxFinRefIdeal.nD Cert.CctxFinRefIdeal.τ).loc Cert.CctxFinRefIdeal.main_v6) = v0 c
          ∧ r.2.mem ((c.tc : Thread Cert.CctxFinRefIdeal.nD Cert.CctxFinRefIdeal.τ).loc Cert.CctxFinRefIdeal.main_arg0) = m' ((c.tc : Thread Cert.CctxFinRefIdeal.nD Cert.CctxFinRefIdeal.τ).loc Cert.CctxFinRefIdeal.main_arg0)
          ∧ r.2.mem ((c.tc : Thread Cert.CctxFinRefIdeal.nD Cert.CctxFinRefIdeal.τ).loc Cert.CctxFinRefIdeal.main_arg1) = m' ((c.tc : Thread Cert.CctxFinRefIdeal.nD Cert.CctxFinRefIdeal.τ).loc Cert.CctxFinRefIdeal.main_arg1)
          ∧ r.2.mem ((c.tc : Thread Cert.CctxFinRefIdeal.nD Cert.CctxFinRefIdeal.τ).loc Cert.CctxFinRefIdeal.main_arg2) = m' ((c.tc : Thread Cert.CctxFinRefIdeal.nD Cert.CctxFinRefIdeal.τ).loc Cert.CctxFinRefIdeal.main_arg2))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)
      ∧ m' ((c.tc : Thread Cert.OutWRefIdeal.nD Cert.OutWRefIdeal.τ).loc Cert.OutWRefIdeal.main_arg3) = m ((c.tc : Thread Cert.OutWIdeal.nD Cert.OutWIdeal.τ).loc Cert.OutWIdeal.main_arg3)) →
    ∃ (v0 : (c : Dev Cert.OutWIdeal.nD) → Buf (Elt Ideal) ((c.tc : Thread Cert.OutWIdeal.nD Cert.OutWIdeal.τ).loc Cert.OutWIdeal.main_v7)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v7) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2)
          ∧ r.2.mem ((c.tc : Thread Cert.OutWIdeal.nD Cert.OutWIdeal.τ).loc Cert.OutWIdeal.main_arg3) = m ((c.tc : Thread Cert.OutWIdeal.nD Cert.OutWIdeal.τ).loc Cert.OutWIdeal.main_arg3))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v7) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2)
          ∧ r.2.mem ((c.tc : Thread Cert.OutWRefIdeal.nD Cert.OutWRefIdeal.τ).loc Cert.OutWRefIdeal.main_arg3) = m' ((c.tc : Thread Cert.OutWRefIdeal.nD Cert.OutWRefIdeal.τ).loc Cert.OutWRefIdeal.main_arg3))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)
      ∧ m' ((c.tc : Thread Cert.InWRefIdeal.nD Cert.InWRefIdeal.τ).loc Cert.InWRefIdeal.main_arg3) = m ((c.tc : Thread Cert.InWIdeal.nD Cert.InWIdeal.τ).loc Cert.InWIdeal.main_arg3)
      ∧ m' ((c.tc : Thread Cert.InWRefIdeal.nD Cert.InWRefIdeal.τ).loc Cert.InWRefIdeal.main_arg4) = m ((c.tc : Thread Cert.InWIdeal.nD Cert.InWIdeal.τ).loc Cert.InWIdeal.main_arg4)
      ∧ m' ((c.tc : Thread Cert.InWRefIdeal.nD Cert.InWRefIdeal.τ).loc Cert.InWRefIdeal.main_arg5) = m ((c.tc : Thread Cert.InWIdeal.nD Cert.InWIdeal.τ).loc Cert.InWIdeal.main_arg5)
      ∧ m' ((c.tc : Thread Cert.InWRefIdeal.nD Cert.InWRefIdeal.τ).loc Cert.InWRefIdeal.main_arg6) = m ((c.tc : Thread Cert.InWIdeal.nD Cert.InWIdeal.τ).loc Cert.InWIdeal.main_arg6)) →
    ∃ (v0 : (c : Dev Cert.InWIdeal.nD) → Buf (Elt Ideal) ((c.tc : Thread Cert.InWIdeal.nD Cert.InWIdeal.τ).loc Cert.InWIdeal.main_v6)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v6) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2)
          ∧ r.2.mem ((c.tc : Thread Cert.InWIdeal.nD Cert.InWIdeal.τ).loc Cert.InWIdeal.main_arg3) = m ((c.tc : Thread Cert.InWIdeal.nD Cert.InWIdeal.τ).loc Cert.InWIdeal.main_arg3)
          ∧ r.2.mem ((c.tc : Thread Cert.InWIdeal.nD Cert.InWIdeal.τ).loc Cert.InWIdeal.main_arg4) = m ((c.tc : Thread Cert.InWIdeal.nD Cert.InWIdeal.τ).loc Cert.InWIdeal.main_arg4)
          ∧ r.2.mem ((c.tc : Thread Cert.InWIdeal.nD Cert.InWIdeal.τ).loc Cert.InWIdeal.main_arg5) = m ((c.tc : Thread Cert.InWIdeal.nD Cert.InWIdeal.τ).loc Cert.InWIdeal.main_arg5)
          ∧ r.2.mem ((c.tc : Thread Cert.InWIdeal.nD Cert.InWIdeal.τ).loc Cert.InWIdeal.main_arg6) = m ((c.tc : Thread Cert.InWIdeal.nD Cert.InWIdeal.τ).loc Cert.InWIdeal.main_arg6))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v16) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2)
          ∧ r.2.mem ((c.tc : Thread Cert.InWRefIdeal.nD Cert.InWRefIdeal.τ).loc Cert.InWRefIdeal.main_arg3) = m' ((c.tc : Thread Cert.InWRefIdeal.nD Cert.InWRefIdeal.τ).loc Cert.InWRefIdeal.main_arg3)
          ∧ r.2.mem ((c.tc : Thread Cert.InWRefIdeal.nD Cert.InWRefIdeal.τ).loc Cert.InWRefIdeal.main_arg4) = m' ((c.tc : Thread Cert.InWRefIdeal.nD Cert.InWRefIdeal.τ).loc Cert.InWRefIdeal.main_arg4)
          ∧ r.2.mem ((c.tc : Thread Cert.InWRefIdeal.nD Cert.InWRefIdeal.τ).loc Cert.InWRefIdeal.main_arg5) = m' ((c.tc : Thread Cert.InWRefIdeal.nD Cert.InWRefIdeal.τ).loc Cert.InWRefIdeal.main_arg5)
          ∧ r.2.mem ((c.tc : Thread Cert.InWRefIdeal.nD Cert.InWRefIdeal.τ).loc Cert.InWRefIdeal.main_arg6) = m' ((c.tc : Thread Cert.InWRefIdeal.nD Cert.InWRefIdeal.τ).loc Cert.InWRefIdeal.main_arg6))

def preserves_ModW_ModWIdeal : Prop :=
  True

def algebraic_ModWIdeal_ModWRefIdeal [hModWIdeal : Cert.ModWIdeal.Facts] [hModWRefIdeal : Cert.ModWRefIdeal.Facts] : Prop :=
  ∀ (m : (ℓ : Loc Cert.ModWIdeal.nD Cert.ModWIdeal.τ Cert.ModWIdeal.sig) → Buf (Elt Ideal) ℓ) (g : Dev Cert.ModWIdeal.nD → PrngReg)
    (m' : (ℓ : Loc Cert.ModWRefIdeal.nD Cert.ModWRefIdeal.τ Cert.ModWRefIdeal.sig) → Buf (Elt Ideal) ℓ) (g' : Dev Cert.ModWRefIdeal.nD → PrngReg), Pre_ModWIdeal m →
    (∀ c : Dev Cert.ModWIdeal.nD,
      m' ((c.tc : Thread Cert.ModWRefIdeal.nD Cert.ModWRefIdeal.τ).loc Cert.ModWRefIdeal.main_arg0) = m ((c.tc : Thread Cert.ModWIdeal.nD Cert.ModWIdeal.τ).loc Cert.ModWIdeal.main_arg0)
      ∧ m' ((c.tc : Thread Cert.ModWRefIdeal.nD Cert.ModWRefIdeal.τ).loc Cert.ModWRefIdeal.main_arg1) = m ((c.tc : Thread Cert.ModWIdeal.nD Cert.ModWIdeal.τ).loc Cert.ModWIdeal.main_arg1)
      ∧ m' ((c.tc : Thread Cert.ModWRefIdeal.nD Cert.ModWRefIdeal.τ).loc Cert.ModWRefIdeal.main_arg2) = m ((c.tc : Thread Cert.ModWIdeal.nD Cert.ModWIdeal.τ).loc Cert.ModWIdeal.main_arg2)
      ∧ m' ((c.tc : Thread Cert.ModWRefIdeal.nD Cert.ModWRefIdeal.τ).loc Cert.ModWRefIdeal.main_arg3) = m ((c.tc : Thread Cert.ModWIdeal.nD Cert.ModWIdeal.τ).loc Cert.ModWIdeal.main_arg3)
      ∧ m' ((c.tc : Thread Cert.ModWRefIdeal.nD Cert.ModWRefIdeal.τ).loc Cert.ModWRefIdeal.main_arg4) = m ((c.tc : Thread Cert.ModWIdeal.nD Cert.ModWIdeal.τ).loc Cert.ModWIdeal.main_arg4)) →
    ∃ (v0 : (c : Dev Cert.ModWIdeal.nD) → Buf (Elt Ideal) ((c.tc : Thread Cert.ModWIdeal.nD Cert.ModWIdeal.τ).loc Cert.ModWIdeal.main_v9)),
      θ_run (Cert.ModWIdeal.defs (F := Ideal)) (onTc (τ := Cert.ModWIdeal.τ) (Cert.ModWIdeal.main (F := Ideal))) ⟨m, fun _ => 0, g⟩ (fun r => ∀ c : Dev Cert.ModWIdeal.nD,
          r.2.mem ((c.tc : Thread Cert.ModWIdeal.nD Cert.ModWIdeal.τ).loc Cert.ModWIdeal.main_v9) = v0 c
          ∧ r.2.mem ((c.tc : Thread Cert.ModWIdeal.nD Cert.ModWIdeal.τ).loc Cert.ModWIdeal.main_arg0) = m ((c.tc : Thread Cert.ModWIdeal.nD Cert.ModWIdeal.τ).loc Cert.ModWIdeal.main_arg0)
          ∧ r.2.mem ((c.tc : Thread Cert.ModWIdeal.nD Cert.ModWIdeal.τ).loc Cert.ModWIdeal.main_arg1) = m ((c.tc : Thread Cert.ModWIdeal.nD Cert.ModWIdeal.τ).loc Cert.ModWIdeal.main_arg1)
          ∧ r.2.mem ((c.tc : Thread Cert.ModWIdeal.nD Cert.ModWIdeal.τ).loc Cert.ModWIdeal.main_arg2) = m ((c.tc : Thread Cert.ModWIdeal.nD Cert.ModWIdeal.τ).loc Cert.ModWIdeal.main_arg2)
          ∧ r.2.mem ((c.tc : Thread Cert.ModWIdeal.nD Cert.ModWIdeal.τ).loc Cert.ModWIdeal.main_arg3) = m ((c.tc : Thread Cert.ModWIdeal.nD Cert.ModWIdeal.τ).loc Cert.ModWIdeal.main_arg3)
          ∧ r.2.mem ((c.tc : Thread Cert.ModWIdeal.nD Cert.ModWIdeal.τ).loc Cert.ModWIdeal.main_arg4) = m ((c.tc : Thread Cert.ModWIdeal.nD Cert.ModWIdeal.τ).loc Cert.ModWIdeal.main_arg4))
      ∧ θ_run (Cert.ModWRefIdeal.defs (F := Ideal)) (onTc (τ := Cert.ModWRefIdeal.τ) (Cert.ModWRefIdeal.main (F := Ideal))) ⟨m', fun _ => 0, g'⟩ (fun r => ∀ c : Dev Cert.ModWRefIdeal.nD,
          r.2.mem ((c.tc : Thread Cert.ModWRefIdeal.nD Cert.ModWRefIdeal.τ).loc Cert.ModWRefIdeal.main_v31) = v0 c
          ∧ r.2.mem ((c.tc : Thread Cert.ModWRefIdeal.nD Cert.ModWRefIdeal.τ).loc Cert.ModWRefIdeal.main_arg0) = m' ((c.tc : Thread Cert.ModWRefIdeal.nD Cert.ModWRefIdeal.τ).loc Cert.ModWRefIdeal.main_arg0)
          ∧ r.2.mem ((c.tc : Thread Cert.ModWRefIdeal.nD Cert.ModWRefIdeal.τ).loc Cert.ModWRefIdeal.main_arg1) = m' ((c.tc : Thread Cert.ModWRefIdeal.nD Cert.ModWRefIdeal.τ).loc Cert.ModWRefIdeal.main_arg1)
          ∧ r.2.mem ((c.tc : Thread Cert.ModWRefIdeal.nD Cert.ModWRefIdeal.τ).loc Cert.ModWRefIdeal.main_arg2) = m' ((c.tc : Thread Cert.ModWRefIdeal.nD Cert.ModWRefIdeal.τ).loc Cert.ModWRefIdeal.main_arg2)
          ∧ r.2.mem ((c.tc : Thread Cert.ModWRefIdeal.nD Cert.ModWRefIdeal.τ).loc Cert.ModWRefIdeal.main_arg3) = m' ((c.tc : Thread Cert.ModWRefIdeal.nD Cert.ModWRefIdeal.τ).loc Cert.ModWRefIdeal.main_arg3)
          ∧ r.2.mem ((c.tc : Thread Cert.ModWRefIdeal.nD Cert.ModWRefIdeal.τ).loc Cert.ModWRefIdeal.main_arg4) = m' ((c.tc : Thread Cert.ModWRefIdeal.nD Cert.ModWRefIdeal.τ).loc Cert.ModWRefIdeal.main_arg4))

def preserves_CctxPart_CctxPartIdeal : Prop :=
  True

def algebraic_CctxPartIdeal_CctxPartRefIdeal [hCctxPartIdeal : Cert.CctxPartIdeal.Facts] [hCctxPartRefIdeal : Cert.CctxPartRefIdeal.Facts] : Prop :=
  ∀ (m : (ℓ : Loc Cert.CctxPartIdeal.nD Cert.CctxPartIdeal.τ Cert.CctxPartIdeal.sig) → Buf (Elt Ideal) ℓ) (g : Dev Cert.CctxPartIdeal.nD → PrngReg)
    (m' : (ℓ : Loc Cert.CctxPartRefIdeal.nD Cert.CctxPartRefIdeal.τ Cert.CctxPartRefIdeal.sig) → Buf (Elt Ideal) ℓ) (g' : Dev Cert.CctxPartRefIdeal.nD → PrngReg), Pre_CctxPartIdeal m →
    (∀ c : Dev Cert.CctxPartIdeal.nD,
      m' ((c.tc : Thread Cert.CctxPartRefIdeal.nD Cert.CctxPartRefIdeal.τ).loc Cert.CctxPartRefIdeal.main_arg0) = m ((c.tc : Thread Cert.CctxPartIdeal.nD Cert.CctxPartIdeal.τ).loc Cert.CctxPartIdeal.main_arg0)
      ∧ m' ((c.tc : Thread Cert.CctxPartRefIdeal.nD Cert.CctxPartRefIdeal.τ).loc Cert.CctxPartRefIdeal.main_arg1) = m ((c.tc : Thread Cert.CctxPartIdeal.nD Cert.CctxPartIdeal.τ).loc Cert.CctxPartIdeal.main_arg1)) →
    ∃ (v0 : (c : Dev Cert.CctxPartIdeal.nD) → Buf (Elt Ideal) ((c.tc : Thread Cert.CctxPartIdeal.nD Cert.CctxPartIdeal.τ).loc Cert.CctxPartIdeal.main_v7)),
      θ_run (Cert.CctxPartIdeal.defs (F := Ideal)) (onTc (τ := Cert.CctxPartIdeal.τ) (Cert.CctxPartIdeal.main (F := Ideal))) ⟨m, fun _ => 0, g⟩ (fun r => ∀ c : Dev Cert.CctxPartIdeal.nD,
          r.2.mem ((c.tc : Thread Cert.CctxPartIdeal.nD Cert.CctxPartIdeal.τ).loc Cert.CctxPartIdeal.main_v7) = v0 c
          ∧ r.2.mem ((c.tc : Thread Cert.CctxPartIdeal.nD Cert.CctxPartIdeal.τ).loc Cert.CctxPartIdeal.main_arg0) = m ((c.tc : Thread Cert.CctxPartIdeal.nD Cert.CctxPartIdeal.τ).loc Cert.CctxPartIdeal.main_arg0)
          ∧ r.2.mem ((c.tc : Thread Cert.CctxPartIdeal.nD Cert.CctxPartIdeal.τ).loc Cert.CctxPartIdeal.main_arg1) = m ((c.tc : Thread Cert.CctxPartIdeal.nD Cert.CctxPartIdeal.τ).loc Cert.CctxPartIdeal.main_arg1))
      ∧ θ_run (Cert.CctxPartRefIdeal.defs (F := Ideal)) (onTc (τ := Cert.CctxPartRefIdeal.τ) (Cert.CctxPartRefIdeal.main (F := Ideal))) ⟨m', fun _ => 0, g'⟩ (fun r => ∀ c : Dev Cert.CctxPartRefIdeal.nD,
          r.2.mem ((c.tc : Thread Cert.CctxPartRefIdeal.nD Cert.CctxPartRefIdeal.τ).loc Cert.CctxPartRefIdeal.main_v8) = v0 c
          ∧ r.2.mem ((c.tc : Thread Cert.CctxPartRefIdeal.nD Cert.CctxPartRefIdeal.τ).loc Cert.CctxPartRefIdeal.main_arg0) = m' ((c.tc : Thread Cert.CctxPartRefIdeal.nD Cert.CctxPartRefIdeal.τ).loc Cert.CctxPartRefIdeal.main_arg0)
          ∧ r.2.mem ((c.tc : Thread Cert.CctxPartRefIdeal.nD Cert.CctxPartRefIdeal.τ).loc Cert.CctxPartRefIdeal.main_arg1) = m' ((c.tc : Thread Cert.CctxPartRefIdeal.nD Cert.CctxPartRefIdeal.τ).loc Cert.CctxPartRefIdeal.main_arg1))

def preserves_ModF_ModFIdeal : Prop :=
  True

def algebraic_ModFIdeal_ModFRefIdeal [hModFIdeal : Cert.ModFIdeal.Facts] [hModFRefIdeal : Cert.ModFRefIdeal.Facts] : Prop :=
  ∀ (m : (ℓ : Loc Cert.ModFIdeal.nD Cert.ModFIdeal.τ Cert.ModFIdeal.sig) → Buf (Elt Ideal) ℓ) (g : Dev Cert.ModFIdeal.nD → PrngReg)
    (m' : (ℓ : Loc Cert.ModFRefIdeal.nD Cert.ModFRefIdeal.τ Cert.ModFRefIdeal.sig) → Buf (Elt Ideal) ℓ) (g' : Dev Cert.ModFRefIdeal.nD → PrngReg), Pre_ModFIdeal m →
    (∀ c : Dev Cert.ModFIdeal.nD,
      m' ((c.tc : Thread Cert.ModFRefIdeal.nD Cert.ModFRefIdeal.τ).loc Cert.ModFRefIdeal.main_arg0) = m ((c.tc : Thread Cert.ModFIdeal.nD Cert.ModFIdeal.τ).loc Cert.ModFIdeal.main_arg0)
      ∧ m' ((c.tc : Thread Cert.ModFRefIdeal.nD Cert.ModFRefIdeal.τ).loc Cert.ModFRefIdeal.main_arg1) = m ((c.tc : Thread Cert.ModFIdeal.nD Cert.ModFIdeal.τ).loc Cert.ModFIdeal.main_arg1)
      ∧ m' ((c.tc : Thread Cert.ModFRefIdeal.nD Cert.ModFRefIdeal.τ).loc Cert.ModFRefIdeal.main_arg2) = m ((c.tc : Thread Cert.ModFIdeal.nD Cert.ModFIdeal.τ).loc Cert.ModFIdeal.main_arg2)
      ∧ m' ((c.tc : Thread Cert.ModFRefIdeal.nD Cert.ModFRefIdeal.τ).loc Cert.ModFRefIdeal.main_arg3) = m ((c.tc : Thread Cert.ModFIdeal.nD Cert.ModFIdeal.τ).loc Cert.ModFIdeal.main_arg3)) →
    ∃ (v0 : (c : Dev Cert.ModFIdeal.nD) → Buf (Elt Ideal) ((c.tc : Thread Cert.ModFIdeal.nD Cert.ModFIdeal.τ).loc Cert.ModFIdeal.main_v3)),
      θ_run (Cert.ModFIdeal.defs (F := Ideal)) (onTc (τ := Cert.ModFIdeal.τ) (Cert.ModFIdeal.main (F := Ideal))) ⟨m, fun _ => 0, g⟩ (fun r => ∀ c : Dev Cert.ModFIdeal.nD,
          r.2.mem ((c.tc : Thread Cert.ModFIdeal.nD Cert.ModFIdeal.τ).loc Cert.ModFIdeal.main_v3) = v0 c
          ∧ r.2.mem ((c.tc : Thread Cert.ModFIdeal.nD Cert.ModFIdeal.τ).loc Cert.ModFIdeal.main_arg0) = m ((c.tc : Thread Cert.ModFIdeal.nD Cert.ModFIdeal.τ).loc Cert.ModFIdeal.main_arg0)
          ∧ r.2.mem ((c.tc : Thread Cert.ModFIdeal.nD Cert.ModFIdeal.τ).loc Cert.ModFIdeal.main_arg1) = m ((c.tc : Thread Cert.ModFIdeal.nD Cert.ModFIdeal.τ).loc Cert.ModFIdeal.main_arg1)
          ∧ r.2.mem ((c.tc : Thread Cert.ModFIdeal.nD Cert.ModFIdeal.τ).loc Cert.ModFIdeal.main_arg2) = m ((c.tc : Thread Cert.ModFIdeal.nD Cert.ModFIdeal.τ).loc Cert.ModFIdeal.main_arg2)
          ∧ r.2.mem ((c.tc : Thread Cert.ModFIdeal.nD Cert.ModFIdeal.τ).loc Cert.ModFIdeal.main_arg3) = m ((c.tc : Thread Cert.ModFIdeal.nD Cert.ModFIdeal.τ).loc Cert.ModFIdeal.main_arg3))
      ∧ θ_run (Cert.ModFRefIdeal.defs (F := Ideal)) (onTc (τ := Cert.ModFRefIdeal.τ) (Cert.ModFRefIdeal.main (F := Ideal))) ⟨m', fun _ => 0, g'⟩ (fun r => ∀ c : Dev Cert.ModFRefIdeal.nD,
          r.2.mem ((c.tc : Thread Cert.ModFRefIdeal.nD Cert.ModFRefIdeal.τ).loc Cert.ModFRefIdeal.main_v8) = v0 c
          ∧ r.2.mem ((c.tc : Thread Cert.ModFRefIdeal.nD Cert.ModFRefIdeal.τ).loc Cert.ModFRefIdeal.main_arg0) = m' ((c.tc : Thread Cert.ModFRefIdeal.nD Cert.ModFRefIdeal.τ).loc Cert.ModFRefIdeal.main_arg0)
          ∧ r.2.mem ((c.tc : Thread Cert.ModFRefIdeal.nD Cert.ModFRefIdeal.τ).loc Cert.ModFRefIdeal.main_arg1) = m' ((c.tc : Thread Cert.ModFRefIdeal.nD Cert.ModFRefIdeal.τ).loc Cert.ModFRefIdeal.main_arg1)
          ∧ r.2.mem ((c.tc : Thread Cert.ModFRefIdeal.nD Cert.ModFRefIdeal.τ).loc Cert.ModFRefIdeal.main_arg2) = m' ((c.tc : Thread Cert.ModFRefIdeal.nD Cert.ModFRefIdeal.τ).loc Cert.ModFRefIdeal.main_arg2)
          ∧ r.2.mem ((c.tc : Thread Cert.ModFRefIdeal.nD Cert.ModFRefIdeal.τ).loc Cert.ModFRefIdeal.main_arg3) = m' ((c.tc : Thread Cert.ModFRefIdeal.nD Cert.ModFRefIdeal.τ).loc Cert.ModFRefIdeal.main_arg3))

def preserves_MRep_MRepIdeal : Prop :=
  True

def algebraic_MRepIdeal_MRepRefIdeal [hMRepIdeal : Cert.MRepIdeal.Facts] [hMRepRefIdeal : Cert.MRepRefIdeal.Facts] : Prop :=
  ∀ (m : (ℓ : Loc Cert.MRepIdeal.nD Cert.MRepIdeal.τ Cert.MRepIdeal.sig) → Buf (Elt Ideal) ℓ) (g : Dev Cert.MRepIdeal.nD → PrngReg)
    (m' : (ℓ : Loc Cert.MRepRefIdeal.nD Cert.MRepRefIdeal.τ Cert.MRepRefIdeal.sig) → Buf (Elt Ideal) ℓ) (g' : Dev Cert.MRepRefIdeal.nD → PrngReg), Pre_MRepIdeal m →
    (∀ c : Dev Cert.MRepIdeal.nD,
      m' ((c.tc : Thread Cert.MRepRefIdeal.nD Cert.MRepRefIdeal.τ).loc Cert.MRepRefIdeal.main_arg0) = m ((c.tc : Thread Cert.MRepIdeal.nD Cert.MRepIdeal.τ).loc Cert.MRepIdeal.main_arg0)
      ∧ m' ((c.tc : Thread Cert.MRepRefIdeal.nD Cert.MRepRefIdeal.τ).loc Cert.MRepRefIdeal.main_arg1) = m ((c.tc : Thread Cert.MRepIdeal.nD Cert.MRepIdeal.τ).loc Cert.MRepIdeal.main_arg1)
      ∧ m' ((c.tc : Thread Cert.MRepRefIdeal.nD Cert.MRepRefIdeal.τ).loc Cert.MRepRefIdeal.main_arg2) = m ((c.tc : Thread Cert.MRepIdeal.nD Cert.MRepIdeal.τ).loc Cert.MRepIdeal.main_arg2)
      ∧ m' ((c.tc : Thread Cert.MRepRefIdeal.nD Cert.MRepRefIdeal.τ).loc Cert.MRepRefIdeal.main_arg3) = m ((c.tc : Thread Cert.MRepIdeal.nD Cert.MRepIdeal.τ).loc Cert.MRepIdeal.main_arg3)
      ∧ m' ((c.tc : Thread Cert.MRepRefIdeal.nD Cert.MRepRefIdeal.τ).loc Cert.MRepRefIdeal.main_arg4) = m ((c.tc : Thread Cert.MRepIdeal.nD Cert.MRepIdeal.τ).loc Cert.MRepIdeal.main_arg4)
      ∧ m' ((c.tc : Thread Cert.MRepRefIdeal.nD Cert.MRepRefIdeal.τ).loc Cert.MRepRefIdeal.main_arg5) = m ((c.tc : Thread Cert.MRepIdeal.nD Cert.MRepIdeal.τ).loc Cert.MRepIdeal.main_arg5)
      ∧ m' ((c.tc : Thread Cert.MRepRefIdeal.nD Cert.MRepRefIdeal.τ).loc Cert.MRepRefIdeal.main_arg6) = m ((c.tc : Thread Cert.MRepIdeal.nD Cert.MRepIdeal.τ).loc Cert.MRepIdeal.main_arg6)
      ∧ m' ((c.tc : Thread Cert.MRepRefIdeal.nD Cert.MRepRefIdeal.τ).loc Cert.MRepRefIdeal.main_arg7) = m ((c.tc : Thread Cert.MRepIdeal.nD Cert.MRepIdeal.τ).loc Cert.MRepIdeal.main_arg7)
      ∧ m' ((c.tc : Thread Cert.MRepRefIdeal.nD Cert.MRepRefIdeal.τ).loc Cert.MRepRefIdeal.main_arg8) = m ((c.tc : Thread Cert.MRepIdeal.nD Cert.MRepIdeal.τ).loc Cert.MRepIdeal.main_arg8)
      ∧ m' ((c.tc : Thread Cert.MRepRefIdeal.nD Cert.MRepRefIdeal.τ).loc Cert.MRepRefIdeal.main_arg9) = m ((c.tc : Thread Cert.MRepIdeal.nD Cert.MRepIdeal.τ).loc Cert.MRepIdeal.main_arg9)
      ∧ m' ((c.tc : Thread Cert.MRepRefIdeal.nD Cert.MRepRefIdeal.τ).loc Cert.MRepRefIdeal.main_arg10) = m ((c.tc : Thread Cert.MRepIdeal.nD Cert.MRepIdeal.τ).loc Cert.MRepIdeal.main_arg10)
      ∧ m' ((c.tc : Thread Cert.MRepRefIdeal.nD Cert.MRepRefIdeal.τ).loc Cert.MRepRefIdeal.main_arg11) = m ((c.tc : Thread Cert.MRepIdeal.nD Cert.MRepIdeal.τ).loc Cert.MRepIdeal.main_arg11)) →
    ∃ (v0 : (c : Dev Cert.MRepIdeal.nD) → Buf (Elt Ideal) ((c.tc : Thread Cert.MRepIdeal.nD Cert.MRepIdeal.τ).loc Cert.MRepIdeal.main_v23_0)) (v1 : (c : Dev Cert.MRepIdeal.nD) → Buf (Elt Ideal) ((c.tc : Thread Cert.MRepIdeal.nD Cert.MRepIdeal.τ).loc Cert.MRepIdeal.main_v23_1)) (v2 : (c : Dev Cert.MRepIdeal.nD) → Buf (Elt Ideal) ((c.tc : Thread Cert.MRepIdeal.nD Cert.MRepIdeal.τ).loc Cert.MRepIdeal.main_v23_2)) (v3 : (c : Dev Cert.MRepIdeal.nD) → Buf (Elt Ideal) ((c.tc : Thread Cert.MRepIdeal.nD Cert.MRepIdeal.τ).loc Cert.MRepIdeal.main_v23_3)) (v4 : (c : Dev Cert.MRepIdeal.nD) → Buf (Elt Ideal) ((c.tc : Thread Cert.MRepIdeal.nD Cert.MRepIdeal.τ).loc Cert.MRepIdeal.main_v23_4)) (v5 : (c : Dev Cert.MRepIdeal.nD) → Buf (Elt Ideal) ((c.tc : Thread Cert.MRepIdeal.nD Cert.MRepIdeal.τ).loc Cert.MRepIdeal.main_v23_5)) (v6 : (c : Dev Cert.MRepIdeal.nD) → Buf (Elt Ideal) ((c.tc : Thread Cert.MRepIdeal.nD Cert.MRepIdeal.τ).loc Cert.MRepIdeal.main_v23_6)) (v7 : (c : Dev Cert.MRepIdeal.nD) → Buf (Elt Ideal) ((c.tc : Thread Cert.MRepIdeal.nD Cert.MRepIdeal.τ).loc Cert.MRepIdeal.main_v23_7)) (v8 : (c : Dev Cert.MRepIdeal.nD) → Buf (Elt Ideal) ((c.tc : Thread Cert.MRepIdeal.nD Cert.MRepIdeal.τ).loc Cert.MRepIdeal.main_v23_8)) (v9 : (c : Dev Cert.MRepIdeal.nD) → Buf (Elt Ideal) ((c.tc : Thread Cert.MRepIdeal.nD Cert.MRepIdeal.τ).loc Cert.MRepIdeal.main_v23_9)),
      θ_run (Cert.MRepIdeal.defs (F := Ideal)) (onTc (τ := Cert.MRepIdeal.τ) (Cert.MRepIdeal.main (F := Ideal))) ⟨m, fun _ => 0, g⟩ (fun r => ∀ c : Dev Cert.MRepIdeal.nD,
          r.2.mem ((c.tc : Thread Cert.MRepIdeal.nD Cert.MRepIdeal.τ).loc Cert.MRepIdeal.main_v23_0) = v0 c
          ∧ r.2.mem ((c.tc : Thread Cert.MRepIdeal.nD Cert.MRepIdeal.τ).loc Cert.MRepIdeal.main_v23_1) = v1 c
          ∧ r.2.mem ((c.tc : Thread Cert.MRepIdeal.nD Cert.MRepIdeal.τ).loc Cert.MRepIdeal.main_v23_2) = v2 c
          ∧ r.2.mem ((c.tc : Thread Cert.MRepIdeal.nD Cert.MRepIdeal.τ).loc Cert.MRepIdeal.main_v23_3) = v3 c
          ∧ r.2.mem ((c.tc : Thread Cert.MRepIdeal.nD Cert.MRepIdeal.τ).loc Cert.MRepIdeal.main_v23_4) = v4 c
          ∧ r.2.mem ((c.tc : Thread Cert.MRepIdeal.nD Cert.MRepIdeal.τ).loc Cert.MRepIdeal.main_v23_5) = v5 c
          ∧ r.2.mem ((c.tc : Thread Cert.MRepIdeal.nD Cert.MRepIdeal.τ).loc Cert.MRepIdeal.main_v23_6) = v6 c
          ∧ r.2.mem ((c.tc : Thread Cert.MRepIdeal.nD Cert.MRepIdeal.τ).loc Cert.MRepIdeal.main_v23_7) = v7 c
          ∧ r.2.mem ((c.tc : Thread Cert.MRepIdeal.nD Cert.MRepIdeal.τ).loc Cert.MRepIdeal.main_v23_8) = v8 c
          ∧ r.2.mem ((c.tc : Thread Cert.MRepIdeal.nD Cert.MRepIdeal.τ).loc Cert.MRepIdeal.main_v23_9) = v9 c
          ∧ r.2.mem ((c.tc : Thread Cert.MRepIdeal.nD Cert.MRepIdeal.τ).loc Cert.MRepIdeal.main_arg0) = m ((c.tc : Thread Cert.MRepIdeal.nD Cert.MRepIdeal.τ).loc Cert.MRepIdeal.main_arg0)
          ∧ r.2.mem ((c.tc : Thread Cert.MRepIdeal.nD Cert.MRepIdeal.τ).loc Cert.MRepIdeal.main_arg1) = m ((c.tc : Thread Cert.MRepIdeal.nD Cert.MRepIdeal.τ).loc Cert.MRepIdeal.main_arg1)
          ∧ r.2.mem ((c.tc : Thread Cert.MRepIdeal.nD Cert.MRepIdeal.τ).loc Cert.MRepIdeal.main_arg2) = m ((c.tc : Thread Cert.MRepIdeal.nD Cert.MRepIdeal.τ).loc Cert.MRepIdeal.main_arg2)
          ∧ r.2.mem ((c.tc : Thread Cert.MRepIdeal.nD Cert.MRepIdeal.τ).loc Cert.MRepIdeal.main_arg3) = m ((c.tc : Thread Cert.MRepIdeal.nD Cert.MRepIdeal.τ).loc Cert.MRepIdeal.main_arg3)
          ∧ r.2.mem ((c.tc : Thread Cert.MRepIdeal.nD Cert.MRepIdeal.τ).loc Cert.MRepIdeal.main_arg4) = m ((c.tc : Thread Cert.MRepIdeal.nD Cert.MRepIdeal.τ).loc Cert.MRepIdeal.main_arg4)
          ∧ r.2.mem ((c.tc : Thread Cert.MRepIdeal.nD Cert.MRepIdeal.τ).loc Cert.MRepIdeal.main_arg5) = m ((c.tc : Thread Cert.MRepIdeal.nD Cert.MRepIdeal.τ).loc Cert.MRepIdeal.main_arg5)
          ∧ r.2.mem ((c.tc : Thread Cert.MRepIdeal.nD Cert.MRepIdeal.τ).loc Cert.MRepIdeal.main_arg6) = m ((c.tc : Thread Cert.MRepIdeal.nD Cert.MRepIdeal.τ).loc Cert.MRepIdeal.main_arg6)
          ∧ r.2.mem ((c.tc : Thread Cert.MRepIdeal.nD Cert.MRepIdeal.τ).loc Cert.MRepIdeal.main_arg7) = m ((c.tc : Thread Cert.MRepIdeal.nD Cert.MRepIdeal.τ).loc Cert.MRepIdeal.main_arg7)
          ∧ r.2.mem ((c.tc : Thread Cert.MRepIdeal.nD Cert.MRepIdeal.τ).loc Cert.MRepIdeal.main_arg8) = m ((c.tc : Thread Cert.MRepIdeal.nD Cert.MRepIdeal.τ).loc Cert.MRepIdeal.main_arg8)
          ∧ r.2.mem ((c.tc : Thread Cert.MRepIdeal.nD Cert.MRepIdeal.τ).loc Cert.MRepIdeal.main_arg9) = m ((c.tc : Thread Cert.MRepIdeal.nD Cert.MRepIdeal.τ).loc Cert.MRepIdeal.main_arg9)
          ∧ r.2.mem ((c.tc : Thread Cert.MRepIdeal.nD Cert.MRepIdeal.τ).loc Cert.MRepIdeal.main_arg10) = m ((c.tc : Thread Cert.MRepIdeal.nD Cert.MRepIdeal.τ).loc Cert.MRepIdeal.main_arg10)
          ∧ r.2.mem ((c.tc : Thread Cert.MRepIdeal.nD Cert.MRepIdeal.τ).loc Cert.MRepIdeal.main_arg11) = m ((c.tc : Thread Cert.MRepIdeal.nD Cert.MRepIdeal.τ).loc Cert.MRepIdeal.main_arg11))
      ∧ θ_run (Cert.MRepRefIdeal.defs (F := Ideal)) (onTc (τ := Cert.MRepRefIdeal.τ) (Cert.MRepRefIdeal.main (F := Ideal))) ⟨m', fun _ => 0, g'⟩ (fun r => ∀ c : Dev Cert.MRepRefIdeal.nD,
          r.2.mem ((c.tc : Thread Cert.MRepRefIdeal.nD Cert.MRepRefIdeal.τ).loc Cert.MRepRefIdeal.main_v78) = v0 c
          ∧ r.2.mem ((c.tc : Thread Cert.MRepRefIdeal.nD Cert.MRepRefIdeal.τ).loc Cert.MRepRefIdeal.main_v82) = v1 c
          ∧ r.2.mem ((c.tc : Thread Cert.MRepRefIdeal.nD Cert.MRepRefIdeal.τ).loc Cert.MRepRefIdeal.main_v80) = v2 c
          ∧ r.2.mem ((c.tc : Thread Cert.MRepRefIdeal.nD Cert.MRepRefIdeal.τ).loc Cert.MRepRefIdeal.main_v58) = v3 c
          ∧ r.2.mem ((c.tc : Thread Cert.MRepRefIdeal.nD Cert.MRepRefIdeal.τ).loc Cert.MRepRefIdeal.main_v81) = v4 c
          ∧ r.2.mem ((c.tc : Thread Cert.MRepRefIdeal.nD Cert.MRepRefIdeal.τ).loc Cert.MRepRefIdeal.main_v52) = v5 c
          ∧ r.2.mem ((c.tc : Thread Cert.MRepRefIdeal.nD Cert.MRepRefIdeal.τ).loc Cert.MRepRefIdeal.main_v49) = v6 c
          ∧ r.2.mem ((c.tc : Thread Cert.MRepRefIdeal.nD Cert.MRepRefIdeal.τ).loc Cert.MRepRefIdeal.main_v46) = v7 c
          ∧ r.2.mem ((c.tc : Thread Cert.MRepRefIdeal.nD Cert.MRepRefIdeal.τ).loc Cert.MRepRefIdeal.main_v43) = v8 c
          ∧ r.2.mem ((c.tc : Thread Cert.MRepRefIdeal.nD Cert.MRepRefIdeal.τ).loc Cert.MRepRefIdeal.main_v40) = v9 c
          ∧ r.2.mem ((c.tc : Thread Cert.MRepRefIdeal.nD Cert.MRepRefIdeal.τ).loc Cert.MRepRefIdeal.main_arg0) = m' ((c.tc : Thread Cert.MRepRefIdeal.nD Cert.MRepRefIdeal.τ).loc Cert.MRepRefIdeal.main_arg0)
          ∧ r.2.mem ((c.tc : Thread Cert.MRepRefIdeal.nD Cert.MRepRefIdeal.τ).loc Cert.MRepRefIdeal.main_arg1) = m' ((c.tc : Thread Cert.MRepRefIdeal.nD Cert.MRepRefIdeal.τ).loc Cert.MRepRefIdeal.main_arg1)
          ∧ r.2.mem ((c.tc : Thread Cert.MRepRefIdeal.nD Cert.MRepRefIdeal.τ).loc Cert.MRepRefIdeal.main_arg2) = m' ((c.tc : Thread Cert.MRepRefIdeal.nD Cert.MRepRefIdeal.τ).loc Cert.MRepRefIdeal.main_arg2)
          ∧ r.2.mem ((c.tc : Thread Cert.MRepRefIdeal.nD Cert.MRepRefIdeal.τ).loc Cert.MRepRefIdeal.main_arg3) = m' ((c.tc : Thread Cert.MRepRefIdeal.nD Cert.MRepRefIdeal.τ).loc Cert.MRepRefIdeal.main_arg3)
          ∧ r.2.mem ((c.tc : Thread Cert.MRepRefIdeal.nD Cert.MRepRefIdeal.τ).loc Cert.MRepRefIdeal.main_arg4) = m' ((c.tc : Thread Cert.MRepRefIdeal.nD Cert.MRepRefIdeal.τ).loc Cert.MRepRefIdeal.main_arg4)
          ∧ r.2.mem ((c.tc : Thread Cert.MRepRefIdeal.nD Cert.MRepRefIdeal.τ).loc Cert.MRepRefIdeal.main_arg5) = m' ((c.tc : Thread Cert.MRepRefIdeal.nD Cert.MRepRefIdeal.τ).loc Cert.MRepRefIdeal.main_arg5)
          ∧ r.2.mem ((c.tc : Thread Cert.MRepRefIdeal.nD Cert.MRepRefIdeal.τ).loc Cert.MRepRefIdeal.main_arg6) = m' ((c.tc : Thread Cert.MRepRefIdeal.nD Cert.MRepRefIdeal.τ).loc Cert.MRepRefIdeal.main_arg6)
          ∧ r.2.mem ((c.tc : Thread Cert.MRepRefIdeal.nD Cert.MRepRefIdeal.τ).loc Cert.MRepRefIdeal.main_arg7) = m' ((c.tc : Thread Cert.MRepRefIdeal.nD Cert.MRepRefIdeal.τ).loc Cert.MRepRefIdeal.main_arg7)
          ∧ r.2.mem ((c.tc : Thread Cert.MRepRefIdeal.nD Cert.MRepRefIdeal.τ).loc Cert.MRepRefIdeal.main_arg8) = m' ((c.tc : Thread Cert.MRepRefIdeal.nD Cert.MRepRefIdeal.τ).loc Cert.MRepRefIdeal.main_arg8)
          ∧ r.2.mem ((c.tc : Thread Cert.MRepRefIdeal.nD Cert.MRepRefIdeal.τ).loc Cert.MRepRefIdeal.main_arg9) = m' ((c.tc : Thread Cert.MRepRefIdeal.nD Cert.MRepRefIdeal.τ).loc Cert.MRepRefIdeal.main_arg9)
          ∧ r.2.mem ((c.tc : Thread Cert.MRepRefIdeal.nD Cert.MRepRefIdeal.τ).loc Cert.MRepRefIdeal.main_arg10) = m' ((c.tc : Thread Cert.MRepRefIdeal.nD Cert.MRepRefIdeal.τ).loc Cert.MRepRefIdeal.main_arg10)
          ∧ r.2.mem ((c.tc : Thread Cert.MRepRefIdeal.nD Cert.MRepRefIdeal.τ).loc Cert.MRepRefIdeal.main_arg11) = m' ((c.tc : Thread Cert.MRepRefIdeal.nD Cert.MRepRefIdeal.τ).loc Cert.MRepRefIdeal.main_arg11))

def preserves_InW1_InW1Ideal : Prop :=
  True

def algebraic_InW1Ideal_InW1RefIdeal [hInW1Ideal : Cert.InW1Ideal.Facts] [hInW1RefIdeal : Cert.InW1RefIdeal.Facts] : Prop :=
  ∀ (m : (ℓ : Loc Cert.InW1Ideal.nD Cert.InW1Ideal.τ Cert.InW1Ideal.sig) → Buf (Elt Ideal) ℓ) (g : Dev Cert.InW1Ideal.nD → PrngReg)
    (m' : (ℓ : Loc Cert.InW1RefIdeal.nD Cert.InW1RefIdeal.τ Cert.InW1RefIdeal.sig) → Buf (Elt Ideal) ℓ) (g' : Dev Cert.InW1RefIdeal.nD → PrngReg), Pre_InW1Ideal m →
    (∀ c : Dev Cert.InW1Ideal.nD,
      m' ((c.tc : Thread Cert.InW1RefIdeal.nD Cert.InW1RefIdeal.τ).loc Cert.InW1RefIdeal.main_arg0) = m ((c.tc : Thread Cert.InW1Ideal.nD Cert.InW1Ideal.τ).loc Cert.InW1Ideal.main_arg0)
      ∧ m' ((c.tc : Thread Cert.InW1RefIdeal.nD Cert.InW1RefIdeal.τ).loc Cert.InW1RefIdeal.main_arg1) = m ((c.tc : Thread Cert.InW1Ideal.nD Cert.InW1Ideal.τ).loc Cert.InW1Ideal.main_arg1)
      ∧ m' ((c.tc : Thread Cert.InW1RefIdeal.nD Cert.InW1RefIdeal.τ).loc Cert.InW1RefIdeal.main_arg2) = m ((c.tc : Thread Cert.InW1Ideal.nD Cert.InW1Ideal.τ).loc Cert.InW1Ideal.main_arg2)
      ∧ m' ((c.tc : Thread Cert.InW1RefIdeal.nD Cert.InW1RefIdeal.τ).loc Cert.InW1RefIdeal.main_arg3) = m ((c.tc : Thread Cert.InW1Ideal.nD Cert.InW1Ideal.τ).loc Cert.InW1Ideal.main_arg3)
      ∧ m' ((c.tc : Thread Cert.InW1RefIdeal.nD Cert.InW1RefIdeal.τ).loc Cert.InW1RefIdeal.main_arg4) = m ((c.tc : Thread Cert.InW1Ideal.nD Cert.InW1Ideal.τ).loc Cert.InW1Ideal.main_arg4)
      ∧ m' ((c.tc : Thread Cert.InW1RefIdeal.nD Cert.InW1RefIdeal.τ).loc Cert.InW1RefIdeal.main_arg5) = m ((c.tc : Thread Cert.InW1Ideal.nD Cert.InW1Ideal.τ).loc Cert.InW1Ideal.main_arg5)) →
    ∃ (v0 : (c : Dev Cert.InW1Ideal.nD) → Buf (Elt Ideal) ((c.tc : Thread Cert.InW1Ideal.nD Cert.InW1Ideal.τ).loc Cert.InW1Ideal.main_v4)),
      θ_run (Cert.InW1Ideal.defs (F := Ideal)) (onTc (τ := Cert.InW1Ideal.τ) (Cert.InW1Ideal.main (F := Ideal))) ⟨m, fun _ => 0, g⟩ (fun r => ∀ c : Dev Cert.InW1Ideal.nD,
          r.2.mem ((c.tc : Thread Cert.InW1Ideal.nD Cert.InW1Ideal.τ).loc Cert.InW1Ideal.main_v4) = v0 c
          ∧ r.2.mem ((c.tc : Thread Cert.InW1Ideal.nD Cert.InW1Ideal.τ).loc Cert.InW1Ideal.main_arg0) = m ((c.tc : Thread Cert.InW1Ideal.nD Cert.InW1Ideal.τ).loc Cert.InW1Ideal.main_arg0)
          ∧ r.2.mem ((c.tc : Thread Cert.InW1Ideal.nD Cert.InW1Ideal.τ).loc Cert.InW1Ideal.main_arg1) = m ((c.tc : Thread Cert.InW1Ideal.nD Cert.InW1Ideal.τ).loc Cert.InW1Ideal.main_arg1)
          ∧ r.2.mem ((c.tc : Thread Cert.InW1Ideal.nD Cert.InW1Ideal.τ).loc Cert.InW1Ideal.main_arg2) = m ((c.tc : Thread Cert.InW1Ideal.nD Cert.InW1Ideal.τ).loc Cert.InW1Ideal.main_arg2)
          ∧ r.2.mem ((c.tc : Thread Cert.InW1Ideal.nD Cert.InW1Ideal.τ).loc Cert.InW1Ideal.main_arg3) = m ((c.tc : Thread Cert.InW1Ideal.nD Cert.InW1Ideal.τ).loc Cert.InW1Ideal.main_arg3)
          ∧ r.2.mem ((c.tc : Thread Cert.InW1Ideal.nD Cert.InW1Ideal.τ).loc Cert.InW1Ideal.main_arg4) = m ((c.tc : Thread Cert.InW1Ideal.nD Cert.InW1Ideal.τ).loc Cert.InW1Ideal.main_arg4)
          ∧ r.2.mem ((c.tc : Thread Cert.InW1Ideal.nD Cert.InW1Ideal.τ).loc Cert.InW1Ideal.main_arg5) = m ((c.tc : Thread Cert.InW1Ideal.nD Cert.InW1Ideal.τ).loc Cert.InW1Ideal.main_arg5))
      ∧ θ_run (Cert.InW1RefIdeal.defs (F := Ideal)) (onTc (τ := Cert.InW1RefIdeal.τ) (Cert.InW1RefIdeal.main (F := Ideal))) ⟨m', fun _ => 0, g'⟩ (fun r => ∀ c : Dev Cert.InW1RefIdeal.nD,
          r.2.mem ((c.tc : Thread Cert.InW1RefIdeal.nD Cert.InW1RefIdeal.τ).loc Cert.InW1RefIdeal.main_v15) = v0 c
          ∧ r.2.mem ((c.tc : Thread Cert.InW1RefIdeal.nD Cert.InW1RefIdeal.τ).loc Cert.InW1RefIdeal.main_arg0) = m' ((c.tc : Thread Cert.InW1RefIdeal.nD Cert.InW1RefIdeal.τ).loc Cert.InW1RefIdeal.main_arg0)
          ∧ r.2.mem ((c.tc : Thread Cert.InW1RefIdeal.nD Cert.InW1RefIdeal.τ).loc Cert.InW1RefIdeal.main_arg1) = m' ((c.tc : Thread Cert.InW1RefIdeal.nD Cert.InW1RefIdeal.τ).loc Cert.InW1RefIdeal.main_arg1)
          ∧ r.2.mem ((c.tc : Thread Cert.InW1RefIdeal.nD Cert.InW1RefIdeal.τ).loc Cert.InW1RefIdeal.main_arg2) = m' ((c.tc : Thread Cert.InW1RefIdeal.nD Cert.InW1RefIdeal.τ).loc Cert.InW1RefIdeal.main_arg2)
          ∧ r.2.mem ((c.tc : Thread Cert.InW1RefIdeal.nD Cert.InW1RefIdeal.τ).loc Cert.InW1RefIdeal.main_arg3) = m' ((c.tc : Thread Cert.InW1RefIdeal.nD Cert.InW1RefIdeal.τ).loc Cert.InW1RefIdeal.main_arg3)
          ∧ r.2.mem ((c.tc : Thread Cert.InW1RefIdeal.nD Cert.InW1RefIdeal.τ).loc Cert.InW1RefIdeal.main_arg4) = m' ((c.tc : Thread Cert.InW1RefIdeal.nD Cert.InW1RefIdeal.τ).loc Cert.InW1RefIdeal.main_arg4)
          ∧ r.2.mem ((c.tc : Thread Cert.InW1RefIdeal.nD Cert.InW1RefIdeal.τ).loc Cert.InW1RefIdeal.main_arg5) = m' ((c.tc : Thread Cert.InW1RefIdeal.nD Cert.InW1RefIdeal.τ).loc Cert.InW1RefIdeal.main_arg5))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg3) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)
      ∧ m' ((c.tc : Thread Cert.InFRefIdeal.nD Cert.InFRefIdeal.τ).loc Cert.InFRefIdeal.main_arg3) = m ((c.tc : Thread Cert.InFIdeal.nD Cert.InFIdeal.τ).loc Cert.InFIdeal.main_arg3)) →
    ∃ (v0 : (c : Dev Cert.InFIdeal.nD) → Buf (Elt Ideal) ((c.tc : Thread Cert.InFIdeal.nD Cert.InFIdeal.τ).loc Cert.InFIdeal.main_v5_0)) (v1 : (c : Dev Cert.InFIdeal.nD) → Buf (Elt Ideal) ((c.tc : Thread Cert.InFIdeal.nD Cert.InFIdeal.τ).loc Cert.InFIdeal.main_v5_1)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v5_0) = v0 c
          ∧ r.2.mem ((c.tc : Thread Cert.InFIdeal.nD Cert.InFIdeal.τ).loc Cert.InFIdeal.main_v5_1) = v1 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2)
          ∧ r.2.mem ((c.tc : Thread Cert.InFIdeal.nD Cert.InFIdeal.τ).loc Cert.InFIdeal.main_arg3) = m ((c.tc : Thread Cert.InFIdeal.nD Cert.InFIdeal.τ).loc Cert.InFIdeal.main_arg3))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v10) = v0 c
          ∧ r.2.mem ((c.tc : Thread Cert.InFRefIdeal.nD Cert.InFRefIdeal.τ).loc Cert.InFRefIdeal.main_v13) = v1 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2)
          ∧ r.2.mem ((c.tc : Thread Cert.InFRefIdeal.nD Cert.InFRefIdeal.τ).loc Cert.InFRefIdeal.main_arg3) = m' ((c.tc : Thread Cert.InFRefIdeal.nD Cert.InFRefIdeal.τ).loc Cert.InFRefIdeal.main_arg3))

def preserves_PoolF_PoolFIdeal : Prop :=
  True

def algebraic_PoolFIdeal_PoolFRefIdeal [hPoolFIdeal : Cert.PoolFIdeal.Facts] [hPoolFRefIdeal : Cert.PoolFRefIdeal.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)
      ∧ m' ((c.tc : Thread Cert.PoolFRefIdeal.nD Cert.PoolFRefIdeal.τ).loc Cert.PoolFRefIdeal.main_arg1) = m ((c.tc : Thread Cert.PoolFIdeal.nD Cert.PoolFIdeal.τ).loc Cert.PoolFIdeal.main_arg1)
      ∧ m' ((c.tc : Thread Cert.PoolFRefIdeal.nD Cert.PoolFRefIdeal.τ).loc Cert.PoolFRefIdeal.main_arg2) = m ((c.tc : Thread Cert.PoolFIdeal.nD Cert.PoolFIdeal.τ).loc Cert.PoolFIdeal.main_arg2)) →
    ∃ (v0 : (c : Dev Cert.PoolFIdeal.nD) → Buf (Elt Ideal) ((c.tc : Thread Cert.PoolFIdeal.nD Cert.PoolFIdeal.τ).loc Cert.PoolFIdeal.main_v6)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v6) = v0 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0)
          ∧ r.2.mem ((c.tc : Thread Cert.PoolFIdeal.nD Cert.PoolFIdeal.τ).loc Cert.PoolFIdeal.main_arg1) = m ((c.tc : Thread Cert.PoolFIdeal.nD Cert.PoolFIdeal.τ).loc Cert.PoolFIdeal.main_arg1)
          ∧ r.2.mem ((c.tc : Thread Cert.PoolFIdeal.nD Cert.PoolFIdeal.τ).loc Cert.PoolFIdeal.main_arg2) = m ((c.tc : Thread Cert.PoolFIdeal.nD Cert.PoolFIdeal.τ).loc Cert.PoolFIdeal.main_arg2))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v21) = v0 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0)
          ∧ r.2.mem ((c.tc : Thread Cert.PoolFRefIdeal.nD Cert.PoolFRefIdeal.τ).loc Cert.PoolFRefIdeal.main_arg1) = m' ((c.tc : Thread Cert.PoolFRefIdeal.nD Cert.PoolFRefIdeal.τ).loc Cert.PoolFRefIdeal.main_arg1)
          ∧ r.2.mem ((c.tc : Thread Cert.PoolFRefIdeal.nD Cert.PoolFRefIdeal.τ).loc Cert.PoolFRefIdeal.main_arg2) = m' ((c.tc : Thread Cert.PoolFRefIdeal.nD Cert.PoolFRefIdeal.τ).loc Cert.PoolFRefIdeal.main_arg2))

def Claim : Prop :=
  ∃ (hInX : Cert.InX.Facts) (hInXIdeal : Cert.InXIdeal.Facts) (hInXRefIdeal : Cert.InXRefIdeal.Facts) (hLossFwd : Cert.LossFwd.Facts) (hLossFwdIdeal : Cert.LossFwdIdeal.Facts) (hLossFwdRefIdeal : Cert.LossFwdRefIdeal.Facts) (hOutBwd : Cert.OutBwd.Facts) (hOutBwdIdeal : Cert.OutBwdIdeal.Facts) (hOutBwdRefIdeal : Cert.OutBwdRefIdeal.Facts) (hLruBwd : Cert.LruBwd.Facts) (hLruBwdIdeal : Cert.LruBwdIdeal.Facts) (hPoolMm : Cert.PoolMm.Facts) (hPoolMmIdeal : Cert.PoolMmIdeal.Facts) (hPoolMmRefIdeal : Cert.PoolMmRefIdeal.Facts) (hInXCtx : Cert.InXCtx.Facts) (hInXCtxIdeal : Cert.InXCtxIdeal.Facts) (hInXCtxRefIdeal : Cert.InXCtxRefIdeal.Facts) (hInWCtx : Cert.InWCtx.Facts) (hInWCtxIdeal : Cert.InWCtxIdeal.Facts) (hInWCtxRefIdeal : Cert.InWCtxRefIdeal.Facts) (hCctxFin : Cert.CctxFin.Facts) (hCctxFinIdeal : Cert.CctxFinIdeal.Facts) (hCctxFinRefIdeal : Cert.CctxFinRefIdeal.Facts) (hOutW : Cert.OutW.Facts) (hOutWIdeal : Cert.OutWIdeal.Facts) (hOutWRefIdeal : Cert.OutWRefIdeal.Facts) (hInW : Cert.InW.Facts) (hInWIdeal : Cert.InWIdeal.Facts) (hInWRefIdeal : Cert.InWRefIdeal.Facts) (hModW : Cert.ModW.Facts) (hModWIdeal : Cert.ModWIdeal.Facts) (hModWRefIdeal : Cert.ModWRefIdeal.Facts) (hCctxPart : Cert.CctxPart.Facts) (hCctxPartIdeal : Cert.CctxPartIdeal.Facts) (hCctxPartRefIdeal : Cert.CctxPartRefIdeal.Facts) (hModF : Cert.ModF.Facts) (hModFIdeal : Cert.ModFIdeal.Facts) (hModFRefIdeal : Cert.ModFRefIdeal.Facts) (hMRep : Cert.MRep.Facts) (hMRepIdeal : Cert.MRepIdeal.Facts) (hMRepRefIdeal : Cert.MRepRefIdeal.Facts) (hInW1 : Cert.InW1.Facts) (hInW1Ideal : Cert.InW1Ideal.Facts) (hInW1RefIdeal : Cert.InW1RefIdeal.Facts) (hAdam : Cert.Adam.Facts) (hAdamIdeal : Cert.AdamIdeal.Facts) (hAdamRefIdeal : Cert.AdamRefIdeal.Facts) (hInF : Cert.InF.Facts) (hInFIdeal : Cert.InFIdeal.Facts) (hInFRefIdeal : Cert.InFRefIdeal.Facts) (hPoolF : Cert.PoolF.Facts) (hPoolFIdeal : Cert.PoolFIdeal.Facts) (hPoolFRefIdeal : Cert.PoolFRefIdeal.Facts) (hPre_finite : Cert.Pre_finite.Facts) (hPre_finite_ctx : Cert.Pre_finite_ctx.Facts),
    quiescent_InX (hInX := hInX)
    ∧ quiescent_InXIdeal (hInXIdeal := hInXIdeal)
    ∧ quiescent_InXRefIdeal (hInXRefIdeal := hInXRefIdeal)
    ∧ quiescent_LossFwd (hLossFwd := hLossFwd)
    ∧ quiescent_LossFwdIdeal (hLossFwdIdeal := hLossFwdIdeal)
    ∧ quiescent_LossFwdRefIdeal (hLossFwdRefIdeal := hLossFwdRefIdeal)
    ∧ quiescent_OutBwd (hOutBwd := hOutBwd)
    ∧ quiescent_OutBwdIdeal (hOutBwdIdeal := hOutBwdIdeal)
    ∧ quiescent_OutBwdIdeal_pre_finite (hOutBwdIdeal := hOutBwdIdeal) (hPre_finite := hPre_finite)
    ∧ quiescent_OutBwdRefIdeal (hOutBwdRefIdeal := hOutBwdRefIdeal)
    ∧ quiescent_OutBwdRefIdeal_pre_finite (hOutBwdRefIdeal := hOutBwdRefIdeal) (hPre_finite := hPre_finite)
    ∧ quiescent_LruBwd (hLruBwd := hLruBwd)
    ∧ quiescent_LruBwdIdeal (hLruBwdIdeal := hLruBwdIdeal)
    ∧ quiescent_PoolMm (hPoolMm := hPoolMm)
    ∧ quiescent_PoolMmIdeal (hPoolMmIdeal := hPoolMmIdeal)
    ∧ quiescent_PoolMmRefIdeal (hPoolMmRefIdeal := hPoolMmRefIdeal)
    ∧ quiescent_InXCtx (hInXCtx := hInXCtx)
    ∧ quiescent_InXCtxIdeal (hInXCtxIdeal := hInXCtxIdeal)
    ∧ quiescent_InXCtxRefIdeal (hInXCtxRefIdeal := hInXCtxRefIdeal)
    ∧ quiescent_InWCtx (hInWCtx := hInWCtx)
    ∧ quiescent_InWCtxIdeal (hInWCtxIdeal := hInWCtxIdeal)
    ∧ quiescent_InWCtxRefIdeal (hInWCtxRefIdeal := hInWCtxRefIdeal)
    ∧ quiescent_CctxFin (hCctxFin := hCctxFin)
    ∧ quiescent_CctxFinIdeal (hCctxFinIdeal := hCctxFinIdeal)
    ∧ quiescent_CctxFinIdeal_pre_finite_ctx (hCctxFinIdeal := hCctxFinIdeal) (hPre_finite_ctx := hPre_finite_ctx)
    ∧ quiescent_CctxFinRefIdeal (hCctxFinRefIdeal := hCctxFinRefIdeal)
    ∧ quiescent_CctxFinRefIdeal_pre_finite_ctx (hCctxFinRefIdeal := hCctxFinRefIdeal) (hPre_finite_ctx := hPre_finite_ctx)
    ∧ quiescent_OutW (hOutW := hOutW)
    ∧ quiescent_OutWIdeal (hOutWIdeal := hOutWIdeal)
    ∧ quiescent_OutWRefIdeal (hOutWRefIdeal := hOutWRefIdeal)
    ∧ quiescent_InW (hInW := hInW)
    ∧ quiescent_InWIdeal (hInWIdeal := hInWIdeal)
    ∧ quiescent_InWRefIdeal (hInWRefIdeal := hInWRefIdeal)
    ∧ quiescent_ModW (hModW := hModW)
    ∧ quiescent_ModWIdeal (hModWIdeal := hModWIdeal)
    ∧ quiescent_ModWRefIdeal (hModWRefIdeal := hModWRefIdeal)
    ∧ quiescent_CctxPart (hCctxPart := hCctxPart)
    ∧ quiescent_CctxPartIdeal (hCctxPartIdeal := hCctxPartIdeal)
    ∧ quiescent_CctxPartRefIdeal (hCctxPartRefIdeal := hCctxPartRefIdeal)
    ∧ quiescent_ModF (hModF := hModF)
    ∧ quiescent_ModFIdeal (hModFIdeal := hModFIdeal)
    ∧ quiescent_ModFRefIdeal (hModFRefIdeal := hModFRefIdeal)
    ∧ quiescent_MRep (hMRep := hMRep)
    ∧ quiescent_MRepIdeal (hMRepIdeal := hMRepIdeal)
    ∧ quiescent_MRepRefIdeal (hMRepRefIdeal := hMRepRefIdeal)
    ∧ quiescent_InW1 (hInW1 := hInW1)
    ∧ quiescent_InW1Ideal (hInW1Ideal := hInW1Ideal)
    ∧ quiescent_InW1RefIdeal (hInW1RefIdeal := hInW1RefIdeal)
    ∧ quiescent_Adam (hAdam := hAdam)
    ∧ quiescent_AdamIdeal (hAdamIdeal := hAdamIdeal)
    ∧ quiescent_AdamRefIdeal (hAdamRefIdeal := hAdamRefIdeal)
    ∧ quiescent_InF (hInF := hInF)
    ∧ quiescent_InFIdeal (hInFIdeal := hInFIdeal)
    ∧ quiescent_InFRefIdeal (hInFRefIdeal := hInFRefIdeal)
    ∧ quiescent_PoolF (hPoolF := hPoolF)
    ∧ quiescent_PoolFIdeal (hPoolFIdeal := hPoolFIdeal)
    ∧ quiescent_PoolFRefIdeal (hPoolFRefIdeal := hPoolFRefIdeal)
    ∧ preserves_InX_InXIdeal
    ∧ algebraic_InXIdeal_InXRefIdeal (hInXIdeal := hInXIdeal) (hInXRefIdeal := hInXRefIdeal)
    ∧ preserves_LossFwd_LossFwdIdeal
    ∧ algebraic_LossFwdIdeal_LossFwdRefIdeal (hLossFwdIdeal := hLossFwdIdeal) (hLossFwdRefIdeal := hLossFwdRefIdeal)
    ∧ preserves_OutBwd_OutBwdIdeal
    ∧ algebraic_OutBwdIdeal_OutBwdRefIdeal_pre_finite (hOutBwdIdeal := hOutBwdIdeal) (hOutBwdRefIdeal := hOutBwdRefIdeal) (hPre_finite := hPre_finite)
    ∧ preserves_LruBwd_LruBwdIdeal
    ∧ preserves_PoolMm_PoolMmIdeal
    ∧ algebraic_PoolMmIdeal_PoolMmRefIdeal (hPoolMmIdeal := hPoolMmIdeal) (hPoolMmRefIdeal := hPoolMmRefIdeal)
    ∧ preserves_InXCtx_InXCtxIdeal
    ∧ algebraic_InXCtxIdeal_InXCtxRefIdeal (hInXCtxIdeal := hInXCtxIdeal) (hInXCtxRefIdeal := hInXCtxRefIdeal)
    ∧ preserves_InWCtx_InWCtxIdeal
    ∧ algebraic_InWCtxIdeal_InWCtxRefIdeal (hInWCtxIdeal := hInWCtxIdeal) (hInWCtxRefIdeal := hInWCtxRefIdeal)
    ∧ preserves_CctxFin_CctxFinIdeal
    ∧ algebraic_CctxFinIdeal_CctxFinRefIdeal_pre_finite_ctx (hCctxFinIdeal := hCctxFinIdeal) (hCctxFinRefIdeal := hCctxFinRefIdeal) (hPre_finite_ctx := hPre_finite_ctx)
    ∧ preserves_OutW_OutWIdeal
    ∧ algebraic_OutWIdeal_OutWRefIdeal (hOutWIdeal := hOutWIdeal) (hOutWRefIdeal := hOutWRefIdeal)
    ∧ preserves_InW_InWIdeal
    ∧ algebraic_InWIdeal_InWRefIdeal (hInWIdeal := hInWIdeal) (hInWRefIdeal := hInWRefIdeal)
    ∧ preserves_ModW_ModWIdeal
    ∧ algebraic_ModWIdeal_ModWRefIdeal (hModWIdeal := hModWIdeal) (hModWRefIdeal := hModWRefIdeal)
    ∧ preserves_CctxPart_CctxPartIdeal
    ∧ algebraic_CctxPartIdeal_CctxPartRefIdeal (hCctxPartIdeal := hCctxPartIdeal) (hCctxPartRefIdeal := hCctxPartRefIdeal)
    ∧ preserves_ModF_ModFIdeal
    ∧ algebraic_ModFIdeal_ModFRefIdeal (hModFIdeal := hModFIdeal) (hModFRefIdeal := hModFRefIdeal)
    ∧ preserves_MRep_MRepIdeal
    ∧ algebraic_MRepIdeal_MRepRefIdeal (hMRepIdeal := hMRepIdeal) (hMRepRefIdeal := hMRepRefIdeal)
    ∧ preserves_InW1_InW1Ideal
    ∧ algebraic_InW1Ideal_InW1RefIdeal (hInW1Ideal := hInW1Ideal) (hInW1RefIdeal := hInW1RefIdeal)
    ∧ preserves_Adam_AdamIdeal
    ∧ algebraic_AdamIdeal_AdamRefIdeal (hAdamIdeal := hAdamIdeal) (hAdamRefIdeal := hAdamRefIdeal)
    ∧ preserves_InF_InFIdeal
    ∧ algebraic_InFIdeal_InFRefIdeal (hInFIdeal := hInFIdeal) (hInFRefIdeal := hInFRefIdeal)
    ∧ preserves_PoolF_PoolFIdeal
    ∧ algebraic_PoolFIdeal_PoolFRefIdeal (hPoolFIdeal := hPoolFIdeal) (hPoolFRefIdeal := hPoolFRefIdeal)
-- ==== Pre_finite.lean ====
abbrev S8192x1024 : Shape := ⟨2, ![8192, 1024]⟩
abbrev S8192x2048 : Shape := ⟨2, ![8192, 2048]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_arg5 : FVec F S1024 .f32) (main_arg6 : FVec F S8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S8192x2048 .f32) (main_arg2 : FVec F S8192x2048 .f32) (main_arg3 : FVec F S1x1024 .f32) (main_arg4 : FVec F S2048x1024 .f32) (main_arg5 : FVec F S1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_finite_ctx.lean ====
abbrev S1024 : Shape := ⟨1, ![1024]⟩
abbrev S1024x3072 : Shape := ⟨2, ![1024, 3072]⟩
abbrev S8x3072 : Shape := ⟨2, ![8, 3072]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S8x3072 : S_.BroadcastsInDim S8x3072 (![] : Fin 0 → Fin S8x3072.rank)
  reducesTo_S8x3072_S_d0_1 : S8x3072.ReducesTo [0, 1] S_

variable [Facts]

def fn {F : FTy → Type} [FloatOps F] (main_arg0 : FVec F S1024 .f32) (main_arg1 : FVec F S1024x3072 .f32) (main_arg2 : FVec F S8x3072 .f32) : IVec S_ 1 :=
  let main_v0 : FVec F S1024 .f32 := Host.absf main_arg0
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3072 .f32 := Host.absf main_arg1
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S8x3072 .f32 := Host.absf main_arg2
  let main_cst_2 : FVec F S_ .f32 := constant S_ .f32 0x7F800000#32
  let main_v10 : FVec F S8x3072 .f32 := broadcastInDim S8x3072 ![] bcast_S_S8x3072 main_cst_2
  let main_v11 : IVec S8x3072 1 := cmpf .olt main_v9 main_v10
  let main_c_3 : IVec S_ 1 := constantI S_ 1 1#1
  let main_v12 : IVec S_ 1 := (fun x v => Host.reduce IntOp.andi x v reducesTo_S8x3072_S_d0_1 h_S_) main_v11 main_c_3
  let main_v13 : IVec S_ 1 := andi main_v8 main_v12
  main_v13
-- ==== InX.lean ====
abbrev S8192x1024 : Shape := ⟨2, ![8192, 1024]⟩
abbrev S1x1024 : Shape := ⟨2, ![1, 1024]⟩
abbrev S1024x4096 : Shape := ⟨2, ![1024, 4096]⟩
abbrev S8192x2048 : Shape := ⟨2, ![8192, 2048]⟩
abbrev S1024x4x1024 : Shape := ⟨3, ![1024, 4, 1024]⟩
abbrev S4x1024x1024 : Shape := ⟨3, ![4, 1024, 1024]⟩
abbrev S_ : Shape := ⟨0, ![]⟩
abbrev S512x2048 : Shape := ⟨2, ![512, 2048]⟩
abbrev S512x1024 : Shape := ⟨2, ![512, 1024]⟩
abbrev S1x1024x1024 : Shape := ⟨3, ![1, 1024, 1024]⟩
abbrev S1024x1024 : Shape := ⟨2, ![1024, 1024]⟩
abbrev S1024 : Shape := ⟨1, ![1024]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | .hbm, ⟨10, _⟩ => ⟨S8192x2048, .bf16⟩
  | .hbm, ⟨11, _⟩ => ⟨S8192x2048, .bf16⟩
  | .hbm, ⟨12, _⟩ => ⟨S_, .f32⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S1x1024, .f32⟩
  | .hbm, ⟨17, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InXRefIdeal.lean ====
abbrev S8192x1024 : Shape := ⟨2, ![8192, 1024]⟩
abbrev S1x1024 : Shape := ⟨2, ![1, 1024]⟩
abbrev S1024x4096 : Shape := ⟨2, ![1024, 4096]⟩
abbrev S8192x2048 : Shape := ⟨2, ![8192, 2048]⟩
abbrev S_ : Shape := ⟨0, ![]⟩
abbrev S8192x4096 : Shape := ⟨2, ![8192, 4096]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x4096, .f32⟩
  | .hbm, ⟨15, _⟩ => ⟨S8192x2048, .f32⟩
  | .hbm, ⟨16, _⟩ => ⟨S8192x2048, .f32⟩
  | .hbm, ⟨17, _⟩ => ⟨S8192x4096, .f32⟩
  | .hbm, ⟨18, _⟩ => ⟨S8192x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== LossFwd.lean ====
abbrev S8192x1024 : Shape := ⟨2, ![8192, 1024]⟩
abbrev S8192x2048 : Shape := ⟨2, ![8192, 2048]⟩
abbrev S1x1024 : Shape := ⟨2, ![1, 1024]⟩
abbrev S2048x1024 : Shape := ⟨2, ![2048, 1024]⟩
abbrev S1024 : Shape := ⟨1, ![1024]⟩
abbrev S8192x16x128 : Shape := ⟨3, ![8192, 16, 128]⟩
abbrev S16x8192x128 : Shape := ⟨3, ![16, 8192, 128]⟩
abbrev S1x128 : Shape := ⟨2, ![1, 128]⟩
abbrev S16x512x128 : Shape := ⟨3, ![16, 512, 128]⟩
abbrev S512x1024 : Shape := ⟨2, ![512, 1024]⟩
abbrev S1x512x128 : Shape := ⟨3, ![1, 512, 128]⟩
abbrev S512x128 : Shape := ⟨2, ![512, 128]⟩
abbrev S512x2048 : Shape := ⟨2, ![512, 2048]⟩
abbrev S128x1024 : Shape := ⟨2, ![128, 1024]⟩
abbrev S128 : Shape := ⟨1, ![128]⟩
abbrev S128x1 : Shape := ⟨2, ![128, 1]⟩

abbrev nBuf : Space → Nat
  | .hbm => 20
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S1x1024, .f32⟩
  | .hbm, ⟨4, _⟩ => ⟨S2048x1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S8192x16x128, .f32⟩
  | .hbm, ⟨9, _⟩ => ⟨S16x8192x128, .f32⟩
  | .hbm, ⟨10, _⟩ => ⟨S16x8192x128, .bf16⟩
  | .hbm, ⟨11, _⟩ => ⟨S8192x16x128, .f32⟩
  | .hbm, ⟨12, _⟩ => ⟨S16x8192x128, .f32⟩
  | .hbm, ⟨13, _⟩ => ⟨S16x8192x128, .bf16⟩
  | .hbm, ⟨14, _⟩ => ⟨S2048x1024, .bf16⟩
  | .hbm, ⟨15, _⟩ => ⟨S1x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1x128, .f32⟩
  | .local _ .vmem, ⟨0, _⟩ => ⟨S16x512x128, .bf16⟩
  | .local _ .vmem, ⟨1, _⟩ => ⟨S16x512x128, .bf16⟩
  | .local _ .vmem, ⟨2, _⟩ => ⟨S16x512x128, .bf16⟩
  | .local _ .vmem, ⟨3, _⟩ => ⟨S16x512x128, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S2048x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_133 : BitVec 32 := 0#32
  let c4_i32 : BitVec 32 := 4#32
  let v264 : BitVec 32 := Scalar.addi c0_i32_133 c4_i32
  let c1_i32 : BitVec 32 := 1#32
  ⟨c0_i32_133, v264, c1_i32⟩
def k0_mult1 (k0_t1 : Fin k0_t1_loop.trips) : BitVec 32 :=
  let c0_i32_133 : BitVec 32 := 0#32
  let c1_i32 : BitVec 32 := 1#32
  let arg12 : BitVec 32 := Scf.iv c0_i32_133 c1_i32 k0_t1
  let c128_i32 : BitVec 32 := 128#32
  let v265 : BitVec 32 := Scalar.muli arg12 c128_i32
  v265
def k0_off1 (k0_t1 : Fin k0_t1_loop.trips) : Fin 2 → Nat :=
  let c0_i32_133 : BitVec 32 := 0#32
  let c1_i32 : BitVec 32 := 1#32
  let arg12 : BitVec 32 := Scf.iv c0_i32_133 c1_i32 k0_t1
  let c128_i32 : BitVec 32 := 128#32
  let v265 : BitVec 32 := Scalar.muli arg12 c128_i32
  let v266 : BitVec 32 := v265
  let v267 : Index := Scalar.indexCast v266
  let c0_135 : Index := 0#32
  ![v267.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossFwdRefIdeal.lean ====
abbrev S8192x1024 : Shape := ⟨2, ![8192, 1024]⟩
abbrev S8192x2048 : Shape := ⟨2, ![8192, 2048]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x8x128 : Shape := ⟨3, ![8192, 8, 128]⟩
abbrev S128 : Shape := ⟨1, ![128]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S1x1024, .f32⟩
  | .hbm, ⟨4, _⟩ => ⟨S2048x1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x8x128, .f32⟩
  | .hbm, ⟨80, _⟩ => ⟨S_, .f32⟩
  | .hbm, ⟨81, _⟩ => ⟨S128, .f32⟩
  | .hbm, ⟨82, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_cst_10 : Ref sig .tc := ⟨.hbm, 68, rfl⟩
abbrev main_cst_11 : Ref sig .tc := ⟨.hbm, 69, rfl⟩
abbrev main_v41 : Ref sig .tc := ⟨.hbm, 70, rfl⟩
abbrev main_v42 : Ref sig .tc := ⟨.hbm, 71, rfl⟩
abbrev main_cst_12 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_13 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]
-- ==== OutBwd.lean ====
abbrev S8192x1024 : Shape := ⟨2, ![8192, 1024]⟩
abbrev S8192x2048 : Shape := ⟨2, ![8192, 2048]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩
abbrev S8192x16x128 : Shape := ⟨3, ![8192, 16, 128]⟩
abbrev S16x8192x128 : Shape := ⟨3, ![16, 8192, 128]⟩
abbrev S256x1024 : Shape := ⟨2, ![256, 1024]⟩
abbrev S16x256x128 : Shape := ⟨3, ![16, 256, 128]⟩
abbrev S256x2048 : Shape := ⟨2, ![256, 2048]⟩
abbrev S128x1024 : Shape := ⟨2, ![128, 1024]⟩
abbrev S128 : Shape := ⟨1, ![128]⟩
abbrev S128x1 : Shape := ⟨2, ![128, 1]⟩
abbrev S256x128 : Shape := ⟨2, ![256, 128]⟩
abbrev S1x256x128 : Shape := ⟨3, ![1, 256, 128]⟩

abbrev nBuf : Space → Nat
  | .hbm => 33
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S1x1024, .f32⟩
  | .hbm, ⟨4, _⟩ => ⟨S2048x1024, .f32⟩
  | .hbm, ⟨5, _⟩ => ⟨S1024, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x1024, .f32⟩
  | .hbm, ⟨18, _⟩ => ⟨S8192x16x128, .f32⟩
  | .hbm, ⟨19, _⟩ => ⟨S16x8192x128, .f32⟩
  | .hbm, ⟨20, _⟩ => ⟨S16x8192x128, .bf16⟩
  | .hbm, ⟨21, _⟩ => ⟨S8192x16x128, .f32⟩
  | .hbm, ⟨22, _⟩ => ⟨S16x8192x128, .f32⟩
  | .hbm, ⟨23, _⟩ => ⟨S16x8192x128, .bf16⟩
  | .hbm, ⟨24, _⟩ => ⟨S1x1024, .f32⟩
  | .hbm, ⟨25, _⟩ => ⟨S2048x1024, .bf16⟩
  | .hbm, ⟨26, _⟩ => ⟨S16x8192x128, .f32⟩
  | .hbm, ⟨27, _⟩ => ⟨S8192x2048, .bf16⟩
  | .hbm, ⟨28, _⟩ => ⟨S8192x1024, .f32⟩
  | .hbm, ⟨29, _⟩ => ⟨S8192x1024, .bf16⟩
  | .hbm, ⟨30, _⟩ => ⟨S1x1024, .f32⟩
  | .hbm, ⟨31, _⟩ => ⟨S1x1024, .f32⟩
  | .hbm, ⟨32, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S16x256x128, .bf16⟩
  | .local _ .vmem, ⟨7, _⟩ => ⟨S16x256x128, .bf16⟩
  | .local _ .vmem, ⟨8, _⟩ => ⟨S16x256x128, .bf16⟩
  | .local _ .vmem, ⟨9, _⟩ => ⟨S16x256x128, .bf16⟩
  | .local _ .vmem, ⟨10, _⟩ => ⟨S1x1024, .f32⟩
  | .local _ .vmem, ⟨11, _⟩ => ⟨S1x1024, .f32⟩
  | .local _ .vmem, ⟨12, _⟩ => ⟨S2048x1024, .bf16⟩
  | .local _ .vmem, ⟨13, _⟩ => ⟨S16x256x128, .f32⟩
  | .local _ .vmem, ⟨14, _⟩ => ⟨S16x256x128, .f32⟩
  | .local _ .vmem, ⟨15, _⟩ => ⟨S256x2048, .bf16⟩
  | .local _ .vmem, ⟨16, _⟩ => ⟨S256x2048, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg16 : BitVec 32 := Scf.iv c0_i32_1 c1_i32 k0_t1
  let c128_i32 : BitVec 32 := 128#32
  let v473 : BitVec 32 := Scalar.muli arg16 c128_i32
  v473
def k0_off1 (k0_t1 : Fin k0_t1_loop.trips) : Fin 2 → Nat :=
  let c0_i32_1 : BitVec 32 := 0#32
  let c1_i32 : BitVec 32 := 1#32
  let arg16 : BitVec 32 := Scf.iv c0_i32_1 c1_i32 k0_t1
  let c128_i32 : BitVec 32 := 128#32
  let v473 : BitVec 32 := Scalar.muli arg16 c128_i32
  let v474 : BitVec 32 := v473
  let v475 : Index := Scalar.indexCast v474
  let c0_232 : Index := 0#32
  ![v475.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== OutBwdRefIdeal.lean ====
abbrev S8192x1024 : Shape := ⟨2, ![8192, 1024]⟩
abbrev S8192x2048 : Shape := ⟨2, ![8192, 2048]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x16x128 : Shape := ⟨3, ![8192, 16, 128]⟩
abbrev S16x8192x128 : Shape := ⟨3, ![16, 8192, 128]⟩

abbrev nBuf : Space → Nat
  | .hbm => 133
  | .vmem => 0
  | .smem => 0
  | _ => 0

abbrev hbmTy0_0 (i : Nat) : BufTy := match i % 128 with
  | 0 => ⟨S8192x1024, .f32⟩
  | 1 => ⟨S8192x2048, .f32⟩
  | 2 => ⟨S8192x2048, .f32⟩
  | 3 => ⟨S1x1024, .f32⟩
  | 4 => ⟨S2048x1024, .f32⟩
  | 5 => ⟨S1024, .f32⟩
  | 6 => ⟨S8192x1024, .f32⟩
  | 7 => ⟨S8192x2048, .f32⟩
  | 8 => ⟨S8192x2048, .f32⟩
  | 9 => ⟨S_, .f32⟩
  | 10 => ⟨S8192x2048, .f32⟩
  | 11 => ⟨S8192x2048, .f32⟩
  | 12 => ⟨S_, .f32⟩
  | 13 => ⟨S8192x2048, .f32⟩
  | 14 => ⟨S8192x2048, .f32⟩
  | 15 => ⟨S_, .f32⟩
  | 16 => ⟨S8192x2048, .f32⟩
  | 17 => ⟨S8192x2048, .f32⟩
  | 18 => ⟨S8192x2048, .f32⟩
  | 19 => ⟨S8192x2048, .f32⟩
  | 20 => ⟨S8192x2048, .f32⟩
  | 21 => ⟨S8192x1024, .f32⟩
  | 22 => ⟨S_, .f32⟩
  | 23 => ⟨S1024, .f32⟩
  | 24 => ⟨S_, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S_, .f32⟩
  | 51 => ⟨S8192x1, .f32⟩
  | 52 => ⟨S8192x1, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S1x1024, .f32⟩
  | 64 => ⟨S8192x1024, .f32⟩
  | 65 => ⟨S8192x1024, .f32⟩
  | 66 => ⟨S8192x1024, .f32⟩
  | 67 => ⟨S_, .f32⟩
  | 68 => ⟨S1024, .f32⟩
  | 69 => ⟨S1x1024, .f32⟩
  | 70 => ⟨S_, .f32⟩
  | 71 => ⟨S1024, .f32⟩
  | 72 => ⟨S8192x1024, .f32⟩
  | 73 => ⟨S_, .f32⟩
  | 74 => ⟨S1024, .f32⟩
  | 75 => ⟨S1x1024, .f32⟩
  | 76 => ⟨S8192x1024, .f32⟩
  | 77 => ⟨S8192x1024, .f32⟩
  | 78 => ⟨S_, .f32⟩
  | 79 => ⟨S1024, .f32⟩
  | 80 => ⟨S8192x1024, .f32⟩
  | 81 => ⟨S_, .f32⟩
  | 82 => ⟨S8192, .f32⟩
  | 83 => ⟨S8192x1, .f32⟩
  | 84 => ⟨S8192x1024, .f32⟩
  | 85 => ⟨S8192x1024, .f32⟩
  | 86 => ⟨S8192x1, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192, .f32⟩
  | 96 => ⟨S8192x1024, .f32⟩
  | 97 => ⟨S8192x1024, .f32⟩
  | 98 => ⟨S8192x1024, .f32⟩
  | 99 => ⟨S_, .f32⟩
  | 100 => ⟨S8192, .f32⟩
  | 101 => ⟨S8192x1, .f32⟩
  | 102 => ⟨S8192x1024, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S_, .f32⟩
  | 115 => ⟨S1024, .f32⟩
  | 116 => ⟨S1x1024, .f32⟩
  | 117 => ⟨S_, .f32⟩
  | 118 => ⟨S8192x1024, .f32⟩
  | 119 => ⟨S8192x1024, .f32⟩
  | 120 => ⟨S8192x2048, .f32⟩
  | 121 => ⟨S8192x2048, .f32⟩
  | 122 => ⟨S8192x2048, .f32⟩
  | 123 => ⟨S8192x2048, .f32⟩
  | 124 => ⟨S8192x2048, .f32⟩
  | 125 => ⟨S8192x2048, .f32⟩
  | 126 => ⟨S8192x2048, .f32⟩
  | 127 => ⟨S8192x16x128, .f32⟩
  | _ => ⟨S8192x1024, .f32⟩

abbrev hbmTy0_1 (i : Nat) : BufTy := match i % 128 with
  | 0 => ⟨S16x8192x128, .f32⟩
  | 1 => ⟨S8192x2048, .bf16⟩
  | 2 => ⟨S8192x1024, .bf16⟩
  | 3 => ⟨S1x1024, .f32⟩
  | 4 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_cst_2 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_3 : Ref sig .tc := ⟨.hbm, 39, rfl⟩
abbrev main_v16 : Ref sig .tc := ⟨.hbm, 40, rfl⟩
abbrev main_v17 : Ref sig .tc := ⟨.hbm, 41, rfl⟩
abbrev main_cst_4 : Ref sig .tc := ⟨.hbm, 42, rfl⟩
abbrev main_v18 : Ref sig .tc := ⟨.hbm, 43, rfl⟩
abbrev main_v19 : Ref sig .tc := ⟨.hbm, 44, rfl⟩
abbrev main_cst_5 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_cst_15 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_16 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_v68 : Ref sig .tc := ⟨.hbm, 106, rfl⟩
abbrev main_cst_18 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_19 : Ref sig .tc := ⟨.hbm, 114, rfl⟩
abbrev main_v75 : Ref sig .tc := ⟨.hbm, 115, rfl⟩
abbrev main_v76 : Ref sig .tc := ⟨.hbm, 116, rfl⟩
abbrev main_cst_20 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩

abbrev nD : Nat := 1
abbrev τ : Topo := Topo.v7x

variable {F : FTy → Type} [FloatOps F]
-- ==== LruBwd.lean ====
abbrev S8192x2048 : Shape := ⟨2, ![8192, 2048]⟩
abbrev S256x2048 : Shape := ⟨2, ![256, 2048]⟩
abbrev S4x2048 : Shape := ⟨2, ![4, 2048]⟩
abbrev S2048 : Shape := ⟨1, ![2048]⟩
abbrev S2x16x128x128 : Shape := ⟨4, ![2, 16, 128, 128]⟩
abbrev S2x2048 : Shape := ⟨2, ![2, 2048]⟩
abbrev S8192x16x128 : Shape := ⟨3, ![8192, 16, 128]⟩
abbrev S16x8192x128 : Shape := ⟨3, ![16, 8192, 128]⟩
abbrev S256x16x128 : Shape := ⟨3, ![256, 16, 128]⟩
abbrev S16x256x128 : Shape := ⟨3, ![16, 256, 128]⟩
abbrev S1x2048 : Shape := ⟨2, ![1, 2048]⟩
abbrev S_ : Shape := ⟨0, ![]⟩
abbrev S1x8192x128 : Shape := ⟨3, ![1, 8192, 128]⟩
abbrev S1x256x128 : Shape := ⟨3, ![1, 256, 128]⟩
abbrev S4x128 : Shape := ⟨2, ![4, 128]⟩
abbrev S1x128 : Shape := ⟨2, ![1, 128]⟩
abbrev S2x1x128x128 : Shape := ⟨4, ![2, 1, 128, 128]⟩
abbrev S2x128 : Shape := ⟨2, ![2, 128]⟩
abbrev S8192x128 : Shape := ⟨2, ![8192, 128]⟩
abbrev S256x128 : Shape := ⟨2, ![256, 128]⟩
abbrev S8208x128 : Shape := ⟨2, ![8208, 128]⟩
abbrev S272x128 : Shape := ⟨2, ![272, 128]⟩
abbrev S8x128 : Shape := ⟨2, ![8, 128]⟩
abbrev S2x128x128 : Shape := ⟨3, ![2, 128, 128]⟩
abbrev S1x1x128x128 : Shape := ⟨4, ![1, 1, 128, 128]⟩
abbrev S128x128 : Shape := ⟨2, ![128, 128]⟩
abbrev S1x1024x128 : Shape := ⟨3, ![1, 1024, 128]⟩
abbrev S1024x128 : Shape := ⟨2, ![1024, 128]⟩
abbrev S2048x128 : Shape := ⟨2, ![2048, 128]⟩
abbrev S128 : Shape := ⟨1, ![128]⟩

abbrev nBuf : Space → Nat
  | .hbm => 40
  | .vmem => 56
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S8192x2048, .f32⟩
  | .hbm, ⟨3, _⟩ => ⟨S4x2048, .f32⟩
  | .hbm, ⟨4, _⟩ => ⟨S2048, .f32⟩
  | .hbm, ⟨5, _⟩ => ⟨S2x16x128x128, .f32⟩
  | .hbm, ⟨6, _⟩ => ⟨S2x16x128x128, .f32⟩
  | .hbm, ⟨7, _⟩ => ⟨S2x2048, .f32⟩
  | .hbm, ⟨8, _⟩ => ⟨S2x2048, .f32⟩
  | .hbm, ⟨9, _⟩ => ⟨S2x2048, .f32⟩
  | .hbm, ⟨10, _⟩ => ⟨S8192x16x128, .f32⟩
  | .hbm, ⟨11, _⟩ => ⟨S16x8192x128, .f32⟩
  | .hbm, ⟨12, _⟩ => ⟨S256x16x128, .f32⟩
  | .hbm, ⟨13, _⟩ => ⟨S16x256x128, .f32⟩
  | .hbm, ⟨14, _⟩ => ⟨S8192x16x128, .f32⟩
  | .hbm, ⟨15, _⟩ => ⟨S16x8192x128, .f32⟩
  | .hbm, ⟨16, _⟩ => ⟨S1x2048, .f32⟩
  | .hbm, ⟨17, _⟩ => ⟨S_, .f32⟩
  | .hbm, ⟨18, _⟩ => ⟨S2x16x128x128, .f32⟩
  | .hbm, ⟨19, _⟩ => ⟨S2x16x128x128, .f32⟩
  | .hbm, ⟨20, _⟩ => ⟨S2x16x128x128, .bf16⟩
  | .hbm, ⟨21, _⟩ => ⟨S_, .f32⟩
  | .hbm, ⟨22, _⟩ => ⟨S2x16x128x128, .f32⟩
  | .hbm, ⟨23, _⟩ => ⟨S2x16x128x128, .f32⟩
  | .hbm, ⟨24, _⟩ => ⟨S2x16x128x128, .bf16⟩
  | .hbm, ⟨25, _⟩ => ⟨S_, .f32⟩
  | .hbm, ⟨26, _⟩ => ⟨S2x2048, .f32⟩
  | .hbm, ⟨27, _⟩ => ⟨S2x2048, .f32⟩
  | .hbm, ⟨28, _⟩ => ⟨S_, .f32⟩
  | .hbm, ⟨29, _⟩ => ⟨S2x2048, .f32⟩
  | .hbm, ⟨30, _⟩ => ⟨S2x2048, .f32⟩
  | .hbm, ⟨31, _⟩ => ⟨S8192x2048, .bf16⟩
  | .hbm, ⟨32, _⟩ => ⟨S256x2048, .bf16⟩
  | .hbm, ⟨33, _⟩ => ⟨S4x2048, .f32⟩
  | .hbm, ⟨34, _⟩ => ⟨S1x2048, .f32⟩
  | .hbm, ⟨35, _⟩ => ⟨S2x16x128x128, .f32⟩
  | .hbm, ⟨36, _⟩ => ⟨S2x16x128x128, .f32⟩
  | .hbm, ⟨37, _⟩ => ⟨S2x2048, .f32⟩
  | .hbm, ⟨38, _⟩ => ⟨S2x2048, .f32⟩
  | .hbm, ⟨39, _⟩ => ⟨S2x2048, .f32⟩
  | .local _ .vmem, ⟨0, _⟩ => ⟨S1x8192x128, .f32⟩
  | .local _ .vmem, ⟨1, _⟩ => ⟨S1x8192x128, .f32⟩
  | .local _ .vmem, ⟨2, _⟩ => ⟨S1x256x128, .f32⟩
  | .local _ .vmem, ⟨3, _⟩ => ⟨S1x256x128, .f32⟩
  | .local _ .vmem, ⟨4, _⟩ => ⟨S1x8192x128, .f32⟩
  | .local _ .vmem, ⟨5, _⟩ => ⟨S1x8192x128, .f32⟩
  | .local _ .vmem, ⟨6, _⟩ => ⟨S4x128, .f32⟩
  | .local _ .vmem, ⟨7, _⟩ => ⟨S4x128, .f32⟩
  | .local _ .vmem, ⟨8, _⟩ => ⟨S1x128, .f32⟩
  | .local _ .vmem, ⟨9, _⟩ => ⟨S1x128, .f32⟩
  | .local _ .vmem, ⟨10, _⟩ => ⟨S2x1x128x128, .bf16⟩
  | .local _ .vmem, ⟨11, _⟩ => ⟨S2x1x128x128, .bf16⟩
  | .local _ .vmem, ⟨12, _⟩ => ⟨S2x1x128x128, .bf16⟩
  | .local _ .vmem, ⟨13, _⟩ => ⟨S2x1x128x128, .bf16⟩
  | .local _ .vmem, ⟨14, _⟩ => ⟨S2x128, .f32⟩
  | .local _ .vmem, ⟨15, _⟩ => ⟨S2x128, .f32⟩
  | .local _ .vmem, ⟨16, _⟩ => ⟨S2x128, .f32⟩
  | .local _ .vmem, ⟨17, _⟩ => ⟨S2x128, .f32⟩
  | .local _ .vmem, ⟨18, _⟩ => ⟨S2x128, .f32⟩
  | .local _ .vmem, ⟨19, _⟩ => ⟨S2x128, .f32⟩
  | .local _ .vmem, ⟨20, _⟩ => ⟨S8192x128, .bf16⟩
  | .local _ .vmem, ⟨21, _⟩ => ⟨S8192x128, .bf16⟩
  | .local _ .vmem, ⟨22, _⟩ => ⟨S256x128, .bf16⟩
  | .local _ .vmem, ⟨23, _⟩ => ⟨S256x128, .bf16⟩
  | .local _ .vmem, ⟨24, _⟩ => ⟨S4x128, .f32⟩
  | .local _ .vmem, ⟨25, _⟩ => ⟨S4x128, .f32⟩
  | .local _ .vmem, ⟨26, _⟩ => ⟨S1x128, .f32⟩
  | .local _ .vmem, ⟨27, _⟩ => ⟨S1x128, .f32⟩
  | .local _ .vmem, ⟨28, _⟩ => ⟨S2x1x128x128, .f32⟩
  | .local _ .vmem, ⟨29, _⟩ => ⟨S2x1x128x128, .f32⟩
  | .local _ .vmem, ⟨30, _⟩ => ⟨S2x1x128x128, .f32⟩
  | .local _ .vmem, ⟨31, _⟩ => ⟨S2x1x128x128, .f32⟩
  | .local _ .vmem, ⟨32, _⟩ => ⟨S2x128, .f32⟩
  | .local _ .vmem, ⟨33, _⟩ => ⟨S2x128, .f32⟩
  | .local _ .vmem, ⟨34, _⟩ => ⟨S2x128, .f32⟩
  | .local _ .vmem, ⟨35, _⟩ => ⟨S2x128, .f32⟩
  | .local _ .vmem, ⟨36, _⟩ => ⟨S2x128, .f32⟩
  | .local _ .vmem, ⟨37, _⟩ => ⟨S2x128, .f32⟩
  | .local _ .vmem, ⟨38, _⟩ => ⟨S8208x128, .f32⟩
  | .local _ .vmem, ⟨39, _⟩ => ⟨S8192x128, .f32⟩
  | .local _ .vmem, ⟨40, _⟩ => ⟨S8208x128, .f32⟩
  | .local _ .vmem, ⟨41, _⟩ => ⟨S8208x128, .f32⟩
  | .local _ .vmem, ⟨42, _⟩ => ⟨S8208x128, .f32⟩
  | .local _ .vmem, ⟨43, _⟩ => ⟨S8208x128, .f32⟩
  | .local _ .vmem, ⟨44, _⟩ => ⟨S8192x128, .f32⟩
  | .local _ .vmem, ⟨45, _⟩ => ⟨S8192x128, .f32⟩
  | .local _ .vmem, ⟨46, _⟩ => ⟨S272x128, .f32⟩
  | .local _ .vmem, ⟨47, _⟩ => ⟨S256x128, .f32⟩
  | .local _ .vmem, ⟨48, _⟩ => ⟨S272x128, .f32⟩
  | .local _ .vmem, ⟨49, _⟩ => ⟨S272x128, .f32⟩
  | .local _ .vmem, ⟨50, _⟩ => ⟨S272x128, .f32⟩
  | .local _ .vmem, ⟨51, _⟩ => ⟨S272x128, .f32⟩
  | .local _ .vmem, ⟨52, _⟩ => ⟨S256x128, .f32⟩
  | .local _ .vmem, ⟨53, _⟩ => ⟨S256x128, .f32⟩
  | .local _ .vmem, ⟨54, _⟩ => ⟨S256x128, .f32⟩
  | .local _ .vmem, ⟨55, _⟩ => ⟨S256x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_v17_3 : Ref sig .tc := ⟨.hbm, 34, rfl⟩
abbrev main_v17_4 : Ref sig .tc := ⟨.hbm, 35, rfl⟩
abbrev main_v17_5 : Ref sig .tc := ⟨.hbm, 36, rfl⟩
abbrev main_v17_6 : Ref sig .tc := ⟨.hbm, 37, rfl⟩
abbrev main_v17_7 : Ref sig .tc := ⟨.hbm, 38, rfl⟩
abbrev main_v17_8 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_scratch6 : Ref sig .tc := ⟨.vmem, 44, rfl⟩
abbrev cc0_scratch7 : Ref sig .tc := ⟨.vmem, 45, rfl⟩
abbrev cc0_scratch8 : Ref sig .tc := ⟨.vmem, 46, rfl⟩
abbrev cc0_scratch9 : Ref sig .tc := ⟨.vmem, 47, rfl⟩
abbrev cc0_scratch10 : Ref sig .tc := ⟨.vmem, 48, rfl⟩
abbrev cc0_scratch11 : Ref sig .tc := ⟨.vmem, 49, rfl⟩
abbrev cc0_scratch12 : Ref sig .tc := ⟨.vmem, 50, rfl⟩
abbrev cc0_scratch13 : Ref sig .tc := ⟨.vmem, 51, rfl⟩
abbrev cc0_scratch14 : Ref sig .tc := ⟨.vmem, 52, rfl⟩
abbrev cc0_scratch15 : Ref sig .tc := ⟨.vmem, 53, rfl⟩
abbrev cc0_scratch16 : Ref sig .tc := ⟨.vmem, 54, rfl⟩
abbrev cc0_scratch17 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v49 : BitVec 32 := Scalar.muli c0_i32 c256_i32
  v49
def k0_off1 : Fin 3 → Nat :=
  let c0_41 : Index := 0#32
  let c0_i32 : BitVec 32 := 0#32
  let c256_i32 : BitVec 32 := 256#32
  let v49 : BitVec 32 := Scalar.muli c0_i32 c256_i32
  let v50 : BitVec 32 := v49
  let v51 : Index := Scalar.indexCast v50
  let c0_42 : Index := 0#32
  ![0, v51.toNat, 0]
def k0_off2 : Fin 2 → Nat :=
  let c8_i32 : BitVec 32 := 8#32
  let c0_i32 : BitVec 32 := 0#32
  let c256_i32 : BitVec 32 := 256#32
  let v49 : BitVec 32 := Scalar.muli c0_i32 c256_i32
  let v50 : BitVec 32 := v49
  let v54 : BitVec 32 := Scalar.addi c8_i32 v50
  let v55 : Index := Scalar.indexCast v54
  let c0_43 : Index := 0#32
  ![v55.toNat, 0]
def k0_mult2 : BitVec 32 :=
  let c0_i32_44 : BitVec 32 := 0#32
  let c256_i32_45 : BitVec 32 := 256#32
  let v59 : BitVec 32 := Scalar.muli c0_i32_44 c256_i32_45
  v59
def k0_off3 (c0_i32_48 : BitVec 32) : Fin 2 → Nat :=
  let c0_i32_44 : BitVec 32 := 0#32
  let c256_i32_45 : BitVec 32 := 256#32
  let v59 : BitVec 32 := Scalar.muli c0_i32_44 c256_i32_45
  let v60 : BitVec 32 := v59
  let c8_i32_47 : BitVec 32 := 8#32
  let v62 : BitVec 32 := Scalar.addi v60 c8_i32_47
  let c2_i32 : BitVec 32 := 2#32
  let v63 : BitVec 32 := Scalar.subi v62 c2_i32
  let v64 : BitVec 32 := Scalar.addi v63 c0_i32_48
  let v65 : Index := Scalar.indexCast v64
  let c0_49 : Index := 0#32
  ![v65.toNat, 0]
def k0_off4 : Fin 2 → Nat :=
  let c0_i32_44 : BitVec 32 := 0#32
  let c256_i32_45 : BitVec 32 := 256#32
  let v59 : BitVec 32 := Scalar.muli c0_i32_44 c256_i32_45
  let v60 : BitVec 32 := v59
  let v100 : Index := Scalar.indexCast v60
  let c0_61 : Index := 0#32
  ![v100.toNat, 0]
def k0_mult3 : BitVec 32 :=
  let c0_i32_76 : BitVec 32 := 0#32
  let c256_i32_77 : BitVec 32 := 256#32
  let v115 : BitVec 32 := Scalar.muli c0_i32_76 c256_i32_77
  v115
def k0_mult4 : BitVec 32 :=
  let c0_i32_97 : BitVec 32 := 0#32
  let c256_i32_98 : BitVec 32 := 256#32
  let v179 : BitVec 32 := Scalar.muli c0_i32_97 c256_i32_98
  v179
def k0_off5 (c0_i32_100 : BitVec 32) (c0_i32_101 : BitVec 32) : Fin 2 → Nat :=
  let c8_i32_99 : BitVec 32 := 8#32
  let c0_i32_97 : BitVec 32 := 0#32
  let c256_i32_98 : BitVec 32 := 256#32
  let v179 : BitVec 32 := Scalar.muli c0_i32_97 c256_i32_98
  let v180 : BitVec 32 := v179
  let v181 : BitVec 32 := Scalar.addi c8_i32_99 v180
  let v182 : BitVec 32 := Scalar.addi v181 c0_i32_100
  let v183 : BitVec 32 := Scalar.addi v182 c0_i32_101
  let v184 : Index := Scalar.indexCast v183
  let c0_102 : Index := 0#32
  ![v184.toNat, 0]
def k0_off6 (c0_i32_104 : BitVec 32) : Fin 2 → Nat :=
  let c8_i32_103 : BitVec 32 := 8#32
  let c0_i32_97 : BitVec 32 := 0#32
  let c256_i32_98 : BitVec 32 := 256#32
  let v179 : BitVec 32 := Scalar.muli c0_i32_97 c256_i32_98
  let v180 : BitVec 32 := v179
  let v186 : BitVec 32 := Scalar.addi c8_i32_103 v180
  let v187 : BitVec 32 := Scalar.addi v186 c0_i32_104
  let v188 : Index := Scalar.indexCast v187
  let c0_105 : Index := 0#32
  ![v188.toNat, 0]
def k0_mult5 : BitVec 32 :=
  let c0_i32_786 : BitVec 32 := 0#32
  let c256_i32_787 : BitVec 32 := 256#32
  let v1857 : BitVec 32 := Scalar.muli c0_i32_786 c256_i32_787
  v1857
def k0_mult6 : BitVec 32 :=
  let c0_i32_807 : BitVec 32 := 0#32
  let c0_i32_806 : BitVec 32 := 0#32
  let v1921 : BitVec 32 := Scalar.subi c0_i32_807 c0_i32_806
  let c256_i32_808 : BitVec 32 := 256#32
  let v1922 : BitVec 32 := Scalar.muli v1921 c256_i32_808
  v1922
def k0_off7 (c248_i32_810 : BitVec 32) (c0_i32_811 : BitVec 32) : Fin 2 → Nat :=
  let c8_i32_809 : BitVec 32 := 8#32
  let c0_i32_807 : BitVec 32 := 0#32
  let c0_i32_806 : BitVec 32 := 0#32
  let v1921 : BitVec 32 := Scalar.subi c0_i32_807 c0_i32_806
  let c256_i32_808 : BitVec 32 := 256#32
  let v1922 : BitVec 32 := Scalar.muli v1921 c256_i32_808
  let v1923 : BitVec 32 := v1922
  let v1924 : BitVec 32 := Scalar.addi c8_i32_809 v1923
  let v1925 : BitVec 32 := Scalar.addi v1924 c248_i32_810
  let v1926 : BitVec 32 := Scalar.addi v1925 c0_i32_811
  let v1927 : Index := Scalar.indexCast v1926
  let c0_812 : Index := 0#32
  ![v1927.toNat, 0]
def k0_off8 (c248_i32_814 : BitVec 32) : Fin 2 → Nat :=
  let c8_i32_813 : BitVec 32 := 8#32
  let c0_i32_807 : BitVec 32 := 0#32
  let c0_i32_806 : BitVec 32 := 0#32
  let v1921 : BitVec 32 := Scalar.subi c0_i32_807 c0_i32_806
  let c256_i32_808 : BitVec 32 := 256#32
  let v1922 : BitVec 32 := Scalar.muli v1921 c256_i32_808
  let v1923 : BitVec 32 := v1922
  let v1929 : BitVec 32 := Scalar.addi c8_i32_813 v1923
  let v1930 : BitVec 32 := Scalar.addi v1929 c248_i32_814
  let v1931 : Index := Scalar.indexCast v1930
  let c0_815 : Index := 0#32
  ![v1931.toNat, 0]
@[reducible] def k0_t1_loop : Scf.Loop 32 :=
  let c0_i32_1518 : BitVec 32 := 0#32
  let c8_i32_1519 : BitVec 32 := 8#32
  let v3596 : BitVec 32 := Scalar.addi c0_i32_1518 c8_i32_1519
  let c1_i32_1520 : BitVec 32 := 1#32
  ⟨c0_i32_1518, v3596, c1_i32_1520⟩
def k0_mult7 (k0_t1 : Fin k0_t1_loop.trips) : BitVec 32 :=
  let c0_i32_1518 : BitVec 32 := 0#32
  let c1_i32_1520 : BitVec 32 := 1#32
  let arg38 : BitVec 32 := Scf.iv c0_i32_1518 c1_i32_1520 k0_t1
  let c1024_i32 : BitVec 32 := 1024#32
  let v7523 : BitVec 32 := Scalar.muli arg38 c1024_i32
  v7523
def k0_off9 (k0_t1 : Fin k0_t1_loop.trips) : Fin 3 → Nat :=
  let c0_3309 : Index := 0#32
  let c0_i32_1518 : BitVec 32 := 0#32
  let c1_i32_1520 : BitVec 32 := 1#32
  let arg38 : BitVec 32 := Scf.iv c0_i32_1518 c1_i32_1520 k0_t1
  let c1024_i32 : BitVec 32 := 1024#32
  let v7523 : BitVec 32 := Scalar.muli arg38 c1024_i32
  let v7524 : BitVec 32 := v7523
  let v7525 : Index := Scalar.indexCast v7524
  let c0_3310 : Index := 0#32
  ![0, v7525.toNat, 0]
def k0_off10 (k0_t1 : Fin k0_t1_loop.trips) : Fin 2 → Nat :=
  let c8_i32_3311 : BitVec 32 := 8#32
  let c0_i32_1518 : BitVec 32 := 0#32
  let c1_i32_1520 : BitVec 32 := 1#32
  let arg38 : BitVec 32 := Scf.iv c0_i32_1518 c1_i32_1520 k0_t1
  let c1024_i32 : BitVec 32 := 1024#32
  let v7523 : BitVec 32 := Scalar.muli arg38 c1024_i32
  let v7524 : BitVec 32 := v7523
  let v7528 : BitVec 32 := Scalar.addi c8_i32_3311 v7524
  let v7529 : Index := Scalar.indexCast v7528
  let c0_3312 : Index := 0#32
  ![v7529.toNat, 0]
@[reducible] def k0_t2_loop : Scf.Loop 32 :=
  let c0_i32_1522 : BitVec 32 := 0#32
  let c8_i32_1523 : BitVec 32 := 8#32
  let v3597 : BitVec 32 := Scalar.addi c0_i32_1522 c8_i32_1523
  let c1_i32_1524 : BitVec 32 := 1#32
  ⟨c0_i32_1522, v3597, c1_i32_1524⟩
def k0_mult8 (k0_t2 : Fin k0_t2_loop.trips) : BitVec 32 :=
  let c0_i32_1522 : BitVec 32 := 0#32
  let c1_i32_1524 : BitVec 32 := 1#32
  let arg38 : BitVec 32 := Scf.iv c0_i32_1522 c1_i32_1524 k0_t2
  let c1024_i32 : BitVec 32 := 1024#32
  let v7523 : BitVec 32 := Scalar.muli arg38 c1024_i32
  v7523
def k0_off11 (k0_t2 : Fin k0_t2_loop.trips) (c0_i32_3312 : BitVec 32) : Fin 2 → Nat :=
  let c0_i32_1522 : BitVec 32 := 0#32
  let c1_i32_1524 : BitVec 32 := 1#32
  let arg38 : BitVec 32 := Scf.iv c0_i32_1522 c1_i32_1524 k0_t2
  let c1024_i32 : BitVec 32 := 1024#32
  let v7523 : BitVec 32 := Scalar.muli arg38 c1024_i32
  let v7524 : BitVec 32 := v7523
  let c8_i32_3310 : BitVec 32 := 8#32
  let v7526 : BitVec 32 := Scalar.addi v7524 c8_i32_3310
  let c2_i32_3311 : BitVec 32 := 2#32
  let v7527 : BitVec 32 := Scalar.subi v7526 c2_i32_3311
  let v7528 : BitVec 32 := Scalar.addi v7527 c0_i32_3312
  let v7529 : Index := Scalar.indexCast v7528
  let c0_3313 : Index := 0#32
  ![v7529.toNat, 0]
def k0_off12 (k0_t2 : Fin k0_t2_loop.trips) : Fin 2 → Nat :=
  let c0_i32_1522 : BitVec 32 := 0#32
  let c1_i32_1524 : BitVec 32 := 1#32
  let arg38 : BitVec 32 := Scf.iv c0_i32_1522 c1_i32_1524 k0_t2
  let c1024_i32 : BitVec 32 := 1024#32
  let v7523 : BitVec 32 := Scalar.muli arg38 c1024_i32
  let v7524 : BitVec 32 := v7523
  let v7564 : Index := Scalar.indexCast v7524
  let c0_3326 : Index := 0#32
  ![v7564.toNat, 0]
def k0_mult9 : BitVec 32 :=
  let c0_i32_1539 : BitVec 32 := 0#32
  let c8192_i32 : BitVec 32 := 8192#32
  let v3609 : BitVec 32 := Scalar.muli c0_i32_1539 c8192_i32
  v3609
def k0_off13 : Fin 2 → Nat :=
  let c0_i32_1539 : BitVec 32 := 0#32
  let c8192_i32 : BitVec 32 := 8192#32
  let v3609 : BitVec 32 := Scalar.muli c0_i32_1539 c8192_i32
  let v3610 : BitVec 32 := v3609
  let v3611 : Index := Scalar.indexCast v3610
  let c0_1540 : Index := 0#32
  ![v3611.toNat, 0]
def k0_off14 : Fin 2 → Nat :=
  let c8_i32_1549 : BitVec 32 := 8#32
  let c0_i32_1539 : BitVec 32 := 0#32
  let c8192_i32 : BitVec 32 := 8192#32
  let v3609 : BitVec 32 := Scalar.muli c0_i32_1539 c8192_i32
  let v3610 : BitVec 32 := v3609
  let v3641 : BitVec 32 := Scalar.addi c8_i32_1549 v3610
  let v3642 : Index := Scalar.indexCast v3641
  let c0_1550 : Index := 0#32
  ![v3642.toNat, 0]
@[reducible] def k0_t3_loop : Scf.Loop 32 :=
  let c0_i32_1560 : BitVec 32 := 0#32
  let c32_i32_1561 : BitVec 32 := 32#32
  let v3673 : BitVec 32 := Scalar.addi c0_i32_1560 c32_i32_1561
  let c1_i32_1562 : BitVec 32 := 1#32
  ⟨c0_i32_1560, v3673, c1_i32_1562⟩
def k0_mult10 (k0_t3 : Fin k0_t3_loop.trips) : BitVec 32 :=
  let c0_i32_1560 : BitVec 32 := 0#32
  let c1_i32_1562 : BitVec 32 := 1#32
  let arg38 : BitVec 32 := Scf.iv c0_i32_1560 c1_i32_1562 k0_t3
  let c256_i32_3309 : BitVec 32 := 256#32
  let v7523 : BitVec 32 := Scalar.muli arg38 c256_i32_3309
  v7523
def k0_off15 (k0_t3 : Fin k0_t3_loop.trips) (c0_i32_3311 : BitVec 32) : Fin 2 → Nat :=
  let c8_i32_3310 : BitVec 32 := 8#32
  let c0_i32_1560 : BitVec 32 := 0#32
  let c1_i32_1562 : BitVec 32 := 1#32
  let arg38 : BitVec 32 := Scf.iv c0_i32_1560 c1_i32_1562 k0_t3
  let c256_i32_3309 : BitVec 32 := 256#32
  let v7523 : BitVec 32 := Scalar.muli arg38 c256_i32_3309
  let v7524 : BitVec 32 := v7523
  let v7525 : BitVec 32 := Scalar.addi c8_i32_3310 v7524
  let v7526 : BitVec 32 := Scalar.addi v7525 c0_i32_3311
  let c0_i32_3312 : BitVec 32 := 0#32
  let v7527 : BitVec 32 := Scalar.addi v7526 c0_i32_3312
  let v7528 : Index := Scalar.indexCast v7527
  let c0_3313 : Index := 0#32
  ![v7528.toNat, 0]
def k0_off16 (k0_t3 : Fin k0_t3_loop.trips) (c0_i32_3315 : BitVec 32) : Fin 2 → Nat :=
  let c8_i32_3314 : BitVec 32 := 8#32
  let c0_i32_1560 : BitVec 32 := 0#32
  let c1_i32_1562 : BitVec 32 := 1#32
  let arg38 : BitVec 32 := Scf.iv c0_i32_1560 c1_i32_1562 k0_t3
  let c256_i32_3309 : BitVec 32 := 256#32
  let v7523 : BitVec 32 := Scalar.muli arg38 c256_i32_3309
  let v7524 : BitVec 32 := v7523
  let v7530 : BitVec 32 := Scalar.addi c8_i32_3314 v7524
  let v7531 : BitVec 32 := Scalar.addi v7530 c0_i32_3315
  let v7532 : Index := Scalar.indexCast v7531
  let c0_3316 : Index := 0#32
  ![v7532.toNat, 0]
@[reducible] def k0_t4_loop : Scf.Loop 32 :=
  let c0_i32_1567 : BitVec 32 := 0#32
  let c8_i32_1568 : BitVec 32 := 8#32
  let v3681 : BitVec 32 := Scalar.addi c0_i32_1567 c8_i32_1568
  let c1_i32_1569 : BitVec 32 := 1#32
  ⟨c0_i32_1567, v3681, c1_i32_1569⟩
def k0_mult11 (k0_t4 : Fin k0_t4_loop.trips) : BitVec 32 :=
  let c0_i32_1567 : BitVec 32 := 0#32
  let c1_i32_1569 : BitVec 32 := 1#32
  let arg38 : BitVec 32 := Scf.iv c0_i32_1567 c1_i32_1569 k0_t4
  let c1024_i32 : BitVec 32 := 1024#32
  let v7523 : BitVec 32 := Scalar.muli arg38 c1024_i32
  v7523
def k0_off17 (k0_t4 : Fin k0_t4_loop.trips) : Fin 3 → Nat :=
  let c0_3309 : Index := 0#32
  let c0_i32_1567 : BitVec 32 := 0#32
  let c1_i32_1569 : BitVec 32 := 1#32
  let arg38 : BitVec 32 := Scf.iv c0_i32_1567 c1_i32_1569 k0_t4
  let c1024_i32 : BitVec 32 := 1024#32
  let v7523 : BitVec 32 := Scalar.muli arg38 c1024_i32
  let v7524 : BitVec 32 := v7523
  let v7525 : Index := Scalar.indexCast v7524
  let c0_3310 : Index := 0#32
  ![0, v7525.toNat, 0]
def k0_off18 (k0_t4 : Fin k0_t4_loop.trips) : Fin 2 → Nat :=
  let c8_i32_3311 : BitVec 32 := 8#32
  let c0_i32_1567 : BitVec 32 := 0#32
  let c1_i32_1569 : BitVec 32 := 1#32
  let arg38 : BitVec 32 := Scf.iv c0_i32_1567 c1_i32_1569 k0_t4
  let c1024_i32 : BitVec 32 := 1024#32
  let v7523 : BitVec 32 := Scalar.muli arg38 c1024_i32
  let v7524 : BitVec 32 := v7523
  let v7528 : BitVec 32 := Scalar.addi c8_i32_3311 v7524
  let v7529 : Index := Scalar.indexCast v7528
  let c0_3312 : Index := 0#32
  ![v7529.toNat, 0]
@[reducible] def k0_t5_loop : Scf.Loop 32 :=
  let c0_i32_1574 : BitVec 32 := 0#32
  let c32_i32_1575 : BitVec 32 := 32#32
  let v3691 : BitVec 32 := Scalar.addi c0_i32_1574 c32_i32_1575
  let c1_i32_1576 : BitVec 32 := 1#32
  ⟨c0_i32_1574, v3691, c1_i32_1576⟩
def k0_mult12 (k0_t5 : Fin k0_t5_loop.trips) : BitVec 32 :=
  let c31_i32 : BitVec 32 := 31#32
  let c0_i32_1574 : BitVec 32 := 0#32
  let c1_i32_1576 : BitVec 32 := 1#32
  let arg38 : BitVec 32 := Scf.iv c0_i32_1574 c1_i32_1576 k0_t5
  let v7523 : BitVec 32 := Scalar.subi c31_i32 arg38
  let c256_i32_3309 : BitVec 32 := 256#32
  let v7524 : BitVec 32 := Scalar.muli v7523 c256_i32_3309
  v7524
def k0_off19 (k0_t5 : Fin k0_t5_loop.trips) (c248_i32_3311 : BitVec 32) : Fin 2 → Nat :=
  let c8_i32_3310 : BitVec 32 := 8#32
  let c31_i32 : BitVec 32 := 31#32
  let c0_i32_1574 : BitVec 32 := 0#32
  let c1_i32_1576 : BitVec 32 := 1#32
  let arg38 : BitVec 32 := Scf.iv c0_i32_1574 c1_i32_1576 k0_t5
  let v7523 : BitVec 32 := Scalar.subi c31_i32 arg38
  let c256_i32_3309 : BitVec 32 := 256#32
  let v7524 : BitVec 32 := Scalar.muli v7523 c256_i32_3309
  let v7525 : BitVec 32 := v7524
  let v7526 : BitVec 32 := Scalar.addi c8_i32_3310 v7525
  let v7527 : BitVec 32 := Scalar.addi v7526 c248_i32_3311
  let c1_i32_3312 : BitVec 32 := 1#32
  let v7528 : BitVec 32 := Scalar.addi v7527 c1_i32_3312
  let v7529 : Index := Scalar.indexCast v7528
  let c0_3313 : Index := 0#32
  ![v7529.toNat, 0]
def k0_off20 (k0_t5 : Fin k0_t5_loop.trips) (c248_i32_3315 : BitVec 32) : Fin 2 → Nat :=
  let c8_i32_3314 : BitVec 32 := 8#32
  let c31_i32 : BitVec 32 := 31#32
  let c0_i32_1574 : BitVec 32 := 0#32
  let c1_i32_1576 : BitVec 32 := 1#32
  let arg38 : BitVec 32 := Scf.iv c0_i32_1574 c1_i32_1576 k0_t5
  let v7523 : BitVec 32 := Scalar.subi c31_i32 arg38
  let c256_i32_3309 : BitVec 32 := 256#32
  let v7524 : BitVec 32 := Scalar.muli v7523 c256_i32_3309
  let v7525 : BitVec 32 := v7524
  let v7531 : BitVec 32 := Scalar.addi c8_i32_3314 v7525
  let v7532 : BitVec 32 := Scalar.addi v7531 c248_i32_3315
  let v7533 : Index := Scalar.indexCast v7532
  let c0_3316 : Index := 0#32
  ![v7533.toNat, 0]
@[reducible] def k0_t6_loop : Scf.Loop 32 :=
  let c0_i32_1589 : BitVec 32 := 0#32
  let c4_i32_1590 : BitVec 32 := 4#32
  let v3701 : BitVec 32 := Scalar.addi c0_i32_1589 c4_i32_1590
  let c1_i32_1591 : BitVec 32 := 1#32
  ⟨c0_i32_1589, v3701, c1_i32_1591⟩
def k0_mult13 (k0_t6 : Fin k0_t6_loop.trips) : BitVec 32 :=
  let c0_i32_1589 : BitVec 32 := 0#32
  let c1_i32_1591 : BitVec 32 := 1#32
  let arg38 : BitVec 32 := Scf.iv c0_i32_1589 c1_i32_1591 k0_t6
  let c2048_i32 : BitVec 32 := 2048#32
  let v7523 : BitVec 32 := Scalar.muli arg38 c2048_i32
  v7523
def k0_off21 (k0_t6 : Fin k0_t6_loop.trips) : Fin 2 → Nat :=
  let c0_i32_1589 : BitVec 32 := 0#32
  let c1_i32_1591 : BitVec 32 := 1#32
  let arg38 : BitVec 32 := Scf.iv c0_i32_1589 c1_i32_1591 k0_t6
  let c2048_i32 : BitVec 32 := 2048#32
  let v7523 : BitVec 32 := Scalar.muli arg38 c2048_i32
  let v7524 : BitVec 32 := v7523
  let v7525 : Index := Scalar.indexCast v7524
  let c0_3309 : Index := 0#32
  ![v7525.toNat, 0]
def k0_off22 (k0_t6 : Fin k0_t6_loop.trips) : Fin 2 → Nat :=
  let c8_i32_3313 : BitVec 32 := 8#32
  let c0_i32_1589 : BitVec 32 := 0#32
  let c1_i32_1591 : BitVec 32 := 1#32
  let arg38 : BitVec 32 := Scf.iv c0_i32_1589 c1_i32_1591 k0_t6
  let c2048_i32 : BitVec 32 := 2048#32
  let v7523 : BitVec 32 := Scalar.muli arg38 c2048_i32
  let v7524 : BitVec 32 := v7523
  let v7536 : BitVec 32 := Scalar.addi c8_i32_3313 v7524
  let v7537 : Index := Scalar.indexCast v7536
  let c0_3314 : Index := 0#32
  ![v7537.toNat, 0]
def k0_off23 (k0_t6 : Fin k0_t6_loop.trips) : Fin 2 → Nat :=
  let c8_i32_3318 : BitVec 32 := 8#32
  let c0_i32_1589 : BitVec 32 := 0#32
  let c1_i32_1591 : BitVec 32 := 1#32
  let arg38 : BitVec 32 := Scf.iv c0_i32_1589 c1_i32_1591 k0_t6
  let c2048_i32 : BitVec 32 := 2048#32
  let v7523 : BitVec 32 := Scalar.muli arg38 c2048_i32
  let v7524 : BitVec 32 := v7523
  let v7549 : BitVec 32 := Scalar.addi c8_i32_3318 v7524
  let c_m1_i32_3319 : BitVec 32 := 4294967295#32
  let v7550 : BitVec 32 := Scalar.addi v7549 c_m1_i32_3319
  let v7551 : Index := Scalar.indexCast v7550
  let c0_3320 : Index := 0#32
  ![v7551.toNat, 0]
def k0_mult14 : BitVec 32 :=
  let c0_i32_1606 : BitVec 32 := 0#32
  let c8192_i32_1607 : BitVec 32 := 8192#32
  let v3713 : BitVec 32 := Scalar.muli c0_i32_1606 c8192_i32_1607
  v3713
@[reducible] def k0_t7_loop : Scf.Loop 32 :=
  let c0_i32_1628 : BitVec 32 := 0#32
  let c32_i32_1629 : BitVec 32 := 32#32
  let v3777 : BitVec 32 := Scalar.addi c0_i32_1628 c32_i32_1629
  let c1_i32_1630 : BitVec 32 := 1#32
  ⟨c0_i32_1628, v3777, c1_i32_1630⟩
def k0_mult15 (k0_t7 : Fin k0_t7_loop.trips) : BitVec 32 :=
  let c31_i32 : BitVec 32 := 31#32
  let c0_i32_1628 : BitVec 32 := 0#32
  let c1_i32_1630 : BitVec 32 := 1#32
  let arg38 : BitVec 32 := Scf.iv c0_i32_1628 c1_i32_1630 k0_t7
  let v7523 : BitVec 32 := Scalar.subi c31_i32 arg38
  let c256_i32_3309 : BitVec 32 := 256#32
  let v7524 : BitVec 32 := Scalar.muli v7523 c256_i32_3309
  v7524
def k0_off24 (k0_t7 : Fin k0_t7_loop.trips) (c248_i32_3311 : BitVec 32) : Fin 2 → Nat :=
  let c8_i32_3310 : BitVec 32 := 8#32
  let c31_i32 : BitVec 32 := 31#32
  let c0_i32_1628 : BitVec 32 := 0#32
  let c1_i32_1630 : BitVec 32 := 1#32
  let arg38 : BitVec 32 := Scf.iv c0_i32_1628 c1_i32_1630 k0_t7
  let v7523 : BitVec 32 := Scalar.subi c31_i32 arg38
  let c256_i32_3309 : BitVec 32 := 256#32
  let v7524 : BitVec 32 := Scalar.muli v7523 c256_i32_3309
  let v7525 : BitVec 32 := v7524
  let v7526 : BitVec 32 := Scalar.addi c8_i32_3310 v7525
  let v7527 : BitVec 32 := Scalar.addi v7526 c248_i32_3311
  let c0_i32_3312 : BitVec 32 := 0#32
  let v7528 : BitVec 32 := Scalar.addi v7527 c0_i32_3312
  let v7529 : Index := Scalar.indexCast v7528
  let c0_3313 : Index := 0#32
  ![v7529.toNat, 0]
def k0_off25 (k0_t7 : Fin k0_t7_loop.trips) (c248_i32_3315 : BitVec 32) : Fin 2 → Nat :=
  let c8_i32_3314 : BitVec 32 := 8#32
  let c31_i32 : BitVec 32 := 31#32
  let c0_i32_1628 : BitVec 32 := 0#32
  let c1_i32_1630 : BitVec 32 := 1#32
  let arg38 : BitVec 32 := Scf.iv c0_i32_1628 c1_i32_1630 k0_t7
  let v7523 : BitVec 32 := Scalar.subi c31_i32 arg38
  let c256_i32_3309 : BitVec 32 := 256#32
  let v7524 : BitVec 32 := Scalar.muli v7523 c256_i32_3309
  let v7525 : BitVec 32 := v7524
  let v7531 : BitVec 32 := Scalar.addi c8_i32_3314 v7525
  let v7532 : BitVec 32 := Scalar.addi v7531 c248_i32_3315
  let v7533 : Index := Scalar.indexCast v7532
  let c0_3316 : Index := 0#32
  ![v7533.toNat, 0]
@[reducible] def k0_t8_loop : Scf.Loop 32 :=
  let c0_i32_1636 : BitVec 32 := 0#32
  let c8_i32_1637 : BitVec 32 := 8#32
  let v3785 : BitVec 32 := Scalar.addi c0_i32_1636 c8_i32_1637
  let c1_i32_1638 : BitVec 32 := 1#32
  ⟨c0_i32_1636, v3785, c1_i32_1638⟩
def k0_mult16 (k0_t8 : Fin k0_t8_loop.trips) : BitVec 32 :=
  let c0_i32_1636 : BitVec 32 := 0#32
  let c1_i32_1638 : BitVec 32 := 1#32
  let arg38 : BitVec 32 := Scf.iv c0_i32_1636 c1_i32_1638 k0_t8
  let c1024_i32 : BitVec 32 := 1024#32
  let v7523 : BitVec 32 := Scalar.muli arg38 c1024_i32
  v7523
def k0_off26 (k0_t8 : Fin k0_t8_loop.trips) : Fin 3 → Nat :=
  let c0_3309 : Index := 0#32
  let c0_i32_1636 : BitVec 32 := 0#32
  let c1_i32_1638 : BitVec 32 := 1#32
  let arg38 : BitVec 32 := Scf.iv c0_i32_1636 c1_i32_1638 k0_t8
  let c1024_i32 : BitVec 32 := 1024#32
  let v7523 : BitVec 32 := Scalar.muli arg38 c1024_i32
  let v7524 : BitVec 32 := v7523
  let v7525 : Index := Scalar.indexCast v7524
  let c0_3310 : Index := 0#32
  ![0, v7525.toNat, 0]
def k0_off27 (k0_t8 : Fin k0_t8_loop.trips) : Fin 2 → Nat :=
  let c8_i32_3311 : BitVec 32 := 8#32
  let c0_i32_1636 : BitVec 32 := 0#32
  let c1_i32_1638 : BitVec 32 := 1#32
  let arg38 : BitVec 32 := Scf.iv c0_i32_1636 c1_i32_1638 k0_t8
  let c1024_i32 : BitVec 32 := 1024#32
  let v7523 : BitVec 32 := Scalar.muli arg38 c1024_i32
  let v7524 : BitVec 32 := v7523
  let v7528 : BitVec 32 := Scalar.addi c8_i32_3311 v7524
  let v7529 : Index := Scalar.indexCast v7528
  let c0_3312 : Index := 0#32
  ![v7529.toNat, 0]
@[reducible] def k0_t9_loop : Scf.Loop 32 :=
  let c0_i32_1643 : BitVec 32 := 0#32
  let c32_i32_1644 : BitVec 32 := 32#32
  let v3795 : BitVec 32 := Scalar.addi c0_i32_1643 c32_i32_1644
  let c1_i32_1645 : BitVec 32 := 1#32
  ⟨c0_i32_1643, v3795, c1_i32_1645⟩
def k0_mult17 (k0_t9 : Fin k0_t9_loop.trips) : BitVec 32 :=
  let c0_i32_1643 : BitVec 32 := 0#32
  let c1_i32_1645 : BitVec 32 := 1#32
  let arg38 : BitVec 32 := Scf.iv c0_i32_1643 c1_i32_1645 k0_t9
  let c256_i32_3309 : BitVec 32 := 256#32
  let v7523 : BitVec 32 := Scalar.muli arg38 c256_i32_3309
  v7523
def k0_off28 (k0_t9 : Fin k0_t9_loop.trips) (c0_i32_3311 : BitVec 32) : Fin 2 → Nat :=
  let c8_i32_3310 : BitVec 32 := 8#32
  let c0_i32_1643 : BitVec 32 := 0#32
  let c1_i32_1645 : BitVec 32 := 1#32
  let arg38 : BitVec 32 := Scf.iv c0_i32_1643 c1_i32_1645 k0_t9
  let c256_i32_3309 : BitVec 32 := 256#32
  let v7523 : BitVec 32 := Scalar.muli arg38 c256_i32_3309
  let v7524 : BitVec 32 := v7523
  let v7525 : BitVec 32 := Scalar.addi c8_i32_3310 v7524
  let v7526 : BitVec 32 := Scalar.addi v7525 c0_i32_3311
  let c_m1_i32_3312 : BitVec 32 := 4294967295#32
  let v7527 : BitVec 32 := Scalar.addi v7526 c_m1_i32_3312
  let v7528 : Index := Scalar.indexCast v7527
  let c0_3313 : Index := 0#32
  ![v7528.toNat, 0]
def k0_off29 (k0_t9 : Fin k0_t9_loop.trips) (c0_i32_3315 : BitVec 32) : Fin 2 → Nat :=
  let c8_i32_3314 : BitVec 32 := 8#32
  let c0_i32_1643 : BitVec 32 := 0#32
  let c1_i32_1645 : BitVec 32 := 1#32
  let arg38 : BitVec 32 := Scf.iv c0_i32_1643 c1_i32_1645 k0_t9
  let c256_i32_3309 : BitVec 32 := 256#32
  let v7523 : BitVec 32 := Scalar.muli arg38 c256_i32_3309
  let v7524 : BitVec 32 := v7523
  let v7530 : BitVec 32 := Scalar.addi c8_i32_3314 v7524
  let v7531 : BitVec 32 := Scalar.addi v7530 c0_i32_3315
  let v7532 : Index := Scalar.indexCast v7531
  let c0_3316 : Index := 0#32
  ![v7532.toNat, 0]
@[reducible] def k0_t10_loop : Scf.Loop 32 :=
  let c0_i32_1658 : BitVec 32 := 0#32
  let c4_i32_1659 : BitVec 32 := 4#32
  let v3805 : BitVec 32 := Scalar.addi c0_i32_1658 c4_i32_1659
  let c1_i32_1660 : BitVec 32 := 1#32
  ⟨c0_i32_1658, v3805, c1_i32_1660⟩
def k0_mult18 (k0_t10 : Fin k0_t10_loop.trips) : BitVec 32 :=
  let c0_i32_1658 : BitVec 32 := 0#32
  let c1_i32_1660 : BitVec 32 := 1#32
  let arg38 : BitVec 32 := Scf.iv c0_i32_1658 c1_i32_1660 k0_t10
  let c2048_i32 : BitVec 32 := 2048#32
  let v7523 : BitVec 32 := Scalar.muli arg38 c2048_i32
  v7523
def k0_off30 (k0_t10 : Fin k0_t10_loop.trips) : Fin 2 → Nat :=
  let c0_i32_1658 : BitVec 32 := 0#32
  let c1_i32_1660 : BitVec 32 := 1#32
  let arg38 : BitVec 32 := Scf.iv c0_i32_1658 c1_i32_1660 k0_t10
  let c2048_i32 : BitVec 32 := 2048#32
  let v7523 : BitVec 32 := Scalar.muli arg38 c2048_i32
  let v7524 : BitVec 32 := v7523
  let v7525 : Index := Scalar.indexCast v7524
  let c0_3309 : Index := 0#32
  ![v7525.toNat, 0]
def k0_off31 (k0_t10 : Fin k0_t10_loop.trips) : Fin 2 → Nat :=
  let c8_i32_3313 : BitVec 32 := 8#32
  let c0_i32_1658 : BitVec 32 := 0#32
  let c1_i32_1660 : BitVec 32 := 1#32
  let arg38 : BitVec 32 := Scf.iv c0_i32_1658 c1_i32_1660 k0_t10
  let c2048_i32 : BitVec 32 := 2048#32
  let v7523 : BitVec 32 := Scalar.muli arg38 c2048_i32
  let v7524 : BitVec 32 := v7523
  let v7536 : BitVec 32 := Scalar.addi c8_i32_3313 v7524
  let v7537 : Index := Scalar.indexCast v7536
  let c0_3314 : Index := 0#32
  ![v7537.toNat, 0]
def k0_off32 (k0_t10 : Fin k0_t10_loop.trips) : Fin 2 → Nat :=
  let c8_i32_3318 : BitVec 32 := 8#32
  let c0_i32_1658 : BitVec 32 := 0#32
  let c1_i32_1660 : BitVec 32 := 1#32
  let arg38 : BitVec 32 := Scf.iv c0_i32_1658 c1_i32_1660 k0_t10
  let c2048_i32 : BitVec 32 := 2048#32
  let v7523 : BitVec 32 := Scalar.muli arg38 c2048_i32
  let v7524 : BitVec 32 := v7523
  let v7549 : BitVec 32 := Scalar.addi c8_i32_3318 v7524
  let c1_i32_3319 : BitVec 32 := 1#32
  let v7550 : BitVec 32 := Scalar.addi v7549 c1_i32_3319
  let v7551 : Index := Scalar.indexCast v7550
  let c0_3320 : Index := 0#32
  ![v7551.toNat, 0]
@[reducible] def k0_t11_loop : Scf.Loop 32 :=
  let c0_i32_1666 : BitVec 32 := 0#32
  let c8_i32_1667 : BitVec 32 := 8#32
  let v3812 : BitVec 32 := Scalar.addi c0_i32_1666 c8_i32_1667
  let c1_i32_1668 : BitVec 32 := 1#32
  ⟨c0_i32_1666, v3812, c1_i32_1668⟩
def k0_mult19 (k0_t11 : Fin k0_t11_loop.trips) : BitVec 32 :=
  let c0_i32_1666 : BitVec 32 := 0#32
  let c1_i32_1668 : BitVec 32 := 1#32
  let arg38 : BitVec 32 := Scf.iv c0_i32_1666 c1_i32_1668 k0_t11
  let c1024_i32 : BitVec 32 := 1024#32
  let v7523 : BitVec 32 := Scalar.muli arg38 c1024_i32
  v7523
def k0_off33 (k0_t11 : Fin k0_t11_loop.trips) : Fin 2 → Nat :=
  let c8_i32_3309 : BitVec 32 := 8#32
  let c0_i32_1666 : BitVec 32 := 0#32
  let c1_i32_1668 : BitVec 32 := 1#32
  let arg38 : BitVec 32 := Scf.iv c0_i32_1666 c1_i32_1668 k0_t11
  let c1024_i32 : BitVec 32 := 1024#32
  let v7523 : BitVec 32 := Scalar.muli arg38 c1024_i32
  let v7524 : BitVec 32 := v7523
  let v7525 : BitVec 32 := Scalar.addi c8_i32_3309 v7524
  let v7526 : Index := Scalar.indexCast v7525
  let c0_3310 : Index := 0#32
  ![v7526.toNat, 0]
def k0_off34 (k0_t11 : Fin k0_t11_loop.trips) (c2_i32_3318 : BitVec 32) : Fin 2 → Nat :=
  let c8_i32_3317 : BitVec 32 := 8#32
  let c0_i32_1666 : BitVec 32 := 0#32
  let c1_i32_1668 : BitVec 32 := 1#32
  let arg38 : BitVec 32 := Scf.iv c0_i32_1666 c1_i32_1668 k0_t11
  let c1024_i32 : BitVec 32 := 1024#32
  let v7523 : BitVec 32 := Scalar.muli arg38 c1024_i32
  let v7524 : BitVec 32 := v7523
  let v7535 : BitVec 32 := Scalar.addi c8_i32_3317 v7524
  let v7536 : BitVec 32 := Scalar.addi v7535 c2_i32_3318
  let v7537 : Index := Scalar.indexCast v7536
  let c0_3319 : Index := 0#32
  ![v7537.toNat, 0]
def k0_off34_at (r : Fin 4) : BitVec 32 :=
  if r.val < 2 then
    if r.val < 1 then
      2#32
    else
      1#32
  else
    if r.val < 3 then
      0#32
    else
      4294967295#32
def k0_off35 (k0_t11 : Fin k0_t11_loop.trips) (c2_i32_3323 : BitVec 32) : Fin 2 → Nat :=
  let c8_i32_3322 : BitVec 32 := 8#32
  let c0_i32_1666 : BitVec 32 := 0#32
  let c1_i32_1668 : BitVec 32 := 1#32
  let arg38 : BitVec 32 := Scf.iv c0_i32_1666 c1_i32_1668 k0_t11
  let c1024_i32 : BitVec 32 := 1024#32
  let v7523 : BitVec 32 := Scalar.muli arg38 c1024_i32
  let v7524 : BitVec 32 := v7523
  let v7545 : BitVec 32 := Scalar.addi c8_i32_3322 v7524
  let v7546 : BitVec 32 := Scalar.subi v7545 c2_i32_3323
  let v7547 : Index := Scalar.indexCast v7546
  let c0_3324 : Index := 0#32
  ![v7547.toNat, 0]
def k0_off35_at (r : Fin 4) : BitVec 32 :=
  if r.val < 2 then
    if r.val < 1 then
      2#32
    else
      1#32
  else
    if r.val < 3 then
      0#32
    else
      4294967295#32
def k0_off36 (k0_t11 : Fin k0_t11_loop.trips) : Fin 2 → Nat :=
  let c0_i32_1666 : BitVec 32 := 0#32
  let c1_i32_1668 : BitVec 32 := 1#32
  let arg38 : BitVec 32 := Scf.iv c0_i32_1666 c1_i32_1668 k0_t11
  let c1024_i32 : BitVec 32 := 1024#32
  let v7523 : BitVec 32 := Scalar.muli arg38 c1024_i32
  let v7524 : BitVec 32 := v7523
  let v7612 : Index := Scalar.indexCast v7524
  let c0_3361 : Index := 0#32
  ![v7612.toNat, 0]
def k0_mult20 : BitVec 32 :=
  let c0_i32_1675 : BitVec 32 := 0#32
  let c256_i32_1676 : BitVec 32 := 256#32
  let v3821 : BitVec 32 := Scalar.muli c0_i32_1675 c256_i32_1676
  v3821
def k0_off37 : Fin 2 → Nat :=
  let c8_i32_1678 : BitVec 32 := 8#32
  let c0_i32_1675 : BitVec 32 := 0#32
  let c256_i32_1676 : BitVec 32 := 256#32
  let v3821 : BitVec 32 := Scalar.muli c0_i32_1675 c256_i32_1676
  let v3822 : BitVec 32 := v3821
  let v3824 : BitVec 32 := Scalar.addi c8_i32_1678 v3822
  let v3825 : Index := Scalar.indexCast v3824
  let c0_1679 : Index := 0#32
  ![v3825.toNat, 0]
def k0_mult21 : BitVec 32 :=
  let c0_i32_1685 : BitVec 32 := 0#32
  let c0_i32_1684 : BitVec 32 := 0#32
  let v3838 : BitVec 32 := Scalar.subi c0_i32_1685 c0_i32_1684
  let c256_i32_1686 : BitVec 32 := 256#32
  let v3839 : BitVec 32 := Scalar.muli v3838 c256_i32_1686
  v3839
def k0_off38 (c248_i32_1692 : BitVec 32) : Fin 2 → Nat :=
  let c8_i32_1691 : BitVec 32 := 8#32
  let c0_i32_1685 : BitVec 32 := 0#32
  let c0_i32_1684 : BitVec 32 := 0#32
  let v3838 : BitVec 32 := Scalar.subi c0_i32_1685 c0_i32_1684
  let c256_i32_1686 : BitVec 32 := 256#32
  let v3839 : BitVec 32 := Scalar.muli v3838 c256_i32_1686
  let v3840 : BitVec 32 := v3839
  let v3846 : BitVec 32 := Scalar.addi c8_i32_1691 v3840
  let v3847 : BitVec 32 := Scalar.addi v3846 c248_i32_1692
  let v3848 : Index := Scalar.indexCast v3847
  let c0_1693 : Index := 0#32
  ![v3848.toNat, 0]
def k0_mult22 : BitVec 32 :=
  let c0_i32_2400 : BitVec 32 := 0#32
  let c256_i32_2401 : BitVec 32 := 256#32
  let v5510 : BitVec 32 := Scalar.muli c0_i32_2400 c256_i32_2401
  v5510
def k0_off39 (c_m1_i32 : BitVec 32) : Fin 2 → Nat :=
  let c8_i32_2411 : BitVec 32 := 8#32
  let c0_i32_2400 : BitVec 32 := 0#32
  let c256_i32_2401 : BitVec 32 := 256#32
  let v5510 : BitVec 32 := Scalar.muli c0_i32_2400 c256_i32_2401
  let v5511 : BitVec 32 := v5510
  let v5536 : BitVec 32 := Scalar.addi c8_i32_2411 v5511
  let v5537 : BitVec 32 := Scalar.addi v5536 c_m1_i32
  let v5538 : Index := Scalar.indexCast v5537
  let c0_2412 : Index := 0#32
  ![v5538.toNat, 0]
def k0_mult23 : BitVec 32 :=
  let c0_i32_2461 : BitVec 32 := 0#32
  let c256_i32_2462 : BitVec 32 := 256#32
  let v5620 : BitVec 32 := Scalar.muli c0_i32_2461 c256_i32_2462
  v5620
def k0_mult24 : BitVec 32 :=
  let c0_i32_2470 : BitVec 32 := 0#32
  let c256_i32_2471 : BitVec 32 := 256#32
  let v5637 : BitVec 32 := Scalar.muli c0_i32_2470 c256_i32_2471
  v5637
def k0_off40 (c0_i32_2477 : BitVec 32) : Fin 2 → Nat :=
  let c8_i32_2476 : BitVec 32 := 8#32
  let c0_i32_2470 : BitVec 32 := 0#32
  let c256_i32_2471 : BitVec 32 := 256#32
  let v5637 : BitVec 32 := Scalar.muli c0_i32_2470 c256_i32_2471
  let v5638 : BitVec 32 := v5637
  let v5644 : BitVec 32 := Scalar.addi c8_i32_2476 v5638
  let v5645 : BitVec 32 := Scalar.addi v5644 c0_i32_2477
  let v5646 : Index := Scalar.indexCast v5645
  let c0_2478 : Index := 0#32
  ![v5646.toNat, 0]
def k0_mult25 : BitVec 32 :=
  let c0_i32_3185 : BitVec 32 := 0#32
  let c256_i32_3186 : BitVec 32 := 256#32
  let v7308 : BitVec 32 := Scalar.muli c0_i32_3185 c256_i32_3186
  v7308
def k0_mult26 : BitVec 32 :=
  let c0_i32_3247 : BitVec 32 := 0#32
  let c256_i32_3248 : BitVec 32 := 256#32
  let v7419 : BitVec 32 := Scalar.muli c0_i32_3247 c256_i32_3248
  v7419
def k0_off41 (c2_i32_3258 : BitVec 32) : Fin 2 → Nat :=
  let c8_i32_3257 : BitVec 32 := 8#32
  let c0_i32_3247 : BitVec 32 := 0#32
  let c256_i32_3248 : BitVec 32 := 256#32
  let v7419 : BitVec 32 := Scalar.muli c0_i32_3247 c256_i32_3248
  let v7420 : BitVec 32 := v7419
  let v7431 : BitVec 32 := Scalar.addi c8_i32_3257 v7420
  let v7432 : BitVec 32 := Scalar.addi v7431 c2_i32_3258
  let v7433 : Index := Scalar.indexCast v7432
  let c0_3259 : Index := 0#32
  ![v7433.toNat, 0]
def k0_off41_at (r : Fin 4) : BitVec 32 :=
  if r.val < 2 then
    if r.val < 1 then
      2#32
    else
      1#32
  else
    if r.val < 3 then
      0#32
    else
      4294967295#32
def k0_off42 (c2_i32_3263 : BitVec 32) : Fin 2 → Nat :=
  let c8_i32_3262 : BitVec 32 := 8#32
  let c0_i32_3247 : BitVec 32 := 0#32
  let c256_i32_3248 : BitVec 32 := 256#32
  let v7419 : BitVec 32 := Scalar.muli c0_i32_3247 c256_i32_3248
  let v7420 : BitVec 32 := v7419
  let v7441 : BitVec 32 := Scalar.addi c8_i32_3262 v7420
  let v7442 : BitVec 32 := Scalar.subi v7441 c2_i32_3263
  let v7443 : Index := Scalar.indexCast v7442
  let c0_3264 : Index := 0#32
  ![v7443.toNat, 0]
def k0_off42_at (r : Fin 4) : BitVec 32 :=
  if r.val < 2 then
    if r.val < 1 then
      2#32
    else
      1#32
  else
    if r.val < 3 then
      0#32
    else
      4294967295#32
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== PoolMm.lean ====
abbrev S8192x2048 : Shape := ⟨2, ![8192, 2048]⟩
abbrev S4x512x512 : Shape := ⟨3, ![4, 512, 512]⟩
abbrev S1x2048 : Shape := ⟨2, ![1, 2048]⟩
abbrev S4x1792x1024 : Shape := ⟨3, ![4, 1792, 1024]⟩
abbrev S4x4x128x512 : Shape := ⟨4, ![4, 4, 128, 512]⟩
abbrev S8192x16x128 : Shape := ⟨3, ![8192, 16, 128]⟩
abbrev S16x8192x128 : Shape := ⟨3, ![16, 8192, 128]⟩
abbrev S4x1024x128 : Shape := ⟨3, ![4, 1024, 128]⟩
abbrev S4x1x128x512 : Shape := ⟨4, ![4, 1, 128, 512]⟩
abbrev S1x512 : Shape := ⟨2, ![1, 512]⟩
abbrev S4x128x512 : Shape := ⟨3, ![4, 128, 512]⟩
abbrev S512x512 : Shape := ⟨2, ![512, 512]⟩
abbrev S1x1024x128 : Shape := ⟨3, ![1, 1024, 128]⟩
abbrev S1024x128 : Shape := ⟨2, ![1024, 128]⟩
abbrev S1024x512 : Shape := ⟨2, ![1024, 512]⟩
abbrev S1x1x128x512 : Shape := ⟨4, ![1, 1, 128, 512]⟩
abbrev S128x512 : Shape := ⟨2, ![128, 512]⟩
abbrev S512 : Shape := ⟨1, ![512]⟩

abbrev nBuf : Space → Nat
  | .hbm => 17
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S8192x2048, .f32⟩
  | .hbm, ⟨4, _⟩ => ⟨S4x1792x1024, .f32⟩
  | .hbm, ⟨5, _⟩ => ⟨S4x4x128x512, .f32⟩
  | .hbm, ⟨6, _⟩ => ⟨S4x4x128x512, .f32⟩
  | .hbm, ⟨7, _⟩ => ⟨S4x4x128x512, .bf16⟩
  | .hbm, ⟨8, _⟩ => ⟨S8192x16x128, .f32⟩
  | .hbm, ⟨9, _⟩ => ⟨S16x8192x128, .f32⟩
  | .hbm, ⟨10, _⟩ => ⟨S16x8192x128, .bf16⟩
  | .hbm, ⟨11, _⟩ => ⟨S8192x16x128, .f32⟩
  | .hbm, ⟨12, _⟩ => ⟨S16x8192x128, .f32⟩
  | .hbm, ⟨13, _⟩ => ⟨S16x8192x128, .bf16⟩
  | .hbm, ⟨14, _⟩ => ⟨S16x8192x128, .f32⟩
  | .hbm, ⟨15, _⟩ => ⟨S4x1792x1024, .f32⟩
  | .hbm, ⟨16, _⟩ => ⟨S1x2048, .f32⟩
  | .local _ .vmem, ⟨0, _⟩ => ⟨S4x1024x128, .bf16⟩
  | .local _ .vmem, ⟨1, _⟩ => ⟨S4x1024x128, .bf16⟩
  | .local _ .vmem, ⟨2, _⟩ => ⟨S4x1024x128, .bf16⟩
  | .local _ .vmem, ⟨3, _⟩ => ⟨S4x1024x128, .bf16⟩
  | .local _ .vmem, ⟨4, _⟩ => ⟨S4x1x128x512, .bf16⟩
  | .local _ .vmem, ⟨5, _⟩ => ⟨S4x1x128x512, .bf16⟩
  | .local _ .vmem, ⟨6, _⟩ => ⟨S1x512, .f32⟩
  | .local _ .vmem, ⟨7, _⟩ => ⟨S1x512, .f32⟩
  | .local _ .vmem, ⟨8, _⟩ => ⟨S4x1024x128, .f32⟩
  | .local _ .vmem, ⟨9, _⟩ => ⟨S4x1024x128, .f32⟩
  | .local _ .vmem, ⟨10, _⟩ => ⟨S4x128x512, .f32⟩
  | .local _ .vmem, ⟨11, _⟩ => ⟨S4x128x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_62 : BitVec 32 := 0#32
  let v68 : BitVec 1 := Scalar.cmpi .ne v67 c0_i32_62
  v68

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32 : BitVec 32 := 12#32
  let v17 : BitVec 32 := Scalar.addi c12_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![c0_i32_10.toNat, v17.toNat, v27.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PoolMmRefIdeal.lean ====
abbrev S8192x2048 : Shape := ⟨2, ![8192, 2048]⟩
abbrev S4x512x512 : Shape := ⟨3, ![4, 512, 512]⟩
abbrev S1x2048 : Shape := ⟨2, ![1, 2048]⟩
abbrev S4x1792x1024 : Shape := ⟨3, ![4, 1792, 1024]⟩
abbrev S8192x512 : Shape := ⟨2, ![8192, 512]⟩
abbrev S1x512x512 : Shape := ⟨3, ![1, 512, 512]⟩
abbrev S512x512 : Shape := ⟨2, ![512, 512]⟩
abbrev S_ : Shape := ⟨0, ![]⟩
abbrev S2048 : Shape := ⟨1, ![2048]⟩
abbrev S8192x16x128 : Shape := ⟨3, ![8192, 16, 128]⟩
abbrev S16x8192x128 : Shape := ⟨3, ![16, 8192, 128]⟩
abbrev S2x2x4x128x512 : Shape := ⟨5, ![2, 2, 4, 128, 512]⟩
abbrev S4x2x128x2x512 : Shape := ⟨5, ![4, 2, 128, 2, 512]⟩
abbrev S4x256x1024 : Shape := ⟨3, ![4, 256, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S8192x2048, .f32⟩
  | .hbm, ⟨4, _⟩ => ⟨S4x1792x1024, .f32⟩
  | .hbm, ⟨5, _⟩ => ⟨S8192x512, .f32⟩
  | .hbm, ⟨6, _⟩ => ⟨S1x512x512, .f32⟩
  | .hbm, ⟨7, _⟩ => ⟨S512x512, .f32⟩
  | .hbm, ⟨8, _⟩ => ⟨S8192x512, .f32⟩
  | .hbm, ⟨9, _⟩ => ⟨S8192x512, .f32⟩
  | .hbm, ⟨10, _⟩ => ⟨S1x512x512, .f32⟩
  | .hbm, ⟨11, _⟩ => ⟨S512x512, .f32⟩
  | .hbm, ⟨12, _⟩ => ⟨S8192x512, .f32⟩
  | .hbm, ⟨13, _⟩ => ⟨S8192x512, .f32⟩
  | .hbm, ⟨14, _⟩ => ⟨S1x512x512, .f32⟩
  | .hbm, ⟨15, _⟩ => ⟨S512x512, .f32⟩
  | .hbm, ⟨16, _⟩ => ⟨S8192x512, .f32⟩
  | .hbm, ⟨17, _⟩ => ⟨S8192x512, .f32⟩
  | .hbm, ⟨18, _⟩ => ⟨S1x512x512, .f32⟩
  | .hbm, ⟨19, _⟩ => ⟨S512x512, .f32⟩
  | .hbm, ⟨20, _⟩ => ⟨S8192x512, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S512x512, .f32⟩
  | .hbm, ⟨35, _⟩ => ⟨S512x512, .f32⟩
  | .hbm, ⟨36, _⟩ => ⟨S8192x512, .f32⟩
  | .hbm, ⟨37, _⟩ => ⟨S1x512x512, .f32⟩
  | .hbm, ⟨38, _⟩ => ⟨S_, .f32⟩
  | .hbm, ⟨39, _⟩ => ⟨S4x512x512, .f32⟩
  | .hbm, ⟨40, _⟩ => ⟨S_, .f32⟩
  | .hbm, ⟨41, _⟩ => ⟨S8192x2048, .f32⟩
  | .hbm, ⟨42, _⟩ => ⟨S512x512, .f32⟩
  | .hbm, ⟨43, _⟩ => ⟨S512x512, .f32⟩
  | .hbm, ⟨44, _⟩ => ⟨S8192x512, .f32⟩
  | .hbm, ⟨45, _⟩ => ⟨S1x512x512, .f32⟩
  | .hbm, ⟨46, _⟩ => ⟨S_, .f32⟩
  | .hbm, ⟨47, _⟩ => ⟨S4x512x512, .f32⟩
  | .hbm, ⟨48, _⟩ => ⟨S4x512x512, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S512x512, .f32⟩
  | .hbm, ⟨53, _⟩ => ⟨S512x512, .f32⟩
  | .hbm, ⟨54, _⟩ => ⟨S8192x512, .f32⟩
  | .hbm, ⟨55, _⟩ => ⟨S1x512x512, .f32⟩
  | .hbm, ⟨56, _⟩ => ⟨S_, .f32⟩
  | .hbm, ⟨57, _⟩ => ⟨S4x512x512, .f32⟩
  | .hbm, ⟨58, _⟩ => ⟨S4x512x512, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S512x512, .f32⟩
  | .hbm, ⟨63, _⟩ => ⟨S512x512, .f32⟩
  | .hbm, ⟨64, _⟩ => ⟨S8192x512, .f32⟩
  | .hbm, ⟨65, _⟩ => ⟨S1x512x512, .f32⟩
  | .hbm, ⟨66, _⟩ => ⟨S_, .f32⟩
  | .hbm, ⟨67, _⟩ => ⟨S4x512x512, .f32⟩
  | .hbm, ⟨68, _⟩ => ⟨S4x512x512, .f32⟩
  | .hbm, ⟨69, _⟩ => ⟨S_, .f32⟩
  | .hbm, ⟨70, _⟩ => ⟨S8192x2048, .f32⟩
  | .hbm, ⟨71, _⟩ => ⟨S8192x2048, .f32⟩
  | .hbm, ⟨72, _⟩ => ⟨S8192x16x128, .f32⟩
  | .hbm, ⟨73, _⟩ => ⟨S16x8192x128, .f32⟩
  | .hbm, ⟨74, _⟩ => ⟨S2x2x4x128x512, .f32⟩
  | .hbm, ⟨75, _⟩ => ⟨S4x2x128x2x512, .f32⟩
  | .hbm, ⟨76, _⟩ => ⟨S4x256x1024, .f32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S4x1792x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_c : Ref sig .tc := ⟨.hbm, 77, rfl⟩
abbrev main_c_8 : Ref sig .tc := ⟨.hbm, 78, rfl⟩
abbrev main_c_9 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== InXCtx.lean ====
abbrev S256x1024 : Shape := ⟨2, ![256, 1024]⟩
abbrev S1x1024 : Shape := ⟨2, ![1, 1024]⟩
abbrev S1024x4096 : Shape := ⟨2, ![1024, 4096]⟩
abbrev S256x2048 : Shape := ⟨2, ![256, 2048]⟩
abbrev S1024x4x1024 : Shape := ⟨3, ![1024, 4, 1024]⟩
abbrev S4x1024x1024 : Shape := ⟨3, ![4, 1024, 1024]⟩
abbrev S_ : Shape := ⟨0, ![]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1024 : Shape := ⟨1, ![1024]⟩

abbrev nBuf : Space → Nat
  | .hbm => 15
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S256x2048, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S256x2048, .bf16⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S2x1024x1024, .bf16⟩
  | .hbm, ⟨13, _⟩ => ⟨S1x1024, .f32⟩
  | .hbm, ⟨14, _⟩ => ⟨S1x1024, .f32⟩
  | .local _ .vmem, ⟨0, _⟩ => ⟨S256x2048, .bf16⟩
  | .local _ .vmem, ⟨1, _⟩ => ⟨S256x1024, .f32⟩
  | .local _ .vmem, ⟨2, _⟩ => ⟨S1x1024, .f32⟩
  | .local _ .vmem, ⟨3, _⟩ => ⟨S2x1024x1024, .bf16⟩
  | .local _ .vmem, ⟨4, _⟩ => ⟨S1x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InXCtxRefIdeal.lean ====
abbrev S256x1024 : Shape := ⟨2, ![256, 1024]⟩
abbrev S1x1024 : Shape := ⟨2, ![1, 1024]⟩
abbrev S1024x4096 : Shape := ⟨2, ![1024, 4096]⟩
abbrev S256x2048 : Shape := ⟨2, ![256, 2048]⟩
abbrev S_ : Shape := ⟨0, ![]⟩
abbrev S1024x2048 : Shape := ⟨2, ![1024, 2048]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S256x2048, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x2048, .f32⟩
  | .hbm, ⟨13, _⟩ => ⟨S256x2048, .f32⟩
  | .hbm, ⟨14, _⟩ => ⟨S256x1024, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== InWCtx.lean ====
abbrev S256x1024 : Shape := ⟨2, ![256, 1024]⟩
abbrev S1x1024 : Shape := ⟨2, ![1, 1024]⟩
abbrev S256x2048 : Shape := ⟨2, ![256, 2048]⟩
abbrev S_ : Shape := ⟨0, ![]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x2048, .f32⟩
  | .hbm, ⟨4, _⟩ => ⟨S256x2048, .bf16⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S_, .bf16⟩
  | .hbm, ⟨9, _⟩ => ⟨S256x2048, .bf16⟩
  | .hbm, ⟨10, _⟩ => ⟨S4x1024x1024, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S1x1024x1024, .f32⟩
  | .local _ .vmem, ⟨8, _⟩ => ⟨S1x1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_5 : BitVec 32 := 0#32
  let v11 : BitVec 1 := Scalar.cmpi .ne v10 c0_i32_5
  v11

def k0_cond2 (i : grid0.Coords) : BitVec 1 :=
  let arg0 : BitVec 32 := BitVec.ofNat 32 (i 0).val
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg0 c2_i32
  let c0_i32_10 : BitVec 32 := 0#32
  let v25 : BitVec 1 := Scalar.cmpi .ne v24 c0_i32_10
  let v26 : BitVec 1 := Scalar.andi v23 v25
  let v12 : BitVec 32 := Scalar.divsi arg0 c2_i32
  let c1_i32 : BitVec 32 := 1#32
  let v27 : BitVec 32 := Scalar.subi v12 c1_i32
  let v28 : BitVec 32 := Scalar.select v26 v27 v12
  let c0_i32_11 : BitVec 32 := 0#32
  let v29 : BitVec 1 := Scalar.cmpi .eq v28 c0_i32_11
  let v30 : BitVec 32 := Scalar.extui v29
  let c0_i32_12 : BitVec 32 := 0#32
  let v31 : BitVec 1 := Scalar.cmpi .ne v30 c0_i32_12
  v31

def k0_cond3 (i : grid0.Coords) : BitVec 1 :=
  let arg0 : BitVec 32 := BitVec.ofNat 32 (i 0).val
  let c0_i32_14 : BitVec 32 := 0#32
  let v33 : BitVec 1 := Scalar.cmpi .sgt arg0 c0_i32_14
  let v34 : BitVec 32 := Scalar.extui v33
  let c0_i32_15 : BitVec 32 := 0#32
  let v35 : BitVec 1 := Scalar.cmpi .slt arg0 c0_i32_15
  let v36 : BitVec 32 := Scalar.extui v35
  let v37 : BitVec 32 := Scalar.subi v34 v36
  let c2_i32_13 : BitVec 32 := 2#32
  let c0_i32_16 : BitVec 32 := 0#32
  let v38 : BitVec 1 := Scalar.cmpi .sgt c2_i32_13 c0_i32_16
  let v39 : BitVec 32 := Scalar.extui v38
  let c0_i32_17 : BitVec 32 := 0#32
  let v40 : BitVec 1 := Scalar.cmpi .slt c2_i32_13 c0_i32_17
  let v41 : BitVec 32 := Scalar.extui v40
  let v42 : BitVec 32 := Scalar.subi v39 v41
  let v43 : BitVec 1 := Scalar.cmpi .ne v37 v42
  let v44 : BitVec 32 := Scalar.remsi arg0 c2_i32_13
  let c0_i32_18 : BitVec 32 := 0#32
  let v45 : BitVec 1 := Scalar.cmpi .ne v44 c0_i32_18
  let v46 : BitVec 1 := Scalar.andi v43 v45
  let v32 : BitVec 32 := Scalar.divsi arg0 c2_i32_13
  let c1_i32_19 : BitVec 32 := 1#32
  let v47 : BitVec 32 := Scalar.subi v32 c1_i32_19
  let v48 : BitVec 32 := Scalar.select v46 v47 v32
  let c1_i32_20 : BitVec 32 := 1#32
  let v49 : BitVec 1 := Scalar.cmpi .eq v48 c1_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InWCtxRefIdeal.lean ====
abbrev S256x1024 : Shape := ⟨2, ![256, 1024]⟩
abbrev S1x1024 : Shape := ⟨2, ![1, 1024]⟩
abbrev S256x2048 : Shape := ⟨2, ![256, 2048]⟩
abbrev S_ : Shape := ⟨0, ![]⟩
abbrev S1024x4096 : Shape := ⟨2, ![1024, 4096]⟩
abbrev S1024x2048 : Shape := ⟨2, ![1024, 2048]⟩
abbrev S2048x1024 : Shape := ⟨2, ![2048, 1024]⟩
abbrev S1024x4x1024 : Shape := ⟨3, ![1024, 4, 1024]⟩
abbrev S4x1024x1024 : Shape := ⟨3, ![4, 1024, 1024]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1x1024, .f32⟩
  | .hbm, ⟨3, _⟩ => ⟨S256x2048, .f32⟩
  | .hbm, ⟨4, _⟩ => ⟨S_, .f32⟩
  | .hbm, ⟨5, _⟩ => ⟨S1024x4096, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S1024x2048, .f32⟩
  | .hbm, ⟨14, _⟩ => ⟨S256x2048, .f32⟩
  | .hbm, ⟨15, _⟩ => ⟨S2048x1024, .f32⟩
  | .hbm, ⟨16, _⟩ => ⟨S1024x2048, .f32⟩
  | .hbm, ⟨17, _⟩ => ⟨S_, .f32⟩
  | .hbm, ⟨18, _⟩ => ⟨S1024x4096, .f32⟩
  | .hbm, ⟨19, _⟩ => ⟨S1024x4x1024, .f32⟩
  | .hbm, ⟨20, _⟩ => ⟨S4x1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== CctxFin.lean ====
abbrev S1024 : Shape := ⟨1, ![1024]⟩
abbrev S1024x3072 : Shape := ⟨2, ![1024, 3072]⟩
abbrev S8x3072 : Shape := ⟨2, ![8, 3072]⟩
abbrev S_ : Shape := ⟨0, ![]⟩
abbrev S3072 : Shape := ⟨1, ![3072]⟩
abbrev S4x1x768 : Shape := ⟨3, ![4, 1, 768]⟩
abbrev S1024x4x768 : Shape := ⟨3, ![1024, 4, 768]⟩
abbrev S4x1024x768 : Shape := ⟨3, ![4, 1024, 768]⟩
abbrev S4x1024 : Shape := ⟨2, ![4, 1024]⟩
abbrev S4x1x1024 : Shape := ⟨3, ![4, 1, 1024]⟩
abbrev S4x16x1024 : Shape := ⟨3, ![4, 16, 1024]⟩
abbrev S1x1024 : Shape := ⟨2, ![1, 1024]⟩
abbrev S1x1x1024 : Shape := ⟨3, ![1, 1, 1024]⟩

abbrev nBuf : Space → Nat
  | .hbm => 16
  | .vmem => 3
  | .smem => 0
  | _ => 0

abbrev bufTy : (tb : Table) → Fin (tcTables nBuf tb) → BufTy
  | .hbm, ⟨0, _⟩ => ⟨S1024, .f32⟩
  | .hbm, ⟨1, _⟩ => ⟨S1024x3072, .f32⟩
  | .hbm, ⟨2, _⟩ => ⟨S8x3072, .f32⟩
  | .hbm, ⟨3, _⟩ => ⟨S_, .f32⟩
  | .hbm, ⟨4, _⟩ => ⟨S3072, .f32⟩
  | .hbm, ⟨5, _⟩ => ⟨S4x1x768, .f32⟩
  | .hbm, ⟨6, _⟩ => ⟨S1024x4x768, .f32⟩
  | .hbm, ⟨7, _⟩ => ⟨S4x1024x768, .f32⟩
  | .hbm, ⟨8, _⟩ => ⟨S4x1024x768, .f32⟩
  | .hbm, ⟨9, _⟩ => ⟨S4x1024x768, .f32⟩
  | .hbm, ⟨10, _⟩ => ⟨S_, .f32⟩
  | .hbm, ⟨11, _⟩ => ⟨S4x1024, .f32⟩
  | .hbm, ⟨12, _⟩ => ⟨S4x1x1024, .f32⟩
  | .hbm, ⟨13, _⟩ => ⟨S4x16x1024, .f32⟩
  | .hbm, ⟨14, _⟩ => ⟨S1x1024, .f32⟩
  | .hbm, ⟨15, _⟩ => ⟨S1x1024, .f32⟩
  | .local _ .vmem, ⟨0, _⟩ => ⟨S4x16x1024, .f32⟩
  | .local _ .vmem, ⟨1, _⟩ => ⟨S1x1024, .f32⟩
  | .local _ .vmem, ⟨2, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== CctxFinRefIdeal.lean ====
abbrev S1024 : Shape := ⟨1, ![1024]⟩
abbrev S1024x3072 : Shape := ⟨2, ![1024, 3072]⟩
abbrev S8x3072 : Shape := ⟨2, ![8, 3072]⟩
abbrev S_ : Shape := ⟨0, ![]⟩
abbrev S3072 : Shape := ⟨1, ![3072]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024x3072, .f32⟩
  | .hbm, ⟨2, _⟩ => ⟨S8x3072, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S3072, .f32⟩
  | .hbm, ⟨17, _⟩ => ⟨S8x3072, .f32⟩
  | .hbm, ⟨18, _⟩ => ⟨S_, .f32⟩
  | .hbm, ⟨19, _⟩ => ⟨S3072, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v5 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== OutW.lean ====
abbrev S8192x2048 : Shape := ⟨2, ![8192, 2048]⟩
abbrev S8192x1024 : Shape := ⟨2, ![8192, 1024]⟩
abbrev S4x1792x1024 : Shape := ⟨3, ![4, 1792, 1024]⟩
abbrev S8192x16x128 : Shape := ⟨3, ![8192, 16, 128]⟩
abbrev S16x8192x128 : Shape := ⟨3, ![16, 8192, 128]⟩
abbrev S16x1024x128 : Shape := ⟨3, ![16, 1024, 128]⟩
abbrev S1024x1024 : Shape := ⟨2, ![1024, 1024]⟩
abbrev S4x512x1024 : Shape := ⟨3, ![4, 512, 1024]⟩
abbrev S1x1024x128 : Shape := ⟨3, ![1, 1024, 128]⟩
abbrev S1024x128 : Shape := ⟨2, ![1024, 128]⟩
abbrev S1024x2048 : Shape := ⟨2, ![1024, 2048]⟩
abbrev S2048x1024 : Shape := ⟨2, ![2048, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S4x1792x1024, .f32⟩
  | .hbm, ⟨4, _⟩ => ⟨S8192x16x128, .f32⟩
  | .hbm, ⟨5, _⟩ => ⟨S16x8192x128, .f32⟩
  | .hbm, ⟨6, _⟩ => ⟨S16x8192x128, .bf16⟩
  | .hbm, ⟨7, _⟩ => ⟨S8192x16x128, .f32⟩
  | .hbm, ⟨8, _⟩ => ⟨S16x8192x128, .f32⟩
  | .hbm, ⟨9, _⟩ => ⟨S16x8192x128, .bf16⟩
  | .hbm, ⟨10, _⟩ => ⟨S8192x1024, .bf16⟩
  | .hbm, ⟨11, _⟩ => ⟨S4x1792x1024, .f32⟩
  | .local _ .vmem, ⟨0, _⟩ => ⟨S16x1024x128, .bf16⟩
  | .local _ .vmem, ⟨1, _⟩ => ⟨S16x1024x128, .bf16⟩
  | .local _ .vmem, ⟨2, _⟩ => ⟨S16x1024x128, .bf16⟩
  | .local _ .vmem, ⟨3, _⟩ => ⟨S16x1024x128, .bf16⟩
  | .local _ .vmem, ⟨4, _⟩ => ⟨S1024x1024, .bf16⟩
  | .local _ .vmem, ⟨5, _⟩ => ⟨S1024x1024, .bf16⟩
  | .local _ .vmem, ⟨6, _⟩ => ⟨S4x512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

abbrev stage0_0 : Fin 2 → Memref sig .tc .vmem S16x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== OutWRefIdeal.lean ====
abbrev S8192x2048 : Shape := ⟨2, ![8192, 2048]⟩
abbrev S8192x1024 : Shape := ⟨2, ![8192, 1024]⟩
abbrev S4x1792x1024 : Shape := ⟨3, ![4, 1792, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S4x1792x1024, .f32⟩
  | .hbm, ⟨4, _⟩ => ⟨S_, .f32⟩
  | .hbm, ⟨5, _⟩ => ⟨S2048x1024, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x1024, .f32⟩
  | .hbm, ⟨17, _⟩ => ⟨S1024x2048, .f32⟩
  | .hbm, ⟨18, _⟩ => ⟨S2048x1024, .f32⟩
  | .hbm, ⟨19, _⟩ => ⟨S4x512x1024, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S4x1792x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_v7 : Ref sig .tc := ⟨.hbm, 23, rfl⟩

abbrev nD : Nat := 1
abbrev τ : Topo := Topo.v7x

variable {F : FTy → Type} [FloatOps F]
-- ==== InW.lean ====
abbrev S8192x1024 : Shape := ⟨2, ![8192, 1024]⟩
abbrev S1x1024 : Shape := ⟨2, ![1, 1024]⟩
abbrev S8192x2048 : Shape := ⟨2, ![8192, 2048]⟩
abbrev S1024x4096 : Shape := ⟨2, ![1024, 4096]⟩
abbrev S4x1792x1024 : Shape := ⟨3, ![4, 1792, 1024]⟩
abbrev S1024x4x1024 : Shape := ⟨3, ![1024, 4, 1024]⟩
abbrev S4x1024x1024 : Shape := ⟨3, ![4, 1024, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 15
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x2048, .f32⟩
  | .hbm, ⟨4, _⟩ => ⟨S8192x2048, .f32⟩
  | .hbm, ⟨5, _⟩ => ⟨S1024x4096, .f32⟩
  | .hbm, ⟨6, _⟩ => ⟨S4x1792x1024, .f32⟩
  | .hbm, ⟨7, _⟩ => ⟨S1024x4x1024, .f32⟩
  | .hbm, ⟨8, _⟩ => ⟨S4x1024x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S8192x2048, .bf16⟩
  | .hbm, ⟨13, _⟩ => ⟨S8192x2048, .bf16⟩
  | .hbm, ⟨14, _⟩ => ⟨S4x1792x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_5 : BitVec 32 := 0#32
  let v11 : BitVec 1 := Scalar.cmpi .ne v10 c0_i32_5
  v11

def k0_cond2 (i : grid0.Coords) : BitVec 1 :=
  let arg0 : BitVec 32 := BitVec.ofNat 32 (i 0).val
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg0 c2_i32
  let c0_i32_10 : BitVec 32 := 0#32
  let v25 : BitVec 1 := Scalar.cmpi .ne v24 c0_i32_10
  let v26 : BitVec 1 := Scalar.andi v23 v25
  let v12 : BitVec 32 := Scalar.divsi arg0 c2_i32
  let c1_i32 : BitVec 32 := 1#32
  let v27 : BitVec 32 := Scalar.subi v12 c1_i32
  let v28 : BitVec 32 := Scalar.select v26 v27 v12
  let c0_i32_11 : BitVec 32 := 0#32
  let v29 : BitVec 1 := Scalar.cmpi .eq v28 c0_i32_11
  let v30 : BitVec 32 := Scalar.extui v29
  let c0_i32_12 : BitVec 32 := 0#32
  let v31 : BitVec 1 := Scalar.cmpi .ne v30 c0_i32_12
  v31

def k0_cond3 (i : grid0.Coords) : BitVec 1 :=
  let arg0 : BitVec 32 := BitVec.ofNat 32 (i 0).val
  let c0_i32_14 : BitVec 32 := 0#32
  let v33 : BitVec 1 := Scalar.cmpi .sgt arg0 c0_i32_14
  let v34 : BitVec 32 := Scalar.extui v33
  let c0_i32_15 : BitVec 32 := 0#32
  let v35 : BitVec 1 := Scalar.cmpi .slt arg0 c0_i32_15
  let v36 : BitVec 32 := Scalar.extui v35
  let v37 : BitVec 32 := Scalar.subi v34 v36
  let c2_i32_13 : BitVec 32 := 2#32
  let c0_i32_16 : BitVec 32 := 0#32
  let v38 : BitVec 1 := Scalar.cmpi .sgt c2_i32_13 c0_i32_16
  let v39 : BitVec 32 := Scalar.extui v38
  let c0_i32_17 : BitVec 32 := 0#32
  let v40 : BitVec 1 := Scalar.cmpi .slt c2_i32_13 c0_i32_17
  let v41 : BitVec 32 := Scalar.extui v40
  let v42 : BitVec 32 := Scalar.subi v39 v41
  let v43 : BitVec 1 := Scalar.cmpi .ne v37 v42
  let v44 : BitVec 32 := Scalar.remsi arg0 c2_i32_13
  let c0_i32_18 : BitVec 32 := 0#32
  let v45 : BitVec 1 := Scalar.cmpi .ne v44 c0_i32_18
  let v46 : BitVec 1 := Scalar.andi v43 v45
  let v32 : BitVec 32 := Scalar.divsi arg0 c2_i32_13
  let c1_i32_19 : BitVec 32 := 1#32
  let v47 : BitVec 32 := Scalar.subi v32 c1_i32_19
  let v48 : BitVec 32 := Scalar.select v46 v47 v32
  let c1_i32_20 : BitVec 32 := 1#32
  let v49 : BitVec 1 := Scalar.cmpi .eq v48 c1_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InWRefIdeal.lean ====
abbrev S8192x1024 : Shape := ⟨2, ![8192, 1024]⟩
abbrev S1x1024 : Shape := ⟨2, ![1, 1024]⟩
abbrev S8192x2048 : Shape := ⟨2, ![8192, 2048]⟩
abbrev S1024x4096 : Shape := ⟨2, ![1024, 4096]⟩
abbrev S4x1792x1024 : Shape := ⟨3, ![4, 1792, 1024]⟩
abbrev S_ : Shape := ⟨0, ![]⟩
abbrev S8192x4096 : Shape := ⟨2, ![8192, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x2048, .f32⟩
  | .hbm, ⟨4, _⟩ => ⟨S8192x2048, .f32⟩
  | .hbm, ⟨5, _⟩ => ⟨S1024x4096, .f32⟩
  | .hbm, ⟨6, _⟩ => ⟨S4x1792x1024, .f32⟩
  | .hbm, ⟨7, _⟩ => ⟨S_, .f32⟩
  | .hbm, ⟨8, _⟩ => ⟨S1024x4096, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x4096, .f32⟩
  | .hbm, ⟨17, _⟩ => ⟨S8192x2048, .f32⟩
  | .hbm, ⟨18, _⟩ => ⟨S8192x2048, .f32⟩
  | .hbm, ⟨19, _⟩ => ⟨S8192x4096, .f32⟩
  | .hbm, ⟨20, _⟩ => ⟨S4096x1024, .f32⟩
  | .hbm, ⟨21, _⟩ => ⟨S1024x4096, .f32⟩
  | .hbm, ⟨22, _⟩ => ⟨S1024x4096, .f32⟩
  | .hbm, ⟨23, _⟩ => ⟨S1024x4x1024, .f32⟩
  | .hbm, ⟨24, _⟩ => ⟨S4x1024x1024, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S4x1792x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_c_1 : Ref sig .tc := ⟨.hbm, 26, rfl⟩
abbrev main_c_2 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== ModW.lean ====
abbrev S8x1024 : Shape := ⟨2, ![8, 1024]⟩
abbrev S1024 : Shape := ⟨1, ![1024]⟩
abbrev S8x3072 : Shape := ⟨2, ![8, 3072]⟩
abbrev S2 : Shape := ⟨1, ![2]⟩
abbrev S_ : Shape := ⟨0, ![]⟩
abbrev S8x2048 : Shape := ⟨2, ![8, 2048]⟩
abbrev S1x8x3072 : Shape := ⟨3, ![1, 8, 3072]⟩
abbrev S20x8x3072 : Shape := ⟨3, ![20, 8, 3072]⟩
abbrev S24x8x3072 : Shape := ⟨3, ![24, 8, 3072]⟩
abbrev S1x1024 : Shape := ⟨2, ![1, 1024]⟩
abbrev S2x1024x768 : Shape := ⟨3, ![2, 1024, 768]⟩
abbrev S1x8x1024 : Shape := ⟨3, ![1, 8, 1024]⟩
abbrev S1x8x768 : Shape := ⟨3, ![1, 8, 768]⟩
abbrev S1 : Shape := ⟨1, ![1]⟩
abbrev S1x1024x768 : Shape := ⟨3, ![1, 1024, 768]⟩
abbrev S7x1024 : Shape := ⟨2, ![7, 1024]⟩
abbrev S16x1024 : Shape := ⟨2, ![16, 1024]⟩
abbrev S8x768 : Shape := ⟨2, ![8, 768]⟩
abbrev S768 : Shape := ⟨1, ![768]⟩
abbrev S1x768 : Shape := ⟨2, ![1, 768]⟩
abbrev S7x768 : Shape := ⟨2, ![7, 768]⟩
abbrev S16x768 : Shape := ⟨2, ![16, 768]⟩
abbrev S1024x768 : Shape := ⟨2, ![1024, 768]⟩

abbrev nBuf : Space → Nat
  | .hbm => 17
  | .vmem => 7
  | .smem => 1
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S8x3072, .f32⟩
  | .hbm, ⟨3, _⟩ => ⟨S8x3072, .f32⟩
  | .hbm, ⟨4, _⟩ => ⟨S8x3072, .f32⟩
  | .hbm, ⟨5, _⟩ => ⟨S_, .f32⟩
  | .hbm, ⟨6, _⟩ => ⟨S8x2048, .f32⟩
  | .hbm, ⟨7, _⟩ => ⟨S8x3072, .f32⟩
  | .hbm, ⟨8, _⟩ => ⟨S1x8x3072, .f32⟩
  | .hbm, ⟨9, _⟩ => ⟨S1x8x3072, .f32⟩
  | .hbm, ⟨10, _⟩ => ⟨S1x8x3072, .f32⟩
  | .hbm, ⟨11, _⟩ => ⟨S1x8x3072, .f32⟩
  | .hbm, ⟨12, _⟩ => ⟨S_, .f32⟩
  | .hbm, ⟨13, _⟩ => ⟨S20x8x3072, .f32⟩
  | .hbm, ⟨14, _⟩ => ⟨S24x8x3072, .f32⟩
  | .hbm, ⟨15, _⟩ => ⟨S1x1024, .f32⟩
  | .hbm, ⟨16, _⟩ => ⟨S2x1024x768, .f32⟩
  | .local _ .vmem, ⟨0, _⟩ => ⟨S1x8x1024, .f32⟩
  | .local _ .vmem, ⟨1, _⟩ => ⟨S1x8x768, .f32⟩
  | .local _ .vmem, ⟨2, _⟩ => ⟨S1x8x768, .f32⟩
  | .local _ .vmem, ⟨3, _⟩ => ⟨S1x8x768, .f32⟩
  | .local _ .vmem, ⟨4, _⟩ => ⟨S1x1024, .f32⟩
  | .local _ .vmem, ⟨5, _⟩ => ⟨S1x1024x768, .f32⟩
  | .local _ .vmem, ⟨6, _⟩ => ⟨S1x1024x768, .f32⟩
  | .local _ .smem, ⟨0, _⟩ => ⟨S2, .i32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi c1_i32 v0
  let c1 : Index := 1#32
  let v2 : BitVec 32 := pf.at 0 (Rect.unit (s := S2) ![1] S1.size inb_S2_S1_1) numel1_S1
  let c0_i32 : BitVec 32 := 0#32
  let c0_i32_0 : BitVec 32 := 0#32
  ![v1.toNat, c0_i32.toNat, v2.toNat]

def cc0_transform_2 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let c0_i32 : BitVec 32 := 0#32
  let c0_i32_0 : BitVec 32 := 0#32
  ![c2_i32.toNat, c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModWRefIdeal.lean ====
abbrev S8x1024 : Shape := ⟨2, ![8, 1024]⟩
abbrev S1024 : Shape := ⟨1, ![1024]⟩
abbrev S8x3072 : Shape := ⟨2, ![8, 3072]⟩
abbrev S_ : Shape := ⟨0, ![]⟩
abbrev S2x1024x3072 : Shape := ⟨3, ![2, 1024, 3072]⟩
abbrev S1x1024x3072 : Shape := ⟨3, ![1, 1024, 3072]⟩
abbrev S1024x3072 : Shape := ⟨2, ![1024, 3072]⟩
abbrev S1x1024 : Shape := ⟨2, ![1, 1024]⟩
abbrev S1x3072 : Shape := ⟨2, ![1, 3072]⟩
abbrev S3072 : Shape := ⟨1, ![3072]⟩
abbrev S3072x1024 : Shape := ⟨2, ![3072, 1024]⟩
abbrev S2x1024x768 : Shape := ⟨3, ![2, 1024, 768]⟩

abbrev nBuf : Space → Nat
  | .hbm => 66
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S8x3072, .f32⟩
  | .hbm, ⟨3, _⟩ => ⟨S8x3072, .f32⟩
  | .hbm, ⟨4, _⟩ => ⟨S8x3072, .f32⟩
  | .hbm, ⟨5, _⟩ => ⟨S_, .f32⟩
  | .hbm, ⟨6, _⟩ => ⟨S2x1024x3072, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S1x1024x3072, .f32⟩
  | .hbm, ⟨17, _⟩ => ⟨S1024x3072, .f32⟩
  | .hbm, ⟨18, _⟩ => ⟨S8x3072, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S1x1024x3072, .f32⟩
  | .hbm, ⟨30, _⟩ => ⟨S1024x3072, .f32⟩
  | .hbm, ⟨31, _⟩ => ⟨S1x3072, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | .hbm, ⟨37, _⟩ => ⟨S_, .f32⟩
  | .hbm, ⟨38, _⟩ => ⟨S8x1024, .f32⟩
  | .hbm, ⟨39, _⟩ => ⟨S8x1024, .f32⟩
  | .hbm, ⟨40, _⟩ => ⟨S8x1024, .f32⟩
  | .hbm, ⟨41, _⟩ => ⟨S1x1024x3072, .f32⟩
  | .hbm, ⟨42, _⟩ => ⟨S1024x3072, .f32⟩
  | .hbm, ⟨43, _⟩ => ⟨S8x3072, .f32⟩
  | .hbm, ⟨44, _⟩ => ⟨S8x3072, .f32⟩
  | .hbm, ⟨45, _⟩ => ⟨S_, .f32⟩
  | .hbm, ⟨46, _⟩ => ⟨S3072, .f32⟩
  | .hbm, ⟨47, _⟩ => ⟨S1x3072, .f32⟩
  | .hbm, ⟨48, _⟩ => ⟨S3072x1024, .f32⟩
  | .hbm, ⟨49, _⟩ => ⟨S1024x3072, .f32⟩
  | .hbm, ⟨50, _⟩ => ⟨S1x1024x3072, .f32⟩
  | .hbm, ⟨51, _⟩ => ⟨S_, .f32⟩
  | .hbm, ⟨52, _⟩ => ⟨S2x1024x3072, .f32⟩
  | .hbm, ⟨53, _⟩ => ⟨S3072x1024, .f32⟩
  | .hbm, ⟨54, _⟩ => ⟨S1024x3072, .f32⟩
  | .hbm, ⟨55, _⟩ => ⟨S1x1024x3072, .f32⟩
  | .hbm, ⟨56, _⟩ => ⟨S_, .f32⟩
  | .hbm, ⟨57, _⟩ => ⟨S2x1024x3072, .f32⟩
  | .hbm, ⟨58, _⟩ => ⟨S2x1024x3072, .f32⟩
  | .hbm, ⟨59, _⟩ => ⟨S3072x1024, .f32⟩
  | .hbm, ⟨60, _⟩ => ⟨S1024x3072, .f32⟩
  | .hbm, ⟨61, _⟩ => ⟨S1x1024x3072, .f32⟩
  | .hbm, ⟨62, _⟩ => ⟨S_, .f32⟩
  | .hbm, ⟨63, _⟩ => ⟨S2x1024x3072, .f32⟩
  | .hbm, ⟨64, _⟩ => ⟨S2x1024x3072, .f32⟩
  | .hbm, ⟨65, _⟩ => ⟨S2x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_call2_v0 : Ref sig .tc := ⟨.hbm, 32, rfl⟩
abbrev main_call2_v1 : Ref sig .tc := ⟨.hbm, 33, rfl⟩
abbrev main_call2_cst : Ref sig .tc := ⟨.hbm, 34, rfl⟩
abbrev main_call2_v2 : Ref sig .tc := ⟨.hbm, 35, rfl⟩
abbrev main_call2_v3 : Ref sig .tc := ⟨.hbm, 36, rfl⟩
abbrev main_call2_cst_0 : Ref sig .tc := ⟨.hbm, 37, rfl⟩
abbrev main_call2_v4 : Ref sig .tc := ⟨.hbm, 38, rfl⟩
abbrev main_call2_v5 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_0 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_1 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_2 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_cst_3 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩

abbrev nD : Nat := 1
abbrev τ : Topo := Topo.v7x

variable {F : FTy → Type} [FloatOps F]
-- ==== CctxPart.lean ====
abbrev S1024x3072 : Shape := ⟨2, ![1024, 3072]⟩
abbrev S8x3072 : Shape := ⟨2, ![8, 3072]⟩
abbrev S2 : Shape := ⟨1, ![2]⟩
abbrev S_ : Shape := ⟨0, ![]⟩
abbrev S2x8x3072 : Shape := ⟨3, ![2, 8, 3072]⟩
abbrev S1x8x3072 : Shape := ⟨3, ![1, 8, 3072]⟩
abbrev S3x8x3072 : Shape := ⟨3, ![3, 8, 3072]⟩
abbrev S21x8x3072 : Shape := ⟨3, ![21, 8, 3072]⟩
abbrev S24x8x3072 : Shape := ⟨3, ![24, 8, 3072]⟩
abbrev S1024x768 : Shape := ⟨2, ![1024, 768]⟩
abbrev S16x1024 : Shape := ⟨2, ![16, 1024]⟩
abbrev S1x8x768 : Shape := ⟨3, ![1, 8, 768]⟩
abbrev S1 : Shape := ⟨1, ![1]⟩
abbrev S8x768 : Shape := ⟨2, ![8, 768]⟩
abbrev S768 : Shape := ⟨1, ![768]⟩
abbrev S1x768 : Shape := ⟨2, ![1, 768]⟩
abbrev S16x768 : Shape := ⟨2, ![16, 768]⟩

abbrev nBuf : Space → Nat
  | .hbm => 12
  | .vmem => 3
  | .smem => 1
  | _ => 0

abbrev bufTy : (tb : Table) → Fin (tcTables nBuf tb) → BufTy
  | .hbm, ⟨0, _⟩ => ⟨S1024x3072, .f32⟩
  | .hbm, ⟨1, _⟩ => ⟨S8x3072, .f32⟩
  | .hbm, ⟨2, _⟩ => ⟨S_, .f32⟩
  | .hbm, ⟨3, _⟩ => ⟨S2x8x3072, .f32⟩
  | .hbm, ⟨4, _⟩ => ⟨S1x8x3072, .f32⟩
  | .hbm, ⟨5, _⟩ => ⟨S3x8x3072, .f32⟩
  | .hbm, ⟨6, _⟩ => ⟨S_, .f32⟩
  | .hbm, ⟨7, _⟩ => ⟨S21x8x3072, .f32⟩
  | .hbm, ⟨8, _⟩ => ⟨S24x8x3072, .f32⟩
  | .hbm, ⟨9, _⟩ => ⟨S1024x768, .f32⟩
  | .hbm, ⟨10, _⟩ => ⟨S1024x768, .bf16⟩
  | .hbm, ⟨11, _⟩ => ⟨S16x1024, .f32⟩
  | .local _ .vmem, ⟨0, _⟩ => ⟨S1x8x768, .f32⟩
  | .local _ .vmem, ⟨1, _⟩ => ⟨S1024x768, .bf16⟩
  | .local _ .vmem, ⟨2, _⟩ => ⟨S16x1024, .f32⟩
  | .local _ .smem, ⟨0, _⟩ => ⟨S2, .i32⟩
  | _, _ => ⟨S1024x3072, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let c0_i32 : BitVec 32 := 0#32
  let c0_i32_0 : BitVec 32 := 0#32
  ![c2_i32.toNat, c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== CctxPartRefIdeal.lean ====
abbrev S1024x3072 : Shape := ⟨2, ![1024, 3072]⟩
abbrev S8x3072 : Shape := ⟨2, ![8, 3072]⟩
abbrev S1024x768 : Shape := ⟨2, ![1024, 768]⟩
abbrev S_ : Shape := ⟨0, ![]⟩
abbrev S1x1024 : Shape := ⟨2, ![1, 1024]⟩
abbrev S1x768 : Shape := ⟨2, ![1, 768]⟩
abbrev S8x768 : Shape := ⟨2, ![8, 768]⟩
abbrev S768 : Shape := ⟨1, ![768]⟩
abbrev S16x1024 : Shape := ⟨2, ![16, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x3072, .f32⟩
  | .hbm, ⟨1, _⟩ => ⟨S8x3072, .f32⟩
  | .hbm, ⟨2, _⟩ => ⟨S1024x768, .f32⟩
  | .hbm, ⟨3, _⟩ => ⟨S_, .f32⟩
  | .hbm, ⟨4, _⟩ => ⟨S1x1024, .f32⟩
  | .hbm, ⟨5, _⟩ => ⟨S1x768, .f32⟩
  | .hbm, ⟨6, _⟩ => ⟨S8x768, .f32⟩
  | .hbm, ⟨7, _⟩ => ⟨S8x768, .f32⟩
  | .hbm, ⟨8, _⟩ => ⟨S_, .f32⟩
  | .hbm, ⟨9, _⟩ => ⟨S768, .f32⟩
  | .hbm, ⟨10, _⟩ => ⟨S1x768, .f32⟩
  | .hbm, ⟨11, _⟩ => ⟨S1x1024, .f32⟩
  | .hbm, ⟨12, _⟩ => ⟨S16x1024, .f32⟩
  | _, _ => ⟨S1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ModF.lean ====
abbrev S8x1024 : Shape := ⟨2, ![8, 1024]⟩
abbrev S1024 : Shape := ⟨1, ![1024]⟩
abbrev S2x1024x768 : Shape := ⟨3, ![2, 1024, 768]⟩
abbrev S2x768 : Shape := ⟨2, ![2, 768]⟩
abbrev S1x1024 : Shape := ⟨2, ![1, 1024]⟩
abbrev S2x1x768 : Shape := ⟨3, ![2, 1, 768]⟩
abbrev S2x16x768 : Shape := ⟨3, ![2, 16, 768]⟩
abbrev S1x1024x768 : Shape := ⟨3, ![1, 1024, 768]⟩
abbrev S1x1x768 : Shape := ⟨3, ![1, 1, 768]⟩
abbrev S1x16x768 : Shape := ⟨3, ![1, 16, 768]⟩
abbrev S7x1024 : Shape := ⟨2, ![7, 1024]⟩
abbrev S16x1024 : Shape := ⟨2, ![16, 1024]⟩
abbrev S1024x768 : Shape := ⟨2, ![1024, 768]⟩
abbrev S16x768 : Shape := ⟨2, ![16, 768]⟩
abbrev S1x768 : Shape := ⟨2, ![1, 768]⟩

abbrev nBuf : Space → Nat
  | .hbm => 8
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x768, .f32⟩
  | .hbm, ⟨3, _⟩ => ⟨S2x768, .f32⟩
  | .hbm, ⟨4, _⟩ => ⟨S1x1024, .f32⟩
  | .hbm, ⟨5, _⟩ => ⟨S2x1024x768, .bf16⟩
  | .hbm, ⟨6, _⟩ => ⟨S2x1x768, .f32⟩
  | .hbm, ⟨7, _⟩ => ⟨S2x16x768, .f32⟩
  | .local _ .vmem, ⟨0, _⟩ => ⟨S8x1024, .f32⟩
  | .local _ .vmem, ⟨1, _⟩ => ⟨S1x1024, .f32⟩
  | .local _ .vmem, ⟨2, _⟩ => ⟨S1x1024x768, .bf16⟩
  | .local _ .vmem, ⟨3, _⟩ => ⟨S1x1024x768, .bf16⟩
  | .local _ .vmem, ⟨4, _⟩ => ⟨S1x1x768, .f32⟩
  | .local _ .vmem, ⟨5, _⟩ => ⟨S1x1x768, .f32⟩
  | .local _ .vmem, ⟨6, _⟩ => ⟨S1x16x768, .f32⟩
  | .local _ .vmem, ⟨7, _⟩ => ⟨S1x16x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ModFRefIdeal.lean ====
abbrev S8x1024 : Shape := ⟨2, ![8, 1024]⟩
abbrev S1024 : Shape := ⟨1, ![1024]⟩
abbrev S2x1024x768 : Shape := ⟨3, ![2, 1024, 768]⟩
abbrev S2x768 : Shape := ⟨2, ![2, 768]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x768x16 : Shape := ⟨3, ![2, 768, 16]⟩
abbrev S2x16x768 : Shape := ⟨3, ![2, 16, 768]⟩
abbrev S2x1x768 : Shape := ⟨3, ![2, 1, 768]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x768, .f32⟩
  | .hbm, ⟨3, _⟩ => ⟨S2x768, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S2x768x16, .f32⟩
  | .hbm, ⟨18, _⟩ => ⟨S2x16x768, .f32⟩
  | .hbm, ⟨19, _⟩ => ⟨S2x1x768, .f32⟩
  | .hbm, ⟨20, _⟩ => ⟨S2x16x768, .f32⟩
  | .hbm, ⟨21, _⟩ => ⟨S2x16x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== MRep.lean ====
abbrev S8x128 : Shape := ⟨2, ![8, 128]⟩
abbrev S8x3072 : Shape := ⟨2, ![8, 3072]⟩
abbrev S8x2048 : Shape := ⟨2, ![8, 2048]⟩
abbrev S8x2x1024 : Shape := ⟨3, ![8, 2, 1024]⟩
abbrev S8x4x2048 : Shape := ⟨3, ![8, 4, 2048]⟩
abbrev S8x2x2048 : Shape := ⟨3, ![8, 2, 2048]⟩
abbrev S8x1x2048 : Shape := ⟨3, ![8, 1, 2048]⟩
abbrev S8x6x2048 : Shape := ⟨3, ![8, 6, 2048]⟩
abbrev S8x13x2048 : Shape := ⟨3, ![8, 13, 2048]⟩
abbrev S_ : Shape := ⟨0, ![]⟩
abbrev S8x11x1024 : Shape := ⟨3, ![8, 11, 1024]⟩
abbrev S8x13x1024 : Shape := ⟨3, ![8, 13, 1024]⟩
abbrev S8x13x3072 : Shape := ⟨3, ![8, 13, 3072]⟩
abbrev S8x1024 : Shape := ⟨2, ![8, 1024]⟩
abbrev S8x1152 : Shape := ⟨2, ![8, 1152]⟩
abbrev S8x1920 : Shape := ⟨2, ![8, 1920]⟩
abbrev S1x8x3072 : Shape := ⟨3, ![1, 8, 3072]⟩
abbrev S4x8x3072 : Shape := ⟨3, ![4, 8, 3072]⟩
abbrev S13x8x3072 : Shape := ⟨3, ![13, 8, 3072]⟩
abbrev S17x8x3072 : Shape := ⟨3, ![17, 8, 3072]⟩
abbrev S7x8x3072 : Shape := ⟨3, ![7, 8, 3072]⟩
abbrev S24x8x3072 : Shape := ⟨3, ![24, 8, 3072]⟩
abbrev S2x3072 : Shape := ⟨2, ![2, 3072]⟩
abbrev S1x128 : Shape := ⟨2, ![1, 128]⟩
abbrev S1x2048 : Shape := ⟨2, ![1, 2048]⟩
abbrev S2x1024 : Shape := ⟨2, ![2, 1024]⟩
abbrev S4x2048 : Shape := ⟨2, ![4, 2048]⟩
abbrev S2x2048 : Shape := ⟨2, ![2, 2048]⟩
abbrev S1x8x128 : Shape := ⟨3, ![1, 8, 128]⟩
abbrev S1 : Shape := ⟨1, ![1]⟩
abbrev S1x1x1 : Shape := ⟨3, ![1, 1, 1]⟩
abbrev S3072 : Shape := ⟨1, ![3072]⟩
abbrev S1x3072 : Shape := ⟨2, ![1, 3072]⟩
abbrev S1x1024 : Shape := ⟨2, ![1, 1024]⟩

abbrev nBuf : Space → Nat
  | .hbm => 49
  | .vmem => 11
  | .smem => 0
  | _ => 0

abbrev bufTy : (tb : Table) → Fin (tcTables nBuf tb) → BufTy
  | .hbm, ⟨0, _⟩ => ⟨S8x128, .f32⟩
  | .hbm, ⟨1, _⟩ => ⟨S8x3072, .f32⟩
  | .hbm, ⟨2, _⟩ => ⟨S8x3072, .f32⟩
  | .hbm, ⟨3, _⟩ => ⟨S8x3072, .f32⟩
  | .hbm, ⟨4, _⟩ => ⟨S8x2048, .f32⟩
  | .hbm, ⟨5, _⟩ => ⟨S8x2x1024, .f32⟩
  | .hbm, ⟨6, _⟩ => ⟨S8x2048, .f32⟩
  | .hbm, ⟨7, _⟩ => ⟨S8x2x1024, .f32⟩
  | .hbm, ⟨8, _⟩ => ⟨S8x4x2048, .f32⟩
  | .hbm, ⟨9, _⟩ => ⟨S8x2x2048, .f32⟩
  | .hbm, ⟨10, _⟩ => ⟨S8x2x2048, .f32⟩
  | .hbm, ⟨11, _⟩ => ⟨S8x2x2048, .f32⟩
  | .hbm, ⟨12, _⟩ => ⟨S8x1x2048, .f32⟩
  | .hbm, ⟨13, _⟩ => ⟨S8x1x2048, .f32⟩
  | .hbm, ⟨14, _⟩ => ⟨S8x2x2048, .f32⟩
  | .hbm, ⟨15, _⟩ => ⟨S8x1x2048, .f32⟩
  | .hbm, ⟨16, _⟩ => ⟨S8x6x2048, .f32⟩
  | .hbm, ⟨17, _⟩ => ⟨S8x4x2048, .f32⟩
  | .hbm, ⟨18, _⟩ => ⟨S8x13x2048, .f32⟩
  | .hbm, ⟨19, _⟩ => ⟨S_, .f32⟩
  | .hbm, ⟨20, _⟩ => ⟨S8x11x1024, .f32⟩
  | .hbm, ⟨21, _⟩ => ⟨S8x13x1024, .f32⟩
  | .hbm, ⟨22, _⟩ => ⟨S8x13x3072, .f32⟩
  | .hbm, ⟨23, _⟩ => ⟨S_, .f32⟩
  | .hbm, ⟨24, _⟩ => ⟨S8x1024, .f32⟩
  | .hbm, ⟨25, _⟩ => ⟨S8x1152, .f32⟩
  | .hbm, ⟨26, _⟩ => ⟨S_, .f32⟩
  | .hbm, ⟨27, _⟩ => ⟨S8x1920, .f32⟩
  | .hbm, ⟨28, _⟩ => ⟨S8x3072, .f32⟩
  | .hbm, ⟨29, _⟩ => ⟨S1x8x3072, .f32⟩
  | .hbm, ⟨30, _⟩ => ⟨S1x8x3072, .f32⟩
  | .hbm, ⟨31, _⟩ => ⟨S1x8x3072, .f32⟩
  | .hbm, ⟨32, _⟩ => ⟨S1x8x3072, .f32⟩
  | .hbm, ⟨33, _⟩ => ⟨S4x8x3072, .f32⟩
  | .hbm, ⟨34, _⟩ => ⟨S13x8x3072, .f32⟩
  | .hbm, ⟨35, _⟩ => ⟨S17x8x3072, .f32⟩
  | .hbm, ⟨36, _⟩ => ⟨S_, .f32⟩
  | .hbm, ⟨37, _⟩ => ⟨S7x8x3072, .f32⟩
  | .hbm, ⟨38, _⟩ => ⟨S24x8x3072, .f32⟩
  | .hbm, ⟨39, _⟩ => ⟨S2x3072, .f32⟩
  | .hbm, ⟨40, _⟩ => ⟨S1x128, .f32⟩
  | .hbm, ⟨41, _⟩ => ⟨S1x2048, .f32⟩
  | .hbm, ⟨42, _⟩ => ⟨S2x1024, .f32⟩
  | .hbm, ⟨43, _⟩ => ⟨S1x2048, .f32⟩
  | .hbm, ⟨44, _⟩ => ⟨S2x1024, .f32⟩
  | .hbm, ⟨45, _⟩ => ⟨S4x2048, .f32⟩
  | .hbm, ⟨46, _⟩ => ⟨S2x2048, .f32⟩
  | .hbm, ⟨47, _⟩ => ⟨S2x2048, .f32⟩
  | .hbm, ⟨48, _⟩ => ⟨S2x2048, .f32⟩
  | .local _ .vmem, ⟨0, _⟩ => ⟨S24x8x3072, .f32⟩
  | .local _ .vmem, ⟨1, _⟩ => ⟨S2x3072, .f32⟩
  | .local _ .vmem, ⟨2, _⟩ => ⟨S1x128, .f32⟩
  | .local _ .vmem, ⟨3, _⟩ => ⟨S1x2048, .f32⟩
  | .local _ .vmem, ⟨4, _⟩ => ⟨S2x1024, .f32⟩
  | .local _ .vmem, ⟨5, _⟩ => ⟨S1x2048, .f32⟩
  | .local _ .vmem, ⟨6, _⟩ => ⟨S2x1024, .f32⟩
  | .local _ .vmem, ⟨7, _⟩ => ⟨S4x2048, .f32⟩
  | .local _ .vmem, ⟨8, _⟩ => ⟨S2x2048, .f32⟩
  | .local _ .vmem, ⟨9, _⟩ => ⟨S2x2048, .f32⟩
  | .local _ .vmem, ⟨10, _⟩ => ⟨S2x2048, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v23_3 : Ref sig .tc := ⟨.hbm, 42, rfl⟩
abbrev main_v23_4 : Ref sig .tc := ⟨.hbm, 43, rfl⟩
abbrev main_v23_5 : Ref sig .tc := ⟨.hbm, 44, rfl⟩
abbrev main_v23_6 : Ref sig .tc := ⟨.hbm, 45, rfl⟩
abbrev main_v23_7 : Ref sig .tc := ⟨.hbm, 46, rfl⟩
abbrev main_v23_8 : Ref sig .tc := ⟨.hbm, 47, rfl⟩
abbrev main_v23_9 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x8x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MRepRefIdeal.lean ====
abbrev S8x128 : Shape := ⟨2, ![8, 128]⟩
abbrev S8x3072 : Shape := ⟨2, ![8, 3072]⟩
abbrev S8x2048 : Shape := ⟨2, ![8, 2048]⟩
abbrev S8x2x1024 : Shape := ⟨3, ![8, 2, 1024]⟩
abbrev S8x4x2048 : Shape := ⟨3, ![8, 4, 2048]⟩
abbrev S8x2x2048 : Shape := ⟨3, ![8, 2, 2048]⟩
abbrev S_ : Shape := ⟨0, ![]⟩
abbrev S2x3072 : Shape := ⟨2, ![2, 3072]⟩
abbrev S2048 : Shape := ⟨1, ![2048]⟩
abbrev S2x1024 : Shape := ⟨2, ![2, 1024]⟩
abbrev S4x2048 : Shape := ⟨2, ![4, 2048]⟩
abbrev S2x2048 : Shape := ⟨2, ![2, 2048]⟩
abbrev S1x3072 : Shape := ⟨2, ![1, 3072]⟩
abbrev S3072 : Shape := ⟨1, ![3072]⟩
abbrev S1x2048 : Shape := ⟨2, ![1, 2048]⟩
abbrev S1x2x1024 : Shape := ⟨3, ![1, 2, 1024]⟩
abbrev S1x4x2048 : Shape := ⟨3, ![1, 4, 2048]⟩
abbrev S1x2x2048 : Shape := ⟨3, ![1, 2, 2048]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S8x128, .f32⟩
  | 1 => ⟨S8x3072, .f32⟩
  | 2 => ⟨S8x3072, .f32⟩
  | 3 => ⟨S8x3072, .f32⟩
  | 4 => ⟨S8x2048, .f32⟩
  | 5 => ⟨S8x2x1024, .f32⟩
  | 6 => ⟨S8x2048, .f32⟩
  | 7 => ⟨S8x2x1024, .f32⟩
  | 8 => ⟨S8x4x2048, .f32⟩
  | 9 => ⟨S8x2x2048, .f32⟩
  | 10 => ⟨S8x2x2048, .f32⟩
  | 11 => ⟨S8x2x2048, .f32⟩
  | 12 => ⟨S_, .f32⟩
  | 13 => ⟨S2x3072, .f32⟩
  | 14 => ⟨S_, .f32⟩
  | 15 => ⟨S2048, .f32⟩
  | 16 => ⟨S_, .f32⟩
  | 17 => ⟨S2x1024, .f32⟩
  | 18 => ⟨S_, .f32⟩
  | 19 => ⟨S2048, .f32⟩
  | 20 => ⟨S_, .f32⟩
  | 21 => ⟨S2x1024, .f32⟩
  | 22 => ⟨S_, .f32⟩
  | 23 => ⟨S4x2048, .f32⟩
  | 24 => ⟨S_, .f32⟩
  | 25 => ⟨S2x2048, .f32⟩
  | 26 => ⟨S_, .f32⟩
  | 27 => ⟨S2x2048, .f32⟩
  | 28 => ⟨S_, .f32⟩
  | 29 => ⟨S2x2048, .f32⟩
  | 30 => ⟨S_, .f32⟩
  | 31 => ⟨S8x128, .f32⟩
  | 32 => ⟨S1x3072, .f32⟩
  | 33 => ⟨S3072, .f32⟩
  | 34 => ⟨S1x3072, .f32⟩
  | 35 => ⟨S8x3072, .f32⟩
  | 36 => ⟨S1x3072, .f32⟩
  | 37 => ⟨S3072, .f32⟩
  | 38 => ⟨S1x3072, .f32⟩
  | 39 => ⟨S8x3072, .f32⟩
  | 40 => ⟨S1x3072, .f32⟩
  | 41 => ⟨S3072, .f32⟩
  | 42 => ⟨S1x3072, .f32⟩
  | 43 => ⟨S8x3072, .f32⟩
  | 44 => ⟨S1x2048, .f32⟩
  | 45 => ⟨S8x2048, .f32⟩
  | 46 => ⟨S1x2x1024, .f32⟩
  | 47 => ⟨S8x2x1024, .f32⟩
  | 48 => ⟨S1x2048, .f32⟩
  | 49 => ⟨S8x2048, .f32⟩
  | 50 => ⟨S1x2x1024, .f32⟩
  | 51 => ⟨S8x2x1024, .f32⟩
  | 52 => ⟨S1x4x2048, .f32⟩
  | 53 => ⟨S8x4x2048, .f32⟩
  | 54 => ⟨S1x2x2048, .f32⟩
  | 55 => ⟨S8x2x2048, .f32⟩
  | 56 => ⟨S1x2x2048, .f32⟩
  | 57 => ⟨S8x2x2048, .f32⟩
  | 58 => ⟨S1x2x2048, .f32⟩
  | 59 => ⟨S8x2x2048, .f32⟩
  | 60 => ⟨S_, .f32⟩
  | 61 => ⟨S2x2048, .f32⟩
  | 62 => ⟨S1x2x2048, .f32⟩
  | 63 => ⟨S_, .f32⟩
  | 64 => ⟨S2x2048, .f32⟩
  | 65 => ⟨S_, .f32⟩
  | 66 => ⟨S2x2048, .f32⟩
  | 67 => ⟨S1x2x2048, .f32⟩
  | 68 => ⟨S_, .f32⟩
  | 69 => ⟨S2x2048, .f32⟩
  | 70 => ⟨S_, .f32⟩
  | 71 => ⟨S2x2048, .f32⟩
  | 72 => ⟨S1x2x2048, .f32⟩
  | 73 => ⟨S_, .f32⟩
  | 74 => ⟨S2x2048, .f32⟩
  | 75 => ⟨S_, .f32⟩
  | 76 => ⟨S4x2048, .f32⟩
  | 77 => ⟨S1x4x2048, .f32⟩
  | 78 => ⟨S_, .f32⟩
  | 79 => ⟨S4x2048, .f32⟩
  | 80 => ⟨S_, .f32⟩
  | 81 => ⟨S2x1024, .f32⟩
  | 82 => ⟨S1x2x1024, .f32⟩
  | 83 => ⟨S_, .f32⟩
  | 84 => ⟨S2x1024, .f32⟩
  | 85 => ⟨S_, .f32⟩
  | 86 => ⟨S2048, .f32⟩
  | 87 => ⟨S1x2048, .f32⟩
  | 88 => ⟨S_, .f32⟩
  | 89 => ⟨S2048, .f32⟩
  | 90 => ⟨S_, .f32⟩
  | 91 => ⟨S2x1024, .f32⟩
  | 92 => ⟨S1x2x1024, .f32⟩
  | 93 => ⟨S_, .f32⟩
  | 94 => ⟨S2x1024, .f32⟩
  | 95 => ⟨S_, .f32⟩
  | 96 => ⟨S2048, .f32⟩
  | 97 => ⟨S1x2048, .f32⟩
  | 98 => ⟨S_, .f32⟩
  | 99 => ⟨S2048, .f32⟩
  | 100 => ⟨S_, .f32⟩
  | 101 => ⟨S3072, .f32⟩
  | 102 => ⟨S1x3072, .f32⟩
  | 103 => ⟨S_, .f32⟩
  | 104 => ⟨S3072, .f32⟩
  | 105 => ⟨S1x3072, .f32⟩
  | 106 => ⟨S_, .f32⟩
  | 107 => ⟨S2x3072, .f32⟩
  | 108 => ⟨S_, .f32⟩
  | 109 => ⟨S3072, .f32⟩
  | 110 => ⟨S1x3072, .f32⟩
  | 111 => ⟨S_, .f32⟩
  | 112 => ⟨S3072, .f32⟩
  | 113 => ⟨S1x3072, .f32⟩
  | 114 => ⟨S_, .f32⟩
  | 115 => ⟨S2x3072, .f32⟩
  | 116 => ⟨S2x3072, .f32⟩
  | 117 => ⟨S_, .f32⟩
  | 118 => ⟨S3072, .f32⟩
  | 119 => ⟨S1x3072, .f32⟩
  | 120 => ⟨S_, .f32⟩
  | 121 => ⟨S3072, .f32⟩
  | 122 => ⟨S1x3072, .f32⟩
  | 123 => ⟨S_, .f32⟩
  | 124 => ⟨S2x3072, .f32⟩
  | 125 => ⟨S2x3072, .f32⟩
  | 126 => ⟨S_, .f32⟩
  | 127 => ⟨S_, .f32⟩
  | _ => ⟨S8x128, .f32⟩

abbrev hbmTy0_1 (i : Nat) : BufTy := match i % 128 with
  | 0 => ⟨S1x2048, .f32⟩
  | 1 => ⟨S1x2048, .f32⟩
  | 2 => ⟨S1x128, .f32⟩
  | _ => ⟨S8x128, .f32⟩

abbrev hbmTy (i : Nat) : BufTy := match i / 128 with
  | 0 => hbmTy0_0 i
  | 1 => hbmTy0_1 i
  | _ => ⟨S8x128, .f32⟩

abbrev bufTy : (tb : Table) → Fin (tcTables nBuf tb) → BufTy
  | .hbm, ⟨i, _⟩ => hbmTy i
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_cst_3 : Ref sig .tc := ⟨.hbm, 20, rfl⟩
abbrev main_v4 : Ref sig .tc := ⟨.hbm, 21, rfl⟩
abbrev main_cst_4 : Ref sig .tc := ⟨.hbm, 22, rfl⟩
abbrev main_v5 : Ref sig .tc := ⟨.hbm, 23, rfl⟩
abbrev main_cst_5 : Ref sig .tc := ⟨.hbm, 24, rfl⟩
abbrev main_v6 : Ref sig .tc := ⟨.hbm, 25, rfl⟩
abbrev main_cst_6 : Ref sig .tc := ⟨.hbm, 26, rfl⟩
abbrev main_v7 : Ref sig .tc := ⟨.hbm, 27, rfl⟩
abbrev main_cst_7 : Ref sig .tc := ⟨.hbm, 28, rfl⟩
abbrev main_v8 : Ref sig .tc := ⟨.hbm, 29, rfl⟩
abbrev main_cst_8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_cst_11 : Ref sig .tc := ⟨.hbm, 65, rfl⟩
abbrev main_v41 : Ref sig .tc := ⟨.hbm, 66, rfl⟩
abbrev main_v42 : Ref sig .tc := ⟨.hbm, 67, rfl⟩
abbrev main_cst_12 : Ref sig .tc := ⟨.hbm, 68, rfl⟩
abbrev main_v43 : Ref sig .tc := ⟨.hbm, 69, rfl⟩
abbrev main_cst_13 : Ref sig .tc := ⟨.hbm, 70, rfl⟩
abbrev main_v44 : Ref sig .tc := ⟨.hbm, 71, rfl⟩
abbrev main_v45 : Ref sig .tc := ⟨.hbm, 72, rfl⟩
abbrev main_cst_14 : Ref sig .tc := ⟨.hbm, 73, rfl⟩
abbrev main_v46 : Ref sig .tc := ⟨.hbm, 74, rfl⟩
abbrev main_cst_15 : Ref sig .tc := ⟨.hbm, 75, rfl⟩
abbrev main_v47 : Ref sig .tc := ⟨.hbm, 76, rfl⟩
abbrev main_v48 : Ref sig .tc := ⟨.hbm, 77, rfl⟩
abbrev main_cst_16 : Ref sig .tc := ⟨.hbm, 78, rfl⟩
abbrev main_v49 : Ref sig .tc := ⟨.hbm, 79, rfl⟩
abbrev main_cst_17 : Ref sig .tc := ⟨.hbm, 80, rfl⟩
abbrev main_v50 : Ref sig .tc := ⟨.hbm, 81, rfl⟩
abbrev main_v51 : Ref sig .tc := ⟨.hbm, 82, rfl⟩
abbrev main_cst_18 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_cst_20 : Ref sig .tc := ⟨.hbm, 88, rfl⟩
abbrev main_v55 : Ref sig .tc := ⟨.hbm, 89, rfl⟩
abbrev main_cst_21 : Ref sig .tc := ⟨.hbm, 90, rfl⟩
abbrev main_v56 : Ref sig .tc := ⟨.hbm, 91, rfl⟩
abbrev main_v57 : Ref sig .tc := ⟨.hbm, 92, rfl⟩
abbrev main_cst_22 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_cst_24 : Ref sig .tc := ⟨.hbm, 98, rfl⟩
abbrev main_v61 : Ref sig .tc := ⟨.hbm, 99, rfl⟩
abbrev main_cst_25 : Ref sig .tc := ⟨.hbm, 100, rfl⟩
abbrev main_v62 : Ref sig .tc := ⟨.hbm, 101, rfl⟩
abbrev main_v63 : Ref sig .tc := ⟨.hbm, 102, rfl⟩
abbrev main_cst_26 : Ref sig .tc := ⟨.hbm, 103, rfl⟩
abbrev main_v64 : Ref sig .tc := ⟨.hbm, 104, rfl⟩
abbrev main_v65 : Ref sig .tc := ⟨.hbm, 105, rfl⟩
abbrev main_cst_27 : Ref sig .tc := ⟨.hbm, 106, rfl⟩
abbrev main_v66 : Ref sig .tc := ⟨.hbm, 107, rfl⟩
abbrev main_cst_28 : Ref sig .tc := ⟨.hbm, 108, rfl⟩
abbrev main_v67 : Ref sig .tc := ⟨.hbm, 109, rfl⟩
abbrev main_v68 : Ref sig .tc := ⟨.hbm, 110, rfl⟩
abbrev main_cst_29 : Ref sig .tc := ⟨.hbm, 111, rfl⟩
abbrev main_v69 : Ref sig .tc := ⟨.hbm, 112, rfl⟩
abbrev main_v70 : Ref sig .tc := ⟨.hbm, 113, rfl⟩
abbrev main_cst_30 : Ref sig .tc := ⟨.hbm, 114, rfl⟩
abbrev main_v71 : Ref sig .tc := ⟨.hbm, 115, rfl⟩
abbrev main_v72 : Ref sig .tc := ⟨.hbm, 116, rfl⟩
abbrev main_cst_31 : Ref sig .tc := ⟨.hbm, 117, rfl⟩
abbrev main_v73 : Ref sig .tc := ⟨.hbm, 118, rfl⟩
abbrev main_v74 : Ref sig .tc := ⟨.hbm, 119, rfl⟩
abbrev main_cst_32 : Ref sig .tc := ⟨.hbm, 120, rfl⟩
abbrev main_v75 : Ref sig .tc := ⟨.hbm, 121, rfl⟩
abbrev main_v76 : Ref sig .tc := ⟨.hbm, 122, rfl⟩
abbrev main_cst_33 : Ref sig .tc := ⟨.hbm, 123, rfl⟩
abbrev main_v77 : Ref sig .tc := ⟨.hbm, 124, rfl⟩
abbrev main_v78 : Ref sig .tc := ⟨.hbm, 125, rfl⟩
abbrev main_cst_34 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩

abbrev nD : Nat := 1
abbrev τ : Topo := Topo.v7x

variable {F : FTy → Type} [FloatOps F]
-- ==== InW1.lean ====
abbrev S8192x1024 : Shape := ⟨2, ![8192, 1024]⟩
abbrev S1x1024 : Shape := ⟨2, ![1, 1024]⟩
abbrev S8192x2048 : Shape := ⟨2, ![8192, 2048]⟩
abbrev S4x2048x1024 : Shape := ⟨3, ![4, 2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x2048, .f32⟩
  | .hbm, ⟨4, _⟩ => ⟨S8192x2048, .f32⟩
  | .hbm, ⟨5, _⟩ => ⟨S4x2048x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S8192x2048, .bf16⟩
  | .hbm, ⟨10, _⟩ => ⟨S8192x2048, .bf16⟩
  | .hbm, ⟨11, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .f32⟩
  | .local _ .vmem, ⟨9, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_5 : BitVec 32 := 0#32
  let v11 : BitVec 1 := Scalar.cmpi .ne v10 c0_i32_5
  v11

def k0_cond2 (i : grid0.Coords) : BitVec 1 :=
  let arg0 : BitVec 32 := BitVec.ofNat 32 (i 0).val
  let c0_i32_6 : BitVec 32 := 0#32
  let v13 : BitVec 1 := Scalar.cmpi .sgt arg0 c0_i32_6
  let v14 : BitVec 32 := Scalar.extui v13
  let c0_i32_7 : BitVec 32 := 0#32
  let v15 : BitVec 1 := Scalar.cmpi .slt arg0 c0_i32_7
  let v16 : BitVec 32 := Scalar.extui v15
  let v17 : BitVec 32 := Scalar.subi v14 v16
  let c2_i32 : BitVec 32 := 2#32
  let c0_i32_8 : BitVec 32 := 0#32
  let v18 : BitVec 1 := Scalar.cmpi .sgt c2_i32 c0_i32_8
  let v19 : BitVec 32 := Scalar.extui v18
  let c0_i32_9 : BitVec 32 := 0#32
  let v20 : BitVec 1 := Scalar.cmpi .slt c2_i32 c0_i32_9
  let v21 : BitVec 32 := Scalar.extui v20
  let v22 : BitVec 32 := Scalar.subi v19 v21
  let v23 : BitVec 1 := Scalar.cmpi .ne v17 v22
  let v24 : BitVec 32 := Scalar.remsi arg0 c2_i32
  let c0_i32_10 : BitVec 32 := 0#32
  let v25 : BitVec 1 := Scalar.cmpi .ne v24 c0_i32_10
  let v26 : BitVec 1 := Scalar.andi v23 v25
  let v12 : BitVec 32 := Scalar.divsi arg0 c2_i32
  let c1_i32 : BitVec 32 := 1#32
  let v27 : BitVec 32 := Scalar.subi v12 c1_i32
  let v28 : BitVec 32 := Scalar.select v26 v27 v12
  let c0_i32_11 : BitVec 32 := 0#32
  let v29 : BitVec 1 := Scalar.cmpi .eq v28 c0_i32_11
  let v30 : BitVec 32 := Scalar.extui v29
  let c0_i32_12 : BitVec 32 := 0#32
  let v31 : BitVec 1 := Scalar.cmpi .ne v30 c0_i32_12
  v31

def k0_cond3 (i : grid0.Coords) : BitVec 1 :=
  let arg0 : BitVec 32 := BitVec.ofNat 32 (i 0).val
  let c0_i32_14 : BitVec 32 := 0#32
  let v33 : BitVec 1 := Scalar.cmpi .sgt arg0 c0_i32_14
  let v34 : BitVec 32 := Scalar.extui v33
  let c0_i32_15 : BitVec 32 := 0#32
  let v35 : BitVec 1 := Scalar.cmpi .slt arg0 c0_i32_15
  let v36 : BitVec 32 := Scalar.extui v35
  let v37 : BitVec 32 := Scalar.subi v34 v36
  let c2_i32_13 : BitVec 32 := 2#32
  let c0_i32_16 : BitVec 32 := 0#32
  let v38 : BitVec 1 := Scalar.cmpi .sgt c2_i32_13 c0_i32_16
  let v39 : BitVec 32 := Scalar.extui v38
  let c0_i32_17 : BitVec 32 := 0#32
  let v40 : BitVec 1 := Scalar.cmpi .slt c2_i32_13 c0_i32_17
  let v41 : BitVec 32 := Scalar.extui v40
  let v42 : BitVec 32 := Scalar.subi v39 v41
  let v43 : BitVec 1 := Scalar.cmpi .ne v37 v42
  let v44 : BitVec 32 := Scalar.remsi arg0 c2_i32_13
  let c0_i32_18 : BitVec 32 := 0#32
  let v45 : BitVec 1 := Scalar.cmpi .ne v44 c0_i32_18
  let v46 : BitVec 1 := Scalar.andi v43 v45
  let v32 : BitVec 32 := Scalar.divsi arg0 c2_i32_13
  let c1_i32_19 : BitVec 32 := 1#32
  let v47 : BitVec 32 := Scalar.subi v32 c1_i32_19
  let v48 : BitVec 32 := Scalar.select v46 v47 v32
  let c1_i32_20 : BitVec 32 := 1#32
  let v49 : BitVec 1 := Scalar.cmpi .eq v48 c1_i32_20
  let v50 : BitVec 32 := Scalar.extui v49
  let c0_i32_21 : BitVec 32 := 0#32
  let v51 : BitVec 1 := Scalar.cmpi .ne v50 c0_i32_21
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InW1RefIdeal.lean ====
abbrev S8192x1024 : Shape := ⟨2, ![8192, 1024]⟩
abbrev S1x1024 : Shape := ⟨2, ![1, 1024]⟩
abbrev S8192x2048 : Shape := ⟨2, ![8192, 2048]⟩
abbrev S4x2048x1024 : Shape := ⟨3, ![4, 2048, 1024]⟩
abbrev S_ : Shape := ⟨0, ![]⟩
abbrev S1024x4096 : Shape := ⟨2, ![1024, 4096]⟩
abbrev S8192x4096 : Shape := ⟨2, ![8192, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S8192x2048, .f32⟩
  | .hbm, ⟨4, _⟩ => ⟨S8192x2048, .f32⟩
  | .hbm, ⟨5, _⟩ => ⟨S4x2048x1024, .f32⟩
  | .hbm, ⟨6, _⟩ => ⟨S_, .f32⟩
  | .hbm, ⟨7, _⟩ => ⟨S1024x4096, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x4096, .f32⟩
  | .hbm, ⟨16, _⟩ => ⟨S8192x2048, .f32⟩
  | .hbm, ⟨17, _⟩ => ⟨S8192x2048, .f32⟩
  | .hbm, ⟨18, _⟩ => ⟨S8192x4096, .f32⟩
  | .hbm, ⟨19, _⟩ => ⟨S4096x1024, .f32⟩
  | .hbm, ⟨20, _⟩ => ⟨S1024x4096, .f32⟩
  | .hbm, ⟨21, _⟩ => ⟨S1024x4x1024, .f32⟩
  | .hbm, ⟨22, _⟩ => ⟨S4x1024x1024, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S4x2048x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_c_1 : Ref sig .tc := ⟨.hbm, 24, rfl⟩
abbrev main_c_2 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Adam.lean ====
abbrev S2x1024x768 : Shape := ⟨3, ![2, 1024, 768]⟩
abbrev S_ : Shape := ⟨0, ![]⟩
abbrev S8x128 : Shape := ⟨2, ![8, 128]⟩
abbrev S1x256x768 : Shape := ⟨3, ![1, 256, 768]⟩
abbrev S256x768 : Shape := ⟨2, ![256, 768]⟩

abbrev nBuf : Space → Nat
  | .hbm => 10
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S8x128, .f32⟩
  | .hbm, ⟨6, _⟩ => ⟨S2x1024x768, .f32⟩
  | .hbm, ⟨7, _⟩ => ⟨S2x1024x768, .f32⟩
  | .hbm, ⟨8, _⟩ => ⟨S2x1024x768, .f32⟩
  | .hbm, ⟨9, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamRefIdeal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== InF.lean ====
abbrev S8192x1024 : Shape := ⟨2, ![8192, 1024]⟩
abbrev S1x1024 : Shape := ⟨2, ![1, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S_ : Shape := ⟨0, ![]⟩
abbrev S16x8192x128 : Shape := ⟨3, ![16, 8192, 128]⟩
abbrev S512x1024 : Shape := ⟨2, ![512, 1024]⟩
abbrev S16x512x128 : Shape := ⟨3, ![16, 512, 128]⟩
abbrev S1x1024x1024 : Shape := ⟨3, ![1, 1024, 1024]⟩
abbrev S1024x1024 : Shape := ⟨2, ![1024, 1024]⟩
abbrev S512x128 : Shape := ⟨2, ![512, 128]⟩
abbrev S1x512x128 : Shape := ⟨3, ![1, 512, 128]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16x8192x128, .f32⟩
  | .hbm, ⟨11, _⟩ => ⟨S16x8192x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S4x1024x1024, .bf16⟩
  | .local _ .vmem, ⟨5, _⟩ => ⟨S16x512x128, .f32⟩
  | .local _ .vmem, ⟨6, _⟩ => ⟨S16x512x128, .f32⟩
  | .local _ .vmem, ⟨7, _⟩ => ⟨S16x512x128, .bf16⟩
  | .local _ .vmem, ⟨8, _⟩ => ⟨S16x512x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InFRefIdeal.lean ====
abbrev S8192x1024 : Shape := ⟨2, ![8192, 1024]⟩
abbrev S1x1024 : Shape := ⟨2, ![1, 1024]⟩
abbrev S1024x4096 : Shape := ⟨2, ![1024, 4096]⟩
abbrev S_ : Shape := ⟨0, ![]⟩
abbrev S8192x4096 : Shape := ⟨2, ![8192, 4096]⟩
abbrev S8192x2048 : Shape := ⟨2, ![8192, 2048]⟩
abbrev S8192x16x128 : Shape := ⟨3, ![8192, 16, 128]⟩
abbrev S16x8192x128 : Shape := ⟨3, ![16, 8192, 128]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1024x4096, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x16x128, .f32⟩
  | .hbm, ⟨15, _⟩ => ⟨S16x8192x128, .f32⟩
  | .hbm, ⟨16, _⟩ => ⟨S8192x16x128, .f32⟩
  | .hbm, ⟨17, _⟩ => ⟨S16x8192x128, .f32⟩
  | .hbm, ⟨18, _⟩ => ⟨S16x8192x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PoolF.lean ====
abbrev S8192x2048 : Shape := ⟨2, ![8192, 2048]⟩
abbrev S4x512x512 : Shape := ⟨3, ![4, 512, 512]⟩
abbrev S1x2048 : Shape := ⟨2, ![1, 2048]⟩
abbrev S4x4x128x512 : Shape := ⟨4, ![4, 4, 128, 512]⟩
abbrev S8192x16x128 : Shape := ⟨3, ![8192, 16, 128]⟩
abbrev S16x8192x128 : Shape := ⟨3, ![16, 8192, 128]⟩
abbrev S4x2048x128 : Shape := ⟨3, ![4, 2048, 128]⟩
abbrev S4x1x128x512 : Shape := ⟨4, ![4, 1, 128, 512]⟩
abbrev S1x512 : Shape := ⟨2, ![1, 512]⟩
abbrev S1x2048x128 : Shape := ⟨3, ![1, 2048, 128]⟩
abbrev S2048x128 : Shape := ⟨2, ![2048, 128]⟩
abbrev S2048x512 : Shape := ⟨2, ![2048, 512]⟩
abbrev S1x1x128x512 : Shape := ⟨4, ![1, 1, 128, 512]⟩
abbrev S128x512 : Shape := ⟨2, ![128, 512]⟩
abbrev S512x512 : Shape := ⟨2, ![512, 512]⟩

abbrev nBuf : Space → Nat
  | .hbm => 10
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S4x4x128x512, .f32⟩
  | .hbm, ⟨4, _⟩ => ⟨S4x4x128x512, .f32⟩
  | .hbm, ⟨5, _⟩ => ⟨S4x4x128x512, .bf16⟩
  | .hbm, ⟨6, _⟩ => ⟨S8192x16x128, .f32⟩
  | .hbm, ⟨7, _⟩ => ⟨S16x8192x128, .f32⟩
  | .hbm, ⟨8, _⟩ => ⟨S16x8192x128, .bf16⟩
  | .hbm, ⟨9, _⟩ => ⟨S16x8192x128, .bf16⟩
  | .local _ .vmem, ⟨0, _⟩ => ⟨S4x2048x128, .bf16⟩
  | .local _ .vmem, ⟨1, _⟩ => ⟨S4x2048x128, .bf16⟩
  | .local _ .vmem, ⟨2, _⟩ => ⟨S4x1x128x512, .bf16⟩
  | .local _ .vmem, ⟨3, _⟩ => ⟨S4x1x128x512, .bf16⟩
  | .local _ .vmem, ⟨4, _⟩ => ⟨S1x512, .f32⟩
  | .local _ .vmem, ⟨5, _⟩ => ⟨S1x512, .f32⟩
  | .local _ .vmem, ⟨6, _⟩ => ⟨S4x2048x128, .bf16⟩
  | .local _ .vmem, ⟨7, _⟩ => ⟨S4x2048x128, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S4x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== PoolFRefIdeal.lean ====
abbrev S8192x2048 : Shape := ⟨2, ![8192, 2048]⟩
abbrev S4x512x512 : Shape := ⟨3, ![4, 512, 512]⟩
abbrev S1x2048 : Shape := ⟨2, ![1, 2048]⟩
abbrev S8192x512 : Shape := ⟨2, ![8192, 512]⟩
abbrev S1x512x512 : Shape := ⟨3, ![1, 512, 512]⟩
abbrev S512x512 : Shape := ⟨2, ![512, 512]⟩
abbrev S8192x16x128 : Shape := ⟨3, ![8192, 16, 128]⟩
abbrev S16x8192x128 : Shape := ⟨3, ![16, 8192, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x512x512, .f32⟩
  | .hbm, ⟨2, _⟩ => ⟨S1x2048, .f32⟩
  | .hbm, ⟨3, _⟩ => ⟨S8192x512, .f32⟩
  | .hbm, ⟨4, _⟩ => ⟨S1x512x512, .f32⟩
  | .hbm, ⟨5, _⟩ => ⟨S512x512, .f32⟩
  | .hbm, ⟨6, _⟩ => ⟨S8192x512, .f32⟩
  | .hbm, ⟨7, _⟩ => ⟨S8192x512, .f32⟩
  | .hbm, ⟨8, _⟩ => ⟨S1x512x512, .f32⟩
  | .hbm, ⟨9, _⟩ => ⟨S512x512, .f32⟩
  | .hbm, ⟨10, _⟩ => ⟨S8192x512, .f32⟩
  | .hbm, ⟨11, _⟩ => ⟨S8192x512, .f32⟩
  | .hbm, ⟨12, _⟩ => ⟨S1x512x512, .f32⟩
  | .hbm, ⟨13, _⟩ => ⟨S512x512, .f32⟩
  | .hbm, ⟨14, _⟩ => ⟨S8192x512, .f32⟩
  | .hbm, ⟨15, _⟩ => ⟨S8192x512, .f32⟩
  | .hbm, ⟨16, _⟩ => ⟨S1x512x512, .f32⟩
  | .hbm, ⟨17, _⟩ => ⟨S512x512, .f32⟩
  | .hbm, ⟨18, _⟩ => ⟨S8192x512, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x16x128, .f32⟩
  | .hbm, ⟨23, _⟩ => ⟨S16x8192x128, .f32⟩
  | .hbm, ⟨24, _⟩ => ⟨S16x8192x128, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Proof.InXVal.lean ====
/-  The input projection's backward call: each result array after the run is the reference's term. -/
module

public import proofs.«01_k».proof.Proof.Gen.InXIdeal.Value
public import proofs.«01_k».proof.Proof.Gen.InXRefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.InXIdeal.Hand

open Cert.InXIdeal Cert.InXIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![t.val, 0]
    ∧ win0_7.index t = ![0, 0] ∧ win0_8.index t = ![0, 0] :=
  (by decide +kernel : ∀ t : Fin grid0.N, _)

-- the argument arrays
abbrev ax (c : Dev nD) : FVec Ideal S8192x1024 .f32 := m ((c : Thread nD τ).loc main_arg0)
abbrev asc (c : Dev nD) : FVec Ideal S1x1024 .f32 := m ((c : Thread nD τ).loc main_arg1)
abbrev aw (c : Dev nD) : FVec Ideal S1024x4096 .f32 := m ((c : Thread nD τ).loc main_arg3)
abbrev ares (c : Dev nD) : FVec Ideal S8192x1024 .f32 := m ((c : Thread nD τ).loc main_arg4)
abbrev adu (c : Dev nD) : FVec Ideal S8192x2048 .f32 := m ((c : Thread nD τ).loc main_arg5)
abbrev adg (c : Dev nD) : FVec Ideal S8192x2048 .f32 := m ((c : Thread nD τ).loc main_arg6)

/-- The gradient of the modulated rows a grid point computes, over its input blocks. -/
abbrev dh (c : Dev nD) (t : Fin cfg0.N) : FVec Ideal S512x1024 .f32 :=
  k0_pay4 (F := Ideal) (iblk m c 0 t)
    (View.ld (iblk m c 4 t) (Rect.unit ![0, 0, 0] ![1, 1024, 1024] inb_S4x1024x1024_S1x1024x1024_0_0_0))
    (View.ld (iblk m c 4 t) (Rect.unit ![1, 0, 0] ![1, 1024, 1024] inb_S4x1024x1024_S1x1024x1024_1_0_0))
    (iblk m c 1 t)
    (View.ld (iblk m c 4 t) (Rect.unit ![2, 0, 0] ![1, 1024, 1024] inb_S4x1024x1024_S1x1024x1024_2_0_0))
    (View.ld (iblk m c 4 t) (Rect.unit ![3, 0, 0] ![1, 1024, 1024] inb_S4x1024x1024_S1x1024x1024_3_0_0))

/-- A sum over 2048 lanes is the sum over its two halves. -/
theorem sum2 (f : Fin 2048 → EReal) : ∑ k, f k = (∑ k : Fin 1024, f ⟨k.val, by omega⟩) + ∑ k : Fin 1024, f ⟨1024 + k.val, by omega⟩ := by
  have h1 := Fin.sum_univ_add (a := 1024) (b := 1024) f
  rw [h1]; rfl

theorem dh_at (c : Dev nD) (t : Fin cfg0.N) (r : Fin 512) (j : Fin 1024) (R : Fin 8192) (hR : R.val = 512 * t.val + r.val) :
    dh m c t (ix2 r j) = Cert.InXRefIdeal.Read.val_main_v10 (F := Ideal) (aw m c) (adu m c) (adg m c) (ix2 R j) := by
  pointwise [k0_pay4, Cert.InXRefIdeal.Read.val_main_v10, Cert.InXRefIdeal.Read.val_main_v9]
  rw [add_assoc (_ + _)]
  refine Eq.trans ?_ (congrArg₂ (· + ·) (sum2 _) (sum2 _)).symm
  blk_point [iblk, V, idx t]

/-- The gradient of the modulated rows at a block index is the reference's product at the array index it sits at. -/
theorem dh_idx (c : Dev nD) (t : Fin cfg0.N) (y : S512x1024.Idx) (z : S8192x1024.Idx) (h0 : (z 0).val = 512 * t.val + (y 0).val)
    (h1 : (z 1).val = (y 1).val) :
    dh m c t y = Cert.InXRefIdeal.Read.val_main_v10 (F := Ideal) (aw m c) (adu m c) (adg m c) z := by
  have ey : y = ix2 (y 0) (y 1) := by blk_ext
  have ez : z = ix2 (z 0) (y 1) := by blk_ext
  rw [ey, ez]
  exact dh_at m c t (y 0) (y 1) (z 0) h0

/-- The modulation's factor as the call finds it: one plus the scale. -/
theorem sc_at (c : Dev nD) (t : Fin cfg0.N) (k : Fin 1024) : (iblk m c 3 t : FVec Ideal S1x1024 .f32) (ix2 0 k) = 1 + asc m c (ix2 0 k) := by
  have e : ∀ i : S1x1024.Idx, (V m c main_v6 : FVec Ideal S1x1024 .f32) i = 1 + asc m c i := fun i => by
    entry_read; pointwise
  have hi : (iblk m c 3 t : FVec Ideal S1x1024 .f32) (ix2 0 k) = (V m c main_v6 : FVec Ideal S1x1024 .f32) (ix2 0 k) := by
    blk_ext [iblk, idx t]
  rw [hi, e]

theorem dx_point (c : Dev nD) (t : Fin cfg0.N) (y : S512x1024.Idx) (z : S8192x1024.Idx) (h0 : (z 0).val = 512 * t.val + (y 0).val)
    (h1 : (z 1).val = (y 1).val) : k0_pay3 (F := Ideal) (dh m c t) (iblk m c 5 t) (iblk m c 3 t) y
      = Cert.InXRefIdeal.Read.val_main_v18 (F := Ideal) (asc m c) (aw m c) (ares m c) (adu m c)
      (adg m c) z := by
  have e := dh_idx m c t y z h0 h1
  generalize hd : dh m c t = d at e ⊢
  pointwise [k0_pay3, Cert.InXRefIdeal.Read.val_main_v18, Cert.InXRefIdeal.Read.val_main_v17, Cert.InXRefIdeal.Read.val_main_v16,
      Cert.InXRefIdeal.Read.val_main_v1, Cert.InXRefIdeal.Read.val_main_v0, Cert.InXRefIdeal.Read.val_main_cst]
  rw [e]
  set_option backward.isDefEq.respectTransparency false in rw [sc_at m c t (y 1)]
  blk_point [iblk, V, idx t]

theorem final6 (c : Dev nD) : (dats m 0 c).arrAt 6 (cfgs 0).N
    = Cert.InXRefIdeal.Read.val_main_v18 (F := Ideal) (asc m c) (aw m c) (ares m c) (adu m c) (adg m c) := by
  refine (dats m 0 c).arrAt_eq_of_covers 6 _ (by decide +kernel) fun t hf y => ?_
  have key := dx_point m c t y (((View.whole main_v7_0).slice (win0_6.rect t)).emb y) (by blk_simp [idx t] <;> try omega) (by blk_simp [idx t] <;> try omega)
  blk_simp
  rw [after0_6]
  by_cases h : t.val % 16 = 0
  · rw [outsAt0_A m c t h]; frame_out; exact key
  · rw [outsAt0_B m c t h]; frame_out; exact key

theorem hz1 (j : S1x1024.Idx) : k0_pay5 (F := Ideal) j = 0 := by pointwise [k0_pay5]
theorem hz2 (j : S1x1024.Idx) : k0_pay6 (F := Ideal) j = 0 := by pointwise [k0_pay6]
theorem hp1 (d : FVec Ideal S512x1024 .f32) (a : FVec Ideal S1x1024 .f32) (x : FVec Ideal S512x1024 .f32) (j : S1x1024.Idx) :
    k0_pay1 (F := Ideal) d (k0_pay7 a) x j = a j + ∑ r : Fin 512, d (ix2 r (j 1)) * x (ix2 r (j 1)) := by
  pointwise [k0_pay1, k0_pay7]
theorem hp2 (d : FVec Ideal S512x1024 .f32) (a : FVec Ideal S1x1024 .f32) (j : S1x1024.Idx) :
    k0_pay2 (F := Ideal) d a j = a j + ∑ r : Fin 512, d (ix2 r (j 1)) := by
  pointwise [k0_pay2]

theorem final7 (c : Dev nD) : (dats m 0 c).arrAt 7 (cfgs 0).N
    = Cert.InXRefIdeal.Read.val_main_v15 (F := Ideal) (ax m c) (aw m c) (adu m c) (adg m c) := by
  refine (dats m 0 c).arrAt_eq_of_after_last 7 t0_15 (by decide +kernel) _ fun j => ?_
  blk_simp
  rw [after0_7, Pipeline.eq_sum_fin_of_reset_step_apply_last (fun n h => (outsAt0 m c n h).2.1) 16 (fun _ => 0) _
    (fun t h j => by rw [outsAt0_A m c t h]; frame_out; rw [hp1, hz1])
    (fun t h j => by rw [outsAt0_B m c t h]; frame_out; rw [hp1])
    (le_of_eq N_0) t0_15 rfl j, zero_add]
  pointwise [Cert.InXRefIdeal.Read.val_main_v15, Cert.InXRefIdeal.Read.val_main_v14, Cert.InXRefIdeal.Read.val_main_v13,
    Cert.InXRefIdeal.Read.val_main_cst_1]
  refine Fin.sum_mul_add_congr fun p r hl => ?_
  rw [mul_comm]
  refine congrArg₂ (· * ·) ?_ (dh_idx m c p _ _ (by show p.val * 512 + r.val = 512 * p.val + r.val; omega) rfl)
  blk_ext [iblk, V, idx p]

theorem final8 (c : Dev nD) : (dats m 0 c).arrAt 8 (cfgs 0).N
    = Cert.InXRefIdeal.Read.val_main_v12 (F := Ideal) (aw m c) (adu m c) (adg m c) := by
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => 0) _
    (fun t h j => by rw [outsAt0_A m c t h]; frame_out; rw [hp2, hz2])
    (fun t h j => by rw [outsAt0_B m c t h]; frame_out; rw [hp2])
    (le_of_eq N_0) t0_15 rfl j, zero_add]
  pointwise [Cert.InXRefIdeal.Read.val_main_v12, Cert.InXRefIdeal.Read.val_main_v11, Cert.InXRefIdeal.Read.val_main_cst_0]
  refine Fin.sum_mul_add_congr fun p r hl => ?_
  exact dh_idx m c p _ _ (by show p.val * 512 + r.val = 512 * p.val + r.val; omega) rfl

theorem algebraic : Cert.algebraic_InXIdeal_InXRefIdeal := by
  pair_intro
  · run_from Cert.InXIdeal.Gen.run_main m g
  · refine (θ_run Cert.InXRefIdeal.defs _ _).mono (fun r h c => ?_) (Cert.InXRefIdeal.Value.run m' g')
    obtain ⟨h0, h1, h2, rest⟩ := h c
    obtain ⟨e0, e1, e2, e3, e4, e5, e6⟩ := hagree c
    rw [e1, e3, e4, e5, e6] at h0
    rw [e0, e3, e5, e6] at h1
    rw [e3, e5, e6] at h2
    exact ⟨h0.trans ((Cert.InXRefIdeal.Read.val_main_v18_eq (F := Ideal) (asc m c) (aw m c) (ares m c) (adu m c) (adg m c)).trans (final6 m c).symm),
      h1.trans ((Cert.InXRefIdeal.Read.val_main_v15_eq (F := Ideal) (ax m c) (aw m c) (adu m c) (adg m c)).trans (final7 m c).symm),
      h2.trans ((Cert.InXRefIdeal.Read.val_main_v12_eq (F := Ideal) (aw m c) (adu m c) (adg m c)).trans (final8 m c).symm), rest⟩

end Cert.InXIdeal.Hand

end
-- ==== Proof.Keeps.lean ====
module

public import Idealize.ShloMosaic.Rules.Step
public import Idealize.ShloMosaic.Lib.Scf
public import Idealize.ShloMosaic.Lib.Pipeline.ValueKit

@[expose] public section

/-!
A body that only loads and stores keeps whatever it owns: it owns some memrefs at contents that stay (those it only
reads) and some at contents nobody names (those it writes), and every load, store and loop hands that ownership on.
-/

noncomputable section

namespace Keep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : ℕ} {τ : Topo} {sig : RefSig} {Val : EltTy → Type} {Λ : Labels}

local notation "𝕄" => MT nD τ sig Unit Val ℕ (UR sig nD τ) ℕ

/-- The memref at some contents. -/
def Held (c : Thread nD τ) {cs : CoreSpace} {s : Shape} {e : EltTy} (a : Memref sig c.2.kind cs s e) : sProp 𝕄 :=
  iprop(∃ f, (a.view.loc c ↦[a.view.set]{fullShare} f))

/-- `R` lends the memref for a read. -/
def Reads (c : Thread nD τ) (R : sProp 𝕄) {cs : CoreSpace} {s : Shape} {e : EltTy} (a : Memref sig c.2.kind cs s e) : Prop :=
  R ⊢ iprop(∃ f, (a.view.loc c ↦[a.view.set]{fullShare} f) ∗ ((a.view.loc c ↦[a.view.set]{fullShare} f) -∗ R))

/-- `R` lends the memref for a write. -/
def Writes (c : Thread nD τ) (R : sProp 𝕄) {cs : CoreSpace} {s : Shape} {e : EltTy} (a : Memref sig c.2.kind cs s e) : Prop :=
  R ⊢ iprop(∃ f, (a.view.loc c ↦[a.view.set]{fullShare} f) ∗ (∀ g, (a.view.loc c ↦[a.view.set]{fullShare} g) -∗ R))

/-- The program runs from `R` to `R`. -/
def Keeps (defs : Defs nD τ sig Val Λ) (c : Thread nD τ) (R : sProp 𝕄) {α : Type} (p : Prog (TpuEff nD τ sig Val Λ c.2) α) : Prop :=
  ∀ E : Set ℕ, R ⊢ wp frame (wpE defs Variants.none c none) E p (fun _ => R)

section Lend
variable {c : Thread nD τ} {cs : CoreSpace} {s : Shape} {e : EltTy} {a : Memref sig c.2.kind cs s e}

theorem Writes.reads {R : sProp 𝕄} (h : Writes c R a) : Reads c R a := by
  unfold Reads; unfold Writes at h
  iintro H
  icases h $$ H with ⟨%f, H, K⟩
  iexists f
  isplitl [H]; · iexact H
  iapply K

theorem writes_one : Writes (Val := Val) c (Held c a) a := by
  unfold Writes Held
  iintro ⟨%f, H⟩
  iexists f
  isplitl [H]; · iexact H
  iintro %g H
  iexists g
  iexact H

theorem reads_one {f : BufTy.Contents Val a.view.ty} :
    Reads (Val := Val) c iprop(a.view.loc c ↦[a.view.set]{fullShare} f) a := by
  unfold Reads
  iintro H
  iexists f
  isplitl [H]; · iexact H
  iintro H
  iexact H

theorem reads_owns {d : s.Idx → Val e} :
    Reads (Val := Val) c (owns c a fullShare d) a := by
  unfold Reads owns
  iintro ⟨%f, %hf, H⟩
  iexists f
  isplitl [H]; · iexact H
  iintro H
  iexists f
  isplitr; · ipureintro; exact hf
  iexact H

theorem writes_owns : Writes (Val := Val) c iprop(∃ d, owns c a fullShare d) a := by
  unfold Writes owns
  iintro ⟨%d, %f, %hf, H⟩
  iexists f
  isplitl [H]; · iexact H
  iintro %g H
  iexists (a.view.read Val g), g
  isplitr; · ipureintro; rfl
  iexact H

theorem Writes.left {R A : sProp 𝕄} (h : Writes c R a) : Writes c iprop(R ∗ A) a := by
  unfold Writes at h ⊢
  iintro ⟨H, HA⟩
  icases h $$ H with ⟨%f, H, K⟩
  iexists f
  isplitl [H]; · iexact H
  iintro %g H
  isplitl [H K]
  · iapply K; iexact H
  iexact HA

theorem Writes.right {R A : sProp 𝕄} (h : Writes c R a) : Writes c iprop(A ∗ R) a := by
  unfold Writes at h ⊢
  iintro ⟨HA, H⟩
  icases h $$ H with ⟨%f, H, K⟩
  iexists f
  isplitl [H]; · iexact H
  iintro %g H
  isplitl [HA]; · iexact HA
  iapply K; iexact H

theorem Reads.left {R A : sProp 𝕄} (h : Reads c R a) : Reads c iprop(R ∗ A) a := by
  unfold Reads at h ⊢
  iintro ⟨H, HA⟩
  icases h $$ H with ⟨%f, H, K⟩
  iexists f
  isplitl [H]; · iexact H
  iintro H
  isplitl [H K]
  · iapply K; iexact H
  iexact HA

theorem Reads.right {R A : sProp 𝕄} (h : Reads c R a) : Reads c iprop(A ∗ R) a := by
  unfold Reads at h ⊢
  iintro ⟨HA, H⟩
  icases h $$ H with ⟨%f, H, K⟩
  iexists f
  isplitl [H]; · iexact H
  iintro H
  isplitl [HA]; · iexact HA
  iapply K; iexact H

end Lend

section Run
variable {defs : Defs nD τ sig Val Λ} {c : Thread nD τ} {α β : Type}

theorem Keeps.pure {R : sProp 𝕄} (a : α) : Keeps defs c R (Pure.pure a : Prog (TpuEff nD τ sig Val Λ c.2) α) := by
  intro E
  rw [wp_pure]
  exact fupd_intro (PROP := sProp 𝕄)

theorem Keeps.bind {R : sProp 𝕄} {p : Prog (TpuEff nD τ sig Val Λ c.2) α} {k : α → Prog (TpuEff nD τ sig Val Λ c.2) β}
    (hp : Keeps defs c R p) (hk : ∀ a, Keeps defs c R (k a)) : Keeps defs c R (p >>= k) := by
  intro E
  rw [wp_bind]
  exact (hp E).trans (wp_mono _ _ _ fun a => hk a E)

theorem Keeps.dite {R : sProp 𝕄} {P : Prop} [Decidable P] {p : P → Prog (TpuEff nD τ sig Val Λ c.2) α} {q : ¬ P → Prog (TpuEff nD τ sig Val Λ c.2) α}
    (hp : ∀ h, Keeps defs c R (p h)) (hq : ∀ h, Keeps defs c R (q h)) : Keeps defs c R (dite P p q) := by
  by_cases h : P
  · rw [dif_pos h]; exact hp h
  · rw [dif_neg h]; exact hq h

theorem Keeps.load {R : sProp 𝕄} {cs : CoreSpace} {s : Shape} {e : EltTy} {m : Memref sig c.2.kind cs s e} {r : LoadRect s}
    {hl : m.view.LoadsAt r} (h : Reads c R m) :
    Keeps defs c R (Prog.lift (.load m r hl)) := by
  intro E
  unfold Reads at h
  iintro H
  icases h $$ H with ⟨%f, H, K⟩
  iapply (wp_load Variants.none c none E (View.setOn_subset_set _ _)) $$ H
  iintro H
  iapply (show R ⊢ wp frame (wpE defs Variants.none c none) E (.ret _) (fun _ => R) from
    Keeps.pure (defs := defs) _ E)
  iapply K; iexact H

theorem Keeps.store {R : sProp 𝕄} {cs : CoreSpace} {s : Shape} {e : EltTy} {m : Memref sig c.2.kind cs s e} {r : Rect s}
    {w : r.shape.Idx → Val e} {Mk : Finset r.shape.Idx} {hx : (m.access r).Stores Mk}
    {hm : Mk = Finset.univ ∨ ∀ a, r.stride a = 1} (h : Writes c R m) :
    Keeps defs c R (Prog.lift (.store m r w Mk hx hm)) := by
  intro E
  unfold Writes at h
  iintro H
  icases h $$ H with ⟨%f, H, K⟩
  have hS : (m.access r).setOn Mk ⊆ m.view.set :=
    (View.setOn_subset_set _ _).trans (View.set_slice_subset _ r)
  iapply (wp_store Variants.none c none E (m := m) (r := r) (w := w) (Mk := Mk) (hx := hx) (hm := hm) (S := m.view.set) (f := f) hS) $$ H
  iintro H
  iapply (show R ⊢ wp frame (wpE defs Variants.none c none) E (.ret _) (fun _ => R) from
    Keeps.pure (defs := defs) _ E)
  iapply K; iexact H

theorem Keeps.loop {R : sProp 𝕄} {w : ℕ} {σ : Type} {lb ub st : BitVec w} {hok : Scf.OK lb ub st} {init : σ}
    {body : Fin (Scf.trips lb ub st) → σ → Prog (TpuEff nD τ sig Val Λ c.2) σ}
    (h : ∀ k acc, Keeps defs c R (body k acc)) : Keeps defs c R (Scf.for lb ub st hok init body) := by
  intro E
  refine .trans ?_ (Scf.wp_for _ _ E lb ub st hok init body (fun _ _ => R) fun k acc => h k acc E)
  iintro H
  isplitl [H]; · iexact H
  iintro %acc H
  iexact H

end Run

end Keep

end
-- ==== Proof.LossFwdKeep.lean ====
module

public import proofs.«01_k».proof.Proof.Gen.LossFwdIdeal.Frame.Runs
public import proofs.«01_k».proof.Proof.Gen.LossFwdIdeal.Skeleton
public import proofs.«01_k».proof.Proof.Keeps

@[expose] public section

set_option maxRecDepth 65536
set_option maxHeartbeats 4000000

/-!
The body of the kernel of LossFwdIdeal only loads and stores: from memrefs it may read and memrefs it may write it runs to the
same ownership, whatever they hold. One step of the text below per load, store, loop and part of the printed body.
-/

noncomputable section

namespace Cert.LossFwdIdeal.Hand

open Cert.LossFwdIdeal Cert.LossFwdIdeal.Gen Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
variable {arg1 arg2 : Memref sig .tc .vmem S16x512x128 .bf16} {arg3 : Memref sig .tc .vmem S512x1024 .f32} {arg4 : Memref sig .tc .vmem S1x1024 .f32} {arg5 : Memref sig .tc .vmem S2048x1024 .bf16} {arg6 arg7 : Memref sig .tc .vmem S1x1024 .f32} {arg8 arg9 arg10 : Memref sig .tc .vmem S512x1024 .f32} {arg11 : Memref sig .tc .vmem S1x128 .f32}

/-- What the body needs of the ownership it runs from: every memref lent for reading, those it writes for writing. -/
structure Good (c : Dev nD) (R : sProp 𝕄) (arg1 arg2 : Memref sig .tc .vmem S16x512x128 .bf16) (arg3 : Memref sig .tc .vmem S512x1024 .f32) (arg4 : Memref sig .tc .vmem S1x1024 .f32) (arg5 : Memref sig .tc .vmem S2048x1024 .bf16) (arg6 arg7 : Memref sig .tc .vmem S1x1024 .f32) (arg8 arg9 arg10 : Memref sig .tc .vmem S512x1024 .f32) (arg11 : Memref sig .tc .vmem S1x128 .f32) : Prop where
  r1 : Reads (c : Thread nD τ) R arg1
  r2 : Reads (c : Thread nD τ) R arg2
  r3 : Reads (c : Thread nD τ) R arg3
  r4 : Reads (c : Thread nD τ) R arg4
  r5 : Reads (c : Thread nD τ) R arg5
  r6 : Reads (c : Thread nD τ) R arg6
  r7 : Reads (c : Thread nD τ) R arg7
  r8 : Reads (c : Thread nD τ) R arg8
  r9 : Reads (c : Thread nD τ) R arg9
  r10 : Reads (c : Thread nD τ) R arg10
  r11 : Reads (c : Thread nD τ) R arg11
  w9 : Writes (c : Thread nD τ) R arg9
  w10 : Writes (c : Thread nD τ) R arg10
  w11 : Writes (c : Thread nD τ) R arg11

variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}

theorem kp_k0_t1 {R : sProp 𝕄} (hG : Good c R arg1 arg2 arg3 arg4 arg5 arg6 arg7 arg8 arg9 arg10 arg11) {c0_i32_133 : BitVec 32} :
    ∀ kk acc, Keeps (defs₀ (F := F)) (c : Thread nD τ) R (k0_t1_body (F := F) i arg1 harg1 arg2 harg2 arg3 harg3 arg4 harg4 arg5 harg5 arg6 harg6 arg7 harg7 arg8 harg8 arg9 harg9 arg10 harg10 arg11 harg11 c0_i32_133 kk acc) := by
  obtain ⟨r1, r2, r3, r4, r5, r6, r7, r8, r9, r10, r11, w9, w10, w11⟩ := id hG
  intro kk acc
  unfold k0_t1_body
  refine Keeps.bind ?_ fun _ => ?_
  · rw [k0_part1_eq_skeleton]; unfold k0_part1_skel
    refine Keeps.bind (Keeps.load r3) fun _ => ?_
    refine Keeps.bind (Keeps.load r4) fun _ => ?_
    refine Keeps.bind (Keeps.load r9) fun _ => ?_
    refine Keeps.bind (Keeps.load r6) fun _ => ?_
    refine Keeps.bind (Keeps.load r7) fun _ => ?_
    refine Keeps.bind (Keeps.load r8) fun _ => ?_
    exact Keeps.pure _
  refine Keeps.bind (Keeps.load r10) fun _ => ?_
  refine Keeps.bind (Keeps.store w10) fun _ => ?_
  refine Keeps.bind (Keeps.load r11) fun _ => ?_
  refine Keeps.bind (Keeps.load r11) fun _ => ?_
  refine Keeps.bind (Keeps.store w11) fun _ => ?_
  exact Keeps.pure _

theorem kp_cc0_outproj_fwd1 {R : sProp 𝕄} (hG : Good c R arg1 arg2 arg3 arg4 arg5 arg6 arg7 arg8 arg9 arg10 arg11)  :
    Keeps (defs₀ (F := F)) (c : Thread nD τ) R (cc0_outproj_fwd1 i arg1 harg1 arg2 harg2 arg3 harg3 arg4 harg4 arg5 harg5 arg6 harg6 arg7 harg7 arg8 harg8 arg9 harg9 arg10 harg10 arg11 harg11 ) := by
  obtain ⟨r1, r2, r3, r4, r5, r6, r7, r8, r9, r10, r11, w9, w10, w11⟩ := id hG
  rw [cc0_outproj_fwd1_eq_skeleton]; unfold cc0_outproj_fwd1_skel
  refine Keeps.bind ?_ fun _ => ?_
  · rw [k0_part2_eq_skeleton]; unfold k0_part2_skel
    refine Keeps.bind (Keeps.load r1) fun _ => ?_
    refine Keeps.bind (Keeps.load r2) fun _ => ?_
    refine Keeps.bind (Keeps.load r1) fun _ => ?_
    refine Keeps.bind (Keeps.load r2) fun _ => ?_
    refine Keeps.bind (Keeps.load r1) fun _ => ?_
    exact Keeps.pure _
  refine Keeps.bind ?_ fun _ => ?_
  · rw [k0_part3_eq_skeleton]; unfold k0_part3_skel
    refine Keeps.bind (Keeps.load r2) fun _ => ?_
    refine Keeps.bind (Keeps.load r1) fun _ => ?_
    refine Keeps.bind (Keeps.load r2) fun _ => ?_
    refine Keeps.bind (Keeps.load r1) fun _ => ?_
    refine Keeps.bind (Keeps.load r2) fun _ => ?_
    exact Keeps.pure _
  refine Keeps.bind ?_ fun _ => ?_
  · rw [k0_part4_eq_skeleton]; unfold k0_part4_skel
    refine Keeps.bind (Keeps.load r1) fun _ => ?_
    refine Keeps.bind (Keeps.load r2) fun _ => ?_
    refine Keeps.bind (Keeps.load r1) fun _ => ?_
    refine Keeps.bind (Keeps.load r2) fun _ => ?_
    refine Keeps.bind (Keeps.load r1) fun _ => ?_
    exact Keeps.pure _
  refine Keeps.bind ?_ fun _ => ?_
  · rw [k0_part5_eq_skeleton]; unfold k0_part5_skel
    refine Keeps.bind (Keeps.load r2) fun _ => ?_
    refine Keeps.bind (Keeps.load r1) fun _ => ?_
    refine Keeps.bind (Keeps.load r2) fun _ => ?_
    refine Keeps.bind (Keeps.load r1) fun _ => ?_
    refine Keeps.bind (Keeps.load r2) fun _ => ?_
    exact Keeps.pure _
  refine Keeps.bind ?_ fun _ => ?_
  · rw [k0_part6_eq_skeleton]; unfold k0_part6_skel
    refine Keeps.bind (Keeps.load r1) fun _ => ?_
    refine Keeps.bind (Keeps.load r2) fun _ => ?_
    refine Keeps.bind (Keeps.load r1) fun _ => ?_
    refine Keeps.bind (Keeps.load r2) fun _ => ?_
    exact Keeps.pure _
  refine Keeps.bind ?_ fun _ => ?_
  · rw [k0_part7_eq_skeleton]; unfold k0_part7_skel
    refine Keeps.bind (Keeps.load r1) fun _ => ?_
    refine Keeps.bind (Keeps.load r2) fun _ => ?_
    refine Keeps.bind (Keeps.load r1) fun _ => ?_
    refine Keeps.bind (Keeps.load r2) fun _ => ?_
    refine Keeps.bind (Keeps.load r1) fun _ => ?_
    exact Keeps.pure _
  refine Keeps.bind ?_ fun _ => ?_
  · rw [k0_part8_eq_skeleton]; unfold k0_part8_skel
    refine Keeps.bind (Keeps.load r2) fun _ => ?_
    refine Keeps.bind (Keeps.load r1) fun _ => ?_
    refine Keeps.bind (Keeps.load r2) fun _ => ?_
    refine Keeps.bind (Keeps.load r5) fun _ => ?_
    refine Keeps.bind (Keeps.load r9) fun _ => ?_
    refine Keeps.bind (Keeps.store w9) fun _ => ?_
    dsimp only
    refine Keeps.dite (fun _ => ?_) (fun _ => ?_)
    · refine Keeps.bind (Keeps.load r11) fun _ => ?_
      refine Keeps.bind (Keeps.store w11) fun _ => ?_
      exact Keeps.pure _
    · exact Keeps.pure _
  refine Keeps.bind (Keeps.loop (kp_k0_t1 (F := F) hG)) fun _ => ?_
  exact Keeps.pure _

end Cert.LossFwdIdeal.Hand

end
-- ==== Proof.LossFwdFrame.lean ====
module

public import proofs.«01_k».proof.Proof.LossFwdKeep

@[expose] public section

set_option maxRecDepth 65536

/-!
The frame of LossFwdIdeal: its body keeps the blocks it reads and leaves something in each block it writes, so every run ends with
the argument arrays as they were and every counter at zero.
-/

noncomputable section

namespace Cert.LossFwdIdeal.Hand

open Cert.LossFwdIdeal Cert.LossFwdIdeal.Gen Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of which nothing is named. -/
def forgets0 : Fin 11 → Bool := fun w => w.val == 8 || w.val == 9 || w.val == 10

/-- The pipeline's data: each input's buffer at its block after every point, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨k + 11, h⟩ => absurd (show k + 11 < 11 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- What the body touches. -/
def touched (c : Dev nD) (t : Fin cfg0.N) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

theorem touched_good (c : Dev nD) (t : Fin cfg0.N) : Good c (touched m c t) (ms0_0 t) (ms0_1 t) (ms0_2 t) (ms0_3 t) (ms0_4 t) (ms0_5 t) (ms0_6 t) (ms0_7 t) (ms0_8 t) (ms0_9 t) (ms0_10 t) := by
  unfold touched
  constructor
  · iterate 0 refine Reads.right ?_
    exact Reads.left reads_owns
  · iterate 1 refine Reads.right ?_
    exact Reads.left reads_owns
  · iterate 2 refine Reads.right ?_
    exact Reads.left reads_owns
  · iterate 3 refine Reads.right ?_
    exact Reads.left reads_owns
  · iterate 4 refine Reads.right ?_
    exact Reads.left reads_owns
  · iterate 5 refine Reads.right ?_
    exact Reads.left reads_owns
  · iterate 6 refine Reads.right ?_
    exact Reads.left reads_owns
  · iterate 7 refine Reads.right ?_
    exact Reads.left reads_owns
  · iterate 8 refine Reads.right ?_
    exact Reads.left (Writes.reads writes_owns)
  · iterate 9 refine Reads.right ?_
    exact Reads.left (Writes.reads writes_owns)
  · iterate 10 refine Reads.right ?_
    exact Writes.reads writes_owns
  · iterate 8 refine Writes.right ?_
    exact Writes.left writes_owns
  · iterate 9 refine Writes.right ?_
    exact Writes.left writes_owns
  · iterate 10 refine Writes.right ?_
    exact writes_owns

set_option maxHeartbeats 4000000 in
/-- The body at any point: from what it is called with to what it returns. -/
theorem sound_body (c : Dev nD) (t : Fin cfg0.N) :
    bodyPre m c t ⊢ wp frame (wpE (defs₀ (F := F)) Variants.none c none) Set.univ (bodyAt0 t) (fun _ => bodyPost m c t) := by
  have hk := kp_cc0_outproj_fwd1 (i := grid0.coords t) (harg1 := hs0_0 t) (harg2 := hs0_1 t) (harg3 := hs0_2 t) (harg4 := hs0_3 t) (harg5 := hs0_4 t) (harg6 := hs0_5 t) (harg7 := hs0_6 t) (harg8 := hs0_7 t) (harg9 := hs0_8 t) (harg10 := hs0_9 t) (harg11 := hs0_10 t)  (touched_good m c t) Set.univ
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (wp_wand_r frame (wpE (defs₀ (F := F)) Variants.none c none) Set.univ)
  isplitl [H0 H1 H2 H3 H4 H5 H6 H7 H8 H9 H10]
  · iapply hk
    unfold touched
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %_ HT
    unfold touched
    icases HT with ⟨H0, H1, H2, H3, H4, H5, H6, H7, H8, H9, H10⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 1140000 in
/-- The frame, for any values of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hh => ⟨fun c => by
    have h : Pipeline.RDat.FramePost cfg0 (fun c => (dats m 0 c).toRForget forgets0) (V m) r := hh.1
    exact ⟨(Pipeline.RDat.FramePost.arr_in h c 2 rfl).trans ((A_eq m c 2).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((A_eq m c 7).trans (V_main_arg7 m c))⟩, hh.2⟩) (run_main_quiescent m ρ)

end Cert.LossFwdIdeal.Hand

end
-- ==== Proof.LossFwdBits.lean ====
module

public import proofs.«01_k».proof.Proof.LossFwdFrame
public import proofs.«01_k».proof.Proof.Gen.LossFwd
public import proofs.«01_k».proof.Defs

@[expose] public section

set_option maxRecDepth 65536
set_option maxHeartbeats 8000000

namespace Cert.LossFwdIdeal.Hand

theorem frame_bits : Cert.quiescent_LossFwd (hLossFwd := Cert.LossFwd.Gen.facts) := fun m ρ _ => by
  refine Eq.mp ?_ (frame (F := Idealize.ShloMosaic.Bits) m ρ)
  sl_kernel_rfl

end Cert.LossFwdIdeal.Hand
-- ==== Proof.Runs.lean ====
module

public import Idealize.ShloMosaic.Rules.Step
public import Idealize.ShloMosaic.Lib.Scf
public import Idealize.ShloMosaic.Lib.Writes
public import Idealize.ShloMosaic.Lib.Pipeline.ValueKit

@[expose] public section

/-!
A body that only loads and stores, as a program over a state of vectors: `R z` owns every memref at its vector of the state
`z`, a load reads the state, a store overlays a rectangle of it, a loop keeps an invariant of it.
-/

noncomputable section

namespace Runs

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : ℕ} {τ : Topo} {sig : RefSig} {Val : EltTy → Type} {Λ : Labels}

local notation "𝕄" => MT nD τ sig Unit Val ℕ (UR sig nD τ) ℕ

/-- Reading after a store through a rectangle: the old contents with the rectangle overlaid. -/
theorem read_store {κ : Kind} {sp : Space} {s : Shape} {e : EltTy} (v : View sig κ sp s e) (r : Rect s) (f : v.ty.Contents Val)
    (w : r.shape.Idx → Val e) :
    v.read Val ((v.slice r).write Val f w Finset.univ) = r.overlay (v.read Val f) w := by
  funext y
  by_cases hy : y ∈ r.set
  · obtain ⟨x, rfl⟩ : ∃ x, r.emb x = y := r.exists_idx_of_mem hy
    rw [Rect.overlay_emb]
    exact View.read_slice_write_emb r _ w (Finset.mem_univ x)
  · rw [Rect.overlay_of_not_mem _ _ _ hy]
    exact View.read_slice_write_of_not_mem r _ _ _ (by rwa [Rect.map_emb_univ])

/-- The ownership lends the memref, at the vector `g` reads off the state, for a read. -/
def Gets {σ : Type} (c : Thread nD τ) (R : σ → sProp 𝕄) {cs : CoreSpace} {s : Shape} {e : EltTy} (a : Memref sig c.2.kind cs s e)
    (g : σ → s.Idx → Val e) : Prop :=
  ∀ z, R z ⊢ iprop(owns c a fullShare (g z) ∗ (owns c a fullShare (g z) -∗ R z))

/-- The ownership lends the memref for a write, after which the state is `u`'s. -/
def Sets {σ : Type} (c : Thread nD τ) (R : σ → sProp 𝕄) {cs : CoreSpace} {s : Shape} {e : EltTy} (a : Memref sig c.2.kind cs s e)
    (g : σ → s.Idx → Val e) (u : σ → (s.Idx → Val e) → σ) : Prop :=
  ∀ z, R z ⊢ iprop(owns c a fullShare (g z) ∗ (∀ d, owns c a fullShare d -∗ R (u z d)))

/-- From the state `z` the program runs to a result and a state as `Q` says. -/
def Does {σ : Type} (defs : Defs nD τ sig Val Λ) (c : Thread nD τ) (R : σ → sProp 𝕄) {α : Type} (p : Prog (TpuEff nD τ sig Val Λ c.2) α)
    (z : σ) (Q : α → σ → Prop) : Prop :=
  ∀ E : Set ℕ, R z ⊢ wp frame (wpE defs Variants.none c none) E p (fun a => iprop(∃ z', ⌜Q a z'⌝ ∗ R z'))

section Lend
variable {σ : Type} {c : Thread nD τ} {cs : CoreSpace} {s : Shape} {e : EltTy} {a : Memref sig c.2.kind cs s e} {g : σ → s.Idx → Val e}
  {u : σ → (s.Idx → Val e) → σ}

theorem gets_one : Gets (Val := Val) c (fun z => owns c a fullShare (g z)) a g := by
  intro z
  iintro H
  isplitl [H]; · iexact H
  iintro H
  iexact H

theorem sets_one (h : ∀ z d, g (u z d) = d) : Sets (Val := Val) c (fun z => owns c a fullShare (g z)) a g u := by
  intro z
  iintro H
  isplitl [H]; · iexact H
  iintro %d H
  beta_reduce
  rw [h]
  iexact H

theorem Gets.left {R A : σ → sProp 𝕄} (h : Gets c R a g) : Gets c (fun z => iprop(R z ∗ A z)) a g := by
  intro z
  have h := h z
  iintro ⟨H, HA⟩
  icases h $$ H with ⟨H, K⟩
  isplitl [H]; · iexact H
  iintro H
  isplitl [H K]
  · iapply K; iexact H
  iexact HA

theorem Gets.right {R A : σ → sProp 𝕄} (h : Gets c R a g) : Gets c (fun z => iprop(A z ∗ R z)) a g := by
  intro z
  have h := h z
  iintro ⟨HA, H⟩
  icases h $$ H with ⟨H, K⟩
  isplitl [H]; · iexact H
  iintro H
  isplitl [HA]; · iexact HA
  iapply K; iexact H

theorem Sets.left {R A : σ → sProp 𝕄} (h : Sets c R a g u) (hA : ∀ z d, A (u z d) = A z) :
    Sets c (fun z => iprop(R z ∗ A z)) a g u := by
  intro z
  have h := h z
  iintro ⟨H, HA⟩
  icases h $$ H with ⟨H, K⟩
  isplitl [H]; · iexact H
  iintro %d H
  beta_reduce
  rw [hA]
  isplitl [H K]
  · iapply K; iexact H
  iexact HA

theorem Sets.right {R A : σ → sProp 𝕄} (h : Sets c R a g u) (hA : ∀ z d, A (u z d) = A z) :
    Sets c (fun z => iprop(A z ∗ R z)) a g u := by
  intro z
  have h := h z
  iintro ⟨HA, H⟩
  icases h $$ H with ⟨H, K⟩
  isplitl [H]; · iexact H
  iintro %d H
  beta_reduce
  rw [hA]
  isplitl [HA]; · iexact HA
  iapply K; iexact H

end Lend

section Run
variable {σ : Type} {defs : Defs nD τ sig Val Λ} {c : Thread nD τ} {α β : Type} {z : σ}

theorem Does.pure {R : σ → sProp 𝕄} {a : α} {Q : α → σ → Prop} (h : Q a z) :
    Does defs c R (Pure.pure a : Prog (TpuEff nD τ sig Val Λ c.2) α) z Q := by
  intro E
  rw [wp_pure]
  refine .trans ?_ (fupd_intro (PROP := sProp 𝕄))
  iintro H
  iexists z
  isplitr; · ipureintro; exact h
  iexact H

theorem Does.mono {R : σ → sProp 𝕄} {p : Prog (TpuEff nD τ sig Val Λ c.2) α} {Q Q' : α → σ → Prop} (h : Does defs c R p z Q')
    (hQ : ∀ a z', Q' a z' → Q a z') : Does defs c R p z Q := by
  intro E
  refine (h E).trans (wp_mono _ _ _ fun a => ?_)
  iintro ⟨%z', %hz, H⟩
  iexists z'
  isplitr; · ipureintro; exact hQ a z' hz
  iexact H

theorem Does.bind {R : σ → sProp 𝕄} {p : Prog (TpuEff nD τ sig Val Λ c.2) α} {k : α → Prog (TpuEff nD τ sig Val Λ c.2) β}
    {Q : β → σ → Prop} (h : Does defs c R p z (fun a z' => Does defs c R (k a) z' Q)) : Does defs c R (p >>= k) z Q := by
  intro E
  rw [wp_bind]
  refine (h E).trans (wp_mono _ _ _ fun a => ?_)
  iintro ⟨%z', %hz, H⟩
  iapply (hz E)
  iexact H

theorem Does.load {R : σ → sProp 𝕄} {cs : CoreSpace} {s : Shape} {e : EltTy} {m : Memref sig c.2.kind cs s e} {r : Rect s}
    {hl : m.view.LoadsAt r.toLoadRect} {g : σ → s.Idx → Val e} {Q : (r.shape.Idx → Val e) → σ → Prop} (h : Gets c R m g)
    (hQ : ∀ x, x = View.ld (g z) r → Q x z) :
    Does defs c R (Prog.lift (.load m r.toLoadRect hl)) z Q := by
  intro E
  have h := h z
  unfold owns at h
  iintro H
  icases h $$ H with ⟨⟨%f, %hf, H⟩, K⟩
  iapply (wp_load Variants.none c none E (View.setOn_subset_set _ _)) $$ H
  iintro H
  iapply (show R z ⊢ wp frame (wpE defs Variants.none c none) E (.ret (m.view.readAt Val r.toLoadRect f)) (fun a => iprop(∃ z', ⌜Q a z'⌝ ∗ R z')) from
    Does.pure (defs := defs) (hQ _ (by rw [← hf]; rfl)) E)
  iapply K
  iexists f
  isplitr; · ipureintro; exact hf
  iexact H

theorem Does.store {R : σ → sProp 𝕄} {cs : CoreSpace} {s : Shape} {e : EltTy} {m : Memref sig c.2.kind cs s e} {r : Rect s}
    {w : r.shape.Idx → Val e} {hx : (m.access r).Stores Finset.univ}
    {hm : (Finset.univ : Finset r.shape.Idx) = Finset.univ ∨ ∀ a, r.stride a = 1} {g : σ → s.Idx → Val e}
    {u : σ → (s.Idx → Val e) → σ} {Q : PUnit → σ → Prop} (h : Sets c R m g u)
    (hQ : ∀ z', z' = u z (r.overlay (g z) w) → Q ⟨⟩ z') :
    Does defs c R (Prog.lift (.store m r w Finset.univ hx hm)) z Q := by
  intro E
  have h := h z
  unfold owns at h
  iintro H
  icases h $$ H with ⟨⟨%f, %hf, H⟩, K⟩
  have hS : (m.access r).setOn Finset.univ ⊆ m.view.set :=
    (View.setOn_subset_set _ _).trans (View.set_slice_subset _ r)
  iapply (wp_store Variants.none c none E (m := m) (r := r) (w := w) (Mk := Finset.univ) (hx := hx) (hm := hm) (S := m.view.set) (f := f) hS) $$ H
  iintro H
  iapply (show R (u z (r.overlay (g z) w)) ⊢ wp frame (wpE defs Variants.none c none) E (.ret PUnit.unit) (fun a => iprop(∃ z', ⌜Q a z'⌝ ∗ R z')) from
    Does.pure (defs := defs) (hQ _ rfl) E)
  iapply K
  iexists ((m.access r).write Val f w Finset.univ)
  isplitr
  · ipureintro
    rw [← hf]
    exact read_store m.view r f w
  iexact H

theorem Does.loop {R : σ → sProp 𝕄} {w : ℕ} {γ : Type} {lb ub st : BitVec w} {hok : Scf.OK lb ub st} {init : γ}
    {body : Fin (Scf.trips lb ub st) → γ → Prog (TpuEff nD τ sig Val Λ c.2) γ} {Q : γ → σ → Prop} (I : ℕ → γ → σ → Prop)
    (h0 : I 0 init z) (h : ∀ k acc z, I k.val acc z → Does defs c R (body k acc) z (I (k.val + 1)))
    (hQ : ∀ acc z', I (Scf.trips lb ub st) acc z' → Q acc z') : Does defs c R (Scf.for lb ub st hok init body) z Q := by
  intro E
  refine .trans ?_ (Scf.wp_for _ _ E lb ub st hok init body (fun k acc => iprop(∃ z, ⌜I k acc z⌝ ∗ R z)) fun k acc => ?_)
  · iintro H
    isplitl [H]
    · iexists z
      isplitr; · ipureintro; exact h0
      iexact H
    iintro %acc ⟨%z', %hz, H⟩
    iexists z'
    isplitr; · ipureintro; exact hQ acc z' hz
    iexact H
  · iintro ⟨%z', %hz, H⟩
    iapply (h k acc z' hz E)
    iexact H

theorem Does.dite {R : σ → sProp 𝕄} {b : Prop} [Decidable b] {p : b → Prog (TpuEff nD τ sig Val Λ c.2) α}
    {q : ¬b → Prog (TpuEff nD τ sig Val Λ c.2) α} {Q : α → σ → Prop} (hp : ∀ h, Does defs c R (p h) z Q)
    (hq : ∀ h, Does defs c R (q h) z Q) : Does defs c R (if h : b then p h else q h) z Q := by
  by_cases h : b
  · rw [dif_pos h]; exact hp h
  · rw [dif_neg h]; exact hq h

/-- A branch whose two sides go on alike: the common rest is run once. -/
theorem Does.dite_jp {R : σ → sProp 𝕄} {b : Prop} [Decidable b] {p : b → Prog (TpuEff nD τ sig Val Λ c.2) α}
    {q : Prog (TpuEff nD τ sig Val Λ c.2) α} {Q : α → σ → Prop} (I : σ → Prop) (hq : ∀ z', I z' → Does defs c R q z' Q)
    (h0 : ¬b → I z) (hp : (∀ z', I z' → Does defs c R q z' Q) → ∀ h, Does defs c R (p h) z Q) :
    Does defs c R (if h : b then p h else q) z Q :=
  Does.dite (hp hq) fun h => hq z (h0 h)

end Run

section Overlay
variable {s : Shape} {α : Type}

theorem overlay_in {off size : Fin s.rank → ℕ} (inb : ∀ a, off a + size a ≤ s.size a) (X : s.Idx → α)
    (w : (Rect.unit off size inb).shape.Idx → α) (y : s.Idx) (x : (Rect.unit off size inb).shape.Idx)
    (h : ∀ a, (y a).val = off a + (x a).val) : (Rect.unit off size inb).overlay X w y = w x := by
  have e : (Rect.unit off size inb).emb x = y := funext fun a => Fin.ext (by
    rw [h a]; show off a + 1 * (x a).val = _; omega)
  rw [← e, Rect.overlay_emb]

theorem overlay_full {off : Fin s.rank → ℕ} (inb : ∀ a, off a + s.size a ≤ s.size a) (X : s.Idx → α)
    (w : (Rect.unit off s.size inb).shape.Idx → α) : (Rect.unit off s.size inb).overlay X w = w :=
  funext fun y => overlay_in inb X w y y fun a => by have := inb a; omega

theorem overlay_out {off size : Fin s.rank → ℕ} (inb : ∀ a, off a + size a ≤ s.size a) (X : s.Idx → α)
    (w : (Rect.unit off size inb).shape.Idx → α) (y : s.Idx) (a : Fin s.rank)
    (h : (y a).val < off a ∨ off a + size a ≤ (y a).val) : (Rect.unit off size inb).overlay X w y = X y := by
  refine Rect.overlay_of_not_mem _ _ _ fun hy => ?_
  have := Rect.mem_set_unit.mp hy a
  omega

end Overlay

end Runs

end
-- ==== Proof.LossFwdRun.lean ====
/-  The loss call's body, run with the values named: what a grid point leaves in its output windows. -/
module

public import proofs.«01_k».proof.Proof.Gen.LossFwdIdeal.Frame.Runs
public import proofs.«01_k».proof.Proof.Runs
public import Idealize.ShloMosaic.Lib.Pipeline.ValueKit
public import Idealize.ShloMosaic.Lib.Pointwise

@[expose] public section

set_option maxRecDepth 16384

noncomputable section

namespace Cert.LossFwdIdeal.Val

open Cert.LossFwdIdeal Cert.LossFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.View (ld_unit_apply_of ld_unit_lit)
open Runs

local notation "𝕄" => MT nD τ sig Unit (Elt Ideal) ℕ (UR sig nD τ) ℕ

/-- What the body writes: the vector each written memref holds. -/
structure State where
  o9 : Vec Ideal S512x1024 .f32
  o10 : Vec Ideal S512x1024 .f32
  o11 : Vec Ideal S1x128 .f32

def u9 (z : State) (d : Vec Ideal S512x1024 .f32) : State := { z with o9 := d }
def u10 (z : State) (d : Vec Ideal S512x1024 .f32) : State := { z with o10 := d }
def u11 (z : State) (d : Vec Ideal S1x128 .f32) : State := { z with o11 := d }

theorem u9_get (z : State) (d : Vec Ideal S512x1024 .f32) : (u9 z d).o9 = d ∧ (u9 z d).o10 = z.o10 ∧ (u9 z d).o11 = z.o11 :=
  ⟨rfl, rfl, rfl⟩
theorem u10_get (z : State) (d : Vec Ideal S512x1024 .f32) : (u10 z d).o9 = z.o9 ∧ (u10 z d).o10 = d ∧ (u10 z d).o11 = z.o11 :=
  ⟨rfl, rfl, rfl⟩
theorem u11_get (z : State) (d : Vec Ideal S1x128 .f32) : (u11 z d).o9 = z.o9 ∧ (u11 z d).o10 = z.o10 ∧ (u11 z d).o11 = d :=
  ⟨rfl, rfl, rfl⟩

variable {c : Dev nD} {i : grid0.Coords}
variable {arg1 arg2 : Memref sig .tc .vmem S16x512x128 .bf16} {arg3 : Memref sig .tc .vmem S512x1024 .f32} {arg4 : Memref sig .tc .vmem S1x1024 .f32} {arg5 : Memref sig .tc .vmem S2048x1024 .bf16} {arg6 arg7 : Memref sig .tc .vmem S1x1024 .f32} {arg8 arg9 arg10 : Memref sig .tc .vmem S512x1024 .f32} {arg11 : Memref sig .tc .vmem S1x128 .f32}

/-- Each memref lent at its vector: the inputs at fixed ones, the written ones at the state's. -/
structure Good (c : Dev nD) (R : State → sProp 𝕄) (arg1 arg2 : Memref sig .tc .vmem S16x512x128 .bf16) (arg3 : Memref sig .tc .vmem S512x1024 .f32) (arg4 : Memref sig .tc .vmem S1x1024 .f32) (arg5 : Memref sig .tc .vmem S2048x1024 .bf16) (arg6 arg7 : Memref sig .tc .vmem S1x1024 .f32) (arg8 arg9 arg10 : Memref sig .tc .vmem S512x1024 .f32) (arg11 : Memref sig .tc .vmem S1x128 .f32)
    (x1 x2 : Vec Ideal S16x512x128 .bf16) (x3 : Vec Ideal S512x1024 .f32) (x4 : Vec Ideal S1x1024 .f32) (x5 : Vec Ideal S2048x1024 .bf16) (x6 x7 : Vec Ideal S1x1024 .f32) (x8 : Vec Ideal S512x1024 .f32) : Prop where
  g1 : Gets (c : Thread nD τ) R arg1 (fun _ => x1)
  g2 : Gets (c : Thread nD τ) R arg2 (fun _ => x2)
  g3 : Gets (c : Thread nD τ) R arg3 (fun _ => x3)
  g4 : Gets (c : Thread nD τ) R arg4 (fun _ => x4)
  g5 : Gets (c : Thread nD τ) R arg5 (fun _ => x5)
  g6 : Gets (c : Thread nD τ) R arg6 (fun _ => x6)
  g7 : Gets (c : Thread nD τ) R arg7 (fun _ => x7)
  g8 : Gets (c : Thread nD τ) R arg8 (fun _ => x8)
  g9 : Gets (c : Thread nD τ) R arg9 State.o9
  g10 : Gets (c : Thread nD τ) R arg10 State.o10
  g11 : Gets (c : Thread nD τ) R arg11 State.o11
  w9 : Sets (c : Thread nD τ) R arg9 State.o9 u9
  w10 : Sets (c : Thread nD τ) R arg10 State.o10 u10
  w11 : Sets (c : Thread nD τ) R arg11 State.o11 u11

variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole}
variable {R : State → sProp 𝕄} {x1 x2 : Vec Ideal S16x512x128 .bf16} {x3 : Vec Ideal S512x1024 .f32} {x4 : Vec Ideal S1x1024 .f32} {x5 : Vec Ideal S2048x1024 .bf16} {x6 x7 : Vec Ideal S1x1024 .f32} {x8 : Vec Ideal S512x1024 .f32}

/-- The ownership of the body's memrefs at the inputs' vectors and a state. -/
def Own (c : Dev nD) (arg1 arg2 : Memref sig .tc .vmem S16x512x128 .bf16) (arg3 : Memref sig .tc .vmem S512x1024 .f32) (arg4 : Memref sig .tc .vmem S1x1024 .f32) (arg5 : Memref sig .tc .vmem S2048x1024 .bf16) (arg6 arg7 : Memref sig .tc .vmem S1x1024 .f32) (arg8 arg9 arg10 : Memref sig .tc .vmem S512x1024 .f32) (arg11 : Memref sig .tc .vmem S1x128 .f32) (x1 x2 : Vec Ideal S16x512x128 .bf16) (x3 : Vec Ideal S512x1024 .f32) (x4 : Vec Ideal S1x1024 .f32) (x5 : Vec Ideal S2048x1024 .bf16) (x6 x7 : Vec Ideal S1x1024 .f32) (x8 : Vec Ideal S512x1024 .f32) (z : State) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare z.o9 ∗ owns (c : Thread nD τ) arg10 fullShare z.o10 ∗ owns (c : Thread nD τ) arg11 fullShare z.o11)

theorem own_good : Good c (Own c arg1 arg2 arg3 arg4 arg5 arg6 arg7 arg8 arg9 arg10 arg11 x1 x2 x3 x4 x5 x6 x7 x8) arg1 arg2 arg3 arg4 arg5 arg6 arg7 arg8 arg9 arg10 arg11 x1 x2 x3 x4 x5 x6 x7 x8 := by
  constructor
  · exact Gets.left (gets_one (g := fun _ => x1))
  · exact Gets.right (Gets.left (gets_one (g := fun _ => x2)))
  · exact Gets.right (Gets.right (Gets.left (gets_one (g := fun _ => x3))))
  · exact Gets.right (Gets.right (Gets.right (Gets.left (gets_one (g := fun _ => x4)))))
  · exact Gets.right (Gets.right (Gets.right (Gets.right (Gets.left (gets_one (g := fun _ => x5))))))
  · exact Gets.right (Gets.right (Gets.right (Gets.right (Gets.right (Gets.left (gets_one (g := fun _ => x6)))))))
  · exact Gets.right (Gets.right (Gets.right (Gets.right (Gets.right (Gets.right (Gets.left (gets_one (g := fun _ => x7))))))))
  · exact Gets.right (Gets.right (Gets.right (Gets.right (Gets.right (Gets.right (Gets.right (Gets.left (gets_one (g := fun _ => x8)))))))))
  · exact Gets.right (Gets.right (Gets.right (Gets.right (Gets.right (Gets.right (Gets.right (Gets.right (Gets.left (gets_one (g := State.o9))))))))))
  · exact Gets.right (Gets.right (Gets.right (Gets.right (Gets.right (Gets.right (Gets.right (Gets.right (Gets.right (Gets.left (gets_one (g := State.o10)))))))))))
  · exact Gets.right (Gets.right (Gets.right (Gets.right (Gets.right (Gets.right (Gets.right (Gets.right (Gets.right (Gets.right (gets_one (g := State.o11)))))))))))
  · exact Sets.right (Sets.right (Sets.right (Sets.right (Sets.right (Sets.right (Sets.right (Sets.right (Sets.left (sets_one (g := State.o9) fun _ _ => rfl) fun _ _ => rfl) fun _ _ => rfl) fun _ _ => rfl) fun _ _ => rfl) fun _ _ => rfl) fun _ _ => rfl) fun _ _ => rfl) fun _ _ => rfl) fun _ _ => rfl
  · exact Sets.right (Sets.right (Sets.right (Sets.right (Sets.right (Sets.right (Sets.right (Sets.right (Sets.right (Sets.left (sets_one (g := State.o10) fun _ _ => rfl) fun _ _ => rfl) fun _ _ => rfl) fun _ _ => rfl) fun _ _ => rfl) fun _ _ => rfl) fun _ _ => rfl) fun _ _ => rfl) fun _ _ => rfl) fun _ _ => rfl) fun _ _ => rfl
  · exact Sets.right (Sets.right (Sets.right (Sets.right (Sets.right (Sets.right (Sets.right (Sets.right (Sets.right (Sets.right (sets_one (g := State.o11) fun _ _ => rfl) fun _ _ => rfl) fun _ _ => rfl) fun _ _ => rfl) fun _ _ => rfl) fun _ _ => rfl) fun _ _ => rfl) fun _ _ => rfl) fun _ _ => rfl) fun _ _ => rfl) fun _ _ => rfl

/-- The row r of the error: the norm's output less the target. -/
def er (x3 : Vec Ideal S512x1024 .f32) (x4 : Vec Ideal S1x1024 .f32) (B : Vec Ideal S512x1024 .f32) (x6 x7 : Vec Ideal S1x1024 .f32)
    (x8 : Vec Ideal S512x1024 .f32) (r : Fin 512) (j : Fin 1024) : EReal :=
  let p : Fin 1024 → EReal := fun x => Ideal.ofBits FTy.f32 1068827891#32 * x3 (ix2 r x) + x4 (ix2 0 x) * B (ix2 r x)
  let mu : EReal := Ideal.div (∑ x, p x) (Ideal.ofBits FTy.f32 1149239296#32)
  (p j - mu) * Ideal.rsqrt (Ideal.div (∑ x, (p x - mu) * (p x - mu)) (Ideal.ofBits FTy.f32 1149239296#32) + Ideal.ofBits FTy.f32 925353388#32)
    * x6 (ix2 0 j) + x7 (ix2 0 j) - x8 (ix2 r j)

/-- The squares of row n of E that lane l gathers. -/
def sq {N : ℕ} (E : Fin N → Fin 1024 → EReal) (l : Fin 128) (n : ℕ) : EReal :=
  if h : n < N then ∑ q : Fin 8, E ⟨n, h⟩ ⟨128 * q.val + l.val, by omega⟩ * E ⟨n, h⟩ ⟨128 * q.val + l.val, by omega⟩ else 0

theorem pay2_at (e : FVec Ideal S128x1024 .f32) (a : Vec Ideal S1x128 .f32) (l : Fin 128) : k0_pay2 (F := Ideal) e a (ix2 0 l) =
    a (ix2 0 l) + ∑ x : Fin 128, ∑ q : Fin 8, e (ix2 x ⟨128 * q.val + l.val, by omega⟩) * e (ix2 x ⟨128 * q.val + l.val, by omega⟩) := by
  pointwise [k0_pay2]
  simp only [Fin.sum_univ_eight, Finset.sum_add_distrib]
  simp only [Fin.val_zero, Nat.mul_zero, Nat.zero_add, Fin.val_one]
  rfl

/-- What the loop holds after k trips. -/
def Inv (B : Vec Ideal S512x1024 .f32) (E : Fin 512 → Fin 1024 → EReal) (L0 : Fin 128 → EReal) (k : ℕ) (z : State) : Prop :=
  z.o9 = B ∧ (∀ (r : Fin 512) (j : Fin 1024), r.val < 128 * k → z.o10 (ix2 r j) = E r j * Ideal.ofBits FTy.f32 0x3A800000#32)
    ∧ ∀ l : Fin 128, z.o11 (ix2 0 l) = L0 l + ∑ n ∈ Finset.range (128 * k), sq E l n

theorem ld_rows (k : Fin k0_t1_loop.trips) (X : Vec Ideal S512x1024 .f32) (r : Fin 128) (j : Fin 1024) (R : Fin 512) (hR : R.val = 128 * k.val + r.val) :
    View.ld X (Rect.unit (s := S512x1024) (k0_off1 k) S128x1024.size (k0_off1_inb k)) (ix2 r j) = X (ix2 R j) := by
  refine ld_unit_apply_of X _ _ _ _ _ fun a => ?_
  refine Eq.trans ?_ (congrArg (· + _) (congrFun (k0_off1_eq k) a).symm)
  match a with
  | ⟨0, _⟩ => exact hR
  | ⟨1, _⟩ => exact (Nat.zero_add _).symm

theorem pay3_at (a c f : FVec Ideal S128x1024 .f32) (b d e : Vec Ideal S1x1024 .f32) (x3 B x8 : Vec Ideal S512x1024 .f32) (x4 x6 x7 : Vec Ideal S1x1024 .f32)
    (r : Fin 128) (R : Fin 512) (j : Fin 1024) (ha : ∀ y, a (ix2 r y) = x3 (ix2 R y)) (hb : b = x4) (hc : ∀ y, c (ix2 r y) = B (ix2 R y)) (hd : d = x6) (he : e = x7)
    (hf : f (ix2 r j) = x8 (ix2 R j)) : k0_pay3 (F := Ideal) a b c d e f (ix2 r j) = er x3 x4 B x6 x7 x8 R j := by
  subst hb hd he
  pointwise [k0_pay3]
  simp only [ha, hc, hf]
  rfl

theorem trips_lt (k : Fin k0_t1_loop.trips) : k.val < 4 := k.isLt

theorem step (k : Fin k0_t1_loop.trips) (z : State) (B : Vec Ideal S512x1024 .f32) (E : Fin 512 → Fin 1024 → EReal) (L0 : Fin 128 → EReal)
    (e : FVec Ideal S128x1024 .f32) (he : ∀ (r : Fin 128) (j : Fin 1024) (R : Fin 512), R.val = 128 * k.val + r.val → e (ix2 r j) = E R j)
    (hz : Inv B E L0 k.val z) :
    Inv B E L0 (k.val + 1) (u11 (u10 z ((Rect.unit (s := S512x1024) (k0_off1 k) S128x1024.size (k0_off1_inb k)).overlay z.o10
      (k0_pay1 e (Scalar.ofBits (F := Ideal) .f32 0x3A800000#32)))) (k0_pay2 e (u10 z ((Rect.unit (s := S512x1024) (k0_off1 k) S128x1024.size (k0_off1_inb k)).overlay z.o10
      (k0_pay1 e (Scalar.ofBits (F := Ideal) .f32 0x3A800000#32)))).o11)) := by
  obtain ⟨h9, h10, h11⟩ := hz
  have hk := trips_lt k
  have hoff : ∀ a, k0_off1 k a = ![128 * k.val, 0] a := fun a => congrFun (k0_off1_eq k) a
  refine ⟨((u11_get _ _).1.trans (u10_get _ _).1).trans h9, fun r j hr => ?_, fun l => ?_⟩
  · refine Eq.trans (congrFun (u11_get _ _).2.1 _) (Eq.trans (congrFun (u10_get _ _).2.1 _) ?_)
    by_cases hlt : r.val < 128 * k.val
    · exact (overlay_out _ _ _ _ (0 : Fin 2) (Or.inl ((hoff 0).symm ▸ hlt))).trans (h10 r j hlt)
    · have hr' : r.val - 128 * k.val < 128 := by omega
      have hrr : r.val = 128 * k.val + (r.val - 128 * k.val) := by omega
      refine (overlay_in _ _ _ _ (ix2 (⟨r.val - 128 * k.val, hr'⟩ : Fin 128) j) (fun a => ?_)).trans ?_
      · rw [hoff]
        match a with
        | ⟨0, _⟩ => exact hrr
        | ⟨1, _⟩ => exact (Nat.zero_add _).symm
      · have := he ⟨r.val - 128 * k.val, hr'⟩ j r hrr
        pointwise [k0_pay1]
        rw [this]
  · have e1 : ∑ n ∈ Finset.range (128 * (k.val + 1)), sq E l n = (∑ n ∈ Finset.range (128 * k.val), sq E l n)
        + ∑ x : Fin 128, ∑ q : Fin 8, e (ix2 x ⟨128 * q.val + l.val, by omega⟩) * e (ix2 x ⟨128 * q.val + l.val, by omega⟩) := by
      rw [Nat.mul_succ, Finset.sum_range_add]
      refine congrArg (_ + ·) ?_
      rw [Finset.sum_range]
      refine Finset.sum_congr rfl fun x _ => ?_
      rw [sq, dif_pos (by omega)]
      exact Finset.sum_congr rfl fun q _ => by rw [he x _ ⟨128 * k.val + x.val, by omega⟩ rfl]
    rw [e1, ← add_assoc, ← h11 l]
    exact (congrFun (u11_get _ _).2.2 _).trans (pay2_at _ _ _)

set_option maxHeartbeats 1000000 in
theorem trip (hG : Good c R arg1 arg2 arg3 arg4 arg5 arg6 arg7 arg8 arg9 arg10 arg11 x1 x2 x3 x4 x5 x6 x7 x8) (b0 : BitVec 32) (k : Fin k0_t1_loop.trips) (z : State) (B : Vec Ideal S512x1024 .f32) (L0 : Fin 128 → EReal)
    (hz : Inv B (er x3 x4 B x6 x7 x8) L0 k.val z) :
    Does (defs₀ (F := Ideal)) (c : Thread nD τ) R (k0_t1_body (F := Ideal) i arg1 harg1 arg2 harg2 arg3 harg3 arg4 harg4 arg5 harg5 arg6 harg6 arg7 harg7 arg8 harg8 arg9 harg9 arg10 harg10 arg11 harg11 b0 k ⟨⟩) z
      (fun _ z' => Inv B (er x3 x4 B x6 x7 x8) L0 (k.val + 1) z') := by
  have h9 := hz.1
  unfold k0_t1_body
  refine Does.bind ?_
  rw [k0_part1_eq_skeleton]; unfold k0_part1_skel
  refine Does.bind (Does.load hG.g3 fun v268 ev268 => ?_)
  refine Does.bind (Does.load hG.g4 fun v271 ev271 => ?_)
  refine Does.bind (Does.load hG.g9 fun v273 ev273 => ?_)
  refine Does.bind (Does.load hG.g6 fun v296 ev296 => ?_)
  refine Does.bind (Does.load hG.g7 fun v300 ev300 => ?_)
  refine Does.bind (Does.load hG.g8 fun v305 ev305 => ?_)
  refine Does.pure ?_
  dsimp only
  refine Does.bind (Does.load hG.g10 fun v310 ev310 => ?_)
  refine Does.bind (Does.store hG.w10 fun z1 ez1 => ?_)
  refine Does.bind (Does.load hG.g11 fun v314 ev314 => ?_)
  refine Does.bind (Does.load hG.g11 fun v334 ev334 => ?_)
  refine Does.bind (Does.store hG.w11 fun z2 ez2 => ?_)
  refine Does.pure ?_
  try dsimp only
  have he : ∀ (r : Fin 128) (j : Fin 1024) (R : Fin 512), R.val = 128 * k.val + r.val →
      k0_pay3 v268 v271 v273 v296 v300 v305 (ix2 r j) = er x3 x4 B x6 x7 x8 R j := by
    rw [ld_unit_lit _ _ (by decide)] at ev271 ev296 ev300
    intro r j R hR
    exact pay3_at _ _ _ _ _ _ _ _ _ _ _ _ r R j (fun y => ev268 ▸ ld_rows k x3 r y R hR) ev271 (fun y => by rw [ev273, h9]; exact ld_rows k B r y R hR) ev296 ev300
      (ev305 ▸ ld_rows k x8 r j R hR)
  rw [ld_unit_lit _ _ (by decide)] at ev314
  rw [overlay_full] at ez2
  subst ez2 ez1 ev314
  exact step k z B _ L0 _ he hz

/-- One of the sixteen column pieces of an input block. -/
def ch (X : Vec Ideal S16x512x128 .bf16) (k : Fin 16) : Vec Ideal S1x512x128 .bf16 := fun i => X (ix3 k (i 1) (i 2))

theorem ld_ch (X : Vec Ideal S16x512x128 .bf16) (k : ℕ) (hk : k < 16) (inb) :
    View.ld X (Rect.unit (s := S16x512x128) ![k, 0, 0] S1x512x128.size inb) = ch X ⟨k, hk⟩ := by
  funext i
  refine ld_unit_apply_of X _ _ _ _ _ fun a => ?_
  match a with
  | ⟨0, _⟩ => have : (i 0).val < 1 := (i 0).isLt; show k = k + (i 0).val; omega
  | ⟨1, _⟩ => exact (Nat.zero_add _).symm
  | ⟨2, _⟩ => exact (Nat.zero_add _).symm

/-- The gated rows, as their sixteen column pieces. -/
def pcs (x1 x2 : Vec Ideal S16x512x128 .bf16) : List ((s : Shape) × (s.Idx → EReal)) :=
  List.ofFn fun k : Fin 16 => ⟨S512x128, k0_pay4 (F := Ideal) (ch x1 k) (ch x2 k)⟩

theorem pcs_ok (x1 x2 : Vec Ideal S16x512x128 .bf16) : Shape.Concatenates ((pcs x1 x2).map (·.1)) S512x2048 1 :=
  concatenates_S512x128_S512x128_S512x128_S512x128_S512x128_S512x128_S512x128_S512x128_S512x128_S512x128_S512x128_S512x128_S512x128_S512x128_S512x128_S512x128_S512x2048_d1

/-- The gated rows times the output weights. -/
def br (x1 x2 : Vec Ideal S16x512x128 .bf16) (x5 : Vec Ideal S2048x1024 .bf16) : FVec Ideal S512x1024 .f32 :=
  matmul (F := Ideal) (φ₁ := .bf16) (φ₂ := .bf16) dot_S512x2048_S2048x1024_S512x1024_1_0_0_1_n_n none (concatenate S512x2048 1 (pcs x1 x2) (pcs_ok x1 x2))
    (shapeCast S2048x1024 x5 shapeCasts_S2048x1024_S2048x1024) (constant S512x1024 .f32 0x00000000#32)

set_option maxHeartbeats 4000000 in
theorem body (hG : Good c R arg1 arg2 arg3 arg4 arg5 arg6 arg7 arg8 arg9 arg10 arg11 x1 x2 x3 x4 x5 x6 x7 x8) (z : State) (L0 : Fin 128 → EReal)
    (h0 : cond0_0 i → ∀ l, L0 l = 0) (h1 : ¬ cond0_0 i → ∀ l, z.o11 (ix2 0 l) = L0 l) :
    Does (defs₀ (F := Ideal)) (c : Thread nD τ) R (cc0_outproj_fwd1 (F := Ideal) i arg1 harg1 arg2 harg2 arg3 harg3 arg4 harg4 arg5 harg5 arg6 harg6 arg7 harg7 arg8 harg8 arg9 harg9 arg10 harg10 arg11 harg11) z
      (fun _ z' => Inv (br x1 x2 x5) (er x3 x4 (br x1 x2 x5) x6 x7 x8) L0 4 z') := by
  rw [cc0_outproj_fwd1_eq_skeleton]
  unfold cc0_outproj_fwd1_skel
  refine Does.bind ?_
  rw [k0_part2_eq_skeleton]; unfold k0_part2_skel
  refine Does.bind (Does.load hG.g1 fun v0 ev0 => ?_)
  refine Does.bind (Does.load hG.g2 fun v3 ev3 => ?_)
  refine Does.bind (Does.load hG.g1 fun v16 ev16 => ?_)
  refine Does.bind (Does.load hG.g2 fun v19 ev19 => ?_)
  refine Does.bind (Does.load hG.g1 fun v32 ev32 => ?_)
  refine Does.pure ?_
  dsimp only
  refine Does.bind ?_
  rw [k0_part3_eq_skeleton]; unfold k0_part3_skel
  refine Does.bind (Does.load hG.g2 fun v35 ev35 => ?_)
  refine Does.bind (Does.load hG.g1 fun v48 ev48 => ?_)
  refine Does.bind (Does.load hG.g2 fun v51 ev51 => ?_)
  refine Does.bind (Does.load hG.g1 fun v64 ev64 => ?_)
  refine Does.bind (Does.load hG.g2 fun v67 ev67 => ?_)
  refine Does.pure ?_
  dsimp only
  refine Does.bind ?_
  rw [k0_part4_eq_skeleton]; unfold k0_part4_skel
  refine Does.bind (Does.load hG.g1 fun v80 ev80 => ?_)
  refine Does.bind (Does.load hG.g2 fun v83 ev83 => ?_)
  refine Does.bind (Does.load hG.g1 fun v96 ev96 => ?_)
  refine Does.bind (Does.load hG.g2 fun v99 ev99 => ?_)
  refine Does.bind (Does.load hG.g1 fun v112 ev112 => ?_)
  refine Does.pure ?_
  dsimp only
  refine Does.bind ?_
  rw [k0_part5_eq_skeleton]; unfold k0_part5_skel
  refine Does.bind (Does.load hG.g2 fun v115 ev115 => ?_)
  refine Does.bind (Does.load hG.g1 fun v128 ev128 => ?_)
  refine Does.bind (Does.load hG.g2 fun v131 ev131 => ?_)
  refine Does.bind (Does.load hG.g1 fun v144 ev144 => ?_)
  refine Does.bind (Does.load hG.g2 fun v147 ev147 => ?_)
  refine Does.pure ?_
  dsimp only
  refine Does.bind ?_
  rw [k0_part6_eq_skeleton]; unfold k0_part6_skel
  refine Does.bind (Does.load hG.g1 fun v160 ev160 => ?_)
  refine Does.bind (Does.load hG.g2 fun v163 ev163 => ?_)
  refine Does.bind (Does.load hG.g1 fun v176 ev176 => ?_)
  refine Does.bind (Does.load hG.g2 fun v179 ev179 => ?_)
  refine Does.pure ?_
  dsimp only
  refine Does.bind ?_
  rw [k0_part7_eq_skeleton]; unfold k0_part7_skel
  refine Does.bind (Does.load hG.g1 fun v192 ev192 => ?_)
  refine Does.bind (Does.load hG.g2 fun v195 ev195 => ?_)
  refine Does.bind (Does.load hG.g1 fun v208 ev208 => ?_)
  refine Does.bind (Does.load hG.g2 fun v211 ev211 => ?_)
  refine Does.bind (Does.load hG.g1 fun v224 ev224 => ?_)
  refine Does.pure ?_
  dsimp only
  refine Does.bind ?_
  rw [k0_part8_eq_skeleton]; unfold k0_part8_skel
  refine Does.bind (Does.load hG.g2 fun v227 ev227 => ?_)
  refine Does.bind (Does.load hG.g1 fun v240 ev240 => ?_)
  refine Does.bind (Does.load hG.g2 fun v243 ev243 => ?_)
  refine Does.bind (Does.load hG.g5 fun v257 ev257 => ?_)
  refine Does.bind (Does.load hG.g9 fun v260 ev260 => ?_)
  refine Does.bind (Does.store hG.w9 fun z3 ez3 => ?_)
  have hB : z3.o9 = br x1 x2 x5 := by
    subst ez3
    show Rect.overlay _ _ _ = _
    rw [overlay_full]
    simp only [ld_ch _ 0 (by decide), ld_ch _ 1 (by decide), ld_ch _ 2 (by decide), ld_ch _ 3 (by decide), ld_ch _ 4 (by decide), ld_ch _ 5 (by decide), ld_ch _ 6 (by decide), ld_ch _ 7 (by decide), ld_ch _ 8 (by decide), ld_ch _ 9 (by decide), ld_ch _ 10 (by decide), ld_ch _ 11 (by decide), ld_ch _ 12 (by decide), ld_ch _ 13 (by decide), ld_ch _ 14 (by decide), ld_ch _ 15 (by decide)] at *
    rw [ld_unit_lit _ _ (by decide)] at ev257
    subst_vars
    rfl
  have h3 : z3.o11 = z.o11 := by subst ez3; rfl
  dsimp only
  refine Does.mono (Q' := fun a (z4 : State) => a = ⟨0#32, 4#32⟩ ∧ z4.o9 = br x1 x2 x5 ∧ ∀ l, z4.o11 (ix2 0 l) = L0 l) (Does.dite (fun hc => ?_) (fun hc => ?_)) ?_
  · refine Does.bind (Does.load hG.g11 fun v266 ev266 => ?_)
    refine Does.bind (Does.store hG.w11 fun z4 ez4 => ?_)
    refine Does.pure ?_
    rw [overlay_full] at ez4
    subst ez4
    refine ⟨rfl, hB, fun l => ?_⟩
    show k0_pay28 (F := Ideal) (ix2 0 l) = _
    pointwise [k0_pay28]
    exact (h0 hc l).symm
  · refine Does.pure ⟨rfl, hB, fun l => ?_⟩
    rw [h3]
    exact h1 hc l
  rintro a z4 ⟨rfl, hz4⟩
  dsimp only
  refine Does.bind (Does.mono (Q' := fun _ z' => Inv (br x1 x2 x5) (er x3 x4 (br x1 x2 x5) x6 x7 x8) L0 4 z')
    (Does.loop (fun k _ z => Inv (br x1 x2 x5) (er x3 x4 (br x1 x2 x5) x6 x7 x8) L0 k z) ⟨hz4.1, fun r j h => absurd h (Nat.not_lt_zero _), fun l => ?_⟩
      (fun k _ z h => trip hG _ k z _ L0 h) fun _ z h => h) fun _ z h => Does.pure h)
  rw [hz4.2 l]
  simp

end Cert.LossFwdIdeal.Val
-- ==== Proof.LossFwdDat.lean ====
module

public import proofs.«01_k».proof.Proof.LossFwdRun

@[expose] public section

set_option maxRecDepth 65536

/-!
The run of LossFwdIdeal with its outputs named: from what the body leaves at a point, given what it finds there, to what every
array holds at the end.
-/

noncomputable section

namespace Cert.LossFwdIdeal.Val

open Cert.LossFwdIdeal Cert.LossFwdIdeal.Gen Runs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (O : Dev nD → Fin cfg0.N → State)

/-- The pipeline's data: each input's buffer at its block after every point, each output's as O names it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (O c t).o9
    | ⟨9, _⟩ => (O c t).o10
    | ⟨10, _⟩ => (O c t).o11
    | ⟨k + 11, h⟩ => absurd (show k + 11 < 11 from h) (by omega)
  Φ _ := Pipeline.ΦA spec0 c
  q _ := fullShare
  owed _ := 0

theorem A_eq (c : Dev nD) (w : Fin cfg0.W) : (dats m O 0 c).A w = V m c (Pipeline.arrRef spec0 w) := by
  dsimp only [dats]

theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = iblk m c 3 t := by dsimp only [dats]
theorem after0_4 (c : Dev nD) (t : Fin cfg0.N) : (dats m O 0 c).after 4 t = iblk m c 4 t := by dsimp only [dats]
theorem after0_5 (c : Dev nD) (t : Fin cfg0.N) : (dats m O 0 c).after 5 t = iblk m c 5 t := by dsimp only [dats]
theorem after0_6 (c : Dev nD) (t : Fin cfg0.N) : (dats m O 0 c).after 6 t = iblk m c 6 t := by dsimp only [dats]
theorem after0_7 (c : Dev nD) (t : Fin cfg0.N) : (dats m O 0 c).after 7 t = iblk m c 7 t := by dsimp only [dats]
theorem after0_8 (c : Dev nD) (t : Fin cfg0.N) : (dats m O 0 c).after 8 t = (O c t).o9 := by dsimp only [dats]
theorem after0_9 (c : Dev nD) (t : Fin cfg0.N) : (dats m O 0 c).after 9 t = (O c t).o10 := by dsimp only [dats]
theorem after0_10 (c : Dev nD) (t : Fin cfg0.N) : (dats m O 0 c).after 10 t = (O c t).o11 := by dsimp only [dats]
theorem before0_0 (c : Dev nD) (t : Fin cfg0.N) (d) : (dats m O 0 c).before 0 t d = iblk m c 0 t :=
  before0_0_of m (dats m O 0 c) (A_eq m O c 0) (after0_0 m O c) t d
theorem before0_1 (c : Dev nD) (t : Fin cfg0.N) (d) : (dats m O 0 c).before 1 t d = iblk m c 1 t :=
  before0_1_of m (dats m O 0 c) (A_eq m O c 1) (after0_1 m O c) t d
theorem before0_2 (c : Dev nD) (t : Fin cfg0.N) (d) : (dats m O 0 c).before 2 t d = iblk m c 2 t :=
  before0_2_of m (dats m O 0 c) (A_eq m O c 2) (after0_2 m O c) t d
theorem before0_3 (c : Dev nD) (t : Fin cfg0.N) (d) : (dats m O 0 c).before 3 t d = iblk m c 3 t :=
  before0_3_of m (dats m O 0 c) (A_eq m O c 3) (after0_3 m O c) t d
theorem before0_4 (c : Dev nD) (t : Fin cfg0.N) (d) : (dats m O 0 c).before 4 t d = iblk m c 4 t :=
  before0_4_of m (dats m O 0 c) (A_eq m O c 4) (after0_4 m O c) t d
theorem before0_5 (c : Dev nD) (t : Fin cfg0.N) (d) : (dats m O 0 c).before 5 t d = iblk m c 5 t :=
  before0_5_of m (dats m O 0 c) (A_eq m O c 5) (after0_5 m O c) t d
theorem before0_6 (c : Dev nD) (t : Fin cfg0.N) (d) : (dats m O 0 c).before 6 t d = iblk m c 6 t :=
  before0_6_of m (dats m O 0 c) (A_eq m O c 6) (after0_6 m O c) t d
theorem before0_7 (c : Dev nD) (t : Fin cfg0.N) (d) : (dats m O 0 c).before 7 t d = iblk m c 7 t :=
  before0_7_of m (dats m O 0 c) (A_eq m O c 7) (after0_7 m O c) t d

/-- The body's triple: run at a point from what it finds, it leaves what O names. -/
def BodyRuns : Prop := ∀ (c : Dev nD) (t : Fin cfg0.N) (R : State → sProp 𝕄) (z : State),
  Good c R (ms0_0 t) (ms0_1 t) (ms0_2 t) (ms0_3 t) (ms0_4 t) (ms0_5 t) (ms0_6 t) (ms0_7 t) (ms0_8 t) (ms0_9 t) (ms0_10 t) (iblk m c 0 t) (iblk m c 1 t) (iblk m c 2 t) (iblk m c 3 t) (iblk m c 4 t) (iblk m c 5 t) (iblk m c 6 t) (iblk m c 7 t) →
  (∃ d, z.o9 = (dats m O 0 c).before 8 t d) → (∃ d, z.o10 = (dats m O 0 c).before 9 t d) → (∃ d, z.o11 = (dats m O 0 c).before 10 t d) →
  Does (defs₀ (F := Ideal)) (c : Thread nD τ) R (bodyAt0 (F := Ideal) t) z (fun _ z' => z'.o9 = (O c t).o9 ∧ z'.o10 = (O c t).o10 ∧ z'.o11 = (O c t).o11)

/-- What the body is called with at point `t`, -/
def bodyPre (c : Dev nD) (t : Fin cfg0.N) : sProp 𝕄 :=
  iprop((dats m O 0 c).Φ t.castSucc ∗ (dats m O 0 c).owesAt () t.castSucc
    ∗ (∃ d, owns (c : Thread nD τ) (ms0_0 t) fullShare ((dats m O 0 c).before 0 t d))
    ∗ (∃ d, owns (c : Thread nD τ) (ms0_1 t) fullShare ((dats m O 0 c).before 1 t d))
    ∗ (∃ d, owns (c : Thread nD τ) (ms0_2 t) fullShare ((dats m O 0 c).before 2 t d))
    ∗ (∃ d, owns (c : Thread nD τ) (ms0_3 t) fullShare ((dats m O 0 c).before 3 t d))
    ∗ (∃ d, owns (c : Thread nD τ) (ms0_4 t) fullShare ((dats m O 0 c).before 4 t d))
    ∗ (∃ d, owns (c : Thread nD τ) (ms0_5 t) fullShare ((dats m O 0 c).before 5 t d))
    ∗ (∃ d, owns (c : Thread nD τ) (ms0_6 t) fullShare ((dats m O 0 c).before 6 t d))
    ∗ (∃ d, owns (c : Thread nD τ) (ms0_7 t) fullShare ((dats m O 0 c).before 7 t d))
    ∗ (∃ d, owns (c : Thread nD τ) (ms0_8 t) fullShare ((dats m O 0 c).before 8 t d))
    ∗ (∃ d, owns (c : Thread nD τ) (ms0_9 t) fullShare ((dats m O 0 c).before 9 t d))
    ∗ (∃ d, owns (c : Thread nD τ) (ms0_10 t) fullShare ((dats m O 0 c).before 10 t d)))

/-- and what it returns. -/
def bodyPost (c : Dev nD) (t : Fin cfg0.N) : sProp 𝕄 :=
  iprop((dats m O 0 c).Φ t.succ ∗ (dats m O 0 c).owesAt () t.succ
    ∗ owns (c : Thread nD τ) (ms0_0 t) fullShare ((dats m O 0 c).after 0 t)
    ∗ owns (c : Thread nD τ) (ms0_1 t) fullShare ((dats m O 0 c).after 1 t)
    ∗ owns (c : Thread nD τ) (ms0_2 t) fullShare ((dats m O 0 c).after 2 t)
    ∗ owns (c : Thread nD τ) (ms0_3 t) fullShare ((dats m O 0 c).after 3 t)
    ∗ owns (c : Thread nD τ) (ms0_4 t) fullShare ((dats m O 0 c).after 4 t)
    ∗ owns (c : Thread nD τ) (ms0_5 t) fullShare ((dats m O 0 c).after 5 t)
    ∗ owns (c : Thread nD τ) (ms0_6 t) fullShare ((dats m O 0 c).after 6 t)
    ∗ owns (c : Thread nD τ) (ms0_7 t) fullShare ((dats m O 0 c).after 7 t)
    ∗ owns (c : Thread nD τ) (ms0_8 t) fullShare ((dats m O 0 c).after 8 t)
    ∗ owns (c : Thread nD τ) (ms0_9 t) fullShare ((dats m O 0 c).after 9 t)
    ∗ owns (c : Thread nD τ) (ms0_10 t) fullShare ((dats m O 0 c).after 10 t))

set_option maxHeartbeats 4000000 in
/-- The body at any point: from what it is called with to what it returns. -/
theorem sound_body (HB : BodyRuns m O) (c : Dev nD) (t : Fin cfg0.N) :
    bodyPre m O c t ⊢ wp frame (wpE (defs₀ (F := Ideal)) Variants.none c none) Set.univ (bodyAt0 t) (fun _ => bodyPost m O c t) := by
  have hk := fun d8 d9 d10 => HB c t (Own c (ms0_0 t) (ms0_1 t) (ms0_2 t) (ms0_3 t) (ms0_4 t) (ms0_5 t) (ms0_6 t) (ms0_7 t) (ms0_8 t) (ms0_9 t) (ms0_10 t) (iblk m c 0 t) (iblk m c 1 t) (iblk m c 2 t) (iblk m c 3 t) (iblk m c 4 t) (iblk m c 5 t) (iblk m c 6 t) (iblk m c 7 t)) ⟨(dats m O 0 c).before 8 t d8, (dats m O 0 c).before 9 t d9, (dats m O 0 c).before 10 t d10⟩ own_good ⟨d8, rfl⟩ ⟨d9, rfl⟩ ⟨d10, rfl⟩ Set.univ
  unfold Own at hk
  unfold bodyPre bodyPost
  simp only [before0_0, before0_1, before0_2, before0_3, before0_4, before0_5, before0_6, before0_7]
  rw [show (dats m O 0 c).Φ t.succ = (dats m O 0 c).Φ t.castSucc from rfl,
    show (dats m O 0 c).owesAt () t.succ = (dats m O 0 c).owesAt () t.castSucc from rfl,
    after0_0, after0_1, after0_2, after0_3, after0_4, after0_5, after0_6, after0_7, after0_8, after0_9, after0_10]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r frame (wpE (defs₀ (F := Ideal)) Variants.none c none) Set.univ)
  isplitl [H0 H1 H2 H3 H4 H5 H6 H7 H8 H9 H10]
  · iapply (hk d8 d9 d10)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %_ ⟨%z', %hz, HT⟩
    obtain ⟨e8, e9, e10⟩ := hz
    rw [e8, e9, e10]
    icases HT with ⟨H0, H1, H2, H3, H4, H5, H6, H7, H8, H9, H10⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := Ideal) .tc cfg0.body (cfg0.bodyArgs t (cfg0.slots t)) = bodyAt0 t := by
  unfold defs₀; rw [Defs.onTc_tc]

theorem body_obligation (HB : BodyRuns m O) (c : Dev nD) : BodyObligation (dats m O 0 c) (defs₀ (F := Ideal)) Variants.none () Set.univ := fun t => by
  rw [bigSep_W0, bigSep_W0, defs₀_row]
  exact triple_restated (sound_body m O HB c t) rfl .rfl fun _ => .rfl

set_option backward.isDefEq.respectTransparency.types false in
/-- Every run ends with each array at what the data say and every counter at zero. -/
theorem run_main (HB : BodyRuns m O) : θ_run defs (onTc (τ := τ) (main (F := Ideal))) (s₀ m ρ) (fun r => (Pipeline.FramePost cfgs (dats m O) 0 (V m)) r ∧ r.2.sem = fun _ => 0) :=
  Pipeline.θ_run_frame (Q' := _) cfgs (dats m O) (0 : Fin 1) launch0 defs₀ Variants.none m ρ main
    (hbody := fun c => (body_obligation m O HB c).loose) (hshare := fun c => (dats m O 0 c).share_full fun _ => rfl)
    (howed := fun _ _ => rfl) (V := V m) (hmain := hmain m Variants.none) (hA := A_eq m O) (hΦ := fun _ _ => rfl)

end Cert.LossFwdIdeal.Val

end
-- ==== Proof.Gate.lean ====
/-  The logistic gate of the backward and forward bodies: the hyperbolic tangent form and the exponential form agree at
    every extended real. -/
module

public import Idealize.ShloMosaic.Lib.IdealHost
public import Idealize.ShloMosaic.Lib.Pointwise

@[expose] public section

noncomputable section

namespace Cert.Scalars

open Idealize.ShloMosaic

theorem half : Ideal.ofBits FTy.f32 0x3F000000#32 = ((1 / 2 : ℝ) : EReal) := by
  simp [Ideal.ofBits, Ideal.ieee, -EReal.coe_mul]; norm_num

/-- The logistic function. -/
def sig (g : EReal) : EReal := Ideal.div 1 (1 + Ideal.exp (-g))

theorem real_gate (x : ℝ) : 1 / 2 * (Real.tanh (1 / 2 * x) + 1) = 1 / (1 + Real.exp (-x)) := by
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [Real.tanh_eq_sinh_div_cosh, Real.sinh_eq, Real.cosh_eq, h1]
  have p1 := Real.exp_pos (1 / 2 * x)
  have p2 := Real.exp_pos (-(1 / 2 * x))
  generalize Real.exp (1 / 2 * x) = a at *
  generalize Real.exp (-(1 / 2 * x)) = b at *
  rw [div_div_div_cancel_right₀ (by norm_num : (2 : ℝ) ≠ 0), div_add_one (by positivity), one_div, one_div, ← div_eq_inv_mul, div_div, div_eq_iff (by positivity), inv_mul_eq_div,
    eq_div_iff (by positivity)]
  linear_combination (2 * b) * h2

theorem sig_coe (x : ℝ) : sig (x : EReal) = ((1 / (1 + Real.exp (-x)) : ℝ) : EReal) := by
  have hp : 1 + Real.exp (-x) ≠ 0 := by have := Real.exp_pos (-x); positivity
  unfold sig
  rw [← EReal.coe_neg, Ideal.exp_coe, ← EReal.coe_one, ← EReal.coe_add, Ideal.div_coe hp, ← EReal.coe_mul, one_mul]

/-- The gate written with the hyperbolic tangent is the gate written with the exponential. -/
theorem gate (g : EReal) : Ideal.ofBits FTy.f32 0x3F000000#32 * (Ideal.tanh (Ideal.ofBits FTy.f32 0x3F000000#32 * g) + 1) = sig g := by
  rw [half]
  induction g using EReal.rec with
  | bot =>
    rw [EReal.coe_mul_bot_of_pos (by norm_num), Ideal.tanh_bot]
    unfold sig
    rw [EReal.neg_bot, Ideal.exp_top]
    simp [Ideal.div, ← EReal.coe_one, ← EReal.coe_neg, ← EReal.coe_add]
  | top =>
    rw [EReal.coe_mul_top_of_pos (by norm_num), Ideal.tanh_top]
    unfold sig
    rw [EReal.neg_top, Ideal.exp_bot, add_zero, ← EReal.coe_one, ← EReal.coe_add, Ideal.div_coe one_ne_zero, ← EReal.coe_mul, ← EReal.coe_mul]
    norm_num
  | coe x =>
    rw [sig_coe, ← EReal.coe_mul, Ideal.tanh_coe, ← EReal.coe_one, ← EReal.coe_add, ← EReal.coe_mul, real_gate]

end Cert.Scalars

end
-- ==== Proof.LossFwdVal.lean ====
/-  The loss call: each result array after the run is the reference's term. -/
module

public import proofs.«01_k».proof.Proof.LossFwdDat
public import proofs.«01_k».proof.Proof.Gen.LossFwdRefIdeal.Read
public import proofs.«01_k».proof.Proof.Gate
public import proofs.«01_k».proof.Defs
public import Idealize.ShloMosaic.Lib.Claim

@[expose] public section

set_option maxRecDepth 16384

noncomputable section

namespace Cert.LossFwdIdeal.Val

open Cert.LossFwdIdeal Cert.LossFwdIdeal.Gen
open Idealize.ShloMosaic Idealize.ShloMosaic.TcCoe Idealize.SL.Sem
open Idealize.ShloMosaic.Pipeline (Dat)
open Runs

variable (m : (ℓ : Loc nD τ sig) → Buf (Elt Ideal) ℓ)

theorem idx : ∀ t : Fin cfg0.N, win0_0.index t = ![0, t.val, 0] ∧ win0_1.index t = ![0, t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![0, 0] :=
  (by decide +kernel : ∀ t : Fin grid0.N, _)

-- the argument arrays
abbrev ax (c : Dev nD) : FVec Ideal S8192x1024 .f32 := m ((c : Thread nD τ).loc main_arg0)
abbrev ay (c : Dev nD) : FVec Ideal S8192x2048 .f32 := m ((c : Thread nD τ).loc main_arg1)
abbrev ag (c : Dev nD) : FVec Ideal S8192x2048 .f32 := m ((c : Thread nD τ).loc main_arg2)
abbrev agt (c : Dev nD) : FVec Ideal S1x1024 .f32 := m ((c : Thread nD τ).loc main_arg3)
abbrev aw (c : Dev nD) : FVec Ideal S2048x1024 .f32 := m ((c : Thread nD τ).loc main_arg4)
abbrev alg (c : Dev nD) : FVec Ideal S1024 .f32 := m ((c : Thread nD τ).loc main_arg5)
abbrev alb (c : Dev nD) : FVec Ideal S1024 .f32 := m ((c : Thread nD τ).loc main_arg6)
abbrev atg (c : Dev nD) : FVec Ideal S8192x1024 .f32 := m ((c : Thread nD τ).loc main_arg7)

open Cert.LossFwdRefIdeal.Read

theorem pcs_at (x1 x2 : Vec Ideal S16x512x128 .bf16) (r : Fin 512) (k : Fin 2048) :
    concatenate S512x2048 1 (pcs x1 x2) (pcs_ok x1 x2) (ix2 r k)
      = k0_pay4 (F := Ideal) (ch x1 ⟨k.val / 128, by omega⟩) (ch x2 ⟨k.val / 128, by omega⟩) (ix2 r ⟨k.val % 128, Nat.mod_lt _ (by decide)⟩) := by
  refine concatenate_ofFn_apply (t := S512x2048) (s₁ := S512x128) 1 (fun k : Fin 16 => k0_pay4 (F := Ideal) (ch x1 k) (ch x2 k)) (pcs_ok x1 x2) rfl 128 rfl (ix2 r k) ⟨k.val / 128, by omega⟩ rfl
    (ix2 r ⟨k.val % 128, Nat.mod_lt _ (by decide)⟩) rfl fun b hb => ?_
  match b with
  | ⟨0, _⟩ => rfl
  | ⟨1, _⟩ => exact absurd rfl hb

theorem br_at (x1 x2 : Vec Ideal S16x512x128 .bf16) (x5 : Vec Ideal S2048x1024 .bf16) (r : Fin 512) (j : Fin 1024) :
    br x1 x2 x5 (ix2 r j) = ∑ k : Fin 2048, x1 (ix3 ⟨k.val / 128, by omega⟩ r ⟨k.val % 128, Nat.mod_lt _ (by decide)⟩)
      * (x2 (ix3 ⟨k.val / 128, by omega⟩ r ⟨k.val % 128, Nat.mod_lt _ (by decide)⟩) * Ideal.div (Ideal.ofBits FTy.f32 0x3F800000#32)
        (Ideal.ofBits FTy.f32 0x3F800000#32 + Ideal.exp (-x2 (ix3 ⟨k.val / 128, by omega⟩ r ⟨k.val % 128, Nat.mod_lt _ (by decide)⟩)))) * x5 (ix2 k j) := by
  have hp := pcs_at x1 x2
  unfold br
  generalize concatenate S512x2048 1 (pcs x1 x2) (pcs_ok x1 x2) = Y at hp
  pointwise
  refine Finset.sum_congr rfl fun k _ => ?_
  rw [hp]
  have hg := Cert.Scalars.gate (x2 (ix3 ⟨k.val / 128, by omega⟩ r ⟨k.val % 128, Nat.mod_lt _ (by decide)⟩))
  pointwise [k0_pay4]
  show x1 _ * (x2 _ * (_ * (Ideal.tanh (_ * x2 _) + 1))) * _ = _
  exact congrArg (fun g => x1 (ix3 ⟨k.val / 128, by omega⟩ r ⟨k.val % 128, Nat.mod_lt _ (by decide)⟩)
    * (x2 (ix3 ⟨k.val / 128, by omega⟩ r ⟨k.val % 128, Nat.mod_lt _ (by decide)⟩) * g) * x5 (ix2 k j)) hg

theorem br_eq (c : Dev nD) (t : Fin cfg0.N) (r : Fin 512) (j : Fin 1024) (R : Fin 8192) (hR : R.val = 512 * t.val + r.val) :
    br (iblk m c 0 t) (iblk m c 1 t) (iblk m c 4 t) (ix2 r j) = val_main_v2 (F := Ideal) (ay m c) (ag m c) (aw m c) (ix2 R j) := by
  rw [br_at]
  pointwise [val_main_v2, val_main_v1, val_main_v0, val_main_call0_v5, val_main_call0_v4, val_main_call0_v3, val_main_call0_v2, val_main_call0_v1, val_main_call0_v0, val_main_call0_cst, val_main_call0_cst_0]
  refine Finset.sum_congr rfl fun k _ => ?_
  blk_point [iblk, V, idx t]

theorem er_eq (c : Dev nD) (t : Fin cfg0.N) (r : Fin 512) (j : Fin 1024) (R : Fin 8192) (hR : R.val = 512 * t.val + r.val)
    (B : Vec Ideal S512x1024 .f32) (hB : ∀ j, B (ix2 r j) = val_main_v2 (F := Ideal) (ay m c) (ag m c) (aw m c) (ix2 R j)) :
    er (iblk m c 2 t) (iblk m c 3 t) B (iblk m c 5 t) (iblk m c 6 t) (iblk m c 7 t) r j
      = val_main_v32 (F := Ideal) (ax m c) (ay m c) (ag m c) (agt m c) (aw m c) (alg m c) (alb m c) (atg m c) (ix2 R j) := by
  have hx : ∀ y, (iblk m c 2 t : FVec Ideal S512x1024 .f32) (ix2 r y) = ax m c (ix2 R y) := fun y => by blk_ext [iblk, V, idx t]
  have htg : ∀ y, (iblk m c 7 t : FVec Ideal S512x1024 .f32) (ix2 r y) = atg m c (ix2 R y) := fun y => by blk_ext [iblk, V, idx t]
  have hgt : ∀ y, (iblk m c 3 t : FVec Ideal S1x1024 .f32) (ix2 0 y) = agt m c (ix2 0 y) := fun y => by blk_ext [iblk, V, idx t]
  have hlg : ∀ y, (iblk m c 5 t : FVec Ideal S1x1024 .f32) (ix2 0 y) = alg m c (ix1 y) := fun y => by blk_point [iblk, V, idx t]
  have hlb : ∀ y, (iblk m c 6 t : FVec Ideal S1x1024 .f32) (ix2 0 y) = alb m c (ix1 y) := fun y => by blk_point [iblk, V, idx t]
  unfold er
  simp only [hB]
  generalize hv : val_main_v2 (F := Ideal) (ay m c) (ag m c) (aw m c) = v
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4]
  simp only [hx, hgt, hlg, hlb, htg]
  subst hv
  rfl

/-- The reference's error, row by row. -/
abbrev E (c : Dev nD) : Fin 8192 → Fin 1024 → EReal := fun R j =>
  val_main_v32 (F := Ideal) (ax m c) (ay m c) (ag m c) (agt m c) (aw m c) (alg m c) (alb m c) (atg m c) (ix2 R j)

theorem row_lt (t : Fin cfg0.N) (r : Fin 512) : 512 * t.val + r.val < 8192 := by
  have := t.isLt; have hN : cfg0.N = 16 := N_0; omega

/-- What the body leaves in its three outputs at point t. -/
def O (c : Dev nD) (t : Fin cfg0.N) : State :=
  ⟨br (iblk m c 0 t) (iblk m c 1 t) (iblk m c 4 t),
   fun i => E m c ⟨512 * t.val + (i 0).val, row_lt t (i 0)⟩ (i 1) * Ideal.ofBits FTy.f32 0x3A800000#32,
   fun i => ∑ n ∈ Finset.range (512 * (t.val + 1)), sq (E m c) (i 1) n⟩

theorem er_E (c : Dev nD) (t : Fin cfg0.N) (r : Fin 512) (j : Fin 1024) :
    er (iblk m c 2 t) (iblk m c 3 t) (br (iblk m c 0 t) (iblk m c 1 t) (iblk m c 4 t)) (iblk m c 5 t) (iblk m c 6 t) (iblk m c 7 t) r j
      = E m c ⟨512 * t.val + r.val, row_lt t r⟩ j :=
  er_eq m c t r j _ rfl _ fun j => br_eq m c t r j _ rfl

theorem sq_er (c : Dev nD) (t : Fin cfg0.N) (l : Fin 128) (n : ℕ) (hn : n < 512) :
    sq (er (iblk m c 2 t) (iblk m c 3 t) (br (iblk m c 0 t) (iblk m c 1 t) (iblk m c 4 t)) (iblk m c 5 t) (iblk m c 6 t) (iblk m c 7 t)) l n
      = sq (E m c) l (512 * t.val + n) := by
  unfold sq
  rw [dif_pos hn, dif_pos (row_lt t ⟨n, hn⟩)]
  simp only [er_E]

theorem body_runs : BodyRuns m (O m) := by
  intro c t R z hG _ _ hz
  have hN : t.val < 16 := lt_of_lt_of_eq t.isLt (show cfg0.N = 16 from N_0)
  refine Does.mono (body (i := grid0.coords t) hG z (fun l => ∑ n ∈ Finset.range (512 * t.val), sq (E m c) l n) (fun h l => ?_) (fun h l => ?_)) fun _ z' hz' => ?_
  · have : t.val = 0 := by have := (hcond0_0 t).mp h; omega
    rw [this]; rfl
  · have h0 : ¬ t.val % 16 = 0 := fun h' => h ((hcond0_0 t).mpr h')
    obtain ⟨d, hd⟩ := hz
    rw [hd, Dat.before_out_kept _ 10 rfl t (by omega) (Bool.eq_false_iff.mpr fun h => by have := (flush0_10 _).mp h; dsimp only at this; omega)
      (fun _ => rfl) (fun _ _ => rfl), after0_10]
    show ∑ n ∈ Finset.range (512 * (t.val - 1 + 1)), sq (E m c) l n = _
    rw [Nat.sub_add_cancel (by omega)]
  · obtain ⟨e9, e10, e11⟩ := hz'
    have h10 : ∀ (r : Fin 512) (j : Fin 1024), z'.o10 (ix2 r j) = (O m c t).o10 (ix2 r j) := fun r j => by
      rw [e10 r j r.isLt, er_E]; rfl
    have h11 : ∀ l : Fin 128, z'.o11 (ix2 0 l) = (O m c t).o11 (ix2 0 l) := fun l => by
      rw [e11]
      show _ = ∑ n ∈ Finset.range (512 * (t.val + 1)), sq (E m c) l n
      rw [Nat.mul_add, Finset.sum_range_add]
      exact congrArg₂ (· + ·) rfl (Finset.sum_congr rfl fun n hn => sq_er m c t _ n (Finset.mem_range.mp hn))
    refine ⟨e9, funext fun i => ?_, funext fun i => ?_⟩
    · exact (congrArg z'.o10 (eq_ix2 i)).trans ((h10 _ _).trans (congrArg (O m c t).o10 (eq_ix2 i)).symm)
    · have hi : i = ix2 0 (i 1) := (eq_ix2 i).trans (congrArg (fun a : Fin 1 => ix2 a (i 1)) (Subsingleton.elim _ _))
      exact (congrArg z'.o11 hi).trans ((h11 _).trans (congrArg (O m c t).o11 hi).symm)

/-- An index of the array is its row and its column. -/
theorem at_row (t : Fin cfg0.N) (i : S8192x1024.Idx) (r : Fin 512) (j : Fin 1024) (h0 : (i 0).val = 512 * t.val + r.val) (h1 : (i 1).val = j.val) :
    i = ix2 ⟨512 * t.val + r.val, row_lt t r⟩ j :=
  (eq_ix2 i).trans (congrArg₂ (fun (a : Fin 8192) (b : Fin 1024) => ix2 a b) (Fin.ext h0) (Fin.ext h1))

theorem final8 (c : Dev nD) : (dats m (O m) 0 c).arrAt 8 (cfgs 0).N = val_main_v2 (F := Ideal) (ay m c) (ag m c) (aw m c) := by
  refine (dats m (O m) 0 c).arrAt_eq_of_covers 8 _ (by decide +kernel) fun t hf y => ?_
  have he := at_row t (((View.whole main_v9_0).slice (win0_8.rect t)).emb y) (y 0) (y 1) (by blk_simp [idx t] <;> try omega) (by blk_simp [idx t] <;> try omega)
  blk_simp
  rw [after0_8]
  exact ((congrArg (O m c t).o9 (eq_ix2 y)).trans (br_eq m c t (y 0) (y 1) _ rfl)).trans (congrArg (val_main_v2 (F := Ideal) (ay m c) (ag m c) (aw m c)) he.symm)

theorem scale (e : EReal) : e * Ideal.ofBits FTy.f32 0x3A800000#32
    = Ideal.div (Ideal.ofBits FTy.f32 0x3F000000#32) (Ideal.ofBits FTy.f32 0x44800000#32) * (Ideal.ofBits FTy.f32 0x40000000#32 * e) := by
  rw [Cert.Scalars.half, show Ideal.ofBits FTy.f32 0x3A800000#32 = ((1 / 1024 : ℝ) : EReal) by simp [Ideal.ofBits, Ideal.ieee, -EReal.coe_mul]; norm_num,
    show Ideal.ofBits FTy.f32 0x44800000#32 = ((1024 : ℝ) : EReal) by simp [Ideal.ofBits, Ideal.ieee, -EReal.coe_mul]; norm_num,
    show Ideal.ofBits FTy.f32 0x40000000#32 = ((2 : ℝ) : EReal) by simp [Ideal.ofBits, Ideal.ieee, -EReal.coe_mul]; norm_num,
    Ideal.div_coe (by norm_num), ← mul_assoc, ← EReal.coe_mul, ← EReal.coe_mul, mul_comm]
  norm_num

theorem final9 (c : Dev nD) : (dats m (O m) 0 c).arrAt 9 (cfgs 0).N
    = val_main_v46 (F := Ideal) (ax m c) (ay m c) (ag m c) (agt m c) (aw m c) (alg m c) (alb m c) (atg m c) := by
  refine (dats m (O m) 0 c).arrAt_eq_of_covers 9 _ (by decide +kernel) fun t hf y => ?_
  have he := at_row t (((View.whole main_v9_1).slice (win0_9.rect t)).emb y) (y 0) (y 1) (by blk_simp [idx t] <;> try omega) (by blk_simp [idx t] <;> try omega)
  blk_simp
  rw [after0_9]
  refine Eq.trans ?_ (congrArg (val_main_v46 (F := Ideal) (ax m c) (ay m c) (ag m c) (agt m c) (aw m c) (alg m c) (alb m c) (atg m c)) he.symm)
  show E m c ⟨512 * t.val + (y 0).val, row_lt t (y 0)⟩ (y 1) * Ideal.ofBits FTy.f32 0x3A800000#32 = _
  unfold E
  generalize (⟨512 * t.val + (y 0).val, row_lt t (y 0)⟩ : Fin 8192) = R
  pointwise [val_main_v46, val_main_v45, val_main_v44, val_main_v43, val_main_v42, val_main_v41, val_main_v35, val_main_v34, val_main_v33, val_main_cst_10, val_main_cst_11, val_main_cst_12, val_main_cst_5]
  exact scale _

/-- A host sum over the first two axes of three, index by index. -/
theorem sum01 {n0 n1 n2 : ℕ} (h : (⟨3, ![n0, n1, n2]⟩ : Shape).ReducesTo [0, 1] ⟨1, ![n2]⟩) (v : (⟨3, ![n0, n1, n2]⟩ : Shape).Idx → EReal) (d : EReal) (l : Fin n2) :
    Ideal.hostReduceAdd h v d (ix1 l) = d + ∑ a : Fin n0, ∑ b : Fin n1, v (ix3 a b l) := by
  refine congrArg (d + ·) ?_
  refine (Finset.sum_filter_eq_sum_of_fiber _ (fun k : Fin n0 × Fin n1 => (ix3 k.1 k.2 l : (⟨3, ![n0, n1, n2]⟩ : Shape).Idx))
    (fun _ _ e => Prod.ext (congrFun e 0) (congrFun e 1)) (fun i => ⟨fun e => ⟨(i 0, i 1), ?_⟩, ?_⟩) v).trans ?_
  · funext b
    match b with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => rfl
  · simp only [Fintype.sum_prod_type]

theorem lanes (c : Dev nD) (l : Fin 128) : ∑ n ∈ Finset.range 8192, sq (E m c) l n
    = val_main_v51 (F := Ideal) (ax m c) (ay m c) (ag m c) (agt m c) (aw m c) (alg m c) (alb m c) (atg m c) (ix2 0 l) := by
  pointwise [val_main_v51, val_main_v50, val_main_cst_13]
  refine Eq.trans ?_ (sum01 _ _ _ l).symm
  rw [zero_add, Finset.sum_range]
  refine Finset.sum_congr rfl fun n _ => ?_
  unfold sq
  rw [dif_pos n.isLt]
  refine Finset.sum_congr rfl fun q _ => ?_
  have hq : ∀ h : 128 * q.val + l.val < 1024, val_main_v49 (F := Ideal) (ax m c) (ay m c) (ag m c) (agt m c) (aw m c) (alg m c) (alb m c) (atg m c) (ix3 n q l)
      = E m c n ⟨128 * q.val + l.val, h⟩ * E m c n ⟨128 * q.val + l.val, h⟩ := fun h => by
    rw [val_main_v49_apply]
    have hi : idx_main_v49 (ix3 n q l) = ix2 n ⟨128 * q.val + l.val, h⟩ := by
      refine (eq_ix2 _).trans (congrArg₂ (fun (a : Fin 8192) (b : Fin 1024) => ix2 a b) (Fin.ext ?_) (Fin.ext ?_))
      · show ((n.val * 8 + q.val) * 128 + l.val) / 1024 = n.val; omega
      · show ((n.val * 8 + q.val) * 128 + l.val) % 1024 = 128 * q.val + l.val; omega
    rw [hi]
    rfl
  exact (hq _).symm

theorem final10 (c : Dev nD) : (dats m (O m) 0 c).arrAt 10 (cfgs 0).N
    = val_main_v51 (F := Ideal) (ax m c) (ay m c) (ag m c) (agt m c) (aw m c) (alg m c) (alb m c) (atg m c) := by
  refine (dats m (O m) 0 c).arrAt_eq_of_after_last 10 t0_15 (by decide +kernel) _ fun j => ?_
  blk_simp
  rw [after0_10]
  have hi : j = ix2 0 (j 1) := (eq_ix2 j).trans (congrArg (fun a : Fin 1 => ix2 a (j 1)) (Subsingleton.elim _ _))
  exact (lanes m c (j 1)).trans (congrArg (val_main_v51 (F := Ideal) (ax m c) (ay m c) (ag m c) (agt m c) (aw m c) (alg m c) (alb m c) (atg m c)) hi.symm)

theorem algebraic : Cert.algebraic_LossFwdIdeal_LossFwdRefIdeal := by
  pair_intro
  case refine_1 => exact fun c => val_main_v2 (F := Ideal) (ay m c) (ag m c) (aw m c)
  case refine_2.refine_1 => exact fun c => val_main_v46 (F := Ideal) (ax m c) (ay m c) (ag m c) (agt m c) (aw m c) (alg m c) (alb m c) (atg m c)
  case refine_2.refine_2.refine_1 => exact fun c => val_main_v51 (F := Ideal) (ax m c) (ay m c) (ag m c) (agt m c) (aw m c) (alg m c) (alb m c) (atg m c)
  · refine (θ_run defs _ _).mono (fun r h c => ?_) (run_main m g (O m) (body_runs m))
    exact ⟨((h.1 c).1 8).trans (final8 m c),
      ((h.1 c).1 9).trans (final9 m c),
      ((h.1 c).1 10).trans (final10 m c),
      ((h.1 c).1 2).trans (((dats m (O m) 0 c).arrAt_in 2 rfl _).trans ((A_eq m (O m) c 2).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m (O m) 0 c).arrAt_in 3 rfl _).trans ((A_eq m (O m) c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).1 7).trans (((dats m (O m) 0 c).arrAt_in 7 rfl _).trans ((A_eq m (O m) c 7).trans (V_main_arg7 m c)))⟩
  · refine (θ_run Cert.LossFwdRefIdeal.defs _ _).mono (fun r h c => ?_) (Cert.LossFwdRefIdeal.Value.run m' g')
    obtain ⟨h0, h1, h2, rest⟩ := h c
    obtain ⟨e0, e1, e2, e3, e4, e5, e6, e7⟩ := hagree c
    exact ⟨h0.trans ((Cert.LossFwdRefIdeal.Read.val_main_v2_eq (F := Ideal) (m' ((c : Thread Cert.LossFwdRefIdeal.nD Cert.LossFwdRefIdeal.τ).loc Cert.LossFwdRefIdeal.main_arg1)) (m' ((c : Thread Cert.LossFwdRefIdeal.nD Cert.LossFwdRefIdeal.τ).loc Cert.LossFwdRefIdeal.main_arg2)) (m' ((c : Thread Cert.LossFwdRefIdeal.nD Cert.LossFwdRefIdeal.τ).loc Cert.LossFwdRefIdeal.main_arg4))).trans (by rw [e1, e2, e4])),
      h1.trans ((Cert.LossFwdRefIdeal.Read.val_main_v46_eq (F := Ideal) m' c).trans (by rw [e0, e1, e2, e3, e4, e5, e6, e7])),
      h2.trans ((Cert.LossFwdRefIdeal.Read.val_main_v51_eq (F := Ideal) m' c).trans (by rw [e0, e1, e2, e3, e4, e5, e6, e7])),
      rest⟩

end Cert.LossFwdIdeal.Val

end
-- ==== Proof.OutBwdKeep.lean ====
module

public import proofs.«01_k».proof.Proof.Gen.OutBwdIdeal.Frame
public import proofs.«01_k».proof.Proof.Gen.OutBwdIdeal.Skeleton
public import proofs.«01_k».proof.Proof.Keeps

@[expose] public section

set_option maxRecDepth 65536
set_option maxHeartbeats 4000000

/-!
The body of the kernel of OutBwdIdeal only loads and stores: from memrefs it may read and memrefs it may write it runs to the
same ownership, whatever they hold. One step of the text below per load, store, loop and part of the printed body.
-/

noncomputable section

namespace Cert.OutBwdIdeal.Hand

open Cert.OutBwdIdeal Cert.OutBwdIdeal.Gen Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
variable {arg1 arg2 arg3 : Memref sig .tc .vmem S256x1024 .f32} {arg4 arg5 : Memref sig .tc .vmem S16x256x128 .bf16} {arg6 arg7 : Memref sig .tc .vmem S1x1024 .f32} {arg8 : Memref sig .tc .vmem S2048x1024 .bf16} {arg9 : Memref sig .tc .vmem S16x256x128 .f32} {arg10 : Memref sig .tc .vmem S256x2048 .bf16} {arg11 : Memref sig .tc .vmem S256x1024 .f32} {arg12 : Memref sig .tc .vmem S256x1024 .bf16} {arg13 arg14 arg15 : Memref sig .tc .vmem S1x1024 .f32}

/-- What the body needs of the ownership it runs from: every memref lent for reading, those it writes for writing. -/
structure Good (c : Dev nD) (R : sProp 𝕄) (arg1 arg2 arg3 : Memref sig .tc .vmem S256x1024 .f32) (arg4 arg5 : Memref sig .tc .vmem S16x256x128 .bf16) (arg6 arg7 : Memref sig .tc .vmem S1x1024 .f32) (arg8 : Memref sig .tc .vmem S2048x1024 .bf16) (arg9 : Memref sig .tc .vmem S16x256x128 .f32) (arg10 : Memref sig .tc .vmem S256x2048 .bf16) (arg11 : Memref sig .tc .vmem S256x1024 .f32) (arg12 : Memref sig .tc .vmem S256x1024 .bf16) (arg13 arg14 arg15 : Memref sig .tc .vmem S1x1024 .f32) : Prop where
  r1 : Reads (c : Thread nD τ) R arg1
  r2 : Reads (c : Thread nD τ) R arg2
  r3 : Reads (c : Thread nD τ) R arg3
  r4 : Reads (c : Thread nD τ) R arg4
  r5 : Reads (c : Thread nD τ) R arg5
  r6 : Reads (c : Thread nD τ) R arg6
  r7 : Reads (c : Thread nD τ) R arg7
  r8 : Reads (c : Thread nD τ) R arg8
  r9 : Reads (c : Thread nD τ) R arg9
  r10 : Reads (c : Thread nD τ) R arg10
  r11 : Reads (c : Thread nD τ) R arg11
  r12 : Reads (c : Thread nD τ) R arg12
  r13 : Reads (c : Thread nD τ) R arg13
  r14 : Reads (c : Thread nD τ) R arg14
  r15 : Reads (c : Thread nD τ) R arg15
  w9 : Writes (c : Thread nD τ) R arg9
  w10 : Writes (c : Thread nD τ) R arg10
  w11 : Writes (c : Thread nD τ) R arg11
  w12 : Writes (c : Thread nD τ) R arg12
  w13 : Writes (c : Thread nD τ) R arg13
  w14 : Writes (c : Thread nD τ) R arg14
  w15 : Writes (c : Thread nD τ) R arg15

variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole}

theorem kp_k0_t1 {R : sProp 𝕄} (hG : Good c R arg1 arg2 arg3 arg4 arg5 arg6 arg7 arg8 arg9 arg10 arg11 arg12 arg13 arg14 arg15)  :
    ∀ kk acc, Keeps (defs₀ (F := F)) (c : Thread nD τ) R (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15  kk acc) := by
  obtain ⟨r1, r2, r3, r4, r5, r6, r7, r8, r9, r10, r11, r12, r13, r14, r15, w9, w10, w11, w12, w13, w14, w15⟩ := id hG
  intro kk acc
  unfold k0_t1_body
  refine Keeps.bind ?_ fun _ => ?_
  · rw [k0_part1_eq_skeleton]; unfold k0_part1_skel
    refine Keeps.bind (Keeps.load r1) fun _ => ?_
    refine Keeps.bind (Keeps.load r3) fun _ => ?_
    refine Keeps.bind (Keeps.load r2) fun _ => ?_
    refine Keeps.bind (Keeps.load r6) fun _ => ?_
    refine Keeps.bind (Keeps.load r7) fun _ => ?_
    exact Keeps.pure _
  refine Keeps.bind ?_ fun _ => ?_
  · rw [k0_part2_eq_skeleton]; unfold k0_part2_skel
    refine Keeps.bind (Keeps.load r13) fun _ => ?_
    refine Keeps.bind (Keeps.load r13) fun _ => ?_
    refine Keeps.bind (Keeps.store w13) fun _ => ?_
    refine Keeps.bind (Keeps.load r14) fun _ => ?_
    refine Keeps.bind (Keeps.load r14) fun _ => ?_
    refine Keeps.bind (Keeps.store w14) fun _ => ?_
    refine Keeps.bind (Keeps.load r15) fun _ => ?_
    refine Keeps.bind (Keeps.load r15) fun _ => ?_
    refine Keeps.bind (Keeps.store w15) fun _ => ?_
    refine Keeps.bind (Keeps.load r11) fun _ => ?_
    refine Keeps.bind (Keeps.store w11) fun _ => ?_
    refine Keeps.bind (Keeps.load r6) fun _ => ?_
    exact Keeps.pure _
  refine Keeps.bind (Keeps.load r12) fun _ => ?_
  refine Keeps.bind (Keeps.store w12) fun _ => ?_
  exact Keeps.pure _

theorem kp_k0_part15 {R : sProp 𝕄} (hG : Good c R arg1 arg2 arg3 arg4 arg5 arg6 arg7 arg8 arg9 arg10 arg11 arg12 arg13 arg14 arg15)  :
    Keeps (defs₀ (F := F)) (c : Thread nD τ) R (k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 ) := by
  obtain ⟨r1, r2, r3, r4, r5, r6, r7, r8, r9, r10, r11, r12, r13, r14, r15, w9, w10, w11, w12, w13, w14, w15⟩ := id hG
  rw [k0_part15_eq_skeleton]; unfold k0_part15_skel
  refine Keeps.bind ?_ fun _ => ?_
  · rw [k0_part3_eq_skeleton]; unfold k0_part3_skel
    dsimp only
    refine Keeps.dite (fun _ => ?_) (fun _ => ?_)
    · refine Keeps.bind (Keeps.load r13) fun _ => ?_
      refine Keeps.bind (Keeps.store w13) fun _ => ?_
      refine Keeps.bind (Keeps.load r14) fun _ => ?_
      refine Keeps.bind (Keeps.store w14) fun _ => ?_
      refine Keeps.bind (Keeps.load r15) fun _ => ?_
      refine Keeps.bind (Keeps.store w15) fun _ => ?_
      refine Keeps.bind (Keeps.loop (kp_k0_t1 (F := F) hG)) fun _ => ?_
      refine Keeps.bind (Keeps.load r12) fun _ => ?_
      refine Keeps.bind (Keeps.load r8) fun _ => ?_
      refine Keeps.bind (Keeps.load r5) fun _ => ?_
      refine Keeps.bind (Keeps.load r9) fun _ => ?_
      refine Keeps.bind (Keeps.store w9) fun _ => ?_
      refine Keeps.bind (Keeps.load r4) fun _ => ?_
      exact Keeps.pure _
    · refine Keeps.bind (Keeps.loop (kp_k0_t1 (F := F) hG)) fun _ => ?_
      refine Keeps.bind (Keeps.load r12) fun _ => ?_
      refine Keeps.bind (Keeps.load r8) fun _ => ?_
      refine Keeps.bind (Keeps.load r5) fun _ => ?_
      refine Keeps.bind (Keeps.load r9) fun _ => ?_
      refine Keeps.bind (Keeps.store w9) fun _ => ?_
      refine Keeps.bind (Keeps.load r4) fun _ => ?_
      exact Keeps.pure _
  refine Keeps.bind ?_ fun _ => ?_
  · rw [k0_part4_eq_skeleton]; unfold k0_part4_skel
    refine Keeps.bind (Keeps.load r10) fun _ => ?_
    refine Keeps.bind (Keeps.store w10) fun _ => ?_
    refine Keeps.bind (Keeps.load r5) fun _ => ?_
    refine Keeps.bind (Keeps.load r9) fun _ => ?_
    refine Keeps.bind (Keeps.store w9) fun _ => ?_
    refine Keeps.bind (Keeps.load r4) fun _ => ?_
    refine Keeps.bind (Keeps.load r10) fun _ => ?_
    refine Keeps.bind (Keeps.store w10) fun _ => ?_
    exact Keeps.pure _
  refine Keeps.bind ?_ fun _ => ?_
  · rw [k0_part5_eq_skeleton]; unfold k0_part5_skel
    refine Keeps.bind (Keeps.load r5) fun _ => ?_
    refine Keeps.bind (Keeps.load r9) fun _ => ?_
    refine Keeps.bind (Keeps.store w9) fun _ => ?_
    refine Keeps.bind (Keeps.load r4) fun _ => ?_
    refine Keeps.bind (Keeps.load r10) fun _ => ?_
    refine Keeps.bind (Keeps.store w10) fun _ => ?_
    refine Keeps.bind (Keeps.load r5) fun _ => ?_
    exact Keeps.pure _
  refine Keeps.bind ?_ fun _ => ?_
  · rw [k0_part6_eq_skeleton]; unfold k0_part6_skel
    refine Keeps.bind (Keeps.load r9) fun _ => ?_
    refine Keeps.bind (Keeps.store w9) fun _ => ?_
    refine Keeps.bind (Keeps.load r4) fun _ => ?_
    refine Keeps.bind (Keeps.load r10) fun _ => ?_
    refine Keeps.bind (Keeps.store w10) fun _ => ?_
    refine Keeps.bind (Keeps.load r5) fun _ => ?_
    refine Keeps.bind (Keeps.load r9) fun _ => ?_
    refine Keeps.bind (Keeps.store w9) fun _ => ?_
    exact Keeps.pure _
  refine Keeps.bind ?_ fun _ => ?_
  · rw [k0_part7_eq_skeleton]; unfold k0_part7_skel
    refine Keeps.bind (Keeps.load r4) fun _ => ?_
    refine Keeps.bind (Keeps.load r10) fun _ => ?_
    refine Keeps.bind (Keeps.store w10) fun _ => ?_
    refine Keeps.bind (Keeps.load r5) fun _ => ?_
    refine Keeps.bind (Keeps.load r9) fun _ => ?_
    refine Keeps.bind (Keeps.store w9) fun _ => ?_
    refine Keeps.bind (Keeps.load r4) fun _ => ?_
    exact Keeps.pure _
  refine Keeps.bind ?_ fun _ => ?_
  · rw [k0_part8_eq_skeleton]; unfold k0_part8_skel
    refine Keeps.bind (Keeps.load r10) fun _ => ?_
    refine Keeps.bind (Keeps.store w10) fun _ => ?_
    refine Keeps.bind (Keeps.load r5) fun _ => ?_
    refine Keeps.bind (Keeps.load r9) fun _ => ?_
    refine Keeps.bind (Keeps.store w9) fun _ => ?_
    refine Keeps.bind (Keeps.load r4) fun _ => ?_
    refine Keeps.bind (Keeps.load r10) fun _ => ?_
    refine Keeps.bind (Keeps.store w10) fun _ => ?_
    refine Keeps.bind (Keeps.load r5) fun _ => ?_
    exact Keeps.pure _
  refine Keeps.bind ?_ fun _ => ?_
  · rw [k0_part9_eq_skeleton]; unfold k0_part9_skel
    refine Keeps.bind (Keeps.load r9) fun _ => ?_
    refine Keeps.bind (Keeps.store w9) fun _ => ?_
    refine Keeps.bind (Keeps.load r4) fun _ => ?_
    refine Keeps.bind (Keeps.load r10) fun _ => ?_
    refine Keeps.bind (Keeps.store w10) fun _ => ?_
    refine Keeps.bind (Keeps.load r5) fun _ => ?_
    exact Keeps.pure _
  refine Keeps.bind ?_ fun _ => ?_
  · rw [k0_part10_eq_skeleton]; unfold k0_part10_skel
    refine Keeps.bind (Keeps.load r9) fun _ => ?_
    refine Keeps.bind (Keeps.store w9) fun _ => ?_
    refine Keeps.bind (Keeps.load r4) fun _ => ?_
    refine Keeps.bind (Keeps.load r10) fun _ => ?_
    refine Keeps.bind (Keeps.store w10) fun _ => ?_
    refine Keeps.bind (Keeps.load r5) fun _ => ?_
    refine Keeps.bind (Keeps.load r9) fun _ => ?_
    refine Keeps.bind (Keeps.store w9) fun _ => ?_
    refine Keeps.bind (Keeps.load r4) fun _ => ?_
    exact Keeps.pure _
  refine Keeps.bind ?_ fun _ => ?_
  · rw [k0_part11_eq_skeleton]; unfold k0_part11_skel
    refine Keeps.bind (Keeps.load r10) fun _ => ?_
    refine Keeps.bind (Keeps.store w10) fun _ => ?_
    refine Keeps.bind (Keeps.load r5) fun _ => ?_
    refine Keeps.bind (Keeps.load r9) fun _ => ?_
    refine Keeps.bind (Keeps.store w9) fun _ => ?_
    refine Keeps.bind (Keeps.load r4) fun _ => ?_
    refine Keeps.bind (Keeps.load r10) fun _ => ?_
    refine Keeps.bind (Keeps.store w10) fun _ => ?_
    exact Keeps.pure _
  refine Keeps.bind ?_ fun _ => ?_
  · rw [k0_part12_eq_skeleton]; unfold k0_part12_skel
    refine Keeps.bind (Keeps.load r5) fun _ => ?_
    refine Keeps.bind (Keeps.load r9) fun _ => ?_
    refine Keeps.bind (Keeps.store w9) fun _ => ?_
    refine Keeps.bind (Keeps.load r4) fun _ => ?_
    refine Keeps.bind (Keeps.load r10) fun _ => ?_
    refine Keeps.bind (Keeps.store w10) fun _ => ?_
    refine Keeps.bind (Keeps.load r5) fun _ => ?_
    exact Keeps.pure _
  refine Keeps.bind ?_ fun _ => ?_
  · rw [k0_part13_eq_skeleton]; unfold k0_part13_skel
    refine Keeps.bind (Keeps.load r9) fun _ => ?_
    refine Keeps.bind (Keeps.store w9) fun _ => ?_
    refine Keeps.bind (Keeps.load r4) fun _ => ?_
    refine Keeps.bind (Keeps.load r10) fun _ => ?_
    refine Keeps.bind (Keeps.store w10) fun _ => ?_
    refine Keeps.bind (Keeps.load r5) fun _ => ?_
    refine Keeps.bind (Keeps.load r9) fun _ => ?_
    refine Keeps.bind (Keeps.store w9) fun _ => ?_
    exact Keeps.pure _
  refine Keeps.bind ?_ fun _ => ?_
  · rw [k0_part14_eq_skeleton]; unfold k0_part14_skel
    refine Keeps.bind (Keeps.load r4) fun _ => ?_
    refine Keeps.bind (Keeps.load r10) fun _ => ?_
    refine Keeps.bind (Keeps.store w10) fun _ => ?_
    refine Keeps.bind (Keeps.load r5) fun _ => ?_
    refine Keeps.bind (Keeps.load r9) fun _ => ?_
    refine Keeps.bind (Keeps.store w9) fun _ => ?_
    refine Keeps.bind (Keeps.load r4) fun _ => ?_
    exact Keeps.pure _
  refine Keeps.bind (Keeps.load r10) fun _ => ?_
  refine Keeps.bind (Keeps.store w10) fun _ => ?_
  refine Keeps.bind (Keeps.load r5) fun _ => ?_
  refine Keeps.bind (Keeps.load r9) fun _ => ?_
  refine Keeps.bind (Keeps.store w9) fun _ => ?_
  refine Keeps.bind (Keeps.load r4) fun _ => ?_
  exact Keeps.pure _

theorem kp_cc0_outproj_bwd0 {R : sProp 𝕄} (hG : Good c R arg1 arg2 arg3 arg4 arg5 arg6 arg7 arg8 arg9 arg10 arg11 arg12 arg13 arg14 arg15)  :
    Keeps (defs₀ (F := F)) (c : Thread nD τ) R (cc0_outproj_bwd0 i arg1 harg1 arg2 harg2 arg3 harg3 arg4 harg4 arg5 harg5 arg6 harg6 arg7 harg7 arg8 harg8 arg9 harg9 arg10 harg10 arg11 harg11 arg12 harg12 arg13 harg13 arg14 harg14 arg15 harg15 ) := by
  obtain ⟨r1, r2, r3, r4, r5, r6, r7, r8, r9, r10, r11, r12, r13, r14, r15, w9, w10, w11, w12, w13, w14, w15⟩ := id hG
  rw [cc0_outproj_bwd0_eq_skeleton]; unfold cc0_outproj_bwd0_skel
  refine Keeps.bind (kp_k0_part15 (F := F) hG) fun _ => ?_
  refine Keeps.bind (Keeps.load r10) fun _ => ?_
  refine Keeps.bind (Keeps.store w10) fun _ => ?_
  exact Keeps.pure _

end Cert.OutBwdIdeal.Hand

end
-- ==== Proof.OutBwdFrame.lean ====
module

public import proofs.«01_k».proof.Proof.OutBwdKeep

@[expose] public section

set_option maxRecDepth 65536

/-!
The frame of OutBwdIdeal: its body keeps the blocks it reads and leaves something in each block it writes, so every run ends with
the argument arrays as they were and every counter at zero.
-/

noncomputable section

namespace Cert.OutBwdIdeal.Hand

open Cert.OutBwdIdeal Cert.OutBwdIdeal.Gen Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of which nothing is named. -/
def forgets0 : Fin 15 → Bool := fun w => w.val == 8 || w.val == 9 || w.val == 10 || w.val == 11 || w.val == 12 || w.val == 13 || w.val == 14

/-- The pipeline's data: each input's buffer at its block after every point, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨k + 15, h⟩ => absurd (show k + 15 < 15 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x256x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x256x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- What the body touches. -/
def touched (c : Dev nD) (t : Fin cfg0.N) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

theorem touched_good (c : Dev nD) (t : Fin cfg0.N) : Good c (touched m c t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) := by
  unfold touched
  constructor
  · iterate 0 refine Reads.right ?_
    exact Reads.left reads_owns
  · iterate 1 refine Reads.right ?_
    exact Reads.left reads_owns
  · iterate 2 refine Reads.right ?_
    exact Reads.left reads_owns
  · iterate 3 refine Reads.right ?_
    exact Reads.left reads_owns
  · iterate 4 refine Reads.right ?_
    exact Reads.left reads_owns
  · iterate 5 refine Reads.right ?_
    exact Reads.left reads_owns
  · iterate 6 refine Reads.right ?_
    exact Reads.left reads_owns
  · iterate 7 refine Reads.right ?_
    exact Reads.left reads_owns
  · iterate 8 refine Reads.right ?_
    exact Reads.left (Writes.reads writes_owns)
  · iterate 9 refine Reads.right ?_
    exact Reads.left (Writes.reads writes_owns)
  · iterate 10 refine Reads.right ?_
    exact Reads.left (Writes.reads writes_owns)
  · iterate 11 refine Reads.right ?_
    exact Reads.left (Writes.reads writes_owns)
  · iterate 12 refine Reads.right ?_
    exact Reads.left (Writes.reads writes_owns)
  · iterate 13 refine Reads.right ?_
    exact Reads.left (Writes.reads writes_owns)
  · iterate 14 refine Reads.right ?_
    exact Writes.reads writes_owns
  · iterate 8 refine Writes.right ?_
    exact Writes.left writes_owns
  · iterate 9 refine Writes.right ?_
    exact Writes.left writes_owns
  · iterate 10 refine Writes.right ?_
    exact Writes.left writes_owns
  · iterate 11 refine Writes.right ?_
    exact Writes.left writes_owns
  · iterate 12 refine Writes.right ?_
    exact Writes.left writes_owns
  · iterate 13 refine Writes.right ?_
    exact Writes.left writes_owns
  · iterate 14 refine Writes.right ?_
    exact writes_owns

set_option maxHeartbeats 4000000 in
/-- The body at any point: from what it is called with to what it returns. -/
theorem sound_body (c : Dev nD) (t : Fin cfg0.N) :
    bodyPre m c t ⊢ wp frame (wpE (defs₀ (F := F)) Variants.none c none) Set.univ (bodyAt0 t) (fun _ => bodyPost m c t) := by
  have hk := kp_cc0_outproj_bwd0 (i := grid0.coords t) (harg1 := hs0_0 t) (harg2 := hs0_1 t) (harg3 := hs0_2 t) (harg4 := hs0_3 t) (harg5 := hs0_4 t) (harg6 := hs0_5 t) (harg7 := hs0_6 t) (harg8 := hs0_7 t) (harg9 := hs0_8 t) (harg10 := hs0_9 t) (harg11 := hs0_10 t) (harg12 := hs0_11 t) (harg13 := hs0_12 t) (harg14 := hs0_13 t) (harg15 := hs0_14 t)  (touched_good m c t) Set.univ
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12, H13, H14⟩
  iapply (wp_wand_r frame (wpE (defs₀ (F := F)) Variants.none c none) Set.univ)
  isplitl [H0 H1 H2 H3 H4 H5 H6 H7 H8 H9 H10 H11 H12 H13 H14]
  · iapply hk
    unfold touched
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_ HT
    unfold touched
    icases HT with ⟨H0, H1, H2, H3, H4, H5, H6, H7, H8, H9, H10, H11, H12, H13, H14⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 1140000 in
/-- The frame, for any values of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r hh => ⟨fun c => by
    have h : Pipeline.RDat.FramePost cfg0 (fun c => (dats m 0 c).toRForget forgets0) (V m) r := hh.1
    exact ⟨(Pipeline.RDat.FramePost.arr_in h c 1 rfl).trans ((A_eq m c 1).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 5 rfl).trans ((A_eq m c 5).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 0 rfl).trans ((A_eq m c 0).trans (V_main_arg6 m c))⟩, hh.2⟩) (run_main_quiescent m ρ)

end Cert.OutBwdIdeal.Hand

end
-- ==== Proof.OutBwdBits.lean ====
module

public import proofs.«01_k».proof.Proof.OutBwdFrame
public import proofs.«01_k».proof.Proof.Gen.OutBwd
public import proofs.«01_k».proof.Defs

@[expose] public section

set_option maxRecDepth 65536
set_option maxHeartbeats 8000000

namespace Cert.OutBwdIdeal.Hand

theorem frame_bits : Cert.quiescent_OutBwd (hOutBwd := Cert.OutBwd.Gen.facts) := fun m ρ _ => by
  refine Eq.mp ?_ (frame (F := Idealize.ShloMosaic.Bits) m ρ)
  sl_kernel_rfl

end Cert.OutBwdIdeal.Hand
-- ==== Proof.Finite.lean ====
/-  Extended reals that are real numbers: what sums, products and the gate of such numbers are, and what a precondition that
    bounds every absolute value says. -/
module

public import proofs.«01_k».proof.Proof.Gate
public import Idealize.ShloMosaic.Lib.IdealHost
public import Idealize.ShloMosaic.Lib.Pointwise

@[expose] public section

noncomputable section

namespace Cert.Finite

open Idealize.ShloMosaic Cert.Scalars

/-- The extended real is a real number. -/
def Fine (a : EReal) : Prop := ∃ r : ℝ, a = (r : EReal)

theorem coe (r : ℝ) : Fine (r : EReal) := ⟨r, rfl⟩

theorem mul {a b : EReal} : Fine a → Fine b → Fine (a * b)
  | ⟨x, hx⟩, ⟨y, hy⟩ => ⟨x * y, by rw [hx, hy, EReal.coe_mul]⟩

theorem add {a b : EReal} : Fine a → Fine b → Fine (a + b)
  | ⟨x, hx⟩, ⟨y, hy⟩ => ⟨x + y, by rw [hx, hy, EReal.coe_add]⟩

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem sum {ι : Type} (s : Finset ι) {f : ι → EReal} (h : ∀ x, Fine (f x)) : Fine (∑ x ∈ s, f x) := by
  choose g hg using h
  exact ⟨∑ x ∈ s, g x, by rw [coe_sum]; exact Finset.sum_congr rfl fun x _ => hg x⟩

theorem fine_sig {g : EReal} : Fine g → Fine (sig g)
  | ⟨x, hx⟩ => ⟨_, by rw [hx, sig_coe]⟩

theorem fine_of_abs {a : EReal} (h : max a (-a) < ⊤) : Fine a := by
  induction a using EReal.rec with
  | bot => simp at h
  | top => simp at h
  | coe r => exact ⟨r, rfl⟩

theorem andi_one : ∀ a b : BitVec 1, IntOp.andi a b = 1#1 → a = 1#1 ∧ b = 1#1 := by decide

/-- A conjunction over a list is one only where each of its members is. -/
theorem fold_andi {α : Type} (x : α → BitVec 1) (l : List α) (b : BitVec 1) (h : l.foldl (fun r n => IntOp.andi r (x n)) b = 1#1) :
    b = 1#1 ∧ ∀ n ∈ l, x n = 1#1 := by
  induction l generalizing b with
  | nil => exact ⟨h, fun _ hn => absurd hn List.not_mem_nil⟩
  | cons a l ih =>
    obtain ⟨h1, h2⟩ := ih _ h
    obtain ⟨hb, ha⟩ := andi_one _ _ h1
    exact ⟨hb, fun n hn => (List.mem_cons.mp hn).elim (fun e => e ▸ ha) (h2 n)⟩

/-- A host conjunction over all axes is one only where every element is. -/
theorem reduce_andi {s t u : Shape} {axes : List (Fin s.rank)} (x : IVec s 1) (v : IVec u 1) (h : s.ReducesTo axes t) (hu : 0 < u.numel) (j : t.Idx)
    (ht : ∀ a b : t.Idx, a = b) (e : Host.reduce IntOp.andi x v h hu j = 1#1) (i : s.Idx) : x i = 1#1 := by
  have := (fold_andi (fun n => x (s.rowMajor.symm n)) _ _ e).2 (s.rowMajor i)
    (List.mem_filter.mpr ⟨List.mem_finRange _, decide_eq_true (ht _ _)⟩)
  simpa using this

/-- An array whose absolute values are all below infinity holds real numbers. -/
theorem fine_of_reduce {s t u w : Shape} {axes : List (Fin s.rank)} (x : FVec Ideal s .f32) (v : IVec u 1) (d : Fin w.rank → Fin s.rank) (b : w.BroadcastsInDim s d) (h : s.ReducesTo axes t) (hu : 0 < u.numel)
    (j : t.Idx) (ht : ∀ a b : t.Idx, a = b)
    (e : Host.reduce IntOp.andi (cmpf .olt (Host.absf x) (broadcastInDim s d b (constant w .f32 0x7F800000#32))) v h hu j = 1#1) (i : s.Idx) : Fine (x i) := by
  have h1 := reduce_andi _ v h hu j ht e i
  have h2 : BitVec.ofBool (decide (max (x i) (-x i) < Ideal.ofBits FTy.f32 0x7F800000#32)) = 1#1 := h1
  have hT : Ideal.ofBits FTy.f32 0x7F800000#32 = ⊤ := by simp [Ideal.ofBits, Ideal.ieee]
  rw [hT] at h2
  refine fine_of_abs ?_
  by_contra hc
  simp [hc] at h2

end Cert.Finite

end
-- ==== Proof.Rows.lean ====
/-  The rows of the norm's gradient: the mean, the reciprocal deviation, the normalised row and the gradient of a row,
    the same gradient as the chain rule writes it, and the sums of rows that the trips of a loop gather. -/
module

public import proofs.«01_k».proof.Proof.Finite
public import Idealize.ShloMosaic.Lib.IdealHost
public import Idealize.ShloMosaic.Lib.Pointwise

@[expose] public section

noncomputable section

namespace Cert.Rows

open Idealize.ShloMosaic Cert.Finite

/-- The mean of a row of 1024. -/
def mean (p : Fin 1024 → EReal) : EReal := Ideal.div (∑ x, p x) (Ideal.ofBits FTy.f32 1149239296#32)

/-- The reciprocal deviation of a row. -/
def rstd (p : Fin 1024 → EReal) : EReal :=
  Ideal.rsqrt (Ideal.div (∑ x, (p x - mean p) * (p x - mean p)) (Ideal.ofBits FTy.f32 1149239296#32) + Ideal.ofBits FTy.f32 925353388#32)

/-- The normalised row. -/
def xhat (p : Fin 1024 → EReal) (j : Fin 1024) : EReal := (p j - mean p) * rstd p

/-- The gradient of the normalised row p under the cotangent q. -/
def drow (p q : Fin 1024 → EReal) (j : Fin 1024) : EReal :=
  rstd p * (q j - mean q - xhat p j * mean fun x => q x * xhat p x)

/-- The variance of a row and the small constant. -/
def vare (p : Fin 1024 → EReal) : EReal :=
  Ideal.div (∑ x, (p x - mean p) * (p x - mean p)) (Ideal.ofBits FTy.f32 1149239296#32) + Ideal.ofBits FTy.f32 925353388#32

/-- The chain rule's factor of the deviations. -/
def slope (p q : Fin 1024 → EReal) : EReal :=
  Ideal.div ((∑ x, (p x - mean p) * q x) * (Ideal.ofBits FTy.f32 3204448256#32 * Ideal.div (rstd p) (vare p))) (Ideal.ofBits FTy.f32 1149239296#32)

/-- The gradient of the normalised row p under the cotangent q, by the chain rule. -/
def hrow (p q : Fin 1024 → EReal) (j : Fin 1024) : EReal :=
  q j * rstd p + slope p q * (Ideal.ofBits FTy.f32 1073741824#32 * (p j - mean p))
    + Ideal.div ((∑ x, -(q x * rstd p)) + ∑ x, -(slope p q * (Ideal.ofBits FTy.f32 1073741824#32 * (p x - mean p)))) (Ideal.ofBits FTy.f32 1149239296#32)

theorem c1024 : Ideal.ofBits FTy.f32 1149239296#32 = ((1024 : ℝ) : EReal) := by
  simp [Ideal.ofBits, Ideal.ieee, -EReal.coe_mul]; norm_num

theorem two : Ideal.ofBits FTy.f32 1073741824#32 = ((2 : ℝ) : EReal) := by
  simp [Ideal.ofBits, Ideal.ieee, -EReal.coe_mul]; norm_num

theorem mhalf : Ideal.ofBits FTy.f32 3204448256#32 = ((-(1 / 2) : ℝ) : EReal) := by
  simp [Ideal.ofBits, Ideal.ieee, -EReal.coe_mul]; norm_num

theorem eps : ∃ e : ℝ, 0 < e ∧ Ideal.ofBits FTy.f32 925353388#32 = (e : EReal) := by
  refine ⟨10995116 / 1099511627776, by norm_num, ?_⟩
  simp [Ideal.ofBits, Ideal.ieee, -EReal.coe_mul]; norm_num

theorem alpha : ∃ a : ℝ, Ideal.ofBits FTy.f32 1068827891#32 = (a : EReal) := by
  refine ⟨11863283 / 8388608, ?_⟩
  simp [Ideal.ofBits, Ideal.ieee, -EReal.coe_mul]; norm_num

theorem div1024 (a : ℝ) : Ideal.div (a : EReal) (Ideal.ofBits FTy.f32 1149239296#32) = ((a / 1024 : ℝ) : EReal) := by
  rw [c1024, Ideal.div_coe (by norm_num), ← EReal.coe_mul, mul_one_div]

variable (p q : Fin 1024 → ℝ)

/-- The deviation of a real row from its mean. -/
def dev (j : Fin 1024) : ℝ := p j - (∑ x, p x) / 1024

theorem dev_coe (j : Fin 1024) : (p j : EReal) - mean (fun x => (p x : EReal)) = (dev p j : EReal) := by
  rw [mean, ← coe_sum, div1024, ← EReal.coe_sub]; rfl

theorem sum_dev : ∑ x, dev p x = 0 := by
  simp only [dev, Finset.sum_sub_distrib, Finset.sum_const, Finset.card_univ, Fintype.card_fin, nsmul_eq_mul]
  push_cast
  ring

/-- The variance of a real row and the small constant are a positive number, and the reciprocal deviation is its root's inverse. -/
theorem vare_coe : ∃ V s : ℝ, V ≠ 0 ∧ s * s = 1 / V ∧ vare (fun x => (p x : EReal)) = (V : EReal) ∧ rstd (fun x => (p x : EReal)) = (s : EReal) := by
  obtain ⟨e, he, ee⟩ := eps
  have hV : 0 < (∑ x, dev p x * dev p x) / 1024 + e := by
    have : 0 ≤ ∑ x, dev p x * dev p x := Finset.sum_nonneg fun x _ => mul_self_nonneg _
    positivity
  have hv : vare (fun x => (p x : EReal)) = (((∑ x, dev p x * dev p x) / 1024 + e : ℝ) : EReal) := by
    unfold vare
    simp only [dev_coe, ← EReal.coe_mul, ← coe_sum, div1024, ee, ← EReal.coe_add]
  refine ⟨_, (Real.sqrt ((∑ x, dev p x * dev p x) / 1024 + e))⁻¹, hV.ne', ?_, hv, ?_⟩
  · rw [← mul_inv, Real.mul_self_sqrt hV.le, one_div]
  · show Ideal.rsqrt (vare _) = _
    rw [hv, Ideal.rsqrt_coe, if_neg (not_lt.mpr hV.le), if_neg hV.ne']

theorem drow_real (j : Fin 1024) : drow (fun x => (p x : EReal)) (fun x => (q x : EReal)) j = hrow (fun x => (p x : EReal)) (fun x => (q x : EReal)) j := by
  obtain ⟨V, s, hV, hs, ev, es⟩ := vare_coe p
  unfold drow hrow slope xhat
  simp only [dev_coe, es, ev, two, mhalf, mean, Ideal.div_coe hV, ← EReal.coe_mul, ← EReal.coe_neg, ← coe_sum, div1024, ← EReal.coe_add, ← EReal.coe_sub]
  refine congrArg _ ?_
  have h1 : ∑ x, q x * (dev p x * s) = (∑ x, dev p x * q x) * s := by
    rw [Finset.sum_mul]; exact Finset.sum_congr rfl fun x _ => by ring
  have h2 : ∑ x, -(q x * s) = -((∑ x, q x) * s) := by rw [Finset.sum_neg_distrib, Finset.sum_mul]
  have h3 : ∀ K : ℝ, ∑ x, -(K * (2 * dev p x)) = 0 := fun K => by
    rw [Finset.sum_neg_distrib, ← Finset.mul_sum, ← Finset.mul_sum, sum_dev]; simp
  have hd : ∀ j, p j - (∑ x, p x) / 1024 = dev p j := fun _ => rfl
  simp only [hd]
  rw [h1, h2, h3, ← hs]
  ring

/-- On real rows the kernel's form of the gradient is the chain rule's. -/
theorem drow_eq {p q : Fin 1024 → EReal} (hp : ∀ x, Fine (p x)) (hq : ∀ x, Fine (q x)) (j : Fin 1024) : drow p q j = hrow p q j := by
  choose p' ep using hp
  choose q' eq using hq
  obtain rfl : p = fun x => (p' x : EReal) := funext ep
  obtain rfl : q = fun x => (q' x : EReal) := funext eq
  exact drow_real p' q' j

/-- The gradient of a real row is real. -/
theorem fine_drow {p q : Fin 1024 → EReal} (hp : ∀ x, Fine (p x)) (hq : ∀ x, Fine (q x)) (j : Fin 1024) : Fine (drow p q j) := by
  choose p' ep using hp
  choose q' eq using hq
  obtain rfl : p = fun x => (p' x : EReal) := funext ep
  obtain rfl : q = fun x => (q' x : EReal) := funext eq
  obtain ⟨V, s, hV, hs, ev, es⟩ := vare_coe p'
  unfold drow xhat
  simp only [dev_coe, es, mean, ← EReal.coe_mul, ← coe_sum, div1024, ← EReal.coe_sub]
  exact coe _

/-- The gate's gradient at its argument, on real numbers: as the kernel groups it and as the chain rule does. -/
theorem gate_grad {d y g : EReal} (hd : Fine d) (hy : Fine y) (hg : Fine g) :
    d * y * (Cert.Scalars.sig g * (1 + g * (1 - Cert.Scalars.sig g))) = y * d * Cert.Scalars.sig g + g * (y * d) * (Cert.Scalars.sig g * (1 - Cert.Scalars.sig g)) := by
  obtain ⟨s, es⟩ := fine_sig hg
  obtain ⟨d, rfl⟩ := hd
  obtain ⟨y, rfl⟩ := hy
  obtain ⟨g, rfl⟩ := hg
  rw [es, ← EReal.coe_one]
  simp only [← EReal.coe_mul, ← EReal.coe_sub, ← EReal.coe_add]
  exact congrArg _ (by ring)

/-- Row n of E at j, nothing beyond the last row. -/
def rs {N : ℕ} (E : Fin N → Fin 1024 → EReal) (j : Fin 1024) (n : ℕ) : EReal := if h : n < N then E ⟨n, h⟩ j else 0

theorem sum_step {N : ℕ} (B k : ℕ) (hk : B * (k + 1) ≤ N) (E : Fin N → Fin 1024 → EReal) (j : Fin 1024) (a L b : EReal) (f : Fin B → EReal)
    (ha : a = L + ∑ n ∈ Finset.range (B * k), rs E j n) (hb : b = a + ∑ x, f x)
    (hf : ∀ (x : Fin B) (R : Fin N), R.val = B * k + x.val → f x = E R j) : b = L + ∑ n ∈ Finset.range (B * (k + 1)), rs E j n := by
  rw [hb, ha, Nat.mul_succ, Finset.sum_range_add, add_assoc]
  refine congrArg (L + ·) (congrArg (_ + ·) ?_)
  rw [Finset.sum_range]
  refine Finset.sum_congr rfl fun x _ => ?_
  have hx : B * k + x.val < N := by have := x.isLt; rw [Nat.mul_succ] at hk; omega
  rw [rs, dif_pos hx]
  exact hf x _ rfl

end Cert.Rows

end
-- ==== Proof.OutBwdRun.lean ====
/-  The out-projection gradient's body, run with the values named: what a grid point leaves in its output windows. -/
module

public import proofs.«01_k».proof.Proof.Gen.OutBwdIdeal.Skeleton
public import proofs.«01_k».proof.Proof.Gen.OutBwdIdeal.Frame
public import proofs.«01_k».proof.Proof.Gate
public import proofs.«01_k».proof.Proof.Rows
public import proofs.«01_k».proof.Proof.Runs
public import Idealize.ShloMosaic.Lib.Pipeline.ValueKit
public import Idealize.ShloMosaic.Lib.Pointwise

@[expose] public section

set_option maxRecDepth 16384

noncomputable section

namespace Cert.OutBwdIdeal.Val

open Cert.OutBwdIdeal Cert.OutBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.View (ld_unit_apply_of ld_unit_lit)
open Runs Cert.Rows

local notation "𝕄" => MT nD τ sig Unit (Elt Ideal) ℕ (UR sig nD τ) ℕ

/-- What the body writes: the vector each written memref holds. -/
structure State where
  o9 : Vec Ideal S16x256x128 .f32
  o10 : Vec Ideal S256x2048 .bf16
  o11 : Vec Ideal S256x1024 .f32
  o12 : Vec Ideal S256x1024 .bf16
  o13 : Vec Ideal S1x1024 .f32
  o14 : Vec Ideal S1x1024 .f32
  o15 : Vec Ideal S1x1024 .f32

def u9 (z : State) (d : Vec Ideal S16x256x128 .f32) : State := { z with o9 := d }
def u10 (z : State) (d : Vec Ideal S256x2048 .bf16) : State := { z with o10 := d }
def u11 (z : State) (d : Vec Ideal S256x1024 .f32) : State := { z with o11 := d }
def u12 (z : State) (d : Vec Ideal S256x1024 .bf16) : State := { z with o12 := d }
def u13 (z : State) (d : Vec Ideal S1x1024 .f32) : State := { z with o13 := d }
def u14 (z : State) (d : Vec Ideal S1x1024 .f32) : State := { z with o14 := d }
def u15 (z : State) (d : Vec Ideal S1x1024 .f32) : State := { z with o15 := d }

theorem u9_get (z : State) (d : Vec Ideal S16x256x128 .f32) : (u9 z d).o9 = d ∧ (u9 z d).o10 = z.o10 ∧ (u9 z d).o11 = z.o11 ∧ (u9 z d).o12 = z.o12 ∧ (u9 z d).o13 = z.o13 ∧ (u9 z d).o14 = z.o14 ∧ (u9 z d).o15 = z.o15 :=
  ⟨rfl, rfl, rfl, rfl, rfl, rfl, rfl⟩
theorem u10_get (z : State) (d : Vec Ideal S256x2048 .bf16) : (u10 z d).o9 = z.o9 ∧ (u10 z d).o10 = d ∧ (u10 z d).o11 = z.o11 ∧ (u10 z d).o12 = z.o12 ∧ (u10 z d).o13 = z.o13 ∧ (u10 z d).o14 = z.o14 ∧ (u10 z d).o15 = z.o15 :=
  ⟨rfl, rfl, rfl, rfl, rfl, rfl, rfl⟩
theorem u11_get (z : State) (d : Vec Ideal S256x1024 .f32) : (u11 z d).o9 = z.o9 ∧ (u11 z d).o10 = z.o10 ∧ (u11 z d).o11 = d ∧ (u11 z d).o12 = z.o12 ∧ (u11 z d).o13 = z.o13 ∧ (u11 z d).o14 = z.o14 ∧ (u11 z d).o15 = z.o15 :=
  ⟨rfl, rfl, rfl, rfl, rfl, rfl, rfl⟩
theorem u12_get (z : State) (d : Vec Ideal S256x1024 .bf16) : (u12 z d).o9 = z.o9 ∧ (u12 z d).o10 = z.o10 ∧ (u12 z d).o11 = z.o11 ∧ (u12 z d).o12 = d ∧ (u12 z d).o13 = z.o13 ∧ (u12 z d).o14 = z.o14 ∧ (u12 z d).o15 = z.o15 :=
  ⟨rfl, rfl, rfl, rfl, rfl, rfl, rfl⟩
theorem u13_get (z : State) (d : Vec Ideal S1x1024 .f32) : (u13 z d).o9 = z.o9 ∧ (u13 z d).o10 = z.o10 ∧ (u13 z d).o11 = z.o11 ∧ (u13 z d).o12 = z.o12 ∧ (u13 z d).o13 = d ∧ (u13 z d).o14 = z.o14 ∧ (u13 z d).o15 = z.o15 :=
  ⟨rfl, rfl, rfl, rfl, rfl, rfl, rfl⟩
theorem u14_get (z : State) (d : Vec Ideal S1x1024 .f32) : (u14 z d).o9 = z.o9 ∧ (u14 z d).o10 = z.o10 ∧ (u14 z d).o11 = z.o11 ∧ (u14 z d).o12 = z.o12 ∧ (u14 z d).o13 = z.o13 ∧ (u14 z d).o14 = d ∧ (u14 z d).o15 = z.o15 :=
  ⟨rfl, rfl, rfl, rfl, rfl, rfl, rfl⟩
theorem u15_get (z : State) (d : Vec Ideal S1x1024 .f32) : (u15 z d).o9 = z.o9 ∧ (u15 z d).o10 = z.o10 ∧ (u15 z d).o11 = z.o11 ∧ (u15 z d).o12 = z.o12 ∧ (u15 z d).o13 = z.o13 ∧ (u15 z d).o14 = z.o14 ∧ (u15 z d).o15 = d :=
  ⟨rfl, rfl, rfl, rfl, rfl, rfl, rfl⟩

variable {c : Dev nD} {i : grid0.Coords}
variable {arg1 arg2 arg3 : Memref sig .tc .vmem S256x1024 .f32} {arg4 arg5 : Memref sig .tc .vmem S16x256x128 .bf16} {arg6 arg7 : Memref sig .tc .vmem S1x1024 .f32} {arg8 : Memref sig .tc .vmem S2048x1024 .bf16} {arg9 : Memref sig .tc .vmem S16x256x128 .f32} {arg10 : Memref sig .tc .vmem S256x2048 .bf16} {arg11 : Memref sig .tc .vmem S256x1024 .f32} {arg12 : Memref sig .tc .vmem S256x1024 .bf16} {arg13 arg14 arg15 : Memref sig .tc .vmem S1x1024 .f32}

/-- Each memref lent at its vector: the inputs at fixed ones, the written ones at the state's. -/
structure Good (c : Dev nD) (R : State → sProp 𝕄) (arg1 arg2 arg3 : Memref sig .tc .vmem S256x1024 .f32) (arg4 arg5 : Memref sig .tc .vmem S16x256x128 .bf16) (arg6 arg7 : Memref sig .tc .vmem S1x1024 .f32) (arg8 : Memref sig .tc .vmem S2048x1024 .bf16) (arg9 : Memref sig .tc .vmem S16x256x128 .f32) (arg10 : Memref sig .tc .vmem S256x2048 .bf16) (arg11 : Memref sig .tc .vmem S256x1024 .f32) (arg12 : Memref sig .tc .vmem S256x1024 .bf16) (arg13 arg14 arg15 : Memref sig .tc .vmem S1x1024 .f32)
    (x1 x2 x3 : Vec Ideal S256x1024 .f32) (x4 x5 : Vec Ideal S16x256x128 .bf16) (x6 x7 : Vec Ideal S1x1024 .f32) (x8 : Vec Ideal S2048x1024 .bf16) : Prop where
  g1 : Gets (c : Thread nD τ) R arg1 (fun _ => x1)
  g2 : Gets (c : Thread nD τ) R arg2 (fun _ => x2)
  g3 : Gets (c : Thread nD τ) R arg3 (fun _ => x3)
  g4 : Gets (c : Thread nD τ) R arg4 (fun _ => x4)
  g5 : Gets (c : Thread nD τ) R arg5 (fun _ => x5)
  g6 : Gets (c : Thread nD τ) R arg6 (fun _ => x6)
  g7 : Gets (c : Thread nD τ) R arg7 (fun _ => x7)
  g8 : Gets (c : Thread nD τ) R arg8 (fun _ => x8)
  g9 : Gets (c : Thread nD τ) R arg9 State.o9
  g10 : Gets (c : Thread nD τ) R arg10 State.o10
  g11 : Gets (c : Thread nD τ) R arg11 State.o11
  g12 : Gets (c : Thread nD τ) R arg12 State.o12
  g13 : Gets (c : Thread nD τ) R arg13 State.o13
  g14 : Gets (c : Thread nD τ) R arg14 State.o14
  g15 : Gets (c : Thread nD τ) R arg15 State.o15
  w9 : Sets (c : Thread nD τ) R arg9 State.o9 u9
  w10 : Sets (c : Thread nD τ) R arg10 State.o10 u10
  w11 : Sets (c : Thread nD τ) R arg11 State.o11 u11
  w12 : Sets (c : Thread nD τ) R arg12 State.o12 u12
  w13 : Sets (c : Thread nD τ) R arg13 State.o13 u13
  w14 : Sets (c : Thread nD τ) R arg14 State.o14 u14
  w15 : Sets (c : Thread nD τ) R arg15 State.o15 u15

variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole}
variable {R : State → sProp 𝕄} {x1 x2 x3 : Vec Ideal S256x1024 .f32} {x4 x5 : Vec Ideal S16x256x128 .bf16} {x6 x7 : Vec Ideal S1x1024 .f32} {x8 : Vec Ideal S2048x1024 .bf16}

/-- The ownership of the body's memrefs at the inputs' vectors and a state. -/
def Own (c : Dev nD) (arg1 arg2 arg3 : Memref sig .tc .vmem S256x1024 .f32) (arg4 arg5 : Memref sig .tc .vmem S16x256x128 .bf16) (arg6 arg7 : Memref sig .tc .vmem S1x1024 .f32) (arg8 : Memref sig .tc .vmem S2048x1024 .bf16) (arg9 : Memref sig .tc .vmem S16x256x128 .f32) (arg10 : Memref sig .tc .vmem S256x2048 .bf16) (arg11 : Memref sig .tc .vmem S256x1024 .f32) (arg12 : Memref sig .tc .vmem S256x1024 .bf16) (arg13 arg14 arg15 : Memref sig .tc .vmem S1x1024 .f32) (x1 x2 x3 : Vec Ideal S256x1024 .f32) (x4 x5 : Vec Ideal S16x256x128 .bf16) (x6 x7 : Vec Ideal S1x1024 .f32) (x8 : Vec Ideal S2048x1024 .bf16) (z : State) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare z.o9 ∗ owns (c : Thread nD τ) arg10 fullShare z.o10 ∗ owns (c : Thread nD τ) arg11 fullShare z.o11 ∗ owns (c : Thread nD τ) arg12 fullShare z.o12 ∗ owns (c : Thread nD τ) arg13 fullShare z.o13 ∗ owns (c : Thread nD τ) arg14 fullShare z.o14 ∗ owns (c : Thread nD τ) arg15 fullShare z.o15)

theorem own_good : Good c (Own c arg1 arg2 arg3 arg4 arg5 arg6 arg7 arg8 arg9 arg10 arg11 arg12 arg13 arg14 arg15 x1 x2 x3 x4 x5 x6 x7 x8) arg1 arg2 arg3 arg4 arg5 arg6 arg7 arg8 arg9 arg10 arg11 arg12 arg13 arg14 arg15 x1 x2 x3 x4 x5 x6 x7 x8 := by
  constructor
  · exact Gets.left (gets_one (g := fun _ => x1))
  · exact Gets.right (Gets.left (gets_one (g := fun _ => x2)))
  · exact Gets.right (Gets.right (Gets.left (gets_one (g := fun _ => x3))))
  · exact Gets.right (Gets.right (Gets.right (Gets.left (gets_one (g := fun _ => x4)))))
  · exact Gets.right (Gets.right (Gets.right (Gets.right (Gets.left (gets_one (g := fun _ => x5))))))
  · exact Gets.right (Gets.right (Gets.right (Gets.right (Gets.right (Gets.left (gets_one (g := fun _ => x6)))))))
  · exact Gets.right (Gets.right (Gets.right (Gets.right (Gets.right (Gets.right (Gets.left (gets_one (g := fun _ => x7))))))))
  · exact Gets.right (Gets.right (Gets.right (Gets.right (Gets.right (Gets.right (Gets.right (Gets.left (gets_one (g := fun _ => x8)))))))))
  · exact Gets.right (Gets.right (Gets.right (Gets.right (Gets.right (Gets.right (Gets.right (Gets.right (Gets.left (gets_one (g := State.o9))))))))))
  · exact Gets.right (Gets.right (Gets.right (Gets.right (Gets.right (Gets.right (Gets.right (Gets.right (Gets.right (Gets.left (gets_one (g := State.o10)))))))))))
  · exact Gets.right (Gets.right (Gets.right (Gets.right (Gets.right (Gets.right (Gets.right (Gets.right (Gets.right (Gets.right (Gets.left (gets_one (g := State.o11))))))))))))
  · exact Gets.right (Gets.right (Gets.right (Gets.right (Gets.right (Gets.right (Gets.right (Gets.right (Gets.right (Gets.right (Gets.right (Gets.left (gets_one (g := State.o12)))))))))))))
  · exact Gets.right (Gets.right (Gets.right (Gets.right (Gets.right (Gets.right (Gets.right (Gets.right (Gets.right (Gets.right (Gets.right (Gets.right (Gets.left (gets_one (g := State.o13))))))))))))))
  · exact Gets.right (Gets.right (Gets.right (Gets.right (Gets.right (Gets.right (Gets.right (Gets.right (Gets.right (Gets.right (Gets.right (Gets.right (Gets.right (Gets.left (gets_one (g := State.o14)))))))))))))))
  · exact Gets.right (Gets.right (Gets.right (Gets.right (Gets.right (Gets.right (Gets.right (Gets.right (Gets.right (Gets.right (Gets.right (Gets.right (Gets.right (Gets.right (gets_one (g := State.o15)))))))))))))))
  · exact Sets.right (Sets.right (Sets.right (Sets.right (Sets.right (Sets.right (Sets.right (Sets.right (Sets.left (sets_one (g := State.o9) fun _ _ => rfl) fun _ _ => rfl) fun _ _ => rfl) fun _ _ => rfl) fun _ _ => rfl) fun _ _ => rfl) fun _ _ => rfl) fun _ _ => rfl) fun _ _ => rfl) fun _ _ => rfl
  · exact Sets.right (Sets.right (Sets.right (Sets.right (Sets.right (Sets.right (Sets.right (Sets.right (Sets.right (Sets.left (sets_one (g := State.o10) fun _ _ => rfl) fun _ _ => rfl) fun _ _ => rfl) fun _ _ => rfl) fun _ _ => rfl) fun _ _ => rfl) fun _ _ => rfl) fun _ _ => rfl) fun _ _ => rfl) fun _ _ => rfl) fun _ _ => rfl
  · exact Sets.right (Sets.right (Sets.right (Sets.right (Sets.right (Sets.right (Sets.right (Sets.right (Sets.right (Sets.right (Sets.left (sets_one (g := State.o11) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl
  · exact Sets.right (Sets.right (Sets.right (Sets.right (Sets.right (Sets.right (Sets.right (Sets.right (Sets.right (Sets.right (Sets.right (Sets.left (sets_one (g := State.o12) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl
  · exact Sets.right (Sets.right (Sets.right (Sets.right (Sets.right (Sets.right (Sets.right (Sets.right (Sets.right (Sets.right (Sets.right (Sets.right (Sets.left (sets_one (g := State.o13) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl
  · exact Sets.right (Sets.right (Sets.right (Sets.right (Sets.right (Sets.right (Sets.right (Sets.right (Sets.right (Sets.right (Sets.right (Sets.right (Sets.right (Sets.left (sets_one (g := State.o14) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl
  · exact Sets.right (Sets.right (Sets.right (Sets.right (Sets.right (Sets.right (Sets.right (Sets.right (Sets.right (Sets.right (Sets.right (Sets.right (Sets.right (Sets.right (sets_one (g := State.o15) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl) fun _ _ => rfl

/-- The residual row, before its norm. -/
abbrev pr (x2 x3 : Vec Ideal S256x1024 .f32) (x6 : Vec Ideal S1x1024 .f32) (r : Fin 256) : Fin 1024 → EReal :=
  fun x => Ideal.ofBits FTy.f32 1068827891#32 * x2 (ix2 r x) + x6 (ix2 0 x) * x3 (ix2 r x)

/-- The cotangent's row times the norm's scale. -/
abbrev qr (x1 : Vec Ideal S256x1024 .f32) (x7 : Vec Ideal S1x1024 .f32) (r : Fin 256) : Fin 1024 → EReal := fun x => x1 (ix2 r x) * x7 (ix2 0 x)

/-- The gradient at the residual. -/
def D (x1 x2 x3 : Vec Ideal S256x1024 .f32) (x6 x7 : Vec Ideal S1x1024 .f32) (r : Fin 256) (j : Fin 1024) : EReal := drow (pr x2 x3 x6 r) (qr x1 x7 r) j

/-- The three sums' terms: of the scale, of the shift, of the gate. -/
def E13 (x1 x2 x3 : Vec Ideal S256x1024 .f32) (x6 : Vec Ideal S1x1024 .f32) (r : Fin 256) (j : Fin 1024) : EReal := x1 (ix2 r j) * xhat (pr x2 x3 x6 r) j
def E14 (x1 : Vec Ideal S256x1024 .f32) (r : Fin 256) (j : Fin 1024) : EReal := x1 (ix2 r j)
def E15 (x1 x2 x3 : Vec Ideal S256x1024 .f32) (x6 x7 : Vec Ideal S1x1024 .f32) (r : Fin 256) (j : Fin 1024) : EReal := D x1 x2 x3 x6 x7 r j * x3 (ix2 r j)

/-- What the loop holds after k trips. -/
structure Inv (x1 x2 x3 : Vec Ideal S256x1024 .f32) (x6 x7 : Vec Ideal S1x1024 .f32) (L13 L14 L15 : Fin 1024 → EReal) (k : ℕ) (z : State) : Prop where
  i11 : ∀ (r : Fin 256) (j : Fin 1024), r.val < 128 * k → z.o11 (ix2 r j) = Ideal.ofBits FTy.f32 1068827891#32 * D x1 x2 x3 x6 x7 r j
  i12 : ∀ (r : Fin 256) (j : Fin 1024), r.val < 128 * k → z.o12 (ix2 r j) = x6 (ix2 0 j) * D x1 x2 x3 x6 x7 r j
  i13 : ∀ j : Fin 1024, z.o13 (ix2 0 j) = L13 j + ∑ n ∈ Finset.range (128 * k), rs (E13 x1 x2 x3 x6) j n
  i14 : ∀ j : Fin 1024, z.o14 (ix2 0 j) = L14 j + ∑ n ∈ Finset.range (128 * k), rs (E14 x1) j n
  i15 : ∀ j : Fin 1024, z.o15 (ix2 0 j) = L15 j + ∑ n ∈ Finset.range (128 * k), rs (E15 x1 x2 x3 x6 x7) j n

theorem ld_rows (k : Fin k0_t1_loop.trips) (X : Vec Ideal S256x1024 .f32) (r : Fin 128) (j : Fin 1024) (R : Fin 256) (hR : R.val = 128 * k.val + r.val) :
    View.ld X (Rect.unit (s := S256x1024) (k0_off1 k) S128x1024.size (k0_off1_inb k)) (ix2 r j) = X (ix2 R j) := by
  refine ld_unit_apply_of X _ _ _ _ _ fun a => ?_
  refine Eq.trans ?_ (congrArg (· + _) (congrFun (k0_off1_eq k) a).symm)
  match a with
  | ⟨0, _⟩ => exact hR
  | ⟨1, _⟩ => exact (Nat.zero_add _).symm

theorem trips_lt (k : Fin k0_t1_loop.trips) : k.val < 2 := k.isLt

theorem rows_step (k : Fin k0_t1_loop.trips) (X : S256x1024.Idx → EReal) (w : S128x1024.Idx → EReal) (G : Fin 256 → Fin 1024 → EReal)
    (h : ∀ (r : Fin 256) (j : Fin 1024), r.val < 128 * k.val → X (ix2 r j) = G r j)
    (hw : ∀ (r : Fin 128) (j : Fin 1024) (R : Fin 256), R.val = 128 * k.val + r.val → w (ix2 r j) = G R j) (r : Fin 256) (j : Fin 1024) (hr : r.val < 128 * (k.val + 1)) :
    (Rect.unit (s := S256x1024) (k0_off1 k) S128x1024.size (k0_off1_inb k)).overlay X w (ix2 r j) = G r j := by
  have hoff : ∀ a, k0_off1 k a = ![128 * k.val, 0] a := fun a => congrFun (k0_off1_eq k) a
  by_cases hlt : r.val < 128 * k.val
  · exact (overlay_out _ _ _ _ (0 : Fin 2) (Or.inl ((hoff 0).symm ▸ hlt))).trans (h r j hlt)
  · have hrr : r.val = 128 * k.val + (r.val - 128 * k.val) := by omega
    refine (overlay_in _ _ _ _ (ix2 (⟨r.val - 128 * k.val, by omega⟩ : Fin 128) j) (fun a => ?_)).trans (hw _ j r hrr)
    rw [hoff]
    match a with
    | ⟨0, _⟩ => exact hrr
    | ⟨1, _⟩ => exact (Nat.zero_add _).symm

section Row
variable {v476 v478 v481 : FVec Ideal S128x1024 .f32} {v484 v506 : Vec Ideal S1x1024 .f32} {r : Fin 128} {R : Fin 256}

theorem p_at (h2 : ∀ y, v481 (ix2 r y) = x2 (ix2 R y)) (h3 : ∀ y, v478 (ix2 r y) = x3 (ix2 R y)) (h6 : v484 = x6) (j : Fin 1024) :
    k0_pay3 (F := Ideal) v478 v481 v484 (ix2 r j) = pr x2 x3 x6 R j := by
  subst h6
  pointwise [k0_pay3, k0_pay2]
  rw [h2, h3]

theorem mu_at (h2 : ∀ y, v481 (ix2 r y) = x2 (ix2 R y)) (h3 : ∀ y, v478 (ix2 r y) = x3 (ix2 R y)) (h6 : v484 = x6) :
    k0_pay4 (F := Ideal) v478 v481 v484 (ix2 r 0) = mean (pr x2 x3 x6 R) := by
  have hp := p_at h2 h3 h6
  unfold k0_pay4
  generalize k0_pay3 (F := Ideal) v478 v481 v484 = p at hp
  pointwise
  simp only [hp]
  rfl

theorem rstd_at (h2 : ∀ y, v481 (ix2 r y) = x2 (ix2 R y)) (h3 : ∀ y, v478 (ix2 r y) = x3 (ix2 R y)) (h6 : v484 = x6) :
    k0_pay5 (F := Ideal) v478 v481 v484 (ix2 r 0) = rstd (pr x2 x3 x6 R) := by
  have hp := p_at h2 h3 h6
  have hm := mu_at h2 h3 h6
  unfold k0_pay5
  generalize k0_pay3 (F := Ideal) v478 v481 v484 = p at hp
  generalize k0_pay4 (F := Ideal) v478 v481 v484 = u at hm
  pointwise
  simp only [hp, hm]
  rfl

theorem xhat_at (h2 : ∀ y, v481 (ix2 r y) = x2 (ix2 R y)) (h3 : ∀ y, v478 (ix2 r y) = x3 (ix2 R y)) (h6 : v484 = x6) (j : Fin 1024) :
    k0_pay6 (F := Ideal) v478 v481 v484 (ix2 r j) = xhat (pr x2 x3 x6 R) j := by
  have hp := p_at h2 h3 h6
  have hm := mu_at h2 h3 h6
  have hs := rstd_at h2 h3 h6
  unfold k0_pay6
  generalize k0_pay3 (F := Ideal) v478 v481 v484 = p at hp
  generalize k0_pay4 (F := Ideal) v478 v481 v484 = u at hm
  generalize k0_pay5 (F := Ideal) v478 v481 v484 = s at hs
  pointwise
  simp only [hp, hm, hs]
  rfl

theorem q_at (h1 : ∀ y, v476 (ix2 r y) = x1 (ix2 R y)) (h7 : v506 = x7) (j : Fin 1024) : k0_pay7 (F := Ideal) v476 v506 (ix2 r j) = qr x1 x7 R j := by
  subst h7
  pointwise [k0_pay7]
  rw [h1]

theorem qm_at (h1 : ∀ y, v476 (ix2 r y) = x1 (ix2 R y)) (h7 : v506 = x7) (j : Fin 1024) :
    k0_pay8 (F := Ideal) v476 v506 (ix2 r j) = qr x1 x7 R j - mean (qr x1 x7 R) := by
  have hq := q_at h1 h7
  unfold k0_pay8
  generalize k0_pay7 (F := Ideal) v476 v506 = q at hq
  pointwise
  simp only [hq]
  rfl

theorem d_at (h1 : ∀ y, v476 (ix2 r y) = x1 (ix2 R y)) (h2 : ∀ y, v481 (ix2 r y) = x2 (ix2 R y)) (h3 : ∀ y, v478 (ix2 r y) = x3 (ix2 R y)) (h6 : v484 = x6) (h7 : v506 = x7)
    (j : Fin 1024) : k0_pay9 (F := Ideal) (k0_pay5 v478 v481 v484) (k0_pay6 v478 v481 v484) (k0_pay7 v476 v506) (k0_pay8 v476 v506) (ix2 r j) = D x1 x2 x3 x6 x7 R j := by
  have hs := rstd_at h2 h3 h6
  have hx := xhat_at h2 h3 h6
  have hq := q_at h1 h7
  have hd := qm_at h1 h7
  generalize k0_pay5 (F := Ideal) v478 v481 v484 = s at hs
  generalize k0_pay6 (F := Ideal) v478 v481 v484 = xh at hx
  generalize k0_pay7 (F := Ideal) v476 v506 = q at hq
  generalize k0_pay8 (F := Ideal) v476 v506 = d at hd
  pointwise [k0_pay9]
  simp only [hs, hx, hq, hd]
  rfl

end Row

theorem pay10_at (e f : FVec Ideal S128x1024 .f32) (a : Vec Ideal S1x1024 .f32) (j : Fin 1024) :
    k0_pay10 (F := Ideal) e f a (ix2 0 j) = a (ix2 0 j) + ∑ x : Fin 128, e (ix2 x j) * f (ix2 x j) := by
  pointwise [k0_pay10]

theorem pay11_at (e : FVec Ideal S128x1024 .f32) (a : Vec Ideal S1x1024 .f32) (j : Fin 1024) :
    k0_pay11 (F := Ideal) e a (ix2 0 j) = a (ix2 0 j) + ∑ x : Fin 128, e (ix2 x j) := by
  pointwise [k0_pay11]

theorem pay12_at (b : FVec Ideal S128x1024 .f32) (s : FVec Ideal S128x1 .f32) (xh q d : FVec Ideal S128x1024 .f32) (a : Vec Ideal S1x1024 .f32) (j : Fin 1024) :
    k0_pay12 (F := Ideal) b s xh q d a (ix2 0 j) = a (ix2 0 j) + ∑ x : Fin 128, k0_pay9 (F := Ideal) s xh q d (ix2 x j) * b (ix2 x j) := by
  unfold k0_pay12
  generalize k0_pay9 (F := Ideal) s xh q d = g
  pointwise

theorem step (k : Fin k0_t1_loop.trips) (z : State) (w11 : FVec Ideal S128x1024 .f32) (w12 : FVec Ideal S128x1024 .bf16) (w13 w14 w15 : FVec Ideal S1x1024 .f32)
    {L13 L14 L15 : Fin 1024 → EReal} (hz : Inv x1 x2 x3 x6 x7 L13 L14 L15 k.val z)
    (h11 : ∀ (r : Fin 128) (j : Fin 1024) (R : Fin 256), R.val = 128 * k.val + r.val → w11 (ix2 r j) = Ideal.ofBits FTy.f32 1068827891#32 * D x1 x2 x3 x6 x7 R j)
    (h12 : ∀ (r : Fin 128) (j : Fin 1024) (R : Fin 256), R.val = 128 * k.val + r.val → w12 (ix2 r j) = x6 (ix2 0 j) * D x1 x2 x3 x6 x7 R j)
    (f13 f14 f15 : Fin 128 → Fin 1024 → EReal) (h13 : ∀ j, w13 (ix2 0 j) = z.o13 (ix2 0 j) + ∑ x, f13 x j) (h14 : ∀ j, w14 (ix2 0 j) = z.o14 (ix2 0 j) + ∑ x, f14 x j)
    (h15 : ∀ j, w15 (ix2 0 j) = z.o15 (ix2 0 j) + ∑ x, f15 x j)
    (g13 : ∀ (x : Fin 128) (j : Fin 1024) (R : Fin 256), R.val = 128 * k.val + x.val → f13 x j = E13 x1 x2 x3 x6 R j)
    (g14 : ∀ (x : Fin 128) (j : Fin 1024) (R : Fin 256), R.val = 128 * k.val + x.val → f14 x j = E14 x1 R j)
    (g15 : ∀ (x : Fin 128) (j : Fin 1024) (R : Fin 256), R.val = 128 * k.val + x.val → f15 x j = E15 x1 x2 x3 x6 x7 R j) :
    Inv x1 x2 x3 x6 x7 L13 L14 L15 (k.val + 1) (u12 (u11 (u15 (u14 (u13 z w13) w14) w15) ((Rect.unit (s := S256x1024) (k0_off1 k) S128x1024.size (k0_off1_inb k)).overlay z.o11 w11))
      ((Rect.unit (s := S256x1024) (k0_off1 k) S128x1024.size (k0_off1_inb k)).overlay z.o12 w12)) := by
  have hk := trips_lt k
  refine ⟨fun r j hr => ?_, fun r j hr => ?_, fun j => ?_, fun j => ?_, fun j => ?_⟩
  · refine (congrFun ((u12_get _ _).2.2.1.trans (u11_get _ _).2.2.1) _).trans ?_
    exact rows_step k z.o11 w11 (fun r j => Ideal.ofBits FTy.f32 1068827891#32 * D x1 x2 x3 x6 x7 r j) hz.i11 h11 r j hr
  · refine (congrFun (u12_get _ _).2.2.2.1 _).trans ?_
    exact rows_step k z.o12 w12 (fun r j => x6 (ix2 0 j) * D x1 x2 x3 x6 x7 r j) hz.i12 h12 r j hr
  · refine (congrFun ((u12_get _ _).2.2.2.2.1.trans ((u11_get _ _).2.2.2.2.1.trans ((u15_get _ _).2.2.2.2.1.trans ((u14_get _ _).2.2.2.2.1.trans (u13_get _ _).2.2.2.2.1)))) _).trans ?_
    exact sum_step 128 k.val (by omega) (E13 x1 x2 x3 x6) j _ _ _ (fun x => f13 x j) (hz.i13 j) (h13 j) fun x R hR => g13 x j R hR
  · refine (congrFun ((u12_get _ _).2.2.2.2.2.1.trans ((u11_get _ _).2.2.2.2.2.1.trans ((u15_get _ _).2.2.2.2.2.1.trans (u14_get _ _).2.2.2.2.2.1))) _).trans ?_
    exact sum_step 128 k.val (by omega) (E14 x1) j _ _ _ (fun x => f14 x j) (hz.i14 j) (h14 j) fun x R hR => g14 x j R hR
  · refine (congrFun ((u12_get _ _).2.2.2.2.2.2.trans ((u11_get _ _).2.2.2.2.2.2.trans (u15_get _ _).2.2.2.2.2.2)) _).trans ?_
    exact sum_step 128 k.val (by omega) (E15 x1 x2 x3 x6 x7) j _ _ _ (fun x => f15 x j) (hz.i15 j) (h15 j) fun x R hR => g15 x j R hR

set_option maxHeartbeats 1000000 in
theorem trip (hG : Good c R arg1 arg2 arg3 arg4 arg5 arg6 arg7 arg8 arg9 arg10 arg11 arg12 arg13 arg14 arg15 x1 x2 x3 x4 x5 x6 x7 x8) (k : Fin k0_t1_loop.trips) (z : State) (L13 L14 L15 : Fin 1024 → EReal)
    (hz : Inv x1 x2 x3 x6 x7 L13 L14 L15 k.val z) :
    Does (defs₀ (F := Ideal)) (c : Thread nD τ) R (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 k ⟨⟩) z
      (fun _ z' => Inv x1 x2 x3 x6 x7 L13 L14 L15 (k.val + 1) z') := by
  have hk := trips_lt k
  unfold k0_t1_body
  refine Does.bind ?_
  rw [k0_part1_eq_skeleton]; unfold k0_part1_skel
  refine Does.bind (Does.load hG.g1 fun v476 ev476 => ?_)
  refine Does.bind (Does.load hG.g3 fun v478 ev478 => ?_)
  refine Does.bind (Does.load hG.g2 fun v481 ev481 => ?_)
  refine Does.bind (Does.load hG.g6 fun v484 ev484 => ?_)
  refine Does.bind (Does.load hG.g7 fun v506 ev506 => ?_)
  refine Does.pure ?_
  dsimp only
  refine Does.bind ?_
  rw [k0_part2_eq_skeleton]; unfold k0_part2_skel
  refine Does.bind (Does.load hG.g13 fun v526 ev526 => ?_)
  refine Does.bind (Does.load hG.g13 fun v532 ev532 => ?_)
  refine Does.bind (Does.store hG.w13 fun z1 ez1 => ?_)
  refine Does.bind (Does.load hG.g14 fun v533 ev533 => ?_)
  refine Does.bind (Does.load hG.g14 fun v538 ev538 => ?_)
  refine Does.bind (Does.store hG.w14 fun z2 ez2 => ?_)
  refine Does.bind (Does.load hG.g15 fun v539 ev539 => ?_)
  refine Does.bind (Does.load hG.g15 fun v545 ev545 => ?_)
  refine Does.bind (Does.store hG.w15 fun z3 ez3 => ?_)
  refine Does.bind (Does.load hG.g11 fun v549 ev549 => ?_)
  refine Does.bind (Does.store hG.w11 fun z4 ez4 => ?_)
  refine Does.bind (Does.load hG.g6 fun v550 ev550 => ?_)
  refine Does.pure ?_
  dsimp only
  refine Does.bind (Does.load hG.g12 fun v555 ev555 => ?_)
  refine Does.bind (Does.store hG.w12 fun z5 ez5 => ?_)
  refine Does.pure ?_
  try dsimp only
  rw [ld_unit_lit _ _ (by decide)] at ev484 ev506 ev526 ev533 ev539 ev550
  rw [overlay_full] at ez1 ez2 ez3
  have h1 : ∀ (r : Fin 128) (R : Fin 256), R.val = 128 * k.val + r.val → ∀ y, v476 (ix2 r y) = x1 (ix2 R y) := fun r R hR y => ev476 ▸ ld_rows k x1 r y R hR
  have h2 : ∀ (r : Fin 128) (R : Fin 256), R.val = 128 * k.val + r.val → ∀ y, v481 (ix2 r y) = x2 (ix2 R y) := fun r R hR y => ev481 ▸ ld_rows k x2 r y R hR
  have h3 : ∀ (r : Fin 128) (R : Fin 256), R.val = 128 * k.val + r.val → ∀ y, v478 (ix2 r y) = x3 (ix2 R y) := fun r R hR y => ev478 ▸ ld_rows k x3 r y R hR
  have hD : ∀ (r : Fin 128) (R : Fin 256) (hR : R.val = 128 * k.val + r.val) (j : Fin 1024), k0_pay9 (F := Ideal) (k0_pay5 v478 v481 v484) (k0_pay6 v478 v481 v484) (k0_pay7 v476 v506) (k0_pay8 v476 v506) (ix2 r j)
      = D x1 x2 x3 x6 x7 R j := fun r R hR j => d_at (h1 r R hR) (h2 r R hR) (h3 r R hR) ev484 ev506 j
  have hX : ∀ (r : Fin 128) (R : Fin 256) (hR : R.val = 128 * k.val + r.val) (j : Fin 1024), k0_pay6 (F := Ideal) v478 v481 v484 (ix2 r j) = xhat (pr x2 x3 x6 R) j :=
    fun r R hR j => xhat_at (h2 r R hR) (h3 r R hR) ev484 j
  have h15 := fun j => pay12_at (k0_pay2 (F := Ideal) v478) (k0_pay5 v478 v481 v484) (k0_pay6 v478 v481 v484) (k0_pay7 v476 v506) (k0_pay8 v476 v506) v539 j
  have hS : ∀ (r : Fin 128) (j : Fin 1024), k0_pay13 (F := Ideal) (k0_pay5 v478 v481 v484) (k0_pay6 v478 v481 v484) (k0_pay7 v476 v506) (k0_pay8 v476 v506) (ix2 r j)
      = Ideal.ofBits FTy.f32 1068827891#32 * k0_pay9 (F := Ideal) (k0_pay5 v478 v481 v484) (k0_pay6 v478 v481 v484) (k0_pay7 v476 v506) (k0_pay8 v476 v506) (ix2 r j) := fun r j => by
    unfold k0_pay13
    generalize k0_pay9 (F := Ideal) (k0_pay5 v478 v481 v484) (k0_pay6 v478 v481 v484) (k0_pay7 v476 v506) (k0_pay8 v476 v506) = g
    pointwise
  have hT : ∀ (r : Fin 128) (j : Fin 1024), k0_pay17 (F := Ideal) (k0_pay9 (k0_pay5 v478 v481 v484) (k0_pay6 v478 v481 v484) (k0_pay7 v476 v506) (k0_pay8 v476 v506)) v550 (ix2 r j)
      = v550 (ix2 0 j) * k0_pay9 (F := Ideal) (k0_pay5 v478 v481 v484) (k0_pay6 v478 v481 v484) (k0_pay7 v476 v506) (k0_pay8 v476 v506) (ix2 r j) := fun r j => by
    generalize k0_pay9 (F := Ideal) (k0_pay5 v478 v481 v484) (k0_pay6 v478 v481 v484) (k0_pay7 v476 v506) (k0_pay8 v476 v506) = g
    pointwise [k0_pay17]
  have h2x : ∀ (r : Fin 128) (j : Fin 1024), k0_pay2 (F := Ideal) v478 (ix2 r j) = v478 (ix2 r j) := fun r j => by pointwise [k0_pay2]
  subst ez5 ez4 ez3 ez2 ez1 ev526 ev533 ev539
  exact step k z _ _ _ _ _ hz (fun r j R hR => (hS r j).trans (congrArg (Ideal.ofBits FTy.f32 1068827891#32 * ·) (hD r R hR j)))
    (fun r j R hR => (hT r j).trans (congrArg₂ (· * ·) (congrFun ev550 _) (hD r R hR j))) _ _ _
    (fun j => pay10_at _ _ _ j) (fun j => pay11_at _ _ j) h15
    (fun x j R hR => congrArg₂ (· * ·) (h1 x R hR j) (hX x R hR j)) (fun x j R hR => h1 x R hR j) (fun x j R hR => congrArg₂ (· * ·) (hD x R hR j) ((h2x x j).trans (h3 x R hR j)))

/-- One of the sixteen column pieces of an input block. -/
def ch (X : Vec Ideal S16x256x128 .bf16) (k : Fin 16) : Vec Ideal S1x256x128 .bf16 := fun i => X (ix3 k (i 1) (i 2))

theorem ld_ch (X : Vec Ideal S16x256x128 .bf16) (k : ℕ) (hk : k < 16) (inb) :
    View.ld X (Rect.unit (s := S16x256x128) ![k, 0, 0] S1x256x128.size inb) = ch X ⟨k, hk⟩ := by
  funext i
  refine ld_unit_apply_of X _ _ _ _ _ fun a => ?_
  match a with
  | ⟨0, _⟩ => have : (i 0).val < 1 := (i 0).isLt; show k = k + (i 0).val; omega
  | ⟨1, _⟩ => exact (Nat.zero_add _).symm
  | ⟨2, _⟩ => exact (Nat.zero_add _).symm

theorem slc : ∀ k : Fin 16, S256x2048.Slices ![0, 128 * k.val] S256x128 := by decide

/-- Piece k of the gradient at the gated product's first factor, and at the gate. -/
def cy (dz : FVec Ideal S256x2048 .f32) (k : Fin 16) (g : Vec Ideal S1x256x128 .bf16) : FVec Ideal S1x256x128 .f32 :=
  shapeCast S1x256x128 (mulf (extractStridedSlice S256x128 ![0, 128 * k.val] dz (slc k)) (mulf (k0_pay20 g) (k0_pay21 g))) shapeCasts_S256x128_S1x256x128

def cx (dz : FVec Ideal S256x2048 .f32) (k : Fin 16) (g y : Vec Ideal S1x256x128 .bf16) : FVec Ideal S256x128 .bf16 :=
  k0_pay25 (k0_pay21 g) (mulf (extractStridedSlice S256x128 ![0, 128 * k.val] dz (slc k)) (k0_pay20 y)) (k0_pay24 g)

theorem inbY : ∀ k : Fin 16, ∀ a, (![k.val, 0, 0] : Fin 3 → ℕ) a + S1x256x128.size a ≤ S16x256x128.size a := by decide
theorem inbX : ∀ k : Fin 16, ∀ a, (![0, 128 * k.val] : Fin 2 → ℕ) a + S256x128.size a ≤ S256x2048.size a := by decide

/-- The blocks after the first n pieces are stored. -/
def fillY (v : Fin 16 → S1x256x128.Idx → EReal) (f : S16x256x128.Idx → EReal) : (n : ℕ) → n ≤ 16 → S16x256x128.Idx → EReal
  | 0, _ => f
  | n + 1, h => (Rect.unit (s := S16x256x128) ![n, 0, 0] S1x256x128.size (inbY ⟨n, h⟩)).overlay (fillY v f n (Nat.le_of_succ_le h)) (v ⟨n, h⟩)

def fillX (v : Fin 16 → S256x128.Idx → EReal) (f : S256x2048.Idx → EReal) : (n : ℕ) → n ≤ 16 → S256x2048.Idx → EReal
  | 0, _ => f
  | n + 1, h => (Rect.unit (s := S256x2048) ![0, 128 * n] S256x128.size (inbX ⟨n, h⟩)).overlay (fillX v f n (Nat.le_of_succ_le h)) (v ⟨n, h⟩)

theorem fillY_at (v : Fin 16 → S1x256x128.Idx → EReal) (f : S16x256x128.Idx → EReal) (k : Fin 16) (r : Fin 256) (l : Fin 128) :
    ∀ (n : ℕ) (h : n ≤ 16), k.val < n → fillY v f n h (ix3 k r l) = v k (ix3 0 r l)
  | 0, _, hk => absurd hk (Nat.not_lt_zero _)
  | n + 1, h, hk => by
    by_cases e : k.val = n
    · obtain rfl : k = ⟨n, h⟩ := Fin.ext e
      show (Rect.unit (s := S16x256x128) ![n, 0, 0] S1x256x128.size (inbY ⟨n, h⟩)).overlay _ _ _ = _
      refine overlay_in (s := S16x256x128) (off := ![n, 0, 0]) (size := S1x256x128.size) (inbY ⟨n, h⟩) _ _ _ (ix3 (0 : Fin 1) r l) fun a => ?_
      match a with
      | ⟨0, _⟩ => rfl
      | ⟨1, _⟩ => exact (Nat.zero_add _).symm
      | ⟨2, _⟩ => exact (Nat.zero_add _).symm
    · exact (overlay_out _ _ _ _ (0 : Fin 3) (Or.inl (show k.val < n by omega))).trans (fillY_at v f k r l n (Nat.le_of_succ_le h) (by omega))

theorem fillX_at (v : Fin 16 → S256x128.Idx → EReal) (f : S256x2048.Idx → EReal) (k : Fin 16) (r : Fin 256) (l : Fin 128) (e : Fin 2048) (he : e.val = 128 * k.val + l.val) :
    ∀ (n : ℕ) (h : n ≤ 16), k.val < n → fillX v f n h (ix2 r e) = v k (ix2 r l)
  | 0, _, hk => absurd hk (Nat.not_lt_zero _)
  | n + 1, h, hk => by
    by_cases e' : k.val = n
    · obtain rfl : k = ⟨n, h⟩ := Fin.ext e'
      show (Rect.unit (s := S256x2048) ![0, 128 * n] S256x128.size (inbX ⟨n, h⟩)).overlay _ _ _ = _
      refine overlay_in (s := S256x2048) (off := ![0, 128 * n]) (size := S256x128.size) (inbX ⟨n, h⟩) _ _ _ (ix2 r l) fun a => ?_
      match a with
      | ⟨0, _⟩ => exact (Nat.zero_add _).symm
      | ⟨1, _⟩ => exact he
    · exact (overlay_out _ _ _ _ (1 : Fin 2) (Or.inl (show e.val < 128 * n by omega))).trans (fillX_at v f k r l e he n (Nat.le_of_succ_le h) (by omega))

theorem fillY_succ (v : Fin 16 → S1x256x128.Idx → EReal) (f : S16x256x128.Idx → EReal) (n : ℕ) (h : n < 16) (inb) :
    (Rect.unit (s := S16x256x128) ![n, 0, 0] S1x256x128.size inb).overlay (fillY v f n (Nat.le_of_lt h)) (v ⟨n, h⟩) = fillY v f (n + 1) h := rfl

theorem fillX_succ (v : Fin 16 → S256x128.Idx → EReal) (f : S256x2048.Idx → EReal) (n : ℕ) (h : n < 16) (inb) :
    (Rect.unit (s := S256x2048) ![0, 128 * n] S256x128.size inb).overlay (fillX v f n (Nat.le_of_lt h)) (v ⟨n, h⟩) = fillX v f (n + 1) h := rfl

/-- The state after a pieces of the first and b pieces of the second are stored over z0. -/
structure At (z0 : State) (dz : FVec Ideal S256x2048 .f32) (x4 x5 : Vec Ideal S16x256x128 .bf16) (a b : ℕ) (z : State) : Prop where
  ha : a ≤ 16
  hb : b ≤ 16
  o9 : z.o9 = fillY (fun k => cy dz k (ch x5 k)) z0.o9 a ha
  o10 : z.o10 = fillX (fun k => cx dz k (ch x5 k) (ch x4 k)) z0.o10 b hb
  o11 : z.o11 = z0.o11
  o12 : z.o12 = z0.o12
  o13 : z.o13 = z0.o13
  o14 : z.o14 = z0.o14
  o15 : z.o15 = z0.o15

theorem put9 (a : ℕ) {b : ℕ} {z0 z z' : State} {dz : FVec Ideal S256x2048 .f32} {x4 x5 : Vec Ideal S16x256x128 .bf16} (hn : a < 16)
    {w : FVec Ideal S1x256x128 .f32} {inb} (h : At z0 dz x4 x5 a b z)
    (ez : z' = u9 z ((Rect.unit (s := S16x256x128) ![a, 0, 0] S1x256x128.size inb).overlay z.o9 w)) (hw : w = cy dz ⟨a, hn⟩ (ch x5 ⟨a, hn⟩)) :
    At z0 dz x4 x5 (a + 1) b z' := by
  subst ez hw
  obtain ⟨e10, e11, e12, e13, e14, e15⟩ := (u9_get z ((Rect.unit (s := S16x256x128) ![a, 0, 0] S1x256x128.size inb).overlay z.o9 (cy dz ⟨a, hn⟩ (ch x5 ⟨a, hn⟩)))).2
  refine ⟨hn, h.hb, (u9_get _ _).1.trans ?_, e10.trans h.o10, e11.trans h.o11, e12.trans h.o12, e13.trans h.o13, e14.trans h.o14, e15.trans h.o15⟩
  exact (congrArg (fun o => (Rect.unit (s := S16x256x128) ![a, 0, 0] S1x256x128.size inb).overlay o (cy dz ⟨a, hn⟩ (ch x5 ⟨a, hn⟩))) h.o9).trans
    (fillY_succ (fun k => cy dz k (ch x5 k)) z0.o9 a hn inb)

theorem put10 (b : ℕ) {a : ℕ} {z0 z z' : State} {dz : FVec Ideal S256x2048 .f32} {x4 x5 : Vec Ideal S16x256x128 .bf16} (hn : b < 16)
    {w : FVec Ideal S256x128 .bf16} {inb} (h : At z0 dz x4 x5 a b z)
    (ez : z' = u10 z ((Rect.unit (s := S256x2048) ![0, 128 * b] S256x128.size inb).overlay z.o10 w)) (hw : w = cx dz ⟨b, hn⟩ (ch x5 ⟨b, hn⟩) (ch x4 ⟨b, hn⟩)) :
    At z0 dz x4 x5 a (b + 1) z' := by
  subst ez hw
  obtain ⟨e9, e10, e11, e12, e13, e14, e15⟩ := u10_get z ((Rect.unit (s := S256x2048) ![0, 128 * b] S256x128.size inb).overlay z.o10 (cx dz ⟨b, hn⟩ (ch x5 ⟨b, hn⟩) (ch x4 ⟨b, hn⟩)))
  refine ⟨h.ha, hn, e9.trans h.o9, e10.trans ?_, e11.trans h.o11, e12.trans h.o12, e13.trans h.o13, e14.trans h.o14, e15.trans h.o15⟩
  exact (congrArg (fun o => (Rect.unit (s := S256x2048) ![0, 128 * b] S256x128.size inb).overlay o (cx dz ⟨b, hn⟩ (ch x5 ⟨b, hn⟩) (ch x4 ⟨b, hn⟩))) h.o10).trans
    (fillX_succ (fun k => cx dz k (ch x5 k) (ch x4 k)) z0.o10 b hn inb)

/-- The condition of the body's branch: the first point. -/
abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The branch's gradient, one block of rows. -/
def db (x1 x2 x3 : Vec Ideal S256x1024 .f32) (x6 x7 : Vec Ideal S1x1024 .f32) : Vec Ideal S256x1024 .bf16 := fun i => x6 (ix2 0 (i 1)) * D x1 x2 x3 x6 x7 (i 0) (i 1)

/-- What the body leaves: the loop's arrays and sums, and every column piece. -/
structure Post (x1 x2 x3 : Vec Ideal S256x1024 .f32) (x4 x5 : Vec Ideal S16x256x128 .bf16) (x6 x7 : Vec Ideal S1x1024 .f32) (x8 : Vec Ideal S2048x1024 .bf16) (L13 L14 L15 : Fin 1024 → EReal) (z : State) : Prop where
  inv : Inv x1 x2 x3 x6 x7 L13 L14 L15 2 z
  o9 : ∀ (k : Fin 16) (r : Fin 256) (l : Fin 128), z.o9 (ix3 k r l) = cy (k0_pay18 (F := Ideal) (db x1 x2 x3 x6 x7) x8) k (ch x5 k) (ix3 0 r l)
  o10 : ∀ (k : Fin 16) (r : Fin 256) (l : Fin 128) (e : Fin 2048), e.val = 128 * k.val + l.val →
    z.o10 (ix2 r e) = cx (k0_pay18 (F := Ideal) (db x1 x2 x3 x6 x7) x8) k (ch x5 k) (ch x4 k) (ix2 r l)

set_option maxHeartbeats 4000000 in
theorem body (hG : Good c R arg1 arg2 arg3 arg4 arg5 arg6 arg7 arg8 arg9 arg10 arg11 arg12 arg13 arg14 arg15 x1 x2 x3 x4 x5 x6 x7 x8) (z : State) (L13 L14 L15 : Fin 1024 → EReal)
    (h0 : cond0_0 i → (∀ l, L13 l = 0) ∧ (∀ l, L14 l = 0) ∧ ∀ l, L15 l = 0)
    (h1 : ¬ cond0_0 i → (∀ l, z.o13 (ix2 0 l) = L13 l) ∧ (∀ l, z.o14 (ix2 0 l) = L14 l) ∧ ∀ l, z.o15 (ix2 0 l) = L15 l) :
    Does (defs₀ (F := Ideal)) (c : Thread nD τ) R (cc0_outproj_bwd0 (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15) z
      (fun _ z' => Post x1 x2 x3 x4 x5 x6 x7 x8 L13 L14 L15 z') := by
  rw [cc0_outproj_bwd0_eq_skeleton]
  unfold cc0_outproj_bwd0_skel
  refine Does.bind ?_
  rw [k0_part15_eq_skeleton]; unfold k0_part15_skel
  refine Does.bind ?_
  rw [k0_part3_eq_skeleton]; unfold k0_part3_skel
  dsimp only
  refine Does.dite_jp (fun z' => Inv x1 x2 x3 x6 x7 L13 L14 L15 0 z') ?_ (fun hc => ?_) (fun jp hc => ?_)
  rotate_left
  · refine ⟨fun r j h => absurd h (Nat.not_lt_zero _), fun r j h => absurd h (Nat.not_lt_zero _), fun j => ?_, fun j => ?_, fun j => ?_⟩
    · rw [(h1 hc).1 j]; simp
    · rw [(h1 hc).2.1 j]; simp
    · rw [(h1 hc).2.2 j]; simp
  · refine Does.bind (Does.load hG.g13 fun v474 ev474 => ?_)
    refine Does.bind (Does.store hG.w13 fun z6 ez6 => ?_)
    refine Does.bind (Does.load hG.g14 fun v476 ev476 => ?_)
    refine Does.bind (Does.store hG.w14 fun z7 ez7 => ?_)
    refine Does.bind (Does.load hG.g15 fun v478 ev478 => ?_)
    refine Does.bind (Does.store hG.w15 fun z8 ez8 => ?_)
    rw [overlay_full] at ez6 ez7 ez8
    subst ez8 ez7 ez6
    refine jp _ ⟨fun r j h => absurd h (Nat.not_lt_zero _), fun r j h => absurd h (Nat.not_lt_zero _), fun j => ?_, fun j => ?_, fun j => ?_⟩
    · rw [(h0 hc).1 j]
      show k0_pay14 (F := Ideal) (ix2 0 j) = _
      pointwise [k0_pay14]
      simp
    · rw [(h0 hc).2.1 j]
      show k0_pay15 (F := Ideal) (ix2 0 j) = _
      pointwise [k0_pay15]
      simp
    · rw [(h0 hc).2.2 j]
      show k0_pay16 (F := Ideal) (ix2 0 j) = _
      pointwise [k0_pay16]
      simp
  intro z4 hz4
  refine Does.bind (Does.mono (Q' := fun _ z' => Inv x1 x2 x3 x6 x7 L13 L14 L15 2 z')
    (Does.loop (fun k _ z => Inv x1 x2 x3 x6 x7 L13 L14 L15 k z) hz4 (fun k _ z h => trip hG k z _ _ _ h) fun _ z h => h) fun _ z5 hz5 => ?_)
  refine Does.bind (Does.load hG.g12 fun v4 ev4 => ?_)
  rw [ld_unit_lit _ _ (by decide)] at ev4
  have hdb : v4 = db x1 x2 x3 x6 x7 := ev4.trans (funext fun i => (congrArg z5.o12 (eq_ix2 i)).trans (hz5.i12 (i 0) (i 1) (i 0).isLt))
  subst hdb
  refine Does.bind (Does.load hG.g8 fun v6 ev6 => ?_)
  rw [ld_unit_lit _ _ (by decide)] at ev6
  subst ev6
  have s0 : At z5 (k0_pay18 (F := Ideal) (db x1 x2 x3 x6 x7) v6) x4 x5 0 0 z5 := ⟨by decide, by decide, rfl, rfl, rfl, rfl, rfl, rfl, rfl⟩
  refine Does.bind (Does.load hG.g5 fun v10 ev10 => ?_)
  rw [ld_ch _ 0 (by decide)] at ev10
  subst ev10
  refine Does.bind (Does.load hG.g9 fun v22 ev22 => ?_)
  refine Does.bind (Does.store hG.w9 fun z9 ez9 => ?_)
  have s9 := put9 0 (by decide) s0 ez9 rfl
  clear ez9 s0
  refine Does.bind (Does.load hG.g4 fun v25 ev25 => ?_)
  rw [ld_ch _ 0 (by decide)] at ev25
  subst ev25
  refine Does.pure ?_
  try dsimp only
  refine Does.bind ?_
  rw [k0_part4_eq_skeleton]; unfold k0_part4_skel
  refine Does.bind (Does.load hG.g10 fun v37 ev37 => ?_)
  refine Does.bind (Does.store hG.w10 fun z10 ez10 => ?_)
  have s10 := put10 0 (by decide) s9 ez10 rfl
  clear ez10 s9
  refine Does.bind (Does.load hG.g5 fun v39 ev39 => ?_)
  rw [ld_ch _ 1 (by decide)] at ev39
  subst ev39
  refine Does.bind (Does.load hG.g9 fun v51 ev51 => ?_)
  refine Does.bind (Does.store hG.w9 fun z11 ez11 => ?_)
  have s11 := put9 1 (by decide) s10 ez11 rfl
  clear ez11 s10
  refine Does.bind (Does.load hG.g4 fun v54 ev54 => ?_)
  rw [ld_ch _ 1 (by decide)] at ev54
  subst ev54
  refine Does.bind (Does.load hG.g10 fun v66 ev66 => ?_)
  refine Does.bind (Does.store hG.w10 fun z12 ez12 => ?_)
  have s12 := put10 1 (by decide) s11 ez12 rfl
  clear ez12 s11
  refine Does.pure ?_
  try dsimp only
  refine Does.bind ?_
  rw [k0_part5_eq_skeleton]; unfold k0_part5_skel
  refine Does.bind (Does.load hG.g5 fun v68 ev68 => ?_)
  rw [ld_ch _ 2 (by decide)] at ev68
  subst ev68
  refine Does.bind (Does.load hG.g9 fun v80 ev80 => ?_)
  refine Does.bind (Does.store hG.w9 fun z13 ez13 => ?_)
  have s13 := put9 2 (by decide) s12 ez13 rfl
  clear ez13 s12
  refine Does.bind (Does.load hG.g4 fun v83 ev83 => ?_)
  rw [ld_ch _ 2 (by decide)] at ev83
  subst ev83
  refine Does.bind (Does.load hG.g10 fun v95 ev95 => ?_)
  refine Does.bind (Does.store hG.w10 fun z14 ez14 => ?_)
  have s14 := put10 2 (by decide) s13 ez14 rfl
  clear ez14 s13
  refine Does.bind (Does.load hG.g5 fun v97 ev97 => ?_)
  rw [ld_ch _ 3 (by decide)] at ev97
  subst ev97
  refine Does.pure ?_
  try dsimp only
  refine Does.bind ?_
  rw [k0_part6_eq_skeleton]; unfold k0_part6_skel
  refine Does.bind (Does.load hG.g9 fun v109 ev109 => ?_)
  refine Does.bind (Does.store hG.w9 fun z15 ez15 => ?_)
  have s15 := put9 3 (by decide) s14 ez15 rfl
  clear ez15 s14
  refine Does.bind (Does.load hG.g4 fun v112 ev112 => ?_)
  rw [ld_ch _ 3 (by decide)] at ev112
  subst ev112
  refine Does.bind (Does.load hG.g10 fun v124 ev124 => ?_)
  refine Does.bind (Does.store hG.w10 fun z16 ez16 => ?_)
  have s16 := put10 3 (by decide) s15 ez16 rfl
  clear ez16 s15
  refine Does.bind (Does.load hG.g5 fun v126 ev126 => ?_)
  rw [ld_ch _ 4 (by decide)] at ev126
  subst ev126
  refine Does.bind (Does.load hG.g9 fun v138 ev138 => ?_)
  refine Does.bind (Does.store hG.w9 fun z17 ez17 => ?_)
  have s17 := put9 4 (by decide) s16 ez17 rfl
  clear ez17 s16
  refine Does.pure ?_
  try dsimp only
  refine Does.bind ?_
  rw [k0_part7_eq_skeleton]; unfold k0_part7_skel
  refine Does.bind (Does.load hG.g4 fun v141 ev141 => ?_)
  rw [ld_ch _ 4 (by decide)] at ev141
  subst ev141
  refine Does.bind (Does.load hG.g10 fun v153 ev153 => ?_)
  refine Does.bind (Does.store hG.w10 fun z18 ez18 => ?_)
  have s18 := put10 4 (by decide) s17 ez18 rfl
  clear ez18 s17
  refine Does.bind (Does.load hG.g5 fun v155 ev155 => ?_)
  rw [ld_ch _ 5 (by decide)] at ev155
  subst ev155
  refine Does.bind (Does.load hG.g9 fun v167 ev167 => ?_)
  refine Does.bind (Does.store hG.w9 fun z19 ez19 => ?_)
  have s19 := put9 5 (by decide) s18 ez19 rfl
  clear ez19 s18
  refine Does.bind (Does.load hG.g4 fun v170 ev170 => ?_)
  rw [ld_ch _ 5 (by decide)] at ev170
  subst ev170
  refine Does.pure ?_
  try dsimp only
  refine Does.bind ?_
  rw [k0_part8_eq_skeleton]; unfold k0_part8_skel
  refine Does.bind (Does.load hG.g10 fun v182 ev182 => ?_)
  refine Does.bind (Does.store hG.w10 fun z20 ez20 => ?_)
  have s20 := put10 5 (by decide) s19 ez20 rfl
  clear ez20 s19
  refine Does.bind (Does.load hG.g5 fun v184 ev184 => ?_)
  rw [ld_ch _ 6 (by decide)] at ev184
  subst ev184
  refine Does.bind (Does.load hG.g9 fun v196 ev196 => ?_)
  refine Does.bind (Does.store hG.w9 fun z21 ez21 => ?_)
  have s21 := put9 6 (by decide) s20 ez21 rfl
  clear ez21 s20
  refine Does.bind (Does.load hG.g4 fun v199 ev199 => ?_)
  rw [ld_ch _ 6 (by decide)] at ev199
  subst ev199
  refine Does.bind (Does.load hG.g10 fun v211 ev211 => ?_)
  refine Does.bind (Does.store hG.w10 fun z22 ez22 => ?_)
  have s22 := put10 6 (by decide) s21 ez22 rfl
  clear ez22 s21
  refine Does.bind (Does.load hG.g5 fun v213 ev213 => ?_)
  rw [ld_ch _ 7 (by decide)] at ev213
  subst ev213
  refine Does.pure ?_
  try dsimp only
  refine Does.bind ?_
  rw [k0_part9_eq_skeleton]; unfold k0_part9_skel
  refine Does.bind (Does.load hG.g9 fun v225 ev225 => ?_)
  refine Does.bind (Does.store hG.w9 fun z23 ez23 => ?_)
  have s23 := put9 7 (by decide) s22 ez23 rfl
  clear ez23 s22
  refine Does.bind (Does.load hG.g4 fun v228 ev228 => ?_)
  rw [ld_ch _ 7 (by decide)] at ev228
  subst ev228
  refine Does.bind (Does.load hG.g10 fun v240 ev240 => ?_)
  refine Does.bind (Does.store hG.w10 fun z24 ez24 => ?_)
  have s24 := put10 7 (by decide) s23 ez24 rfl
  clear ez24 s23
  refine Does.bind (Does.load hG.g5 fun v242 ev242 => ?_)
  rw [ld_ch _ 8 (by decide)] at ev242
  subst ev242
  refine Does.pure ?_
  try dsimp only
  refine Does.bind ?_
  rw [k0_part10_eq_skeleton]; unfold k0_part10_skel
  refine Does.bind (Does.load hG.g9 fun v254 ev254 => ?_)
  refine Does.bind (Does.store hG.w9 fun z25 ez25 => ?_)
  have s25 := put9 8 (by decide) s24 ez25 rfl
  clear ez25 s24
  refine Does.bind (Does.load hG.g4 fun v257 ev257 => ?_)
  rw [ld_ch _ 8 (by decide)] at ev257
  subst ev257
  refine Does.bind (Does.load hG.g10 fun v269 ev269 => ?_)
  refine Does.bind (Does.store hG.w10 fun z26 ez26 => ?_)
  have s26 := put10 8 (by decide) s25 ez26 rfl
  clear ez26 s25
  refine Does.bind (Does.load hG.g5 fun v271 ev271 => ?_)
  rw [ld_ch _ 9 (by decide)] at ev271
  subst ev271
  refine Does.bind (Does.load hG.g9 fun v283 ev283 => ?_)
  refine Does.bind (Does.store hG.w9 fun z27 ez27 => ?_)
  have s27 := put9 9 (by decide) s26 ez27 rfl
  clear ez27 s26
  refine Does.bind (Does.load hG.g4 fun v286 ev286 => ?_)
  rw [ld_ch _ 9 (by decide)] at ev286
  subst ev286
  refine Does.pure ?_
  try dsimp only
  refine Does.bind ?_
  rw [k0_part11_eq_skeleton]; unfold k0_part11_skel
  refine Does.bind (Does.load hG.g10 fun v298 ev298 => ?_)
  refine Does.bind (Does.store hG.w10 fun z28 ez28 => ?_)
  have s28 := put10 9 (by decide) s27 ez28 rfl
  clear ez28 s27
  refine Does.bind (Does.load hG.g5 fun v300 ev300 => ?_)
  rw [ld_ch _ 10 (by decide)] at ev300
  subst ev300
  refine Does.bind (Does.load hG.g9 fun v312 ev312 => ?_)
  refine Does.bind (Does.store hG.w9 fun z29 ez29 => ?_)
  have s29 := put9 10 (by decide) s28 ez29 rfl
  clear ez29 s28
  refine Does.bind (Does.load hG.g4 fun v315 ev315 => ?_)
  rw [ld_ch _ 10 (by decide)] at ev315
  subst ev315
  refine Does.bind (Does.load hG.g10 fun v327 ev327 => ?_)
  refine Does.bind (Does.store hG.w10 fun z30 ez30 => ?_)
  have s30 := put10 10 (by decide) s29 ez30 rfl
  clear ez30 s29
  refine Does.pure ?_
  try dsimp only
  refine Does.bind ?_
  rw [k0_part12_eq_skeleton]; unfold k0_part12_skel
  refine Does.bind (Does.load hG.g5 fun v329 ev329 => ?_)
  rw [ld_ch _ 11 (by decide)] at ev329
  subst ev329
  refine Does.bind (Does.load hG.g9 fun v341 ev341 => ?_)
  refine Does.bind (Does.store hG.w9 fun z31 ez31 => ?_)
  have s31 := put9 11 (by decide) s30 ez31 rfl
  clear ez31 s30
  refine Does.bind (Does.load hG.g4 fun v344 ev344 => ?_)
  rw [ld_ch _ 11 (by decide)] at ev344
  subst ev344
  refine Does.bind (Does.load hG.g10 fun v356 ev356 => ?_)
  refine Does.bind (Does.store hG.w10 fun z32 ez32 => ?_)
  have s32 := put10 11 (by decide) s31 ez32 rfl
  clear ez32 s31
  refine Does.bind (Does.load hG.g5 fun v358 ev358 => ?_)
  rw [ld_ch _ 12 (by decide)] at ev358
  subst ev358
  refine Does.pure ?_
  try dsimp only
  refine Does.bind ?_
  rw [k0_part13_eq_skeleton]; unfold k0_part13_skel
  refine Does.bind (Does.load hG.g9 fun v370 ev370 => ?_)
  refine Does.bind (Does.store hG.w9 fun z33 ez33 => ?_)
  have s33 := put9 12 (by decide) s32 ez33 rfl
  clear ez33 s32
  refine Does.bind (Does.load hG.g4 fun v373 ev373 => ?_)
  rw [ld_ch _ 12 (by decide)] at ev373
  subst ev373
  refine Does.bind (Does.load hG.g10 fun v385 ev385 => ?_)
  refine Does.bind (Does.store hG.w10 fun z34 ez34 => ?_)
  have s34 := put10 12 (by decide) s33 ez34 rfl
  clear ez34 s33
  refine Does.bind (Does.load hG.g5 fun v387 ev387 => ?_)
  rw [ld_ch _ 13 (by decide)] at ev387
  subst ev387
  refine Does.bind (Does.load hG.g9 fun v399 ev399 => ?_)
  refine Does.bind (Does.store hG.w9 fun z35 ez35 => ?_)
  have s35 := put9 13 (by decide) s34 ez35 rfl
  clear ez35 s34
  refine Does.pure ?_
  try dsimp only
  refine Does.bind ?_
  rw [k0_part14_eq_skeleton]; unfold k0_part14_skel
  refine Does.bind (Does.load hG.g4 fun v402 ev402 => ?_)
  rw [ld_ch _ 13 (by decide)] at ev402
  subst ev402
  refine Does.bind (Does.load hG.g10 fun v414 ev414 => ?_)
  refine Does.bind (Does.store hG.w10 fun z36 ez36 => ?_)
  have s36 := put10 13 (by decide) s35 ez36 rfl
  clear ez36 s35
  refine Does.bind (Does.load hG.g5 fun v416 ev416 => ?_)
  rw [ld_ch _ 14 (by decide)] at ev416
  subst ev416
  refine Does.bind (Does.load hG.g9 fun v428 ev428 => ?_)
  refine Does.bind (Does.store hG.w9 fun z37 ez37 => ?_)
  have s37 := put9 14 (by decide) s36 ez37 rfl
  clear ez37 s36
  refine Does.bind (Does.load hG.g4 fun v431 ev431 => ?_)
  rw [ld_ch _ 14 (by decide)] at ev431
  subst ev431
  refine Does.pure ?_
  try dsimp only
  refine Does.bind (Does.load hG.g10 fun v443 ev443 => ?_)
  refine Does.bind (Does.store hG.w10 fun z38 ez38 => ?_)
  have s38 := put10 14 (by decide) s37 ez38 rfl
  clear ez38 s37
  refine Does.bind (Does.load hG.g5 fun v445 ev445 => ?_)
  rw [ld_ch _ 15 (by decide)] at ev445
  subst ev445
  refine Does.bind (Does.load hG.g9 fun v457 ev457 => ?_)
  refine Does.bind (Does.store hG.w9 fun z39 ez39 => ?_)
  have s39 := put9 15 (by decide) s38 ez39 rfl
  clear ez39 s38
  refine Does.bind (Does.load hG.g4 fun v460 ev460 => ?_)
  rw [ld_ch _ 15 (by decide)] at ev460
  subst ev460
  refine Does.pure ?_
  try dsimp only
  refine Does.bind (Does.load hG.g10 fun v472 ev472 => ?_)
  refine Does.bind (Does.store hG.w10 fun z40 ez40 => ?_)
  have s40 := put10 15 (by decide) s39 ez40 rfl
  clear ez40 s39
  refine Does.pure ?_
  exact ⟨⟨fun r j hr => (congrFun s40.o11 _).trans (hz5.i11 r j hr), fun r j hr => (congrFun s40.o12 _).trans (hz5.i12 r j hr), fun j => (congrFun s40.o13 _).trans (hz5.i13 j),
    fun j => (congrFun s40.o14 _).trans (hz5.i14 j), fun j => (congrFun s40.o15 _).trans (hz5.i15 j)⟩,
    fun k r l => (congrFun s40.o9 _).trans (fillY_at _ _ k r l 16 _ k.isLt), fun k r l e he => (congrFun s40.o10 _).trans (fillX_at _ _ k r l e he 16 _ k.isLt)⟩

end Cert.OutBwdIdeal.Val
-- ==== Proof.OutBwdDat.lean ====
module

public import proofs.«01_k».proof.Proof.OutBwdRun

@[expose] public section

set_option maxRecDepth 65536

/-!
The run of OutBwdIdeal with its outputs named: from what the body leaves at a point, given what it finds there, to what every
array holds at the end.
-/

noncomputable section

namespace Cert.OutBwdIdeal.Val

open Cert.OutBwdIdeal Cert.OutBwdIdeal.Gen Runs
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (O : Dev nD → Fin cfg0.N → State)

/-- The pipeline's data: each input's buffer at its block after every point, each output's as O names it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (O c t).o9
    | ⟨9, _⟩ => (O c t).o10
    | ⟨10, _⟩ => (O c t).o11
    | ⟨11, _⟩ => (O c t).o12
    | ⟨12, _⟩ => (O c t).o13
    | ⟨13, _⟩ => (O c t).o14
    | ⟨14, _⟩ => (O c t).o15
    | ⟨k + 15, h⟩ => absurd (show k + 15 < 15 from h) (by omega)
  Φ _ := Pipeline.ΦA spec0 c
  q _ := fullShare
  owed _ := 0

theorem A_eq (c : Dev nD) (w : Fin cfg0.W) : (dats m O 0 c).A w = V m c (Pipeline.arrRef spec0 w) := by
  dsimp only [dats]

theorem after0_0 (c : Dev nD) (t : Fin cfg0.N) : (dats m O 0 c).after 0 t = iblk m c 0 t := by dsimp only [dats]
theorem after0_1 (c : Dev nD) (t : Fin cfg0.N) : (dats m O 0 c).after 1 t = iblk m c 1 t := by dsimp only [dats]
theorem after0_2 (c : Dev nD) (t : Fin cfg0.N) : (dats m O 0 c).after 2 t = iblk m c 2 t := by dsimp only [dats]
theorem after0_3 (c : Dev nD) (t : Fin cfg0.N) : (dats m O 0 c).after 3 t = iblk m c 3 t := by dsimp only [dats]
theorem after0_4 (c : Dev nD) (t : Fin cfg0.N) : (dats m O 0 c).after 4 t = iblk m c 4 t := by dsimp only [dats]
theorem after0_5 (c : Dev nD) (t : Fin cfg0.N) : (dats m O 0 c).after 5 t = iblk m c 5 t := by dsimp only [dats]
theorem after0_6 (c : Dev nD) (t : Fin cfg0.N) : (dats m O 0 c).after 6 t = iblk m c 6 t := by dsimp only [dats]
theorem after0_7 (c : Dev nD) (t : Fin cfg0.N) : (dats m O 0 c).after 7 t = iblk m c 7 t := by dsimp only [dats]
theorem after0_8 (c : Dev nD) (t : Fin cfg0.N) : (dats m O 0 c).after 8 t = (O c t).o9 := by dsimp only [dats]
theorem after0_9 (c : Dev nD) (t : Fin cfg0.N) : (dats m O 0 c).after 9 t = (O c t).o10 := by dsimp only [dats]
theorem after0_10 (c : Dev nD) (t : Fin cfg0.N) : (dats m O 0 c).after 10 t = (O c t).o11 := by dsimp only [dats]
theorem after0_11 (c : Dev nD) (t : Fin cfg0.N) : (dats m O 0 c).after 11 t = (O c t).o12 := by dsimp only [dats]
theorem after0_12 (c : Dev nD) (t : Fin cfg0.N) : (dats m O 0 c).after 12 t = (O c t).o13 := by dsimp only [dats]
theorem after0_13 (c : Dev nD) (t : Fin cfg0.N) : (dats m O 0 c).after 13 t = (O c t).o14 := by dsimp only [dats]
theorem after0_14 (c : Dev nD) (t : Fin cfg0.N) : (dats m O 0 c).after 14 t = (O c t).o15 := by dsimp only [dats]
theorem before0_0 (c : Dev nD) (t : Fin cfg0.N) (d) : (dats m O 0 c).before 0 t d = iblk m c 0 t :=
  before0_0_of m (dats m O 0 c) (A_eq m O c 0) (after0_0 m O c) t d
theorem before0_1 (c : Dev nD) (t : Fin cfg0.N) (d) : (dats m O 0 c).before 1 t d = iblk m c 1 t :=
  before0_1_of m (dats m O 0 c) (A_eq m O c 1) (after0_1 m O c) t d
theorem before0_2 (c : Dev nD) (t : Fin cfg0.N) (d) : (dats m O 0 c).before 2 t d = iblk m c 2 t :=
  before0_2_of m (dats m O 0 c) (A_eq m O c 2) (after0_2 m O c) t d
theorem before0_3 (c : Dev nD) (t : Fin cfg0.N) (d) : (dats m O 0 c).before 3 t d = iblk m c 3 t :=
  before0_3_of m (dats m O 0 c) (A_eq m O c 3) (after0_3 m O c) t d
theorem before0_4 (c : Dev nD) (t : Fin cfg0.N) (d) : (dats m O 0 c).before 4 t d = iblk m c 4 t :=
  before0_4_of m (dats m O 0 c) (A_eq m O c 4) (after0_4 m O c) t d
theorem before0_5 (c : Dev nD) (t : Fin cfg0.N) (d) : (dats m O 0 c).before 5 t d = iblk m c 5 t :=
  before0_5_of m (dats m O 0 c) (A_eq m O c 5) (after0_5 m O c) t d
theorem before0_6 (c : Dev nD) (t : Fin cfg0.N) (d) : (dats m O 0 c).before 6 t d = iblk m c 6 t :=
  before0_6_of m (dats m O 0 c) (A_eq m O c 6) (after0_6 m O c) t d
theorem before0_7 (c : Dev nD) (t : Fin cfg0.N) (d) : (dats m O 0 c).before 7 t d = iblk m c 7 t :=
  before0_7_of m (dats m O 0 c) (A_eq m O c 7) (after0_7 m O c) t d

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x256x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x256x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x1024 .f32 := win0_14.stage (cfg0.slots t 14)
abbrev hs0_14 (t : Fin cfg0.N) : (ms0_14 t).IsWhole := hstage0_14 ((cfg0.slots t 14).cast nbuf0_14)

/-- The body's triple: run at a point from what it finds, it leaves what O names. -/
def BodyRuns : Prop := ∀ (c : Dev nD) (t : Fin cfg0.N) (R : State → sProp 𝕄) (z : State),
  Good c R (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (iblk m c 0 t) (iblk m c 1 t) (iblk m c 2 t) (iblk m c 3 t) (iblk m c 4 t) (iblk m c 5 t) (iblk m c 6 t) (iblk m c 7 t) →
  (∃ d, z.o9 = (dats m O 0 c).before 8 t d) → (∃ d, z.o10 = (dats m O 0 c).before 9 t d) → (∃ d, z.o11 = (dats m O 0 c).before 10 t d) → (∃ d, z.o12 = (dats m O 0 c).before 11 t d) → (∃ d, z.o13 = (dats m O 0 c).before 12 t d) → (∃ d, z.o14 = (dats m O 0 c).before 13 t d) → (∃ d, z.o15 = (dats m O 0 c).before 14 t d) →
  Does (defs₀ (F := Ideal)) (c : Thread nD τ) R (bodyAt0 (F := Ideal) t) z (fun _ z' => z'.o9 = (O c t).o9 ∧ z'.o10 = (O c t).o10 ∧ z'.o11 = (O c t).o11 ∧ z'.o12 = (O c t).o12 ∧ z'.o13 = (O c t).o13 ∧ z'.o14 = (O c t).o14 ∧ z'.o15 = (O c t).o15)

/-- What the body is called with at point `t`, -/
def bodyPre (c : Dev nD) (t : Fin cfg0.N) : sProp 𝕄 :=
  iprop((dats m O 0 c).Φ t.castSucc ∗ (dats m O 0 c).owesAt () t.castSucc
    ∗ (∃ d, owns (c : Thread nD τ) (ms0_0 t) fullShare ((dats m O 0 c).before 0 t d))
    ∗ (∃ d, owns (c : Thread nD τ) (ms0_1 t) fullShare ((dats m O 0 c).before 1 t d))
    ∗ (∃ d, owns (c : Thread nD τ) (ms0_2 t) fullShare ((dats m O 0 c).before 2 t d))
    ∗ (∃ d, owns (c : Thread nD τ) (ms0_3 t) fullShare ((dats m O 0 c).before 3 t d))
    ∗ (∃ d, owns (c : Thread nD τ) (ms0_4 t) fullShare ((dats m O 0 c).before 4 t d))
    ∗ (∃ d, owns (c : Thread nD τ) (ms0_5 t) fullShare ((dats m O 0 c).before 5 t d))
    ∗ (∃ d, owns (c : Thread nD τ) (ms0_6 t) fullShare ((dats m O 0 c).before 6 t d))
    ∗ (∃ d, owns (c : Thread nD τ) (ms0_7 t) fullShare ((dats m O 0 c).before 7 t d))
    ∗ (∃ d, owns (c : Thread nD τ) (ms0_8 t) fullShare ((dats m O 0 c).before 8 t d))
    ∗ (∃ d, owns (c : Thread nD τ) (ms0_9 t) fullShare ((dats m O 0 c).before 9 t d))
    ∗ (∃ d, owns (c : Thread nD τ) (ms0_10 t) fullShare ((dats m O 0 c).before 10 t d))
    ∗ (∃ d, owns (c : Thread nD τ) (ms0_11 t) fullShare ((dats m O 0 c).before 11 t d))
    ∗ (∃ d, owns (c : Thread nD τ) (ms0_12 t) fullShare ((dats m O 0 c).before 12 t d))
    ∗ (∃ d, owns (c : Thread nD τ) (ms0_13 t) fullShare ((dats m O 0 c).before 13 t d))
    ∗ (∃ d, owns (c : Thread nD τ) (ms0_14 t) fullShare ((dats m O 0 c).before 14 t d)))

/-- and what it returns. -/
def bodyPost (c : Dev nD) (t : Fin cfg0.N) : sProp 𝕄 :=
  iprop((dats m O 0 c).Φ t.succ ∗ (dats m O 0 c).owesAt () t.succ
    ∗ owns (c : Thread nD τ) (ms0_0 t) fullShare ((dats m O 0 c).after 0 t)
    ∗ owns (c : Thread nD τ) (ms0_1 t) fullShare ((dats m O 0 c).after 1 t)
    ∗ owns (c : Thread nD τ) (ms0_2 t) fullShare ((dats m O 0 c).after 2 t)
    ∗ owns (c : Thread nD τ) (ms0_3 t) fullShare ((dats m O 0 c).after 3 t)
    ∗ owns (c : Thread nD τ) (ms0_4 t) fullShare ((dats m O 0 c).after 4 t)
    ∗ owns (c : Thread nD τ) (ms0_5 t) fullShare ((dats m O 0 c).after 5 t)
    ∗ owns (c : Thread nD τ) (ms0_6 t) fullShare ((dats m O 0 c).after 6 t)
    ∗ owns (c : Thread nD τ) (ms0_7 t) fullShare ((dats m O 0 c).after 7 t)
    ∗ owns (c : Thread nD τ) (ms0_8 t) fullShare ((dats m O 0 c).after 8 t)
    ∗ owns (c : Thread nD τ) (ms0_9 t) fullShare ((dats m O 0 c).after 9 t)
    ∗ owns (c : Thread nD τ) (ms0_10 t) fullShare ((dats m O 0 c).after 10 t)
    ∗ owns (c : Thread nD τ) (ms0_11 t) fullShare ((dats m O 0 c).after 11 t)
    ∗ owns (c : Thread nD τ) (ms0_12 t) fullShare ((dats m O 0 c).after 12 t)
    ∗ owns (c : Thread nD τ) (ms0_13 t) fullShare ((dats m O 0 c).after 13 t)
    ∗ owns (c : Thread nD τ) (ms0_14 t) fullShare ((dats m O 0 c).after 14 t))

set_option maxHeartbeats 4000000 in
/-- The body at any point: from what it is called with to what it returns. -/
theorem sound_body (HB : BodyRuns m O) (c : Dev nD) (t : Fin cfg0.N) :
    bodyPre m O c t ⊢ wp frame (wpE (defs₀ (F := Ideal)) Variants.none c none) Set.univ (bodyAt0 t) (fun _ => bodyPost m O c t) := by
  have hk := fun d8 d9 d10 d11 d12 d13 d14 => HB c t (Own c (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (iblk m c 0 t) (iblk m c 1 t) (iblk m c 2 t) (iblk m c 3 t) (iblk m c 4 t) (iblk m c 5 t) (iblk m c 6 t) (iblk m c 7 t)) ⟨(dats m O 0 c).before 8 t d8, (dats m O 0 c).before 9 t d9, (dats m O 0 c).before 10 t d10, (dats m O 0 c).before 11 t d11, (dats m O 0 c).before 12 t d12, (dats m O 0 c).before 13 t d13, (dats m O 0 c).before 14 t d14⟩ own_good ⟨d8, rfl⟩ ⟨d9, rfl⟩ ⟨d10, rfl⟩ ⟨d11, rfl⟩ ⟨d12, rfl⟩ ⟨d13, rfl⟩ ⟨d14, rfl⟩ Set.univ
  unfold Own at hk
  unfold bodyPre bodyPost
  simp only [before0_0, before0_1, before0_2, before0_3, before0_4, before0_5, before0_6, before0_7]
  rw [show (dats m O 0 c).Φ t.succ = (dats m O 0 c).Φ t.castSucc from rfl,
    show (dats m O 0 c).owesAt () t.succ = (dats m O 0 c).owesAt () t.castSucc from rfl,
    after0_0, after0_1, after0_2, after0_3, after0_4, after0_5, after0_6, after0_7, after0_8, after0_9, after0_10, after0_11, after0_12, after0_13, after0_14]
  iintro ⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (wp_wand_r frame (wpE (defs₀ (F := Ideal)) Variants.none c none) Set.univ)
  isplitl [H0 H1 H2 H3 H4 H5 H6 H7 H8 H9 H10 H11 H12 H13 H14]
  · iapply (hk d8 d9 d10 d11 d12 d13 d14)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · iintro %_ ⟨%z', %hz, HT⟩
    obtain ⟨e8, e9, e10, e11, e12, e13, e14⟩ := hz
    rw [e8, e9, e10, e11, e12, e13, e14]
    icases HT with ⟨H0, H1, H2, H3, H4, H5, H6, H7, H8, H9, H10, H11, H12, H13, H14⟩
    isplitl [Hg]; · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) :
    defs₀ (F := Ideal) .tc cfg0.body (cfg0.bodyArgs t (cfg0.slots t)) = bodyAt0 t := by
  unfold defs₀; rw [Defs.onTc_tc]

theorem body_obligation (HB : BodyRuns m O) (c : Dev nD) : BodyObligation (dats m O 0 c) (defs₀ (F := Ideal)) Variants.none () Set.univ := fun t => by
  rw [bigSep_W0, bigSep_W0, defs₀_row]
  exact triple_restated (sound_body m O HB c t) rfl .rfl fun _ => .rfl

set_option backward.isDefEq.respectTransparency.types false in
/-- Every run ends with each array at what the data say and every counter at zero. -/
theorem run_main (HB : BodyRuns m O) : θ_run defs (onTc (τ := τ) (main (F := Ideal))) (s₀ m ρ) (fun r => (Pipeline.FramePost cfgs (dats m O) 0 (V m)) r ∧ r.2.sem = fun _ => 0) :=
  Pipeline.θ_run_frame (Q' := _) cfgs (dats m O) (0 : Fin 1) launch0 defs₀ Variants.none m ρ main
    (hbody := fun c => (body_obligation m O HB c).loose) (hshare := fun c => (dats m O 0 c).share_full fun _ => rfl)
    (howed := fun _ _ => rfl) (V := V m) (hmain := hmain m Variants.none) (hA := A_eq m O) (hΦ := fun _ _ => rfl)

end Cert.OutBwdIdeal.Val

end
-- ==== Proof.OutBwdRef.lean ====
/-  The out-projection gradient's reference at an index: each result in terms of the residual row, the cotangent's row and the
    gradient of the norm. -/
module

public import proofs.«01_k».proof.Proof.Gen.OutBwdRefIdeal.Read
public import proofs.«01_k».proof.Proof.Rows
public import Idealize.ShloMosaic.Lib.Pointwise

@[expose] public section

set_option maxRecDepth 16384

noncomputable section

namespace Cert.OutBwdRefIdeal.Read

open Cert.OutBwdRefIdeal Cert.OutBwdRefIdeal.Gen
open Idealize.ShloMosaic Idealize.ShloMosaic.TcCoe Cert.Rows Cert.Finite

variable (x0 x6 : FVec Ideal S8192x1024 .f32) (x1 x2 : FVec Ideal S8192x2048 .f32) (x3 : FVec Ideal S1x1024 .f32) (x4 : FVec Ideal S2048x1024 .f32) (x5 : FVec Ideal S1024 .f32)

/-- The residual row, before its norm. -/
abbrev P (R : Fin 8192) : Fin 1024 → EReal := fun x => Ideal.ofBits FTy.f32 1068827891#32 * x0 (ix2 R x) + x3 (ix2 0 x) * val_main_v2 (F := Ideal) x1 x2 x4 (ix2 R x)

/-- The cotangent's row times the norm's scale. -/
abbrev Q (R : Fin 8192) : Fin 1024 → EReal := fun x => x6 (ix2 R x) * x5 (ix1 x)

/-- The gradient at the residual, and at the gated product. -/
def DR (R : Fin 8192) (j : Fin 1024) : EReal := drow (P x0 x1 x2 x3 x4 R) (Q x6 x5 R) j
def DZ (R : Fin 8192) (e : Fin 2048) : EReal := ∑ j : Fin 1024, x3 (ix2 0 j) * DR x0 x6 x1 x2 x3 x4 x5 R j * x4 (ix2 e j)

theorem branch_at (R : Fin 8192) (j : Fin 1024) : val_main_v2 (F := Ideal) x1 x2 x4 (ix2 R j) = ∑ k : Fin 2048, x1 (ix2 R k) * (x2 (ix2 R k) * Cert.Scalars.sig (x2 (ix2 R k))) * x4 (ix2 k j) := by
  pointwise [val_main_v1, val_main_v2, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_call1_v0, val_main_call1_v1, val_main_call1_v2, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  simp only [Cert.Scalars.sig, Ideal.ofBits_one_f32]

theorem v8_at (R : Fin 8192) (j : Fin 1024) : val_main_v8 (F := Ideal) x0 x1 x2 x3 x4 (ix2 R j) = P x0 x1 x2 x3 x4 R j := by
  pointwise [val_main_v3, val_main_v4, val_main_v5, val_main_v6, val_main_v7, val_main_v8, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]

theorem v46_at (R : Fin 8192) (j : Fin 1024) : val_main_v46 (F := Ideal) x5 x6 (ix2 R j) = Q x6 x5 R j := by
  pointwise [val_main_v30, val_main_v31, val_main_v32, val_main_v33, val_main_v34, val_main_v35, val_main_v36, val_main_v37, val_main_v38, val_main_v39, val_main_v40, val_main_v41, val_main_v42, val_main_v43, val_main_v44, val_main_v45, val_main_v46, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]

/-- Every argument holds real numbers. -/
structure Real : Prop where
  f0 : ∀ i, Fine (x0 i)
  f1 : ∀ i, Fine (x1 i)
  f2 : ∀ i, Fine (x2 i)
  f3 : ∀ i, Fine (x3 i)
  f4 : ∀ i, Fine (x4 i)
  f5 : ∀ i, Fine (x5 i)
  f6 : ∀ i, Fine (x6 i)

variable {x0 x1 x2 x3 x4 x5 x6} (h : Real x0 x6 x1 x2 x3 x4 x5)
include h

theorem fine_branch (R : Fin 8192) (j : Fin 1024) : Fine (val_main_v2 (F := Ideal) x1 x2 x4 (ix2 R j)) := by
  rw [branch_at]
  exact sum _ fun k => mul (mul (h.f1 _) (mul (h.f2 _) (fine_sig (h.f2 _)))) (h.f4 _)

theorem fine_P (R : Fin 8192) (j : Fin 1024) : Fine (P x0 x1 x2 x3 x4 R j) :=
  add (mul alpha (h.f0 _)) (mul (h.f3 _) (fine_branch h R j))

theorem fine_Q (R : Fin 8192) (j : Fin 1024) : Fine (Q x6 x5 R j) := mul (h.f6 _) (h.f5 _)

theorem fine_DR (R : Fin 8192) (j : Fin 1024) : Fine (DR x0 x6 x1 x2 x3 x4 x5 R j) := fine_drow (fine_P h R) (fine_Q h R) j

theorem fine_DZ (R : Fin 8192) (e : Fin 2048) : Fine (DZ x0 x6 x1 x2 x3 x4 x5 R e) := sum _ fun j => mul (mul (h.f3 _) (fine_DR h R j)) (h.f4 _)

theorem v71_at (R : Fin 8192) (j : Fin 1024) : val_main_v71 (F := Ideal) x0 x1 x2 x3 x4 x5 x6 (ix2 R j) = DR x0 x6 x1 x2 x3 x4 x5 R j := by
  refine Eq.trans ?_ (drow_eq (fine_P h R) (fine_Q h R) j).symm
  rw [← funext (v8_at x0 x1 x2 x3 x4 R), ← funext (v46_at x6 x5 R)]
  pointwise [val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  simp only [Fin.sum_univ_one]
  rfl

theorem v78_at (R : Fin 8192) (j : Fin 1024) : val_main_v78 (F := Ideal) x0 x1 x2 x3 x4 x5 x6 (ix2 R j) = Ideal.ofBits FTy.f32 1068827891#32 * DR x0 x6 x1 x2 x3 x4 x5 R j := by
  rw [← v71_at h]
  pointwise [val_main_v77, val_main_v78, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]

theorem v73_at (R : Fin 8192) (j : Fin 1024) : val_main_v73 (F := Ideal) x0 x1 x2 x3 x4 x5 x6 (ix2 R j) = x3 (ix2 0 j) * DR x0 x6 x1 x2 x3 x4 x5 R j := by
  rw [← v71_at h]
  pointwise [val_main_v72, val_main_v73, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]

theorem v86_at (R : Fin 8192) (j : Fin 1024) : val_main_v86 (F := Ideal) x0 x1 x2 x3 x4 x5 x6 (ix2 R j) = x3 (ix2 0 j) * DR x0 x6 x1 x2 x3 x4 x5 R j := by
  rw [← v73_at h]
  pointwise [val_main_v86]

theorem v79_at (R : Fin 8192) (e : Fin 2048) : val_main_v79 (F := Ideal) x0 x1 x2 x3 x4 x5 x6 (ix2 R e) = DZ x0 x6 x1 x2 x3 x4 x5 R e := by
  have hv : ∀ j, val_main_v73 (F := Ideal) x0 x1 x2 x3 x4 x5 x6 (ix2 R j) = _ := v73_at h R
  unfold DZ
  simp only [← hv]
  pointwise [val_main_v79]

theorem v84_at (k : Fin 16) (R : Fin 8192) (l : Fin 128) (e : Fin 2048) (he : e.val = 128 * k.val + l.val) :
    val_main_v84 (F := Ideal) x0 x1 x2 x3 x4 x5 x6 (ix3 k R l) = DZ x0 x6 x1 x2 x3 x4 x5 R e * (x2 (ix2 R e) * Cert.Scalars.sig (x2 (ix2 R e))) := by
  rw [← v79_at h]
  have hl : k.val * 128 + l.val < 2048 := by have := k.isLt; have := l.isLt; omega
  obtain rfl : e = ⟨k.val * 128 + l.val, hl⟩ := Fin.ext (by rw [he, Nat.mul_comm])
  pointwise [val_main_v81, val_main_v82, val_main_v83, val_main_v84, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_call1_v0, val_main_call1_v1, val_main_call1_v2, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  rfl

theorem v85_at (R : Fin 8192) (e : Fin 2048) : val_main_v85 (F := Ideal) x0 x1 x2 x3 x4 x5 x6 (ix2 R e)
    = DZ x0 x6 x1 x2 x3 x4 x5 R e * x1 (ix2 R e) * (Cert.Scalars.sig (x2 (ix2 R e)) * (1 + x2 (ix2 R e) * (1 - Cert.Scalars.sig (x2 (ix2 R e))))) := by
  refine Eq.trans ?_ (gate_grad (fine_DZ h R e) (h.f1 _) (h.f2 _)).symm
  rw [← v79_at h]
  pointwise [val_main_v80, val_main_v82, val_main_v85, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_call1_v0, val_main_call1_v1, val_main_call1_v2, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  simp only [Cert.Scalars.sig, Ideal.ofBits_one_f32]

omit h
variable (x0 x1 x2 x3 x4 x5 x6)

theorem v87_at (j : Fin 1024) : val_main_v87 (F := Ideal) x0 x1 x2 x3 x4 x6 (ix2 0 j) = ∑ R : Fin 8192, x6 (ix2 R j) * xhat (P x0 x1 x2 x3 x4 R) j := by
  simp only [← funext (v8_at x0 x1 x2 x3 x4 _)]
  pointwise [val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v47, val_main_v87, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  simp only [Fin.sum_univ_one]
  exact Finset.sum_congr rfl fun R _ => mul_comm _ _

theorem v88_at (j : Fin 1024) : val_main_v88 (F := Ideal) x6 (ix2 0 j) = ∑ R : Fin 8192, x6 (ix2 R j) := by
  pointwise [val_main_v30, val_main_v31, val_main_v32, val_main_v33, val_main_v34, val_main_v35, val_main_v36, val_main_v37, val_main_v38, val_main_v39, val_main_v40, val_main_v41, val_main_v42, val_main_v43, val_main_v44, val_main_v45, val_main_v88, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]
  simp only [Fin.sum_univ_one]

include h in
theorem v76_at (j : Fin 1024) : val_main_v76 (F := Ideal) x0 x1 x2 x3 x4 x5 x6 (ix2 0 j)
    = ∑ R : Fin 8192, DR x0 x6 x1 x2 x3 x4 x5 R j * val_main_v2 (F := Ideal) x1 x2 x4 (ix2 R j) := by
  have hv : ∀ R, val_main_v71 (F := Ideal) x0 x1 x2 x3 x4 x5 x6 (ix2 R j) = _ := fun R => v71_at h R j
  simp only [← hv]
  pointwise [val_main_v74, val_main_v75, val_main_v76, val_main_call0_cst, val_main_call0_cst_0, val_main_call0_cst_1, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20]

end Cert.OutBwdRefIdeal.Read

end
-- ==== Proof.OutBwdVal.lean ====
/-  The out-projection gradient: each result array after the run is the reference's term, on arguments that are real numbers. -/
module

public import proofs.«01_k».proof.Proof.OutBwdDat
public import proofs.«01_k».proof.Proof.OutBwdRef
public import proofs.«01_k».proof.Proof.Gen.Pre_finite
public import proofs.«01_k».proof.Defs
public import Idealize.ShloMosaic.Lib.Claim

@[expose] public section

set_option maxRecDepth 16384

noncomputable section

namespace Cert.OutBwdIdeal.Val

open Cert.OutBwdIdeal Cert.OutBwdIdeal.Gen
open Idealize.ShloMosaic Idealize.ShloMosaic.TcCoe Idealize.SL.Sem
open Idealize.ShloMosaic.Pipeline (Dat)
open Runs Cert.Rows

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val, 0] ∧ win0_4.index t = ![0, t.val, 0] ∧ win0_5.index t = ![0, 0] ∧ win0_6.index t = ![0, 0] ∧ win0_7.index t = ![0, 0]
    ∧ win0_8.index t = ![0, t.val, 0] ∧ win0_9.index t = ![t.val, 0] ∧ win0_10.index t = ![t.val, 0] ∧ win0_11.index t = ![t.val, 0]
    ∧ win0_12.index t = ![0, 0] ∧ win0_13.index t = ![0, 0] ∧ win0_14.index t = ![0, 0] :=
  (by decide +kernel : ∀ t : Fin grid0.N, _)

-- the argument arrays
abbrev ax (c : Dev nD) : FVec Ideal S8192x1024 .f32 := m ((c : Thread nD τ).loc main_arg0)
abbrev ay (c : Dev nD) : FVec Ideal S8192x2048 .f32 := m ((c : Thread nD τ).loc main_arg1)
abbrev ag (c : Dev nD) : FVec Ideal S8192x2048 .f32 := m ((c : Thread nD τ).loc main_arg2)
abbrev agt (c : Dev nD) : FVec Ideal S1x1024 .f32 := m ((c : Thread nD τ).loc main_arg3)
abbrev aw (c : Dev nD) : FVec Ideal S2048x1024 .f32 := m ((c : Thread nD τ).loc main_arg4)
abbrev alg (c : Dev nD) : FVec Ideal S1024 .f32 := m ((c : Thread nD τ).loc main_arg5)
abbrev act (c : Dev nD) : FVec Ideal S8192x1024 .f32 := m ((c : Thread nD τ).loc main_arg6)

open Cert.OutBwdRefIdeal.Read

/-- The branch's value, and what the rows of the results are in terms of the arguments. -/
abbrev BR (c : Dev nD) (R : Fin 8192) (j : Fin 1024) : EReal := val_main_v2 (F := Ideal) (ay m c) (ag m c) (aw m c) (ix2 R j)
abbrev PP (c : Dev nD) (R : Fin 8192) : Fin 1024 → EReal := P (ax m c) (ay m c) (ag m c) (agt m c) (aw m c) R
abbrev DD (c : Dev nD) (R : Fin 8192) (j : Fin 1024) : EReal := DR (ax m c) (act m c) (ay m c) (ag m c) (agt m c) (aw m c) (alg m c) R j
abbrev ZZ (c : Dev nD) (R : Fin 8192) (e : Fin 2048) : EReal := DZ (ax m c) (act m c) (ay m c) (ag m c) (agt m c) (aw m c) (alg m c) R e
abbrev SG (c : Dev nD) (R : Fin 8192) (e : Fin 2048) : EReal := Cert.Scalars.sig (ag m c (ix2 R e))

theorem y_arr (c : Dev nD) : (V m c main_v5 : FVec Ideal S16x8192x128 .bf16) = (truncf (F := Ideal) .bf16 (transpose S16x8192x128 [1, 0, 2] (shapeCast S8192x16x128 (ay m c) shapeCasts_S8192x2048_S8192x16x128)
    transposes_S8192x16x128_S16x8192x128_1_0_2) bitsLt_bf16_f32 : FVec Ideal S16x8192x128 .bf16) := by
  rw [V, show List.flatten [hostOps0, hostOps0_1] = hostOps0 ++ (hostOps0_1 : List (HloOp τ sig (Elt Ideal))) from rfl, StableHlo.after_append]
  run_tidy
  rfl

theorem g_arr (c : Dev nD) : (V m c main_v8 : FVec Ideal S16x8192x128 .bf16) = (truncf (F := Ideal) .bf16 (transpose S16x8192x128 [1, 0, 2] (shapeCast S8192x16x128 (ag m c) shapeCasts_S8192x2048_S8192x16x128)
    transposes_S8192x16x128_S16x8192x128_1_0_2) bitsLt_bf16_f32 : FVec Ideal S16x8192x128 .bf16) := by
  rw [V, show List.flatten [hostOps0, hostOps0_1] = hostOps0 ++ (hostOps0_1 : List (HloOp τ sig (Elt Ideal))) from rfl, StableHlo.after_append]
  run_tidy
  rfl

theorem lg_arr (c : Dev nD) : (V m c main_v9 : FVec Ideal S1x1024 .f32) = broadcastInDim S1x1024 ![1] bcast_S1024_S1x1024_1 (alg m c) := by
  rw [V, show List.flatten [hostOps0, hostOps0_1] = hostOps0 ++ (hostOps0_1 : List (HloOp τ sig (Elt Ideal))) from rfl, StableHlo.after_append]
  run_tidy

theorem row_br_at (c : Dev nD) (t : Fin cfg0.N) (r : Fin 256) (j : Fin 1024) (R : Fin 8192) (hR : R.val = 256 * t.val + r.val) :
    (iblk m c 2 t : FVec Ideal S256x1024 .f32) (ix2 r j) = BR m c R j := by
  pointwise [val_main_v2, val_main_v1, val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_call1_v0, val_main_call1_v1, val_main_call1_v2]
  blk_point [iblk, V, idx t]

theorem row_p_at (c : Dev nD) (t : Fin cfg0.N) (r : Fin 256) (R : Fin 8192) (hR : R.val = 256 * t.val + r.val) :
    pr (iblk m c 1 t) (iblk m c 2 t) (iblk m c 5 t) r = PP m c R := by
  funext x
  have hx : (iblk m c 1 t : FVec Ideal S256x1024 .f32) (ix2 r x) = ax m c (ix2 R x) := by blk_ext [iblk, V, idx t]
  have hgt : (iblk m c 5 t : FVec Ideal S1x1024 .f32) (ix2 0 x) = agt m c (ix2 0 x) := by blk_ext [iblk, V, idx t]
  exact congrArg₂ (· + ·) (congrArg (_ * ·) hx) (congrArg₂ (· * ·) hgt (row_br_at m c t r x R hR))

theorem row_ct_at (c : Dev nD) (t : Fin cfg0.N) (r : Fin 256) (j : Fin 1024) (R : Fin 8192) (hR : R.val = 256 * t.val + r.val) :
    (iblk m c 0 t : FVec Ideal S256x1024 .f32) (ix2 r j) = act m c (ix2 R j) := by blk_ext [iblk, V, idx t]

theorem row_gt_at (c : Dev nD) (t : Fin cfg0.N) (j : Fin 1024) : (iblk m c 5 t : FVec Ideal S1x1024 .f32) (ix2 0 j) = agt m c (ix2 0 j) := by blk_ext [iblk, V, idx t]

theorem row_q_at (c : Dev nD) (t : Fin cfg0.N) (r : Fin 256) (R : Fin 8192) (hR : R.val = 256 * t.val + r.val) :
    qr (iblk m c 0 t) (iblk m c 6 t) r = Q (act m c) (alg m c) R := by
  funext x
  have hlg : (iblk m c 6 t : FVec Ideal S1x1024 .f32) (ix2 0 x) = alg m c (ix1 x) := by
    show (V m c main_v9 : FVec Ideal S1x1024 .f32) ((win0_6.blk t).view.emb (ix2 0 x)) = _
    rw [lg_arr]
    pointwise
    blk_ext [idx t]
  exact congrArg₂ (· * ·) (row_ct_at m c t r x R hR) hlg

theorem row_d_at (c : Dev nD) (t : Fin cfg0.N) (r : Fin 256) (j : Fin 1024) (R : Fin 8192) (hR : R.val = 256 * t.val + r.val) :
    D (iblk m c 0 t) (iblk m c 1 t) (iblk m c 2 t) (iblk m c 5 t) (iblk m c 6 t) r j = DD m c R j := by
  unfold D DD DR
  rw [row_p_at m c t r R hR, row_q_at m c t r R hR]

theorem row_y_at (c : Dev nD) (t : Fin cfg0.N) (k : Fin 16) (r : Fin 256) (l : Fin 128) (R : Fin 8192) (hR : R.val = 256 * t.val + r.val) (e : Fin 2048) (he : e.val = 128 * k.val + l.val) :
    (iblk m c 3 t : FVec Ideal S16x256x128 .bf16) (ix3 k r l) = ay m c (ix2 R e) := by
  show (V m c main_v5 : FVec Ideal S16x8192x128 .bf16) ((win0_3.blk t).view.emb (ix3 k r l)) = _
  rw [y_arr]
  pointwise
  blk_ext [idx t]

theorem row_g_at (c : Dev nD) (t : Fin cfg0.N) (k : Fin 16) (r : Fin 256) (l : Fin 128) (R : Fin 8192) (hR : R.val = 256 * t.val + r.val) (e : Fin 2048) (he : e.val = 128 * k.val + l.val) :
    (iblk m c 4 t : FVec Ideal S16x256x128 .bf16) (ix3 k r l) = ag m c (ix2 R e) := by
  show (V m c main_v8 : FVec Ideal S16x8192x128 .bf16) ((win0_4.blk t).view.emb (ix3 k r l)) = _
  rw [g_arr]
  pointwise
  blk_ext [idx t]

theorem row_dz_at (c : Dev nD) (t : Fin cfg0.N) (r : Fin 256) (e : Fin 2048) (R : Fin 8192) (hR : R.val = 256 * t.val + r.val) :
    k0_pay18 (F := Ideal) (db (iblk m c 0 t) (iblk m c 1 t) (iblk m c 2 t) (iblk m c 5 t) (iblk m c 6 t)) (iblk m c 7 t) (ix2 r e) = ZZ m c R e := by
  have hw : ∀ j, (iblk m c 7 t : FVec Ideal S2048x1024 .bf16) (ix2 e j) = aw m c (ix2 e j) := fun j => by blk_point [iblk, V, idx t]
  have hd : ∀ j, db (iblk m c 0 t) (iblk m c 1 t) (iblk m c 2 t) (iblk m c 5 t) (iblk m c 6 t) (ix2 r j) = agt m c (ix2 0 j) * DD m c R j := fun j =>
    congrArg₂ (· * ·) (row_gt_at m c t j) (row_d_at m c t r j R hR)
  generalize db (iblk m c 0 t) (iblk m c 1 t) (iblk m c 2 t) (iblk m c 5 t) (iblk m c 6 t) = B at hd
  generalize (iblk m c 7 t : FVec Ideal S2048x1024 .bf16) = W at hw
  pointwise [k0_pay18]
  simp only [hd, hw]
  rfl

theorem row_lt (t : Fin cfg0.N) (r : Fin 256) : 256 * t.val + r.val < 8192 := by
  have := t.isLt; have hN : cfg0.N = 32 := N_0; omega

/-- The array's row of a block's row. -/
abbrev rw_ (t : Fin cfg0.N) (r : Fin 256) : Fin 8192 := ⟨256 * t.val + r.val, row_lt t r⟩

/-- What the body leaves in its outputs at point t. -/
def O (c : Dev nD) (t : Fin cfg0.N) : State :=
  ⟨fun i => ZZ m c (rw_ t (i 1)) ⟨128 * (i 0).val + (i 2).val, by have : (i 0).val < 16 := (i 0).isLt; have : (i 2).val < 128 := (i 2).isLt; omega⟩
      * (ag m c (ix2 (rw_ t (i 1)) ⟨128 * (i 0).val + (i 2).val, by have : (i 0).val < 16 := (i 0).isLt; have : (i 2).val < 128 := (i 2).isLt; omega⟩)
        * SG m c (rw_ t (i 1)) ⟨128 * (i 0).val + (i 2).val, by have : (i 0).val < 16 := (i 0).isLt; have : (i 2).val < 128 := (i 2).isLt; omega⟩),
   fun i => ZZ m c (rw_ t (i 0)) (i 1) * ay m c (ix2 (rw_ t (i 0)) (i 1)) * (SG m c (rw_ t (i 0)) (i 1) * (1 + ag m c (ix2 (rw_ t (i 0)) (i 1)) * (1 - SG m c (rw_ t (i 0)) (i 1)))),
   fun i => Ideal.ofBits FTy.f32 1068827891#32 * DD m c (rw_ t (i 0)) (i 1),
   fun i => agt m c (ix2 0 (i 1)) * DD m c (rw_ t (i 0)) (i 1),
   fun i => ∑ n ∈ Finset.range (256 * (t.val + 1)), rs (fun R j => act m c (ix2 R j) * xhat (PP m c R) j) (i 1) n,
   fun i => ∑ n ∈ Finset.range (256 * (t.val + 1)), rs (fun R j => act m c (ix2 R j)) (i 1) n,
   fun i => ∑ n ∈ Finset.range (256 * (t.val + 1)), rs (fun R j => DD m c R j * BR m c R j) (i 1) n⟩

theorem row_sums {N : ℕ} (E : Fin 256 → Fin 1024 → EReal) (G : Fin N → Fin 1024 → EReal) (j : Fin 1024) (t : ℕ) (ht : 256 * (t + 1) ≤ N) (a : EReal)
    (h : a = ∑ n ∈ Finset.range (256 * t), rs G j n + ∑ n ∈ Finset.range (128 * 2), rs E j n)
    (hE : ∀ (r : Fin 256) (R : Fin N), R.val = 256 * t + r.val → E r j = G R j) : a = ∑ n ∈ Finset.range (256 * (t + 1)), rs G j n := by
  rw [h, show 256 * (t + 1) = 256 * t + 256 by omega, Finset.sum_range_add (n := 256 * t) (m := 256)]
  refine congrArg (HAdd.hAdd (∑ n ∈ Finset.range (256 * t), rs G j n)) (Finset.sum_congr rfl fun n hn => ?_)
  have hn' : n < 256 := Finset.mem_range.mp hn
  unfold rs
  rw [dif_pos hn', dif_pos (show 256 * t + n < N by omega)]
  exact hE _ _ rfl

theorem row_lane (k : Fin 16) (l : Fin 128) : 128 * k.val + l.val < 2048 := by have := k.isLt; have := l.isLt; omega

theorem eq_row (i : S1x1024.Idx) : i = ix2 (0 : Fin 1) (i 1) := (eq_ix2 i).trans (congrArg (fun a : Fin 1 => ix2 a (i 1)) (Subsingleton.elim _ _))

/-- A piece at an index, from what the gradient at the gated product and the gate are there. -/
theorem row_cy_at (dz : FVec Ideal S256x2048 .f32) (X5 : Vec Ideal S16x256x128 .bf16) (k : Fin 16) (r : Fin 256) (l : Fin 128) (e : Fin 2048) (he : e.val = 128 * k.val + l.val) (d g : EReal)
    (hd : dz (ix2 r e) = d) (hg : X5 (ix3 k r l) = g) : cy dz k (ch X5 k) (ix3 0 r l) = d * (g * Cert.Scalars.sig g) := by
  subst hd hg
  rw [← Cert.Scalars.gate]
  have hl := row_lane k l
  obtain rfl : e = ⟨128 * k.val + l.val, hl⟩ := Fin.ext he
  unfold cy
  pointwise [k0_pay20, k0_pay21, ch]

theorem row_cx_at (dz : FVec Ideal S256x2048 .f32) (X5 X4 : Vec Ideal S16x256x128 .bf16) (k : Fin 16) (r : Fin 256) (l : Fin 128) (e : Fin 2048) (he : e.val = 128 * k.val + l.val) (d g y : EReal)
    (hd : dz (ix2 r e) = d) (hg : X5 (ix3 k r l) = g) (hy : X4 (ix3 k r l) = y) :
    cx dz k (ch X5 k) (ch X4 k) (ix2 r l) = d * y * (Cert.Scalars.sig g * (1 + g * (1 - Cert.Scalars.sig g))) := by
  subst hd hg hy
  rw [← Cert.Scalars.gate]
  have hl := row_lane k l
  obtain rfl : e = ⟨128 * k.val + l.val, hl⟩ := Fin.ext he
  unfold cx
  pointwise [k0_pay20, k0_pay21, k0_pay24, k0_pay25, ch]

set_option maxHeartbeats 1000000 in
theorem body_runs : BodyRuns m (O m) := by
  intro c t R z hG _ _ _ _ b13 b14 b15
  have hN : t.val < 32 := lt_of_lt_of_eq t.isLt (show cfg0.N = 32 from N_0)
  refine Does.mono (body (i := grid0.coords t) hG z (fun j => ∑ n ∈ Finset.range (256 * t.val), rs (fun R j => act m c (ix2 R j) * xhat (PP m c R) j) j n)
    (fun j => ∑ n ∈ Finset.range (256 * t.val), rs (fun R j => act m c (ix2 R j)) j n)
    (fun j => ∑ n ∈ Finset.range (256 * t.val), rs (fun R j => DD m c R j * BR m c R j) j n) (fun h => ?_) (fun h => ?_)) fun _ z' hz' => ?_
  · have : t.val = 0 := by have := (hcond0_0 t).mp h; omega
    rw [this]; exact ⟨fun _ => rfl, fun _ => rfl, fun _ => rfl⟩
  · have h0 : ¬ t.val % 32 = 0 := fun h' => h ((hcond0_0 t).mpr h')
    have hs : 256 * (t.val - 1 + 1) = 256 * t.val := by omega
    refine ⟨fun l => ?_, fun l => ?_, fun l => ?_⟩
    · obtain ⟨d, hd⟩ := b13
      rw [hd, Dat.before_out_kept _ 12 rfl t (by omega) (Bool.eq_false_iff.mpr fun h => by have := (flush0_12 _).mp h; dsimp only at this; omega)
        (fun _ => rfl) (fun _ _ => rfl), after0_12]
      exact congrArg (fun N => ∑ n ∈ Finset.range N, rs (fun R j => act m c (ix2 R j) * xhat (PP m c R) j) l n) hs
    · obtain ⟨d, hd⟩ := b14
      rw [hd, Dat.before_out_kept _ 13 rfl t (by omega) (Bool.eq_false_iff.mpr fun h => by have := (flush0_13 _).mp h; dsimp only at this; omega)
        (fun _ => rfl) (fun _ _ => rfl), after0_13]
      exact congrArg (fun N => ∑ n ∈ Finset.range N, rs (fun R j => act m c (ix2 R j)) l n) hs
    · obtain ⟨d, hd⟩ := b15
      rw [hd, Dat.before_out_kept _ 14 rfl t (by omega) (Bool.eq_false_iff.mpr fun h => by have := (flush0_14 _).mp h; dsimp only at this; omega)
        (fun _ => rfl) (fun _ _ => rfl), after0_14]
      exact congrArg (fun N => ∑ n ∈ Finset.range N, rs (fun R j => DD m c R j * BR m c R j) l n) hs
  · obtain ⟨⟨i11, i12, i13, i14, i15⟩, e9, e10⟩ := hz'
    have hT : 256 * (t.val + 1) ≤ 8192 := by omega
    have h13 : ∀ j : Fin 1024, z'.o13 (ix2 0 j) = (O m c t).o13 (ix2 0 j) := fun j =>
      row_sums _ _ j t.val hT _ (i13 j) fun r R hR => congrArg₂ (· * ·) (row_ct_at m c t r j R hR) (congrArg (fun p => xhat p j) (row_p_at m c t r R hR))
    have h14 : ∀ j : Fin 1024, z'.o14 (ix2 0 j) = (O m c t).o14 (ix2 0 j) := fun j =>
      row_sums _ _ j t.val hT _ (i14 j) fun r R hR => row_ct_at m c t r j R hR
    have h15 : ∀ j : Fin 1024, z'.o15 (ix2 0 j) = (O m c t).o15 (ix2 0 j) := fun j =>
      row_sums _ _ j t.val hT _ (i15 j) fun r R hR => congrArg₂ (· * ·) (row_d_at m c t r j R hR) (row_br_at m c t r j R hR)
    have h11 : ∀ (r : Fin 256) (j : Fin 1024), z'.o11 (ix2 r j) = (O m c t).o11 (ix2 r j) := fun r j =>
      (i11 r j r.isLt).trans (congrArg (_ * ·) (row_d_at m c t r j (rw_ t r) rfl))
    have h12 : ∀ (r : Fin 256) (j : Fin 1024), z'.o12 (ix2 r j) = (O m c t).o12 (ix2 r j) := fun r j =>
      (i12 r j r.isLt).trans (congrArg₂ (· * ·) (row_gt_at m c t j) (row_d_at m c t r j (rw_ t r) rfl))
    have hz := fun (r : Fin 256) (e : Fin 2048) => row_dz_at m c t r e (rw_ t r) rfl
    have hg := fun (k : Fin 16) (r : Fin 256) (l : Fin 128) (e : Fin 2048) he => row_g_at m c t k r l (rw_ t r) rfl e he
    have hy := fun (k : Fin 16) (r : Fin 256) (l : Fin 128) (e : Fin 2048) he => row_y_at m c t k r l (rw_ t r) rfl e he
    have h9 : ∀ (k : Fin 16) (r : Fin 256) (l : Fin 128), z'.o9 (ix3 k r l) = (O m c t).o9 (ix3 k r l) := fun k r l =>
      (e9 k r l).trans (row_cy_at _ _ k r l _ rfl _ _ (hz r _) (hg k r l _ rfl))
    have h10 : ∀ (r : Fin 256) (e : Fin 2048), z'.o10 (ix2 r e) = (O m c t).o10 (ix2 r e) := fun r e =>
      have he : e.val = 128 * (⟨e.val / 128, by have := e.isLt; omega⟩ : Fin 16).val + (⟨e.val % 128, Nat.mod_lt _ (by decide)⟩ : Fin 128).val := (Nat.div_add_mod _ _).symm
      (e10 _ r _ e he).trans (row_cx_at _ _ _ _ r _ e he _ _ _ (hz r e) (hg _ r _ e he) (hy _ r _ e he))
    refine ⟨funext fun i => ?_, funext fun i => ?_, funext fun i => ?_, funext fun i => ?_, funext fun i => ?_, funext fun i => ?_, funext fun i => ?_⟩
    · exact (congrArg z'.o9 (eq_ix3 i)).trans ((h9 _ _ _).trans (congrArg (O m c t).o9 (eq_ix3 i)).symm)
    · exact (congrArg z'.o10 (eq_ix2 i)).trans ((h10 _ _).trans (congrArg (O m c t).o10 (eq_ix2 i)).symm)
    · exact (congrArg z'.o11 (eq_ix2 i)).trans ((h11 _ _).trans (congrArg (O m c t).o11 (eq_ix2 i)).symm)
    · exact (congrArg z'.o12 (eq_ix2 i)).trans ((h12 _ _).trans (congrArg (O m c t).o12 (eq_ix2 i)).symm)
    · exact (congrArg z'.o13 (eq_row i)).trans ((h13 _).trans (congrArg (O m c t).o13 (eq_row i)).symm)
    · exact (congrArg z'.o14 (eq_row i)).trans ((h14 _).trans (congrArg (O m c t).o14 (eq_row i)).symm)
    · exact (congrArg z'.o15 (eq_row i)).trans ((h15 _).trans (congrArg (O m c t).o15 (eq_row i)).symm)

/-- The arguments are real numbers where the precondition holds. -/
theorem real {c : Dev nD} (hp : Cert.Pre_OutBwdIdeal_finite (hPre_finite := Cert.Pre_finite.Gen.facts) m) : Real (ax m c) (act m c) (ay m c) (ag m c) (agt m c) (aw m c) (alg m c) := by
  have h := congrFun (hp c) (fun a => a.elim0)
  have ht : ∀ a b : Cert.Pre_finite.S_.Idx, a = b := fun a b => funext fun k => k.elim0
  obtain ⟨h, h6⟩ := Cert.Finite.andi_one _ _ h
  obtain ⟨h, h5⟩ := Cert.Finite.andi_one _ _ h
  obtain ⟨h, h4⟩ := Cert.Finite.andi_one _ _ h
  obtain ⟨h, h3⟩ := Cert.Finite.andi_one _ _ h
  obtain ⟨h, h2⟩ := Cert.Finite.andi_one _ _ h
  obtain ⟨h0, h1⟩ := Cert.Finite.andi_one _ _ h
  exact ⟨Cert.Finite.fine_of_reduce _ _ _ _ _ _ _ ht h0, Cert.Finite.fine_of_reduce _ _ _ _ _ _ _ ht h1, Cert.Finite.fine_of_reduce _ _ _ _ _ _ _ ht h2,
    Cert.Finite.fine_of_reduce _ _ _ _ _ _ _ ht h3, Cert.Finite.fine_of_reduce _ _ _ _ _ _ _ ht h4, Cert.Finite.fine_of_reduce _ _ _ _ _ _ _ ht h5,
    Cert.Finite.fine_of_reduce _ _ _ _ _ _ _ ht h6⟩

/-- An index of an array of rows is its row and its column. -/
theorem at_row {n k : ℕ} (i : (⟨2, ![n, k]⟩ : Shape).Idx) (R : Fin n) (j : Fin k) (h0 : (i 0).val = R.val) (h1 : (i 1).val = j.val) : i = ix2 R j :=
  (eq_ix2 i).trans (congrArg₂ (fun (a : Fin n) (b : Fin k) => ix2 a b) (Fin.ext h0) (Fin.ext h1))

theorem at_piece (i : S16x8192x128.Idx) (k : Fin 16) (R : Fin 8192) (l : Fin 128) (h0 : (i 0).val = k.val) (h1 : (i 1).val = R.val) (h2 : (i 2).val = l.val) : i = ix3 k R l :=
  (eq_ix3 i).trans ((congrArg₂ (fun (a : Fin 16) (b : Fin 8192) => ix3 a b (i 2)) (Fin.ext h0) (Fin.ext h1)).trans (congrArg (fun c : Fin 128 => ix3 k R c) (Fin.ext h2)))

abbrev G8 (c : Dev nD) := val_main_v84 (F := Ideal) (ax m c) (ay m c) (ag m c) (agt m c) (aw m c) (alg m c) (act m c)
abbrev G9 (c : Dev nD) := val_main_v85 (F := Ideal) (ax m c) (ay m c) (ag m c) (agt m c) (aw m c) (alg m c) (act m c)
abbrev G10 (c : Dev nD) := val_main_v78 (F := Ideal) (ax m c) (ay m c) (ag m c) (agt m c) (aw m c) (alg m c) (act m c)
abbrev G11 (c : Dev nD) := val_main_v86 (F := Ideal) (ax m c) (ay m c) (ag m c) (agt m c) (aw m c) (alg m c) (act m c)
abbrev G12 (c : Dev nD) := val_main_v87 (F := Ideal) (ax m c) (ay m c) (ag m c) (agt m c) (aw m c) (act m c)
abbrev G13 (c : Dev nD) := val_main_v88 (F := Ideal) (act m c)
abbrev G14 (c : Dev nD) := val_main_v76 (F := Ideal) (ax m c) (ay m c) (ag m c) (agt m c) (aw m c) (alg m c) (act m c)

variable {m} {c : Dev nD} (h : Real (ax m c) (act m c) (ay m c) (ag m c) (agt m c) (aw m c) (alg m c))
include h

theorem final8 : (dats m (O m) 0 c).arrAt 8 (cfgs 0).N = G8 m c := by
  refine (dats m (O m) 0 c).arrAt_eq_of_covers 8 _ (by decide +kernel) fun t hf y => ?_
  have he := at_piece (((View.whole main_v11_0).slice (win0_8.rect t)).emb y) (y 0) (rw_ t (y 1)) (y 2) (by blk_simp [idx t] <;> try omega) (by blk_simp [idx t]; exact Nat.add_right_cancel_iff.mpr (Nat.mul_comm _ _)) (by blk_simp [idx t] <;> try omega)
  blk_simp
  rw [after0_8]
  exact ((congrArg (O m c t).o9 (eq_ix3 y)).trans (v84_at h (y 0) (rw_ t (y 1)) (y 2) _ rfl).symm).trans (congrArg (G8 m c) he.symm)

theorem final9 : (dats m (O m) 0 c).arrAt 9 (cfgs 0).N = G9 m c := by
  refine (dats m (O m) 0 c).arrAt_eq_of_covers 9 _ (by decide +kernel) fun t hf y => ?_
  have he := at_row (((View.whole main_v11_1).slice (win0_9.rect t)).emb y) (rw_ t (y 0)) (y 1) (by blk_simp [idx t]; exact Nat.add_right_cancel_iff.mpr (Nat.mul_comm _ _)) (by blk_simp [idx t] <;> try omega)
  blk_simp
  rw [after0_9]
  exact ((congrArg (O m c t).o10 (eq_ix2 y)).trans (v85_at h (rw_ t (y 0)) (y 1)).symm).trans (congrArg (G9 m c) he.symm)

theorem final10 : (dats m (O m) 0 c).arrAt 10 (cfgs 0).N = G10 m c := by
  refine (dats m (O m) 0 c).arrAt_eq_of_covers 10 _ (by decide +kernel) fun t hf y => ?_
  have he := at_row (((View.whole main_v11_2).slice (win0_10.rect t)).emb y) (rw_ t (y 0)) (y 1) (by blk_simp [idx t]; exact Nat.add_right_cancel_iff.mpr (Nat.mul_comm _ _)) (by blk_simp [idx t] <;> try omega)
  blk_simp
  rw [after0_10]
  exact ((congrArg (O m c t).o11 (eq_ix2 y)).trans (v78_at h (rw_ t (y 0)) (y 1)).symm).trans (congrArg (G10 m c) he.symm)

theorem final11 : (dats m (O m) 0 c).arrAt 11 (cfgs 0).N = G11 m c := by
  refine (dats m (O m) 0 c).arrAt_eq_of_covers 11 _ (by decide +kernel) fun t hf y => ?_
  have he := at_row (((View.whole main_v11_3).slice (win0_11.rect t)).emb y) (rw_ t (y 0)) (y 1) (by blk_simp [idx t]; exact Nat.add_right_cancel_iff.mpr (Nat.mul_comm _ _)) (by blk_simp [idx t] <;> try omega)
  blk_simp
  rw [after0_11]
  exact ((congrArg (O m c t).o12 (eq_ix2 y)).trans (v86_at h (rw_ t (y 0)) (y 1)).symm).trans (congrArg (G11 m c) he.symm)

/-- The last point. -/
def t0_31 : Fin cfg0.N := ⟨31, by rw [show cfg0.N = 32 from N_0]; decide⟩

omit h in
theorem sum_rs {N : ℕ} (G : Fin N → Fin 1024 → EReal) (j : Fin 1024) : ∑ n ∈ Finset.range N, rs G j n = ∑ R : Fin N, G R j := by
  rw [Finset.sum_range]
  exact Finset.sum_congr rfl fun n _ => dif_pos n.isLt

omit h in
theorem final12 : (dats m (O m) 0 c).arrAt 12 (cfgs 0).N = G12 m c := by
  refine (dats m (O m) 0 c).arrAt_eq_of_after_last 12 t0_31 (by decide +kernel) _ fun j => ?_
  blk_simp
  rw [after0_12]
  refine (sum_rs (N := 8192) _ (j 1)).trans (((v87_at (ax m c) (act m c) (ay m c) (ag m c) (agt m c) (aw m c) (j 1)).symm).trans (congrArg (G12 m c) (eq_row j).symm))

omit h in
theorem final13 : (dats m (O m) 0 c).arrAt 13 (cfgs 0).N = G13 m c := by
  refine (dats m (O m) 0 c).arrAt_eq_of_after_last 13 t0_31 (by decide +kernel) _ fun j => ?_
  blk_simp
  rw [after0_13]
  refine (sum_rs (N := 8192) _ (j 1)).trans (((v88_at (act m c) (j 1)).symm).trans (congrArg (G13 m c) (eq_row j).symm))

theorem final14 : (dats m (O m) 0 c).arrAt 14 (cfgs 0).N = G14 m c := by
  refine (dats m (O m) 0 c).arrAt_eq_of_after_last 14 t0_31 (by decide +kernel) _ fun j => ?_
  blk_simp
  rw [after0_14]
  refine (sum_rs (N := 8192) _ (j 1)).trans (((v76_at _ _ _ _ _ _ _ h (j 1)).symm).trans (congrArg (G14 m c) (eq_row j).symm))

omit h in
theorem algebraic : Cert.algebraic_OutBwdIdeal_OutBwdRefIdeal_pre_finite (hOutBwdIdeal := Cert.OutBwdIdeal.Gen.facts) (hOutBwdRefIdeal := Cert.OutBwdRefIdeal.Gen.facts) (hPre_finite := Cert.Pre_finite.Gen.facts) := by
  pair_intro
  case refine_1 => exact fun c => G8 m c
  case refine_2.refine_1 => exact fun c => G9 m c
  case refine_2.refine_2.refine_1 => exact fun c => G10 m c
  case refine_2.refine_2.refine_2.refine_1 => exact fun c => G11 m c
  case refine_2.refine_2.refine_2.refine_2.refine_1 => exact fun c => G12 m c
  case refine_2.refine_2.refine_2.refine_2.refine_2.refine_1 => exact fun c => G13 m c
  case refine_2.refine_2.refine_2.refine_2.refine_2.refine_2.refine_1 => exact fun c => G14 m c
  · refine (θ_run defs _ _).mono (fun r h c => ?_) (run_main m g (O m) (body_runs m))
    exact ⟨((h.1 c).1 8).trans (final8 (real m hpre)),
      ((h.1 c).1 9).trans (final9 (real m hpre)),
      ((h.1 c).1 10).trans (final10 (real m hpre)),
      ((h.1 c).1 11).trans (final11 (real m hpre)),
      ((h.1 c).1 12).trans final12,
      ((h.1 c).1 13).trans final13,
      ((h.1 c).1 14).trans (final14 (real m hpre)),
      ((h.1 c).1 1).trans (((dats m (O m) 0 c).arrAt_in 1 rfl _).trans ((A_eq m (O m) c 1).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 5).trans (((dats m (O m) 0 c).arrAt_in 5 rfl _).trans ((A_eq m (O m) c 5).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 0).trans (((dats m (O m) 0 c).arrAt_in 0 rfl _).trans ((A_eq m (O m) c 0).trans (V_main_arg6 m c)))⟩
  · refine (θ_run Cert.OutBwdRefIdeal.defs _ _).mono (fun r h c => ?_) (Cert.OutBwdRefIdeal.Value.run m' g')
    obtain ⟨h0, h1, h2, h3, h4, h5, h6, rest⟩ := h c
    obtain ⟨e0, e1, e2, e3, e4, e5, e6⟩ := hagree c
    exact ⟨h0.trans ((Cert.OutBwdRefIdeal.Read.val_main_v84_eq (F := Ideal) m' c).trans (by rw [e0, e1, e2, e3, e4, e5, e6])),
      h1.trans ((Cert.OutBwdRefIdeal.Read.val_main_v85_eq (F := Ideal) m' c).trans (by rw [e0, e1, e2, e3, e4, e5, e6])),
      h2.trans ((Cert.OutBwdRefIdeal.Read.val_main_v78_eq (F := Ideal) m' c).trans (by rw [e0, e1, e2, e3, e4, e5, e6])),
      h3.trans ((Cert.OutBwdRefIdeal.Read.val_main_v86_eq (F := Ideal) m' c).trans (by rw [e0, e1, e2, e3, e4, e5, e6])),
      h4.trans ((Cert.OutBwdRefIdeal.Read.val_main_v87_eq (F := Ideal) m' c).trans (by rw [e0, e1, e2, e3, e4, e6])),
      h5.trans ((Cert.OutBwdRefIdeal.Read.val_main_v88_eq (F := Ideal) (m' ((c : Thread Cert.OutBwdRefIdeal.nD Cert.OutBwdRefIdeal.τ).loc Cert.OutBwdRefIdeal.main_arg6))).trans (by rw [e6])),
      h6.trans ((Cert.OutBwdRefIdeal.Read.val_main_v76_eq (F := Ideal) m' c).trans (by rw [e0, e1, e2, e3, e4, e5, e6])),
      rest⟩

end Cert.OutBwdIdeal.Val

end
-- ==== Proof.LruKeep.lean ====
module

public import proofs.«01_k».proof.Proof.Gen.LruBwdIdeal.Frame
public import proofs.«01_k».proof.Proof.Gen.LruBwdIdeal.Skeleton
public import proofs.«01_k».proof.Proof.Keeps

@[expose] public section

set_option maxRecDepth 65536
set_option maxHeartbeats 4000000

/-!
The body of the kernel of LruBwdIdeal only loads and stores: from memrefs it may read and memrefs it may write it runs to the
same ownership, whatever they hold. Each part is opened when the walk over loads, stores and loops comes to it.
-/

noncomputable section

namespace Cert.LruBwdIdeal.Hand

open Cert.LruBwdIdeal Cert.LruBwdIdeal.Gen Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable {c : Dev nD} {i : grid0.Coords}
variable {arg1 : Memref sig .tc .vmem S1x8192x128 .f32} {arg2 : Memref sig .tc .vmem S1x256x128 .f32} {arg3 : Memref sig .tc .vmem S1x8192x128 .f32} {arg4 : Memref sig .tc .vmem S4x128 .f32} {arg5 : Memref sig .tc .vmem S1x128 .f32} {arg6 arg7 : Memref sig .tc .vmem S2x1x128x128 .bf16} {arg8 arg9 arg10 : Memref sig .tc .vmem S2x128 .f32} {arg11 : Memref sig .tc .vmem S8192x128 .bf16} {arg12 : Memref sig .tc .vmem S256x128 .bf16} {arg13 : Memref sig .tc .vmem S4x128 .f32} {arg14 : Memref sig .tc .vmem S1x128 .f32} {arg15 arg16 : Memref sig .tc .vmem S2x1x128x128 .f32} {arg17 arg18 arg19 : Memref sig .tc .vmem S2x128 .f32} {arg20 : Memref sig .tc .vmem S8208x128 .f32} {arg21 : Memref sig .tc .vmem S8192x128 .f32} {arg22 arg23 arg24 arg25 : Memref sig .tc .vmem S8208x128 .f32} {arg26 arg27 : Memref sig .tc .vmem S8192x128 .f32} {arg28 : Memref sig .tc .vmem S272x128 .f32} {arg29 : Memref sig .tc .vmem S256x128 .f32} {arg30 arg31 arg32 arg33 : Memref sig .tc .vmem S272x128 .f32} {arg34 arg35 arg36 arg37 : Memref sig .tc .vmem S256x128 .f32}

/-- What the body needs of the ownership it runs from: every memref lent for reading, those it writes for writing. -/
structure Good (c : Dev nD) (R : sProp 𝕄) (arg1 : Memref sig .tc .vmem S1x8192x128 .f32) (arg2 : Memref sig .tc .vmem S1x256x128 .f32) (arg3 : Memref sig .tc .vmem S1x8192x128 .f32) (arg4 : Memref sig .tc .vmem S4x128 .f32) (arg5 : Memref sig .tc .vmem S1x128 .f32) (arg6 arg7 : Memref sig .tc .vmem S2x1x128x128 .bf16) (arg8 arg9 arg10 : Memref sig .tc .vmem S2x128 .f32) (arg11 : Memref sig .tc .vmem S8192x128 .bf16) (arg12 : Memref sig .tc .vmem S256x128 .bf16) (arg13 : Memref sig .tc .vmem S4x128 .f32) (arg14 : Memref sig .tc .vmem S1x128 .f32) (arg15 arg16 : Memref sig .tc .vmem S2x1x128x128 .f32) (arg17 arg18 arg19 : Memref sig .tc .vmem S2x128 .f32) (arg20 : Memref sig .tc .vmem S8208x128 .f32) (arg21 : Memref sig .tc .vmem S8192x128 .f32) (arg22 arg23 arg24 arg25 : Memref sig .tc .vmem S8208x128 .f32) (arg26 arg27 : Memref sig .tc .vmem S8192x128 .f32) (arg28 : Memref sig .tc .vmem S272x128 .f32) (arg29 : Memref sig .tc .vmem S256x128 .f32) (arg30 arg31 arg32 arg33 : Memref sig .tc .vmem S272x128 .f32) (arg34 arg35 arg36 arg37 : Memref sig .tc .vmem S256x128 .f32) : Prop where
  r1 : Reads (c : Thread nD τ) R arg1
  r2 : Reads (c : Thread nD τ) R arg2
  r3 : Reads (c : Thread nD τ) R arg3
  r4 : Reads (c : Thread nD τ) R arg4
  r5 : Reads (c : Thread nD τ) R arg5
  r6 : Reads (c : Thread nD τ) R arg6
  r7 : Reads (c : Thread nD τ) R arg7
  r8 : Reads (c : Thread nD τ) R arg8
  r9 : Reads (c : Thread nD τ) R arg9
  r10 : Reads (c : Thread nD τ) R arg10
  r11 : Reads (c : Thread nD τ) R arg11
  r12 : Reads (c : Thread nD τ) R arg12
  r13 : Reads (c : Thread nD τ) R arg13
  r14 : Reads (c : Thread nD τ) R arg14
  r15 : Reads (c : Thread nD τ) R arg15
  r16 : Reads (c : Thread nD τ) R arg16
  r17 : Reads (c : Thread nD τ) R arg17
  r18 : Reads (c : Thread nD τ) R arg18
  r19 : Reads (c : Thread nD τ) R arg19
  r20 : Reads (c : Thread nD τ) R arg20
  r21 : Reads (c : Thread nD τ) R arg21
  r22 : Reads (c : Thread nD τ) R arg22
  r23 : Reads (c : Thread nD τ) R arg23
  r24 : Reads (c : Thread nD τ) R arg24
  r25 : Reads (c : Thread nD τ) R arg25
  r26 : Reads (c : Thread nD τ) R arg26
  r27 : Reads (c : Thread nD τ) R arg27
  r28 : Reads (c : Thread nD τ) R arg28
  r29 : Reads (c : Thread nD τ) R arg29
  r30 : Reads (c : Thread nD τ) R arg30
  r31 : Reads (c : Thread nD τ) R arg31
  r32 : Reads (c : Thread nD τ) R arg32
  r33 : Reads (c : Thread nD τ) R arg33
  r34 : Reads (c : Thread nD τ) R arg34
  r35 : Reads (c : Thread nD τ) R arg35
  r36 : Reads (c : Thread nD τ) R arg36
  r37 : Reads (c : Thread nD τ) R arg37
  w11 : Writes (c : Thread nD τ) R arg11
  w12 : Writes (c : Thread nD τ) R arg12
  w13 : Writes (c : Thread nD τ) R arg13
  w14 : Writes (c : Thread nD τ) R arg14
  w15 : Writes (c : Thread nD τ) R arg15
  w16 : Writes (c : Thread nD τ) R arg16
  w17 : Writes (c : Thread nD τ) R arg17
  w18 : Writes (c : Thread nD τ) R arg18
  w19 : Writes (c : Thread nD τ) R arg19
  w20 : Writes (c : Thread nD τ) R arg20
  w21 : Writes (c : Thread nD τ) R arg21
  w22 : Writes (c : Thread nD τ) R arg22
  w23 : Writes (c : Thread nD τ) R arg23
  w24 : Writes (c : Thread nD τ) R arg24
  w25 : Writes (c : Thread nD τ) R arg25
  w26 : Writes (c : Thread nD τ) R arg26
  w27 : Writes (c : Thread nD τ) R arg27
  w28 : Writes (c : Thread nD τ) R arg28
  w29 : Writes (c : Thread nD τ) R arg29
  w30 : Writes (c : Thread nD τ) R arg30
  w31 : Writes (c : Thread nD τ) R arg31
  w32 : Writes (c : Thread nD τ) R arg32
  w33 : Writes (c : Thread nD τ) R arg33
  w34 : Writes (c : Thread nD τ) R arg34
  w35 : Writes (c : Thread nD τ) R arg35
  w36 : Writes (c : Thread nD τ) R arg36
  w37 : Writes (c : Thread nD τ) R arg37

variable {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole} {harg24 : arg24.IsWhole} {harg25 : arg25.IsWhole} {harg26 : arg26.IsWhole} {harg27 : arg27.IsWhole} {harg28 : arg28.IsWhole} {harg29 : arg29.IsWhole} {harg30 : arg30.IsWhole} {harg31 : arg31.IsWhole} {harg32 : arg32.IsWhole} {harg33 : arg33.IsWhole} {harg34 : arg34.IsWhole} {harg35 : arg35.IsWhole} {harg36 : arg36.IsWhole} {harg37 : arg37.IsWhole}

theorem kp_k0_t1 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v0 : Vec F S4x128 .f32} {v2 : FVec F S1x128 .f32} {v21 : FVec F S2x128 .f32} {v3071 v3075 v3571 : FVec F S8x128 .f32} :
    ∀ kk acc, Keeps (defs₀ (F := F)) (c : Thread nD τ) R (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v0 v2 v21 v3071 v3075 v3571 kk acc) := by
  obtain ⟨r1, r2, r3, r4, r5, r6, r7, r8, r9, r10, r11, r12, r13, r14, r15, r16, r17, r18, r19, r20, r21, r22, r23, r24, r25, r26, r27, r28, r29, r30, r31, r32, r33, r34, r35, r36, r37, w11, w12, w13, w14, w15, w16, w17, w18, w19, w20, w21, w22, w23, w24, w25, w26, w27, w28, w29, w30, w31, w32, w33, w34, w35, w36, w37⟩ := id hG
  intro kk acc
  unfold k0_t1_body
  refine Keeps.bind (Keeps.load r1) fun _ => Keeps.bind (Keeps.load r20) fun _ => ?_
  exact Keeps.bind (Keeps.store w20) fun _ => Keeps.pure _

theorem kp_k0_t2 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v0 : Vec F S4x128 .f32} {v2 : FVec F S1x128 .f32} {v21 : FVec F S2x128 .f32} {v3071 v3075 v3571 : FVec F S8x128 .f32} :
    ∀ kk acc, Keeps (defs₀ (F := F)) (c : Thread nD τ) R (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v0 v2 v21 v3071 v3075 v3571 kk acc) := by
  obtain ⟨r1, r2, r3, r4, r5, r6, r7, r8, r9, r10, r11, r12, r13, r14, r15, r16, r17, r18, r19, r20, r21, r22, r23, r24, r25, r26, r27, r28, r29, r30, r31, r32, r33, r34, r35, r36, r37, w11, w12, w13, w14, w15, w16, w17, w18, w19, w20, w21, w22, w23, w24, w25, w26, w27, w28, w29, w30, w31, w32, w33, w34, w35, w36, w37⟩ := id hG
  intro kk acc
  unfold k0_t2_body
  refine Keeps.bind ?_ fun _ => ?_
  · rw [k0_part1_eq_skeleton]; unfold k0_part1_skel
    iterate 4 (refine Keeps.bind (Keeps.load r20) fun _ => ?_)
    exact Keeps.pure _
  exact Keeps.bind (Keeps.load r21) fun _ => Keeps.bind (Keeps.store w21) fun _ => Keeps.pure _

theorem kp_k0_t3 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v22 v1845 : FVec F S1x128 .f32} {v3610 : BitVec 32} {v3612 : Vec F S8192x128 .f32} {v3629 v3650 : FVec F S8192x128 .f32} {cst_1552 : F .f32} :
    ∀ kk acc, Keeps (defs₀ (F := F)) (c : Thread nD τ) R (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v22 v1845 v3610 v3612 v3629 v3650 cst_1552 kk acc) := by
  cases hG
  intro kk acc
  unfold k0_t3_body
  repeat' first
    | with_reducible exact Keeps.pure _
    | with_reducible refine Keeps.bind ?_ fun _ => ?_
    | with_reducible exact Keeps.load (by assumption)
    | with_reducible exact Keeps.store (by assumption)
    | simp only [k0_part2_eq_skeleton, k0_part2_skel, k0_part3_eq_skeleton, k0_part3_skel, k0_part4_eq_skeleton,
        k0_part4_skel, k0_part5_eq_skeleton, k0_part5_skel, k0_part6_eq_skeleton, k0_part6_skel, k0_part7_eq_skeleton,
        k0_part7_skel, k0_part8_eq_skeleton, k0_part8_skel, k0_part9_eq_skeleton, k0_part9_skel, k0_part10_eq_skeleton,
        k0_part10_skel, k0_part11_eq_skeleton, k0_part11_skel, k0_part12_eq_skeleton, k0_part12_skel, k0_part13_eq_skeleton,
        k0_part13_skel, k0_part14_eq_skeleton, k0_part14_skel, k0_part15_eq_skeleton, k0_part15_skel, k0_part16_eq_skeleton,
        k0_part16_skel, k0_part17_eq_skeleton, k0_part17_skel, k0_part18_eq_skeleton, k0_part18_skel, k0_part19_eq_skeleton,
        k0_part19_skel, k0_part20_eq_skeleton, k0_part20_skel, k0_part21_eq_skeleton, k0_part21_skel, k0_part22_eq_skeleton,
        k0_part22_skel, k0_part23_eq_skeleton, k0_part23_skel, k0_part24_eq_skeleton, k0_part24_skel, k0_part25_eq_skeleton,
        k0_part25_skel, k0_part26_eq_skeleton, k0_part26_skel, k0_part27_eq_skeleton, k0_part27_skel, k0_part28_eq_skeleton,
        k0_part28_skel, k0_part29_eq_skeleton, k0_part29_skel, k0_part30_eq_skeleton, k0_part30_skel, k0_part31_eq_skeleton,
        k0_part31_skel, k0_part32_eq_skeleton, k0_part32_skel, k0_part33_eq_skeleton, k0_part33_skel, k0_part34_eq_skeleton,
        k0_part34_skel, k0_part35_eq_skeleton, k0_part35_skel, k0_part36_eq_skeleton, k0_part36_skel, k0_part37_eq_skeleton,
        k0_part37_skel, k0_part38_eq_skeleton, k0_part38_skel, k0_part39_eq_skeleton, k0_part39_skel, k0_part40_eq_skeleton,
        k0_part40_skel, k0_part41_eq_skeleton, k0_part41_skel]

theorem kp_k0_t4 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v22 v1845 : FVec F S1x128 .f32} {v3610 : BitVec 32} {v3612 : Vec F S8192x128 .f32} {v3629 v3650 : FVec F S8192x128 .f32} {cst_1552 : F .f32} :
    ∀ kk acc, Keeps (defs₀ (F := F)) (c : Thread nD τ) R (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v22 v1845 v3610 v3612 v3629 v3650 cst_1552 kk acc) := by
  obtain ⟨r1, r2, r3, r4, r5, r6, r7, r8, r9, r10, r11, r12, r13, r14, r15, r16, r17, r18, r19, r20, r21, r22, r23, r24, r25, r26, r27, r28, r29, r30, r31, r32, r33, r34, r35, r36, r37, w11, w12, w13, w14, w15, w16, w17, w18, w19, w20, w21, w22, w23, w24, w25, w26, w27, w28, w29, w30, w31, w32, w33, w34, w35, w36, w37⟩ := id hG
  intro kk acc
  unfold k0_t4_body
  refine Keeps.bind (Keeps.load r3) fun _ => Keeps.bind (Keeps.load r24) fun _ => ?_
  exact Keeps.bind (Keeps.store w24) fun _ => Keeps.pure _

theorem kp_k0_t5 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v21 : FVec F S2x128 .f32} {v22 : FVec F S1x128 .f32} {v3682 : IVec S8x128 32} {v3684 : IVec S8x128 1} {v3685 : IVec S8x128 32} :
    ∀ kk acc, Keeps (defs₀ (F := F)) (c : Thread nD τ) R (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v21 v22 v3682 v3684 v3685 kk acc) := by
  cases hG
  intro kk acc
  unfold k0_t5_body
  repeat' first
    | with_reducible exact Keeps.pure _
    | with_reducible refine Keeps.bind ?_ fun _ => ?_
    | with_reducible exact Keeps.load (by assumption)
    | with_reducible exact Keeps.store (by assumption)
    | simp only [k0_part42_eq_skeleton, k0_part42_skel, k0_part43_eq_skeleton, k0_part43_skel, k0_part44_eq_skeleton,
        k0_part44_skel, k0_part45_eq_skeleton, k0_part45_skel, k0_part46_eq_skeleton, k0_part46_skel, k0_part47_eq_skeleton,
        k0_part47_skel, k0_part48_eq_skeleton, k0_part48_skel, k0_part49_eq_skeleton, k0_part49_skel, k0_part50_eq_skeleton,
        k0_part50_skel, k0_part51_eq_skeleton, k0_part51_skel, k0_part52_eq_skeleton, k0_part52_skel, k0_part53_eq_skeleton,
        k0_part53_skel, k0_part54_eq_skeleton, k0_part54_skel, k0_part55_eq_skeleton, k0_part55_skel, k0_part56_eq_skeleton,
        k0_part56_skel, k0_part57_eq_skeleton, k0_part57_skel, k0_part58_eq_skeleton, k0_part58_skel, k0_part59_eq_skeleton,
        k0_part59_skel, k0_part60_eq_skeleton, k0_part60_skel, k0_part61_eq_skeleton, k0_part61_skel, k0_part62_eq_skeleton,
        k0_part62_skel, k0_part63_eq_skeleton, k0_part63_skel, k0_part64_eq_skeleton, k0_part64_skel, k0_part65_eq_skeleton,
        k0_part65_skel, k0_part66_eq_skeleton, k0_part66_skel, k0_part67_eq_skeleton, k0_part67_skel, k0_part68_eq_skeleton,
        k0_part68_skel, k0_part69_eq_skeleton, k0_part69_skel, k0_part70_eq_skeleton, k0_part70_skel, k0_part71_eq_skeleton,
        k0_part71_skel, k0_part72_eq_skeleton, k0_part72_skel, k0_part73_eq_skeleton, k0_part73_skel, k0_part74_eq_skeleton,
        k0_part74_skel, k0_part75_eq_skeleton, k0_part75_skel, k0_part76_eq_skeleton, k0_part76_skel, k0_part77_eq_skeleton,
        k0_part77_skel, k0_part78_eq_skeleton, k0_part78_skel, k0_part79_eq_skeleton, k0_part79_skel, k0_part80_eq_skeleton,
        k0_part80_skel, k0_part81_eq_skeleton, k0_part81_skel]

theorem kp_k0_t6 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v21 : FVec F S2x128 .f32} {v22 : FVec F S1x128 .f32} {v3682 : IVec S8x128 32} {v3684 : IVec S8x128 1} {v3685 : IVec S8x128 32} {v3696 v3698 : Vec F S1x1x128x128 .bf16} :
    ∀ kk acc, Keeps (defs₀ (F := F)) (c : Thread nD τ) R (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v21 v22 v3682 v3684 v3685 v3696 v3698 kk acc) := by
  cases hG
  intro kk acc
  unfold k0_t6_body
  repeat' first
    | with_reducible exact Keeps.pure _
    | with_reducible refine Keeps.bind ?_ fun _ => ?_
    | with_reducible exact Keeps.load (by assumption)
    | with_reducible exact Keeps.store (by assumption)
    | simp only [k0_part82_eq_skeleton, k0_part82_skel, k0_part83_eq_skeleton, k0_part83_skel]

theorem kp_k0_t7 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v22 v3588 : FVec F S1x128 .f32} {v3714 : BitVec 32} {v3716 : Vec F S8192x128 .f32} {v3733 v3750 v3753 : FVec F S8192x128 .f32} :
    ∀ kk acc, Keeps (defs₀ (F := F)) (c : Thread nD τ) R (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v22 v3588 v3714 v3716 v3733 v3750 v3753 kk acc) := by
  cases hG
  intro kk acc
  unfold k0_t7_body
  repeat' first
    | with_reducible exact Keeps.pure _
    | with_reducible refine Keeps.bind ?_ fun _ => ?_
    | with_reducible exact Keeps.load (by assumption)
    | with_reducible exact Keeps.store (by assumption)
    | simp only [k0_part84_eq_skeleton, k0_part84_skel, k0_part85_eq_skeleton, k0_part85_skel, k0_part86_eq_skeleton,
        k0_part86_skel, k0_part87_eq_skeleton, k0_part87_skel, k0_part88_eq_skeleton, k0_part88_skel, k0_part89_eq_skeleton,
        k0_part89_skel, k0_part90_eq_skeleton, k0_part90_skel, k0_part91_eq_skeleton, k0_part91_skel, k0_part92_eq_skeleton,
        k0_part92_skel, k0_part93_eq_skeleton, k0_part93_skel, k0_part94_eq_skeleton, k0_part94_skel, k0_part95_eq_skeleton,
        k0_part95_skel, k0_part96_eq_skeleton, k0_part96_skel, k0_part97_eq_skeleton, k0_part97_skel, k0_part98_eq_skeleton,
        k0_part98_skel, k0_part99_eq_skeleton, k0_part99_skel, k0_part100_eq_skeleton, k0_part100_skel,
        k0_part101_eq_skeleton, k0_part101_skel, k0_part102_eq_skeleton, k0_part102_skel, k0_part103_eq_skeleton,
        k0_part103_skel, k0_part104_eq_skeleton, k0_part104_skel, k0_part105_eq_skeleton, k0_part105_skel,
        k0_part106_eq_skeleton, k0_part106_skel, k0_part107_eq_skeleton, k0_part107_skel, k0_part108_eq_skeleton,
        k0_part108_skel, k0_part109_eq_skeleton, k0_part109_skel, k0_part110_eq_skeleton, k0_part110_skel,
        k0_part111_eq_skeleton, k0_part111_skel, k0_part112_eq_skeleton, k0_part112_skel, k0_part113_eq_skeleton,
        k0_part113_skel, k0_part114_eq_skeleton, k0_part114_skel, k0_part115_eq_skeleton, k0_part115_skel,
        k0_part116_eq_skeleton, k0_part116_skel, k0_part117_eq_skeleton, k0_part117_skel, k0_part118_eq_skeleton,
        k0_part118_skel, k0_part119_eq_skeleton, k0_part119_skel, k0_part120_eq_skeleton, k0_part120_skel,
        k0_part121_eq_skeleton, k0_part121_skel, k0_part122_eq_skeleton, k0_part122_skel, k0_part123_eq_skeleton,
        k0_part123_skel]

theorem kp_k0_t8 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v22 v3588 : FVec F S1x128 .f32} {v3714 : BitVec 32} {v3716 : Vec F S8192x128 .f32} {v3733 v3750 v3753 : FVec F S8192x128 .f32} :
    ∀ kk acc, Keeps (defs₀ (F := F)) (c : Thread nD τ) R (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v22 v3588 v3714 v3716 v3733 v3750 v3753 kk acc) := by
  obtain ⟨r1, r2, r3, r4, r5, r6, r7, r8, r9, r10, r11, r12, r13, r14, r15, r16, r17, r18, r19, r20, r21, r22, r23, r24, r25, r26, r27, r28, r29, r30, r31, r32, r33, r34, r35, r36, r37, w11, w12, w13, w14, w15, w16, w17, w18, w19, w20, w21, w22, w23, w24, w25, w26, w27, w28, w29, w30, w31, w32, w33, w34, w35, w36, w37⟩ := id hG
  intro kk acc
  unfold k0_t8_body
  refine Keeps.bind (Keeps.load r3) fun _ => Keeps.bind (Keeps.load r24) fun _ => ?_
  exact Keeps.bind (Keeps.store w24) fun _ => Keeps.pure _

theorem kp_k0_t9 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v0 : Vec F S4x128 .f32} {v21 : FVec F S2x128 .f32} {v22 : FVec F S1x128 .f32} {v23 : FVec F S8x128 .f32} {v3786 : IVec S8x128 32} {v3788 : IVec S8x128 1} :
    ∀ kk acc, Keeps (defs₀ (F := F)) (c : Thread nD τ) R (k0_t9_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v0 v21 v22 v23 v3786 v3788 kk acc) := by
  cases hG
  intro kk acc
  unfold k0_t9_body
  repeat' first
    | with_reducible exact Keeps.pure _
    | with_reducible refine Keeps.bind ?_ fun _ => ?_
    | with_reducible exact Keeps.load (by assumption)
    | with_reducible exact Keeps.store (by assumption)
    | simp only [k0_part124_eq_skeleton, k0_part124_skel, k0_part125_eq_skeleton, k0_part125_skel, k0_part126_eq_skeleton,
        k0_part126_skel, k0_part127_eq_skeleton, k0_part127_skel, k0_part128_eq_skeleton, k0_part128_skel,
        k0_part129_eq_skeleton, k0_part129_skel, k0_part130_eq_skeleton, k0_part130_skel, k0_part131_eq_skeleton,
        k0_part131_skel, k0_part132_eq_skeleton, k0_part132_skel, k0_part133_eq_skeleton, k0_part133_skel,
        k0_part134_eq_skeleton, k0_part134_skel, k0_part135_eq_skeleton, k0_part135_skel, k0_part136_eq_skeleton,
        k0_part136_skel, k0_part137_eq_skeleton, k0_part137_skel, k0_part138_eq_skeleton, k0_part138_skel,
        k0_part139_eq_skeleton, k0_part139_skel, k0_part140_eq_skeleton, k0_part140_skel, k0_part141_eq_skeleton,
        k0_part141_skel, k0_part142_eq_skeleton, k0_part142_skel, k0_part143_eq_skeleton, k0_part143_skel,
        k0_part144_eq_skeleton, k0_part144_skel, k0_part145_eq_skeleton, k0_part145_skel, k0_part146_eq_skeleton,
        k0_part146_skel, k0_part147_eq_skeleton, k0_part147_skel, k0_part148_eq_skeleton, k0_part148_skel,
        k0_part149_eq_skeleton, k0_part149_skel, k0_part150_eq_skeleton, k0_part150_skel, k0_part151_eq_skeleton,
        k0_part151_skel, k0_part152_eq_skeleton, k0_part152_skel, k0_part153_eq_skeleton, k0_part153_skel,
        k0_part154_eq_skeleton, k0_part154_skel, k0_part155_eq_skeleton, k0_part155_skel, k0_part156_eq_skeleton,
        k0_part156_skel, k0_part157_eq_skeleton, k0_part157_skel, k0_part158_eq_skeleton, k0_part158_skel,
        k0_part159_eq_skeleton, k0_part159_skel, k0_part160_eq_skeleton, k0_part160_skel, k0_part161_eq_skeleton,
        k0_part161_skel, k0_part162_eq_skeleton, k0_part162_skel, k0_part163_eq_skeleton, k0_part163_skel]

theorem kp_k0_t10 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v0 : Vec F S4x128 .f32} {v21 : FVec F S2x128 .f32} {v22 : FVec F S1x128 .f32} {v23 : FVec F S8x128 .f32} {v3786 : IVec S8x128 32} {v3788 : IVec S8x128 1} {v3800 v3802 : Vec F S1x1x128x128 .bf16} :
    ∀ kk acc, Keeps (defs₀ (F := F)) (c : Thread nD τ) R (k0_t10_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v0 v21 v22 v23 v3786 v3788 v3800 v3802 kk acc) := by
  cases hG
  intro kk acc
  unfold k0_t10_body
  repeat' first
    | with_reducible exact Keeps.pure _
    | with_reducible refine Keeps.bind ?_ fun _ => ?_
    | with_reducible exact Keeps.load (by assumption)
    | with_reducible exact Keeps.store (by assumption)
    | simp only [k0_part164_eq_skeleton, k0_part164_skel, k0_part165_eq_skeleton, k0_part165_skel]

theorem kp_k0_t11 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v0 : Vec F S4x128 .f32} {v21 : FVec F S2x128 .f32} {v22 : FVec F S1x128 .f32} {v23 : FVec F S8x128 .f32} {v3786 : IVec S8x128 32} {v3788 : IVec S8x128 1} :
    ∀ kk acc, Keeps (defs₀ (F := F)) (c : Thread nD τ) R (k0_t11_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v0 v21 v22 v23 v3786 v3788 kk acc) := by
  cases hG
  intro kk acc
  unfold k0_t11_body
  repeat' first
    | with_reducible exact Keeps.pure _
    | with_reducible refine Keeps.bind ?_ fun _ => ?_
    | with_reducible exact Keeps.load (by assumption)
    | with_reducible exact Keeps.store (by assumption)
    | simp only [k0_part166_eq_skeleton, k0_part166_skel, k0_part167_eq_skeleton, k0_part167_skel]

theorem kp_k0_part352 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37)  :
    Keeps (defs₀ (F := F)) (c : Thread nD τ) R (k0_part352 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 ) := by
  cases hG
  rw [k0_part352_eq_skeleton]; unfold k0_part352_skel
  repeat' first
    | with_reducible exact Keeps.pure _
    | with_reducible refine Keeps.bind ?_ fun _ => ?_
    | with_reducible exact Keeps.load (by assumption)
    | with_reducible exact Keeps.store (by assumption)
    | simp only [k0_part168_eq_skeleton, k0_part168_skel, k0_part169_eq_skeleton, k0_part169_skel, k0_part170_eq_skeleton,
        k0_part170_skel, k0_part171_eq_skeleton, k0_part171_skel, k0_part172_eq_skeleton, k0_part172_skel,
        k0_part173_eq_skeleton, k0_part173_skel, k0_part174_eq_skeleton, k0_part174_skel, k0_part175_eq_skeleton,
        k0_part175_skel, k0_part176_eq_skeleton, k0_part176_skel, k0_part177_eq_skeleton, k0_part177_skel,
        k0_part178_eq_skeleton, k0_part178_skel, k0_part179_eq_skeleton, k0_part179_skel, k0_part180_eq_skeleton,
        k0_part180_skel, k0_part181_eq_skeleton, k0_part181_skel, k0_part182_eq_skeleton, k0_part182_skel,
        k0_part183_eq_skeleton, k0_part183_skel, k0_part184_eq_skeleton, k0_part184_skel, k0_part185_eq_skeleton,
        k0_part185_skel, k0_part186_eq_skeleton, k0_part186_skel, k0_part187_eq_skeleton, k0_part187_skel,
        k0_part188_eq_skeleton, k0_part188_skel, k0_part189_eq_skeleton, k0_part189_skel, k0_part190_eq_skeleton,
        k0_part190_skel, k0_part191_eq_skeleton, k0_part191_skel, k0_part192_eq_skeleton, k0_part192_skel,
        k0_part193_eq_skeleton, k0_part193_skel, k0_part194_eq_skeleton, k0_part194_skel, k0_part195_eq_skeleton,
        k0_part195_skel, k0_part196_eq_skeleton, k0_part196_skel, k0_part197_eq_skeleton, k0_part197_skel,
        k0_part198_eq_skeleton, k0_part198_skel, k0_part199_eq_skeleton, k0_part199_skel, k0_part200_eq_skeleton,
        k0_part200_skel, k0_part201_eq_skeleton, k0_part201_skel, k0_part202_eq_skeleton, k0_part202_skel,
        k0_part203_eq_skeleton, k0_part203_skel, k0_part204_eq_skeleton, k0_part204_skel, k0_part205_eq_skeleton,
        k0_part205_skel, k0_part206_eq_skeleton, k0_part206_skel, k0_part207_eq_skeleton, k0_part207_skel,
        k0_part208_eq_skeleton, k0_part208_skel, k0_part209_eq_skeleton, k0_part209_skel, k0_part210_eq_skeleton,
        k0_part210_skel, k0_part211_eq_skeleton, k0_part211_skel, k0_part212_eq_skeleton, k0_part212_skel,
        k0_part213_eq_skeleton, k0_part213_skel, k0_part214_eq_skeleton, k0_part214_skel, k0_part215_eq_skeleton,
        k0_part215_skel, k0_part216_eq_skeleton, k0_part216_skel, k0_part217_eq_skeleton, k0_part217_skel,
        k0_part218_eq_skeleton, k0_part218_skel, k0_part219_eq_skeleton, k0_part219_skel, k0_part220_eq_skeleton,
        k0_part220_skel, k0_part221_eq_skeleton, k0_part221_skel, k0_part222_eq_skeleton, k0_part222_skel,
        k0_part223_eq_skeleton, k0_part223_skel, k0_part224_eq_skeleton, k0_part224_skel, k0_part225_eq_skeleton,
        k0_part225_skel, k0_part226_eq_skeleton, k0_part226_skel, k0_part227_eq_skeleton, k0_part227_skel]

theorem kp_k0_part353 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v0 : Vec F S4x128 .f32} {v2 : FVec F S1x128 .f32} {v21 : FVec F S2x128 .f32} {v22 : FVec F S1x128 .f32} {v23 : FVec F S8x128 .f32} {v1845 : FVec F S1x128 .f32} {v1914 v1916 v1918 : IVec S8x128 1} {v1920 : FVec F S8x128 .f32} {v1923 : BitVec 32} {v1991 v1995 v2000 v2004 v2009 v2013 v2018 v2022 v2027 v2031 v2036 v2040 v2045 v2049 v2054 v2058 v2063 v2067 v2072 v2076 v2081 v2085 v2090 v2094 v2099 v2103 v2108 v2112 v2117 v2121 v2126 v2130 v2135 v2139 v2144 v2148 v2153 v2157 v2162 v2166 v2171 v2175 v2180 v2184 v2189 v2193 v2198 v2202 v2207 v2211 : Vec F S8x128 .f32} {v2234 v2238 v2261 v2265 v2288 v2292 v2315 v2319 v2342 v2346 v2369 v2373 v2387 v2391 : FVec F S8x128 .f32} :
    Keeps (defs₀ (F := F)) (c : Thread nD τ) R (k0_part353 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v0 v2 v21 v22 v23 v1845 v1914 v1916 v1918 v1920 v1923 v1991 v1995 v2000 v2004 v2009 v2013 v2018 v2022 v2027 v2031 v2036 v2040 v2045 v2049 v2054 v2058 v2063 v2067 v2072 v2076 v2081 v2085 v2090 v2094 v2099 v2103 v2108 v2112 v2117 v2121 v2126 v2130 v2135 v2139 v2144 v2148 v2153 v2157 v2162 v2166 v2171 v2175 v2180 v2184 v2189 v2193 v2198 v2202 v2207 v2211 v2234 v2238 v2261 v2265 v2288 v2292 v2315 v2319 v2342 v2346 v2369 v2373 v2387 v2391) := by
  have hG0 := hG
  cases hG0
  rw [k0_part353_eq_skeleton]; unfold k0_part353_skel
  repeat' first
    | with_reducible exact Keeps.pure _
    | with_reducible refine Keeps.bind ?_ fun _ => ?_
    | with_reducible exact Keeps.load (by assumption)
    | with_reducible exact Keeps.store (by assumption)
    | with_reducible exact Keeps.loop (kp_k0_t1 (F := F) hG)
    | with_reducible exact Keeps.loop (kp_k0_t2 (F := F) hG)
    | with_reducible exact Keeps.loop (kp_k0_t3 (F := F) hG)
    | with_reducible exact Keeps.loop (kp_k0_t4 (F := F) hG)
    | with_reducible exact Keeps.loop (kp_k0_t5 (F := F) hG)
    | with_reducible exact Keeps.loop (kp_k0_t6 (F := F) hG)
    | with_reducible exact Keeps.loop (kp_k0_t7 (F := F) hG)
    | with_reducible exact Keeps.loop (kp_k0_t8 (F := F) hG)
    | with_reducible exact Keeps.loop (kp_k0_t9 (F := F) hG)
    | with_reducible exact Keeps.loop (kp_k0_t10 (F := F) hG)
    | with_reducible exact Keeps.loop (kp_k0_t11 (F := F) hG)
    | simp only [k0_part228_eq_skeleton, k0_part228_skel, k0_part229_eq_skeleton, k0_part229_skel, k0_part230_eq_skeleton,
        k0_part230_skel, k0_part231_eq_skeleton, k0_part231_skel, k0_part232_eq_skeleton, k0_part232_skel,
        k0_part233_eq_skeleton, k0_part233_skel, k0_part234_eq_skeleton, k0_part234_skel, k0_part235_eq_skeleton,
        k0_part235_skel, k0_part236_eq_skeleton, k0_part236_skel, k0_part237_eq_skeleton, k0_part237_skel,
        k0_part238_eq_skeleton, k0_part238_skel, k0_part239_eq_skeleton, k0_part239_skel, k0_part240_eq_skeleton,
        k0_part240_skel, k0_part241_eq_skeleton, k0_part241_skel, k0_part242_eq_skeleton, k0_part242_skel,
        k0_part243_eq_skeleton, k0_part243_skel, k0_part244_eq_skeleton, k0_part244_skel, k0_part245_eq_skeleton,
        k0_part245_skel, k0_part246_eq_skeleton, k0_part246_skel, k0_part247_eq_skeleton, k0_part247_skel,
        k0_part248_eq_skeleton, k0_part248_skel, k0_part249_eq_skeleton, k0_part249_skel, k0_part250_eq_skeleton,
        k0_part250_skel, k0_part251_eq_skeleton, k0_part251_skel, k0_part252_eq_skeleton, k0_part252_skel,
        k0_part253_eq_skeleton, k0_part253_skel, k0_part254_eq_skeleton, k0_part254_skel, k0_part255_eq_skeleton,
        k0_part255_skel, k0_part256_eq_skeleton, k0_part256_skel, k0_part257_eq_skeleton, k0_part257_skel,
        k0_part258_eq_skeleton, k0_part258_skel, k0_part259_eq_skeleton, k0_part259_skel, k0_part260_eq_skeleton,
        k0_part260_skel, k0_part261_eq_skeleton, k0_part261_skel, k0_part262_eq_skeleton, k0_part262_skel,
        k0_part263_eq_skeleton, k0_part263_skel, k0_part264_eq_skeleton, k0_part264_skel, k0_part265_eq_skeleton,
        k0_part265_skel, k0_part266_eq_skeleton, k0_part266_skel, k0_part267_eq_skeleton, k0_part267_skel,
        k0_part268_eq_skeleton, k0_part268_skel, k0_part269_eq_skeleton, k0_part269_skel, k0_part270_eq_skeleton,
        k0_part270_skel, k0_part271_eq_skeleton, k0_part271_skel, k0_part272_eq_skeleton, k0_part272_skel,
        k0_part273_eq_skeleton, k0_part273_skel, k0_part274_eq_skeleton, k0_part274_skel, k0_part275_eq_skeleton,
        k0_part275_skel, k0_part276_eq_skeleton, k0_part276_skel, k0_part277_eq_skeleton, k0_part277_skel,
        k0_part278_eq_skeleton, k0_part278_skel, k0_part279_eq_skeleton, k0_part279_skel, k0_part280_eq_skeleton,
        k0_part280_skel, k0_part281_eq_skeleton, k0_part281_skel, k0_part282_eq_skeleton, k0_part282_skel,
        k0_part283_eq_skeleton, k0_part283_skel, k0_part284_eq_skeleton, k0_part284_skel, k0_part285_eq_skeleton,
        k0_part285_skel, k0_part286_eq_skeleton, k0_part286_skel, k0_part287_eq_skeleton, k0_part287_skel]

theorem kp_k0_part354 {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37) {v21 : FVec F S2x128 .f32} {v22 v3799 : FVec F S1x128 .f32} {v3831 v3833 v3835 : IVec S8x128 1} {v3837 : FVec F S8x128 .f32} {v3840 : BitVec 32} {v4079 v4083 v4088 v4092 v4097 v4101 v4106 v4110 v4115 v4119 v4124 v4128 : Vec F S8x128 .f32} {v4151 v4155 v4178 v4182 v4205 v4209 v4232 v4236 v4259 v4263 v4286 v4290 v4313 v4317 v4340 v4344 v4367 v4371 v4394 v4398 v4421 v4425 v4448 v4452 v4475 v4479 v4502 v4506 v4529 v4533 v4556 v4560 v4583 v4587 v4610 v4614 v4637 v4641 v4664 v4668 v4691 v4695 v4718 v4722 v4745 v4749 v4772 v4776 v4799 v4803 v4817 v4821 : FVec F S8x128 .f32} {c4_i32_2219 : BitVec 32} :
    Keeps (defs₀ (F := F)) (c : Thread nD τ) R (k0_part354 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 v21 v22 v3799 v3831 v3833 v3835 v3837 v3840 v4079 v4083 v4088 v4092 v4097 v4101 v4106 v4110 v4115 v4119 v4124 v4128 v4151 v4155 v4178 v4182 v4205 v4209 v4232 v4236 v4259 v4263 v4286 v4290 v4313 v4317 v4340 v4344 v4367 v4371 v4394 v4398 v4421 v4425 v4448 v4452 v4475 v4479 v4502 v4506 v4529 v4533 v4556 v4560 v4583 v4587 v4610 v4614 v4637 v4641 v4664 v4668 v4691 v4695 v4718 v4722 v4745 v4749 v4772 v4776 v4799 v4803 v4817 v4821 c4_i32_2219) := by
  cases hG
  rw [k0_part354_eq_skeleton]; unfold k0_part354_skel
  repeat' first
    | with_reducible exact Keeps.pure _
    | with_reducible refine Keeps.bind ?_ fun _ => ?_
    | with_reducible exact Keeps.load (by assumption)
    | with_reducible exact Keeps.store (by assumption)
    | simp only [k0_part288_eq_skeleton, k0_part288_skel, k0_part289_eq_skeleton, k0_part289_skel, k0_part290_eq_skeleton,
        k0_part290_skel, k0_part291_eq_skeleton, k0_part291_skel, k0_part292_eq_skeleton, k0_part292_skel,
        k0_part293_eq_skeleton, k0_part293_skel, k0_part294_eq_skeleton, k0_part294_skel, k0_part295_eq_skeleton,
        k0_part295_skel, k0_part296_eq_skeleton, k0_part296_skel, k0_part297_eq_skeleton, k0_part297_skel,
        k0_part298_eq_skeleton, k0_part298_skel, k0_part299_eq_skeleton, k0_part299_skel, k0_part300_eq_skeleton,
        k0_part300_skel, k0_part301_eq_skeleton, k0_part301_skel, k0_part302_eq_skeleton, k0_part302_skel,
        k0_part303_eq_skeleton, k0_part303_skel, k0_part304_eq_skeleton, k0_part304_skel, k0_part305_eq_skeleton,
        k0_part305_skel, k0_part306_eq_skeleton, k0_part306_skel, k0_part307_eq_skeleton, k0_part307_skel,
        k0_part308_eq_skeleton, k0_part308_skel, k0_part309_eq_skeleton, k0_part309_skel, k0_part310_eq_skeleton,
        k0_part310_skel, k0_part311_eq_skeleton, k0_part311_skel, k0_part312_eq_skeleton, k0_part312_skel,
        k0_part313_eq_skeleton, k0_part313_skel, k0_part314_eq_skeleton, k0_part314_skel, k0_part315_eq_skeleton,
        k0_part315_skel, k0_part316_eq_skeleton, k0_part316_skel, k0_part317_eq_skeleton, k0_part317_skel,
        k0_part318_eq_skeleton, k0_part318_skel, k0_part319_eq_skeleton, k0_part319_skel, k0_part320_eq_skeleton,
        k0_part320_skel, k0_part321_eq_skeleton, k0_part321_skel, k0_part322_eq_skeleton, k0_part322_skel,
        k0_part323_eq_skeleton, k0_part323_skel, k0_part324_eq_skeleton, k0_part324_skel, k0_part325_eq_skeleton,
        k0_part325_skel, k0_part326_eq_skeleton, k0_part326_skel, k0_part327_eq_skeleton, k0_part327_skel,
        k0_part328_eq_skeleton, k0_part328_skel, k0_part329_eq_skeleton, k0_part329_skel, k0_part330_eq_skeleton,
        k0_part330_skel, k0_part331_eq_skeleton, k0_part331_skel, k0_part332_eq_skeleton, k0_part332_skel,
        k0_part333_eq_skeleton, k0_part333_skel, k0_part334_eq_skeleton, k0_part334_skel, k0_part335_eq_skeleton,
        k0_part335_skel, k0_part336_eq_skeleton, k0_part336_skel, k0_part337_eq_skeleton, k0_part337_skel,
        k0_part338_eq_skeleton, k0_part338_skel, k0_part339_eq_skeleton, k0_part339_skel, k0_part340_eq_skeleton,
        k0_part340_skel, k0_part341_eq_skeleton, k0_part341_skel, k0_part342_eq_skeleton, k0_part342_skel,
        k0_part343_eq_skeleton, k0_part343_skel, k0_part344_eq_skeleton, k0_part344_skel, k0_part345_eq_skeleton,
        k0_part345_skel, k0_part346_eq_skeleton, k0_part346_skel, k0_part347_eq_skeleton, k0_part347_skel]

theorem kp_cc0_rglru_bwd {R : sProp 𝕄} (hG : Good c R arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37)  :
    Keeps (defs₀ (F := F)) (c : Thread nD τ) R (cc0_rglru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 ) := by
  have hG0 := hG
  cases hG0
  rw [cc0_rglru_bwd_eq_skeleton]; unfold cc0_rglru_bwd_skel
  repeat' first
    | with_reducible exact Keeps.pure _
    | with_reducible refine Keeps.bind ?_ fun _ => ?_
    | with_reducible exact Keeps.load (by assumption)
    | with_reducible exact Keeps.store (by assumption)
    | with_reducible exact kp_k0_part352 (F := F) hG
    | with_reducible exact kp_k0_part353 (F := F) hG
    | with_reducible exact kp_k0_part354 (F := F) hG
    | simp only [k0_part348_eq_skeleton, k0_part348_skel, k0_part349_eq_skeleton, k0_part349_skel, k0_part350_eq_skeleton,
        k0_part350_skel, k0_part351_eq_skeleton, k0_part351_skel]

end Cert.LruBwdIdeal.Hand

end
-- ==== Proof.LruFrame.lean ====
module

public import proofs.«01_k».proof.Proof.LruKeep

@[expose] public section

set_option maxRecDepth 65536

/-!
The frame of LruBwdIdeal: its body keeps the blocks it reads and leaves something in each block it writes, so every run ends with
the argument arrays as they were and every counter at zero.
-/

noncomputable section

namespace Cert.LruBwdIdeal.Hand

open Cert.LruBwdIdeal Cert.LruBwdIdeal.Gen Keep
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of which nothing is named. -/
def forgets0 : Fin 19 → Bool := fun w => w.val == 10 || w.val == 11 || w.val == 12 || w.val == 13 || w.val == 14 || w.val == 15 || w.val == 16 || w.val == 17 || w.val == 18

/-- The pipeline's data: each input's buffer at its block after every point, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨k + 19, h⟩ => absurd (show k + 19 < 19 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

abbrev ms0_0 (t : Fin cfg0.N) : Memref sig .tc .vmem S1x8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x128x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1x128x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8192x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S2x1x128x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2x1x128x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S2x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S2x128 .f32 := win0_18.stage (cfg0.slots t 18)
abbrev hs0_18 (t : Fin cfg0.N) : (ms0_18 t).IsWhole := hstage0_18 ((cfg0.slots t 18).cast nbuf0_18)
abbrev scM0_0 : Memref sig .tc .vmem S8208x128 .f32 := Memref.whole cc0_scratch0
abbrev scM0_1 : Memref sig .tc .vmem S8192x128 .f32 := Memref.whole cc0_scratch1
abbrev scM0_2 : Memref sig .tc .vmem S8208x128 .f32 := Memref.whole cc0_scratch2
abbrev scM0_3 : Memref sig .tc .vmem S8208x128 .f32 := Memref.whole cc0_scratch3
abbrev scM0_4 : Memref sig .tc .vmem S8208x128 .f32 := Memref.whole cc0_scratch4
abbrev scM0_5 : Memref sig .tc .vmem S8208x128 .f32 := Memref.whole cc0_scratch5
abbrev scM0_6 : Memref sig .tc .vmem S8192x128 .f32 := Memref.whole cc0_scratch6
abbrev scM0_7 : Memref sig .tc .vmem S8192x128 .f32 := Memref.whole cc0_scratch7
abbrev scM0_8 : Memref sig .tc .vmem S272x128 .f32 := Memref.whole cc0_scratch8
abbrev scM0_9 : Memref sig .tc .vmem S256x128 .f32 := Memref.whole cc0_scratch9
abbrev scM0_10 : Memref sig .tc .vmem S272x128 .f32 := Memref.whole cc0_scratch10
abbrev scM0_11 : Memref sig .tc .vmem S272x128 .f32 := Memref.whole cc0_scratch11
abbrev scM0_12 : Memref sig .tc .vmem S272x128 .f32 := Memref.whole cc0_scratch12
abbrev scM0_13 : Memref sig .tc .vmem S272x128 .f32 := Memref.whole cc0_scratch13
abbrev scM0_14 : Memref sig .tc .vmem S256x128 .f32 := Memref.whole cc0_scratch14
abbrev scM0_15 : Memref sig .tc .vmem S256x128 .f32 := Memref.whole cc0_scratch15
abbrev scM0_16 : Memref sig .tc .vmem S256x128 .f32 := Memref.whole cc0_scratch16
abbrev scM0_17 : Memref sig .tc .vmem S256x128 .f32 := Memref.whole cc0_scratch17

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, scM0_13, scM0_14, scM0_15, scM0_16, scM0_17, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d))

/-- What the body touches. -/
def touched (c : Dev nD) (t : Fin cfg0.N) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) scM0_0 fullShare d)
    ∗ (∃ d, owns (c : Thread nD τ) scM0_1 fullShare d)
    ∗ (∃ d, owns (c : Thread nD τ) scM0_2 fullShare d)
    ∗ (∃ d, owns (c : Thread nD τ) scM0_3 fullShare d)
    ∗ (∃ d, owns (c : Thread nD τ) scM0_4 fullShare d)
    ∗ (∃ d, owns (c : Thread nD τ) scM0_5 fullShare d)
    ∗ (∃ d, owns (c : Thread nD τ) scM0_6 fullShare d)
    ∗ (∃ d, owns (c : Thread nD τ) scM0_7 fullShare d)
    ∗ (∃ d, owns (c : Thread nD τ) scM0_8 fullShare d)
    ∗ (∃ d, owns (c : Thread nD τ) scM0_9 fullShare d)
    ∗ (∃ d, owns (c : Thread nD τ) scM0_10 fullShare d)
    ∗ (∃ d, owns (c : Thread nD τ) scM0_11 fullShare d)
    ∗ (∃ d, owns (c : Thread nD τ) scM0_12 fullShare d)
    ∗ (∃ d, owns (c : Thread nD τ) scM0_13 fullShare d)
    ∗ (∃ d, owns (c : Thread nD τ) scM0_14 fullShare d)
    ∗ (∃ d, owns (c : Thread nD τ) scM0_15 fullShare d)
    ∗ (∃ d, owns (c : Thread nD τ) scM0_16 fullShare d)
    ∗ (∃ d, owns (c : Thread nD τ) scM0_17 fullShare d))

theorem touched_good (c : Dev nD) (t : Fin cfg0.N) : Good c (touched m c t) (ms0_0 t) (ms0_1 t) (ms0_2 t) (ms0_3 t) (ms0_4 t) (ms0_5 t) (ms0_6 t) (ms0_7 t) (ms0_8 t) (ms0_9 t) (ms0_10 t) (ms0_11 t) (ms0_12 t) (ms0_13 t) (ms0_14 t) (ms0_15 t) (ms0_16 t) (ms0_17 t) (ms0_18 t) scM0_0 scM0_1 scM0_2 scM0_3 scM0_4 scM0_5 scM0_6 scM0_7 scM0_8 scM0_9 scM0_10 scM0_11 scM0_12 scM0_13 scM0_14 scM0_15 scM0_16 scM0_17 := by
  unfold touched
  constructor
  · iterate 0 refine Reads.right ?_
    exact Reads.left reads_owns
  · iterate 1 refine Reads.right ?_
    exact Reads.left reads_owns
  · iterate 2 refine Reads.right ?_
    exact Reads.left reads_owns
  · iterate 3 refine Reads.right ?_
    exact Reads.left reads_owns
  · iterate 4 refine Reads.right ?_
    exact Reads.left reads_owns
  · iterate 5 refine Reads.right ?_
    exact Reads.left reads_owns
  · iterate 6 refine Reads.right ?_
    exact Reads.left reads_owns
  · iterate 7 refine Reads.right ?_
    exact Reads.left reads_owns
  · iterate 8 refine Reads.right ?_
    exact Reads.left reads_owns
  · iterate 9 refine Reads.right ?_
    exact Reads.left reads_owns
  · iterate 10 refine Reads.right ?_
    exact Reads.left (Writes.reads writes_owns)
  · iterate 11 refine Reads.right ?_
    exact Reads.left (Writes.reads writes_owns)
  · iterate 12 refine Reads.right ?_
    exact Reads.left (Writes.reads writes_owns)
  · iterate 13 refine Reads.right ?_
    exact Reads.left (Writes.reads writes_owns)
  · iterate 14 refine Reads.right ?_
    exact Reads.left (Writes.reads writes_owns)
  · iterate 15 refine Reads.right ?_
    exact Reads.left (Writes.reads writes_owns)
  · iterate 16 refine Reads.right ?_
    exact Reads.left (Writes.reads writes_owns)
  · iterate 17 refine Reads.right ?_
    exact Reads.left (Writes.reads writes_owns)
  · iterate 18 refine Reads.right ?_
    exact Reads.left (Writes.reads writes_owns)
  · iterate 19 refine Reads.right ?_
    exact Reads.left (Writes.reads writes_owns)
  · iterate 20 refine Reads.right ?_
    exact Reads.left (Writes.reads writes_owns)
  · iterate 21 refine Reads.right ?_
    exact Reads.left (Writes.reads writes_owns)
  · iterate 22 refine Reads.right ?_
    exact Reads.left (Writes.reads writes_owns)
  · iterate 23 refine Reads.right ?_
    exact Reads.left (Writes.reads writes_owns)
  · iterate 24 refine Reads.right ?_
    exact Reads.left (Writes.reads writes_owns)
  · iterate 25 refine Reads.right ?_
    exact Reads.left (Writes.reads writes_owns)
  · iterate 26 refine Reads.right ?_
    exact Reads.left (Writes.reads writes_owns)
  · iterate 27 refine Reads.right ?_
    exact Reads.left (Writes.reads writes_owns)
  · iterate 28 refine Reads.right ?_
    exact Reads.left (Writes.reads writes_owns)
  · iterate 29 refine Reads.right ?_
    exact Reads.left (Writes.reads writes_owns)
  · iterate 30 refine Reads.right ?_
    exact Reads.left (Writes.reads writes_owns)
  · iterate 31 refine Reads.right ?_
    exact Reads.left (Writes.reads writes_owns)
  · iterate 32 refine Reads.right ?_
    exact Reads.left (Writes.reads writes_owns)
  · iterate 33 refine Reads.right ?_
    exact Reads.left (Writes.reads writes_owns)
  · iterate 34 refine Reads.right ?_
    exact Reads.left (Writes.reads writes_owns)
  · iterate 35 refine Reads.right ?_
    exact Reads.left (Writes.reads writes_owns)
  · iterate 36 refine Reads.right ?_
    exact Writes.reads writes_owns
  · iterate 10 refine Writes.right ?_
    exact Writes.left writes_owns
  · iterate 11 refine Writes.right ?_
    exact Writes.left writes_owns
  · iterate 12 refine Writes.right ?_
    exact Writes.left writes_owns
  · iterate 13 refine Writes.right ?_
    exact Writes.left writes_owns
  · iterate 14 refine Writes.right ?_
    exact Writes.left writes_owns
  · iterate 15 refine Writes.right ?_
    exact Writes.left writes_owns
  · iterate 16 refine Writes.right ?_
    exact Writes.left writes_owns
  · iterate 17 refine Writes.right ?_
    exact Writes.left writes_owns
  · iterate 18 refine Writes.right ?_
    exact Writes.left writes_owns
  · iterate 19 refine Writes.right ?_
    exact Writes.left writes_owns
  · iterate 20 refine Writes.right ?_
    exact Writes.left writes_owns
  · iterate 21 refine Writes.right ?_
    exact Writes.left writes_owns
  · iterate 22 refine Writes.right ?_
    exact Writes.left writes_owns
  · iterate 23 refine Writes.right ?_
    exact Writes.left writes_owns
  · iterate 24 refine Writes.right ?_
    exact Writes.left writes_owns
  · iterate 25 refine Writes.right ?_
    exact Writes.left writes_owns
  · iterate 26 refine Writes.right ?_
    exact Writes.left writes_owns
  · iterate 27 refine Writes.right ?_
    exact Writes.left writes_owns
  · iterate 28 refine Writes.right ?_
    exact Writes.left writes_owns
  · iterate 29 refine Writes.right ?_
    exact Writes.left writes_owns
  · iterate 30 refine Writes.right ?_
    exact Writes.left writes_owns
  · iterate 31 refine Writes.right ?_
    exact Writes.left writes_owns
  · iterate 32 refine Writes.right ?_
    exact Writes.left writes_owns
  · iterate 33 refine Writes.right ?_
    exact Writes.left writes_owns
  · iterate 34 refine Writes.right ?_
    exact Writes.left writes_owns
  · iterate 35 refine Writes.right ?_
    exact Writes.left writes_owns
  · iterate 36 refine Writes.right ?_
    exact writes_owns

set_option maxHeartbeats 4000000 in
/-- The body at any point: from what it is called with to what it returns. -/
theorem sound_body (c : Dev nD) (t : Fin cfg0.N) :
    bodyPre m c t ⊢ wp frame (wpE (defs₀ (F := F)) Variants.none c none) Set.univ (bodyAt0 t) (fun _ => bodyPost m c t) := by
  have hk := kp_cc0_rglru_bwd (i := grid0.coords t) (harg1 := hs0_0 t) (harg2 := hs0_1 t) (harg3 := hs0_2 t) (harg4 := hs0_3 t) (harg5 := hs0_4 t) (harg6 := hs0_5 t) (harg7 := hs0_6 t) (harg8 := hs0_7 t) (harg9 := hs0_8 t) (harg10 := hs0_9 t) (harg11 := hs0_10 t) (harg12 := hs0_11 t) (harg13 := hs0_12 t) (harg14 := hs0_13 t) (harg15 := hs0_14 t) (harg16 := hs0_15 t) (harg17 := hs0_16 t) (harg18 := hs0_17 t) (harg19 := hs0_18 t) (harg20 := Memref.isWhole_whole _) (harg21 := Memref.isWhole_whole _) (harg22 := Memref.isWhole_whole _) (harg23 := Memref.isWhole_whole _) (harg24 := Memref.isWhole_whole _) (harg25 := Memref.isWhole_whole _) (harg26 := Memref.isWhole_whole _) (harg27 := Memref.isWhole_whole _) (harg28 := Memref.isWhole_whole _) (harg29 := Memref.isWhole_whole _) (harg30 := Memref.isWhole_whole _) (harg31 := Memref.isWhole_whole _) (harg32 := Memref.isWhole_whole _) (harg33 := Memref.isWhole_whole _) (harg34 := Memref.isWhole_whole _) (harg35 := Memref.isWhole_whole _) (harg36 := Memref.isWhole_whole _) (harg37 := Memref.isWhole_whole _) (touched_good m c t) Set.univ
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  iintro ⟨⟨⟨HS0, HS1, HS2, HS3, HS4, HS5, HS6, HS7, HS8, HS9, HS10, HS11, HS12, HS13, HS14, HS15, HS16, HS17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12, H13, H14, H15, H16, H17, H18⟩
  iapply (wp_wand_r frame (wpE (defs₀ (F := F)) Variants.none c none) Set.univ)
  isplitl [H0 H1 H2 H3 H4 H5 H6 H7 H8 H9 H10 H11 H12 H13 H14 H15 H16 H17 H18 HS0 HS1 HS2 HS3 HS4 HS5 HS6 HS7 HS8 HS9 HS10 HS11 HS12 HS13 HS14 HS15 HS16 HS17]
  · iapply hk
    unfold touched
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    iexact HS17
  · iintro %_ HT
    unfold touched
    icases HT with ⟨H0, H1, H2, H3, H4, H5, H6, H7, H8, H9, H10, H11, H12, H13, H14, H15, H16, H17, H18, HS0, HS1, HS2, HS3, HS4, HS5, HS6, HS7, HS8, HS9, HS10, HS11, HS12, HS13, HS14, HS15, HS16, HS17⟩
    isplitl [HS0 HS1 HS2 HS3 HS4 HS5 HS6 HS7 HS8 HS9 HS10 HS11 HS12 HS13 HS14 HS15 HS16 HS17 Hg]
    · isplitl [HS0 HS1 HS2 HS3 HS4 HS5 HS6 HS7 HS8 HS9 HS10 HS11 HS12 HS13 HS14 HS15 HS16 HS17]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        isplitl [HS11]; · iexact HS11
        isplitl [HS12]; · iexact HS12
        isplitl [HS13]; · iexact HS13
        isplitl [HS14]; · iexact HS14
        isplitl [HS15]; · iexact HS15
        isplitl [HS16]; · iexact HS16
        iexact HS17
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 1140000 in
/-- The frame, for any values of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hh => ⟨fun c => by
    have h : Pipeline.RDat.FramePost cfg0 (fun c => (dats m 0 c).toRForget forgets0) (V m) r := hh.1
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (Pipeline.RDat.FramePost.arr_in h c 9 rfl).trans ((A_eq m c 9).trans (V_main_arg9 m c))⟩, hh.2⟩) (run_main_quiescent m ρ)

end Cert.LruBwdIdeal.Hand

end
-- ==== Proof.LruBits.lean ====
module

public import proofs.«01_k».proof.Proof.LruFrame
public import proofs.«01_k».proof.Proof.Gen.LruBwd.Frame
public import proofs.«01_k».proof.Defs

@[expose] public section

set_option maxRecDepth 65536
set_option maxHeartbeats 8000000

namespace Cert.LruBwdIdeal.Hand

theorem frame_bits : Cert.quiescent_LruBwd (hLruBwd := Cert.LruBwd.Gen.facts) := fun m ρ _ => by
  refine Eq.mp ?_ (frame (F := Idealize.ShloMosaic.Bits) m ρ)
  sl_kernel_rfl

end Cert.LruBwdIdeal.Hand
-- ==== Proof.PoolMmRef.lean ====
/-  The reference of the grouped product's gradient, index by index: each group's product in the group's own columns. -/
module

public import proofs.«01_k».proof.Proof.Gen.PoolMmRefIdeal.Read
public import Idealize.ShloMosaic.Lib.Pipeline.ValueKit
public import Idealize.ShloMosaic.Lib.Claim
public import Idealize.ShloMosaic.Lib.Pointwise

@[expose] public section

set_option maxRecDepth 16384

noncomputable section

namespace Cert.PoolMmRefIdeal.Read

open Cert.PoolMmRefIdeal Idealize.ShloMosaic Idealize.ShloMosaic.TcCoe Idealize.SL.Sem

variable (x0 : FVec Ideal S8192x2048 .f32) (x1 : FVec Ideal S4x512x512 .f32) (x2 : FVec Ideal S1x2048 .f32) (x3 : FVec Ideal S8192x2048 .f32)

/-- The product of a group, carried back to the argument: of the four padded terms one is met. -/
theorem v57_at (R : Fin 8192) (g : Fin 4) (k : Fin 512) (e : Fin 2048) (he : e.val = 512 * g.val + k.val) (hl : ∀ j : Fin 512, 512 * g.val + j.val < 2048) :
    val_main_v57 (F := Ideal) x1 x2 x3 (ix2 R e) = ∑ j : Fin 512, (x3 (ix2 R ⟨512 * g.val + j.val, hl j⟩) * x2 (ix2 0 ⟨512 * g.val + j.val, hl j⟩)) * x1 (ix3 g k j) := by
  pointwise [val_main_v57, val_main_v56, val_main_v49, val_main_v48, val_main_v41, val_main_v40, val_main_v33, val_main_v52, val_main_v44, val_main_v36, val_main_v30, val_main_cst_1, val_main_cst_3, val_main_cst_5, val_main_cst_7,
    val_main_v27, val_main_v26, val_main_v25, val_main_v24, val_main_v23, val_main_v22, val_main_v14, val_main_v13, val_main_v10, val_main_v9, val_main_v6, val_main_v5, val_main_v2, val_main_v1]
  have hk := k.isLt
  have hg := g.isLt
  split_ifs <;> first | (exfalso; omega) | skip
  all_goals
    simp only [zero_add, add_zero]
    refine Fin.sum_fin_congr fun j => ?_
    refine congrArg₂ (· * ·) (congrArg₂ (· * ·) ?_ ?_) ?_ <;> blk_ext

theorem v55_at (g : Fin 4) (k j : Fin 512) (hl : ∀ j : Fin 512, 512 * g.val + j.val < 2048) :
    val_main_v55 (F := Ideal) x0 x2 x3 (ix3 g k j) = ∑ R : Fin 8192, (x3 (ix2 R ⟨512 * g.val + j.val, hl j⟩) * x2 (ix2 0 ⟨512 * g.val + j.val, hl j⟩)) * x0 (ix2 R ⟨512 * g.val + k.val, hl k⟩) := by
  pointwise [val_main_v55, val_main_v54, val_main_v47, val_main_v46, val_main_v39, val_main_v38, val_main_v32, val_main_v53, val_main_v45, val_main_v37, val_main_v31, val_main_v51, val_main_v43, val_main_v35, val_main_v29,
    val_main_v50, val_main_v42, val_main_v34, val_main_v28, val_main_cst_0, val_main_cst_2, val_main_cst_4, val_main_cst_6,
    val_main_v27, val_main_v26, val_main_v25, val_main_v24, val_main_v23, val_main_v22, val_main_v12, val_main_v8, val_main_v4, val_main_v0]
  have hk := k.isLt
  have hg := g.isLt
  split_ifs <;> first | (exfalso; omega) | skip
  all_goals
    simp only [zero_add, add_zero]
    refine Fin.sum_fin_congr fun R => ?_
    refine congrArg₂ (· * ·) (congrArg₂ (· * ·) ?_ ?_) ?_ <;> blk_ext

theorem v16_at (R : Fin 8192) (g : Fin 4) (j : Fin 512) (e : Fin 2048) (he : e.val = 512 * g.val + j.val) (hl : ∀ j : Fin 512, 512 * g.val + j.val < 2048) :
    val_main_v16 (F := Ideal) x0 x1 (ix2 R e) = ∑ k : Fin 512, x0 (ix2 R ⟨512 * g.val + k.val, hl k⟩) * x1 (ix3 g k j) := by
  pointwise [val_main_v16, val_main_v15, val_main_v11, val_main_v7, val_main_v3, val_main_v14, val_main_v13, val_main_v12, val_main_v10, val_main_v9, val_main_v8, val_main_v6, val_main_v5, val_main_v4, val_main_v2, val_main_v1, val_main_v0]
  have hk := j.isLt
  have hg := g.isLt
  split_ifs <;> first | (exfalso; omega) | skip
  all_goals
    refine Fin.sum_fin_congr fun k => ?_
    refine congrArg₂ (· * ·) ?_ ?_ <;> blk_ext

theorem v21_at (g : Fin 4) (j : Fin 512) (e : Fin 2048) (he : e.val = 512 * g.val + j.val) (hl : ∀ j : Fin 512, 512 * g.val + j.val < 2048) :
    val_main_v21 (F := Ideal) x0 x1 x3 (ix2 0 e) = ∑ R : Fin 8192, (∑ k : Fin 512, x0 (ix2 R ⟨512 * g.val + k.val, hl k⟩) * x1 (ix3 g k j)) * x3 (ix2 R e) := by
  pointwise [val_main_v21, val_main_v20, val_main_v19, val_main_cst]
  refine Fin.sum_fin_congr fun R => ?_
  rw [v16_at x0 x1 R g j e he hl]

theorem v59_at (c : Fin 16) (R : Fin 8192) (l : Fin 128) (e : Fin 2048) (he : e.val = 128 * c.val + l.val) :
    val_main_v59 (F := Ideal) x1 x2 x3 (ix3 c R l) = val_main_v57 (F := Ideal) x1 x2 x3 (ix2 R e) := by
  pointwise [val_main_v59, val_main_v58]
  blk_ext

/-- The buffer after the slabs are put: the gradients' rows hold them, two groups side by side, and the others what they held. -/
theorem v63_at (x4 : FVec Ideal S4x1792x1024 .f32) (q : Fin 4) (r : Fin 1792) (w : Fin 1024) :
    val_main_v63 (F := Ideal) x0 x2 x3 x4 (ix3 q r w) = if h : 1536 ≤ r.val then
      val_main_v55 (F := Ideal) x0 x2 x3 (ix3 (⟨2 * ((r.val - 1536) / 128) + w.val / 512, by have := r.isLt; have := w.isLt; omega⟩ : Fin 4)
        (⟨128 * q.val + (r.val - 1536) % 128, by have := q.isLt; omega⟩ : Fin 512) (⟨w.val % 512, Nat.mod_lt _ (by decide)⟩ : Fin 512)) else x4 (ix3 q r w) := by
  have hr := r.isLt
  pointwise [val_main_v63, val_main_c, val_main_c_8, val_main_c_9, val_main_v62, val_main_v61, val_main_v60]
  have c0 : ∀ hh, Host.clampedStart S4x1792x1024 S4x256x1024 hh (fun k => BitVec.toInt (![constantI S_ 32 0#32, constantI S_ 32 1536#32, constantI S_ 32 0#32] k (Shape.Idx.first Gen.h_S_))) 0 = 0 := fun _ => rfl
  have c1 : ∀ hh, Host.clampedStart S4x1792x1024 S4x256x1024 hh (fun k => BitVec.toInt (![constantI S_ 32 0#32, constantI S_ 32 1536#32, constantI S_ 32 0#32] k (Shape.Idx.first Gen.h_S_))) 1 = 1536 := fun _ => rfl
  have c2 : ∀ hh, Host.clampedStart S4x1792x1024 S4x256x1024 hh (fun k => BitVec.toInt (![constantI S_ 32 0#32, constantI S_ 32 1536#32, constantI S_ 32 0#32] k (Shape.Idx.first Gen.h_S_))) 2 = 0 := fun _ => rfl
  simp only [c0, c1, c2]
  by_cases h : 1536 ≤ r.val
  · rw [dif_pos ⟨Nat.zero_le _, h, Nat.zero_le _⟩, dif_pos h]
    blk_ext
  · rw [dif_neg fun hh => h hh.2.1, dif_neg h]

theorem v63_in (x4 : FVec Ideal S4x1792x1024 .f32) (z : S4x1792x1024.Idx) (h : 1536 ≤ (z 1 : ℕ)) (g : Fin 4) (k j : Fin 512)
    (hg : g.val = 2 * (((z 1 : ℕ) - 1536) / 128) + (z 2 : ℕ) / 512) (hk : k.val = 128 * (z 0 : ℕ) + ((z 1 : ℕ) - 1536) % 128) (hj : j.val = (z 2 : ℕ) % 512) :
    val_main_v63 (F := Ideal) x0 x2 x3 x4 z = val_main_v55 (F := Ideal) x0 x2 x3 (ix3 g k j) := by
  refine (congrArg (val_main_v63 (F := Ideal) x0 x2 x3 x4) (show z = ix3 (z 0) (z 1) (z 2) by blk_ext)).trans ((v63_at x0 x2 x3 x4 (z 0) (z 1) (z 2)).trans ((dif_pos h).trans ?_))
  blk_ext

theorem v63_out (x4 : FVec Ideal S4x1792x1024 .f32) (z : S4x1792x1024.Idx) (h : ¬1536 ≤ (z 1 : ℕ)) :
    val_main_v63 (F := Ideal) x0 x2 x3 x4 z = x4 z := by
  refine (congrArg (val_main_v63 (F := Ideal) x0 x2 x3 x4) (show z = ix3 (z 0) (z 1) (z 2) by blk_ext)).trans ((v63_at x0 x2 x3 x4 (z 0) (z 1) (z 2)).trans ((dif_neg h).trans ?_))
  exact congrArg x4 (show z = ix3 (z 0) (z 1) (z 2) by blk_ext).symm

end Cert.PoolMmRefIdeal.Read

end
-- ==== Proof.PoolMmVal.lean ====
/-  The pool's product backward call: each result array after the run is the reference's term. -/
module

public import proofs.«01_k».proof.Proof.Gen.PoolMmIdeal.Value
public import proofs.«01_k».proof.Proof.PoolMmRef
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.PoolMmIdeal.Hand

open Cert.PoolMmIdeal Cert.PoolMmIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![0, t.val / 8, 0, 0] ∧ win0_3.index t = ![0, t.val / 8] ∧ win0_4.index t = ![t.val / 8, t.val % 8, 0]
    ∧ win0_5.index t = ![0, 12 + t.val / 16, t.val / 8 % 2] ∧ win0_6.index t = ![0, t.val / 8] :=
  (by decide +kernel : ∀ t : Fin grid0.N, _)

-- the argument arrays
abbrev ad (c : Dev nD) : FVec Ideal S8192x2048 .f32 := m ((c : Thread nD τ).loc main_arg0)
abbrev aw (c : Dev nD) : FVec Ideal S4x512x512 .f32 := m ((c : Thread nD τ).loc main_arg1)
abbrev asc (c : Dev nD) : FVec Ideal S1x2048 .f32 := m ((c : Thread nD τ).loc main_arg2)
abbrev ady (c : Dev nD) : FVec Ideal S8192x2048 .f32 := m ((c : Thread nD τ).loc main_arg3)
abbrev agb (c : Dev nD) : FVec Ideal S4x1792x1024 .f32 := m ((c : Thread nD τ).loc main_arg4)

/-- The blocks a grid point reads, their chunks put side by side. -/
abbrev bdy (c : Dev nD) (t : Fin cfg0.N) : FVec Ideal S1024x512 .f32 :=
  k0_pay7 (F := Ideal) (View.ld (iblk m c 0 t) (Rect.unit ![0, 0, 0] ![1, 1024, 128] inb_S4x1024x128_S1x1024x128_0_0_0))
    (View.ld (iblk m c 0 t) (Rect.unit ![1, 0, 0] ![1, 1024, 128] inb_S4x1024x128_S1x1024x128_1_0_0))
    (View.ld (iblk m c 0 t) (Rect.unit ![2, 0, 0] ![1, 1024, 128] inb_S4x1024x128_S1x1024x128_2_0_0))
    (View.ld (iblk m c 0 t) (Rect.unit ![3, 0, 0] ![1, 1024, 128] inb_S4x1024x128_S1x1024x128_3_0_0))
abbrev bd (c : Dev nD) (t : Fin cfg0.N) : FVec Ideal S1024x512 .bf16 :=
  k0_pay8 (F := Ideal) (View.ld (iblk m c 1 t) (Rect.unit ![0, 0, 0] ![1, 1024, 128] inb_S4x1024x128_S1x1024x128_0_0_0))
    (View.ld (iblk m c 1 t) (Rect.unit ![1, 0, 0] ![1, 1024, 128] inb_S4x1024x128_S1x1024x128_1_0_0))
    (View.ld (iblk m c 1 t) (Rect.unit ![2, 0, 0] ![1, 1024, 128] inb_S4x1024x128_S1x1024x128_2_0_0))
    (View.ld (iblk m c 1 t) (Rect.unit ![3, 0, 0] ![1, 1024, 128] inb_S4x1024x128_S1x1024x128_3_0_0))
abbrev bw (c : Dev nD) (t : Fin cfg0.N) : FVec Ideal S512x512 .bf16 :=
  k0_pay10 (F := Ideal) (k0_pay9 (View.ld (iblk m c 2 t) (Rect.unit ![0, 0, 0, 0] ![1, 1, 128, 512] inb_S4x1x128x512_S1x1x128x512_0_0_0_0))) (View.ld (iblk m c 2 t) (Rect.unit ![1, 0, 0, 0] ![1, 1, 128, 512] inb_S4x1x128x512_S1x1x128x512_1_0_0_0))
    (View.ld (iblk m c 2 t) (Rect.unit ![2, 0, 0, 0] ![1, 1, 128, 512] inb_S4x1x128x512_S1x1x128x512_2_0_0_0))
    (View.ld (iblk m c 2 t) (Rect.unit ![3, 0, 0, 0] ![1, 1, 128, 512] inb_S4x1x128x512_S1x1x128x512_3_0_0_0))

theorem dy_arr (c : Dev nD) (q : Fin 16) (R : Fin 8192) (l : Fin 128) (e : Fin 2048) (he : e.val = 128 * q.val + l.val) :
    (V m c main_v5 : FVec Ideal S16x8192x128 .bf16) (ix3 q R l) = ady m c (ix2 R e) := by
  entry_read
  pointwise
  blk_ext

theorem dy_blk (c : Dev nD) (t : Fin cfg0.N) (q : Fin 4) (r : Fin 1024) (l : Fin 128) (R : Fin 8192) (hR : R.val = 1024 * (t.val % 8) + r.val)
    (e : Fin 2048) (he : e.val = 512 * (t.val / 8) + (128 * q.val + l.val)) : (iblk m c 0 t : FVec Ideal S4x1024x128 .bf16) (ix3 q r l) = ady m c (ix2 R e) := by
  have ht : t.val < 32 := lt_of_lt_of_eq t.isLt N_0
  have hq := q.isLt
  refine Eq.trans ?_ (dy_arr m c ⟨4 * (t.val / 8) + q.val, by omega⟩ R l e (by show e.val = 128 * (4 * (t.val / 8) + q.val) + l.val; omega))
  blk_ext [iblk, idx t]

theorem bdy_at (c : Dev nD) (t : Fin cfg0.N) (r : Fin 1024) (j : Fin 512) (R : Fin 8192) (hR : R.val = 1024 * (t.val % 8) + r.val)
    (e : Fin 2048) (he : e.val = 512 * (t.val / 8) + j.val) : bdy m c t (ix2 r j) = ady m c (ix2 R e) := by
  have hj := j.isLt
  pointwise [k0_pay7]
  have ex : ∀ (q : Fin 4) (l : Fin 128), j.val = 128 * q.val + l.val → (iblk m c 0 t : FVec Ideal S4x1024x128 .bf16) (ix3 q r l) = ady m c (ix2 R e) :=
    fun q l h => dy_blk m c t q r l R hR e (by omega)
  split_ifs <;> first | exact absurd rfl (by assumption) | (refine ex _ _ ?_; simp; done) | (refine ex _ _ ?_; simp; omega)

theorem d_arr (c : Dev nD) (q : Fin 16) (R : Fin 8192) (l : Fin 128) (e : Fin 2048) (he : e.val = 128 * q.val + l.val) :
    (V m c main_v8 : FVec Ideal S16x8192x128 .bf16) (ix3 q R l) = ad m c (ix2 R e) := by
  entry_read
  pointwise
  blk_ext

theorem d_blk (c : Dev nD) (t : Fin cfg0.N) (q : Fin 4) (r : Fin 1024) (l : Fin 128) (R : Fin 8192) (hR : R.val = 1024 * (t.val % 8) + r.val)
    (e : Fin 2048) (he : e.val = 512 * (t.val / 8) + (128 * q.val + l.val)) : (iblk m c 1 t : FVec Ideal S4x1024x128 .bf16) (ix3 q r l) = ad m c (ix2 R e) := by
  have ht : t.val < 32 := lt_of_lt_of_eq t.isLt N_0
  have hq := q.isLt
  refine Eq.trans ?_ (d_arr m c ⟨4 * (t.val / 8) + q.val, by omega⟩ R l e (by show e.val = 128 * (4 * (t.val / 8) + q.val) + l.val; omega))
  blk_ext [iblk, idx t]

theorem bd_at (c : Dev nD) (t : Fin cfg0.N) (r : Fin 1024) (j : Fin 512) (R : Fin 8192) (hR : R.val = 1024 * (t.val % 8) + r.val)
    (e : Fin 2048) (he : e.val = 512 * (t.val / 8) + j.val) : bd m c t (ix2 r j) = ad m c (ix2 R e) := by
  have hj := j.isLt
  pointwise [k0_pay8]
  have ex : ∀ (q : Fin 4) (l : Fin 128), j.val = 128 * q.val + l.val → (iblk m c 1 t : FVec Ideal S4x1024x128 .bf16) (ix3 q r l) = ad m c (ix2 R e) :=
    fun q l h => d_blk m c t q r l R hR e (by omega)
  split_ifs <;> first | exact absurd rfl (by assumption) | (refine ex _ _ ?_; simp; done) | (refine ex _ _ ?_; simp; omega)

theorem w_arr (c : Dev nD) (q g : Fin 4) (k : Fin 128) (j : Fin 512) (e : Fin 512) (he : e.val = 128 * q.val + k.val) :
    (V m c main_v2 : FVec Ideal S4x4x128x512 .bf16) (ix4 q g k j) = aw m c (ix3 g e j) := by
  entry_read
  pointwise
  blk_ext

theorem w_blk (c : Dev nD) (t : Fin cfg0.N) (q : Fin 4) (k : Fin 128) (j e : Fin 512) (he : e.val = 128 * q.val + k.val) (g : Fin 4) (hg : g.val = t.val / 8) :
    (iblk m c 2 t : FVec Ideal S4x1x128x512 .bf16) (ix4 q 0 k j) = aw m c (ix3 g e j) := by
  refine Eq.trans ?_ (w_arr m c q g k j e he)
  blk_ext [iblk, idx t]

theorem bw_at (c : Dev nD) (t : Fin cfg0.N) (k j : Fin 512) (g : Fin 4) (hg : g.val = t.val / 8) : bw m c t (ix2 k j) = aw m c (ix3 g k j) := by
  have hj := k.isLt
  pointwise [k0_pay10, k0_pay9]
  split_ifs <;> first | exact absurd rfl (by assumption) | (refine w_blk m c t _ _ j k ?_ g hg; simp; done) | (refine w_blk m c t _ _ j k ?_ g hg; simp; omega)

theorem bsc_at (c : Dev nD) (t : Fin cfg0.N) (j : Fin 512) (e : Fin 2048) (he : e.val = 512 * (t.val / 8) + j.val) :
    (iblk m c 3 t : FVec Ideal S1x512 .f32) (ix2 0 j) = asc m c (ix2 0 e) := by
  blk_point [iblk, V, idx t]

/-- The scale's part of a point. -/
theorem hp6 (x : FVec Ideal S1024x512 .f32) (y : FVec Ideal S1024x512 .bf16) (w0 : FVec Ideal S128x512 .bf16) (w1 w2 w3 : FVec Ideal S1x1x128x512 .bf16)
    (a : FVec Ideal S1x512 .f32) (j : S1x512.Idx) : k0_pay11 (F := Ideal) x y w0 w1 w2 w3 a j
      = a j + ∑ r : Fin 1024, x (ix2 r (j 1)) * ∑ k : Fin 512, y (ix2 r k) * k0_pay10 (F := Ideal) w0 w1 w2 w3 (ix2 k (j 1)) := by
  generalize hw : k0_pay10 (F := Ideal) w0 w1 w2 w3 = w
  pointwise [k0_pay11, hw]

theorem hz6 (j : S1x512.Idx) : k0_pay6 (F := Ideal) j = 0 := by pointwise [k0_pay6]
theorem hz5 (j : S512x512.Idx) : k0_pay5 (F := Ideal) j = 0 := by pointwise [k0_pay5]
theorem hp3 (x y : FVec Ideal S1024x512 .bf16) (a : FVec Ideal S512x512 .f32) (j : S512x512.Idx) : k0_pay3 (F := Ideal) x y a j
      = a j + ∑ r : Fin 1024, x (ix2 r (j 0)) * y (ix2 r (j 1)) := by
  pointwise [k0_pay3]
theorem hp12 (x : FVec Ideal S1024x512 .f32) (s : FVec Ideal S1x512 .f32) (r : Fin 1024) (j : Fin 512) :
    k0_pay12 (F := Ideal) x s (ix2 r j) = x (ix2 r j) * s (ix2 0 j) := by
  pointwise [k0_pay12]

theorem final6 (c : Dev nD) : (dats m 0 c).arrAt 6 (cfgs 0).N
    = Cert.PoolMmRefIdeal.Read.val_main_v21 (F := Ideal) (ad m c) (aw m c) (ady m c) := by
  refine (dats m 0 c).arrAt_eq_of_covers 6 _ (by decide +kernel) fun t hf y => ?_
  blk_simp
  rw [after0_6, Pipeline.eq_sum_fin_of_reset_step_apply_of_flush (fun n h => (outsAt0 m c n h).2.2.1) 8 (fun _ => 0) _
    (fun t h j => by
      rw [outsAt0_A m c t h (by omega)]; frame_out; rw [hp6, hz6])
    (fun t h j => by
      by_cases h1 : t.val % 8 = 7
      · rw [outsAt0_C m c t h h1]; frame_out; rw [hp6]
      · rw [outsAt0_B m c t h h1]; frame_out; rw [hp6])
    t ((flush0_6 t).mp hf) y, zero_add]
  have ht : t.val < 32 := lt_of_lt_of_eq t.isLt N_0
  have hl : ∀ j : Fin 512, 512 * (⟨t.val / 8, by omega⟩ : Fin 4).val + j.val < 2048 := fun j => by have := j.isLt; show 512 * (t.val / 8) + j.val < 2048; omega
  have ez : (win0_6.blk t).view.emb y = ix2 (0 : Fin 1) (⟨512 * (t.val / 8) + (y 1).val, hl (y 1)⟩ : Fin 2048) := by blk_ext [idx t]
  rw [ez]
  refine Eq.trans ?_ (Cert.PoolMmRefIdeal.Read.v21_at (ad m c) (aw m c) (ady m c) ⟨t.val / 8, by omega⟩ (y 1) _ rfl hl).symm
  refine Fin.sum_mul_add_congr fun s r h => ?_
  have hs := s.isLt
  have e1 : (8 * (t.val / 8) + s.val) / 8 = t.val / 8 := by omega
  have e2 : (8 * (t.val / 8) + s.val) % 8 = s.val := by omega
  rw [mul_comm]
  refine congrArg₂ (· * ·) (Fin.sum_fin_congr fun k => congrArg₂ (· * ·) ?_ ?_) ?_
  · exact bd_at m c ⟨8 * (t.val / 8) + s.val, _⟩ r k _ (by show s.val * 1024 + r.val = _; rw [e2]; omega) _ (by show 512 * (t.val / 8) + k.val = _; rw [e1])
  · exact bw_at m c ⟨8 * (t.val / 8) + s.val, _⟩ k (y 1) _ (by show t.val / 8 = _; rw [e1])
  · exact bdy_at m c ⟨8 * (t.val / 8) + s.val, _⟩ r (y 1) _ (by show s.val * 1024 + r.val = _; rw [e2]; omega) _ (by show 512 * (t.val / 8) + (y 1).val = _; rw [e1])

/-- A point's gradient of the argument, before its chunks are stored. -/
abbrev bdd (c : Dev nD) (t : Fin cfg0.N) : FVec Ideal S1024x512 .f32 :=
  k0_pay13 (F := Ideal) (bdy m c t) (k0_pay9 (View.ld (iblk m c 2 t) (Rect.unit ![0, 0, 0, 0] ![1, 1, 128, 512] inb_S4x1x128x512_S1x1x128x512_0_0_0_0))) (View.ld (iblk m c 2 t) (Rect.unit ![1, 0, 0, 0] ![1, 1, 128, 512] inb_S4x1x128x512_S1x1x128x512_1_0_0_0))
    (View.ld (iblk m c 2 t) (Rect.unit ![2, 0, 0, 0] ![1, 1, 128, 512] inb_S4x1x128x512_S1x1x128x512_2_0_0_0)) (View.ld (iblk m c 2 t) (Rect.unit ![3, 0, 0, 0] ![1, 1, 128, 512] inb_S4x1x128x512_S1x1x128x512_3_0_0_0)) (iblk m c 3 t)

theorem hp13 (x : FVec Ideal S1024x512 .f32) (w0 : FVec Ideal S128x512 .bf16) (w1 w2 w3 : FVec Ideal S1x1x128x512 .bf16)
    (s : FVec Ideal S1x512 .f32) (r : Fin 1024) (k : Fin 512) : k0_pay13 (F := Ideal) x w0 w1 w2 w3 s (ix2 r k)
      = ∑ j : Fin 512, (x (ix2 r j) * s (ix2 0 j)) * k0_pay10 (F := Ideal) w0 w1 w2 w3 (ix2 k j) := by
  generalize hw : k0_pay10 (F := Ideal) w0 w1 w2 w3 = w
  pointwise [k0_pay13, k0_pay12, hw]

section Chunks
-- the four stored chunks, each a slice of the point's gradient
variable (x : FVec Ideal S1024x512 .f32) (w0 : FVec Ideal S128x512 .bf16) (w1 w2 w3 : FVec Ideal S1x1x128x512 .bf16) (s : FVec Ideal S1x512 .f32)
  (z : S1x1024x128.Idx) (i : S1024x512.Idx) (h0 : (i 0 : ℕ) = z 1)
include h0 in
theorem hp14 (h1 : (i 1 : ℕ) = 0 + z 2) : k0_pay14 (F := Ideal) x w0 w1 w2 w3 s z = k0_pay13 (F := Ideal) x w0 w1 w2 w3 s i := by
  unfold k0_pay14
  generalize k0_pay13 (F := Ideal) x w0 w1 w2 w3 s = T
  pointwise
  blk_ext
include h0 in
theorem hp15 (h1 : (i 1 : ℕ) = 128 + z 2) : k0_pay15 (F := Ideal) x w0 w1 w2 w3 s z = k0_pay13 (F := Ideal) x w0 w1 w2 w3 s i := by
  unfold k0_pay15
  generalize k0_pay13 (F := Ideal) x w0 w1 w2 w3 s = T
  pointwise
  blk_ext
include h0 in
theorem hp16 (h1 : (i 1 : ℕ) = 256 + z 2) : k0_pay1 (F := Ideal) (k0_pay16 (F := Ideal) x w0 w1 w2 w3 s) z = k0_pay13 (F := Ideal) x w0 w1 w2 w3 s i := by
  unfold k0_pay1 k0_pay16
  generalize k0_pay13 (F := Ideal) x w0 w1 w2 w3 s = T
  pointwise
  blk_ext
include h0 in
theorem hp17 (h1 : (i 1 : ℕ) = 384 + z 2) : k0_pay2 (F := Ideal) (k0_pay13 (F := Ideal) x w0 w1 w2 w3 s) z = k0_pay13 (F := Ideal) x w0 w1 w2 w3 s i := by
  unfold k0_pay2
  generalize k0_pay13 (F := Ideal) x w0 w1 w2 w3 s = T
  pointwise
  blk_ext
end Chunks

theorem core4 (c : Dev nD) (t : Fin cfg0.N) (y : S4x1024x128.Idx) (i : S1024x512.Idx) (j : S16x8192x128.Idx)
    (hi0 : (i 0 : ℕ) = y 1) (hi1 : (i 1 : ℕ) = 128 * y 0 + y 2) (hj0 : (j 0 : ℕ) = t.val / 8 * 4 + y 0) (hj1 : (j 1 : ℕ) = t.val % 8 * 1024 + y 1)
    (hj2 : (j 2 : ℕ) = y 2) : bdd m c t i = Cert.PoolMmRefIdeal.Read.val_main_v59 (F := Ideal) (aw m c) (asc m c) (ady m c) j := by
  have ht : t.val < 32 := lt_of_lt_of_eq t.isLt N_0
  have hl : ∀ j : Fin 512, 512 * (⟨t.val / 8, by omega⟩ : Fin 4).val + j.val < 2048 := fun j => by have := j.isLt; show 512 * (t.val / 8) + j.val < 2048; omega
  have ei : i = ix2 (i 0) (i 1) := by blk_ext
  have ej : j = ix3 (j 0) (j 1) (j 2) := by blk_ext
  have ee : 512 * (⟨t.val / 8, by omega⟩ : Fin 4).val + (i 1).val = 128 * (j 0).val + (j 2).val := by
    show 512 * (t.val / 8) + (i 1).val = _
    omega
  rw [ei, ej]
  refine (hp13 _ _ _ _ _ _ _ _).trans (Eq.trans ?_ ((Cert.PoolMmRefIdeal.Read.v59_at (aw m c) (asc m c) (ady m c) (j 0) (j 1) (j 2)
    ⟨512 * (t.val / 8) + (i 1).val, hl (i 1)⟩ ee).trans
    (Cert.PoolMmRefIdeal.Read.v57_at (aw m c) (asc m c) (ady m c) (j 1) ⟨t.val / 8, by omega⟩ (i 1) _ rfl hl)).symm)
  refine Fin.sum_fin_congr fun k => congrArg₂ (· * ·) (congrArg₂ (· * ·) ?_ ?_) ?_
  · exact bdy_at m c t (i 0) k (j 1) (by rw [hj1, hi0]; omega) _ rfl
  · exact bsc_at m c t k _ rfl
  · exact bw_at m c t (i 1) k _ rfl

theorem point4_A (c : Dev nD) (t : Fin cfg0.N) (q : t.val % 8 = 0) (y : S4x1024x128.Idx) (i : S1024x512.Idx)
    (hi0 : (i 0 : ℕ) = y 1) (hi1 : (i 1 : ℕ) = 128 * y 0 + y 2) : (outsAt0 m c t.val t.isLt).1 y = bdd m c t i := by
  rw [outsAt0_A m c t q (by omega)]
  frame_out
  canon_tiles x h
  case piece0 => exact hp17 _ _ _ _ _ _ x i (by omega) (by omega)
  case piece1 => exact hp16 _ _ _ _ _ _ x i (by omega) (by omega)
  case piece2 => exact hp15 _ _ _ _ _ _ x i (by omega) (by omega)
  case piece3 => exact hp14 _ _ _ _ _ _ x i (by omega) (by omega)

theorem point4_B (c : Dev nD) (t : Fin cfg0.N) (q : ¬t.val % 8 = 0) (q1 : ¬t.val % 8 = 7) (y : S4x1024x128.Idx) (i : S1024x512.Idx)
    (hi0 : (i 0 : ℕ) = y 1) (hi1 : (i 1 : ℕ) = 128 * y 0 + y 2) : (outsAt0 m c t.val t.isLt).1 y = bdd m c t i := by
  rw [outsAt0_B m c t q q1]
  frame_out
  canon_tiles x h
  case piece0 => exact hp17 _ _ _ _ _ _ x i (by omega) (by omega)
  case piece1 => exact hp16 _ _ _ _ _ _ x i (by omega) (by omega)
  case piece2 => exact hp15 _ _ _ _ _ _ x i (by omega) (by omega)
  case piece3 => exact hp14 _ _ _ _ _ _ x i (by omega) (by omega)

theorem point4_C (c : Dev nD) (t : Fin cfg0.N) (q : ¬t.val % 8 = 0) (q1 : t.val % 8 = 7) (y : S4x1024x128.Idx) (i : S1024x512.Idx)
    (hi0 : (i 0 : ℕ) = y 1) (hi1 : (i 1 : ℕ) = 128 * y 0 + y 2) : (outsAt0 m c t.val t.isLt).1 y = bdd m c t i := by
  rw [outsAt0_C m c t q q1]
  frame_out
  canon_tiles x h
  case piece0 => exact hp17 _ _ _ _ _ _ x i (by omega) (by omega)
  case piece1 => exact hp16 _ _ _ _ _ _ x i (by omega) (by omega)
  case piece2 => exact hp15 _ _ _ _ _ _ x i (by omega) (by omega)
  case piece3 => exact hp14 _ _ _ _ _ _ x i (by omega) (by omega)

theorem final4 (c : Dev nD) : (dats m 0 c).arrAt 4 (cfgs 0).N
    = Cert.PoolMmRefIdeal.Read.val_main_v59 (F := Ideal) (aw m c) (asc m c) (ady m c) := by
  refine (dats m 0 c).arrAt_eq_of_covers 4 _ (by decide +kernel) fun t hf y => ?_
  blk_simp
  rw [after0_4]
  obtain_idx i : S1024x512 := [(y 1 : ℕ), 128 * (y 0 : ℕ) + (y 2 : ℕ)] with hi
  refine Eq.trans (b := bdd m c t i) ?_ (core4 m c t y i _ hi0 hi1 ?_ ?_ ?_)
  · by_cases q : t.val % 8 = 0
    · exact point4_A m c t q y i hi0 hi1
    · by_cases q1 : t.val % 8 = 7
      · exact point4_C m c t q q1 y i hi0 hi1
      · exact point4_B m c t q q1 y i hi0 hi1
  all_goals (blk_simp [idx t] <;> try omega)

theorem acc_at (c : Dev nD) (t : Fin cfg0.N) (hf : t.val % 8 = 7) (g : Fin 4) (hg : g.val = t.val / 8) (k j : Fin 512) :
    (outsAt0 m c t.val t.isLt).2.2.2 (ix2 k j) = Cert.PoolMmRefIdeal.Read.val_main_v55 (F := Ideal) (ad m c) (asc m c) (ady m c) (ix3 g k j) := by
  have ht : t.val < 32 := lt_of_lt_of_eq t.isLt N_0
  have hl : ∀ j : Fin 512, 512 * g.val + j.val < 2048 := fun j => by have := j.isLt; have := g.isLt; omega
  rw [Pipeline.eq_sum_fin_of_reset_step_apply_of_flush (fun n h => (outsAt0 m c n h).2.2.2) 8 (fun _ => 0) _
    (fun t h j => by
      rw [outsAt0_A m c t h (by omega)]; frame_out; rw [hp3, hz5])
    (fun t h j => by
      by_cases h1 : t.val % 8 = 7
      · rw [outsAt0_C m c t h h1]; frame_out; rw [hp3]; exact congrArg (· + _) (congrFun (Memref.IsWhole.read_unread _ _) j)
      · rw [outsAt0_B m c t h h1]; frame_out; rw [hp3]; exact congrArg (· + _) (congrFun (Memref.IsWhole.read_unread _ _) j))
    t hf (ix2 k j), zero_add]
  refine Eq.trans ?_ (Cert.PoolMmRefIdeal.Read.v55_at (ad m c) (asc m c) (ady m c) g k j hl).symm
  refine Fin.sum_mul_add_congr fun s r h => ?_
  have hs := s.isLt
  have e1 : (8 * (t.val / 8) + s.val) / 8 = t.val / 8 := by omega
  have e2 : (8 * (t.val / 8) + s.val) % 8 = s.val := by omega
  rw [mul_comm]
  refine congrArg₂ (· * ·) ((hp12 _ _ _ _).trans (congrArg₂ (· * ·) ?_ ?_)) ?_
  · exact bdy_at m c ⟨8 * (t.val / 8) + s.val, _⟩ r j _ (by show s.val * 1024 + r.val = _; rw [e2]; omega) _ (by show 512 * g.val + j.val = _; rw [e1, hg])
  · exact bsc_at m c ⟨8 * (t.val / 8) + s.val, _⟩ j _ (by show 512 * g.val + j.val = _; rw [e1, hg])
  · exact bd_at m c ⟨8 * (t.val / 8) + s.val, _⟩ r k _ (by show s.val * 1024 + r.val = _; rw [e2]; omega) _ (by show 512 * g.val + k.val = _; rw [e1, hg])

theorem final5 (c : Dev nD) : (dats m 0 c).arrAt 5 (cfgs 0).N
    = Cert.PoolMmRefIdeal.Read.val_main_v63 (F := Ideal) (ad m c) (asc m c) (ady m c) (agb m c) := by
  refine (dats m 0 c).arrAt_eq_of_coversWhere_of_agree 5 _ (fun β => 12 ≤ β (1 : Fin 3)) (by decide +kernel) (fun t hf y => ?_) (fun j hj => ?_)
  · blk_simp
    have q : t.val % 8 = 7 := (flush0_5 t).mp hf
    have ht : t.val < 32 := lt_of_lt_of_eq t.isLt N_0
    rw [after0_5]
    have e : (outsAt0 m c t.val t.isLt).2.1 = k0_pay4 (F := Ideal) (outsAt0 m c t.val t.isLt).2.2.2 := by
      rw [outsAt0_C m c t (by omega) q]; frame_out
    rw [e]
    obtain_idx i : S512x512 := [128 * (y 0 : ℕ) + (y 1 : ℕ), (y 2 : ℕ)] with hi
    have e4 : k0_pay4 (F := Ideal) (outsAt0 m c t.val t.isLt).2.2.2 y = (outsAt0 m c t.val t.isLt).2.2.2 (ix2 (i 0) (i 1)) := by
      pointwise [k0_pay4]
      blk_ext
    refine e4.trans ((acc_at m c t q ⟨t.val / 8, by omega⟩ rfl (i 0) (i 1)).trans ?_)
    symm
    refine Cert.PoolMmRefIdeal.Read.v63_in (ad m c) (asc m c) (ady m c) (agb m c) ((win0_5.blk t).view.emb y) ?_ ⟨t.val / 8, by omega⟩ (i 0) (i 1) ?_ ?_ ?_
    all_goals
      have y0 : (y 0 : ℕ) < 4 := (y 0).isLt
      have y1 : (y 1 : ℕ) < 128 := (y 1).isLt
      have y2 : (y 2 : ℕ) < 512 := (y 2).isLt
      blk_simp [idx t] <;> try (simp only [] <;> omega)
  · have hz : ¬1536 ≤ (j 1).val := fun h => hj (show 12 ≤ (j 1).val / 128 by omega)
    refine Eq.trans ?_ (Cert.PoolMmRefIdeal.Read.v63_out (ad m c) (asc m c) (ady m c) (agb m c) j hz).symm
    rw [A_eq]
    exact congrFun (show (V m c main_arg4 : FVec Ideal S4x1792x1024 .f32) = agb m c by entry_read; rfl) j

theorem algebraic : Cert.algebraic_PoolMmIdeal_PoolMmRefIdeal := by
  pair_intro
  · run_from Cert.PoolMmIdeal.Gen.run_main m g
  · refine (θ_run Cert.PoolMmRefIdeal.defs _ _).mono (fun r h c => ?_) (Cert.PoolMmRefIdeal.Value.run m' g')
    obtain ⟨h0, h1, h2, rest⟩ := h c
    obtain ⟨e0, e1, e2, e3, e4⟩ := hagree c
    rw [e1, e2, e3] at h0
    rw [e0, e2, e3, e4] at h1
    rw [e0, e1, e3] at h2
    exact ⟨h0.trans ((Cert.PoolMmRefIdeal.Read.val_main_v59_eq (F := Ideal) (aw m c) (asc m c) (ady m c)).trans (final4 m c).symm),
      h1.trans ((Cert.PoolMmRefIdeal.Read.val_main_v63_eq (F := Ideal) (ad m c) (asc m c) (ady m c) (agb m c)).trans (final5 m c).symm),
      h2.trans ((Cert.PoolMmRefIdeal.Read.val_main_v21_eq (F := Ideal) (ad m c) (aw m c) (ady m c)).trans (final6 m c).symm), rest⟩

end Cert.PoolMmIdeal.Hand

end
-- ==== Proof.InXCtxVal.lean ====
/-  The input projection's backward call on the context rows: each result array after the run is the reference's term. -/
module

public import proofs.«01_k».proof.Proof.Gen.InXCtxIdeal.Value
public import proofs.«01_k».proof.Proof.Gen.InXCtxRefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.InXCtxIdeal.Hand

open Cert.InXCtxIdeal Cert.InXCtxIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0, 0] ∧ win0_4.index t = ![0, 0] ∧ win0_5.index t = ![0, 0] :=
  (by decide +kernel : ∀ t : Fin grid0.N, _)

abbrev ax (c : Dev nD) : FVec Ideal S256x1024 .f32 := m ((c : Thread nD τ).loc main_arg0)
abbrev aw (c : Dev nD) : FVec Ideal S1024x4096 .f32 := m ((c : Thread nD τ).loc main_arg3)
abbrev adu (c : Dev nD) : FVec Ideal S256x2048 .f32 := m ((c : Thread nD τ).loc main_arg4)

/-- The gradient of the modulated context rows, over the call's blocks. -/
abbrev dh (c : Dev nD) (t : Fin cfg0.N) : FVec Ideal S256x1024 .f32 :=
  k0_pay1 (F := Ideal) (iblk m c 0 t)
    (View.ld (iblk m c 3 t) (Rect.unit ![0, 0, 0] ![1, 1024, 1024] inb_S2x1024x1024_S1x1024x1024_0_0_0))
    (View.ld (iblk m c 3 t) (Rect.unit ![1, 0, 0] ![1, 1024, 1024] inb_S2x1024x1024_S1x1024x1024_1_0_0))

/-- A sum over 2048 lanes is the sum over its two halves. -/
theorem sum2 (f : Fin 2048 → EReal) : ∑ k, f k = (∑ k : Fin 1024, f ⟨k.val, by omega⟩) + ∑ k : Fin 1024, f ⟨1024 + k.val, by omega⟩ := by
  have h1 := Fin.sum_univ_add (a := 1024) (b := 1024) f
  rw [h1]; rfl

theorem dh_at (c : Dev nD) (t : Fin cfg0.N) (r : Fin 256) (j : Fin 1024) :
    dh m c t (ix2 r j) = Cert.InXCtxRefIdeal.Read.val_main_v8 (F := Ideal) (aw m c) (adu m c) (ix2 r j) := by
  pointwise [k0_pay1, Cert.InXCtxRefIdeal.Read.val_main_v8, Cert.InXCtxRefIdeal.Read.val_main_v6]
  refine Eq.trans ?_ (sum2 _).symm
  blk_point [iblk, V, idx t]

theorem hz1 (j : S1x1024.Idx) : k0_pay2 (F := Ideal) j = 0 := by pointwise [k0_pay2]
theorem hz2 (j : S1x1024.Idx) : k0_pay3 (F := Ideal) j = 0 := by pointwise [k0_pay3]
theorem hp1 (u : FVec Ideal S256x2048 .bf16) (w0 w1 : FVec Ideal S1x1024x1024 .bf16) (a : FVec Ideal S1x1024 .f32) (x : FVec Ideal S256x1024 .f32) (j : S1x1024.Idx) :
    k0_pay4 (F := Ideal) u w0 w1 a x j = a j + ∑ r : Fin 256, k0_pay1 (F := Ideal) u w0 w1 (ix2 r (j 1)) * x (ix2 r (j 1)) := by
  unfold k0_pay4
  generalize k0_pay1 (F := Ideal) u w0 w1 = d
  pointwise
theorem hp2 (u : FVec Ideal S256x2048 .bf16) (w0 w1 : FVec Ideal S1x1024x1024 .bf16) (a : FVec Ideal S1x1024 .f32) (j : S1x1024.Idx) :
    k0_pay5 (F := Ideal) u w0 w1 a j = a j + ∑ r : Fin 256, k0_pay1 (F := Ideal) u w0 w1 (ix2 r (j 1)) := by
  unfold k0_pay5
  generalize k0_pay1 (F := Ideal) u w0 w1 = d
  pointwise

theorem x_at (c : Dev nD) (t : Fin cfg0.N) : (iblk m c 1 t : FVec Ideal S256x1024 .f32) = ax m c := by
  funext y; blk_ext [iblk, V, idx t]

theorem final4 (c : Dev nD) : (dats m 0 c).arrAt 4 (cfgs 0).N
    = Cert.InXCtxRefIdeal.Read.val_main_v13 (F := Ideal) (ax m c) (aw m c) (adu m c) := by
  refine (dats m 0 c).arrAt_eq_of_after_last 4 t0_0 (by decide +kernel) _ fun j => ?_
  blk_simp
  rw [after0_4]
  simp only [outsAt0]
  frame_out
  rw [hp1, hz1, zero_add, x_at m c]
  pointwise [Cert.InXCtxRefIdeal.Read.val_main_v13, Cert.InXCtxRefIdeal.Read.val_main_v12, Cert.InXCtxRefIdeal.Read.val_main_v11,
    Cert.InXCtxRefIdeal.Read.val_main_cst_1]
  refine Finset.sum_congr (M := EReal) rfl fun r _ => ?_
  rw [mul_comm]
  exact congrArg (_ * ·) (dh_at m c t0_0 r (j 1))

theorem final5 (c : Dev nD) : (dats m 0 c).arrAt 5 (cfgs 0).N
    = Cert.InXCtxRefIdeal.Read.val_main_v10 (F := Ideal) (aw m c) (adu m c) := by
  refine (dats m 0 c).arrAt_eq_of_after_last 5 t0_0 (by decide +kernel) _ fun j => ?_
  blk_simp
  rw [after0_5]
  simp only [outsAt0]
  frame_out
  rw [hp2, hz2, zero_add]
  pointwise [Cert.InXCtxRefIdeal.Read.val_main_v10, Cert.InXCtxRefIdeal.Read.val_main_v9, Cert.InXCtxRefIdeal.Read.val_main_cst_0]
  exact Finset.sum_congr (M := EReal) rfl fun r _ => dh_at m c t0_0 r (j 1)

theorem algebraic : Cert.algebraic_InXCtxIdeal_InXCtxRefIdeal := by
  pair_intro
  · run_from Cert.InXCtxIdeal.Gen.run_main m g
  · refine (θ_run Cert.InXCtxRefIdeal.defs _ _).mono (fun r h c => ?_) (Cert.InXCtxRefIdeal.Value.run m' g')
    obtain ⟨h0, h1, rest⟩ := h c
    obtain ⟨e0, e1, e2, e3, e4⟩ := hagree c
    rw [e0, e3, e4] at h0
    rw [e3, e4] at h1
    exact ⟨h0.trans ((Cert.InXCtxRefIdeal.Read.val_main_v13_eq (F := Ideal) (ax m c) (aw m c) (adu m c)).trans (final4 m c).symm),
      h1.trans ((Cert.InXCtxRefIdeal.Read.val_main_v10_eq (F := Ideal) (aw m c) (adu m c)).trans (final5 m c).symm), rest⟩

end Cert.InXCtxIdeal.Hand

end
-- ==== Proof.InWCtxVal.lean ====
/-  The input projection's weight gradient on the context rows: the result array after the run is the reference's term. -/
module

public import proofs.«01_k».proof.Proof.Gen.InWCtxIdeal.Value
public import proofs.«01_k».proof.Proof.Gen.InWCtxRefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.InWCtxIdeal.Hand

open Cert.InWCtxIdeal Cert.InWCtxIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_5.index t = ![t.val, 0, 0] :=
  (by decide +kernel : ∀ t : Fin grid0.N, _)
theorem idx3 : ∀ t : Fin cfg0.N, t.val < 2 → win0_3.index t = ![0, t.val] :=
  (by decide +kernel : ∀ t : Fin grid0.N, _)

abbrev ax (c : Dev nD) : FVec Ideal S256x1024 .f32 := m ((c : Thread nD τ).loc main_arg0)
abbrev asc (c : Dev nD) : FVec Ideal S1x1024 .f32 := m ((c : Thread nD τ).loc main_arg1)
abbrev ash (c : Dev nD) : FVec Ideal S1x1024 .f32 := m ((c : Thread nD τ).loc main_arg2)
abbrev adu (c : Dev nD) : FVec Ideal S256x2048 .f32 := m ((c : Thread nD τ).loc main_arg3)

theorem hz (j : S1x1024x1024.Idx) : k0_pay3 (F := Ideal) j = 0 := by pointwise [k0_pay3]

/-- One point's block: what it held and the product of the modulated rows with its columns of the gradient. -/
theorem hp (x : FVec Ideal S256x1024 .f32) (s h : FVec Ideal S1x1024 .f32) (a : FVec Ideal S1x1024x1024 .f32)
    (u : FVec Ideal S256x1024 .bf16) (y : S1x1024x1024.Idx) :
    k0_pay4 (F := Ideal) x s h a u y = a y + ∑ r : Fin 256, (x (ix2 r (y 1)) * s (ix2 0 (y 1)) + h (ix2 0 (y 1))) * u (ix2 r (y 2)) := by
  pointwise [k0_pay4, k0_pay2, k0_pay1]

/-- The modulation's factor as the call finds it: one plus the scale. -/
theorem sc_at (c : Dev nD) (t : Fin cfg0.N) (k : Fin 1024) : (iblk m c 1 t : FVec Ideal S1x1024 .f32) (ix2 0 k) = 1 + asc m c (ix2 0 k) := by
  have e : ∀ i : S1x1024.Idx, (V m c main_v2 : FVec Ideal S1x1024 .f32) i = 1 + asc m c i := fun i => by
    entry_read; pointwise
  have hi : (iblk m c 1 t : FVec Ideal S1x1024 .f32) (ix2 0 k) = (V m c main_v2 : FVec Ideal S1x1024 .f32) (ix2 0 k) := by
    blk_ext [iblk, idx t]
  rw [hi, e]

/-- The reference's entry: on the first half of the columns the product, zero on the second. -/
theorem ref_at (c : Dev nD) (z : S4x1024x1024.Idx) : Cert.InWCtxRefIdeal.Read.val_main_v13 (F := Ideal) (ax m c) (asc m c) (ash m c) (adu m c) z
    = if h : (z 0).val * 1024 + (z 2).val < 2048 then ∑ r : Fin 256, adu m c (ix2 r ⟨(z 0).val * 1024 + (z 2).val, h⟩)
        * (ax m c (ix2 r (z 1)) * (1 + asc m c (ix2 0 (z 1))) + ash m c (ix2 0 (z 1))) else 0 := by
  pointwise [Cert.InWCtxRefIdeal.Read.val_main_v13, Cert.InWCtxRefIdeal.Read.val_main_v12, Cert.InWCtxRefIdeal.Read.val_main_v11,
    Cert.InWCtxRefIdeal.Read.val_main_v10, Cert.InWCtxRefIdeal.Read.val_main_v9, Cert.InWCtxRefIdeal.Read.val_main_v6, Cert.InWCtxRefIdeal.Read.val_main_v5,
    Cert.InWCtxRefIdeal.Read.val_main_v4, Cert.InWCtxRefIdeal.Read.val_main_v3, Cert.InWCtxRefIdeal.Read.val_main_v2, Cert.InWCtxRefIdeal.Read.val_main_v1,
    Cert.InWCtxRefIdeal.Read.val_main_cst_0, Cert.InWCtxRefIdeal.Read.val_main_cst_1]

theorem zero_at (c : Dev nD) (i : S256x2048.Idx) : (V m c main_v3 : FVec Ideal S256x2048 .bf16) i = (0 : EReal) := by
  entry_read; pointwise

theorem point_A (c : Dev nD) (t : Fin cfg0.N) (ht : t.val < 2) (y : S1x1024x1024.Idx) (z : S4x1024x1024.Idx) (h0 : (z 0).val = t.val)
    (h1 : (z 1).val = (y 1).val) (h2 : (z 2).val = (y 2).val) :
    k0_pay4 (F := Ideal) (iblk m c 0 t) (iblk m c 1 t) (iblk m c 2 t) (k0_pay3 (F := Ideal)) (iblk m c 3 t) y
      = Cert.InWCtxRefIdeal.Read.val_main_v13 (F := Ideal) (ax m c) (asc m c) (ash m c) (adu m c) z := by
  have y2 : (y 2).val < 1024 := (y 2).isLt
  have e1 : z 1 = y 1 := Fin.ext h1
  rw [hp, hz, zero_add, ref_at, dif_pos (by omega)]
  refine Finset.sum_congr (M := EReal) rfl fun r _ => ?_
  rw [mul_comm, e1]
  refine congrArg₂ (· * ·) ?_ (congrArg₂ (· + ·) (congrArg₂ (· * ·) ?_ (sc_at m c t (y 1))) ?_)
  · blk_ext [iblk, V, idx3 t ht]
  · blk_ext [iblk, V, idx t]
  · blk_ext [iblk, V, idx t]

theorem point_B (c : Dev nD) (t : Fin cfg0.N) (ht : ¬t.val < 2) (y : S1x1024x1024.Idx) (z : S4x1024x1024.Idx) (h0 : (z 0).val = t.val) :
    k0_pay4 (F := Ideal) (iblk m c 0 t) (iblk m c 1 t) (iblk m c 2 t) (k0_pay3 (F := Ideal)) (iblk m c 4 t) y
      = Cert.InWCtxRefIdeal.Read.val_main_v13 (F := Ideal) (ax m c) (asc m c) (ash m c) (adu m c) z := by
  rw [hp, hz, zero_add, ref_at, dif_neg (by omega)]
  refine Finset.sum_eq_zero fun r _ => ?_
  have e : (iblk m c 4 t : FVec Ideal S256x1024 .bf16) (ix2 r (y 2)) = (0 : EReal) := zero_at m c _
  exact (congrArg (_ * ·) e).trans (mul_zero _)

theorem final5 (c : Dev nD) : (dats m 0 c).arrAt 5 (cfgs 0).N
    = Cert.InWCtxRefIdeal.Read.val_main_v13 (F := Ideal) (ax m c) (asc m c) (ash m c) (adu m c) := by
  refine (dats m 0 c).arrAt_eq_of_covers 5 _ (by decide +kernel) fun t hf y => ?_
  blk_simp
  rw [after0_5]
  by_cases h : t.val < 2
  · rw [outsAt0_A m c t h (by omega)]; frame_out
    exact point_A m c t h y _ (by blk_simp [idx t] <;> try omega) (by blk_simp [idx t] <;> try omega) (by blk_simp [idx t] <;> try omega)
  · rw [outsAt0_B m c t h (by omega)]; frame_out
    exact point_B m c t h y _ (by blk_simp [idx t] <;> try omega)

theorem algebraic : Cert.algebraic_InWCtxIdeal_InWCtxRefIdeal := by
  pair_intro
  · run_from Cert.InWCtxIdeal.Gen.run_main m g
  · refine (θ_run Cert.InWCtxRefIdeal.defs _ _).mono (fun r h c => ?_) (Cert.InWCtxRefIdeal.Value.run m' g')
    obtain ⟨h0, rest⟩ := h c
    obtain ⟨e0, e1, e2, e3⟩ := hagree c
    rw [e0, e1, e2, e3] at h0
    exact ⟨h0.trans ((Cert.InWCtxRefIdeal.Read.val_main_v13_eq (F := Ideal) (ax m c) (asc m c) (ash m c) (adu m c)).trans (final5 m c).symm), rest⟩

end Cert.InWCtxIdeal.Hand

end
-- ==== Proof.CctxFinVal.lean ====
/-  The context vector's gradient: the result array after the run is the reference's term. -/
module

public import proofs.«01_k».proof.Proof.Gen.CctxFinIdeal.Value
public import proofs.«01_k».proof.Proof.Gen.CctxFinRefIdeal.Read
public import proofs.«01_k».proof.Proof.Gen.Pre_finite_ctx
public import proofs.«01_k».proof.Proof.Gate
public import proofs.«01_k».proof.Proof.Finite
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.CctxFinIdeal.Hand

open Cert.CctxFinIdeal Cert.CctxFinIdeal.Gen Cert.Scalars Cert.Finite
open Idealize.ShloMosaic Idealize.ShloMosaic.TcCoe Idealize.SL.Sem
open Idealize.ShloMosaic.Pipeline (Dat)
open Cert.CctxFinRefIdeal.Read

variable (m : (ℓ : Loc nD τ sig) → Buf (Elt Ideal) ℓ)

theorem idx : ∀ t : Fin cfg0.N, win0_0.index t = ![0, 0, 0] ∧ win0_1.index t = ![0, 0] ∧ win0_2.index t = ![0, 0] :=
  (by decide +kernel : ∀ t : Fin grid0.N, _)

abbrev av (c : Dev nD) : FVec Ideal S1024 .f32 := m ((c : Thread nD τ).loc main_arg0)
abbrev aw (c : Dev nD) : FVec Ideal S1024x3072 .f32 := m ((c : Thread nD τ).loc main_arg1)
abbrev ad (c : Dev nD) : FVec Ideal S8x3072 .f32 := m ((c : Thread nD τ).loc main_arg2)

/-- A sum over 3072 lanes is the sum over its four quarters. -/
theorem sum4 (f : Fin 3072 → EReal) : ∑ k, f k = ((∑ k : Fin 768, f ⟨k.val, by omega⟩) + ∑ k : Fin 768, f ⟨768 + k.val, by omega⟩)
    + ((∑ k : Fin 768, f ⟨1536 + k.val, by omega⟩) + ∑ k : Fin 768, f ⟨2304 + k.val, by omega⟩) := by
  have h1 := Fin.sum_univ_add (a := 1536) (b := 1536) f
  have h2 := Fin.sum_univ_add (a := 768) (b := 768) fun i => f (Fin.castAdd 1536 i)
  have h3 := Fin.sum_univ_add (a := 768) (b := 768) fun i => f (Fin.natAdd 1536 i)
  rw [h1, h2, h3]
  refine congrArg (_ + ·) (congrArg (_ + ·) (Finset.sum_congr rfl fun k _ => congrArg f (Fin.ext ?_)))
  show 1536 + (768 + k.val) = 2304 + k.val
  omega

/-- The four chips' parts added, times the gate's slope. -/
theorem hp (a b p q : FVec Ideal S1x1x1024 .f32) (v : FVec Ideal S1x1024 .f32) (j : S1x1024.Idx) :
    k0_pay1 (F := Ideal) a b p q v j = ((a (ix3 0 0 (j 1)) + b (ix3 0 0 (j 1))) + (p (ix3 0 0 (j 1)) + q (ix3 0 0 (j 1))))
      * (Scalars.sig (v j) * (1 + v j * (1 - Scalars.sig (v j)))) := by
  pointwise [k0_pay1]
  rw [gate]

theorem part_at (c : Dev nD) (i : S4x16x1024.Idx) (k : Fin 4) (n : ℕ) (hk : (i 0).val = k.val) (hn : n = 768 * k.val) (hb : n + 768 ≤ 3072) : (V m c main_v8 : FVec Ideal S4x16x1024 .f32) i
    = ∑ l : Fin 768, (∑ r : Fin 8, ad m c (ix2 r ⟨n + l.val, by omega⟩)) * aw m c (ix2 (i 2) ⟨n + l.val, by omega⟩) := by
  entry_read
  pointwise
  have e : (i 0).val * 768 = n := by omega
  simp only [e]

theorem vec_at (c : Dev nD) (j : S1x1024.Idx) : (V m c main_v9 : FVec Ideal S1x1024 .f32) j = av m c (ix1 (j 1)) := by
  entry_read
  pointwise

theorem total_at (c : Dev nD) (j : S1024.Idx) : val_main_v4 (F := Ideal) (aw m c) (ad m c) j
    = ∑ l : Fin 3072, (∑ r : Fin 8, ad m c (ix2 r l)) * aw m c (ix2 (j 0) l) := by
  pointwise [val_main_v4, val_main_v3, val_main_cst]

/-- The gradient through the gate at real numbers, factored. -/
theorem slope {T v : EReal} (hT : Fine T) (hv : Fine v) :
    T * (Scalars.sig v * (1 + v * (1 - Scalars.sig v))) = T * Scalars.sig v + v * T * (Scalars.sig v * (1 - Scalars.sig v)) := by
  obtain ⟨x, rfl⟩ := hT
  obtain ⟨y, rfl⟩ := hv
  rw [sig_coe]
  generalize 1 / (1 + Real.exp (-y)) = s
  simp only [← EReal.coe_one, ← EReal.coe_mul, ← EReal.coe_add, ← EReal.coe_sub]
  exact congrArg _ (by ring)

theorem ref_at (c : Dev nD) (j : S1x1024.Idx) : val_main_v6 (F := Ideal) (av m c) (aw m c) (ad m c) j
    = val_main_v4 (F := Ideal) (aw m c) (ad m c) (ix1 (j 1)) * Scalars.sig (av m c (ix1 (j 1)))
      + av m c (ix1 (j 1)) * val_main_v4 (F := Ideal) (aw m c) (ad m c) (ix1 (j 1)) * (Scalars.sig (av m c (ix1 (j 1))) * (1 - Scalars.sig (av m c (ix1 (j 1))))) := by
  unfold val_main_v6
  pointwise [val_main_v5, val_main_call1_v0, val_main_call1_v1, val_main_call1_v2, val_main_v0_1, val_main_v0_2, val_main_call0_v4, val_main_call0_v3,
    val_main_call0_v7, val_main_call0_v6, val_main_call0_v2, val_main_call0_v1, val_main_call0_v0, val_main_call0_cst, val_main_call0_cst_0, val_main_call0_cst_1]
  rfl

/-- A chip's part as the call reads it from its block. -/
theorem ld_at (c : Dev nD) (k : Fin 4) (n : ℕ) (hn : n = 768 * k.val) (hb : n + 768 ≤ 3072) (j : Fin 1024)
    (e : (iblk m c 0 t0_0 : FVec Ideal S4x16x1024 .f32) (ix3 k 0 j) = (V m c main_v8 : FVec Ideal S4x16x1024 .f32) (ix3 k 0 j)) :
    (iblk m c 0 t0_0 : FVec Ideal S4x16x1024 .f32) (ix3 k 0 j)
      = ∑ l : Fin 768, (∑ r : Fin 8, ad m c (ix2 r ⟨n + l.val, by omega⟩)) * aw m c (ix2 j ⟨n + l.val, by omega⟩) :=
  e.trans (part_at m c _ k n rfl hn hb)

theorem blk_at (c : Dev nD) (i : S4x16x1024.Idx) : (iblk m c 0 t0_0 : FVec Ideal S4x16x1024 .f32) i = (V m c main_v8 : FVec Ideal S4x16x1024 .f32) i := by
  blk_ext [iblk, idx t0_0]

theorem vblk_at (c : Dev nD) (i : S1x1024.Idx) : (iblk m c 1 t0_0 : FVec Ideal S1x1024 .f32) i = av m c (ix1 (i 1)) := by
  refine Eq.trans ?_ (vec_at m c i)
  blk_ext [iblk, idx t0_0]

/-- The arguments are real numbers where the precondition holds. -/
theorem real {c : Dev nD} (hp : Cert.Pre_CctxFinIdeal_finite_ctx (hPre_finite_ctx := Cert.Pre_finite_ctx.Gen.facts) m) :
    (∀ i, Fine (av m c i)) ∧ (∀ i, Fine (aw m c i)) ∧ ∀ i, Fine (ad m c i) := by
  have h := congrFun (hp c) (fun a => a.elim0)
  have ht : ∀ a b : Cert.Pre_finite_ctx.S_.Idx, a = b := fun a b => funext fun k => k.elim0
  obtain ⟨h, h2⟩ := andi_one _ _ h
  obtain ⟨h0, h1⟩ := andi_one _ _ h
  exact ⟨fine_of_reduce _ _ _ _ _ _ _ ht h0, fine_of_reduce _ _ _ _ _ _ _ ht h1, fine_of_reduce _ _ _ _ _ _ _ ht h2⟩

theorem ld0 (x : Vec Ideal S4x16x1024 .f32) (j : Fin 1024) : (View.ld x r0_0 : FVec Ideal S1x1x1024 .f32) (ix3 0 0 j) = x (ix3 0 0 j) :=
  View.ld_unit_apply_of _ _ _ _ _ _ fun a => by match a with | ⟨0, _⟩ => rfl | ⟨1, _⟩ => rfl | ⟨2, _⟩ => exact (Nat.zero_add _).symm
theorem ld1 (x : Vec Ideal S4x16x1024 .f32) (j : Fin 1024) : (View.ld x r0_1 : FVec Ideal S1x1x1024 .f32) (ix3 0 0 j) = x (ix3 1 0 j) :=
  View.ld_unit_apply_of _ _ _ _ _ _ fun a => by match a with | ⟨0, _⟩ => rfl | ⟨1, _⟩ => rfl | ⟨2, _⟩ => exact (Nat.zero_add _).symm
theorem ld2 (x : Vec Ideal S4x16x1024 .f32) (j : Fin 1024) : (View.ld x r0_2 : FVec Ideal S1x1x1024 .f32) (ix3 0 0 j) = x (ix3 2 0 j) :=
  View.ld_unit_apply_of _ _ _ _ _ _ fun a => by match a with | ⟨0, _⟩ => rfl | ⟨1, _⟩ => rfl | ⟨2, _⟩ => exact (Nat.zero_add _).symm
theorem ld3 (x : Vec Ideal S4x16x1024 .f32) (j : Fin 1024) : (View.ld x r0_3 : FVec Ideal S1x1x1024 .f32) (ix3 0 0 j) = x (ix3 3 0 j) :=
  View.ld_unit_apply_of _ _ _ _ _ _ fun a => by match a with | ⟨0, _⟩ => rfl | ⟨1, _⟩ => rfl | ⟨2, _⟩ => exact (Nat.zero_add _).symm

theorem final2 {c : Dev nD} (h : (∀ i, Fine (av m c i)) ∧ (∀ i, Fine (aw m c i)) ∧ ∀ i, Fine (ad m c i)) : (dats m 0 c).arrAt 2 (cfgs 0).N
    = val_main_v6 (F := Ideal) (av m c) (aw m c) (ad m c) := by
  obtain ⟨hv, hw, hd⟩ := h
  refine (dats m 0 c).arrAt_eq_of_after_last 2 t0_0 (by decide +kernel) _ fun j => ?_
  blk_simp
  rw [after0_2]
  frame_out
  rw [hp, ref_at, ← slope (by rw [total_at]; exact Finite.sum _ fun l => Finite.mul (Finite.sum _ fun r => hd _) (hw _)) (hv _)]
  refine congrArg₂ (· * ·) ?_ (congrArg (fun v => Scalars.sig v * (1 + v * (1 - Scalars.sig v))) (vblk_at m c j))
  rw [total_at, sum4]
  refine congrArg₂ (· + ·) (congrArg₂ (· + ·) ?_ ?_) (congrArg₂ (· + ·) ?_ ?_)
  · exact (ld0 _ _).trans (ld_at m c 0 0 rfl (by omega) (j 1) (blk_at m c _))
  · exact (ld1 _ _).trans (ld_at m c 1 768 rfl (by omega) (j 1) (blk_at m c _))
  · exact (ld2 _ _).trans (ld_at m c 2 1536 rfl (by omega) (j 1) (blk_at m c _))
  · exact (ld3 _ _).trans (ld_at m c 3 2304 rfl (by omega) (j 1) (blk_at m c _))

theorem algebraic : Cert.algebraic_CctxFinIdeal_CctxFinRefIdeal_pre_finite_ctx (hCctxFinIdeal := Cert.CctxFinIdeal.Gen.facts) (hCctxFinRefIdeal := Cert.CctxFinRefIdeal.Gen.facts) (hPre_finite_ctx := Cert.Pre_finite_ctx.Gen.facts) := by
  pair_intro
  case refine_1 => exact fun c => val_main_v6 (F := Ideal) (av m c) (aw m c) (ad m c)
  · run_from Cert.CctxFinIdeal.Gen.run_main m g
    exact final2 m (real m hpre)
  · refine (θ_run Cert.CctxFinRefIdeal.defs _ _).mono (fun r h c => ?_) (Cert.CctxFinRefIdeal.Value.run m' g')
    obtain ⟨h0, rest⟩ := h c
    obtain ⟨e0, e1, e2⟩ := hagree c
    rw [e0, e1, e2] at h0
    exact ⟨h0.trans (val_main_v6_eq (F := Ideal) (av m c) (aw m c) (ad m c)), rest⟩

end Cert.CctxFinIdeal.Hand

end
-- ==== Proof.OutWRun.lean ====
module

public import proofs.«01_k».proof.Proof.Gen.OutWIdeal.Frame
public import proofs.«01_k».proof.Proof.Gen.OutWIdeal.Skeleton
public import Idealize.ShloMosaic.Lib.Claim

@[expose] public section

set_option maxRecDepth 16384

noncomputable section

namespace Cert.OutWIdeal.Hand

open Cert.OutWIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch that clears the block is taken at the first point. -/
abbrev clears (i : grid0.Coords) : Prop :=
  (Scalar.cmpi .ne (Scalar.extui (Scalar.cmpi .eq (BitVec.ofNat 32 (i 0).val) 0#32)) 0#32) = 1#1

theorem clears_iff : ∀ t : Fin cfg0.N, clears (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [clears, e0]
    word_cmp
   : ∀ t : Fin grid0.N, clears (grid0.coords t) ↔ t.val = 0)

/-- The staging buffers at a point, and what they are. -/
abbrev sy (t : Fin cfg0.N) : Memref sig .tc .vmem S16x1024x128 .bf16 := win0_0.stage (cfg0.slots t 0)
abbrev sg (t : Fin cfg0.N) : Memref sig .tc .vmem S16x1024x128 .bf16 := win0_1.stage (cfg0.slots t 1)
abbrev sd (t : Fin cfg0.N) : Memref sig .tc .vmem S1024x1024 .bf16 := win0_2.stage (cfg0.slots t 2)
abbrev so (t : Fin cfg0.N) : Memref sig .tc .vmem S4x512x1024 .f32 := win0_3.stage (cfg0.slots t 3)
abbrev wy (t : Fin cfg0.N) : (sy t).IsWhole := hstage0_0 ((cfg0.slots t 0).cast nbuf0_0)
abbrev wg (t : Fin cfg0.N) : (sg t).IsWhole := hstage0_1 ((cfg0.slots t 1).cast nbuf0_1)
abbrev wd (t : Fin cfg0.N) : (sd t).IsWhole := hstage0_2 ((cfg0.slots t 2).cast nbuf0_2)
abbrev wo (t : Fin cfg0.N) : (so t).IsWhole := hstage0_3 ((cfg0.slots t 3).cast nbuf0_3)

/-- The three input buffers at given contents. -/
def ins (c : Dev nD) (t : Fin cfg0.N) (y g : Vec F S16x1024x128 .bf16) (d : Vec F S1024x1024 .bf16) : sProp 𝕄 :=
  iprop(owns (c : Thread nD τ) (sy t) fullShare y ∗ owns (c : Thread nD τ) (sg t) fullShare g
    ∗ owns (c : Thread nD τ) (sd t) fullShare d)

/-- The output buffer after the stores `L`. -/
def wrote (c : Dev nD) (t : Fin cfg0.N) (L : List (View.Piece (Elt F) S4x512x1024 .f32)) : sProp 𝕄 :=
  iprop(∃ f, (so t).view.loc (c : Thread nD τ) ↦[(so t).view.set]{fullShare} (so t).view.writes (Elt F) f L)

/-- What a run of the body from the output contents `pre` is to show of the stores `L`. -/
abbrev Runs (c : Dev nD) (t : Fin cfg0.N) (y g : Vec F S16x1024x128 .bf16) (d : Vec F S1024x1024 .bf16) (pre : sProp 𝕄)
    (L : List (View.Piece (Elt F) S4x512x1024 .f32)) : Prop :=
  ∀ (K : PUnit → sProp 𝕄), iprop(ins c t y g d ∗ pre ∗ (iprop(ins c t y g d ∗ wrote c t L) -∗ K ⟨⟩))
    ⊢ wp frame (wpE (defs₀ (F := F)) Variants.none c none) Set.univ (bodyAt0 t) K

set_option maxHeartbeats 1000000 in
/-- The first point: the block is cleared, then added to. -/
noncomputable def first (c : Dev nD) (t : Fin cfg0.N) (h : clears (grid0.coords t)) (y g : Vec F S16x1024x128 .bf16)
    (d : Vec F S1024x1024 .bf16) : { L // Runs c t y g d iprop(∃ x, owns (c : Thread nD τ) (so t) fullShare x) L } := by
  refine ⟨?_, fun K => ?run⟩
  case run =>
    unfold bodyAt0
    simp only [cc0_outproj_bwd_w1_eq_skeleton]; unfold cc0_outproj_bwd_w1_skel
    simp only [k0_part1_eq_skeleton, k0_part2_eq_skeleton, k0_part3_eq_skeleton, k0_part4_eq_skeleton,
      k0_part5_eq_skeleton, k0_part6_eq_skeleton, k0_part7_eq_skeleton]
    unfold ins wrote owns
    iintro ⟨⟨⟨%f0, %hf0, H0⟩, ⟨%f1, %hf1, H1⟩, ⟨%f2, %hf2, H2⟩⟩, ⟨%d3, %f3, -, H3⟩, Hk⟩
    obtain rfl := (wy t).eq_unread hf0; obtain rfl := (wg t).eq_unread hf1; obtain rfl := (wd t).eq_unread hf2
    sl_exec (disch := first | sl_exact h)
    sl_step
    iapply Hk
    isplitl [H0 H1 H2]
    · isplitl [H0]
      · iexists _; isplitr; · ipureintro; exact (wy t).read_unread _
        iexact H0
      isplitl [H1]
      · iexists _; isplitr; · ipureintro; exact (wg t).read_unread _
        iexact H1
      iexists _; isplitr; · ipureintro; exact (wd t).read_unread _
      iexact H2
    iexists _; iexact H3

set_option maxHeartbeats 1000000 in
/-- A later point: the block is added to. -/
noncomputable def later (c : Dev nD) (t : Fin cfg0.N) (h : ¬clears (grid0.coords t)) (y g : Vec F S16x1024x128 .bf16)
    (d : Vec F S1024x1024 .bf16) (o : Vec F S4x512x1024 .f32) :
    { L // Runs c t y g d iprop(owns (c : Thread nD τ) (so t) fullShare o) L } := by
  refine ⟨?_, fun K => ?run⟩
  case run =>
    unfold bodyAt0
    simp only [cc0_outproj_bwd_w1_eq_skeleton]; unfold cc0_outproj_bwd_w1_skel
    simp only [k0_part1_eq_skeleton, k0_part2_eq_skeleton, k0_part3_eq_skeleton, k0_part4_eq_skeleton,
      k0_part5_eq_skeleton, k0_part6_eq_skeleton, k0_part7_eq_skeleton]
    unfold ins wrote owns
    iintro ⟨⟨⟨%f0, %hf0, H0⟩, ⟨%f1, %hf1, H1⟩, ⟨%f2, %hf2, H2⟩⟩, ⟨%f3, %hf3, H3⟩, Hk⟩
    obtain rfl := (wy t).eq_unread hf0; obtain rfl := (wg t).eq_unread hf1; obtain rfl := (wd t).eq_unread hf2
    obtain rfl := (wo t).eq_unread hf3
    sl_exec (disch := first | sl_exact h)
    sl_step
    iapply Hk
    isplitl [H0 H1 H2]
    · isplitl [H0]
      · iexists _; isplitr; · ipureintro; exact (wy t).read_unread _
        iexact H0
      isplitl [H1]
      · iexists _; isplitr; · ipureintro; exact (wg t).read_unread _
        iexact H1
      iexists _; isplitr; · ipureintro; exact (wd t).read_unread _
      iexact H2
    iexists _; iexact H3

/-- One staging buffer of the output, through which its contents are read. -/
abbrev VO : View sig .tc .vmem S4x512x1024 .f32 := (Memref.whole cc0_stg3_0 : Memref sig .tc .vmem S4x512x1024 .f32).view

theorem cover_first (c : Dev nD) (t : Fin cfg0.N) (h) (y g : Vec F S16x1024x128 .bf16) (d : Vec F S1024x1024 .bf16)
    (i : S4x512x1024.Idx) : ∃ pc ∈ (first c t h y g d).1, i ∈ pc.1.set :=
  View.cover_of_tiledL (first c t h y g d).1 S4x512x1024.size (by sl_kernel_rfl) i

theorem cover_later (c : Dev nD) (t : Fin cfg0.N) (h) (y g : Vec F S16x1024x128 .bf16) (d : Vec F S1024x1024 .bf16)
    (o : Vec F S4x512x1024 .f32) (i : S4x512x1024.Idx) : ∃ pc ∈ (later c t h y g d o).1, i ∈ pc.1.set :=
  View.cover_of_tiledL (later c t h y g d o).1 S4x512x1024.size (by sl_kernel_rfl) i

/-- What the first point leaves, and what a later one does. -/
def outFirst (c : Dev nD) (t : Fin cfg0.N) (h : clears (grid0.coords t)) (y g : Vec F S16x1024x128 .bf16)
    (d : Vec F S1024x1024 .bf16) : Vec F S4x512x1024 .f32 :=
  VO.read (Elt F) (VO.writes (Elt F) VO.junk (first c t h y g d).1)
def outLater (c : Dev nD) (t : Fin cfg0.N) (h : ¬clears (grid0.coords t)) (y g : Vec F S16x1024x128 .bf16)
    (d : Vec F S1024x1024 .bf16) (o : Vec F S4x512x1024 .f32) : Vec F S4x512x1024 .f32 :=
  VO.read (Elt F) (VO.writes (Elt F) VO.junk (later c t h y g d o).1)

/-- The block after each point. -/
def acc (c : Dev nD) : (n : ℕ) → n < cfg0.N → Vec F S4x512x1024 .f32
  | 0, hn => outFirst c ⟨0, hn⟩ ((clears_iff _).mpr rfl) (iblk m c 0 ⟨0, hn⟩) (iblk m c 1 ⟨0, hn⟩) (iblk m c 2 ⟨0, hn⟩)
  | n + 1, hn => outLater c ⟨n + 1, hn⟩ (fun h => Nat.succ_ne_zero n ((clears_iff _).mp h)) (iblk m c 0 ⟨n + 1, hn⟩)
      (iblk m c 1 ⟨n + 1, hn⟩) (iblk m c 2 ⟨n + 1, hn⟩) (acc c n (Nat.lt_of_succ_lt hn))

/-- The proof data: the arrays as the region finds them, the inputs' blocks, the accumulated block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_y (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_d (c : Dev nD) (t : Fin cfg0.N) : (dats m 0 c).after 2 t = iblk m c 2 t := by dsimp only [dats]
theorem after_o (c : Dev nD) (t : Fin cfg0.N) : (dats m 0 c).after 3 t = acc m c t.val t.isLt := by dsimp only [dats]
theorem before_y (c : Dev nD) (t : Fin cfg0.N) (d) : (dats m 0 c).before 0 t d = iblk m c 0 t :=
  before0_0_of m (dats m 0 c) (A_eq m c 0) (after_y m c) t d
theorem before_g (c : Dev nD) (t : Fin cfg0.N) (d) : (dats m 0 c).before 1 t d = iblk m c 1 t :=
  before0_1_of m (dats m 0 c) (A_eq m c 1) (after_g m c) t d
theorem before_d (c : Dev nD) (t : Fin cfg0.N) (d) : (dats m 0 c).before 2 t d = iblk m c 2 t :=
  before0_2_of m (dats m 0 c) (A_eq m c 2) (after_d m c) t d

/-- After the first point the block still holds what the point before left. -/
theorem before_o (c : Dev nD) (t : Fin cfg0.N) (h : t.val ≠ 0) (d) :
    (dats m 0 c).before 3 t d = acc m c (t.val - 1) (Nat.lt_of_le_of_lt (Nat.sub_le _ _) t.isLt) := by
  have hN : t.val < 8 := lt_of_lt_of_eq t.isLt (show cfg0.N = 8 from N_0)
  rw [Dat.before_out_kept _ 3 rfl t (by omega)
    (Bool.eq_false_iff.mpr fun h => by have := (flush0_3 _).mp h; dsimp only at this; omega)
    (fun _ => rfl) (fun _ a => by match a with | ⟨0, _⟩ => rfl | ⟨1, _⟩ => rfl | ⟨2, _⟩ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (sy t) fullShare ((dats m 0 c).before 0 t d))
    ∗ (∃ d, owns (c : Thread nD τ) (sg t) fullShare ((dats m 0 c).before 1 t d))
    ∗ (∃ d, owns (c : Thread nD τ) (sd t) fullShare ((dats m 0 c).before 2 t d))
    ∗ (∃ d, owns (c : Thread nD τ) (so t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (sy t) fullShare ((dats m 0 c).after 0 t)
    ∗ owns (c : Thread nD τ) (sg t) fullShare ((dats m 0 c).after 1 t)
    ∗ owns (c : Thread nD τ) (sd t) fullShare ((dats m 0 c).after 2 t)
    ∗ owns (c : Thread nD τ) (so t) fullShare ((dats m 0 c).after 3 t))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  have key : ∀ p L, Runs c t (iblk m c 0 t) (iblk m c 1 t) (iblk m c 2 t) p L →
      (∀ i : S4x512x1024.Idx, ∃ pc ∈ L, i ∈ pc.1.set) →
      acc m c t.val t.isLt = VO.read (Elt F) (VO.writes (Elt F) VO.junk L) →
      (iprop(∃ d, owns (c : Thread nD τ) (so t) fullShare ((dats m 0 c).before 3 t d)) ⊢ p) →
      bodyPre m c t ⊢ wp frame (wpE (defs₀ (F := F)) Variants.none c none) Set.univ (bodyAt0 t) (fun _ => bodyPost m c t) := by
    intro p L hr hc e hp
    have hb := hr (fun _ => bodyPost m c t)
    refine BIBase.Entails.trans ?_ hb
    unfold bodyPre bodyPost ins wrote
    simp only [before_y, before_g, before_d]
    rw [show (dats m 0 c).Φ t.succ = (dats m 0 c).Φ t.castSucc from rfl,
      show (dats m 0 c).owesAt () t.succ = (dats m 0 c).owesAt () t.castSucc from rfl,
      after_y, after_g, after_d, after_o]
    iintro ⟨HΦ, Ho, ⟨%d0, H0⟩, ⟨%d1, H1⟩, ⟨%d2, H2⟩, H3⟩
    isplitl [H0 H1 H2]
    · isplitl [H0]; · iexact H0
      isplitl [H1]; · iexact H1
      iexact H2
    isplitl [H3]; · iapply hp; iexact H3
    iintro ⟨⟨H0, H1, H2⟩, ⟨%f, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; rw [e]; exact View.read_writes_of_cover _ _ _ _ _ hc
  by_cases h : t.val = 0
  · refine key _ _ (first c t ((clears_iff t).mpr h) _ _ _).2 (cover_first c t _ _ _ _) ?_ ?_
    · obtain ⟨n, hn⟩ := t; obtain rfl : n = 0 := h; rfl
    · iintro ⟨%d, H⟩; iexists _; iexact H
  · refine key _ _ (later c t (fun e => h ((clears_iff t).mp e)) _ _ _ _).2 (cover_later c t _ _ _ _ _) (?_ :
      _ = outLater c t _ _ _ _ (acc m c (t.val - 1) (Nat.lt_of_le_of_lt (Nat.sub_le _ _) t.isLt))) ?_
    · obtain ⟨n, hn⟩ := t
      cases n with
      | zero => exact absurd rfl h
      | succ n => rfl
    · simp only [before_o m c t h]; iintro ⟨%d, H⟩; iexact H

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame, at any arithmetic. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_quiet m ρ))

end Cert.OutWIdeal.Hand

end
-- ==== Proof.OutWBits.lean ====
module

public import proofs.«01_k».proof.Proof.OutWRun
public import proofs.«01_k».proof.Proof.Gen.OutW
public import proofs.«01_k».proof.Defs

@[expose] public section

set_option maxRecDepth 65536
set_option maxHeartbeats 8000000

namespace Cert.OutWIdeal.Hand

theorem frame_bits : Cert.quiescent_OutW (hOutW := Cert.OutW.Gen.facts) := fun m ρ _ => by
  refine Eq.mp ?_ (frame (F := Idealize.ShloMosaic.Bits) m ρ)
  sl_kernel_rfl

end Cert.OutWIdeal.Hand
-- ==== Proof.OutWVal.lean ====
module

public import proofs.«01_k».proof.Proof.OutWRun
public import proofs.«01_k».proof.Proof.Gate
public import proofs.«01_k».proof.Proof.Gen.OutWRefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.OutWIdeal.Val

open Cert.OutWIdeal Cert.OutWIdeal.Gen Cert.OutWIdeal.Hand
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val, 0] ∧ win0_1.index t = ![0, t.val, 0]
    ∧ win0_2.index t = ![t.val, 0] ∧ win0_3.index t = ![0, 2, 0] :=
  (by decide +kernel : ∀ t : Fin grid0.N, _)

abbrev ay (c : Dev nD) : FVec Ideal S8192x2048 .f32 := m ((c : Thread nD τ).loc main_arg0)
abbrev ag (c : Dev nD) : FVec Ideal S8192x2048 .f32 := m ((c : Thread nD τ).loc main_arg1)
abbrev ad (c : Dev nD) : FVec Ideal S8192x1024 .f32 := m ((c : Thread nD τ).loc main_arg2)
abbrev ab (c : Dev nD) : FVec Ideal S4x1792x1024 .f32 := m ((c : Thread nD τ).loc main_arg3)

theorem inb_at (k : Fin 16) : ∀ a, (![k.val, 0, 0] : Fin 3 → ℕ) a + (![1, 1024, 128] : Fin 3 → ℕ) a ≤ S16x1024x128.size a := fun a => by
  have := k.isLt
  match a with
  | ⟨0, _⟩ => show k.val + 1 ≤ 16; omega
  | ⟨1, _⟩ => exact le_refl _
  | ⟨2, _⟩ => exact le_refl _

/-- One chunk of a block of 16. -/
abbrev chunk (x : Vec Ideal S16x1024x128 .bf16) (k : Fin 16) : Vec Ideal S1x1024x128 .bf16 :=
  View.ld (Val := Elt Ideal) (e' := .bf16) x (Rect.unit (s := S16x1024x128) ![k.val, 0, 0] ![1, 1024, 128] (inb_at k))

/-- The gated chunks, side by side. -/
def pcs (y g : FVec Ideal S16x1024x128 .bf16) : List ((s : Shape) × (s.Idx → EReal)) :=
  List.ofFn fun k : Fin 16 => ⟨S1024x128, k0_pay3 (F := Ideal) (chunk y k) (chunk g k)⟩

theorem pcs_ok (y g : FVec Ideal S16x1024x128 .bf16) : Shape.Concatenates ((pcs y g).map (·.1)) S1024x2048 1 :=
  concatenates_S1024x128_S1024x128_S1024x128_S1024x128_S1024x128_S1024x128_S1024x128_S1024x128_S1024x128_S1024x128_S1024x128_S1024x128_S1024x128_S1024x128_S1024x128_S1024x128_S1024x2048_d1

theorem pcs_at (y g : FVec Ideal S16x1024x128 .bf16) (r : Fin 1024) (k : Fin 2048) :
    concatenate S1024x2048 1 (pcs y g) (pcs_ok y g) (ix2 r k)
      = y (ix3 ⟨k.val / 128, by omega⟩ r ⟨k.val % 128, Nat.mod_lt _ (by decide)⟩)
        * (g (ix3 ⟨k.val / 128, by omega⟩ r ⟨k.val % 128, Nat.mod_lt _ (by decide)⟩)
          * Cert.Scalars.sig (g (ix3 ⟨k.val / 128, by omega⟩ r ⟨k.val % 128, Nat.mod_lt _ (by decide)⟩))) := by
  refine (concatenate_ofFn_apply (t := S1024x2048) (s₁ := S1024x128) 1 (fun k : Fin 16 => k0_pay3 (F := Ideal) (chunk y k) (chunk g k)) (pcs_ok y g) rfl 128 rfl (ix2 r k) ⟨k.val / 128, by omega⟩ rfl
    (ix2 r ⟨k.val % 128, Nat.mod_lt _ (by decide)⟩) rfl fun b hb => ?_).trans ?_
  · match b with
    | ⟨0, _⟩ => rfl
    | ⟨1, _⟩ => exact absurd rfl hb
  have hl : ∀ x : FVec Ideal S16x1024x128 .bf16, chunk x ⟨k.val / 128, by omega⟩ (ix3 0 r ⟨k.val % 128, Nat.mod_lt _ (by decide)⟩)
      = x (ix3 ⟨k.val / 128, by omega⟩ r ⟨k.val % 128, Nat.mod_lt _ (by decide)⟩) := fun x =>
    View.ld_unit_apply_of _ _ _ _ _ _ fun a => by
      match a with
      | ⟨0, _⟩ => rfl
      | ⟨1, _⟩ => exact (Nat.zero_add _).symm
      | ⟨2, _⟩ => exact (Nat.zero_add _).symm
  rw [← Cert.Scalars.gate]
  have hy := hl y
  have hg := hl g
  generalize chunk y ⟨k.val / 128, by omega⟩ = Y at hy ⊢
  generalize chunk g ⟨k.val / 128, by omega⟩ = G at hg ⊢
  pointwise [k0_pay3]
  rw [← hy, ← hg]

/-- A point's product, and the block it leaves. -/
def prod (y g : FVec Ideal S16x1024x128 .bf16) (d : FVec Ideal S1024x1024 .bf16) : FVec Ideal S4x512x1024 .f32 :=
  shapeCast S4x512x1024 (matmul (F := Ideal) (φ₁ := .bf16) (φ₂ := .bf16) dot_S1024x2048_S1024x1024_S2048x1024_0_0_1_1_n_n none (concatenate S1024x2048 1 (pcs y g) (pcs_ok y g))
    (shapeCast S1024x1024 d shapeCasts_S1024x1024_S1024x1024) (constant S2048x1024 .f32 0x00000000#32)) shapeCasts_S2048x1024_S4x512x1024

theorem prod_at (y g : FVec Ideal S16x1024x128 .bf16) (d : FVec Ideal S1024x1024 .bf16) (z : S4x512x1024.Idx) (k : Fin 2048)
    (hk : (z 0).val * 512 + (z 1).val = k.val) :
    prod y g d z = ∑ r : Fin 1024, (y (ix3 ⟨k.val / 128, by omega⟩ r ⟨k.val % 128, Nat.mod_lt _ (by decide)⟩)
        * (g (ix3 ⟨k.val / 128, by omega⟩ r ⟨k.val % 128, Nat.mod_lt _ (by decide)⟩)
          * Cert.Scalars.sig (g (ix3 ⟨k.val / 128, by omega⟩ r ⟨k.val % 128, Nat.mod_lt _ (by decide)⟩)))) * d (ix2 r (z 2)) := by
  have hp := fun r => pcs_at y g r k
  unfold prod
  generalize concatenate S1024x2048 1 (pcs y g) (pcs_ok y g) = Y at hp
  simp only [← hp]
  pointwise
  have e : k = ⟨(z 0).val * 512 + (z 1).val, hk ▸ k.isLt⟩ := Fin.ext hk.symm
  exact Finset.sum_congr rfl fun r _ => congrArg (fun k => Y (ix2 r k) * d (ix2 r (z 2))) e.symm

/-- The product the body forms is this one. -/
theorem body_prod (y g : Vec Ideal S16x1024x128 .bf16) (d : Vec Ideal S1024x1024 .bf16) :
    k0_pay27 (F := Ideal) (k0_pay3 (F := Ideal) (View.ld (Val := Elt Ideal) (e' := .bf16) y (Rect.unit (s := S16x1024x128) ![0, 0, 0] ![1, 1024, 128] inb_S16x1024x128_S1x1024x128_0_0_0)) (View.ld (Val := Elt Ideal) (e' := .bf16) g (Rect.unit (s := S16x1024x128) ![0, 0, 0] ![1, 1024, 128] inb_S16x1024x128_S1x1024x128_0_0_0)))
      (k0_pay4 (F := Ideal) (View.ld (Val := Elt Ideal) (e' := .bf16) y (Rect.unit (s := S16x1024x128) ![1, 0, 0] ![1, 1024, 128] inb_S16x1024x128_S1x1024x128_1_0_0)) (View.ld (Val := Elt Ideal) (e' := .bf16) g (Rect.unit (s := S16x1024x128) ![1, 0, 0] ![1, 1024, 128] inb_S16x1024x128_S1x1024x128_1_0_0)))
      (k0_pay5 (F := Ideal) (View.ld (Val := Elt Ideal) (e' := .bf16) y (Rect.unit (s := S16x1024x128) ![2, 0, 0] ![1, 1024, 128] inb_S16x1024x128_S1x1024x128_2_0_0)) (View.ld (Val := Elt Ideal) (e' := .bf16) g (Rect.unit (s := S16x1024x128) ![2, 0, 0] ![1, 1024, 128] inb_S16x1024x128_S1x1024x128_2_0_0)))
      (k0_pay6 (F := Ideal) (View.ld (Val := Elt Ideal) (e' := .bf16) y (Rect.unit (s := S16x1024x128) ![3, 0, 0] ![1, 1024, 128] inb_S16x1024x128_S1x1024x128_3_0_0)) (View.ld (Val := Elt Ideal) (e' := .bf16) g (Rect.unit (s := S16x1024x128) ![3, 0, 0] ![1, 1024, 128] inb_S16x1024x128_S1x1024x128_3_0_0)))
      (k0_pay9 (k0_pay7 (View.ld (Val := Elt Ideal) (e' := .bf16) y (Rect.unit (s := S16x1024x128) ![4, 0, 0] ![1, 1024, 128] inb_S16x1024x128_S1x1024x128_4_0_0))) (k0_pay8 (View.ld (Val := Elt Ideal) (e' := .bf16) g (Rect.unit (s := S16x1024x128) ![4, 0, 0] ![1, 1024, 128] inb_S16x1024x128_S1x1024x128_4_0_0))) (FloatOps.ofBits FTy.f32 0x3F000000#32))
      (k0_pay10 (F := Ideal) (View.ld (Val := Elt Ideal) (e' := .bf16) y (Rect.unit (s := S16x1024x128) ![5, 0, 0] ![1, 1024, 128] inb_S16x1024x128_S1x1024x128_5_0_0)) (View.ld (Val := Elt Ideal) (e' := .bf16) g (Rect.unit (s := S16x1024x128) ![5, 0, 0] ![1, 1024, 128] inb_S16x1024x128_S1x1024x128_5_0_0)))
      (k0_pay13 (k0_pay11 (View.ld (Val := Elt Ideal) (e' := .bf16) y (Rect.unit (s := S16x1024x128) ![6, 0, 0] ![1, 1024, 128] inb_S16x1024x128_S1x1024x128_6_0_0))) (k0_pay12 (View.ld (Val := Elt Ideal) (e' := .bf16) g (Rect.unit (s := S16x1024x128) ![6, 0, 0] ![1, 1024, 128] inb_S16x1024x128_S1x1024x128_6_0_0))))
      (k0_pay14 (F := Ideal) (View.ld (Val := Elt Ideal) (e' := .bf16) y (Rect.unit (s := S16x1024x128) ![7, 0, 0] ![1, 1024, 128] inb_S16x1024x128_S1x1024x128_7_0_0)) (View.ld (Val := Elt Ideal) (e' := .bf16) g (Rect.unit (s := S16x1024x128) ![7, 0, 0] ![1, 1024, 128] inb_S16x1024x128_S1x1024x128_7_0_0)))
      (k0_pay15 (F := Ideal) (View.ld (Val := Elt Ideal) (e' := .bf16) y (Rect.unit (s := S16x1024x128) ![8, 0, 0] ![1, 1024, 128] inb_S16x1024x128_S1x1024x128_8_0_0)) (View.ld (Val := Elt Ideal) (e' := .bf16) g (Rect.unit (s := S16x1024x128) ![8, 0, 0] ![1, 1024, 128] inb_S16x1024x128_S1x1024x128_8_0_0)))
      (k0_pay17 (k0_pay16 (View.ld (Val := Elt Ideal) (e' := .bf16) y (Rect.unit (s := S16x1024x128) ![9, 0, 0] ![1, 1024, 128] inb_S16x1024x128_S1x1024x128_9_0_0))) (View.ld (Val := Elt Ideal) (e' := .bf16) g (Rect.unit (s := S16x1024x128) ![9, 0, 0] ![1, 1024, 128] inb_S16x1024x128_S1x1024x128_9_0_0)))
      (k0_pay18 (F := Ideal) (View.ld (Val := Elt Ideal) (e' := .bf16) y (Rect.unit (s := S16x1024x128) ![10, 0, 0] ![1, 1024, 128] inb_S16x1024x128_S1x1024x128_10_0_0)) (View.ld (Val := Elt Ideal) (e' := .bf16) g (Rect.unit (s := S16x1024x128) ![10, 0, 0] ![1, 1024, 128] inb_S16x1024x128_S1x1024x128_10_0_0)))
      (k0_pay23 (k0_pay19 (View.ld (Val := Elt Ideal) (e' := .bf16) y (Rect.unit (s := S16x1024x128) ![11, 0, 0] ![1, 1024, 128] inb_S16x1024x128_S1x1024x128_11_0_0))) (k0_pay20 (View.ld (Val := Elt Ideal) (e' := .bf16) g (Rect.unit (s := S16x1024x128) ![11, 0, 0] ![1, 1024, 128] inb_S16x1024x128_S1x1024x128_11_0_0))) (k0_pay21 (View.ld (Val := Elt Ideal) (e' := .bf16) g (Rect.unit (s := S16x1024x128) ![11, 0, 0] ![1, 1024, 128] inb_S16x1024x128_S1x1024x128_11_0_0))) k0_pay22)
      (k0_pay24 (F := Ideal) (View.ld (Val := Elt Ideal) (e' := .bf16) y (Rect.unit (s := S16x1024x128) ![12, 0, 0] ![1, 1024, 128] inb_S16x1024x128_S1x1024x128_12_0_0)) (View.ld (Val := Elt Ideal) (e' := .bf16) g (Rect.unit (s := S16x1024x128) ![12, 0, 0] ![1, 1024, 128] inb_S16x1024x128_S1x1024x128_12_0_0)))
      (k0_pay25 (F := Ideal) (View.ld (Val := Elt Ideal) (e' := .bf16) y (Rect.unit (s := S16x1024x128) ![13, 0, 0] ![1, 1024, 128] inb_S16x1024x128_S1x1024x128_13_0_0)) (View.ld (Val := Elt Ideal) (e' := .bf16) g (Rect.unit (s := S16x1024x128) ![13, 0, 0] ![1, 1024, 128] inb_S16x1024x128_S1x1024x128_13_0_0)))
      (View.ld (Val := Elt Ideal) (e' := .bf16) y (Rect.unit (s := S16x1024x128) ![14, 0, 0] ![1, 1024, 128] inb_S16x1024x128_S1x1024x128_14_0_0))
      (View.ld (Val := Elt Ideal) (e' := .bf16) g (Rect.unit (s := S16x1024x128) ![14, 0, 0] ![1, 1024, 128] inb_S16x1024x128_S1x1024x128_14_0_0))
      (View.ld (Val := Elt Ideal) (e' := .bf16) y (Rect.unit (s := S16x1024x128) ![15, 0, 0] ![1, 1024, 128] inb_S16x1024x128_S1x1024x128_15_0_0))
      (View.ld (Val := Elt Ideal) (e' := .bf16) g (Rect.unit (s := S16x1024x128) ![15, 0, 0] ![1, 1024, 128] inb_S16x1024x128_S1x1024x128_15_0_0))
      d = prod y g d := by
  sl_kernel_rfl

theorem first_at (c : Dev nD) (t : Fin cfg0.N) (h) (y g : Vec Ideal S16x1024x128 .bf16) (d : Vec Ideal S1024x1024 .bf16)
    (z : S4x512x1024.Idx) : outFirst (F := Ideal) c t h y g d z = 0 + prod y g d z := by
  unfold outFirst
  frame_out
  rw [body_prod]
  generalize prod y g d = P
  pointwise [k0_pay1, k0_pay26, k0_pay2]

theorem later_at (c : Dev nD) (t : Fin cfg0.N) (h) (y g : Vec Ideal S16x1024x128 .bf16) (d : Vec Ideal S1024x1024 .bf16)
    (o : FVec Ideal S4x512x1024 .f32) (z : S4x512x1024.Idx) : outLater (F := Ideal) c t h y g d o z = o z + prod y g d z := by
  unfold outLater
  frame_out
  rw [body_prod]
  generalize prod y g d = P
  pointwise [k0_pay1, k0_pay26]

/-- A chunked array, entry by entry: the host reshapes the columns into 16 chunks of 128. -/
theorem y_arr (c : Dev nD) (q : Fin 16) (R : Fin 8192) (l : Fin 128) (e : Fin 2048) (he : e.val = 128 * q.val + l.val) :
    (V m c (Pipeline.arrRef spec0 0) : FVec Ideal S16x8192x128 .bf16) (ix3 q R l) = ay m c (ix2 R e) := by
  entry_read
  pointwise
  blk_ext
theorem g_arr (c : Dev nD) (q : Fin 16) (R : Fin 8192) (l : Fin 128) (e : Fin 2048) (he : e.val = 128 * q.val + l.val) :
    (V m c (Pipeline.arrRef spec0 1) : FVec Ideal S16x8192x128 .bf16) (ix3 q R l) = ag m c (ix2 R e) := by
  entry_read
  pointwise
  blk_ext

theorem y_blk (c : Dev nD) (t : Fin cfg0.N) (r : Fin 1024) (k : Fin 2048) (R : Fin 8192) (hR : R.val = 1024 * t.val + r.val) :
    (iblk m c 0 t : FVec Ideal S16x1024x128 .bf16) (ix3 ⟨k.val / 128, by omega⟩ r ⟨k.val % 128, Nat.mod_lt _ (by decide)⟩) = ay m c (ix2 R k) := by
  refine Eq.trans ?_ (y_arr m c ⟨k.val / 128, by omega⟩ R ⟨k.val % 128, Nat.mod_lt _ (by decide)⟩ k (by show _ = 128 * (k.val / 128) + k.val % 128; omega))
  blk_ext [iblk, idx t]
theorem g_blk (c : Dev nD) (t : Fin cfg0.N) (r : Fin 1024) (k : Fin 2048) (R : Fin 8192) (hR : R.val = 1024 * t.val + r.val) :
    (iblk m c 1 t : FVec Ideal S16x1024x128 .bf16) (ix3 ⟨k.val / 128, by omega⟩ r ⟨k.val % 128, Nat.mod_lt _ (by decide)⟩) = ag m c (ix2 R k) := by
  refine Eq.trans ?_ (g_arr m c ⟨k.val / 128, by omega⟩ R ⟨k.val % 128, Nat.mod_lt _ (by decide)⟩ k (by show _ = 128 * (k.val / 128) + k.val % 128; omega))
  blk_ext [iblk, idx t]
theorem d_blk (c : Dev nD) (t : Fin cfg0.N) (r j : Fin 1024) (R : Fin 8192) (hR : R.val = 1024 * t.val + r.val) :
    (iblk m c 2 t : FVec Ideal S1024x1024 .bf16) (ix2 r j) = ad m c (ix2 R j) := by
  blk_point [iblk, V, idx t]

theorem acc_first (c : Dev nD) (t : Fin cfg0.N) (h : t.val % 8 = 0) (z : S4x512x1024.Idx) :
    acc m c t.val t.isLt z = 0 + prod (iblk m c 0 t) (iblk m c 1 t) (iblk m c 2 t) z := by
  have hN : t.val < 8 := lt_of_lt_of_eq t.isLt N_0
  obtain ⟨n, hn⟩ := t
  obtain rfl : n = 0 := by simp only at h hN; omega
  exact first_at c _ _ _ _ _ z
theorem acc_later (c : Dev nD) (t : Fin cfg0.N) (h : ¬t.val % 8 = 0) (z : S4x512x1024.Idx) :
    acc m c t.val t.isLt z = acc m c (t.val - 1) (Nat.lt_of_le_of_lt (Nat.sub_le _ _) t.isLt) z
      + prod (iblk m c 0 t) (iblk m c 1 t) (iblk m c 2 t) z := by
  obtain ⟨n, hn⟩ := t
  cases n with
  | zero => exact absurd rfl h
  | succ n => exact later_at c _ _ _ _ _ _ z

open Cert.OutWRefIdeal.Read

/-- The reference's buffer: in the rows of the gradient the gradient, elsewhere what was there. -/
theorem v7_at (y g : FVec Ideal S8192x2048 .f32) (d : FVec Ideal S8192x1024 .f32) (b : FVec Ideal S4x1792x1024 .f32) (z : S4x1792x1024.Idx) :
    val_main_v7 (F := Ideal) y g d b z = if h : 1024 ≤ (z 1).val ∧ (z 1).val < 1536 then
      val_main_v6 (F := Ideal) y g d (ix3 (z 0) ⟨(z 1).val - 1024, by omega⟩ (z 2)) else b z := by
  pointwise [val_main_v7, val_main_c, val_main_c_0, val_main_c_1]
  have c0 : ∀ hh, Host.clampedStart Cert.OutWRefIdeal.S4x1792x1024 Cert.OutWRefIdeal.S4x512x1024 hh (fun k => BitVec.toInt (![constantI Cert.OutWRefIdeal.S_ 32 0#32, constantI Cert.OutWRefIdeal.S_ 32 1024#32, constantI Cert.OutWRefIdeal.S_ 32 0#32] k (Shape.Idx.first Cert.OutWRefIdeal.Gen.h_S_))) 0 = 0 := fun _ => rfl
  have c1 : ∀ hh, Host.clampedStart Cert.OutWRefIdeal.S4x1792x1024 Cert.OutWRefIdeal.S4x512x1024 hh (fun k => BitVec.toInt (![constantI Cert.OutWRefIdeal.S_ 32 0#32, constantI Cert.OutWRefIdeal.S_ 32 1024#32, constantI Cert.OutWRefIdeal.S_ 32 0#32] k (Shape.Idx.first Cert.OutWRefIdeal.Gen.h_S_))) 1 = 1024 := fun _ => rfl
  have c2 : ∀ hh, Host.clampedStart Cert.OutWRefIdeal.S4x1792x1024 Cert.OutWRefIdeal.S4x512x1024 hh (fun k => BitVec.toInt (![constantI Cert.OutWRefIdeal.S_ 32 0#32, constantI Cert.OutWRefIdeal.S_ 32 1024#32, constantI Cert.OutWRefIdeal.S_ 32 0#32] k (Shape.Idx.first Cert.OutWRefIdeal.Gen.h_S_))) 2 = 0 := fun _ => rfl
  simp only [c0, c1, c2]
  by_cases h : 1024 ≤ (z 1).val ∧ (z 1).val < 1536
  · rw [dif_pos ⟨Nat.zero_le _, h, Nat.zero_le _⟩, dif_pos h]
    rfl
  · rw [dif_neg fun hh => h hh.2.1, dif_neg h]

theorem v6_at (y g : FVec Ideal S8192x2048 .f32) (d : FVec Ideal S8192x1024 .f32) (x : S4x512x1024.Idx) (k : Fin 2048)
    (hk : (x 0).val * 512 + (x 1).val = k.val) : val_main_v6 (F := Ideal) y g d x
      = ∑ R : Fin 8192, (y (ix2 R k) * (g (ix2 R k) * Cert.Scalars.sig (g (ix2 R k)))) * d (ix2 R (x 2)) := by
  have e : k = ⟨(x 0).val * 512 + (x 1).val, hk ▸ k.isLt⟩ := Fin.ext hk.symm
  rw [e]
  pointwise [val_main_v6, val_main_v5, val_main_v4, val_main_v2, val_main_v1, val_main_call0_v5, val_main_call0_v4,
    val_main_call0_v3, val_main_call0_v2, val_main_call0_v1, val_main_call0_v0, val_main_call0_cst, val_main_call0_cst_0]
  refine Finset.sum_congr rfl fun R _ => ?_
  rw [mul_comm]
  rfl

/-- What the last point leaves, where the block lies in the buffer. -/
theorem point (c : Dev nD) (t : Fin cfg0.N) (q : t.val % 8 = 7) (x : S4x512x1024.Idx) (z : S4x1792x1024.Idx) (e0 : (z 0).val = (x 0).val)
    (e1 : (z 1).val = 1024 + (x 1).val) (e2 : (z 2).val = (x 2).val) :
    acc m c t.val t.isLt x = val_main_v7 (F := Ideal) (ay m c) (ag m c) (ad m c) (ab m c) z := by
  have ht : t.val < 8 := lt_of_lt_of_eq t.isLt N_0
  have x0 : (x 0 : ℕ) < 4 := (x 0).isLt
  have x1 : (x 1 : ℕ) < 512 := (x 1).isLt
  rw [Pipeline.eq_sum_fin_of_reset_step_apply_of_flush (fun n h => acc m c n h) 8 (fun _ => 0) _
    (fun t h j => acc_first m c t h j) (fun t h j => acc_later m c t h j) t q x, zero_add]
  rw [v7_at, dif_pos ⟨by omega, by omega⟩]
  refine Eq.trans ?_ (v6_at (ay m c) (ag m c) (ad m c) _ ⟨(x 0).val * 512 + (x 1).val, by omega⟩ (by
    show (z 0).val * 512 + ((z 1).val - 1024) = (x 0).val * 512 + (x 1).val; omega)).symm
  refine (Finset.sum_congr (M := EReal) rfl fun s _ => prod_at _ _ _ x ⟨(x 0).val * 512 + (x 1).val, by omega⟩ rfl).trans
    (Fin.sum_mul_add_congr fun s r h => ?_)
  have hs := s.isLt
  have hR : s.val * 1024 + r.val = 1024 * (8 * (t.val / 8) + s.val) + r.val := by omega
  rw [y_blk m c _ r _ ⟨s.val * 1024 + r.val, h⟩ hR, g_blk m c _ r _ ⟨s.val * 1024 + r.val, h⟩ hR]
  have ez : z 2 = x 2 := Fin.ext e2
  exact congrArg₂ (· * ·) rfl ((d_blk m c _ r (x 2) ⟨s.val * 1024 + r.val, h⟩ hR).trans (congrArg (fun j => ad m c (ix2 _ j)) ez.symm))

theorem final3 (c : Dev nD) : (dats m 0 c).arrAt 3 (cfgs 0).N
    = val_main_v7 (F := Ideal) (ay m c) (ag m c) (ad m c) (ab m c) := by
  refine (dats m 0 c).arrAt_eq_of_coversWhere_of_agree 3 _ (fun β => β (1 : Fin 3) = 2) (by decide +kernel) (fun t hf y => ?_) (fun j hj => ?_)
  · blk_simp
    rw [after_o]
    exact point m c t ((flush0_3 t).mp hf) ((cfg0.win 3).xinj (cfg0.grid.coords t) y) _ (by blk_simp [idx t] <;> try rfl)
      (by blk_simp [idx t] <;> try rfl) (by blk_simp [idx t] <;> try rfl)
  · have hz : ¬(1024 ≤ (j 1).val ∧ (j 1).val < 1536) := fun h => hj (show (j 1).val / 512 = 2 by omega)
    refine Eq.trans ?_ ((v7_at (ay m c) (ag m c) (ad m c) (ab m c) j).trans (dif_neg hz)).symm
    rw [A_eq]
    exact congrFun (show (V m c main_arg3 : FVec Ideal S4x1792x1024 .f32) = ab m c by entry_read; rfl) j

theorem algebraic : Cert.algebraic_OutWIdeal_OutWRefIdeal := by
  pair_intro
  · run_from Cert.OutWIdeal.Hand.run_main m g
  · refine (θ_run Cert.OutWRefIdeal.defs _ _).mono (fun r h c => ?_) (Cert.OutWRefIdeal.Value.run m' g')
    obtain ⟨h0, rest⟩ := h c
    obtain ⟨e0, e1, e2, e3⟩ := hagree c
    rw [e0, e1, e2, e3] at h0
    exact ⟨h0.trans ((val_main_v7_eq (F := Ideal) (ay m c) (ag m c) (ad m c) (ab m c)).trans (final3 m c).symm), rest⟩

end Cert.OutWIdeal.Val

end
-- ==== Proof.InWRun.lean ====
module

public import proofs.«01_k».proof.Proof.Gen.InWIdeal.Frame
public import proofs.«01_k».proof.Proof.Gen.InWIdeal.Skeleton
public import Idealize.ShloMosaic.Lib.Claim

@[expose] public section

set_option maxRecDepth 16384

noncomputable section

namespace Cert.InWIdeal.Hand

open Cert.InWIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branches of the body, over the points: the block is started, the first part adds to it, the second does. -/
abbrev starts (i : grid0.Coords) : Prop := k0_cond1 i = 1#1
abbrev takesU (i : grid0.Coords) : Prop := k0_cond2 i = 1#1
abbrev takesG (i : grid0.Coords) : Prop := k0_cond3 i = 1#1
theorem starts_iff : ∀ t : Fin cfg0.N, starts (grid0.coords t) ↔ t.val % 8 = 0 :=
  (by decide +kernel : ∀ t : Fin grid0.N, starts (grid0.coords t) ↔ t.val % 8 = 0)
theorem takesU_iff : ∀ t : Fin cfg0.N, takesU (grid0.coords t) ↔ t.val < 16 :=
  (by decide +kernel : ∀ t : Fin grid0.N, takesU (grid0.coords t) ↔ t.val < 16)
theorem takesG_iff : ∀ t : Fin cfg0.N, takesG (grid0.coords t) ↔ ¬t.val < 16 :=
  (by decide +kernel : ∀ t : Fin grid0.N, takesG (grid0.coords t) ↔ ¬t.val < 16)

/-- The staging buffers at a point, and that they are whole. -/
abbrev s_x (t : Fin cfg0.N) : Memref sig .tc .vmem S1024x1024 .f32 := win0_0.stage (cfg0.slots t 0)
abbrev w_x (t : Fin cfg0.N) : (s_x t).IsWhole := hstage0_0 ((cfg0.slots t 0).cast nbuf0_0)
abbrev s_sc (t : Fin cfg0.N) : Memref sig .tc .vmem S1x1024 .f32 := win0_1.stage (cfg0.slots t 1)
abbrev w_sc (t : Fin cfg0.N) : (s_sc t).IsWhole := hstage0_1 ((cfg0.slots t 1).cast nbuf0_1)
abbrev s_sh (t : Fin cfg0.N) : Memref sig .tc .vmem S1x1024 .f32 := win0_2.stage (cfg0.slots t 2)
abbrev w_sh (t : Fin cfg0.N) : (s_sh t).IsWhole := hstage0_2 ((cfg0.slots t 2).cast nbuf0_2)
abbrev s_u (t : Fin cfg0.N) : Memref sig .tc .vmem S1024x1024 .bf16 := win0_3.stage (cfg0.slots t 3)
abbrev w_u (t : Fin cfg0.N) : (s_u t).IsWhole := hstage0_3 ((cfg0.slots t 3).cast nbuf0_3)
abbrev s_g (t : Fin cfg0.N) : Memref sig .tc .vmem S1024x1024 .bf16 := win0_4.stage (cfg0.slots t 4)
abbrev w_g (t : Fin cfg0.N) : (s_g t).IsWhole := hstage0_4 ((cfg0.slots t 4).cast nbuf0_4)
abbrev s_z (t : Fin cfg0.N) : Memref sig .tc .vmem S1x1024x1024 .f32 := win0_5.stage (cfg0.slots t 5)
abbrev w_z (t : Fin cfg0.N) : (s_z t).IsWhole := hstage0_5 ((cfg0.slots t 5).cast nbuf0_5)
abbrev s_o (t : Fin cfg0.N) : Memref sig .tc .vmem S1x1024x1024 .f32 := win0_6.stage (cfg0.slots t 6)
abbrev w_o (t : Fin cfg0.N) : (s_o t).IsWhole := hstage0_6 ((cfg0.slots t 6).cast nbuf0_6)

/-- A block of each input. -/
structure In where
  x : Vec F S1024x1024 .f32
  sc : Vec F S1x1024 .f32
  sh : Vec F S1x1024 .f32
  u : Vec F S1024x1024 .bf16
  g : Vec F S1024x1024 .bf16
  z : Vec F S1x1024x1024 .f32

/-- The input buffers, each holding its block. -/
def ins (c : Dev nD) (t : Fin cfg0.N) (b : In (F := F)) : sProp 𝕄 :=
  iprop(((s_x t).view.loc (c : Thread nD τ) ↦[(s_x t).view.set]{fullShare} (w_x t).unread b.x)
    ∗ ((s_sc t).view.loc (c : Thread nD τ) ↦[(s_sc t).view.set]{fullShare} (w_sc t).unread b.sc)
    ∗ ((s_sh t).view.loc (c : Thread nD τ) ↦[(s_sh t).view.set]{fullShare} (w_sh t).unread b.sh)
    ∗ ((s_u t).view.loc (c : Thread nD τ) ↦[(s_u t).view.set]{fullShare} (w_u t).unread b.u)
    ∗ ((s_g t).view.loc (c : Thread nD τ) ↦[(s_g t).view.set]{fullShare} (w_g t).unread b.g)
    ∗ ((s_z t).view.loc (c : Thread nD τ) ↦[(s_z t).view.set]{fullShare} (w_z t).unread b.z))

/-- The output buffer holding anything, holding a block, and after the stores `L`. -/
def any (c : Dev nD) (t : Fin cfg0.N) : sProp 𝕄 :=
  iprop(∃ f, (s_o t).view.loc (c : Thread nD τ) ↦[(s_o t).view.set]{fullShare} f)
def held (c : Dev nD) (t : Fin cfg0.N) (o : Vec F S1x1024x1024 .f32) : sProp 𝕄 :=
  iprop((s_o t).view.loc (c : Thread nD τ) ↦[(s_o t).view.set]{fullShare} (w_o t).unread o)
def wrote (c : Dev nD) (t : Fin cfg0.N) (L : List (View.Piece (Elt F) S1x1024x1024 .f32)) : sProp 𝕄 :=
  iprop(∃ f, (s_o t).view.loc (c : Thread nD τ) ↦[(s_o t).view.set]{fullShare} (s_o t).view.writes (Elt F) f L)

/-- What a run of the body from the output contents `pre` is to show of the stores `L`. -/
abbrev Runs (c : Dev nD) (t : Fin cfg0.N) (b : In (F := F)) (pre : sProp 𝕄) (L : List (View.Piece (Elt F) S1x1024x1024 .f32)) : Prop :=
  ∀ (K : PUnit → sProp 𝕄), iprop(ins c t b ∗ pre ∗ (iprop(ins c t b ∗ wrote c t L) -∗ K ⟨⟩))
    ⊢ wp frame (wpE (defs₀ (F := F)) Variants.none c none) Set.univ (bodyAt0 t) K

set_option maxHeartbeats 1000000 in
/-- A first point of the first part. -/
noncomputable def startU (c : Dev nD) (t : Fin cfg0.N) (h0 : starts (grid0.coords t)) (h1 : takesU (grid0.coords t)) (h2 : ¬takesG (grid0.coords t)) (b : In (F := F)) :
    { L // Runs c t b (any c t) L } := by
  refine ⟨?_, fun K => ?run⟩
  case run =>
    unfold bodyAt0
    simp only [cc0_inproj_bwd_w0_eq_skeleton]; unfold cc0_inproj_bwd_w0_skel
    simp only [k0_part1_eq_skeleton]
    unfold ins wrote any
    iintro ⟨⟨H0, H1, H2, H3, H4, H5⟩, ⟨%f6, H6⟩, Hk⟩
    sl_exec (disch := first | sl_exact h0 | sl_exact h1 | sl_exact h2)
    sl_step
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    iexists _; iexact H6

set_option maxHeartbeats 1000000 in
/-- A first point of the second part. -/
noncomputable def startG (c : Dev nD) (t : Fin cfg0.N) (h0 : starts (grid0.coords t)) (h1 : ¬takesU (grid0.coords t)) (h2 : takesG (grid0.coords t)) (b : In (F := F)) :
    { L // Runs c t b (any c t) L } := by
  refine ⟨?_, fun K => ?run⟩
  case run =>
    unfold bodyAt0
    simp only [cc0_inproj_bwd_w0_eq_skeleton]; unfold cc0_inproj_bwd_w0_skel
    simp only [k0_part1_eq_skeleton]
    unfold ins wrote any
    iintro ⟨⟨H0, H1, H2, H3, H4, H5⟩, ⟨%f6, H6⟩, Hk⟩
    sl_exec (disch := first | sl_exact h0 | sl_exact h1 | sl_exact h2)
    sl_step
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    iexists _; iexact H6

set_option maxHeartbeats 1000000 in
/-- A later point of the first part. -/
noncomputable def addU (c : Dev nD) (t : Fin cfg0.N) (h0 : ¬starts (grid0.coords t)) (h1 : takesU (grid0.coords t)) (h2 : ¬takesG (grid0.coords t)) (b : In (F := F)) (o : Vec F S1x1024x1024 .f32) :
    { L // Runs c t b (held c t o) L } := by
  refine ⟨?_, fun K => ?run⟩
  case run =>
    unfold bodyAt0
    simp only [cc0_inproj_bwd_w0_eq_skeleton]; unfold cc0_inproj_bwd_w0_skel
    simp only [k0_part1_eq_skeleton]
    unfold ins wrote held
    iintro ⟨⟨H0, H1, H2, H3, H4, H5⟩, H6, Hk⟩
    sl_exec (disch := first | sl_exact h0 | sl_exact h1 | sl_exact h2)
    sl_step
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    iexists _; iexact H6

set_option maxHeartbeats 1000000 in
/-- A later point of the second part. -/
noncomputable def addG (c : Dev nD) (t : Fin cfg0.N) (h0 : ¬starts (grid0.coords t)) (h1 : ¬takesU (grid0.coords t)) (h2 : takesG (grid0.coords t)) (b : In (F := F)) (o : Vec F S1x1024x1024 .f32) :
    { L // Runs c t b (held c t o) L } := by
  refine ⟨?_, fun K => ?run⟩
  case run =>
    unfold bodyAt0
    simp only [cc0_inproj_bwd_w0_eq_skeleton]; unfold cc0_inproj_bwd_w0_skel
    simp only [k0_part1_eq_skeleton]
    unfold ins wrote held
    iintro ⟨⟨H0, H1, H2, H3, H4, H5⟩, H6, Hk⟩
    sl_exec (disch := first | sl_exact h0 | sl_exact h1 | sl_exact h2)
    sl_step
    iapply Hk
    isplitl [H0 H1 H2 H3 H4 H5]
    · isplitl [H0]; · iexact H0
      isplitl [H1]; · iexact H1
      isplitl [H2]; · iexact H2
      isplitl [H3]; · iexact H3
      isplitl [H4]; · iexact H4
      iexact H5
    iexists _; iexact H6

/-- One staging buffer of the output, through which its contents are read. -/
abbrev VO : View sig .tc .vmem S1x1024x1024 .f32 := (Memref.whole cc0_stg6_0 : Memref sig .tc .vmem S1x1024x1024 .f32).view
abbrev rd (L : List (View.Piece (Elt F) S1x1024x1024 .f32)) : Vec F S1x1024x1024 .f32 := VO.read (Elt F) (VO.writes (Elt F) VO.junk L)

/-- The blocks of the inputs at a point. -/
def blks (c : Dev nD) (t : Fin cfg0.N) : In (F := F) :=
  ⟨iblk m c 0 t, iblk m c 1 t, iblk m c 2 t, iblk m c 3 t, iblk m c 4 t, iblk m c 5 t⟩

/-- The four runs at the points they are for, and what each leaves. -/
def startUAt (c : Dev nD) (t : Fin cfg0.N) (h0 : t.val % 8 = 0) (h1 : t.val < 16) (b : In (F := F)) :=
  startU c t ((starts_iff t).mpr h0) ((takesU_iff t).mpr h1) (fun h => (takesG_iff t).mp h h1) b
theorem cover_startU (c : Dev nD) (t : Fin cfg0.N) (h0 : t.val % 8 = 0) (h1 : t.val < 16) (b : In (F := F)) (i : S1x1024x1024.Idx) :
    ∃ pc ∈ (startUAt c t h0 h1 b).1, i ∈ pc.1.set :=
  View.cover_of_tiledL (startUAt c t h0 h1 b).1 S1x1024x1024.size (by sl_kernel_rfl) i
def leftStartU (c : Dev nD) (t : Fin cfg0.N) (h0 : t.val % 8 = 0) (h1 : t.val < 16) (b : In (F := F)) : Vec F S1x1024x1024 .f32 := rd (startUAt c t h0 h1 b).1
def startGAt (c : Dev nD) (t : Fin cfg0.N) (h0 : t.val % 8 = 0) (h1 : ¬t.val < 16) (b : In (F := F)) :=
  startG c t ((starts_iff t).mpr h0) (fun h => h1 ((takesU_iff t).mp h)) ((takesG_iff t).mpr h1) b
theorem cover_startG (c : Dev nD) (t : Fin cfg0.N) (h0 : t.val % 8 = 0) (h1 : ¬t.val < 16) (b : In (F := F)) (i : S1x1024x1024.Idx) :
    ∃ pc ∈ (startGAt c t h0 h1 b).1, i ∈ pc.1.set :=
  View.cover_of_tiledL (startGAt c t h0 h1 b).1 S1x1024x1024.size (by sl_kernel_rfl) i
def leftStartG (c : Dev nD) (t : Fin cfg0.N) (h0 : t.val % 8 = 0) (h1 : ¬t.val < 16) (b : In (F := F)) : Vec F S1x1024x1024 .f32 := rd (startGAt c t h0 h1 b).1
def addUAt (c : Dev nD) (t : Fin cfg0.N) (h0 : ¬t.val % 8 = 0) (h1 : t.val < 16) (b : In (F := F)) (o : Vec F S1x1024x1024 .f32) :=
  addU c t (fun h => h0 ((starts_iff t).mp h)) ((takesU_iff t).mpr h1) (fun h => (takesG_iff t).mp h h1) b o
theorem cover_addU (c : Dev nD) (t : Fin cfg0.N) (h0 : ¬t.val % 8 = 0) (h1 : t.val < 16) (b : In (F := F)) (o : Vec F S1x1024x1024 .f32) (i : S1x1024x1024.Idx) :
    ∃ pc ∈ (addUAt c t h0 h1 b o).1, i ∈ pc.1.set :=
  View.cover_of_tiledL (addUAt c t h0 h1 b o).1 S1x1024x1024.size (by sl_kernel_rfl) i
def leftAddU (c : Dev nD) (t : Fin cfg0.N) (h0 : ¬t.val % 8 = 0) (h1 : t.val < 16) (b : In (F := F)) (o : Vec F S1x1024x1024 .f32) : Vec F S1x1024x1024 .f32 := rd (addUAt c t h0 h1 b o).1
def addGAt (c : Dev nD) (t : Fin cfg0.N) (h0 : ¬t.val % 8 = 0) (h1 : ¬t.val < 16) (b : In (F := F)) (o : Vec F S1x1024x1024 .f32) :=
  addG c t (fun h => h0 ((starts_iff t).mp h)) (fun h => h1 ((takesU_iff t).mp h)) ((takesG_iff t).mpr h1) b o
theorem cover_addG (c : Dev nD) (t : Fin cfg0.N) (h0 : ¬t.val % 8 = 0) (h1 : ¬t.val < 16) (b : In (F := F)) (o : Vec F S1x1024x1024 .f32) (i : S1x1024x1024.Idx) :
    ∃ pc ∈ (addGAt c t h0 h1 b o).1, i ∈ pc.1.set :=
  View.cover_of_tiledL (addGAt c t h0 h1 b o).1 S1x1024x1024.size (by sl_kernel_rfl) i
def leftAddG (c : Dev nD) (t : Fin cfg0.N) (h0 : ¬t.val % 8 = 0) (h1 : ¬t.val < 16) (b : In (F := F)) (o : Vec F S1x1024x1024 .f32) : Vec F S1x1024x1024 .f32 := rd (addGAt c t h0 h1 b o).1

/-- What the body leaves at a point, over what was there. -/
def left (c : Dev nD) (t : Fin cfg0.N) (b : In (F := F)) (o : Vec F S1x1024x1024 .f32) : Vec F S1x1024x1024 .f32 :=
  if h0 : t.val % 8 = 0 then (if h1 : t.val < 16 then leftStartU c t h0 h1 b else leftStartG c t h0 h1 b)
  else (if h1 : t.val < 16 then leftAddU c t h0 h1 b o else leftAddG c t h0 h1 b o)

/-- The block after each point. -/
def acc (c : Dev nD) : (n : ℕ) → n < cfg0.N → Vec F S1x1024x1024 .f32
  | 0, hn => left c ⟨0, hn⟩ (blks m c ⟨0, hn⟩) (blks m c ⟨0, hn⟩).z
  | n + 1, hn => left c ⟨n + 1, hn⟩ (blks m c ⟨n + 1, hn⟩) (acc c n (Nat.lt_of_succ_lt hn))

theorem acc_start (c : Dev nD) (t : Fin cfg0.N) (h0 : t.val % 8 = 0) (o) : acc m c t.val t.isLt = left c t (blks m c t) o := by
  have e : ∀ o o', left c t (blks m c t) o = left c t (blks m c t) o' := fun o o' =>
    by unfold left; rw [dif_pos h0, dif_pos h0]
  obtain ⟨n, hn⟩ := t
  cases n with
  | zero => exact e _ _
  | succ n => exact e _ _
theorem acc_add (c : Dev nD) (t : Fin cfg0.N) (h0 : ¬t.val % 8 = 0) :
    acc m c t.val t.isLt = left c t (blks m c t) (acc m c (t.val - 1) (Nat.lt_of_le_of_lt (Nat.sub_le _ _) t.isLt)) := by
  obtain ⟨n, hn⟩ := t
  cases n with
  | zero => exact absurd rfl h0
  | succ n => rfl

/-- The proof data: the arrays as the region finds them, the inputs' blocks, the accumulated block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_o (c : Dev nD) (t : Fin cfg0.N) : (dats m 0 c).after 6 t = acc m c t.val t.isLt := by dsimp only [dats]

/-- The body stores into the output at every point. -/
theorem live_o : ∀ i, cfg0.idle 6 i = false :=
  (by decide +kernel : ∀ i : grid0.Coords, cfg0.idle 6 i = false)
/-- It does not overhang the buffer. -/
theorem uncut_o : ∀ (i : grid0.Coords) (a : Fin 3), (cfg0.win 6).clip i a = none := by decide +kernel

/-- Past the first point of its eight the block still holds what the point before left. -/
theorem before_o (c : Dev nD) (t : Fin cfg0.N) (h : ¬t.val % 8 = 0) (d) :
    (dats m 0 c).before 6 t d = acc m c (t.val - 1) (Nat.lt_of_le_of_lt (Nat.sub_le _ _) t.isLt) := by
  rw [Dat.before_out_kept _ 6 rfl t (fun e => h (by omega))
    (Bool.eq_false_iff.mpr fun hf => by have := (flush0_6 _).mp hf; dsimp only at this; omega)
    live_o uncut_o]
  dsimp only [dats]

/-- What the body is called with, and what it leaves. -/
def bodyPre (c : Dev nD) (t : Fin cfg0.N) : sProp 𝕄 :=
  iprop((dats m 0 c).Φ t.castSucc ∗ (dats m 0 c).owesAt () t.castSucc
    ∗ (∃ d, owns (c : Thread nD τ) (s_x t) fullShare ((dats m 0 c).before 0 t d))
    ∗ (∃ d, owns (c : Thread nD τ) (s_sc t) fullShare ((dats m 0 c).before 1 t d))
    ∗ (∃ d, owns (c : Thread nD τ) (s_sh t) fullShare ((dats m 0 c).before 2 t d))
    ∗ (∃ d, owns (c : Thread nD τ) (s_u t) fullShare ((dats m 0 c).before 3 t d))
    ∗ (∃ d, owns (c : Thread nD τ) (s_g t) fullShare ((dats m 0 c).before 4 t d))
    ∗ (∃ d, owns (c : Thread nD τ) (s_z t) fullShare ((dats m 0 c).before 5 t d))
    ∗ (∃ d, owns (c : Thread nD τ) (s_o t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (s_x t) fullShare ((dats m 0 c).after 0 t)
    ∗ owns (c : Thread nD τ) (s_sc t) fullShare ((dats m 0 c).after 1 t)
    ∗ owns (c : Thread nD τ) (s_sh t) fullShare ((dats m 0 c).after 2 t)
    ∗ owns (c : Thread nD τ) (s_u t) fullShare ((dats m 0 c).after 3 t)
    ∗ owns (c : Thread nD τ) (s_g t) fullShare ((dats m 0 c).after 4 t)
    ∗ owns (c : Thread nD τ) (s_z t) fullShare ((dats m 0 c).after 5 t)
    ∗ owns (c : Thread nD τ) (s_o t) fullShare ((dats m 0 c).after 6 t))

set_option maxHeartbeats 800000 in
/-- A run of the body is the body's obligation. -/
theorem obliged (c : Dev nD) (t : Fin cfg0.N) (p : sProp 𝕄) (L : List (View.Piece (Elt F) S1x1024x1024 .f32)) (hr : Runs c t (blks m c t) p L)
    (hc : ∀ i : S1x1024x1024.Idx, ∃ pc ∈ L, i ∈ pc.1.set) (e : acc m c t.val t.isLt = rd L)
    (hp : iprop(∃ d, owns (c : Thread nD τ) (s_o t) fullShare ((dats m 0 c).before 6 t d)) ⊢ p) :
    bodyPre m c t ⊢ wp frame (wpE (defs₀ (F := F)) Variants.none c none) Set.univ (bodyAt0 t) (fun _ => bodyPost m c t) := by
  refine BIBase.Entails.trans ?_ (hr (fun _ => bodyPost m c t))
  unfold bodyPre bodyPost ins wrote blks
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_o]
  unfold owns
  iintro ⟨HΦ, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, H6⟩
  obtain rfl := (w_x t).eq_unread h0
  obtain rfl := (w_sc t).eq_unread h1
  obtain rfl := (w_sh t).eq_unread h2
  obtain rfl := (w_u t).eq_unread h3
  obtain rfl := (w_g t).eq_unread h4
  obtain rfl := (w_z t).eq_unread h5
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iapply hp; unfold owns; iexact H6
  iintro ⟨⟨H0, H1, H2, H3, H4, H5⟩, ⟨%f, H6⟩⟩
  isplitl [HΦ]; · iexact HΦ
  isplitl [Ho]; · iexact Ho
  isplitl [H0]; · iexists _; isplitr; · ipureintro; exact (w_x t).read_unread _
                  iexact H0
  isplitl [H1]; · iexists _; isplitr; · ipureintro; exact (w_sc t).read_unread _
                  iexact H1
  isplitl [H2]; · iexists _; isplitr; · ipureintro; exact (w_sh t).read_unread _
                  iexact H2
  isplitl [H3]; · iexists _; isplitr; · ipureintro; exact (w_u t).read_unread _
                  iexact H3
  isplitl [H4]; · iexists _; isplitr; · ipureintro; exact (w_g t).read_unread _
                  iexact H4
  isplitl [H5]; · iexists _; isplitr; · ipureintro; exact (w_z t).read_unread _
                  iexact H5
  iexists _; isplitr
  swap; · iexact H6
  ipureintro; rw [e]; exact View.read_writes_of_cover _ _ _ _ _ hc

theorem to_any (c : Dev nD) (t : Fin cfg0.N) :
    iprop(∃ d, owns (c : Thread nD τ) (s_o t) fullShare ((dats m 0 c).before 6 t d)) ⊢ any c t := by
  unfold any owns
  iintro ⟨%d, %f, -, H⟩; iexists _; iexact H

set_option maxHeartbeats 4000000 in
theorem to_held (c : Dev nD) (t : Fin cfg0.N) (h : ¬t.val % 8 = 0) :
    iprop(∃ d, owns (c : Thread nD τ) (s_o t) fullShare ((dats m 0 c).before 6 t d))
      ⊢ held c t (acc m c (t.val - 1) (Nat.lt_of_le_of_lt (Nat.sub_le _ _) t.isLt)) := by
  simp only [before_o m c t h]
  unfold held owns
  iintro ⟨%d, %f, %hf, H⟩
  obtain rfl := (w_o t).eq_unread hf
  iexact H

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases h1 : t.val < 16
    · exact obliged m c t _ _ (startUAt c t h0 h1 _).2 (cover_startU c t h0 h1 _)
        ((acc_start m c t h0 (blks m c t).z).trans ((dif_pos h0).trans (dif_pos h1))) (to_any m c t)
    · exact obliged m c t _ _ (startGAt c t h0 h1 _).2 (cover_startG c t h0 h1 _)
        ((acc_start m c t h0 (blks m c t).z).trans ((dif_pos h0).trans (dif_neg h1))) (to_any m c t)
  · by_cases h1 : t.val < 16
    · exact obliged m c t _ _ (addUAt c t h0 h1 _ _).2 (cover_addU c t h0 h1 _ _)
        ((acc_add m c t h0).trans ((dif_neg h0).trans (dif_pos h1))) (to_held m c t h0)
    · exact obliged m c t _ _ (addGAt c t h0 h1 _ _).2 (cover_addG c t h0 h1 _ _)
        ((acc_add m c t h0).trans ((dif_neg h0).trans (dif_neg h1))) (to_held m c t h0)

theorem row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ := fun t => by
  rw [bigSep_W0, bigSep_W0, row]
  refine triple_restated (sound_body m c t) rfl .rfl fun _ => ?_
  unfold bodyPost
  have e : cfg0.idle 6 (cfg0.grid.coords t) = false := live_o _
  generalize cfg0.idle 6 (cfg0.grid.coords t) = k at e ⊢
  subst e
  exact .rfl

set_option backward.isDefEq.respectTransparency.types false in
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame, at any arithmetic. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ))
    ((θ_run defs _ _).mono (fun _ h => h.2) (run_quiet m ρ))

end Cert.InWIdeal.Hand

end
-- ==== Proof.InWBits.lean ====
module

public import proofs.«01_k».proof.Proof.InWRun
public import proofs.«01_k».proof.Proof.Gen.InW
public import proofs.«01_k».proof.Defs

@[expose] public section

set_option maxRecDepth 65536
set_option maxHeartbeats 8000000

namespace Cert.InWIdeal.Hand

theorem frame_bits : Cert.quiescent_InW (hInW := Cert.InW.Gen.facts) := fun m ρ _ => by
  refine Eq.mp ?_ (frame (F := Idealize.ShloMosaic.Bits) m ρ)
  sl_kernel_rfl

end Cert.InWIdeal.Hand
-- ==== Proof.InWVal.lean ====
module

public import proofs.«01_k».proof.Proof.InWRun
public import proofs.«01_k».proof.Proof.Gen.InWRefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.InWIdeal.Val

open Cert.InWIdeal Cert.InWIdeal.Gen Cert.InWIdeal.Hand
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 8, 0] ∧ win0_1.index t = ![0, 0] ∧ win0_2.index t = ![0, 0]
    ∧ win0_3.index t = ![t.val % 8, t.val / 8 % 2] ∧ win0_4.index t = ![t.val % 8, t.val / 8 % 2]
    ∧ win0_5.index t = ![t.val / 8, 0, 0] ∧ win0_6.index t = ![t.val / 8, 0, 0] :=
  (by decide +kernel : ∀ t : Fin grid0.N, _)

abbrev ax (c : Dev nD) : FVec Ideal S8192x1024 .f32 := m ((c : Thread nD τ).loc main_arg0)
abbrev asc (c : Dev nD) : FVec Ideal S1x1024 .f32 := m ((c : Thread nD τ).loc main_arg1)
abbrev ash (c : Dev nD) : FVec Ideal S1x1024 .f32 := m ((c : Thread nD τ).loc main_arg2)
abbrev au (c : Dev nD) : FVec Ideal S8192x2048 .f32 := m ((c : Thread nD τ).loc main_arg3)
abbrev ag (c : Dev nD) : FVec Ideal S8192x2048 .f32 := m ((c : Thread nD τ).loc main_arg4)
abbrev ai (c : Dev nD) : FVec Ideal S1024x4096 .f32 := m ((c : Thread nD τ).loc main_arg5)
abbrev ab (c : Dev nD) : FVec Ideal S4x1792x1024 .f32 := m ((c : Thread nD τ).loc main_arg6)

/-- A point's product: the modulated rows with the columns of the gradient. -/
def prod (x : FVec Ideal S1024x1024 .f32) (s h : FVec Ideal S1x1024 .f32) (u : FVec Ideal S1024x1024 .bf16) (y : S1x1024x1024.Idx) : EReal :=
  ∑ r : Fin 1024, (x (ix2 r (y 1)) * s (ix2 0 (y 1)) + h (ix2 0 (y 1))) * u (ix2 r (y 2))

theorem hu (x : FVec Ideal S1024x1024 .f32) (s h : FVec Ideal S1x1024 .f32) (a : FVec Ideal S1x1024x1024 .f32)
    (u : FVec Ideal S1024x1024 .bf16) (y : S1x1024x1024.Idx) :
    k0_pay4 (F := Ideal) x s h a u y = a y + prod x s h u y := by
  unfold prod
  pointwise [k0_pay4, k0_pay2]
theorem hg (x : FVec Ideal S1024x1024 .f32) (s h : FVec Ideal S1x1024 .f32) (a : FVec Ideal S1x1024x1024 .f32)
    (u : FVec Ideal S1024x1024 .bf16) (y : S1x1024x1024.Idx) :
    k0_pay1 (F := Ideal) (k0_pay2 (F := Ideal) x s h) a u y = a y + prod x s h u y := by
  unfold prod
  pointwise [k0_pay1, k0_pay2]
theorem hi (a : FVec Ideal S1x1024x1024 .f32) (y : S1x1024x1024.Idx) : k0_pay3 (F := Ideal) a y = a y := by
  pointwise [k0_pay3]

theorem startU_at (c : Dev nD) (t : Fin cfg0.N) (h0) (h1) (b : In (F := Ideal)) (y : S1x1024x1024.Idx) :
    leftStartU c t h0 h1 b y = b.z y + prod b.x b.sc b.sh b.u y := by
  unfold leftStartU startUAt rd
  frame_out
  rw [hu, hi]
theorem startG_at (c : Dev nD) (t : Fin cfg0.N) (h0) (h1) (b : In (F := Ideal)) (y : S1x1024x1024.Idx) :
    leftStartG c t h0 h1 b y = b.z y + prod b.x b.sc b.sh b.g y := by
  unfold leftStartG startGAt rd
  frame_out
  rw [hg, hi]
theorem addU_at (c : Dev nD) (t : Fin cfg0.N) (h0) (h1) (b : In (F := Ideal)) (o : FVec Ideal S1x1024x1024 .f32) (y : S1x1024x1024.Idx) :
    leftAddU c t h0 h1 b o y = o y + prod b.x b.sc b.sh b.u y := by
  unfold leftAddU addUAt rd
  frame_out
  rw [hu]
theorem addG_at (c : Dev nD) (t : Fin cfg0.N) (h0) (h1) (b : In (F := Ideal)) (o : FVec Ideal S1x1024x1024 .f32) (y : S1x1024x1024.Idx) :
    leftAddG c t h0 h1 b o y = o y + prod b.x b.sc b.sh b.g y := by
  unfold leftAddG addGAt rd
  frame_out
  rw [hg]

/-- What a point adds: the starting block at the first of its eight, and the product with its part's columns. -/
def term (c : Dev nD) (t : Fin cfg0.N) (y : S1x1024x1024.Idx) : EReal :=
  (if t.val % 8 = 0 then (show FVec Ideal S1x1024x1024 .f32 from iblk m c 5 t) y else (0 : EReal))
    + prod (iblk m c 0 t) (iblk m c 1 t) (iblk m c 2 t) (if t.val < 16 then iblk m c 3 t else iblk m c 4 t) y

theorem acc_first (c : Dev nD) (t : Fin cfg0.N) (h : t.val % 8 = 0) (y : S1x1024x1024.Idx) :
    acc m c t.val t.isLt y = 0 + term m c t y := by
  rw [acc_start m c t h (blks m c t).z, zero_add]
  unfold left term
  rw [dif_pos h, if_pos h]
  by_cases h1 : t.val < 16
  · rw [dif_pos h1, if_pos h1, startU_at]; rfl
  · rw [dif_neg h1, if_neg h1, startG_at]; rfl
theorem acc_later (c : Dev nD) (t : Fin cfg0.N) (h : ¬t.val % 8 = 0) (y : S1x1024x1024.Idx) :
    acc m c t.val t.isLt y = acc m c (t.val - 1) (Nat.lt_of_le_of_lt (Nat.sub_le _ _) t.isLt) y + term m c t y := by
  rw [acc_add m c t h]
  unfold left term
  rw [dif_neg h, if_neg h, zero_add]
  by_cases h1 : t.val < 16
  · rw [dif_pos h1, if_pos h1, addU_at]; rfl
  · rw [dif_neg h1, if_neg h1, addG_at]; rfl

/-- The modulation's factor as the call finds it: one plus the scale. -/
theorem sc_at (c : Dev nD) (t : Fin cfg0.N) (k : Fin 1024) : (iblk m c 1 t : FVec Ideal S1x1024 .f32) (ix2 0 k) = 1 + asc m c (ix2 0 k) := by
  have e : ∀ i : S1x1024.Idx, (V m c (Pipeline.arrRef spec0 1) : FVec Ideal S1x1024 .f32) i = 1 + asc m c i := fun i => by
    entry_read; pointwise
  refine Eq.trans ?_ (e (ix2 0 k))
  blk_ext [iblk, idx t]

/-- The starting block: a quarter of the columns of the array the host cuts into four. -/
theorem init_at (c : Dev nD) (t : Fin cfg0.N) (y : S1x1024x1024.Idx) (h : t.val / 8 * 1024 + (y 2).val < 4096) :
    (iblk m c 5 t : FVec Ideal S1x1024x1024 .f32) y = ai m c (ix2 (y 1) ⟨t.val / 8 * 1024 + (y 2).val, h⟩) := by
  have y2 : (y 2).val < 1024 := (y 2).isLt
  have e : ∀ (q : Fin 4) (r k : Fin 1024) (e : Fin 4096), e.val = q.val * 1024 + k.val →
      (V m c (Pipeline.arrRef spec0 5) : FVec Ideal S4x1024x1024 .f32) (ix3 q r k) = ai m c (ix2 r e) := fun q r k e he => by
    entry_read
    pointwise
    blk_ext
  refine Eq.trans ?_ (e ⟨t.val / 8, by omega⟩ (y 1) (y 2) ⟨t.val / 8 * 1024 + (y 2).val, h⟩ rfl)
  blk_ext [iblk, idx t]

theorem x_blk (c : Dev nD) (t : Fin cfg0.N) (r k : Fin 1024) (R : Fin 8192) (hR : R.val = 1024 * (t.val % 8) + r.val) :
    (iblk m c 0 t : FVec Ideal S1024x1024 .f32) (ix2 r k) = ax m c (ix2 R k) := by
  blk_point [iblk, V, idx t]
theorem sh_blk (c : Dev nD) (t : Fin cfg0.N) (k : Fin 1024) : (iblk m c 2 t : FVec Ideal S1x1024 .f32) (ix2 0 k) = ash m c (ix2 0 k) := by
  blk_point [iblk, V, idx t]
theorem u_blk (c : Dev nD) (t : Fin cfg0.N) (r k : Fin 1024) (R : Fin 8192) (K : Fin 2048) (hR : R.val = 1024 * (t.val % 8) + r.val)
    (hK : K.val = 1024 * (t.val / 8 % 2) + k.val) : (iblk m c 3 t : FVec Ideal S1024x1024 .bf16) (ix2 r k) = au m c (ix2 R K) := by
  blk_point [iblk, V, idx t]
theorem g_blk (c : Dev nD) (t : Fin cfg0.N) (r k : Fin 1024) (R : Fin 8192) (K : Fin 2048) (hR : R.val = 1024 * (t.val % 8) + r.val)
    (hK : K.val = 1024 * (t.val / 8 % 2) + k.val) : (iblk m c 4 t : FVec Ideal S1024x1024 .bf16) (ix2 r k) = ag m c (ix2 R K) := by
  blk_point [iblk, V, idx t]

open Cert.InWRefIdeal.Read

/-- The reference's buffer: in the rows of the gradient the gradient, elsewhere what was there. -/
theorem v16_at (x : FVec Ideal S8192x1024 .f32) (s h : FVec Ideal S1x1024 .f32) (u g : FVec Ideal S8192x2048 .f32) (i : FVec Ideal S1024x4096 .f32)
    (b : FVec Ideal S4x1792x1024 .f32) (z : S4x1792x1024.Idx) :
    val_main_v16 (F := Ideal) x s h u g i b z = if k : (z 1).val < 1024 then
      val_main_v15 (F := Ideal) x s h u g i (ix3 (z 0) ⟨(z 1).val, k⟩ (z 2)) else b z := by
  pointwise [val_main_v16, val_main_c, val_main_c_1, val_main_c_2]
  have cc : ∀ hh (a : Fin 3), Host.clampedStart Cert.InWRefIdeal.S4x1792x1024 Cert.InWRefIdeal.S4x1024x1024 hh
      (fun k => BitVec.toInt (![constantI Cert.InWRefIdeal.S_ 32 0#32, constantI Cert.InWRefIdeal.S_ 32 0#32, constantI Cert.InWRefIdeal.S_ 32 0#32] k (Shape.Idx.first Cert.InWRefIdeal.Gen.h_S_))) a = 0 := fun _ a => by
    match a with | ⟨0, _⟩ => rfl | ⟨1, _⟩ => rfl | ⟨2, _⟩ => rfl
  have c0 := fun hh => cc hh 0
  have c1 := fun hh => cc hh 1
  have c2 := fun hh => cc hh 2
  simp only [c0, c1, c2]
  by_cases k : (z 1).val < 1024
  · rw [dif_pos ⟨Nat.zero_le _, ⟨Nat.zero_le _, by omega⟩, Nat.zero_le _⟩, dif_pos k]
    rfl
  · rw [dif_neg fun hh => k (by omega), dif_neg k]

theorem v15_at (x : FVec Ideal S8192x1024 .f32) (s h : FVec Ideal S1x1024 .f32) (u g : FVec Ideal S8192x2048 .f32) (i : FVec Ideal S1024x4096 .f32)
    (z : S4x1024x1024.Idx) (k : Fin 4096) (hk : (z 0).val * 1024 + (z 2).val = k.val) :
    val_main_v15 (F := Ideal) x s h u g i z = i (ix2 (z 1) k)
      + ∑ R : Fin 8192, (x (ix2 R (z 1)) * (1 + s (ix2 0 (z 1))) + h (ix2 0 (z 1))) * (val_main_v10 (F := Ideal) u g) (ix2 R k) := by
  have e : k = ⟨(z 0).val * 1024 + (z 2).val, hk ▸ k.isLt⟩ := Fin.ext hk.symm
  rw [e]
  generalize hv : val_main_v10 (F := Ideal) u g = v
  pointwise [val_main_v15, val_main_v14, val_main_v13, val_main_v12, val_main_v11, val_main_v6, val_main_v5, val_main_v4, val_main_v3,
    val_main_v2, val_main_v1, val_main_cst_0]
  rw [hv]
  refine congrArg₂ (· + ·) rfl (Finset.sum_congr (M := EReal) rfl fun R _ => ?_)
  exact mul_comm _ _

theorem v10_at (u g : FVec Ideal S8192x2048 .f32) (R : Fin 8192) (k : Fin 4096) : val_main_v10 (F := Ideal) u g (ix2 R k)
    = if h : k.val < 2048 then u (ix2 R ⟨k.val, h⟩) else g (ix2 R ⟨k.val - 2048, by omega⟩) := by
  pointwise [val_main_v10]

/-- The entry of the reference's gradient in a quarter of the columns: its part's columns. -/
theorem cols_at (c : Dev nD) (t : Fin cfg0.N) (r k : Fin 1024) (R : Fin 8192) (K : Fin 4096) (hR : R.val = 1024 * (t.val % 8) + r.val)
    (hK : K.val = t.val / 8 * 1024 + k.val) : ((if t.val < 16 then iblk m c 3 t else iblk m c 4 t : FVec Ideal S1024x1024 .bf16) (ix2 r k) : EReal)
      = val_main_v10 (F := Ideal) (au m c) (ag m c) (ix2 R K) := by
  have ht : t.val < 32 := lt_of_lt_of_eq t.isLt N_0
  have hk := k.isLt
  rw [v10_at]
  by_cases h : t.val < 16
  · rw [if_pos h, dif_pos (by omega)]
    exact u_blk m c t r k R ⟨K.val, by omega⟩ hR (by show K.val = _; omega)
  · rw [if_neg h, dif_neg (by omega)]
    exact g_blk m c t r k R ⟨K.val - 2048, by omega⟩ hR (by show K.val - 2048 = _; omega)

/-- What the last of a quarter's eight points leaves, where the block lies in the buffer. -/
theorem point (c : Dev nD) (t : Fin cfg0.N) (q : t.val % 8 = 7) (x : S1x1024x1024.Idx) (z : S4x1792x1024.Idx) (e0 : (z 0).val = t.val / 8)
    (e1 : (z 1).val = (x 1).val) (e2 : (z 2).val = (x 2).val) : acc m c t.val t.isLt x
      = val_main_v16 (F := Ideal) (ax m c) (asc m c) (ash m c) (au m c) (ag m c) (ai m c) (ab m c) z := by
  have ht : t.val < 32 := lt_of_lt_of_eq t.isLt N_0
  have x1 : (x 1).val < 1024 := (x 1).isLt
  have x2 : (x 2).val < 1024 := (x 2).isLt
  rw [Pipeline.eq_sum_fin_of_reset_step_apply_of_flush (fun n h => acc m c n h) 8 (fun _ => 0) _
    (fun t h j => acc_first m c t h j) (fun t h j => acc_later m c t h j) t q x, zero_add]
  rw [v16_at, dif_pos (by omega), v15_at _ _ _ _ _ _ _ ⟨t.val / 8 * 1024 + (x 2).val, by omega⟩ (by
    show (z 0).val * 1024 + (z 2).val = t.val / 8 * 1024 + (x 2).val; omega)]
  refine (Finset.sum_add_distrib (M := EReal)).trans (congrArg₂ (· + ·) ?_ ?_)
  · refine (Finset.sum_eq_single (M := EReal) (0 : Fin 8) (fun s _ hs => if_neg ?_) (fun h => absurd (Finset.mem_univ _) h)).trans ?_
    · have := s.isLt
      have h0 : s.val ≠ 0 := fun e => hs (Fin.ext e)
      show ¬(8 * (t.val / 8) + s.val) % 8 = 0
      omega
    · refine (if_pos (show (8 * (t.val / 8) + 0) % 8 = 0 by omega)).trans ?_
      have hq : (8 * (t.val / 8) + 0) / 8 = t.val / 8 := by omega
      refine (init_at m c ⟨8 * (t.val / 8) + 0, by omega⟩ x (by show (8 * (t.val / 8) + 0) / 8 * 1024 + _ < _; omega)).trans ?_
      refine congrArg (ai m c) (congrArg₂ ix2 (Fin.ext e1.symm) (Fin.ext ?_))
      show (8 * (t.val / 8) + 0) / 8 * 1024 + (x 2).val = t.val / 8 * 1024 + (x 2).val
      omega
  · refine Fin.sum_mul_add_congr fun s r h => ?_
    have hs := s.isLt
    have hq : (8 * (t.val / 8) + s.val) / 8 = t.val / 8 := by omega
    have hR : s.val * 1024 + r.val = 1024 * ((8 * (t.val / 8) + s.val) % 8) + r.val := by omega
    have ez : (⟨(z 1).val, by omega⟩ : Fin 1024) = x 1 := Fin.ext e1
    refine congrArg₂ (· * ·) (congrArg₂ (· + ·) (congrArg₂ (· * ·) ?_ ?_) ?_) ?_
    · exact (x_blk m c _ r (x 1) ⟨s.val * 1024 + r.val, h⟩ hR).trans (congrArg (fun j => ax m c (ix2 _ j)) ez.symm)
    · exact (sc_at m c _ (x 1)).trans (congrArg (fun j => 1 + asc m c (ix2 0 j)) ez.symm)
    · exact (sh_blk m c _ (x 1)).trans (congrArg (fun j => ash m c (ix2 0 j)) ez.symm)
    · exact cols_at m c _ r (x 2) ⟨s.val * 1024 + r.val, h⟩ ⟨t.val / 8 * 1024 + (x 2).val, by omega⟩ hR
        (by show t.val / 8 * 1024 + (x 2).val = (8 * (t.val / 8) + s.val) / 8 * 1024 + (x 2).val; omega)

theorem final6 (c : Dev nD) : (dats m 0 c).arrAt 6 (cfgs 0).N
    = val_main_v16 (F := Ideal) (ax m c) (asc m c) (ash m c) (au m c) (ag m c) (ai m c) (ab m c) := by
  refine (dats m 0 c).arrAt_eq_of_coversWhere_of_agree 6 _ (fun β => β (1 : Fin 3) = 0) (by decide +kernel) (fun t hf y => ?_) (fun j hj => ?_)
  · have y0 : (y 0).val < 1 := (((cfg0.win 6).xinj (cfg0.grid.coords t) y : S1x1024x1024.Idx) 0).isLt
    blk_simp
    rw [after_o]
    exact point m c t ((flush0_6 t).mp hf) ((cfg0.win 6).xinj (cfg0.grid.coords t) y) _ (by blk_simp [idx t] <;> try omega)
      (by blk_simp [idx t] <;> try rfl) (by blk_simp [idx t] <;> try rfl)
  · have hz : ¬(j 1).val < 1024 := fun h => hj (show (j 1).val / 1024 = 0 by omega)
    refine Eq.trans ?_ ((v16_at (ax m c) (asc m c) (ash m c) (au m c) (ag m c) (ai m c) (ab m c) j).trans (dif_neg hz)).symm
    rw [A_eq]
    exact congrFun (show (V m c main_arg6 : FVec Ideal S4x1792x1024 .f32) = ab m c by entry_read; rfl) j

theorem algebraic : Cert.algebraic_InWIdeal_InWRefIdeal := by
  pair_intro
  · run_from Cert.InWIdeal.Hand.run_main m g
  · refine (θ_run Cert.InWRefIdeal.defs _ _).mono (fun r h c => ?_) (Cert.InWRefIdeal.Value.run m' g')
    obtain ⟨h0, rest⟩ := h c
    obtain ⟨e0, e1, e2, e3, e4, e5, e6⟩ := hagree c
    rw [e0, e1, e2, e3, e4, e5, e6] at h0
    exact ⟨h0.trans ((val_main_v16_eq (F := Ideal) (ax m c) (asc m c) (ash m c) (au m c) (ag m c) (ai m c) (ab m c)).trans (final6 m c).symm), rest⟩

end Cert.InWIdeal.Val

end
-- ==== Proof.ModWRun.lean ====
/-  The gradient of the modulation's weight: the table the call prefetches names the chip's columns, so every block lies inside
    its array, and the frame follows. -/
module

public import proofs.«01_k».proof.Proof.Gen.ModWIdeal.Frame
public import Idealize.ShloMosaic.Lib.Pipeline.ValueKit

@[expose] public section

set_option maxRecDepth 16384

noncomputable section

namespace Cert.ModWIdeal.Hand

open Cert.ModWIdeal Cert.ModWIdeal.Gen
open Idealize.ShloMosaic Idealize.ShloMosaic.TcCoe Idealize.SL.Sem

variable {F : FTy → Type} [FloatOps F]
variable (m : (ℓ : Loc nD τ sig) → Buf (Elt F) ℓ)

theorem tbl_eq : tbl (F := F) m 0 = fun i => lit0 (S2.rowMajor i) := by
  show V m (0 : Dev nD) main_c = _
  entry_read
  rfl

theorem tbl_at : (tbl (F := F) m).at 0 (Rect.unit (s := S2) ![1] S1.size inb_S2_S1_1) numel1_S1 = 1#32 := by
  have e : tbl (F := F) m = fun | 0 => fun i => lit0 (S2.rowMajor i) := by
    funext j
    fin_cases j
    exact tbl_eq m
  rw [e]
  rfl

theorem ix1 (i : grid0.Coords) : cc0_transform_1 inb_S2_S1_1 numel1_S1 (tbl (F := F) m) i = ![1 + 2 * (i 0).val, 0, 1] := by
  unfold cc0_transform_1
  simp only [tbl_at]
  have h : ∀ n : Fin 2, ![(Scalar.addi 1#32 (Scalar.muli 2#32 (BitVec.ofNat 32 n.val))).toNat, (0#32).toNat, (1#32).toNat] = ![1 + 2 * n.val, 0, 1] := by decide +kernel
  exact h (i 0)

theorem ix2' (i : grid0.Coords) : cc0_transform_2 inb_S2_S1_1 numel1_S1 (tbl (F := F) m) i = ![2, 0, 1] := by
  unfold cc0_transform_2
  simp only [tbl_at]
  rfl

theorem ok : Ok (F := F) m := by
  refine ⟨fun i => ⟨?_, .inl rfl⟩, fun i => ⟨?_, .inl rfl⟩⟩
  · rw [ix1]
    exact (by decide +kernel : ∀ n : Fin 2, ∀ a : Fin 3, ((![1 + 2 * n.val, 0, 1] : Fin 3 → Nat) a + 1) * S1x8x768.size a ≤ S24x8x3072.size a) (i 0)
  · rw [ix2']
    decide +kernel

theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := Cert.ModWIdeal.Gen.frame m ρ (ok m)

end Cert.ModWIdeal.Hand

end
-- ==== Proof.ModWBits.lean ====
module

public import proofs.«01_k».proof.Proof.ModWRun
public import proofs.«01_k».proof.Proof.Gen.ModW
public import proofs.«01_k».proof.Defs

@[expose] public section

set_option maxRecDepth 65536
set_option maxHeartbeats 8000000

namespace Cert.ModWIdeal.Hand

theorem frame_bits : Cert.quiescent_ModW (hModW := Cert.ModW.Gen.facts) := fun m ρ _ => by
  refine Eq.mp ?_ (frame (F := Idealize.ShloMosaic.Bits) m ρ)
  sl_kernel_rfl

end Cert.ModWIdeal.Hand
-- ==== Proof.ModWVal.lean ====
/-  The gradient of the modulation's weight: the eight devices' rows and the context's row, multiplied and added. -/
module

public import proofs.«01_k».proof.Proof.ModWRun
public import proofs.«01_k».proof.Proof.Gate
public import proofs.«01_k».proof.Proof.Gen.ModWRefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 65536
set_option maxHeartbeats 4000000

noncomputable section

namespace Cert.ModWIdeal.Val

open Cert.ModWIdeal Cert.ModWIdeal.Gen Cert.ModWIdeal.Hand Cert.Scalars
open Idealize.ShloMosaic Idealize.ShloMosaic.TcCoe Idealize.SL.Sem
open Idealize.ShloMosaic.Pipeline (Dat)
open Cert.ModWRefIdeal.Read

variable (m : (ℓ : Loc nD τ sig) → Buf (Elt Ideal) ℓ)

abbrev ac (c : Dev nD) : FVec Ideal S8x1024 .f32 := m ((c : Thread nD τ).loc main_arg0)
abbrev ax (c : Dev nD) : FVec Ideal S1024 .f32 := m ((c : Thread nD τ).loc main_arg1)
abbrev a0 (c : Dev nD) : FVec Ideal S8x3072 .f32 := m ((c : Thread nD τ).loc main_arg2)
abbrev ad (c : Dev nD) : FVec Ideal S8x3072 .f32 := m ((c : Thread nD τ).loc main_arg3)
abbrev a1 (c : Dev nD) : FVec Ideal S8x3072 .f32 := m ((c : Thread nD τ).loc main_arg4)

/-- The gated value of a row. -/
def silu (v : EReal) : EReal := v * Scalars.sig v

/-- Sixteen rows are eight, one and seven. -/
theorem sum16 (f : Fin 16 → EReal) (h : ∀ r : Fin 16, 9 ≤ r.val → f r = 0) : ∑ r, f r = (∑ r : Fin 8, f ⟨r.val, by omega⟩) + f 8 := by
  have h1 := Fin.sum_univ_add (a := 8) (b := 8) f
  have h2 := Fin.sum_univ_succ (n := 7) fun i => f (Fin.natAdd 8 i)
  have h3 : ∑ i : Fin 7, f (Fin.natAdd 8 i.succ) = 0 := Finset.sum_eq_zero fun i _ => h _ (by show 9 ≤ 8 + (i.val + 1); omega)
  rw [h1, h2, h3, add_zero]
  rfl

theorem hp (i : grid0.Coords) (x : FVec Ideal S1x8x1024 .f32) (v : FVec Ideal S1x1024 .f32) (e : FVec Ideal S1x8x768 .f32) (d : FVec Ideal S1x8x768 .f32) (j : S1x1024x768.Idx) :
    k0_pay1 (F := Ideal) (k0_pay2 (F := Ideal) i x v e d) j
      = (∑ r : Fin 8, silu (x (ix3 0 r (j 1))) * d (ix3 0 r (j 2))) + silu (v (ix2 0 (j 1))) * (if (i 0).val = 0 then ∑ r : Fin 8, e (ix3 0 r (j 2)) else 0) := by
  have hs : Scalar.select (Scalar.cmpi .eq (BitVec.ofNat 32 (i 0).val) 0#32) (∑ r : Fin 8, e (ix3 0 r (j 2))) 0 = if (i 0).val = 0 then ∑ r : Fin 8, e (ix3 0 r (j 2)) else 0 := by
    have h : ∀ n : Fin 2, (Scalar.cmpi .eq (BitVec.ofNat 32 n.val) 0#32) = if n.val = 0 then 1#1 else 0#1 := by decide +kernel
    rw [h (i 0)]
    by_cases h0 : (i 0).val = 0
    · rw [if_pos h0, if_pos h0]; rfl
    · rw [if_neg h0, if_neg h0]; rfl
  pointwise [k0_pay1, k0_pay2]
  rw [hs]
  refine (sum16 _ fun r hr => ?_).trans (congrArg₂ (· + ·) (Finset.sum_congr (M := EReal) rfl fun r _ => ?_) ?_)
  · rw [dif_neg (by omega), dif_neg (by omega), zero_mul]
  · have hr := r.isLt
    rw [dif_pos hr, dif_pos hr, gate]
    rfl
  · rw [dif_neg (by decide), dif_pos (by decide), dif_neg (by decide), dif_pos (by decide), gate]
    rfl

theorem cat_at (p q u v : FVec Ideal S1x8x3072 .f32) (w : FVec Ideal S20x8x3072 .f32) (h) (n : Fin 24) (r : Fin 8) (k : Fin 3072) (hn : n.val < 4) :
    concatenate S24x8x3072 0 [⟨S1x8x3072, p⟩, ⟨S1x8x3072, q⟩, ⟨S1x8x3072, u⟩, ⟨S1x8x3072, v⟩, ⟨S20x8x3072, w⟩] h (ix3 n r k)
      = (if n.val = 0 then p else if n.val = 1 then q else if n.val = 2 then u else v) (ix3 0 r k) := by
  pointwise
  obtain ⟨n, hl⟩ := n
  have hc : n = 0 ∨ n = 1 ∨ n = 2 ∨ n = 3 := by have : n < 4 := hn; omega
  rcases hc with rfl | rfl | rfl | rfl <;> rfl

/-- The host's arrays before the packed one. -/
abbrev W0 (c : Dev nD) : Valuation τ sig (Elt Ideal) := StableHlo.after ((hostOps0 (F := Ideal)).take 10) (fun b => m (c, b))

theorem V_pre (c : Dev nD) (b : Ref sig .tc) (h7 : b ≠ main_v7) (h8 : b ≠ main_v8) : V m c b = W0 m c (Proc.devRef .tc b) := by
  rw [V]
  simp only [StableHlo.after_cons, StableHlo.after_nil]
  rw [StableHlo.unary_result_ne' (h := h8), StableHlo.nary_result_ne' (h := h7)]
  rfl

theorem gt_arr (c : Dev nD) : (V m c main_v7 : FVec Ideal S24x8x3072 .f32) = concatenate S24x8x3072 0
    [⟨S1x8x3072, (V m c main_v2 : FVec Ideal S1x8x3072 .f32)⟩, ⟨S1x8x3072, (V m c main_v3 : FVec Ideal S1x8x3072 .f32)⟩, ⟨S1x8x3072, (V m c main_v4 : FVec Ideal S1x8x3072 .f32)⟩,
      ⟨S1x8x3072, (V m c main_v5 : FVec Ideal S1x8x3072 .f32)⟩, ⟨S20x8x3072, (V m c main_v6 : FVec Ideal S20x8x3072 .f32)⟩] concatenates_S1x8x3072_S1x8x3072_S1x8x3072_S1x8x3072_S20x8x3072_S24x8x3072_d0 := by
  rw [V_pre m c main_v2 (by decide) (by decide), V_pre m c main_v3 (by decide) (by decide), V_pre m c main_v4 (by decide) (by decide), V_pre m c main_v5 (by decide) (by decide), V_pre m c main_v6 (by decide) (by decide)]
  rw [V]
  simp only [StableHlo.after_cons, StableHlo.after_nil]
  rw [StableHlo.unary_result_ne' (r := main_v7) (y := main_v8) (h := by decide), StableHlo.nary_result']
  rfl

/-- The rows the devices handed one another, as the call's host lines pack them. -/
theorem gt_at (c : Dev nD) (n : Fin 24) (r : Fin 8) (k : Fin 3072) (hn : n.val < 4) : (V m c main_v7 : FVec Ideal S24x8x3072 .f32) (ix3 n r k)
    = if n.val = 0 then (if h : k.val < 1024 then ac m c (ix2 r ⟨k.val, h⟩) else 0) else (if n.val = 1 then a0 m c else if n.val = 2 then ad m c else a1 m c) (ix2 r k) := by
  refine ((congrFun (gt_arr m c) _).trans (cat_at _ _ _ _ _ _ n r k hn)).trans ?_
  by_cases h0 : n.val = 0
  · rw [if_pos h0, if_pos h0]
    entry_read
    pointwise
  · rw [if_neg h0, if_neg h0]
    by_cases h1 : n.val = 1
    · rw [if_pos h1, if_pos h1]
      entry_read
      pointwise
    · rw [if_neg h1, if_neg h1]
      by_cases h2 : n.val = 2
      · rw [if_pos h2, if_pos h2]
        entry_read
        pointwise
      · rw [if_neg h2, if_neg h2]
        entry_read
        pointwise

theorem idx0 (t : Fin (cfgM m (ok m)).N) : ((cfgM m (ok m)).win 0).index t = ![0, 0, 0] := rfl
theorem idx1 (t : Fin (cfgM m (ok m)).N) : ((cfgM m (ok m)).win 1).index t = ![1 + 2 * t.val, 0, 1] :=
  (Hand.ix1 m (grid0.coords t)).trans (congrArg (fun n => ![1 + 2 * n, 0, 1]) ((by decide +kernel : ∀ t : Fin grid0.N, (grid0.coords t 0).val = t.val) t))
theorem idx2 (t : Fin (cfgM m (ok m)).N) : ((cfgM m (ok m)).win 2).index t = ![2, 0, 1] := Hand.ix2' m (grid0.coords t)
theorem idx3 (t : Fin (cfgM m (ok m)).N) : ((cfgM m (ok m)).win 3).index t = ![0, 0] := rfl
theorem idx4 (t : Fin (cfgM m (ok m)).N) : ((cfgM m (ok m)).win 4).index t = ![t.val, 0, 0] :=
  (by decide +kernel : ∀ t : Fin grid0.N, cc0_transform_4 (grid0.coords t) = ![t.val, 0, 0]) t

/-- A chip's column among the three quarters of thousands. -/
abbrev col (k : Fin 768) : Fin 3072 := ⟨768 + k.val, by omega⟩

theorem x_blk (c : Dev nD) (t : Fin (cfgM m (ok m)).N) (r : Fin 8) (k : Fin 1024) :
    (show FVec Ideal S1x8x1024 .f32 from iblk m (ok m) c 0 t) (ix3 0 r k) = ac m c (ix2 r k) := by
  refine Eq.trans ?_ ((gt_at m c 0 r ⟨k.val, by omega⟩ (by decide)).trans ((if_pos rfl).trans (dif_pos k.isLt)))
  blk_ext [iblk, idx0 m t]

theorem d_blk (c : Dev nD) (t : Fin (cfgM m (ok m)).N) (r : Fin 8) (k : Fin 768) :
    (show FVec Ideal S1x8x768 .f32 from iblk m (ok m) c 1 t) (ix3 0 r k) = (if t.val = 0 then a0 m c else a1 m c) (ix2 r ⟨768 + k.val, by omega⟩) := by
  have ht : t.val < 2 := t.isLt
  refine Eq.trans ?_ ((gt_at m c ⟨1 + 2 * t.val, by omega⟩ r ⟨768 + k.val, by omega⟩ (by show 1 + 2 * t.val < 4; omega)).trans ((if_neg (by show ¬1 + 2 * t.val = 0; omega)).trans ?_))
  · blk_ext [iblk, idx1 m t]
  · by_cases h : t.val = 0
    · rw [if_pos (by show 1 + 2 * t.val = 1; omega), if_pos h]
    · rw [if_neg (by show ¬1 + 2 * t.val = 1; omega), if_neg (by show ¬1 + 2 * t.val = 2; omega), if_neg h]

theorem e_blk (c : Dev nD) (t : Fin (cfgM m (ok m)).N) (r : Fin 8) (k : Fin 768) :
    (show FVec Ideal S1x8x768 .f32 from iblk m (ok m) c 2 t) (ix3 0 r k) = ad m c (ix2 r ⟨768 + k.val, by omega⟩) := by
  refine Eq.trans ?_ (gt_at m c 2 r ⟨768 + k.val, by omega⟩ (by decide))
  blk_ext [iblk, idx2 m t]

theorem v_blk (c : Dev nD) (t : Fin (cfgM m (ok m)).N) (k : Fin 1024) :
    (show FVec Ideal S1x1024 .f32 from iblk m (ok m) c 3 t) (ix2 0 k) = ax m c (ix1 k) := by
  refine Eq.trans (b := (V m c main_v8 : FVec Ideal S1x1024 .f32) (ix2 0 k)) ?_ ?_
  · blk_ext [iblk, idx3 m t]
  · entry_read
    pointwise

theorem out_at (c : Dev nD) (t : Fin (cfgM m (ok m)).N) (y : S1x1024x768.Idx) : outsAt0 m (ok m) c t y
    = (∑ r : Fin 8, silu (ac m c (ix2 r (y 1))) * (if t.val = 0 then a0 m c else a1 m c) (ix2 r (col (y 2))))
      + silu (ax m c (ix1 (y 1))) * (if t.val = 0 then ∑ r : Fin 8, ad m c (ix2 r (col (y 2))) else 0) := by
  unfold outsAt0
  frame_out
  refine (hp (grid0.coords t) _ _ _ _ y).trans ?_
  have e0 : (grid0.coords t 0).val = t.val := (by decide +kernel : ∀ t : Fin grid0.N, (grid0.coords t 0).val = t.val) t
  rw [e0]
  refine congrArg₂ (· + ·) (Finset.sum_congr (M := EReal) rfl fun r _ => congrArg₂ (· * ·) (congrArg silu ((congrFun ((hs0_0 m (ok m) t).read_unread _) _).trans (x_blk m c t r (y 1)))) ((congrFun ((hs0_1 m (ok m) t).read_unread _) _).trans (d_blk m c t r (y 2))))
    (congrArg₂ (· * ·) (congrArg silu ((congrFun ((hs0_3 m (ok m) t).read_unread _) _).trans (v_blk m c t (y 1)))) ?_)
  by_cases h : t.val = 0
  · rw [if_pos h, if_pos h]
    exact Finset.sum_congr (M := EReal) rfl fun r _ => (congrFun ((hs0_2 m (ok m) t).read_unread _) _).trans (e_blk m c t r (y 2))
  · rw [if_neg h, if_neg h]

theorem s1_at (c : Dev nD) (i : S8x1024.Idx) : val_main_v1 (F := Ideal) (ac m c) i = silu (ac m c i) := by
  pointwise [val_main_v1, val_main_call0_v5, val_main_call0_v4, val_main_call0_v3, val_main_call0_v2, val_main_call0_v1, val_main_call0_v0, val_main_call0_cst, val_main_call0_cst_0]
  rfl
theorem s10_at (c : Dev nD) (i : S8x1024.Idx) : val_main_v10 (F := Ideal) (ac m c) i = silu (ac m c i) := by
  pointwise [val_main_v10, val_main_call2_v5, val_main_call2_v4, val_main_call2_v3, val_main_call2_v2, val_main_call2_v1, val_main_call2_v0, val_main_call2_cst, val_main_call2_cst_0]
  rfl
theorem s6_at (c : Dev nD) (i : S1x1024.Idx) : val_main_v6 (F := Ideal) (ax m c) i = silu (ax m c (ix1 (i 1))) := by
  pointwise [val_main_v6, val_main_v5, val_main_call1_v5, val_main_call1_v4, val_main_call1_v3, val_main_call1_v2, val_main_call1_v1, val_main_call1_v0, val_main_call1_cst, val_main_call1_cst_0]
  rfl

theorem ref_at (c : Dev nD) (t : Fin (cfgM m (ok m)).N) (y : S1x1024x768.Idx) (z : S2x1024x768.Idx) (h0 : (z 0).val = t.val) (h1 : z 1 = y 1) (h2 : z 2 = y 2) :
    outsAt0 m (ok m) c t y = val_main_v31 (F := Ideal) (ac m c) (ax m c) (a0 m c) (ad m c) (a1 m c) z := by
  have ht : t.val < 2 := t.isLt
  have z2 : (z 2).val < 768 := (z 2).isLt
  rw [out_at, ← h1, ← h2]
  pointwise [val_main_v31, val_main_v30, val_main_v29, val_main_v28, val_main_v27, val_main_v26, val_main_v25, val_main_v24, val_main_v23, val_main_v22, val_main_v21, val_main_v20, val_main_v19, val_main_v18, val_main_v17, val_main_v16, val_main_v15, val_main_cst_0, val_main_cst_1, val_main_cst_2, val_main_cst_3]
  by_cases h : t.val = 0
  · rw [if_pos h, if_pos h, dif_neg (by omega), dif_pos (by omega), dif_pos (by omega), zero_add]
    refine (add_comm _ _).trans (congrArg₂ (· + ·) ?_ (Finset.sum_congr (M := EReal) rfl fun r _ => ?_))
    · refine Eq.trans ?_ (Fintype.sum_unique (M := EReal) _).symm
      rw [s6_at]
      exact mul_comm _ _
    · rw [s1_at]
      exact mul_comm _ _
  · rw [if_neg h, if_neg h, dif_pos (by omega), dif_neg (by omega), dif_neg (by omega), mul_zero, add_zero, add_zero, add_zero]
    refine Finset.sum_congr (M := EReal) rfl fun r _ => ?_
    rw [s10_at]
    exact mul_comm _ _

theorem final4 (c : Dev nD) : (dats m (ok m) 0 c).arrAt 4 (cfgM m (ok m)).N
    = val_main_v31 (F := Ideal) (ac m c) (ax m c) (a0 m c) (ad m c) (a1 m c) := by
  refine (dats m (ok m) 0 c).arrAt_eq_of_covers 4 _ (of_decide_eq_true (by sl_kernel_rfl)) (fun t hf y => ?_)
  · have e := idx4 m t
    blk_simp
    rw [after0_4]
    refine ref_at m c t (((cfgM m (ok m)).win 4).xinj ((cfgM m (ok m)).grid.coords t) y) _ ?_ ?_ ?_
    · blk_simp [idx4 m t] <;> try omega
    · exact Fin.ext (by blk_simp [idx4 m t] <;> try omega)
    · exact Fin.ext (by blk_simp [idx4 m t] <;> try omega)

theorem algebraic : Cert.algebraic_ModWIdeal_ModWRefIdeal := by
  pair_intro
  case refine_1 => exact fun c => (dats m (ok m) 0 c).arrAt 4 (cfgM m (ok m)).N
  · refine (θ_run defs _ _).mono (fun r h c => ⟨(h c).1 4,
      ((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) (Cert.ModWIdeal.Gen.run_main m g (ok m))
  · refine (θ_run Cert.ModWRefIdeal.defs _ _).mono (fun r h c => ?_) (Cert.ModWRefIdeal.Value.run m' g')
    obtain ⟨h0, rest⟩ := h c
    obtain ⟨e0, e1, e2, e3, e4⟩ := hagree c
    rw [e0, e1, e2, e3, e4] at h0
    exact ⟨h0.trans ((val_main_v31_eq (F := Ideal) (ac m c) (ax m c) (a0 m c) (ad m c) (a1 m c)).trans (final4 m c).symm), rest⟩

end Cert.ModWIdeal.Val

end
-- ==== Proof.CctxPartRun.lean ====
/-  The context vector's gradient on one chip: the table the call prefetches names the chip's columns, so every block lies inside
    its array, and the frame follows. -/
module

public import proofs.«01_k».proof.Proof.Gen.CctxPartIdeal.Frame
public import Idealize.ShloMosaic.Lib.Pipeline.ValueKit

@[expose] public section

set_option maxRecDepth 16384

noncomputable section

namespace Cert.CctxPartIdeal.Hand

open Cert.CctxPartIdeal Cert.CctxPartIdeal.Gen
open Idealize.ShloMosaic Idealize.ShloMosaic.TcCoe Idealize.SL.Sem

variable {F : FTy → Type} [FloatOps F]
variable (m : (ℓ : Loc nD τ sig) → Buf (Elt F) ℓ)

theorem tbl_eq : tbl (F := F) m 0 = fun i => lit0 (S2.rowMajor i) := by
  show V m (0 : Dev nD) main_c = _
  entry_read
  rfl

theorem tbl_at : (tbl (F := F) m).at 0 (Rect.unit (s := S2) ![1] S1.size inb_S2_S1_1) numel1_S1 = 1#32 := by
  have e : tbl (F := F) m = fun | 0 => fun i => lit0 (S2.rowMajor i) := by
    funext j
    fin_cases j
    exact tbl_eq m
  rw [e]
  rfl

theorem ix0 (i : grid0.Coords) : cc0_transform_0 inb_S2_S1_1 numel1_S1 (tbl (F := F) m) i = ![2, 0, 1] := by
  unfold cc0_transform_0
  simp only [tbl_at]
  rfl

theorem ok : Ok (F := F) m := fun i => by
  refine ⟨?_, .inl rfl⟩
  rw [ix0]
  decide +kernel

theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := Cert.CctxPartIdeal.Gen.frame m ρ (ok m)

end Cert.CctxPartIdeal.Hand

end
-- ==== Proof.CctxPartBits.lean ====
module

public import proofs.«01_k».proof.Proof.CctxPartRun
public import proofs.«01_k».proof.Proof.Gen.CctxPart
public import proofs.«01_k».proof.Defs

@[expose] public section

set_option maxRecDepth 65536
set_option maxHeartbeats 8000000

namespace Cert.CctxPartIdeal.Hand

theorem frame_bits : Cert.quiescent_CctxPart (hCctxPart := Cert.CctxPart.Gen.facts) := fun m ρ _ => by
  refine Eq.mp ?_ (frame (F := Idealize.ShloMosaic.Bits) m ρ)
  sl_kernel_rfl

end Cert.CctxPartIdeal.Hand
-- ==== Proof.CctxPartVal.lean ====
/-  The context vector's gradient on one chip: the result array after the run is the reference's term. -/
module

public import proofs.«01_k».proof.Proof.Gen.CctxPartIdeal.Frame
public import proofs.«01_k».proof.Proof.Gen.CctxPartRefIdeal.Read
public import proofs.«01_k».proof.Proof.CctxPartRun
public import proofs.«01_k».proof.Defs
public import Idealize.ShloMosaic.Lib.Pipeline.ValueKit
public import Idealize.ShloMosaic.Lib.Claim
public import Idealize.ShloMosaic.Lib.Pointwise

@[expose] public section

set_option maxRecDepth 65536
set_option maxHeartbeats 4000000

noncomputable section

namespace Cert.CctxPartIdeal.Val

open Cert.CctxPartIdeal Cert.CctxPartIdeal.Gen Cert.CctxPartIdeal.Hand
open Idealize.ShloMosaic Idealize.ShloMosaic.TcCoe Idealize.SL.Sem
open Idealize.ShloMosaic.Pipeline (Dat)
open Cert.CctxPartRefIdeal.Read

variable (m : (ℓ : Loc nD τ sig) → Buf (Elt Ideal) ℓ)

abbrev aw (c : Dev nD) : FVec Ideal S1024x3072 .f32 := m ((c : Thread nD τ).loc main_arg0)
abbrev ad (c : Dev nD) : FVec Ideal S8x3072 .f32 := m ((c : Thread nD τ).loc main_arg1)

theorem hp (d : FVec Ideal S1x8x768 .f32) (w : FVec Ideal S1024x768 .bf16) (j : S16x1024.Idx) :
    k0_pay1 (F := Ideal) d w j = ∑ k : Fin 768, (∑ r : Fin 8, d (ix3 0 r k)) * w (ix2 (j 1) k) := by
  pointwise [k0_pay1]

theorem gt_at (c : Dev nD) (r : Fin 8) (k : Fin 3072) : (V m c main_v4 : FVec Ideal S24x8x3072 .f32) (ix3 2 r k) = ad m c (ix2 r k) := by
  entry_read
  pointwise
  run_tidy
  pointwise

theorem idx0 (t : Fin (cfgM m (ok m)).N) : ((cfgM m (ok m)).win 0).index t = ![2, 0, 1] := Hand.ix0 m (grid0.coords t)
theorem idx1 (t : Fin (cfgM m (ok m)).N) : ((cfgM m (ok m)).win 1).index t = ![0, 0] := rfl
theorem idx2 (t : Fin (cfgM m (ok m)).N) : ((cfgM m (ok m)).win 2).index t = ![0, 0] := rfl

theorem d_blk (c : Dev nD) (t : Fin (cfgM m (ok m)).N) (r : Fin 8) (k : Fin 768) :
    (show FVec Ideal S1x8x768 .f32 from iblk m (ok m) c 0 t) (ix3 0 r k) = ad m c (ix2 r ⟨768 + k.val, by omega⟩) := by
  refine Eq.trans ?_ (gt_at m c r ⟨768 + k.val, by omega⟩)
  blk_ext [iblk, idx0 m t]

theorem w_blk (c : Dev nD) (t : Fin (cfgM m (ok m)).N) (i : Fin 1024) (k : Fin 768) :
    (show FVec Ideal S1024x768 .bf16 from iblk m (ok m) c 1 t) (ix2 i k) = aw m c (ix2 i ⟨768 + k.val, by omega⟩) := by
  refine Eq.trans (b := (V m c main_v6 : FVec Ideal S1024x768 .bf16) (ix2 i k)) ?_ ?_
  · blk_ext [iblk, idx1 m t]
  · entry_read
    pointwise

theorem ref_at (c : Dev nD) (t : Fin (cfgM m (ok m)).N) (y z : S16x1024.Idx) (h1 : (z 1).val = (y 1).val) :
    outsAt0 m (ok m) c t y = val_main_v8 (F := Ideal) (aw m c) (ad m c) z := by
  have e1 : z 1 = y 1 := Fin.ext h1
  unfold outsAt0
  frame_out
  refine (hp _ _ y).trans ?_
  pointwise [val_main_v8, val_main_v7, val_main_v6, val_main_v5, val_main_v4, val_main_v0, val_main_cst_0]
  rw [e1]
  refine Finset.sum_congr (M := EReal) rfl fun k _ => congrArg₂ (· * ·) (Finset.sum_congr (M := EReal) rfl fun r _ => (congrFun ((hs0_0 m (ok m) t).read_unread _) _).trans (d_blk m c t r k)) ((congrFun ((hs0_1 m (ok m) t).read_unread _) _).trans (w_blk m c t (y 1) k))

theorem final2 (c : Dev nD) : (dats m (ok m) 0 c).arrAt 2 (cfgM m (ok m)).N = val_main_v8 (F := Ideal) (aw m c) (ad m c) := by
  refine (dats m (ok m) 0 c).arrAt_eq_of_covers 2 _ (of_decide_eq_true (by sl_kernel_rfl)) (fun t hf y => ?_)
  have e := idx2 m t
  blk_simp
  rw [after0_2]
  refine ref_at m c t y _ ?_
  blk_simp [idx2 m t] <;> try omega

theorem algebraic : Cert.algebraic_CctxPartIdeal_CctxPartRefIdeal := by
  pair_intro
  case refine_1 => exact fun c => (dats m (ok m) 0 c).arrAt 2 (cfgM m (ok m)).N
  · refine (θ_run defs _ _).mono (fun r h c => ⟨(h c).1 2,
      ((h c).2 main_arg0 (by decide : main_arg0 ∈ Pipeline.restRefs sig spec0)).trans (V_main_arg0 m c),
      ((h c).2 main_arg1 (by decide : main_arg1 ∈ Pipeline.restRefs sig spec0)).trans (V_main_arg1 m c)⟩) (Cert.CctxPartIdeal.Gen.run_main m g (ok m))
  · refine (θ_run Cert.CctxPartRefIdeal.defs _ _).mono (fun r h c => ?_) (Cert.CctxPartRefIdeal.Value.run m' g')
    obtain ⟨h0, rest⟩ := h c
    obtain ⟨e0, e1⟩ := hagree c
    rw [e0, e1] at h0
    exact ⟨h0.trans ((val_main_v8_eq (F := Ideal) (aw m c) (ad m c)).trans (final2 m c).symm), rest⟩

end Cert.CctxPartIdeal.Val

end
-- ==== Proof.ModFVal.lean ====
/-  The modulation's rows: the result array after the run is the reference's term. -/
module

public import proofs.«01_k».proof.Proof.Gen.ModFIdeal.Value
public import proofs.«01_k».proof.Proof.Gen.ModFRefIdeal.Read
public import proofs.«01_k».proof.Proof.Gate
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.ModFIdeal.Hand

open Cert.ModFIdeal Cert.ModFIdeal.Gen Cert.Scalars
open Idealize.ShloMosaic Idealize.ShloMosaic.TcCoe Idealize.SL.Sem
open Idealize.ShloMosaic.Pipeline (Dat)
open Cert.ModFRefIdeal.Read

variable (m : (ℓ : Loc nD τ sig) → Buf (Elt Ideal) ℓ)

theorem idx : ∀ t : Fin cfg0.N, win0_0.index t = ![0, 0] ∧ win0_1.index t = ![0, 0] ∧ win0_2.index t = ![t.val, 0, 0] ∧ win0_3.index t = ![t.val, 0, 0]
    ∧ win0_4.index t = ![t.val, 0, 0] :=
  (by decide +kernel : ∀ t : Fin grid0.N, _)

abbrev ac (c : Dev nD) : FVec Ideal S8x1024 .f32 := m ((c : Thread nD τ).loc main_arg0)
abbrev ax (c : Dev nD) : FVec Ideal S1024 .f32 := m ((c : Thread nD τ).loc main_arg1)
abbrev aw (c : Dev nD) : FVec Ideal S2x1024x768 .f32 := m ((c : Thread nD τ).loc main_arg2)
abbrev ab (c : Dev nD) : FVec Ideal S2x768 .f32 := m ((c : Thread nD τ).loc main_arg3)

/-- The devices' rows, the context's row, and rows of zeros. -/
def row (a : FVec Ideal S8x1024 .f32) (x : Fin 1024 → EReal) (r : Fin 16) (k : Fin 1024) : EReal :=
  if h : r.val < 8 then a (ix2 ⟨r.val, h⟩ k) else if r.val = 8 then x k else 0

theorem cat_at (a : FVec Ideal S8x1024 .f32) (x : FVec Ideal S1x1024 .f32) (z : FVec Ideal S7x1024 .f32) (hz : ∀ i, z i = 0) (h) (r : Fin 16) (k : Fin 1024) :
    concatenate S16x1024 0 [⟨S8x1024, a⟩, ⟨S1x1024, x⟩, ⟨S7x1024, z⟩] h (ix2 r k) = row a (fun k => x (ix2 0 k)) r k := by
  unfold row
  pointwise
  by_cases h8 : r.val < 8
  · rw [dif_pos h8, dif_pos h8]
  · rw [dif_neg h8, dif_neg h8]
    by_cases h9 : r.val = 8
    · rw [dif_pos (by omega), if_pos h9]
      exact congrArg (fun q : Fin 1 => x (ix2 q k)) (Subsingleton.elim _ _)
    · rw [dif_neg (by omega), if_neg h9, hz]

theorem hp (a : FVec Ideal S8x1024 .f32) (x : FVec Ideal S1x1024 .f32) (w : FVec Ideal S1x1024x768 .bf16) (b : FVec Ideal S1x1x768 .f32) (j : S1x16x768.Idx) :
    k0_pay1 (F := Ideal) a x w b j = (∑ k : Fin 1024, row a (fun k => x (ix2 0 k)) (j 1) k * Scalars.sig (row a (fun k => x (ix2 0 k)) (j 1) k) * w (ix3 0 k (j 2))) + b (ix3 0 0 (j 2)) := by
  pointwise [k0_pay1]
  refine congrArg (· + _) (Finset.sum_congr (M := EReal) rfl fun k _ => ?_)
  rw [gate]
  refine congrArg (fun v => v * Scalars.sig v * w (ix3 0 k (j 2))) ?_
  unfold row
  by_cases h8 : (j 1).val < 8
  · rw [dif_pos h8, dif_pos h8]
  · rw [dif_neg h8, dif_neg h8]
    by_cases h9 : (j 1).val = 8
    · rw [dif_pos (by omega), if_pos h9]
      exact congrArg (fun q : Fin 1 => x (ix2 q k)) (Subsingleton.elim _ _)
    · rw [dif_neg (by omega), if_neg h9]

theorem ref_at (c : Dev nD) (i : S2x16x768.Idx) : val_main_v8 (F := Ideal) (ac m c) (ax m c) (aw m c) (ab m c) i
    = (∑ k : Fin 1024, row (ac m c) (fun k => ax m c (ix1 k)) (i 1) k * Scalars.sig (row (ac m c) (fun k => ax m c (ix1 k)) (i 1) k) * aw m c (ix3 (i 0) k (i 2))) + ab m c (ix2 (i 0) (i 2)) := by
  have e : ∀ k, val_main_v2 (F := Ideal) (ac m c) (ax m c) (ix2 (i 1) k) = row (ac m c) (fun k => ax m c (ix1 k)) (i 1) k := fun k => by
    unfold val_main_v2
    refine (cat_at _ _ _ (fun i => by pointwise [val_main_v1, val_main_cst]) _ _ _).trans ?_
    refine congrArg (fun f => row (ac m c) f (i 1) k) (funext fun k => ?_)
    pointwise [val_main_v0]
  pointwise [val_main_v8, val_main_v7, val_main_v6, val_main_v5, val_main_v4, val_main_v3, val_main_call0_v5, val_main_call0_v4, val_main_call0_v3, val_main_call0_v2, val_main_call0_v1,
    val_main_call0_v0, val_main_call0_cst, val_main_call0_cst_0]
  refine congrArg (· + _) (Finset.sum_congr (M := EReal) rfl fun k _ => ?_)
  rw [e]
  exact mul_comm _ _

theorem w_blk (c : Dev nD) (t : Fin cfg0.N) (k : Fin 1024) (j : Fin 768) :
    (show FVec Ideal S1x1024x768 .bf16 from iblk m c 2 t) (ix3 0 k j) = aw m c (ix3 ⟨t.val, t.isLt⟩ k j) := by
  refine Eq.trans (b := (V m c main_v1 : FVec Ideal S2x1024x768 .bf16) (ix3 ⟨t.val, t.isLt⟩ k j)) ?_ ?_
  · blk_ext [iblk, idx t]
  · entry_read
    try pointwise
theorem b_blk (c : Dev nD) (t : Fin cfg0.N) (j : Fin 768) :
    (show FVec Ideal S1x1x768 .f32 from iblk m c 3 t) (ix3 0 0 j) = ab m c (ix2 ⟨t.val, t.isLt⟩ j) := by
  refine Eq.trans (b := (V m c main_v2 : FVec Ideal S2x1x768 .f32) (ix3 ⟨t.val, t.isLt⟩ 0 j)) ?_ ?_
  · blk_ext [iblk, idx t]
  · entry_read
    pointwise
theorem x_blk (c : Dev nD) (t : Fin cfg0.N) (k : Fin 1024) :
    (show FVec Ideal S1x1024 .f32 from iblk m c 1 t) (ix2 0 k) = ax m c (ix1 k) := by
  refine Eq.trans (b := (V m c main_v0 : FVec Ideal S1x1024 .f32) (ix2 0 k)) ?_ ?_
  · blk_ext [iblk, idx t]
  · entry_read
    pointwise
theorem c_blk (c : Dev nD) (t : Fin cfg0.N) : (show FVec Ideal S8x1024 .f32 from iblk m c 0 t) = ac m c := by
  funext i
  blk_ext [iblk, V, idx t]

theorem point (c : Dev nD) (t : Fin cfg0.N) (y : S1x16x768.Idx) (z : S2x16x768.Idx) (h0 : (z 0).val = t.val) (h1 : (z 1).val = (y 1).val) (h2 : (z 2).val = (y 2).val) :
    k0_pay1 (F := Ideal) (iblk m c 0 t) (iblk m c 1 t) (iblk m c 2 t) (iblk m c 3 t) y = val_main_v8 (F := Ideal) (ac m c) (ax m c) (aw m c) (ab m c) z := by
  have e1 : z 1 = y 1 := Fin.ext h1
  have e2 : z 2 = y 2 := Fin.ext h2
  have e0 : z 0 = ⟨t.val, t.isLt⟩ := Fin.ext h0
  refine (hp _ _ _ _ y).trans (Eq.trans ?_ (ref_at m c z).symm)
  rw [e0, e1, e2]
  have er : row (show FVec Ideal S8x1024 .f32 from iblk m c 0 t) (fun k => (show FVec Ideal S1x1024 .f32 from iblk m c 1 t) (ix2 0 k)) = row (ac m c) (fun k => ax m c (ix1 k)) := by
    rw [c_blk]
    exact congrArg _ (funext fun k => x_blk m c t k)
  refine congrArg₂ (· + ·) (Finset.sum_congr (M := EReal) rfl fun k _ => congrArg₂ (· * ·) ?_ (w_blk m c t k (y 2))) (b_blk m c t (y 2))
  exact congrArg (fun f : Fin 16 → Fin 1024 → EReal => f (y 1) k * Scalars.sig (f (y 1) k)) er

theorem final4 (c : Dev nD) : (dats m 0 c).arrAt 4 (cfgs 0).N = val_main_v8 (F := Ideal) (ac m c) (ax m c) (aw m c) (ab m c) := by
  refine (dats m 0 c).arrAt_eq_of_covers 4 _ (by decide +kernel) fun t hf y => ?_
  have key := point m c t y (((View.whole main_v3).slice (win0_4.rect t)).emb y) (by blk_simp [idx t] <;> try omega) (by blk_simp [idx t] <;> try omega) (by blk_simp [idx t] <;> try omega)
  blk_simp
  rw [after0_4]
  frame_out
  exact key

theorem algebraic : Cert.algebraic_ModFIdeal_ModFRefIdeal := by
  pair_intro
  · run_from Cert.ModFIdeal.Gen.run_main m g
  · refine (θ_run Cert.ModFRefIdeal.defs _ _).mono (fun r h c => ?_) (Cert.ModFRefIdeal.Value.run m' g')
    obtain ⟨h0, rest⟩ := h c
    obtain ⟨e0, e1, e2, e3⟩ := hagree c
    rw [e0, e1, e2, e3] at h0
    exact ⟨h0.trans ((val_main_v8_eq (F := Ideal) (ac m c) (ax m c) (aw m c) (ab m c)).trans (final4 m c).symm), rest⟩

end Cert.ModFIdeal.Hand

end
-- ==== Proof.MRepVal.lean ====
/-  The replicated gradients' sums: the result arrays after the run are the reference's terms. -/
module

public import proofs.«01_k».proof.Proof.Gen.MRepIdeal.Frame
public import Idealize.ShloMosaic.Lib.Pipeline.Value
public import proofs.«01_k».proof.Proof.Gen.MRepRefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.MRepIdeal.Hand

open Cert.MRepIdeal Cert.MRepIdeal.Gen
open Idealize.ShloMosaic Idealize.ShloMosaic.TcCoe Idealize.SL.Sem
open Idealize.ShloMosaic.Pipeline (Dat)
open Cert.MRepRefIdeal.Read

variable (m : (ℓ : Loc nD τ sig) → Buf (Elt Ideal) ℓ)

abbrev a0 (c : Dev nD) : FVec Ideal S8x128 .f32 := m ((c : Thread nD τ).loc main_arg0)
abbrev a1 (c : Dev nD) : FVec Ideal S8x3072 .f32 := m ((c : Thread nD τ).loc main_arg1)
abbrev a2 (c : Dev nD) : FVec Ideal S8x3072 .f32 := m ((c : Thread nD τ).loc main_arg2)
abbrev a3 (c : Dev nD) : FVec Ideal S8x3072 .f32 := m ((c : Thread nD τ).loc main_arg3)
abbrev a4 (c : Dev nD) : FVec Ideal S8x2048 .f32 := m ((c : Thread nD τ).loc main_arg4)
abbrev a5 (c : Dev nD) : FVec Ideal S8x2x1024 .f32 := m ((c : Thread nD τ).loc main_arg5)
abbrev a6 (c : Dev nD) : FVec Ideal S8x2048 .f32 := m ((c : Thread nD τ).loc main_arg6)
abbrev a7 (c : Dev nD) : FVec Ideal S8x2x1024 .f32 := m ((c : Thread nD τ).loc main_arg7)
abbrev a8 (c : Dev nD) : FVec Ideal S8x4x2048 .f32 := m ((c : Thread nD τ).loc main_arg8)
abbrev a9 (c : Dev nD) : FVec Ideal S8x2x2048 .f32 := m ((c : Thread nD τ).loc main_arg9)
abbrev a10 (c : Dev nD) : FVec Ideal S8x2x2048 .f32 := m ((c : Thread nD τ).loc main_arg10)
abbrev a11 (c : Dev nD) : FVec Ideal S8x2x2048 .f32 := m ((c : Thread nD τ).loc main_arg11)

/-- The packed rows the call reads. -/
abbrev pk (c : Dev nD) : FVec Ideal S24x8x3072 .f32 := V m c main_v22

/-- The left 2048 lanes of the vectors' rows, as the host lines before the call pack them. -/
def left (x4 x6 : FVec Ideal S8x2048 .f32) (x7 : FVec Ideal S8x2x1024 .f32) (x8 : FVec Ideal S8x4x2048 .f32) (x9 x10 x11 : FVec Ideal S8x2x2048 .f32) : FVec Ideal S8x13x2048 .f32 :=
  concatenate S8x13x2048 1 [⟨S8x2x2048, concatenate S8x2x2048 1 [⟨S8x1x2048, broadcastInDim S8x1x2048 ![0, 2] bcast_S8x2048_S8x1x2048_0_2 x4⟩,
      ⟨S8x1x2048, broadcastInDim S8x1x2048 ![0, 2] bcast_S8x2048_S8x1x2048_0_2 x6⟩] concatenates_S8x1x2048_S8x1x2048_S8x2x2048_d1⟩,
    ⟨S8x1x2048, shapeCast S8x1x2048 x7 shapeCasts_S8x2x1024_S8x1x2048⟩,
    ⟨S8x6x2048, concatenate S8x6x2048 1 [⟨S8x4x2048, x8⟩, ⟨S8x2x2048, x9⟩] concatenates_S8x4x2048_S8x2x2048_S8x6x2048_d1⟩,
    ⟨S8x4x2048, concatenate S8x4x2048 1 [⟨S8x2x2048, x10⟩, ⟨S8x2x2048, x11⟩] concatenates_S8x2x2048_S8x2x2048_S8x4x2048_d1⟩] concatenates_S8x2x2048_S8x1x2048_S8x6x2048_S8x4x2048_S8x13x2048_d1

/-- The right 1024 lanes of the vectors' rows. -/
def right (x5 : FVec Ideal S8x2x1024 .f32) : FVec Ideal S8x13x1024 .f32 :=
  concatenate S8x13x1024 1 [⟨S8x2x1024, x5⟩, ⟨S8x11x1024, broadcastInDim S8x11x1024 ![] bcast_S_S8x11x1024 (constant (F := Ideal) S_ .f32 0x00000000#32)⟩] concatenates_S8x2x1024_S8x11x1024_S8x13x1024_d1

/-- The row of the squared errors. -/
def errs (x0 : FVec Ideal S8x128 .f32) : FVec Ideal S8x3072 .f32 :=
  concatenate S8x3072 1 [⟨S8x1152, concatenate S8x1152 1 [⟨S8x1024, broadcastInDim S8x1024 ![] bcast_S_S8x1024 (constant (F := Ideal) S_ .f32 0x00000000#32)⟩, ⟨S8x128, x0⟩] concatenates_S8x1024_S8x128_S8x1152_d1⟩,
    ⟨S8x1920, broadcastInDim S8x1920 ![] bcast_S_S8x1920 (constant (F := Ideal) S_ .f32 0x00000000#32)⟩] concatenates_S8x1152_S8x1920_S8x3072_d1

/-- The first four rows. -/
def top (e x1 x2 x3 : FVec Ideal S8x3072 .f32) : FVec Ideal S4x8x3072 .f32 :=
  concatenate S4x8x3072 0 [⟨S1x8x3072, broadcastInDim S1x8x3072 ![1, 2] bcast_S8x3072_S1x8x3072_1_2 e⟩, ⟨S1x8x3072, broadcastInDim S1x8x3072 ![1, 2] bcast_S8x3072_S1x8x3072_1_2 x1⟩,
    ⟨S1x8x3072, broadcastInDim S1x8x3072 ![1, 2] bcast_S8x3072_S1x8x3072_1_2 x2⟩, ⟨S1x8x3072, broadcastInDim S1x8x3072 ![1, 2] bcast_S8x3072_S1x8x3072_1_2 x3⟩] concatenates_S1x8x3072_S1x8x3072_S1x8x3072_S1x8x3072_S4x8x3072_d0

/-- All the rows. -/
def pack (t : FVec Ideal S4x8x3072 .f32) (l : FVec Ideal S8x13x2048 .f32) (g : FVec Ideal S8x13x1024 .f32) : FVec Ideal S24x8x3072 .f32 :=
  concatenate S24x8x3072 0 [⟨S17x8x3072, concatenate S17x8x3072 0 [⟨S4x8x3072, t⟩,
      ⟨S13x8x3072, transpose S13x8x3072 [1, 0, 2] (concatenate S8x13x3072 2 [⟨S8x13x2048, l⟩, ⟨S8x13x1024, g⟩] concatenates_S8x13x2048_S8x13x1024_S8x13x3072_d2) transposes_S8x13x3072_S13x8x3072_1_0_2⟩] concatenates_S4x8x3072_S13x8x3072_S17x8x3072_d0⟩,
    ⟨S7x8x3072, broadcastInDim S7x8x3072 ![] bcast_S_S7x8x3072 (constant (F := Ideal) S_ .f32 0x00000000#32)⟩] concatenates_S17x8x3072_S7x8x3072_S24x8x3072_d0

abbrev tp (c : Dev nD) : FVec Ideal S4x8x3072 .f32 := top (errs (a0 m c)) (a1 m c) (a2 m c) (a3 m c)
abbrev lf (c : Dev nD) : FVec Ideal S8x13x2048 .f32 := left (a4 m c) (a6 m c) (a7 m c) (a8 m c) (a9 m c) (a10 m c) (a11 m c)
abbrev rt (c : Dev nD) : FVec Ideal S8x13x1024 .f32 := right (a5 m c)

theorem idx : ∀ t : Fin cfg0.N, win0_0.index t = ![0, 0, 0] :=
  (by decide +kernel : ∀ t : Fin grid0.N, _)

theorem pk_eq (c : Dev nD) : pk m c = pack (tp m c) (lf m c) (rt m c) := by
  sl_kernel_rfl

theorem pack_top (t : FVec Ideal S4x8x3072 .f32) (l g) (n : Fin 4) (r : Fin 8) (k : Fin 3072) : pack t l g (ix3 ⟨n.val, by omega⟩ r k) = t (ix3 n r k) := by
  unfold pack
  pointwise
  exact dif_pos (by omega)

theorem pack_l (t : FVec Ideal S4x8x3072 .f32) (l g) (n : Fin 13) (r : Fin 8) (k : Fin 2048) : pack t l g (ix3 ⟨4 + n.val, by omega⟩ r ⟨k.val, by omega⟩) = l (ix3 r n k) := by
  unfold pack
  pointwise
  exact dif_pos (by omega)

theorem pack_g (t : FVec Ideal S4x8x3072 .f32) (l g) (n : Fin 13) (r : Fin 8) (k : Fin 1024) : pack t l g (ix3 ⟨4 + n.val, by omega⟩ r ⟨2048 + k.val, by omega⟩) = g (ix3 r n k) := by
  unfold pack
  pointwise
  exact dif_pos (by omega)

theorem errs_at (x : FVec Ideal S8x128 .f32) (r : Fin 8) (k : Fin 128) : errs x (ix2 r ⟨1024 + k.val, by omega⟩) = x (ix2 r k) := by
  unfold errs
  pointwise
  exact dif_pos (by omega)

theorem right_at (x : FVec Ideal S8x2x1024 .f32) (r : Fin 8) (n : Fin 2) (k : Fin 1024) : right x (ix3 r ⟨n.val, by omega⟩ k) = x (ix3 r n k) := by
  unfold right
  pointwise

section left
variable (x4 x6 x7 x8 x9 x10 x11) (r : Fin 8) (n : Fin 2)
theorem left0 (k : Fin 2048) : left x4 x6 x7 x8 x9 x10 x11 (ix3 r 0 k) = x4 (ix2 r k) := by
  unfold left
  pointwise
theorem left1 (k : Fin 2048) : left x4 x6 x7 x8 x9 x10 x11 (ix3 r 1 k) = x6 (ix2 r k) := by
  unfold left
  pointwise
theorem left2 (k : Fin 1024) : left x4 x6 x7 x8 x9 x10 x11 (ix3 r 2 ⟨1024 * n.val + k.val, by omega⟩) = x7 (ix3 r n k) := by
  unfold left
  pointwise
theorem left3 (n : Fin 4) (k : Fin 2048) : left x4 x6 x7 x8 x9 x10 x11 (ix3 r ⟨3 + n.val, by omega⟩ k) = x8 (ix3 r n k) := by
  unfold left
  pointwise
  rw [dif_neg (by omega), dif_neg (by omega), dif_pos (by omega), dif_pos (by omega)]
  exact congrArg (fun q => x8 (ix3 r q k)) (Fin.ext (by show 3 + n.val - 2 - 1 = n.val; omega))
theorem left7 (n : Fin 2) (k : Fin 2048) : left x4 x6 x7 x8 x9 x10 x11 (ix3 r ⟨7 + n.val, by omega⟩ k) = x9 (ix3 r n k) := by
  unfold left
  pointwise
  rw [dif_neg (by omega), dif_neg (by omega), dif_pos (by omega), dif_neg (by omega)]
  exact congrArg (fun q => x9 (ix3 r q k)) (Fin.ext (by show 7 + n.val - 2 - 1 - 4 = n.val; omega))
theorem left9 (n : Fin 2) (k : Fin 2048) : left x4 x6 x7 x8 x9 x10 x11 (ix3 r ⟨9 + n.val, by omega⟩ k) = x10 (ix3 r n k) := by
  unfold left
  pointwise
  rw [dif_neg (by omega), dif_neg (by omega), dif_neg (by omega), dif_pos (by omega)]
  exact congrArg (fun q => x10 (ix3 r q k)) (Fin.ext (by show 9 + n.val - 2 - 1 - 6 = n.val; omega))
theorem left11 (n : Fin 2) (k : Fin 2048) : left x4 x6 x7 x8 x9 x10 x11 (ix3 r ⟨11 + n.val, by omega⟩ k) = x11 (ix3 r n k) := by
  unfold left
  pointwise
  rw [dif_neg (by omega), dif_neg (by omega), dif_neg (by omega), dif_neg (by omega)]
  exact congrArg (fun q => x11 (ix3 r q k)) (Fin.ext (by show 11 + n.val - 2 - 1 - 6 - 2 = n.val; omega))
end left

theorem top0 (e x1 x2 x3) (r : Fin 8) (k : Fin 3072) : top e x1 x2 x3 (ix3 0 r k) = e (ix2 r k) := by
  unfold top
  pointwise
theorem top1 (e x1 x2 x3) (r : Fin 8) (k : Fin 3072) : top e x1 x2 x3 (ix3 1 r k) = x1 (ix2 r k) := by
  unfold top
  pointwise
theorem top2 (e x1 x2 x3) (r : Fin 8) (k : Fin 3072) : top e x1 x2 x3 (ix3 2 r k) = x2 (ix2 r k) := by
  unfold top
  pointwise
theorem top3 (e x1 x2 x3) (r : Fin 8) (k : Fin 3072) : top e x1 x2 x3 (ix3 3 r k) = x3 (ix2 r k) := by
  unfold top
  pointwise

theorem hp3 (x : FVec Ideal S1x8x3072 .f32) (j : S1x128.Idx) : k0_pay3 (F := Ideal) x j = ∑ r : Fin 8, ∑ k : Fin 128, x (ix3 0 r ⟨1024 + k.val, by omega⟩) := by
  pointwise [k0_pay3]
theorem hp4 (x : FVec Ideal S1x8x3072 .f32) (j : S1x3072.Idx) : k0_pay4 (F := Ideal) x j = ∑ r : Fin 8, x (ix3 0 r (j 1)) := by
  pointwise [k0_pay4]
theorem hp5 (x y : FVec Ideal S1x8x3072 .f32) (j : S1x3072.Idx) : k0_pay5 (F := Ideal) x y j = (∑ r : Fin 8, x (ix3 0 r (j 1))) + ∑ r : Fin 8, y (ix3 0 r (j 1)) := by
  pointwise [k0_pay5]
theorem hp8 (x : FVec Ideal S1x8x3072 .f32) (j : S1x1024.Idx) : k0_pay8 (F := Ideal) x j = ∑ r : Fin 8, x (ix3 0 r ⟨2048 + (j 1).val, by have h : (j 1).val < 1024 := (j 1).isLt; omega⟩) := by
  pointwise [k0_pay8]
theorem hp11 (x : FVec Ideal S1x8x3072 .f32) (j : S1x1024.Idx) : k0_pay11 (F := Ideal) x j = ∑ r : Fin 8, x (ix3 0 r ⟨(j 1).val, by have h : (j 1).val < 1024 := (j 1).isLt; omega⟩) := by
  pointwise [k0_pay11]
theorem hp12 (x : FVec Ideal S1x8x3072 .f32) (j : S1x1024.Idx) : k0_pay12 (F := Ideal) x j = ∑ r : Fin 8, x (ix3 0 r ⟨1024 + (j 1).val, by have h : (j 1).val < 1024 := (j 1).isLt; omega⟩) := by
  pointwise [k0_pay12]
/-- The other vectors' sums are all of this form. -/
theorem hp2 (x : FVec Ideal S1x8x3072 .f32) (j : S1x2048.Idx) : k0_pay2 (F := Ideal) x j = ∑ r : Fin 8, x (ix3 0 r ⟨(j 1).val, by have h : (j 1).val < 2048 := (j 1).isLt; omega⟩) := by
  pointwise [k0_pay2]

theorem ld_at (x : Vec Ideal S24x8x3072 .f32) (n : Fin 24) (h) (r : Fin 8) (k : Fin 3072) :
    (View.ld x (Rect.unit (s := S24x8x3072) ![n.val, 0, 0] S1x8x3072.size h) : FVec Ideal S1x8x3072 .f32) (ix3 0 r k) = x (ix3 n r k) :=
  View.ld_unit_apply_of _ _ _ _ _ _ fun a => by match a with | ⟨0, _⟩ => rfl | ⟨1, _⟩ => exact (Nat.zero_add _).symm | ⟨2, _⟩ => exact (Nat.zero_add _).symm

theorem blk_at (c : Dev nD) (i : S24x8x3072.Idx) : (iblk m c 0 t0_0 : FVec Ideal S24x8x3072 .f32) i = pk m c i := by
  blk_ext [iblk, idx t0_0]

/-- A row as the call reads it. -/
abbrev In (n : ℕ) : Prop := ∀ a : Fin S24x8x3072.rank, ![n, 0, 0] a + S1x8x3072.size a ≤ S24x8x3072.size a
abbrev row (c : Dev nD) (n : Fin 24) (h : In n.val) : FVec Ideal S1x8x3072 .f32 :=
  View.ld (iblk m c 0 t0_0 : Vec Ideal S24x8x3072 .f32) (Rect.unit (s := S24x8x3072) ![n.val, 0, 0] S1x8x3072.size h)

theorem row_at (c : Dev nD) (n : Fin 24) (h : In n.val) (r : Fin 8) (k : Fin 3072) : row m c n h (ix3 0 r k) = pack (tp m c) (lf m c) (rt m c) (ix3 n r k) :=
  (ld_at _ n h r k).trans ((blk_at m c _).trans (congrFun (pk_eq m c) _))

theorem refv (x : FVec Ideal S8x2048 .f32) (j : S1x2048.Idx) : val_main_v80 (F := Ideal) x j = ∑ r : Fin 8, x (ix2 r (j 1)) := by
  pointwise [val_main_v80, val_main_v61, val_main_v60, val_main_v59, val_main_cst_24, val_main_cst_23]
  simp only [Finset.sum_const, Finset.card_univ, Fintype.card_fin, one_smul]
theorem refn (x : FVec Ideal S8x2x1024 .f32) (j : S2x1024.Idx) : val_main_v58 (F := Ideal) x j = ∑ r : Fin 8, x (ix3 r (j 0) (j 1)) := by
  pointwise [val_main_v58, val_main_v57, val_main_v56, val_main_cst_22, val_main_cst_21]
  simp only [Finset.sum_const, Finset.card_univ, Fintype.card_fin, one_smul]
theorem refw (x : FVec Ideal S8x4x2048 .f32) (j : S4x2048.Idx) : val_main_v49 (F := Ideal) x j = ∑ r : Fin 8, x (ix3 r (j 0) (j 1)) := by
  pointwise [val_main_v49, val_main_v48, val_main_v47, val_main_cst_16, val_main_cst_15]
  simp only [Finset.sum_const, Finset.card_univ, Fintype.card_fin, one_smul]
theorem refl (x : FVec Ideal S8x2x2048 .f32) (j : S2x2048.Idx) : val_main_v46 (F := Ideal) x j = ∑ r : Fin 8, x (ix3 r (j 0) (j 1)) := by
  pointwise [val_main_v46, val_main_v45, val_main_v44, val_main_cst_14, val_main_cst_13]
  simp only [Finset.sum_const, Finset.card_univ, Fintype.card_fin, one_smul]
theorem ref0 (c : Dev nD) (j : S1x128.Idx) : val_main_v82 (F := Ideal) (a0 m c) j = ∑ r : Fin 8, ∑ k : Fin 128, a0 m c (ix2 r k) := by
  pointwise [val_main_v82, val_main_v79, val_main_cst_34]

theorem ref1 (c : Dev nD) (j : S2x3072.Idx) : val_main_v78 (F := Ideal) (a1 m c) (a2 m c) (a3 m c) j
    = if (j 0).val < 1 then (∑ r : Fin 8, a1 m c (ix2 r (j 1))) + ∑ r : Fin 8, a2 m c (ix2 r (j 1)) else ∑ r : Fin 8, a3 m c (ix2 r (j 1)) := by
  unfold val_main_v78 val_main_v77 val_main_v72 val_main_v71 val_main_v66
  pointwise [val_main_v76, val_main_v75, val_main_v74, val_main_v73, val_main_v70, val_main_v69, val_main_v68, val_main_v67, val_main_v65, val_main_v64, val_main_v63, val_main_v62, val_main_cst_33, val_main_cst_32, val_main_cst_31, val_main_cst_30, val_main_cst_29, val_main_cst_28, val_main_cst_27, val_main_cst_26, val_main_cst_25]
  simp only [Finset.sum_const, Finset.card_univ, Fintype.card_fin, one_smul]
  have hb : (j 0).val < 2 := (j 0).isLt
  by_cases h : (j 0).val < 1
  · rw [dif_neg (by omega), dif_pos h, dif_pos h, if_pos h, zero_add, add_comm]
  · rw [dif_pos (by omega), dif_neg h, dif_neg h, if_neg h, add_zero, add_zero]

theorem sum_l (c : Dev nD) (n : Fin 13) (h : In (4 + n.val)) (q : Fin 2048) (f : Fin 8 → EReal) (hf : ∀ r, lf m c (ix3 r n q) = f r) :
    ∑ r : Fin 8, row m c ⟨4 + n.val, by omega⟩ h (ix3 0 r ⟨q.val, by omega⟩) = ∑ r, f r :=
  Finset.sum_congr (M := EReal) rfl fun r _ => (row_at m c _ h r _).trans ((pack_l _ _ _ n r q).trans (hf r))

theorem sum_t (c : Dev nD) (n : Fin 4) (h : In n.val) (q : Fin 3072) (f : Fin 8 → EReal) (hf : ∀ r, tp m c (ix3 n r q) = f r) :
    ∑ r : Fin 8, row m c ⟨n.val, by omega⟩ h (ix3 0 r q) = ∑ r, f r :=
  Finset.sum_congr (M := EReal) rfl fun r _ => (row_at m c _ h r _).trans ((pack_top _ _ _ n r q).trans (hf r))

theorem sum_g (c : Dev nD) (n : Fin 2) (h : In (4 + n.val)) (q : Fin 1024) :
    ∑ r : Fin 8, row m c ⟨4 + n.val, by omega⟩ h (ix3 0 r ⟨2048 + q.val, by omega⟩) = ∑ r, a5 m c (ix3 r n q) :=
  Finset.sum_congr (M := EReal) rfl fun r _ => (row_at m c _ h r _).trans ((pack_g _ _ _ ⟨n.val, by omega⟩ r q).trans (right_at _ r n q))

/-- Two rows' sums stored over one another's buffer's halves. -/
theorem two (c : Dev nD) (n : Fin 12) (h : In (4 + (n.val + 1))) (h' : In (4 + n.val)) (x : FVec Ideal S8x2x2048 .f32) (j : S2x2048.Idx) (hx : ∀ r (p : Fin 2) q, lf m c (ix3 r ⟨n.val + p.val, by omega⟩ q) = x (ix3 r p q)) :
    View.canon (Val := Elt Ideal) (s := S2x2048) (e := .f32) [⟨r0_24, k0_pay2 (F := Ideal) (row m c ⟨4 + (n.val + 1), by omega⟩ h)⟩, ⟨r0_22, k0_pay2 (F := Ideal) (row m c ⟨4 + n.val, by omega⟩ h')⟩] j = val_main_v46 (F := Ideal) x j := by
  rw [refl]
  canon_tiles y h
  case piece0 =>
    exact (hp2 _ y).trans ((sum_l m c ⟨n.val + 1, by omega⟩ _ (y 1) _ fun r => hx r 1 _).trans (congrArg₂ (fun p q => ∑ r : Fin 8, x (ix3 r p q)) (Fin.ext (by show 1 = (j 0).val; omega)) (Fin.ext h1.symm)))
  case piece1 =>
    exact (hp2 _ y).trans ((sum_l m c ⟨n.val, by omega⟩ _ (y 1) _ fun r => hx r 0 _).trans (congrArg₂ (fun p q => ∑ r : Fin 8, x (ix3 r p q)) (Fin.ext (by show 0 = (j 0).val; omega)) (Fin.ext h1.symm)))

theorem final2 (c : Dev nD) : (dats m 0 c).arrAt 2 (cfgs 0).N = val_main_v82 (F := Ideal) (a0 m c) := by
  refine (dats m 0 c).arrAt_eq_of_after_last 2 t0_0 (by decide +kernel) _ fun j => ?_
  blk_simp
  rw [after0_2]
  frame_out
  rw [hp3, ref0]
  exact Finset.sum_congr (M := EReal) rfl fun r _ => Finset.sum_congr (M := EReal) rfl fun k _ =>
    (row_at m c 0 _ r _).trans ((pack_top _ _ _ 0 r _).trans ((top0 _ _ _ _ r _).trans (errs_at _ r k)))

theorem final3 (c : Dev nD) : (dats m 0 c).arrAt 3 (cfgs 0).N = val_main_v80 (F := Ideal) (a4 m c) := by
  refine (dats m 0 c).arrAt_eq_of_after_last 3 t0_0 (by decide +kernel) _ fun j => ?_
  blk_simp
  rw [after0_3]
  frame_out
  rw [refv]
  exact (hp2 _ j).trans <| sum_l m c 0 _ (j 1) _ fun r => left0 _ _ _ _ _ _ _ r _

theorem final5 (c : Dev nD) : (dats m 0 c).arrAt 5 (cfgs 0).N = val_main_v81 (F := Ideal) (a6 m c) := by
  refine (dats m 0 c).arrAt_eq_of_after_last 5 t0_0 (by decide +kernel) _ fun j => ?_
  blk_simp
  rw [after0_5]
  frame_out
  exact ((hp2 _ j).trans <| sum_l m c 1 _ (j 1) _ fun r => left1 _ _ _ _ _ _ _ r _).trans (refv (a6 m c) j).symm

theorem final1 (c : Dev nD) : (dats m 0 c).arrAt 1 (cfgs 0).N = val_main_v78 (F := Ideal) (a1 m c) (a2 m c) (a3 m c) := by
  refine (dats m 0 c).arrAt_eq_of_after_last 1 t0_0 (by decide +kernel) _ fun j => ?_
  blk_simp
  rw [after0_1]
  frame_out
  rw [ref1]
  canon_tiles x h
  case piece0 =>
    rw [hp4, if_neg (by omega), show (j 1 : Fin _) = x 1 from Fin.ext (by show (j 1).val = (x 1).val; omega)]
    exact sum_t m c 3 _ (x 1) _ fun r => top3 _ _ _ _ r _
  case piece1 =>
    rw [hp5, if_pos (by omega), show (j 1 : Fin _) = x 1 from Fin.ext (by show (j 1).val = (x 1).val; omega)]
    exact congrArg₂ (· + ·) (sum_t m c 1 _ (x 1) _ fun r => top1 _ _ _ _ r _) (sum_t m c 2 _ (x 1) _ fun r => top2 _ _ _ _ r _)

theorem final4 (c : Dev nD) : (dats m 0 c).arrAt 4 (cfgs 0).N = val_main_v58 (F := Ideal) (a5 m c) := by
  refine (dats m 0 c).arrAt_eq_of_after_last 4 t0_0 (by decide +kernel) _ fun j => ?_
  blk_simp
  rw [after0_4]
  frame_out
  rw [refn]
  canon_tiles x h
  case piece0 =>
    exact (hp8 _ x).trans ((sum_g m c 1 _ (x 1)).trans (congrArg₂ (fun p q => ∑ r : Fin 8, a5 m c (ix3 r p q)) (Fin.ext (by show 1 = (j 0).val; omega)) (Fin.ext h1.symm)))
  case piece1 =>
    exact (hp8 _ x).trans ((sum_g m c 0 _ (x 1)).trans (congrArg₂ (fun p q => ∑ r : Fin 8, a5 m c (ix3 r p q)) (Fin.ext (by show 0 = (j 0).val; omega)) (Fin.ext h1.symm)))

theorem final6 (c : Dev nD) : (dats m 0 c).arrAt 6 (cfgs 0).N = val_main_v52 (F := Ideal) (a7 m c) := by
  refine (dats m 0 c).arrAt_eq_of_after_last 6 t0_0 (by decide +kernel) _ fun j => ?_
  blk_simp
  rw [after0_6]
  frame_out
  refine Eq.trans ?_ (refn (a7 m c) j).symm
  canon_tiles x h
  case piece0 =>
    exact (hp12 _ x).trans ((sum_l m c 2 _ ⟨1024 + (x 1).val, by have h : (x 1).val < 1024 := (x 1).isLt; omega⟩ _ fun r => left2 _ _ _ _ _ _ _ r 1 (x 1)).trans (congrArg₂ (fun p q => ∑ r : Fin 8, a7 m c (ix3 r p q)) (Fin.ext (by show 1 = (j 0).val; omega)) (Fin.ext h1.symm)))
  case piece1 =>
    exact (hp11 _ x).trans ((sum_l m c 2 _ ⟨(x 1).val, by have h : (x 1).val < 1024 := (x 1).isLt; omega⟩ _ fun r => (congrArg (fun q => lf m c (ix3 r 2 q)) (Fin.ext (Nat.zero_add _).symm)).trans (left2 _ _ _ _ _ _ _ r 0 (x 1))).trans (congrArg₂ (fun p q => ∑ r : Fin 8, a7 m c (ix3 r p q)) (Fin.ext (by show 0 = (j 0).val; omega)) (Fin.ext h1.symm)))

theorem final7 (c : Dev nD) : (dats m 0 c).arrAt 7 (cfgs 0).N = val_main_v49 (F := Ideal) (a8 m c) := by
  refine (dats m 0 c).arrAt_eq_of_after_last 7 t0_0 (by decide +kernel) _ fun j => ?_
  blk_simp
  rw [after0_7]
  frame_out
  rw [refw]
  canon_tiles x h
  case piece0 =>
    exact (hp2 _ x).trans ((sum_l m c 6 _ (x 1) _ fun r => left3 _ _ _ _ _ _ _ r 3 _).trans (congrArg₂ (fun p q => ∑ r : Fin 8, a8 m c (ix3 r p q)) (Fin.ext (by show 3 = (j 0).val; omega)) (Fin.ext h1.symm)))
  case piece1 =>
    exact (hp2 _ x).trans ((sum_l m c 5 _ (x 1) _ fun r => left3 _ _ _ _ _ _ _ r 2 _).trans (congrArg₂ (fun p q => ∑ r : Fin 8, a8 m c (ix3 r p q)) (Fin.ext (by show 2 = (j 0).val; omega)) (Fin.ext h1.symm)))
  case piece2 =>
    exact (hp2 _ x).trans ((sum_l m c 4 _ (x 1) _ fun r => left3 _ _ _ _ _ _ _ r 1 _).trans (congrArg₂ (fun p q => ∑ r : Fin 8, a8 m c (ix3 r p q)) (Fin.ext (by show 1 = (j 0).val; omega)) (Fin.ext h1.symm)))
  case piece3 =>
    exact (hp2 _ x).trans ((sum_l m c 3 _ (x 1) _ fun r => left3 _ _ _ _ _ _ _ r 0 _).trans (congrArg₂ (fun p q => ∑ r : Fin 8, a8 m c (ix3 r p q)) (Fin.ext (by show 0 = (j 0).val; omega)) (Fin.ext h1.symm)))

theorem final8 (c : Dev nD) : (dats m 0 c).arrAt 8 (cfgs 0).N = val_main_v46 (F := Ideal) (a9 m c) := by
  refine (dats m 0 c).arrAt_eq_of_after_last 8 t0_0 (by decide +kernel) _ fun j => ?_
  blk_simp
  rw [after0_8]
  exact two m c 7 _ _ (a9 m c) j fun r p q => left7 _ _ _ _ _ _ _ r p q

theorem final9 (c : Dev nD) : (dats m 0 c).arrAt 9 (cfgs 0).N = val_main_v43 (F := Ideal) (a10 m c) := by
  refine (dats m 0 c).arrAt_eq_of_after_last 9 t0_0 (by decide +kernel) _ fun j => ?_
  blk_simp
  rw [after0_9]
  exact two m c 9 _ _ (a10 m c) j fun r p q => left9 _ _ _ _ _ _ _ r p q

theorem final10 (c : Dev nD) : (dats m 0 c).arrAt 10 (cfgs 0).N = val_main_v40 (F := Ideal) (a11 m c) := by
  refine (dats m 0 c).arrAt_eq_of_after_last 10 t0_0 (by decide +kernel) _ fun j => ?_
  blk_simp
  rw [after0_10]
  exact two m c 11 _ _ (a11 m c) j fun r p q => left11 _ _ _ _ _ _ _ r p q

set_option maxHeartbeats 2000000 in
theorem algebraic : Cert.algebraic_MRepIdeal_MRepRefIdeal := by
  pair_intro
  case refine_1 => exact fun c => val_main_v78 (F := Ideal) (a1 m c) (a2 m c) (a3 m c)
  case refine_2.refine_1 => exact fun c => val_main_v82 (F := Ideal) (a0 m c)
  case refine_2.refine_2.refine_1 => exact fun c => val_main_v80 (F := Ideal) (a4 m c)
  case refine_2.refine_2.refine_2.refine_1 => exact fun c => val_main_v58 (F := Ideal) (a5 m c)
  case refine_2.refine_2.refine_2.refine_2.refine_1 => exact fun c => val_main_v81 (F := Ideal) (a6 m c)
  case refine_2.refine_2.refine_2.refine_2.refine_2.refine_1 => exact fun c => val_main_v52 (F := Ideal) (a7 m c)
  case refine_2.refine_2.refine_2.refine_2.refine_2.refine_2.refine_1 => exact fun c => val_main_v49 (F := Ideal) (a8 m c)
  case refine_2.refine_2.refine_2.refine_2.refine_2.refine_2.refine_2.refine_1 => exact fun c => val_main_v46 (F := Ideal) (a9 m c)
  case refine_2.refine_2.refine_2.refine_2.refine_2.refine_2.refine_2.refine_2.refine_1 => exact fun c => val_main_v43 (F := Ideal) (a10 m c)
  case refine_2.refine_2.refine_2.refine_2.refine_2.refine_2.refine_2.refine_2.refine_2.refine_1 => exact fun c => val_main_v40 (F := Ideal) (a11 m c)
  · refine (θ_run defs _ _).mono (fun r h c => ?_) (Cert.MRepIdeal.Gen.run_main m g)
    have k (b) (hb : b ∈ Pipeline.restRefs sig spec0) := (h c).2 b hb
    exact ⟨((h c).1 1).trans (final1 m c), ((h c).1 2).trans (final2 m c), ((h c).1 3).trans (final3 m c), ((h c).1 4).trans (final4 m c), ((h c).1 5).trans (final5 m c), ((h c).1 6).trans (final6 m c), ((h c).1 7).trans (final7 m c), ((h c).1 8).trans (final8 m c), ((h c).1 9).trans (final9 m c), ((h c).1 10).trans (final10 m c),
      (k main_arg0 (by decide)).trans (V_main_arg0 m c),
      (k main_arg1 (by decide)).trans (V_main_arg1 m c),
      (k main_arg2 (by decide)).trans (V_main_arg2 m c),
      (k main_arg3 (by decide)).trans (V_main_arg3 m c),
      (k main_arg4 (by decide)).trans (V_main_arg4 m c),
      (k main_arg5 (by decide)).trans (V_main_arg5 m c),
      (k main_arg6 (by decide)).trans (V_main_arg6 m c),
      (k main_arg7 (by decide)).trans (V_main_arg7 m c),
      (k main_arg8 (by decide)).trans (V_main_arg8 m c),
      (k main_arg9 (by decide)).trans (V_main_arg9 m c),
      (k main_arg10 (by decide)).trans (V_main_arg10 m c),
      (k main_arg11 (by decide)).trans (V_main_arg11 m c)⟩
  · refine (θ_run Cert.MRepRefIdeal.defs _ _).mono (fun r h c => ?_) (Cert.MRepRefIdeal.Value.run m' g')
    obtain ⟨h0, h1, h2, h3, h4, h5, h6, h7, h8, h9, rest⟩ := h c
    obtain ⟨e0, e1, e2, e3, e4, e5, e6, e7, e8, e9, e10, e11⟩ := hagree c
    rw [e1, e2, e3] at h0
    rw [e0] at h1
    rw [e4] at h2
    rw [e5] at h3
    rw [e6] at h4
    rw [e7] at h5
    rw [e8] at h6
    rw [e9] at h7
    rw [e10] at h8
    rw [e11] at h9
    exact ⟨h0, h1, h2, h3, h4, h5, h6, h7, h8, h9, rest⟩

end Cert.MRepIdeal.Hand

end
-- ==== Proof.InW1Val.lean ====
/-  The input projection's weight gradient of the second layer, which starts from nothing: the result array after the run is the reference's term. -/
module

public import proofs.«01_k».proof.Proof.Gen.InW1Ideal.Value
public import proofs.«01_k».proof.Proof.Gen.InW1RefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.InW1Ideal.Hand

open Cert.InW1Ideal Cert.InW1Ideal.Gen Cert.InW1RefIdeal.Read
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 8, 0] ∧ win0_1.index t = ![0, 0] ∧ win0_2.index t = ![0, 0]
    ∧ win0_3.index t = ![t.val % 8, t.val / 8 % 2] ∧ win0_4.index t = ![t.val % 8, t.val / 8 % 2] ∧ win0_5.index t = ![t.val / 8, 0, 0] :=
  (by decide +kernel : ∀ t : Fin grid0.N, _)

abbrev ax (c : Dev nD) : FVec Ideal S8192x1024 .f32 := m ((c : Thread nD τ).loc main_arg0)
abbrev asc (c : Dev nD) : FVec Ideal S1x1024 .f32 := m ((c : Thread nD τ).loc main_arg1)
abbrev ash (c : Dev nD) : FVec Ideal S1x1024 .f32 := m ((c : Thread nD τ).loc main_arg2)
abbrev au (c : Dev nD) : FVec Ideal S8192x2048 .f32 := m ((c : Thread nD τ).loc main_arg3)
abbrev ag (c : Dev nD) : FVec Ideal S8192x2048 .f32 := m ((c : Thread nD τ).loc main_arg4)
abbrev ab (c : Dev nD) : FVec Ideal S4x2048x1024 .f32 := m ((c : Thread nD τ).loc main_arg5)

/-- The rows' modulated entries against one part's columns, summed over a point's rows. -/
def prod (x : FVec Ideal S1024x1024 .f32) (s h : FVec Ideal S1x1024 .f32) (u : FVec Ideal S1024x1024 .bf16) (y : S1x1024x1024.Idx) : EReal :=
  ∑ r : Fin 1024, (x (ix2 r (y 1)) * s (ix2 0 (y 1)) + h (ix2 0 (y 1))) * u (ix2 r (y 2))

theorem hp (x : FVec Ideal S1024x1024 .f32) (s h : FVec Ideal S1x1024 .f32) (a : FVec Ideal S1x1024x1024 .f32)
    (u : FVec Ideal S1024x1024 .bf16) (y : S1x1024x1024.Idx) : k0_pay4 (F := Ideal) x s h a u y = a y + prod x s h u y := by
  unfold prod
  pointwise [k0_pay4, k0_pay2]
theorem hq (x : FVec Ideal S1024x1024 .f32) (s h : FVec Ideal S1x1024 .f32) (a : FVec Ideal S1x1024x1024 .f32)
    (u : FVec Ideal S1024x1024 .bf16) (y : S1x1024x1024.Idx) : k0_pay1 (F := Ideal) (k0_pay2 (F := Ideal) x s h) a u y = a y + prod x s h u y := by
  unfold prod
  pointwise [k0_pay1, k0_pay2]
theorem hz (y : S1x1024x1024.Idx) : k0_pay3 (F := Ideal) y = 0 := by pointwise [k0_pay3]

/-- What a point adds to its block. -/
def term (c : Dev nD) (t : Fin cfg0.N) (y : S1x1024x1024.Idx) : EReal :=
  prod (iblk m c 0 t) (iblk m c 1 t) (iblk m c 2 t) (if t.val < 16 then iblk m c 3 t else iblk m c 4 t) y

theorem first (c : Dev nD) (t : Fin cfg0.N) (h : t.val % 8 = 0) (y : S1x1024x1024.Idx) :
    outsAt0 m c t.val t.isLt y = 0 + term m c t y := by
  unfold term
  by_cases h1 : t.val < 16
  · rw [if_pos h1, outsAt0_A m c t h h1 (by omega)]; frame_out
    exact (hp _ _ _ _ _ y).trans (congrArg (· + _) (hz y))
  · rw [if_neg h1, outsAt0_C m c t h h1 (by omega)]; frame_out
    exact (hq _ _ _ _ _ y).trans (congrArg (· + _) (hz y))
theorem later (c : Dev nD) (t : Fin cfg0.N) (h : ¬t.val % 8 = 0) (y : S1x1024x1024.Idx) :
    outsAt0 m c t.val t.isLt y = outsAt0 m c (t.val - 1) (Nat.lt_of_le_of_lt (Nat.sub_le _ _) t.isLt) y + term m c t y := by
  unfold term
  by_cases h1 : t.val < 16
  · rw [if_pos h1, outsAt0_B m c t h h1 (by omega)]; frame_out
    exact hp _ _ _ _ _ y
  · rw [if_neg h1, outsAt0_D m c t h h1 (by omega)]; frame_out
    exact hq _ _ _ _ _ y

/-- The modulation's factor as the call finds it: one plus the scale. -/
theorem sc_at (c : Dev nD) (t : Fin cfg0.N) (k : Fin 1024) : (iblk m c 1 t : FVec Ideal S1x1024 .f32) (ix2 0 k) = 1 + asc m c (ix2 0 k) := by
  have e : ∀ i : S1x1024.Idx, (V m c (Pipeline.arrRef spec0 1) : FVec Ideal S1x1024 .f32) i = 1 + asc m c i := fun i => by
    entry_read; pointwise
  refine Eq.trans ?_ (e (ix2 0 k))
  blk_ext [iblk, idx t]

theorem x_blk (c : Dev nD) (t : Fin cfg0.N) (r k : Fin 1024) (R : Fin 8192) (hR : R.val = 1024 * (t.val % 8) + r.val) :
    (iblk m c 0 t : FVec Ideal S1024x1024 .f32) (ix2 r k) = ax m c (ix2 R k) := by
  blk_point [iblk, V, idx t]
theorem sh_blk (c : Dev nD) (t : Fin cfg0.N) (k : Fin 1024) : (iblk m c 2 t : FVec Ideal S1x1024 .f32) (ix2 0 k) = ash m c (ix2 0 k) := by
  blk_point [iblk, V, idx t]
theorem u_blk (c : Dev nD) (t : Fin cfg0.N) (r k : Fin 1024) (R : Fin 8192) (K : Fin 2048) (hR : R.val = 1024 * (t.val % 8) + r.val)
    (hK : K.val = 1024 * (t.val / 8 % 2) + k.val) : (iblk m c 3 t : FVec Ideal S1024x1024 .bf16) (ix2 r k) = au m c (ix2 R K) := by
  blk_point [iblk, V, idx t]
theorem g_blk (c : Dev nD) (t : Fin cfg0.N) (r k : Fin 1024) (R : Fin 8192) (K : Fin 2048) (hR : R.val = 1024 * (t.val % 8) + r.val)
    (hK : K.val = 1024 * (t.val / 8 % 2) + k.val) : (iblk m c 4 t : FVec Ideal S1024x1024 .bf16) (ix2 r k) = ag m c (ix2 R K) := by
  blk_point [iblk, V, idx t]

/-- The reference's buffer: in the rows of the gradient the gradient, elsewhere what was there. -/
theorem v15_at (x : FVec Ideal S8192x1024 .f32) (s h : FVec Ideal S1x1024 .f32) (u g : FVec Ideal S8192x2048 .f32)
    (b : FVec Ideal S4x2048x1024 .f32) (z : S4x2048x1024.Idx) :
    val_main_v15 (F := Ideal) x s h u g b z = if k : (z 1).val < 1024 then
      val_main_v14 (F := Ideal) x s h u g (ix3 (z 0) ⟨(z 1).val, k⟩ (z 2)) else b z := by
  pointwise [val_main_v15, val_main_c, val_main_c_1, val_main_c_2]
  have cc : ∀ hh (a : Fin 3), Host.clampedStart Cert.InW1RefIdeal.S4x2048x1024 Cert.InW1RefIdeal.S4x1024x1024 hh
      (fun k => BitVec.toInt (![constantI Cert.InW1RefIdeal.S_ 32 0#32, constantI Cert.InW1RefIdeal.S_ 32 0#32, constantI Cert.InW1RefIdeal.S_ 32 0#32] k (Shape.Idx.first Cert.InW1RefIdeal.Gen.h_S_))) a = 0 := fun _ a => by
    match a with | ⟨0, _⟩ => rfl | ⟨1, _⟩ => rfl | ⟨2, _⟩ => rfl
  have c0 := fun hh => cc hh 0
  have c1 := fun hh => cc hh 1
  have c2 := fun hh => cc hh 2
  simp only [c0, c1, c2]
  by_cases k : (z 1).val < 1024
  · rw [dif_pos ⟨Nat.zero_le _, ⟨Nat.zero_le _, by omega⟩, Nat.zero_le _⟩, dif_pos k]
    rfl
  · rw [dif_neg fun hh => k (by omega), dif_neg k]

/-- An entry of the gradient the buffer is handed: the modulated rows' column against the cotangent's. -/
theorem v14_at (x : FVec Ideal S8192x1024 .f32) (s h : FVec Ideal S1x1024 .f32) (u g : FVec Ideal S8192x2048 .f32)
    (z : Cert.InW1RefIdeal.S4x1024x1024.Idx) (k : Fin 4096) (hk : (z 0).val * 1024 + (z 2).val = k.val) :
    val_main_v14 (F := Ideal) x s h u g z
      = ∑ R : Fin 8192, (x (ix2 R (z 1)) * (1 + s (ix2 0 (z 1))) + h (ix2 0 (z 1))) * (val_main_v10 (F := Ideal) u g) (ix2 R k) := by
  have e : k = ⟨(z 0).val * 1024 + (z 2).val, hk ▸ k.isLt⟩ := Fin.ext hk.symm
  rw [e]
  generalize hv : val_main_v10 (F := Ideal) u g = v
  pointwise [val_main_v14, val_main_v13, val_main_v12, val_main_v11, val_main_v6, val_main_v5, val_main_v4, val_main_v3,
    val_main_v2, val_main_v1, val_main_cst_0]
  rw [hv]
  exact Finset.sum_congr (M := EReal) rfl fun R _ => mul_comm _ _

theorem v10_at (u g : FVec Ideal S8192x2048 .f32) (R : Fin 8192) (k : Fin 4096) : val_main_v10 (F := Ideal) u g (ix2 R k)
    = if h : k.val < 2048 then u (ix2 R ⟨k.val, h⟩) else g (ix2 R ⟨k.val - 2048, by omega⟩) := by
  pointwise [val_main_v10]

/-- The entry of the reference's gradient in a quarter of the columns: its part's columns. -/
theorem cols_at (c : Dev nD) (t : Fin cfg0.N) (r k : Fin 1024) (R : Fin 8192) (K : Fin 4096) (hR : R.val = 1024 * (t.val % 8) + r.val)
    (hK : K.val = t.val / 8 * 1024 + k.val) : ((if t.val < 16 then iblk m c 3 t else iblk m c 4 t : FVec Ideal S1024x1024 .bf16) (ix2 r k) : EReal)
      = val_main_v10 (F := Ideal) (au m c) (ag m c) (ix2 R K) := by
  have ht : t.val < 32 := lt_of_lt_of_eq t.isLt N_0
  have hk := k.isLt
  rw [v10_at]
  by_cases h : t.val < 16
  · rw [if_pos h, dif_pos (by omega)]
    exact u_blk m c t r k R ⟨K.val, by omega⟩ hR (by show K.val = _; omega)
  · rw [if_neg h, dif_neg (by omega)]
    exact g_blk m c t r k R ⟨K.val - 2048, by omega⟩ hR (by show K.val - 2048 = _; omega)

/-- What the last of a quarter's eight points leaves, where the block lies in the buffer. -/
theorem point (c : Dev nD) (t : Fin cfg0.N) (q : t.val % 8 = 7) (x : S1x1024x1024.Idx) (z : S4x2048x1024.Idx) (e0 : (z 0).val = t.val / 8)
    (e1 : (z 1).val = (x 1).val) (e2 : (z 2).val = (x 2).val) : outsAt0 m c t.val t.isLt x
      = val_main_v15 (F := Ideal) (ax m c) (asc m c) (ash m c) (au m c) (ag m c) (ab m c) z := by
  have ht : t.val < 32 := lt_of_lt_of_eq t.isLt N_0
  have x1 : (x 1).val < 1024 := (x 1).isLt
  have x2 : (x 2).val < 1024 := (x 2).isLt
  rw [Pipeline.eq_sum_fin_of_reset_step_apply_of_flush (fun n h => outsAt0 m c n h) 8 (fun _ => 0) _
    (fun t h j => first m c t h j) (fun t h j => later m c t h j) t q x, zero_add]
  rw [v15_at, dif_pos (by omega), v14_at _ _ _ _ _ _ ⟨t.val / 8 * 1024 + (x 2).val, by omega⟩ (by
    show (z 0).val * 1024 + (z 2).val = t.val / 8 * 1024 + (x 2).val; omega)]
  have ez : (⟨(z 1).val, by omega⟩ : Fin 1024) = x 1 := Fin.ext e1
  refine Fin.sum_mul_add_congr fun s r h => ?_
  have hs := s.isLt
  have hR : s.val * 1024 + r.val = 1024 * ((8 * (t.val / 8) + s.val) % 8) + r.val := by omega
  refine congrArg₂ (· * ·) (congrArg₂ (· + ·) (congrArg₂ (· * ·) ?_ ?_) ?_) ?_
  · exact (x_blk m c _ r (x 1) ⟨s.val * 1024 + r.val, h⟩ hR).trans (congrArg (fun j => ax m c (ix2 _ j)) ez.symm)
  · exact (sc_at m c _ (x 1)).trans (congrArg (fun j => 1 + asc m c (ix2 0 j)) ez.symm)
  · exact (sh_blk m c _ (x 1)).trans (congrArg (fun j => ash m c (ix2 0 j)) ez.symm)
  · exact cols_at m c _ r (x 2) ⟨s.val * 1024 + r.val, h⟩ ⟨t.val / 8 * 1024 + (x 2).val, by omega⟩ hR
      (by show t.val / 8 * 1024 + (x 2).val = (8 * (t.val / 8) + s.val) / 8 * 1024 + (x 2).val; omega)

theorem final5 (c : Dev nD) : (dats m 0 c).arrAt 5 (cfgs 0).N
    = val_main_v15 (F := Ideal) (ax m c) (asc m c) (ash m c) (au m c) (ag m c) (ab m c) := by
  refine (dats m 0 c).arrAt_eq_of_coversWhere_of_agree 5 _ (fun β => β (1 : Fin 3) = 0) (by decide +kernel) (fun t hf y => ?_) (fun j hj => ?_)
  · have y0 : (y 0).val < 1 := (y 0).isLt
    blk_simp
    rw [after0_5]
    exact point m c t ((flush0_5 t).mp hf) y _ (by blk_simp [idx t] <;> try omega)
      (by blk_simp [idx t] <;> try rfl) (by blk_simp [idx t] <;> try rfl)
  · have hz : ¬(j 1).val < 1024 := fun h => hj (show (j 1).val / 1024 = 0 by omega)
    refine Eq.trans ?_ ((v15_at (ax m c) (asc m c) (ash m c) (au m c) (ag m c) (ab m c) j).trans (dif_neg hz)).symm
    rw [A_eq]
    exact congrFun (show (V m c main_arg5 : FVec Ideal S4x2048x1024 .f32) = ab m c by entry_read; rfl) j

theorem algebraic : Cert.algebraic_InW1Ideal_InW1RefIdeal := by
  pair_intro
  · run_from Cert.InW1Ideal.Gen.run_main m g
  · refine (θ_run Cert.InW1RefIdeal.defs _ _).mono (fun r h c => ?_) (Cert.InW1RefIdeal.Value.run m' g')
    obtain ⟨h0, rest⟩ := h c
    obtain ⟨e0, e1, e2, e3, e4, e5⟩ := hagree c
    rw [e0, e1, e2, e3, e4, e5] at h0
    exact ⟨h0.trans ((val_main_v15_eq (F := Ideal) (ax m c) (asc m c) (ash m c) (au m c) (ag m c) (ab m c)).trans (final5 m c).symm), rest⟩

end Cert.InW1Ideal.Hand

end
-- ==== Proof.AdamVal.lean ====
/-  The optimiser's step on the modulation's weight: each of the four result arrays is the reference's term, entry by entry. -/
module

public import proofs.«01_k».proof.Proof.Gen.AdamIdeal.Value
public import proofs.«01_k».proof.Proof.Gen.AdamRefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.AdamIdeal.Hand

open Cert.AdamIdeal Cert.AdamIdeal.Gen
open Idealize.ShloMosaic Idealize.ShloMosaic.TcCoe Idealize.SL.Sem
open Idealize.ShloMosaic.Pipeline (Dat)
open Cert.AdamRefIdeal.Read

variable (m : (ℓ : Loc nD τ sig) → Buf (Elt Ideal) ℓ)

theorem idx : ∀ t : Fin cfg0.N, win0_0.index t = ![t.val / 4, t.val % 4, 0] ∧ win0_1.index t = ![t.val / 4, t.val % 4, 0]
    ∧ win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0] ∧ win0_7.index t = ![t.val / 4, t.val % 4, 0] :=
  (by decide +kernel : ∀ t : Fin grid0.N, _)

abbrev aw (c : Dev nD) : FVec Ideal S2x1024x768 .f32 := m ((c : Thread nD τ).loc main_arg0)
abbrev am (c : Dev nD) : FVec Ideal S2x1024x768 .f32 := m ((c : Thread nD τ).loc main_arg1)
abbrev av (c : Dev nD) : FVec Ideal S2x1024x768 .f32 := m ((c : Thread nD τ).loc main_arg2)
abbrev ag (c : Dev nD) : FVec Ideal S2x1024x768 .f32 := m ((c : Thread nD τ).loc main_arg3)

/-- The entry of the whole array that a point's block holds at a place. -/
def at_ (t : Fin cfg0.N) (y : S1x256x768.Idx) : S2x1024x768.Idx :=
  have ht : t.val < 8 := t.isLt
  have hy : (y 1).val < 256 := (y 1).isLt
  ix3 ⟨t.val / 4, by omega⟩ ⟨t.val % 4 * 256 + (y 1).val, by omega⟩ (y 2)

theorem moment (g a : FVec Ideal S1x256x768 .f32) (G A : FVec Ideal S2x1024x768 .f32) (y : S1x256x768.Idx) (z : S2x1024x768.Idx)
    (eg : g y = G z) (ea : a y = A z) : k0_pay2 (F := Ideal) (k0_pay6 (F := Ideal) g a) y = val_main_v4 (F := Ideal) A G z := by
  pointwise [k0_pay2, k0_pay6, k0_pay4, val_main_v4, val_main_v3, val_main_v2, val_main_v1, val_main_v0, val_main_cst, val_main_cst_0]
  rw [eg, ea]

theorem square (g a : FVec Ideal S1x256x768 .f32) (G A : FVec Ideal S2x1024x768 .f32) (y : S1x256x768.Idx) (z : S2x1024x768.Idx)
    (eg : g y = G z) (ea : a y = A z) : k0_pay3 (F := Ideal) (k0_pay7 (F := Ideal) g a) y = val_main_v10 (F := Ideal) A G z := by
  pointwise [k0_pay3, k0_pay7, k0_pay4, val_main_v10, val_main_v9, val_main_v8, val_main_v7, val_main_v6, val_main_v5, val_main_cst_1, val_main_cst_2]
  rw [eg, ea]

theorem step (g w a b : FVec Ideal S1x256x768 .f32) (G W A B : FVec Ideal S2x1024x768 .f32) (y : S1x256x768.Idx) (z : S2x1024x768.Idx)
    (eg : g y = G z) (ew : w y = W z) (ea : a y = A z) (eb : b y = B z) :
    k0_pay1 (F := Ideal) (k0_pay8 (F := Ideal) g w a b) (Scalar.ofBits .f32 0xBA83126F#32) y = val_main_v23 (F := Ideal) W A B G z := by
  pointwise [k0_pay1, k0_pay8, k0_pay6, k0_pay7, k0_pay4, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2, val_main_cst_3, val_main_cst_4,
    val_main_cst_5, val_main_cst_6, val_main_cst_7]
  rw [eg, ew, ea, eb]

theorem w_blk (c : Dev nD) (t : Fin cfg0.N) (y : S1x256x768.Idx) : (show FVec Ideal S1x256x768 .f32 from iblk m c 0 t) y = aw m c (at_ t y) := by
  unfold at_
  blk_ext [iblk, V, idx t] <;> try omega
theorem m_blk (c : Dev nD) (t : Fin cfg0.N) (y : S1x256x768.Idx) : (show FVec Ideal S1x256x768 .f32 from iblk m c 1 t) y = am m c (at_ t y) := by
  unfold at_
  blk_ext [iblk, V, idx t] <;> try omega
theorem v_blk (c : Dev nD) (t : Fin cfg0.N) (y : S1x256x768.Idx) : (show FVec Ideal S1x256x768 .f32 from iblk m c 2 t) y = av m c (at_ t y) := by
  unfold at_
  blk_ext [iblk, V, idx t] <;> try omega
theorem g_blk (c : Dev nD) (t : Fin cfg0.N) (y : S1x256x768.Idx) : (show FVec Ideal S1x256x768 .f32 from iblk m c 3 t) y = ag m c (at_ t y) := by
  unfold at_
  blk_ext [iblk, V, idx t] <;> try omega

theorem emb4 (t : Fin cfg0.N) (y : S1x256x768.Idx) : ((View.whole main_v1_0).slice (win0_4.rect t)).emb y = at_ t y := by
  unfold at_
  blk_ext [idx t]
  all_goals omega

theorem given (g : FVec Ideal S1x256x768 .f32) (y : S1x256x768.Idx) : k0_pay5 (F := Ideal) g y = g y := by
  pointwise [k0_pay5, k0_pay4]

theorem final4 (c : Dev nD) : (dats m 0 c).arrAt 4 (cfgs 0).N = ag m c := by
  refine (dats m 0 c).arrAt_eq_of_covers 4 _ (by decide +kernel) fun t hf y => ?_
  blk_simp
  rw [after0_4]
  unfold outsAt0 out0_A_4
  frame_out
  exact ((given (iblk m c 3 t) y).trans (g_blk m c t y)).trans (congrArg (ag m c) (emb4 t y).symm)

theorem final5 (c : Dev nD) : (dats m 0 c).arrAt 5 (cfgs 0).N = val_main_v23 (F := Ideal) (aw m c) (am m c) (av m c) (ag m c) := by
  refine (dats m 0 c).arrAt_eq_of_covers 5 _ (by decide +kernel) fun t hf y => ?_
  blk_simp
  rw [after0_5]
  frame_out
  exact (step _ _ _ _ _ _ _ _ y _ (g_blk m c t y) (w_blk m c t y) (m_blk m c t y) (v_blk m c t y)).trans (congrArg _ (emb4 t y).symm)

theorem final6 (c : Dev nD) : (dats m 0 c).arrAt 6 (cfgs 0).N = val_main_v4 (F := Ideal) (am m c) (ag m c) := by
  refine (dats m 0 c).arrAt_eq_of_covers 6 _ (by decide +kernel) fun t hf y => ?_
  blk_simp
  rw [after0_6]
  frame_out
  exact (moment _ _ _ _ y _ (g_blk m c t y) (m_blk m c t y)).trans (congrArg _ (emb4 t y).symm)

theorem final7 (c : Dev nD) : (dats m 0 c).arrAt 7 (cfgs 0).N = val_main_v10 (F := Ideal) (av m c) (ag m c) := by
  refine (dats m 0 c).arrAt_eq_of_covers 7 _ (by decide +kernel) fun t hf y => ?_
  blk_simp
  rw [after0_7]
  frame_out
  exact (square _ _ _ _ y _ (g_blk m c t y) (v_blk m c t y)).trans (congrArg _ (emb4 t y).symm)

theorem algebraic : Cert.algebraic_AdamIdeal_AdamRefIdeal := by
  pair_intro
  case refine_1 => exact fun c => ag m c
  case refine_2.refine_1 => exact fun c => val_main_v23 (F := Ideal) (aw m c) (am m c) (av m c) (ag m c)
  case refine_2.refine_2.refine_1 => exact fun c => val_main_v4 (F := Ideal) (am m c) (ag m c)
  case refine_2.refine_2.refine_2.refine_1 => exact fun c => val_main_v10 (F := Ideal) (av m c) (ag m c)
  · refine (θ_run defs _ _).mono (fun r h c => ?_) (Cert.AdamIdeal.Value.run_blocks m g)
    obtain ⟨h0, h1, h2, h3, rest⟩ := h c
    exact ⟨h0.trans (final4 m c), h1.trans (final5 m c), h2.trans (final6 m c), h3.trans (final7 m c), rest⟩
  · refine (θ_run Cert.AdamRefIdeal.defs _ _).mono (fun r h c => ?_) (Cert.AdamRefIdeal.Value.run m' g')
    obtain ⟨h0, h1, h2, h3, rest⟩ := h c
    obtain ⟨e0, e1, e2, e3⟩ := hagree c
    rw [e3] at h0
    rw [e0, e1, e2, e3] at h1
    rw [e1, e3] at h2
    rw [e2, e3] at h3
    exact ⟨h0, h1, h2, h3, rest⟩

end Cert.AdamIdeal.Hand

end
-- ==== Proof.InFVal.lean ====
/-  The input projection: both result arrays after the run are the reference's terms. -/
module

public import proofs.«01_k».proof.Proof.Gen.InFIdeal.Value
public import proofs.«01_k».proof.Proof.Gen.InFRefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.InFIdeal.Hand

open Cert.InFIdeal Cert.InFIdeal.Gen Cert.InFRefIdeal.Read
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0, 0] ∧ win0_4.index t = ![0, t.val, 0] ∧ win0_5.index t = ![0, t.val, 0] :=
  (by decide +kernel : ∀ t : Fin grid0.N, _)

abbrev ax (c : Dev nD) : FVec Ideal S8192x1024 .f32 := m ((c : Thread nD τ).loc main_arg0)
abbrev asc (c : Dev nD) : FVec Ideal S1x1024 .f32 := m ((c : Thread nD τ).loc main_arg1)
abbrev ash (c : Dev nD) : FVec Ideal S1x1024 .f32 := m ((c : Thread nD τ).loc main_arg2)
abbrev aw (c : Dev nD) : FVec Ideal S1024x4096 .f32 := m ((c : Thread nD τ).loc main_arg3)

/-- A piece is 128 columns of a product, whatever the product. -/
theorem piece (v : FVec Ideal S512x1024 .f32) (o : ℕ) (hs : S512x1024.Slices ![0, o] S512x128) (x : S1x512x128.Idx) (r : Fin 512) (j : Fin 1024) (hr : r.val = (x 1).val) (hj : j.val = o + (x 2).val) :
    shapeCast S1x512x128 (extractStridedSlice S512x128 ![0, o] v hs) shapeCasts_S512x128_S1x512x128 x = v (ix2 r j) := by
  pointwise
  blk_ext

theorem piece_bf (v : FVec Ideal S512x1024 .f32) (o : ℕ) (hs : S512x1024.Slices ![0, o] S512x128) (x : S1x512x128.Idx) (r : Fin 512) (j : Fin 1024) (hr : r.val = (x 1).val) (hj : j.val = o + (x 2).val) :
    shapeCast S1x512x128 (truncf .bf16 (extractStridedSlice S512x128 ![0, o] v hs) bitsLt_bf16_f32) shapeCasts_S512x128_S1x512x128 x = v (ix2 r j) := by
  pointwise
  blk_ext

section

variable (x : FVec Ideal S512x1024 .f32) (s h : FVec Ideal S1x1024 .f32) (w : FVec Ideal S4x1024x1024 .bf16)

/-- An entry of the projection: a modulated row against a column of one quarter of the weight. -/
def entry (q : Fin 4) (r : Fin 512) (j : Fin 1024) : EReal :=
  ∑ k : Fin 1024, (x (ix2 r k) * s (ix2 0 k) + h (ix2 0 k)) * w (ix3 q k j)

theorem at0 (r : Fin 512) (j : Fin 1024) :
    k0_pay43 (F := Ideal) x s h w (ix2 r j) = entry x s h w 0 r j := by
  unfold entry
  pointwise [k0_pay3, k0_pay4, k0_pay43]

theorem at0w (r : Fin 512) (j : Fin 1024) :
    k0_pay4 (F := Ideal) x s h (View.ld w r0_2) (ix2 r j) = entry x s h w 0 r j := by
  unfold entry
  pointwise [k0_pay3, k0_pay4]

theorem at1 (r : Fin 512) (j : Fin 1024) :
    k0_pay44 (F := Ideal) x s h w (ix2 r j) = entry x s h w 1 r j := by
  unfold entry
  pointwise [k0_pay3, k0_pay14, k0_pay42, k0_pay44]

theorem at2 (r : Fin 512) (j : Fin 1024) :
    k0_pay45 (F := Ideal) x s h w (ix2 r j) = entry x s h w 2 r j := by
  unfold entry
  pointwise [k0_pay3, k0_pay24, k0_pay42, k0_pay45]

theorem at3 (r : Fin 512) (j : Fin 1024) :
    k0_pay34 (F := Ideal) (k0_pay42 x s h w) (View.ld w r0_21) (ix2 r j) = entry x s h w 3 r j := by
  unfold entry
  pointwise [k0_pay3, k0_pay34, k0_pay42]

/-- The sixteen pieces of a block are the columns, 128 at a time: of the first two quarters in the first output, of the last two in the second. -/
theorem left4 (y : S16x512x128.Idx) (q : Fin 4) (j : Fin 1024)
    (hj : 1024 * q.val + j.val = 128 * (y 0).val + (y 2).val) : out0_4 (F := Ideal) x s h w y = entry x s h w q (y 1) j := by
  frame_out
  canon_tiles z e
  all_goals first
    | (obtain rfl : q = 1 := Fin.ext (by show q.val = 1; omega)
       refine Eq.trans ?_ (at1 x s h w (y 1) j)
       simp only [k0_pay15, k0_pay16, k0_pay17, k0_pay18, k0_pay19, k0_pay20, k0_pay21, k0_pay22, k0_pay23, k0_pay44]
       refine piece _ _ _ z (y 1) j e1 ?_
       omega)
    | (obtain rfl : q = 0 := Fin.ext (by show q.val = 0; omega)
       refine Eq.trans ?_ (at0 x s h w (y 1) j)
       simp only [k0_pay5, k0_pay6, k0_pay7, k0_pay8, k0_pay9, k0_pay10, k0_pay11, k0_pay12, k0_pay13, k0_pay43]
       refine piece _ _ _ z (y 1) j e1 ?_
       omega)
    | (obtain rfl : q = 0 := Fin.ext (by show q.val = 0; omega)
       refine Eq.trans ?_ (at0w x s h w (y 1) j)
       simp only [k0_pay5, k0_pay6, k0_pay7, k0_pay8, k0_pay9, k0_pay10]
       refine piece _ _ _ z (y 1) j e1 ?_
       omega)

theorem left5 (y : S16x512x128.Idx) (q : Fin 4) (j : Fin 1024)
    (hj : 1024 * q.val + j.val = 2048 + 128 * (y 0).val + (y 2).val) : out0_5 (F := Ideal) x s h w y = entry x s h w q (y 1) j := by
  frame_out
  canon_tiles z e
  all_goals first
    | (obtain rfl : q = 3 := Fin.ext (by show q.val = 3; omega)
       refine Eq.trans ?_ (at3 x s h w (y 1) j)
       simp only [k0_pay1, k0_pay2, k0_pay35, k0_pay36, k0_pay37, k0_pay38, k0_pay39, k0_pay40, k0_pay41]
       refine piece_bf _ _ _ z (y 1) j e1 ?_
       omega)
    | (obtain rfl : q = 2 := Fin.ext (by show q.val = 2; omega)
       refine Eq.trans ?_ (at2 x s h w (y 1) j)
       simp only [k0_pay25, k0_pay26, k0_pay27, k0_pay28, k0_pay29, k0_pay30, k0_pay31, k0_pay32, k0_pay33, k0_pay45]
       refine piece_bf _ _ _ z (y 1) j e1 ?_
       omega)

end

/-- The modulation's factor as the call finds it: one plus the scale. -/
theorem sc_at (c : Dev nD) (t : Fin cfg0.N) (k : Fin 1024) : (iblk m c 1 t : FVec Ideal S1x1024 .f32) (ix2 0 k) = 1 + asc m c (ix2 0 k) := by
  have e : ∀ i : S1x1024.Idx, (V m c (Pipeline.arrRef spec0 1) : FVec Ideal S1x1024 .f32) i = 1 + asc m c i := fun i => by
    entry_read; pointwise
  refine Eq.trans ?_ (e (ix2 0 k))
  blk_ext [iblk, idx t]

theorem w_at (c : Dev nD) (t : Fin cfg0.N) (q : Fin 4) (r k : Fin 1024) (e : Fin 4096) (he : e.val = q.val * 1024 + k.val) :
    (iblk m c 3 t : FVec Ideal S4x1024x1024 .bf16) (ix3 q r k) = aw m c (ix2 r e) := by
  refine Eq.trans (b := (V m c (Pipeline.arrRef spec0 3) : FVec Ideal S4x1024x1024 .bf16) (ix3 q r k)) ?_ ?_
  · blk_ext [iblk, idx t]
  · entry_read
    pointwise
    blk_ext

theorem product (c : Dev nD) (t : Fin cfg0.N) (q : Fin 4) (r : Fin 512) (j : Fin 1024) (R : Fin 8192) (e : Fin 4096) (hR : R.val = 512 * t.val + r.val)
    (he : e.val = q.val * 1024 + j.val) : entry (iblk m c 0 t) (iblk m c 1 t) (iblk m c 2 t) (iblk m c 3 t) q r j
      = val_main_v6 (F := Ideal) (ax m c) (asc m c) (ash m c) (aw m c) (ix2 R e) := by
  unfold entry
  pointwise [val_main_v6, val_main_v5, val_main_v4, val_main_v3, val_main_v2, val_main_v1, val_main_v0, val_main_cst]
  refine Finset.sum_congr (M := EReal) rfl fun k _ => congrArg₂ (· * ·) (congrArg₂ (· + ·) (congrArg₂ (· * ·) ?_ (sc_at m c t k)) ?_) (w_at m c t q k j e he)
  · blk_point [iblk, V, idx t]
  · blk_point [iblk, V, idx t]

theorem final4 (c : Dev nD) : (dats m 0 c).arrAt 4 (cfgs 0).N = val_main_v10 (F := Ideal) (ax m c) (asc m c) (ash m c) (aw m c) := by
  refine (dats m 0 c).arrAt_eq_of_covers 4 _ (by decide +kernel) fun t hf y => ?_
  have hy0 : (y 0).val < 16 := (y 0).isLt
  have hy2 : (y 2).val < 128 := (y 2).isLt
  blk_simp
  rw [after0_4]
  generalize hz : ((View.whole main_v5_0).slice (win0_4.rect t)).emb y = z
  have z0 : (z 0).val = (y 0).val := by subst hz; blk_simp [idx t] <;> try omega
  have z1 : (z 1).val = 512 * t.val + (y 1).val := by subst hz; blk_simp [idx t] <;> try omega
  have z2 : (z 2).val = (y 2).val := by subst hz; blk_simp [idx t] <;> try omega
  refine (left4 _ _ _ _ y ⟨(y 0).val / 8, by omega⟩ ⟨(y 0).val % 8 * 128 + (y 2).val, by omega⟩ (by dsimp only; omega)).trans ?_
  refine (product m c t _ (y 1) _ (z 1) ⟨128 * (z 0).val + (z 2).val, by omega⟩ z1 (by dsimp only; omega)).trans ?_
  generalize hv : val_main_v6 (F := Ideal) (ax m c) (asc m c) (ash m c) (aw m c) = v
  pointwise [val_main_v10, val_main_v9, val_main_v7]
  rw [hv]
  exact congrArg (fun e => v (ix2 (z 1) e)) (Fin.ext (by dsimp only; omega))

theorem final5 (c : Dev nD) : (dats m 0 c).arrAt 5 (cfgs 0).N = val_main_v13 (F := Ideal) (ax m c) (asc m c) (ash m c) (aw m c) := by
  refine (dats m 0 c).arrAt_eq_of_covers 5 _ (by decide +kernel) fun t hf y => ?_
  have hy0 : (y 0).val < 16 := (y 0).isLt
  have hy2 : (y 2).val < 128 := (y 2).isLt
  blk_simp
  rw [after0_5]
  generalize hz : ((View.whole main_v5_1).slice (win0_5.rect t)).emb y = z
  have z0 : (z 0).val = (y 0).val := by subst hz; blk_simp [idx t] <;> try omega
  have z1 : (z 1).val = 512 * t.val + (y 1).val := by subst hz; blk_simp [idx t] <;> try omega
  have z2 : (z 2).val = (y 2).val := by subst hz; blk_simp [idx t] <;> try omega
  refine (left5 _ _ _ _ y ⟨2 + (y 0).val / 8, by omega⟩ ⟨(y 0).val % 8 * 128 + (y 2).val, by omega⟩ (by dsimp only; omega)).trans ?_
  refine (product m c t _ (y 1) _ (z 1) ⟨2048 + (128 * (z 0).val + (z 2).val), by omega⟩ z1 (by dsimp only; omega)).trans ?_
  generalize hv : val_main_v6 (F := Ideal) (ax m c) (asc m c) (ash m c) (aw m c) = v
  pointwise [val_main_v13, val_main_v12, val_main_v11, val_main_v8]
  rw [hv]
  exact congrArg (fun e => v (ix2 (z 1) e)) (Fin.ext (by dsimp only; omega))

theorem algebraic : Cert.algebraic_InFIdeal_InFRefIdeal := by
  pair_intro
  case refine_1 => exact fun c => val_main_v10 (F := Ideal) (ax m c) (asc m c) (ash m c) (aw m c)
  case refine_2.refine_1 => exact fun c => val_main_v13 (F := Ideal) (ax m c) (asc m c) (ash m c) (aw m c)
  · refine (θ_run defs _ _).mono (fun r h c => ?_) (Cert.InFIdeal.Value.run_blocks m g)
    obtain ⟨h0, h1, rest⟩ := h c
    exact ⟨h0.trans (final4 m c), h1.trans (final5 m c), rest⟩
  · refine (θ_run Cert.InFRefIdeal.defs _ _).mono (fun r h c => ?_) (Cert.InFRefIdeal.Value.run m' g')
    obtain ⟨h0, h1, rest⟩ := h c
    obtain ⟨e0, e1, e2, e3⟩ := hagree c
    rw [e0, e1, e2, e3] at h0 h1
    exact ⟨h0, h1, rest⟩

end Cert.InFIdeal.Hand

end
-- ==== Proof.PoolFVal.lean ====
/-  The pool's forward product: the result array after the run is the reference's term. -/
module

public import proofs.«01_k».proof.Proof.Gen.PoolFIdeal.Value
public import proofs.«01_k».proof.Proof.Gen.PoolFRefIdeal.Read
public import proofs.«01_k».proof.Defs
public import Idealize.ShloMosaic.Lib.Pipeline.ValueKit
public import Idealize.ShloMosaic.Lib.Claim
public import Idealize.ShloMosaic.Lib.Pointwise

@[expose] public section

set_option maxRecDepth 16384

noncomputable section

namespace Cert.PoolFIdeal.Hand

open Cert.PoolFIdeal Cert.PoolFIdeal.Gen Cert.PoolFRefIdeal.Read
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val % 4, t.val / 4, 0] ∧ win0_1.index t = ![0, t.val % 4, 0, 0] ∧ win0_2.index t = ![0, t.val % 4]
    ∧ win0_3.index t = ![t.val % 4, t.val / 4, 0] :=
  (by decide +kernel : ∀ t : Fin grid0.N, _)

abbrev ad (c : Dev nD) : FVec Ideal S8192x2048 .f32 := m ((c : Thread nD τ).loc main_arg0)
abbrev aw (c : Dev nD) : FVec Ideal S4x512x512 .f32 := m ((c : Thread nD τ).loc main_arg1)
abbrev asc (c : Dev nD) : FVec Ideal S1x2048 .f32 := m ((c : Thread nD τ).loc main_arg2)

/-- The reference's entry: a row of the group's columns against the group's weight, times the scale. -/
theorem ref_at (x0 : FVec Ideal S8192x2048 .f32) (x1 : FVec Ideal S4x512x512 .f32) (x2 : FVec Ideal S1x2048 .f32) (q : Fin 16) (R : Fin 8192) (l : Fin 128) (g : Fin 4) (j : Fin 512)
    (e : Fin 2048) (he : e.val = 128 * q.val + l.val) (hg : e.val = 512 * g.val + j.val) (hl : ∀ k : Fin 512, 512 * g.val + k.val < 2048) :
    val_main_v21 (F := Ideal) x0 x1 x2 (ix3 q R l) = (∑ k : Fin 512, x0 (ix2 R ⟨512 * g.val + k.val, hl k⟩) * x1 (ix3 g k j)) * x2 (ix2 0 e) := by
  have hj := j.isLt
  have hg4 := g.isLt
  have hlt := l.isLt
  pointwise [val_main_v21, val_main_v20, val_main_v19, val_main_v18, val_main_v17, val_main_v16, val_main_v15, val_main_v11, val_main_v7, val_main_v3, val_main_v14, val_main_v13, val_main_v12,
    val_main_v10, val_main_v9, val_main_v8, val_main_v6, val_main_v5, val_main_v4, val_main_v2, val_main_v1, val_main_v0]
  refine congrArg₂ (· * ·) ?_ (by blk_ext)
  split_ifs <;> first | (exfalso; omega) | skip
  all_goals
    refine Fin.sum_fin_congr fun k => ?_
    refine congrArg₂ (· * ·) ?_ ?_ <;> blk_ext

theorem d_at (c : Dev nD) (t : Fin cfg0.N) (q : Fin 4) (r : Fin 2048) (l : Fin 128) (R : Fin 8192) (hR : R.val = 2048 * (t.val / 4) + r.val)
    (e : Fin 2048) (he : e.val = 512 * (t.val % 4) + (128 * q.val + l.val)) : (iblk m c 0 t : FVec Ideal S4x2048x128 .bf16) (ix3 q r l) = ad m c (ix2 R e) := by
  have hq := q.isLt
  refine Eq.trans (b := (V m c (Pipeline.arrRef spec0 0) : FVec Ideal S16x8192x128 .bf16) (ix3 ⟨4 * (t.val % 4) + q.val, by omega⟩ R l)) ?_ ?_
  · blk_ext [iblk, idx t]
  · entry_read
    pointwise
    blk_ext

theorem w_at (c : Dev nD) (t : Fin cfg0.N) (q : Fin 4) (k : Fin 128) (j e : Fin 512) (he : e.val = 128 * q.val + k.val) (g : Fin 4) (hg : g.val = t.val % 4) :
    (iblk m c 1 t : FVec Ideal S4x1x128x512 .bf16) (ix4 q 0 k j) = aw m c (ix3 g e j) := by
  refine Eq.trans (b := (V m c (Pipeline.arrRef spec0 1) : FVec Ideal S4x4x128x512 .bf16) (ix4 q g k j)) ?_ ?_
  · blk_ext [iblk, idx t]
  · entry_read
    pointwise
    blk_ext

theorem sc_at (c : Dev nD) (t : Fin cfg0.N) (j : Fin 512) (e : Fin 2048) (he : e.val = 512 * (t.val % 4) + j.val) :
    (iblk m c 2 t : FVec Ideal S1x512 .f32) (ix2 0 j) = asc m c (ix2 0 e) := by
  blk_point [iblk, V, idx t]

/-- An entry of a point's product, scaled. -/
theorem entry (c : Dev nD) (t : Fin cfg0.N) (r : Fin 2048) (j : Fin 512) (R : Fin 8192) (hR : R.val = 2048 * (t.val / 4) + r.val) (g : Fin 4) (hg : g.val = t.val % 4)
    (e : Fin 2048) (he : e.val = 512 * g.val + j.val) (hl : ∀ k : Fin 512, 512 * g.val + k.val < 2048) :
    k0_pay7 (F := Ideal) (iblk m c 0 t) (iblk m c 1 t) (iblk m c 2 t) (ix2 r j)
      = (∑ k : Fin 512, ad m c (ix2 R ⟨512 * g.val + k.val, hl k⟩) * aw m c (ix3 g k j)) * asc m c (ix2 0 e) := by
  pointwise [k0_pay7, k0_pay5]
  refine congrArg₂ (· * ·) (Fin.sum_fin_congr fun k => congrArg₂ (· * ·) ?_ ?_) ?_
  · have hk := k.isLt
    have ex : ∀ (q : Fin 4) (l : Fin 128), k.val = 128 * q.val + l.val → (iblk m c 0 t : FVec Ideal S4x2048x128 .bf16) (ix3 q r l) = ad m c (ix2 R ⟨512 * g.val + k.val, hl k⟩) :=
      fun q l h => d_at m c t q r l R hR _ (by dsimp only; omega)
    split_ifs <;> first | exact absurd rfl (by assumption) | (refine ex _ _ ?_; simp; done) | (refine ex _ _ ?_; simp; omega)
  · have hk := k.isLt
    split_ifs <;> first | exact absurd rfl (by assumption) | (refine w_at m c t _ _ j k ?_ g hg; simp; done) | (refine w_at m c t _ _ j k ?_ g hg; simp; omega)
  · exact sc_at m c t j e (by omega)

/-- A piece is 128 columns of the product, whatever the product. -/
theorem piece (v : FVec Ideal S2048x512 .f32) (o : ℕ) (hs : S2048x512.Slices ![0, o] S2048x128) (x : S1x2048x128.Idx) (r : Fin 2048) (j : Fin 512) (hr : r.val = (x 1).val) (hj : j.val = o + (x 2).val) :
    shapeCast S1x2048x128 (truncf .bf16 (extractStridedSlice S2048x128 ![0, o] v hs) bitsLt_bf16_f32) shapeCasts_S2048x128_S1x2048x128 x = v (ix2 r j) := by
  pointwise
  blk_ext

theorem left (x : FVec Ideal S4x2048x128 .bf16) (w : FVec Ideal S4x1x128x512 .bf16) (s : FVec Ideal S1x512 .f32) (y : S4x2048x128.Idx) (j : Fin 512)
    (hj : j.val = 128 * (y 0).val + (y 2).val) : @Eq EReal (out0_3 (F := Ideal) x w s y) (k0_pay7 (F := Ideal) x w s (ix2 (y 1) j)) := by
  unfold out0_3
  canon_tiles z e
  all_goals
    simp only [k0_pay1, k0_pay2, k0_pay3, k0_pay4, k0_pay6]
    refine piece _ _ _ z (y 1) j e1 ?_
    omega

theorem final (c : Dev nD) : (dats m 0 c).arrAt 3 (cfgs 0).N = val_main_v21 (F := Ideal) (ad m c) (aw m c) (asc m c) := by
  refine (dats m 0 c).arrAt_eq_of_covers 3 _ (by decide +kernel) fun t hf y => ?_
  have hy0 : (y 0).val < 4 := (y 0).isLt
  have hy2 : (y 2).val < 128 := (y 2).isLt
  have ht : t.val < 16 := lt_of_lt_of_eq t.isLt N_0
  blk_simp
  rw [after0_3]
  generalize hz : ((View.whole main_v5).slice (win0_3.rect t)).emb y = z
  have z0 : (z 0).val = 4 * (t.val % 4) + (y 0).val := by subst hz; blk_simp [idx t] <;> try omega
  have z1 : (z 1).val = 2048 * (t.val / 4) + (y 1).val := by subst hz; blk_simp [idx t] <;> try omega
  have z2 : (z 2).val = (y 2).val := by subst hz; blk_simp [idx t] <;> try omega
  refine (left _ _ _ y ⟨128 * (y 0).val + (y 2).val, by omega⟩ rfl).trans ?_
  refine (entry m c t (y 1) _ (z 1) z1 ⟨t.val % 4, by omega⟩ rfl ⟨128 * (z 0).val + (z 2).val, by omega⟩ (by dsimp only; omega) (fun k => by have := k.isLt; dsimp only; omega)).trans ?_
  refine Eq.trans (Eq.symm (ref_at (ad m c) (aw m c) (asc m c) (z 0) (z 1) (z 2) ⟨t.val % 4, by omega⟩ ⟨128 * (y 0).val + (y 2).val, by omega⟩ _ rfl (by dsimp only; omega) _)) ?_
  blk_ext

theorem algebraic : Cert.algebraic_PoolFIdeal_PoolFRefIdeal := by
  pair_intro
  case refine_1 => exact fun c => val_main_v21 (F := Ideal) (ad m c) (aw m c) (asc m c)
  · refine (θ_run defs _ _).mono (fun r h c => ?_) (Cert.PoolFIdeal.Value.run_blocks m g)
    obtain ⟨h0, rest⟩ := h c
    exact ⟨h0.trans (final m c), rest⟩
  · refine (θ_run Cert.PoolFRefIdeal.defs _ _).mono (fun r h c => ?_) (Cert.PoolFRefIdeal.Value.run m' g')
    obtain ⟨h0, rest⟩ := h c
    obtain ⟨e0, e1, e2⟩ := hagree c
    rw [e0, e1, e2] at h0
    exact ⟨h0, rest⟩

end Cert.PoolFIdeal.Hand

end
-- ==== Proof.lean ====
module

public import proofs.«01_k».proof.Defs
public import proofs.«01_k».proof.Proof.Gen.InX.Frame
public import proofs.«01_k».proof.Proof.Gen.InXIdeal.Frame
public import proofs.«01_k».proof.Proof.Gen.InXIdeal.Value
public import proofs.«01_k».proof.Proof.Gen.InXRefIdeal.Read
public import proofs.«01_k».proof.Proof.InXVal
public import proofs.«01_k».proof.Proof.LossFwdBits
public import proofs.«01_k».proof.Proof.Gen.LossFwdRefIdeal.Read
public import proofs.«01_k».proof.Proof.LossFwdVal
public import proofs.«01_k».proof.Proof.OutBwdBits
public import proofs.«01_k».proof.Proof.Gen.Pre_finite
public import proofs.«01_k».proof.Proof.Gen.OutBwdRefIdeal.Read
public import proofs.«01_k».proof.Proof.OutBwdVal
public import proofs.«01_k».proof.Proof.LruBits
public import proofs.«01_k».proof.Proof.Gen.PoolMm.Frame
public import proofs.«01_k».proof.Proof.Gen.PoolMmIdeal.Frame
public import proofs.«01_k».proof.Proof.Gen.PoolMmIdeal.Value
public import proofs.«01_k».proof.Proof.Gen.PoolMmRefIdeal.Read
public import proofs.«01_k».proof.Proof.PoolMmVal
public import proofs.«01_k».proof.Proof.Gen.InXCtx.Frame
public import proofs.«01_k».proof.Proof.Gen.InXCtxIdeal.Frame
public import proofs.«01_k».proof.Proof.Gen.InXCtxIdeal.Value
public import proofs.«01_k».proof.Proof.Gen.InXCtxRefIdeal.Read
public import proofs.«01_k».proof.Proof.InXCtxVal
public import proofs.«01_k».proof.Proof.Gen.InWCtx.Frame
public import proofs.«01_k».proof.Proof.Gen.InWCtxIdeal.Frame
public import proofs.«01_k».proof.Proof.Gen.InWCtxIdeal.Value
public import proofs.«01_k».proof.Proof.Gen.InWCtxRefIdeal.Read
public import proofs.«01_k».proof.Proof.InWCtxVal
public import proofs.«01_k».proof.Proof.Gen.CctxFin.Frame
public import proofs.«01_k».proof.Proof.Gen.CctxFinIdeal.Frame
public import proofs.«01_k».proof.Proof.Gen.CctxFinIdeal.Value
public import proofs.«01_k».proof.Proof.Gen.Pre_finite_ctx
public import proofs.«01_k».proof.Proof.Gen.CctxFinRefIdeal.Read
public import proofs.«01_k».proof.Proof.CctxFinVal
public import proofs.«01_k».proof.Proof.OutWBits
public import proofs.«01_k».proof.Proof.Gen.OutWRefIdeal.Read
public import proofs.«01_k».proof.Proof.OutWVal
public import proofs.«01_k».proof.Proof.InWBits
public import proofs.«01_k».proof.Proof.Gen.InWRefIdeal.Read
public import proofs.«01_k».proof.Proof.InWVal
public import proofs.«01_k».proof.Proof.ModWBits
public import proofs.«01_k».proof.Proof.Gen.ModWRefIdeal.Read
public import proofs.«01_k».proof.Proof.ModWVal
public import proofs.«01_k».proof.Proof.CctxPartBits
public import proofs.«01_k».proof.Proof.Gen.CctxPartRefIdeal.Read
public import proofs.«01_k».proof.Proof.CctxPartVal
public import proofs.«01_k».proof.Proof.Gen.ModF.Frame
public import proofs.«01_k».proof.Proof.Gen.ModFIdeal.Frame
public import proofs.«01_k».proof.Proof.Gen.ModFIdeal.Value
public import proofs.«01_k».proof.Proof.Gen.ModFRefIdeal.Read
public import proofs.«01_k».proof.Proof.ModFVal
public import proofs.«01_k».proof.Proof.Gen.MRep.Frame
public import proofs.«01_k».proof.Proof.Gen.MRepIdeal.Frame
public import proofs.«01_k».proof.Proof.Gen.MRepRefIdeal.Read
public import proofs.«01_k».proof.Proof.MRepVal
public import proofs.«01_k».proof.Proof.Gen.InW1.Frame
public import proofs.«01_k».proof.Proof.Gen.InW1Ideal.Frame
public import proofs.«01_k».proof.Proof.Gen.InW1Ideal.Value
public import proofs.«01_k».proof.Proof.Gen.InW1RefIdeal.Read
public import proofs.«01_k».proof.Proof.InW1Val
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Read
public import proofs.«01_k».proof.Proof.AdamVal
public import proofs.«01_k».proof.Proof.Gen.InF.Frame
public import proofs.«01_k».proof.Proof.Gen.InFIdeal.Frame
public import proofs.«01_k».proof.Proof.Gen.InFIdeal.Value
public import proofs.«01_k».proof.Proof.Gen.InFRefIdeal.Read
public import proofs.«01_k».proof.Proof.InFVal
public import proofs.«01_k».proof.Proof.Gen.PoolF.Frame
public import proofs.«01_k».proof.Proof.Gen.PoolFIdeal.Frame
public import proofs.«01_k».proof.Proof.Gen.PoolFIdeal.Value
public import proofs.«01_k».proof.Proof.Gen.PoolFRefIdeal.Read
public import proofs.«01_k».proof.Proof.PoolFVal
public import Idealize.ShloMosaic.Adequacy
public import Idealize.ShloMosaic.Init
public import Idealize.ShloMosaic.Lib.Claim

@[expose] public section

noncomputable section

namespace Cert.Proof

open Idealize.ShloMosaic Idealize.SL.Sem

/-- The reference InXRef runs, ends and leaves its arguments alone. -/
theorem frame_InXRef : Cert.quiescent_InXRefIdeal := fun m ρ _ =>
  (θ_run Cert.InXRefIdeal.defs _ _).mono (fun r h => ⟨fun c => (h c).2.2.2, sem_eq_zero_of_no_sems (by decide) r.2⟩)
    (Cert.InXRefIdeal.Value.run (F := Ideal) m ρ)

/-- The reference LossFwdRef runs, ends and leaves its arguments alone. -/
theorem frame_LossFwdRef : Cert.quiescent_LossFwdRefIdeal := fun m ρ _ =>
  (θ_run Cert.LossFwdRefIdeal.defs _ _).mono (fun r h => ⟨fun c => (h c).2.2.2, sem_eq_zero_of_no_sems (by decide) r.2⟩)
    (Cert.LossFwdRefIdeal.Value.run (F := Ideal) m ρ)

/-- The reference OutBwdRef runs, ends and leaves its arguments alone. -/
theorem frame_OutBwdRef : Cert.quiescent_OutBwdRefIdeal := fun m ρ _ =>
  (θ_run Cert.OutBwdRefIdeal.defs _ _).mono (fun r h => ⟨fun c => (h c).2.2.2.2.2.2.2, sem_eq_zero_of_no_sems (by decide) r.2⟩)
    (Cert.OutBwdRefIdeal.Value.run (F := Ideal) m ρ)

/-- The reference PoolMmRef runs, ends and leaves its arguments alone. -/
theorem frame_PoolMmRef : Cert.quiescent_PoolMmRefIdeal := fun m ρ _ =>
  (θ_run Cert.PoolMmRefIdeal.defs _ _).mono (fun r h => ⟨fun c => (h c).2.2.2, sem_eq_zero_of_no_sems (by decide) r.2⟩)
    (Cert.PoolMmRefIdeal.Value.run (F := Ideal) m ρ)

/-- The reference InXCtxRef runs, ends and leaves its arguments alone. -/
theorem frame_InXCtxRef : Cert.quiescent_InXCtxRefIdeal := fun m ρ _ =>
  (θ_run Cert.InXCtxRefIdeal.defs _ _).mono (fun r h => ⟨fun c => (h c).2.2, sem_eq_zero_of_no_sems (by decide) r.2⟩)
    (Cert.InXCtxRefIdeal.Value.run (F := Ideal) m ρ)

/-- The reference InWCtxRef runs, ends and leaves its arguments alone. -/
theorem frame_InWCtxRef : Cert.quiescent_InWCtxRefIdeal := fun m ρ _ =>
  (θ_run Cert.InWCtxRefIdeal.defs _ _).mono (fun r h => ⟨fun c => (h c).2, sem_eq_zero_of_no_sems (by decide) r.2⟩)
    (Cert.InWCtxRefIdeal.Value.run (F := Ideal) m ρ)

/-- The reference CctxFinRef runs, ends and leaves its arguments alone. -/
theorem frame_CctxFinRef : Cert.quiescent_CctxFinRefIdeal := fun m ρ _ =>
  (θ_run Cert.CctxFinRefIdeal.defs _ _).mono (fun r h => ⟨fun c => (h c).2, sem_eq_zero_of_no_sems (by decide) r.2⟩)
    (Cert.CctxFinRefIdeal.Value.run (F := Ideal) m ρ)

/-- The reference OutWRef runs, ends and leaves its arguments alone. -/
theorem frame_OutWRef : Cert.quiescent_OutWRefIdeal := fun m ρ _ =>
  (θ_run Cert.OutWRefIdeal.defs _ _).mono (fun r h => ⟨fun c => (h c).2, sem_eq_zero_of_no_sems (by decide) r.2⟩)
    (Cert.OutWRefIdeal.Value.run (F := Ideal) m ρ)

/-- The reference InWRef runs, ends and leaves its arguments alone. -/
theorem frame_InWRef : Cert.quiescent_InWRefIdeal := fun m ρ _ =>
  (θ_run Cert.InWRefIdeal.defs _ _).mono (fun r h => ⟨fun c => (h c).2, sem_eq_zero_of_no_sems (by decide) r.2⟩)
    (Cert.InWRefIdeal.Value.run (F := Ideal) m ρ)

/-- The reference ModWRef runs, ends and leaves its arguments alone. -/
theorem frame_ModWRef : Cert.quiescent_ModWRefIdeal := fun m ρ _ =>
  (θ_run Cert.ModWRefIdeal.defs _ _).mono (fun r h => ⟨fun c => (h c).2, sem_eq_zero_of_no_sems (by decide) r.2⟩)
    (Cert.ModWRefIdeal.Value.run (F := Ideal) m ρ)

/-- The reference CctxPartRef runs, ends and leaves its arguments alone. -/
theorem frame_CctxPartRef : Cert.quiescent_CctxPartRefIdeal := fun m ρ _ =>
  (θ_run Cert.CctxPartRefIdeal.defs _ _).mono (fun r h => ⟨fun c => (h c).2, sem_eq_zero_of_no_sems (by decide) r.2⟩)
    (Cert.CctxPartRefIdeal.Value.run (F := Ideal) m ρ)

/-- The reference ModFRef runs, ends and leaves its arguments alone. -/
theorem frame_ModFRef : Cert.quiescent_ModFRefIdeal := fun m ρ _ =>
  (θ_run Cert.ModFRefIdeal.defs _ _).mono (fun r h => ⟨fun c => (h c).2, sem_eq_zero_of_no_sems (by decide) r.2⟩)
    (Cert.ModFRefIdeal.Value.run (F := Ideal) m ρ)

/-- The reference MRepRef runs, ends and leaves its arguments alone. -/
theorem frame_MRepRef : Cert.quiescent_MRepRefIdeal := fun m ρ _ =>
  (θ_run Cert.MRepRefIdeal.defs _ _).mono (fun r h => ⟨fun c => (h c).2.2.2.2.2.2.2.2.2.2, sem_eq_zero_of_no_sems (by decide) r.2⟩)
    (Cert.MRepRefIdeal.Value.run (F := Ideal) m ρ)

/-- The reference InW1Ref runs, ends and leaves its arguments alone. -/
theorem frame_InW1Ref : Cert.quiescent_InW1RefIdeal := fun m ρ _ =>
  (θ_run Cert.InW1RefIdeal.defs _ _).mono (fun r h => ⟨fun c => (h c).2, sem_eq_zero_of_no_sems (by decide) r.2⟩)
    (Cert.InW1RefIdeal.Value.run (F := Ideal) m ρ)

/-- The reference AdamRef runs, ends and leaves its arguments alone. -/
theorem frame_AdamRef : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

/-- The reference InFRef runs, ends and leaves its arguments alone. -/
theorem frame_InFRef : Cert.quiescent_InFRefIdeal := fun m ρ _ =>
  (θ_run Cert.InFRefIdeal.defs _ _).mono (fun r h => ⟨fun c => (h c).2.2, sem_eq_zero_of_no_sems (by decide) r.2⟩)
    (Cert.InFRefIdeal.Value.run (F := Ideal) m ρ)

/-- The reference PoolFRef runs, ends and leaves its arguments alone. -/
theorem frame_PoolFRef : Cert.quiescent_PoolFRefIdeal := fun m ρ _ =>
  (θ_run Cert.PoolFRefIdeal.defs _ _).mono (fun r h => ⟨fun c => (h c).2, sem_eq_zero_of_no_sems (by decide) r.2⟩)
    (Cert.PoolFRefIdeal.Value.run (F := Ideal) m ρ)

theorem claim : Cert.Claim := ⟨Cert.InX.Gen.facts, Cert.InXIdeal.Gen.facts, Cert.InXRefIdeal.Gen.facts, Cert.LossFwd.Gen.facts, Cert.LossFwdIdeal.Gen.facts, Cert.LossFwdRefIdeal.Gen.facts, Cert.OutBwd.Gen.facts, Cert.OutBwdIdeal.Gen.facts, Cert.OutBwdRefIdeal.Gen.facts, Cert.LruBwd.Gen.facts, Cert.LruBwdIdeal.Gen.facts, Cert.PoolMm.Gen.facts, Cert.PoolMmIdeal.Gen.facts, Cert.PoolMmRefIdeal.Gen.facts, Cert.InXCtx.Gen.facts, Cert.InXCtxIdeal.Gen.facts, Cert.InXCtxRefIdeal.Gen.facts, Cert.InWCtx.Gen.facts, Cert.InWCtxIdeal.Gen.facts, Cert.InWCtxRefIdeal.Gen.facts, Cert.CctxFin.Gen.facts, Cert.CctxFinIdeal.Gen.facts, Cert.CctxFinRefIdeal.Gen.facts, Cert.OutW.Gen.facts, Cert.OutWIdeal.Gen.facts, Cert.OutWRefIdeal.Gen.facts, Cert.InW.Gen.facts, Cert.InWIdeal.Gen.facts, Cert.InWRefIdeal.Gen.facts, Cert.ModW.Gen.facts, Cert.ModWIdeal.Gen.facts, Cert.ModWRefIdeal.Gen.facts, Cert.CctxPart.Gen.facts, Cert.CctxPartIdeal.Gen.facts, Cert.CctxPartRefIdeal.Gen.facts, Cert.ModF.Gen.facts, Cert.ModFIdeal.Gen.facts, Cert.ModFRefIdeal.Gen.facts, Cert.MRep.Gen.facts, Cert.MRepIdeal.Gen.facts, Cert.MRepRefIdeal.Gen.facts, Cert.InW1.Gen.facts, Cert.InW1Ideal.Gen.facts, Cert.InW1RefIdeal.Gen.facts, Cert.Adam.Gen.facts, Cert.AdamIdeal.Gen.facts, Cert.AdamRefIdeal.Gen.facts, Cert.InF.Gen.facts, Cert.InFIdeal.Gen.facts, Cert.InFRefIdeal.Gen.facts, Cert.PoolF.Gen.facts, Cert.PoolFIdeal.Gen.facts, Cert.PoolFRefIdeal.Gen.facts, Cert.Pre_finite.Gen.facts, Cert.Pre_finite_ctx.Gen.facts,
    fun m ρ _ => Cert.InX.Gen.frame m ρ,
    fun m ρ _ => Cert.InXIdeal.Gen.frame m ρ,
    frame_InXRef,
    Cert.LossFwdIdeal.Hand.frame_bits,
    fun m ρ _ => Cert.LossFwdIdeal.Hand.frame (F := Ideal) m ρ,
    frame_LossFwdRef,
    Cert.OutBwdIdeal.Hand.frame_bits,
    fun m ρ _ => Cert.OutBwdIdeal.Hand.frame (F := Ideal) m ρ,
    fun m ρ _ => Cert.OutBwdIdeal.Hand.frame (F := Ideal) m ρ,
    frame_OutBwdRef,
    fun m ρ _ => frame_OutBwdRef m ρ trivial,
    Cert.LruBwdIdeal.Hand.frame_bits,
    fun m ρ _ => Cert.LruBwdIdeal.Hand.frame (F := Ideal) m ρ,
    fun m ρ _ => Cert.PoolMm.Gen.frame m ρ,
    fun m ρ _ => Cert.PoolMmIdeal.Gen.frame m ρ,
    frame_PoolMmRef,
    fun m ρ _ => Cert.InXCtx.Gen.frame m ρ,
    fun m ρ _ => Cert.InXCtxIdeal.Gen.frame m ρ,
    frame_InXCtxRef,
    fun m ρ _ => Cert.InWCtx.Gen.frame m ρ,
    fun m ρ _ => Cert.InWCtxIdeal.Gen.frame m ρ,
    frame_InWCtxRef,
    fun m ρ _ => Cert.CctxFin.Gen.frame m ρ,
    fun m ρ _ => Cert.CctxFinIdeal.Gen.frame m ρ,
    fun m ρ _ => Cert.CctxFinIdeal.Gen.frame m ρ,
    frame_CctxFinRef,
    fun m ρ _ => frame_CctxFinRef m ρ trivial,
    Cert.OutWIdeal.Hand.frame_bits,
    fun m ρ _ => Cert.OutWIdeal.Hand.frame (F := Ideal) m ρ,
    frame_OutWRef,
    Cert.InWIdeal.Hand.frame_bits,
    fun m ρ _ => Cert.InWIdeal.Hand.frame (F := Ideal) m ρ,
    frame_InWRef,
    Cert.ModWIdeal.Hand.frame_bits,
    fun m ρ _ => Cert.ModWIdeal.Hand.frame (F := Ideal) m ρ,
    frame_ModWRef,
    Cert.CctxPartIdeal.Hand.frame_bits,
    fun m ρ _ => Cert.CctxPartIdeal.Hand.frame (F := Ideal) m ρ,
    frame_CctxPartRef,
    fun m ρ _ => Cert.ModF.Gen.frame m ρ,
    fun m ρ _ => Cert.ModFIdeal.Gen.frame m ρ,
    frame_ModFRef,
    fun m ρ _ => Cert.MRep.Gen.frame m ρ,
    fun m ρ _ => Cert.MRepIdeal.Gen.frame m ρ,
    frame_MRepRef,
    fun m ρ _ => Cert.InW1.Gen.frame m ρ,
    fun m ρ _ => Cert.InW1Ideal.Gen.frame m ρ,
    frame_InW1Ref,
    fun m ρ _ => Cert.Adam.Gen.frame m ρ,
    fun m ρ _ => Cert.AdamIdeal.Gen.frame m ρ,
    frame_AdamRef,
    fun m ρ _ => Cert.InF.Gen.frame m ρ,
    fun m ρ _ => Cert.InFIdeal.Gen.frame m ρ,
    frame_InFRef,
    fun m ρ _ => Cert.PoolF.Gen.frame m ρ,
    fun m ρ _ => Cert.PoolFIdeal.Gen.frame m ρ,
    frame_PoolFRef,
    trivial,
    Cert.InXIdeal.Hand.algebraic,
    trivial,
    Cert.LossFwdIdeal.Val.algebraic,
    trivial,
    Cert.OutBwdIdeal.Val.algebraic,
    trivial,
    trivial,
    Cert.PoolMmIdeal.Hand.algebraic,
    trivial,
    Cert.InXCtxIdeal.Hand.algebraic,
    trivial,
    Cert.InWCtxIdeal.Hand.algebraic,
    trivial,
    Cert.CctxFinIdeal.Hand.algebraic,
    trivial,
    Cert.OutWIdeal.Val.algebraic,
    trivial,
    Cert.InWIdeal.Val.algebraic,
    trivial,
    Cert.ModWIdeal.Val.algebraic,
    trivial,
    Cert.CctxPartIdeal.Val.algebraic,
    trivial,
    Cert.ModFIdeal.Hand.algebraic,
    trivial,
    Cert.MRepIdeal.Hand.algebraic,
    trivial,
    Cert.InW1Ideal.Hand.algebraic,
    trivial,
    Cert.AdamIdeal.Hand.algebraic,
    trivial,
    Cert.InFIdeal.Hand.algebraic,
    trivial,
    Cert.PoolFIdeal.Hand.algebraic⟩

end Cert.Proof

end
